-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_all_finite [hPre_all_finite : Cert.Pre_all_finite.Facts] (m : (ℓ : Loc Cert.KernelIdeal.nD Cert.KernelIdeal.τ Cert.KernelIdeal.sig) → Buf (Elt Ideal) ℓ) : Prop :=
  ∀ c : Dev Cert.KernelIdeal.nD,
    (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_all_finite [hPre_all_finite : Cert.Pre_all_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_DHn (m : (ℓ : Loc Cert.DHn.nD Cert.DHn.τ Cert.DHn.sig) → Buf (Elt Bits) ℓ) : Prop :=
  True

def Pre_DHnIdeal (m : (ℓ : Loc Cert.DHnIdeal.nD Cert.DHnIdeal.τ Cert.DHnIdeal.sig) → Buf (Elt Ideal) ℓ) : Prop :=
  True

def Pre_DHnRefIdeal (m : (ℓ : Loc Cert.DHnRefIdeal.nD Cert.DHnRefIdeal.τ Cert.DHnRefIdeal.sig) → Buf (Elt Ideal) ℓ) : Prop :=
  True

def Pre_DwGateUp (m : (ℓ : Loc Cert.DwGateUp.nD Cert.DwGateUp.τ Cert.DwGateUp.sig) → Buf (Elt Bits) ℓ) : Prop :=
  True

def Pre_DwGateUpIdeal (m : (ℓ : Loc Cert.DwGateUpIdeal.nD Cert.DwGateUpIdeal.τ Cert.DwGateUpIdeal.sig) → Buf (Elt Ideal) ℓ) : Prop :=
  True

def Pre_DwGateUpRefIdeal (m : (ℓ : Loc Cert.DwGateUpRefIdeal.nD Cert.DwGateUpRefIdeal.τ Cert.DwGateUpRefIdeal.sig) → Buf (Elt Ideal) ℓ) : Prop :=
  True

def Pre_DwDown (m : (ℓ : Loc Cert.DwDown.nD Cert.DwDown.τ Cert.DwDown.sig) → Buf (Elt Bits) ℓ) : Prop :=
  True

def Pre_DwDownIdeal (m : (ℓ : Loc Cert.DwDownIdeal.nD Cert.DwDownIdeal.τ Cert.DwDownIdeal.sig) → Buf (Elt Ideal) ℓ) : Prop :=
  True

def Pre_DwDownRefIdeal (m : (ℓ : Loc Cert.DwDownRefIdeal.nD Cert.DwDownRefIdeal.τ Cert.DwDownRefIdeal.sig) → Buf (Elt Ideal) ℓ) : Prop :=
  True

def Pre_DwSquare (m : (ℓ : Loc Cert.DwSquare.nD Cert.DwSquare.τ Cert.DwSquare.sig) → Buf (Elt Bits) ℓ) : Prop :=
  True

def Pre_DwSquareIdeal (m : (ℓ : Loc Cert.DwSquareIdeal.nD Cert.DwSquareIdeal.τ Cert.DwSquareIdeal.sig) → Buf (Elt Ideal) ℓ) : Prop :=
  True

def Pre_DwSquareRefIdeal (m : (ℓ : Loc Cert.DwSquareRefIdeal.nD Cert.DwSquareRefIdeal.τ Cert.DwSquareRefIdeal.sig) → Buf (Elt Ideal) ℓ) : Prop :=
  True

def Pre_DwG (m : (ℓ : Loc Cert.DwG.nD Cert.DwG.τ Cert.DwG.sig) → Buf (Elt Bits) ℓ) : Prop :=
  True

def Pre_DwGIdeal (m : (ℓ : Loc Cert.DwGIdeal.nD Cert.DwGIdeal.τ Cert.DwGIdeal.sig) → Buf (Elt Ideal) ℓ) : Prop :=
  True

def Pre_DwGRefIdeal (m : (ℓ : Loc Cert.DwGRefIdeal.nD Cert.DwGRefIdeal.τ Cert.DwGRefIdeal.sig) → Buf (Elt Ideal) ℓ) : Prop :=
  True

def Pre_DwQkv (m : (ℓ : Loc Cert.DwQkv.nD Cert.DwQkv.τ Cert.DwQkv.sig) → Buf (Elt Bits) ℓ) : Prop :=
  True

def Pre_DwQkvIdeal (m : (ℓ : Loc Cert.DwQkvIdeal.nD Cert.DwQkvIdeal.τ Cert.DwQkvIdeal.sig) → Buf (Elt Ideal) ℓ) : Prop :=
  True

def Pre_DwQkvRefIdeal (m : (ℓ : Loc Cert.DwQkvRefIdeal.nD Cert.DwQkvRefIdeal.τ Cert.DwQkvRefIdeal.sig) → Buf (Elt Ideal) ℓ) : Prop :=
  True

def Pre_DwBranch (m : (ℓ : Loc Cert.DwBranch.nD Cert.DwBranch.τ Cert.DwBranch.sig) → Buf (Elt Bits) ℓ) : Prop :=
  True

def Pre_DwBranchIdeal (m : (ℓ : Loc Cert.DwBranchIdeal.nD Cert.DwBranchIdeal.τ Cert.DwBranchIdeal.sig) → Buf (Elt Ideal) ℓ) : Prop :=
  True

def Pre_DwBranchRefIdeal (m : (ℓ : Loc Cert.DwBranchRefIdeal.nD Cert.DwBranchRefIdeal.τ Cert.DwBranchRefIdeal.sig) → Buf (Elt Ideal) ℓ) : Prop :=
  True

def Pre_DBranch (m : (ℓ : Loc Cert.DBranch.nD Cert.DBranch.τ Cert.DBranch.sig) → Buf (Elt Bits) ℓ) : Prop :=
  True

def Pre_DBranchIdeal (m : (ℓ : Loc Cert.DBranchIdeal.nD Cert.DBranchIdeal.τ Cert.DBranchIdeal.sig) → Buf (Elt Ideal) ℓ) : Prop :=
  True

def Pre_DBranchRefIdeal (m : (ℓ : Loc Cert.DBranchRefIdeal.nD Cert.DBranchRefIdeal.τ Cert.DBranchRefIdeal.sig) → Buf (Elt Ideal) ℓ) : Prop :=
  True

def Pre_DXnQkv (m : (ℓ : Loc Cert.DXnQkv.nD Cert.DXnQkv.τ Cert.DXnQkv.sig) → Buf (Elt Bits) ℓ) : Prop :=
  True

def Pre_DXnQkvIdeal (m : (ℓ : Loc Cert.DXnQkvIdeal.nD Cert.DXnQkvIdeal.τ Cert.DXnQkvIdeal.sig) → Buf (Elt Ideal) ℓ) : Prop :=
  True

def Pre_DXnQkvRefIdeal (m : (ℓ : Loc Cert.DXnQkvRefIdeal.nD Cert.DXnQkvRefIdeal.τ Cert.DXnQkvRefIdeal.sig) → Buf (Elt Ideal) ℓ) : Prop :=
  True

def Pre_DXnZ (m : (ℓ : Loc Cert.DXnZ.nD Cert.DXnZ.τ Cert.DXnZ.sig) → Buf (Elt Bits) ℓ) : Prop :=
  True

def Pre_DXnZIdeal (m : (ℓ : Loc Cert.DXnZIdeal.nD Cert.DXnZIdeal.τ Cert.DXnZIdeal.sig) → Buf (Elt Ideal) ℓ) : Prop :=
  True

def Pre_DXnZRefIdeal (m : (ℓ : Loc Cert.DXnZRefIdeal.nD Cert.DXnZRefIdeal.τ Cert.DXnZRefIdeal.sig) → Buf (Elt Ideal) ℓ) : Prop :=
  True

def Pre_DXnG (m : (ℓ : Loc Cert.DXnG.nD Cert.DXnG.τ Cert.DXnG.sig) → Buf (Elt Bits) ℓ) : Prop :=
  True

def Pre_DXnGIdeal (m : (ℓ : Loc Cert.DXnGIdeal.nD Cert.DXnGIdeal.τ Cert.DXnGIdeal.sig) → Buf (Elt Ideal) ℓ) : Prop :=
  True

def Pre_DXnGRefIdeal (m : (ℓ : Loc Cert.DXnGRefIdeal.nD Cert.DXnGRefIdeal.τ Cert.DXnGRefIdeal.sig) → Buf (Elt Ideal) ℓ) : Prop :=
  True

def Pre_ProjQkv (m : (ℓ : Loc Cert.ProjQkv.nD Cert.ProjQkv.τ Cert.ProjQkv.sig) → Buf (Elt Bits) ℓ) : Prop :=
  True

def Pre_ProjQkvIdeal (m : (ℓ : Loc Cert.ProjQkvIdeal.nD Cert.ProjQkvIdeal.τ Cert.ProjQkvIdeal.sig) → Buf (Elt Ideal) ℓ) : Prop :=
  True

def Pre_ProjQkvRefIdeal (m : (ℓ : Loc Cert.ProjQkvRefIdeal.nD Cert.ProjQkvRefIdeal.τ Cert.ProjQkvRefIdeal.sig) → Buf (Elt Ideal) ℓ) : Prop :=
  True

def Pre_ProjZ (m : (ℓ : Loc Cert.ProjZ.nD Cert.ProjZ.τ Cert.ProjZ.sig) → Buf (Elt Bits) ℓ) : Prop :=
  True

def Pre_ProjZIdeal (m : (ℓ : Loc Cert.ProjZIdeal.nD Cert.ProjZIdeal.τ Cert.ProjZIdeal.sig) → Buf (Elt Ideal) ℓ) : Prop :=
  True

def Pre_ProjZRefIdeal (m : (ℓ : Loc Cert.ProjZRefIdeal.nD Cert.ProjZRefIdeal.τ Cert.ProjZRefIdeal.sig) → Buf (Elt Ideal) ℓ) : Prop :=
  True

def Pre_ProjG (m : (ℓ : Loc Cert.ProjG.nD Cert.ProjG.τ Cert.ProjG.sig) → Buf (Elt Bits) ℓ) : Prop :=
  True

def Pre_ProjGIdeal (m : (ℓ : Loc Cert.ProjGIdeal.nD Cert.ProjGIdeal.τ Cert.ProjGIdeal.sig) → Buf (Elt Ideal) ℓ) : Prop :=
  True

def Pre_ProjGRefIdeal (m : (ℓ : Loc Cert.ProjGRefIdeal.nD Cert.ProjGRefIdeal.τ Cert.ProjGRefIdeal.sig) → Buf (Elt Ideal) ℓ) : Prop :=
  True

def Pre_DownProj (m : (ℓ : Loc Cert.DownProj.nD Cert.DownProj.τ Cert.DownProj.sig) → Buf (Elt Bits) ℓ) : Prop :=
  True

def Pre_DownProjIdeal (m : (ℓ : Loc Cert.DownProjIdeal.nD Cert.DownProjIdeal.τ Cert.DownProjIdeal.sig) → Buf (Elt Ideal) ℓ) : Prop :=
  True

def Pre_DownProjRefIdeal (m : (ℓ : Loc Cert.DownProjRefIdeal.nD Cert.DownProjRefIdeal.τ Cert.DownProjRefIdeal.sig) → Buf (Elt Ideal) ℓ) : Prop :=
  True

def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpRefIdeal (m : (ℓ : Loc Cert.GateUpRefIdeal.nD Cert.GateUpRefIdeal.τ Cert.GateUpRefIdeal.sig) → Buf (Elt Ideal) ℓ) : Prop :=
  True

def Pre_DAct (m : (ℓ : Loc Cert.DAct.nD Cert.DAct.τ Cert.DAct.sig) → Buf (Elt Bits) ℓ) : Prop :=
  True

def Pre_DActIdeal (m : (ℓ : Loc Cert.DActIdeal.nD Cert.DActIdeal.τ Cert.DActIdeal.sig) → Buf (Elt Ideal) ℓ) : Prop :=
  True

def Pre_DActIdeal_all_finite_act [hPre_all_finite_act : Cert.Pre_all_finite_act.Facts] (m : (ℓ : Loc Cert.DActIdeal.nD Cert.DActIdeal.τ Cert.DActIdeal.sig) → Buf (Elt Ideal) ℓ) : Prop :=
  ∀ c : Dev Cert.DActIdeal.nD,
    (Cert.Pre_all_finite_act.fn (F := Ideal) (m ((c.tc : Thread Cert.DActIdeal.nD Cert.DActIdeal.τ).loc Cert.DActIdeal.main_arg0)) (m ((c.tc : Thread Cert.DActIdeal.nD Cert.DActIdeal.τ).loc Cert.DActIdeal.main_arg1)) (m ((c.tc : Thread Cert.DActIdeal.nD Cert.DActIdeal.τ).loc Cert.DActIdeal.main_arg2))) = (fun _ => 1#1)

def Pre_DActRefIdeal (m : (ℓ : Loc Cert.DActRefIdeal.nD Cert.DActRefIdeal.τ Cert.DActRefIdeal.sig) → Buf (Elt Ideal) ℓ) : Prop :=
  True

def Pre_DActRefIdeal_all_finite_act [hPre_all_finite_act : Cert.Pre_all_finite_act.Facts] (m : (ℓ : Loc Cert.DActRefIdeal.nD Cert.DActRefIdeal.τ Cert.DActRefIdeal.sig) → Buf (Elt Ideal) ℓ) : Prop :=
  ∀ c : Dev Cert.DActRefIdeal.nD,
    (Cert.Pre_all_finite_act.fn (F := Ideal) (m ((c.tc : Thread Cert.DActRefIdeal.nD Cert.DActRefIdeal.τ).loc Cert.DActRefIdeal.main_arg0)) (m ((c.tc : Thread Cert.DActRefIdeal.nD Cert.DActRefIdeal.τ).loc Cert.DActRefIdeal.main_arg1)) (m ((c.tc : Thread Cert.DActRefIdeal.nD Cert.DActRefIdeal.τ).loc Cert.DActRefIdeal.main_arg2))) = (fun _ => 1#1)

def Pre_BranchesMerge (m : (ℓ : Loc Cert.BranchesMerge.nD Cert.BranchesMerge.τ Cert.BranchesMerge.sig) → Buf (Elt Bits) ℓ) : Prop :=
  True

def Pre_BranchesMergeIdeal (m : (ℓ : Loc Cert.BranchesMergeIdeal.nD Cert.BranchesMergeIdeal.τ Cert.BranchesMergeIdeal.sig) → Buf (Elt Ideal) ℓ) : Prop :=
  True

def Pre_BranchesMergeRefIdeal (m : (ℓ : Loc Cert.BranchesMergeRefIdeal.nD Cert.BranchesMergeRefIdeal.τ Cert.BranchesMergeRefIdeal.sig) → Buf (Elt Ideal) ℓ) : Prop :=
  True

def Pre_DMerged (m : (ℓ : Loc Cert.DMerged.nD Cert.DMerged.τ Cert.DMerged.sig) → Buf (Elt Bits) ℓ) : Prop :=
  True

def Pre_DMergedIdeal (m : (ℓ : Loc Cert.DMergedIdeal.nD Cert.DMergedIdeal.τ Cert.DMergedIdeal.sig) → Buf (Elt Ideal) ℓ) : Prop :=
  True

def Pre_DMergedRefIdeal (m : (ℓ : Loc Cert.DMergedRefIdeal.nD Cert.DMergedRefIdeal.τ Cert.DMergedRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_RmsFwd (m : (ℓ : Loc Cert.RmsFwd.nD Cert.RmsFwd.τ Cert.RmsFwd.sig) → Buf (Elt Bits) ℓ) : Prop :=
  True

def Pre_RmsFwdIdeal (m : (ℓ : Loc Cert.RmsFwdIdeal.nD Cert.RmsFwdIdeal.τ Cert.RmsFwdIdeal.sig) → Buf (Elt Ideal) ℓ) : Prop :=
  True

def Pre_RmsFwdRefIdeal (m : (ℓ : Loc Cert.RmsFwdRefIdeal.nD Cert.RmsFwdRefIdeal.τ Cert.RmsFwdRefIdeal.sig) → Buf (Elt Ideal) ℓ) : Prop :=
  True

def Pre_RmsBwd (m : (ℓ : Loc Cert.RmsBwd.nD Cert.RmsBwd.τ Cert.RmsBwd.sig) → Buf (Elt Bits) ℓ) : Prop :=
  True

def Pre_RmsBwdIdeal (m : (ℓ : Loc Cert.RmsBwdIdeal.nD Cert.RmsBwdIdeal.τ Cert.RmsBwdIdeal.sig) → Buf (Elt Ideal) ℓ) : Prop :=
  True

def Pre_RmsBwdRefIdeal (m : (ℓ : Loc Cert.RmsBwdRefIdeal.nD Cert.RmsBwdRefIdeal.τ Cert.RmsBwdRefIdeal.sig) → Buf (Elt Ideal) ℓ) : Prop :=
  True

def Pre_DbQkv (m : (ℓ : Loc Cert.DbQkv.nD Cert.DbQkv.τ Cert.DbQkv.sig) → Buf (Elt Bits) ℓ) : Prop :=
  True

def Pre_DbQkvIdeal (m : (ℓ : Loc Cert.DbQkvIdeal.nD Cert.DbQkvIdeal.τ Cert.DbQkvIdeal.sig) → Buf (Elt Ideal) ℓ) : Prop :=
  True

def Pre_DbQkvRefIdeal (m : (ℓ : Loc Cert.DbQkvRefIdeal.nD Cert.DbQkvRefIdeal.τ Cert.DbQkvRefIdeal.sig) → Buf (Elt Ideal) ℓ) : Prop :=
  True

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdIdeal_all_finite_attn [hPre_all_finite_attn : Cert.Pre_all_finite_attn.Facts] (m : (ℓ : Loc Cert.AttnFwdIdeal.nD Cert.AttnFwdIdeal.τ Cert.AttnFwdIdeal.sig) → Buf (Elt Ideal) ℓ) : Prop :=
  ∀ c : Dev Cert.AttnFwdIdeal.nD,
    (Cert.Pre_all_finite_attn.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2)) (m ((c.tc : Thread Cert.AttnFwdIdeal.nD Cert.AttnFwdIdeal.τ).loc Cert.AttnFwdIdeal.main_arg3))) = (fun _ => 1#1)

def Pre_AttnFwdRefIdeal (m : (ℓ : Loc Cert.AttnFwdRefIdeal.nD Cert.AttnFwdRefIdeal.τ Cert.AttnFwdRefIdeal.sig) → Buf (Elt Ideal) ℓ) : Prop :=
  True

def Pre_AttnFwdRefIdeal_all_finite_attn [hPre_all_finite_attn : Cert.Pre_all_finite_attn.Facts] (m : (ℓ : Loc Cert.AttnFwdRefIdeal.nD Cert.AttnFwdRefIdeal.τ Cert.AttnFwdRefIdeal.sig) → Buf (Elt Ideal) ℓ) : Prop :=
  ∀ c : Dev Cert.AttnFwdRefIdeal.nD,
    (Cert.Pre_all_finite_attn.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2)) (m ((c.tc : Thread Cert.AttnFwdRefIdeal.nD Cert.AttnFwdRefIdeal.τ).loc Cert.AttnFwdRefIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_all_finite [hKernelIdeal : Cert.KernelIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_all_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_all_finite [hReferenceIdeal : Cert.ReferenceIdeal.Facts] [hPre_all_finite : Cert.Pre_all_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_all_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_DHn [hDHn : Cert.DHn.Facts] : Prop :=
  ∀ (m : (ℓ : Loc Cert.DHn.nD Cert.DHn.τ Cert.DHn.sig) → Buf (Elt Bits) ℓ) (g : Dev Cert.DHn.nD → PrngReg), Pre_DHn m →
    θ_run (Cert.DHn.defs (F := Bits)) (onTc (τ := Cert.DHn.τ) (Cert.DHn.main (F := Bits))) ⟨m, fun _ => 0, g⟩ (fun r => (∀ c : Dev Cert.DHn.nD,
      r.2.mem ((c.tc : Thread Cert.DHn.nD Cert.DHn.τ).loc Cert.DHn.main_arg0) = m ((c.tc : Thread Cert.DHn.nD Cert.DHn.τ).loc Cert.DHn.main_arg0)
      ∧ r.2.mem ((c.tc : Thread Cert.DHn.nD Cert.DHn.τ).loc Cert.DHn.main_arg1) = m ((c.tc : Thread Cert.DHn.nD Cert.DHn.τ).loc Cert.DHn.main_arg1))
      ∧ r.2.sem = fun _ => 0)

def quiescent_DHnIdeal [hDHnIdeal : Cert.DHnIdeal.Facts] : Prop :=
  ∀ (m : (ℓ : Loc Cert.DHnIdeal.nD Cert.DHnIdeal.τ Cert.DHnIdeal.sig) → Buf (Elt Ideal) ℓ) (g : Dev Cert.DHnIdeal.nD → PrngReg), Pre_DHnIdeal m →
    θ_run (Cert.DHnIdeal.defs (F := Ideal)) (onTc (τ := Cert.DHnIdeal.τ) (Cert.DHnIdeal.main (F := Ideal))) ⟨m, fun _ => 0, g⟩ (fun r => (∀ c : Dev Cert.DHnIdeal.nD,
      r.2.mem ((c.tc : Thread Cert.DHnIdeal.nD Cert.DHnIdeal.τ).loc Cert.DHnIdeal.main_arg0) = m ((c.tc : Thread Cert.DHnIdeal.nD Cert.DHnIdeal.τ).loc Cert.DHnIdeal.main_arg0)
      ∧ r.2.mem ((c.tc : Thread Cert.DHnIdeal.nD Cert.DHnIdeal.τ).loc Cert.DHnIdeal.main_arg1) = m ((c.tc : Thread Cert.DHnIdeal.nD Cert.DHnIdeal.τ).loc Cert.DHnIdeal.main_arg1))
      ∧ r.2.sem = fun _ => 0)

def quiescent_DHnRefIdeal [hDHnRefIdeal : Cert.DHnRefIdeal.Facts] : Prop :=
  ∀ (m : (ℓ : Loc Cert.DHnRefIdeal.nD Cert.DHnRefIdeal.τ Cert.DHnRefIdeal.sig) → Buf (Elt Ideal) ℓ) (g : Dev Cert.DHnRefIdeal.nD → PrngReg), Pre_DHnRefIdeal m →
    θ_run (Cert.DHnRefIdeal.defs (F := Ideal)) (onTc (τ := Cert.DHnRefIdeal.τ) (Cert.DHnRefIdeal.main (F := Ideal))) ⟨m, fun _ => 0, g⟩ (fun r => (∀ c : Dev Cert.DHnRefIdeal.nD,
      r.2.mem ((c.tc : Thread Cert.DHnRefIdeal.nD Cert.DHnRefIdeal.τ).loc Cert.DHnRefIdeal.main_arg0) = m ((c.tc : Thread Cert.DHnRefIdeal.nD Cert.DHnRefIdeal.τ).loc Cert.DHnRefIdeal.main_arg0)
      ∧ r.2.mem ((c.tc : Thread Cert.DHnRefIdeal.nD Cert.DHnRefIdeal.τ).loc Cert.DHnRefIdeal.main_arg1) = m ((c.tc : Thread Cert.DHnRefIdeal.nD Cert.DHnRefIdeal.τ).loc Cert.DHnRefIdeal.main_arg1))
      ∧ r.2.sem = fun _ => 0)

def quiescent_DwGateUp [hDwGateUp : Cert.DwGateUp.Facts] : Prop :=
  ∀ (m : (ℓ : Loc Cert.DwGateUp.nD Cert.DwGateUp.τ Cert.DwGateUp.sig) → Buf (Elt Bits) ℓ) (g : Dev Cert.DwGateUp.nD → PrngReg), Pre_DwGateUp m →
    θ_run (Cert.DwGateUp.defs (F := Bits)) (onTc (τ := Cert.DwGateUp.τ) (Cert.DwGateUp.main (F := Bits))) ⟨m, fun _ => 0, g⟩ (fun r => (∀ c : Dev Cert.DwGateUp.nD,
      r.2.mem ((c.tc : Thread Cert.DwGateUp.nD Cert.DwGateUp.τ).loc Cert.DwGateUp.main_arg0) = m ((c.tc : Thread Cert.DwGateUp.nD Cert.DwGateUp.τ).loc Cert.DwGateUp.main_arg0)
      ∧ r.2.mem ((c.tc : Thread Cert.DwGateUp.nD Cert.DwGateUp.τ).loc Cert.DwGateUp.main_arg1) = m ((c.tc : Thread Cert.DwGateUp.nD Cert.DwGateUp.τ).loc Cert.DwGateUp.main_arg1))
      ∧ r.2.sem = fun _ => 0)

def quiescent_DwGateUpIdeal [hDwGateUpIdeal : Cert.DwGateUpIdeal.Facts] : Prop :=
  ∀ (m : (ℓ : Loc Cert.DwGateUpIdeal.nD Cert.DwGateUpIdeal.τ Cert.DwGateUpIdeal.sig) → Buf (Elt Ideal) ℓ) (g : Dev Cert.DwGateUpIdeal.nD → PrngReg), Pre_DwGateUpIdeal m →
    θ_run (Cert.DwGateUpIdeal.defs (F := Ideal)) (onTc (τ := Cert.DwGateUpIdeal.τ) (Cert.DwGateUpIdeal.main (F := Ideal))) ⟨m, fun _ => 0, g⟩ (fun r => (∀ c : Dev Cert.DwGateUpIdeal.nD,
      r.2.mem ((c.tc : Thread Cert.DwGateUpIdeal.nD Cert.DwGateUpIdeal.τ).loc Cert.DwGateUpIdeal.main_arg0) = m ((c.tc : Thread Cert.DwGateUpIdeal.nD Cert.DwGateUpIdeal.τ).loc Cert.DwGateUpIdeal.main_arg0)
      ∧ r.2.mem ((c.tc : Thread Cert.DwGateUpIdeal.nD Cert.DwGateUpIdeal.τ).loc Cert.DwGateUpIdeal.main_arg1) = m ((c.tc : Thread Cert.DwGateUpIdeal.nD Cert.DwGateUpIdeal.τ).loc Cert.DwGateUpIdeal.main_arg1))
      ∧ r.2.sem = fun _ => 0)

def quiescent_DwGateUpRefIdeal [hDwGateUpRefIdeal : Cert.DwGateUpRefIdeal.Facts] : Prop :=
  ∀ (m : (ℓ : Loc Cert.DwGateUpRefIdeal.nD Cert.DwGateUpRefIdeal.τ Cert.DwGateUpRefIdeal.sig) → Buf (Elt Ideal) ℓ) (g : Dev Cert.DwGateUpRefIdeal.nD → PrngReg), Pre_DwGateUpRefIdeal m →
    θ_run (Cert.DwGateUpRefIdeal.defs (F := Ideal)) (onTc (τ := Cert.DwGateUpRefIdeal.τ) (Cert.DwGateUpRefIdeal.main (F := Ideal))) ⟨m, fun _ => 0, g⟩ (fun r => (∀ c : Dev Cert.DwGateUpRefIdeal.nD,
      r.2.mem ((c.tc : Thread Cert.DwGateUpRefIdeal.nD Cert.DwGateUpRefIdeal.τ).loc Cert.DwGateUpRefIdeal.main_arg0) = m ((c.tc : Thread Cert.DwGateUpRefIdeal.nD Cert.DwGateUpRefIdeal.τ).loc Cert.DwGateUpRefIdeal.main_arg0)
      ∧ r.2.mem ((c.tc : Thread Cert.DwGateUpRefIdeal.nD Cert.DwGateUpRefIdeal.τ).loc Cert.DwGateUpRefIdeal.main_arg1) = m ((c.tc : Thread Cert.DwGateUpRefIdeal.nD Cert.DwGateUpRefIdeal.τ).loc Cert.DwGateUpRefIdeal.main_arg1))
      ∧ r.2.sem = fun _ => 0)

def quiescent_DwDown [hDwDown : Cert.DwDown.Facts] : Prop :=
  ∀ (m : (ℓ : Loc Cert.DwDown.nD Cert.DwDown.τ Cert.DwDown.sig) → Buf (Elt Bits) ℓ) (g : Dev Cert.DwDown.nD → PrngReg), Pre_DwDown m →
    θ_run (Cert.DwDown.defs (F := Bits)) (onTc (τ := Cert.DwDown.τ) (Cert.DwDown.main (F := Bits))) ⟨m, fun _ => 0, g⟩ (fun r => (∀ c : Dev Cert.DwDown.nD,
      r.2.mem ((c.tc : Thread Cert.DwDown.nD Cert.DwDown.τ).loc Cert.DwDown.main_arg0) = m ((c.tc : Thread Cert.DwDown.nD Cert.DwDown.τ).loc Cert.DwDown.main_arg0)
      ∧ r.2.mem ((c.tc : Thread Cert.DwDown.nD Cert.DwDown.τ).loc Cert.DwDown.main_arg1) = m ((c.tc : Thread Cert.DwDown.nD Cert.DwDown.τ).loc Cert.DwDown.main_arg1))
      ∧ r.2.sem = fun _ => 0)

def quiescent_DwDownIdeal [hDwDownIdeal : Cert.DwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg), Pre_DwDownIdeal m →
    θ_run (Cert.DwDownIdeal.defs (F := Ideal)) (onTc (τ := Cert.DwDownIdeal.τ) (Cert.DwDownIdeal.main (F := Ideal))) ⟨m, fun _ => 0, g⟩ (fun r => (∀ c : Dev Cert.DwDownIdeal.nD,
      r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
      ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ r.2.sem = fun _ => 0)

def quiescent_DwDownRefIdeal [hDwDownRefIdeal : Cert.DwDownRefIdeal.Facts] : Prop :=
  ∀ (m : (ℓ : Loc Cert.DwDownRefIdeal.nD Cert.DwDownRefIdeal.τ Cert.DwDownRefIdeal.sig) → Buf (Elt Ideal) ℓ) (g : Dev Cert.DwDownRefIdeal.nD → PrngReg), Pre_DwDownRefIdeal m →
    θ_run (Cert.DwDownRefIdeal.defs (F := Ideal)) (onTc (τ := Cert.DwDownRefIdeal.τ) (Cert.DwDownRefIdeal.main (F := Ideal))) ⟨m, fun _ => 0, g⟩ (fun r => (∀ c : Dev Cert.DwDownRefIdeal.nD,
      r.2.mem ((c.tc : Thread Cert.DwDownRefIdeal.nD Cert.DwDownRefIdeal.τ).loc Cert.DwDownRefIdeal.main_arg0) = m ((c.tc : Thread Cert.DwDownRefIdeal.nD Cert.DwDownRefIdeal.τ).loc Cert.DwDownRefIdeal.main_arg0)
      ∧ r.2.mem ((c.tc : Thread Cert.DwDownRefIdeal.nD Cert.DwDownRefIdeal.τ).loc Cert.DwDownRefIdeal.main_arg1) = m ((c.tc : Thread Cert.DwDownRefIdeal.nD Cert.DwDownRefIdeal.τ).loc Cert.DwDownRefIdeal.main_arg1))
      ∧ r.2.sem = fun _ => 0)

def quiescent_DwSquare [hDwSquare : Cert.DwSquare.Facts] : Prop :=
  ∀ (m : (ℓ : Loc Cert.DwSquare.nD Cert.DwSquare.τ Cert.DwSquare.sig) → Buf (Elt Bits) ℓ) (g : Dev Cert.DwSquare.nD → PrngReg), Pre_DwSquare m →
    θ_run (Cert.DwSquare.defs (F := Bits)) (onTc (τ := Cert.DwSquare.τ) (Cert.DwSquare.main (F := Bits))) ⟨m, fun _ => 0, g⟩ (fun r => (∀ c : Dev Cert.DwSquare.nD,
      r.2.mem ((c.tc : Thread Cert.DwSquare.nD Cert.DwSquare.τ).loc Cert.DwSquare.main_arg0) = m ((c.tc : Thread Cert.DwSquare.nD Cert.DwSquare.τ).loc Cert.DwSquare.main_arg0)
      ∧ r.2.mem ((c.tc : Thread Cert.DwSquare.nD Cert.DwSquare.τ).loc Cert.DwSquare.main_arg1) = m ((c.tc : Thread Cert.DwSquare.nD Cert.DwSquare.τ).loc Cert.DwSquare.main_arg1))
      ∧ r.2.sem = fun _ => 0)

def quiescent_DwSquareIdeal [hDwSquareIdeal : Cert.DwSquareIdeal.Facts] : Prop :=
  ∀ (m : (ℓ : Loc Cert.DwSquareIdeal.nD Cert.DwSquareIdeal.τ Cert.DwSquareIdeal.sig) → Buf (Elt Ideal) ℓ) (g : Dev Cert.DwSquareIdeal.nD → PrngReg), Pre_DwSquareIdeal m →
    θ_run (Cert.DwSquareIdeal.defs (F := Ideal)) (onTc (τ := Cert.DwSquareIdeal.τ) (Cert.DwSquareIdeal.main (F := Ideal))) ⟨m, fun _ => 0, g⟩ (fun r => (∀ c : Dev Cert.DwSquareIdeal.nD,
      r.2.mem ((c.tc : Thread Cert.DwSquareIdeal.nD Cert.DwSquareIdeal.τ).loc Cert.DwSquareIdeal.main_arg0) = m ((c.tc : Thread Cert.DwSquareIdeal.nD Cert.DwSquareIdeal.τ).loc Cert.DwSquareIdeal.main_arg0)
      ∧ r.2.mem ((c.tc : Thread Cert.DwSquareIdeal.nD Cert.DwSquareIdeal.τ).loc Cert.DwSquareIdeal.main_arg1) = m ((c.tc : Thread Cert.DwSquareIdeal.nD Cert.DwSquareIdeal.τ).loc Cert.DwSquareIdeal.main_arg1))
      ∧ r.2.sem = fun _ => 0)

def quiescent_DwSquareRefIdeal [hDwSquareRefIdeal : Cert.DwSquareRefIdeal.Facts] : Prop :=
  ∀ (m : (ℓ : Loc Cert.DwSquareRefIdeal.nD Cert.DwSquareRefIdeal.τ Cert.DwSquareRefIdeal.sig) → Buf (Elt Ideal) ℓ) (g : Dev Cert.DwSquareRefIdeal.nD → PrngReg), Pre_DwSquareRefIdeal m →
    θ_run (Cert.DwSquareRefIdeal.defs (F := Ideal)) (onTc (τ := Cert.DwSquareRefIdeal.τ) (Cert.DwSquareRefIdeal.main (F := Ideal))) ⟨m, fun _ => 0, g⟩ (fun r => (∀ c : Dev Cert.DwSquareRefIdeal.nD,
      r.2.mem ((c.tc : Thread Cert.DwSquareRefIdeal.nD Cert.DwSquareRefIdeal.τ).loc Cert.DwSquareRefIdeal.main_arg0) = m ((c.tc : Thread Cert.DwSquareRefIdeal.nD Cert.DwSquareRefIdeal.τ).loc Cert.DwSquareRefIdeal.main_arg0)
      ∧ r.2.mem ((c.tc : Thread Cert.DwSquareRefIdeal.nD Cert.DwSquareRefIdeal.τ).loc Cert.DwSquareRefIdeal.main_arg1) = m ((c.tc : Thread Cert.DwSquareRefIdeal.nD Cert.DwSquareRefIdeal.τ).loc Cert.DwSquareRefIdeal.main_arg1))
      ∧ r.2.sem = fun _ => 0)

def quiescent_DwG [hDwG : Cert.DwG.Facts] : Prop :=
  ∀ (m : (ℓ : Loc Cert.DwG.nD Cert.DwG.τ Cert.DwG.sig) → Buf (Elt Bits) ℓ) (g : Dev Cert.DwG.nD → PrngReg), Pre_DwG m →
    θ_run (Cert.DwG.defs (F := Bits)) (onTc (τ := Cert.DwG.τ) (Cert.DwG.main (F := Bits))) ⟨m, fun _ => 0, g⟩ (fun r => (∀ c : Dev Cert.DwG.nD,
      r.2.mem ((c.tc : Thread Cert.DwG.nD Cert.DwG.τ).loc Cert.DwG.main_arg0) = m ((c.tc : Thread Cert.DwG.nD Cert.DwG.τ).loc Cert.DwG.main_arg0)
      ∧ r.2.mem ((c.tc : Thread Cert.DwG.nD Cert.DwG.τ).loc Cert.DwG.main_arg1) = m ((c.tc : Thread Cert.DwG.nD Cert.DwG.τ).loc Cert.DwG.main_arg1))
      ∧ r.2.sem = fun _ => 0)

def quiescent_DwGIdeal [hDwGIdeal : Cert.DwGIdeal.Facts] : Prop :=
  ∀ (m : (ℓ : Loc Cert.DwGIdeal.nD Cert.DwGIdeal.τ Cert.DwGIdeal.sig) → Buf (Elt Ideal) ℓ) (g : Dev Cert.DwGIdeal.nD → PrngReg), Pre_DwGIdeal m →
    θ_run (Cert.DwGIdeal.defs (F := Ideal)) (onTc (τ := Cert.DwGIdeal.τ) (Cert.DwGIdeal.main (F := Ideal))) ⟨m, fun _ => 0, g⟩ (fun r => (∀ c : Dev Cert.DwGIdeal.nD,
      r.2.mem ((c.tc : Thread Cert.DwGIdeal.nD Cert.DwGIdeal.τ).loc Cert.DwGIdeal.main_arg0) = m ((c.tc : Thread Cert.DwGIdeal.nD Cert.DwGIdeal.τ).loc Cert.DwGIdeal.main_arg0)
      ∧ r.2.mem ((c.tc : Thread Cert.DwGIdeal.nD Cert.DwGIdeal.τ).loc Cert.DwGIdeal.main_arg1) = m ((c.tc : Thread Cert.DwGIdeal.nD Cert.DwGIdeal.τ).loc Cert.DwGIdeal.main_arg1))
      ∧ r.2.sem = fun _ => 0)

def quiescent_DwGRefIdeal [hDwGRefIdeal : Cert.DwGRefIdeal.Facts] : Prop :=
  ∀ (m : (ℓ : Loc Cert.DwGRefIdeal.nD Cert.DwGRefIdeal.τ Cert.DwGRefIdeal.sig) → Buf (Elt Ideal) ℓ) (g : Dev Cert.DwGRefIdeal.nD → PrngReg), Pre_DwGRefIdeal m →
    θ_run (Cert.DwGRefIdeal.defs (F := Ideal)) (onTc (τ := Cert.DwGRefIdeal.τ) (Cert.DwGRefIdeal.main (F := Ideal))) ⟨m, fun _ => 0, g⟩ (fun r => (∀ c : Dev Cert.DwGRefIdeal.nD,
      r.2.mem ((c.tc : Thread Cert.DwGRefIdeal.nD Cert.DwGRefIdeal.τ).loc Cert.DwGRefIdeal.main_arg0) = m ((c.tc : Thread Cert.DwGRefIdeal.nD Cert.DwGRefIdeal.τ).loc Cert.DwGRefIdeal.main_arg0)
      ∧ r.2.mem ((c.tc : Thread Cert.DwGRefIdeal.nD Cert.DwGRefIdeal.τ).loc Cert.DwGRefIdeal.main_arg1) = m ((c.tc : Thread Cert.DwGRefIdeal.nD Cert.DwGRefIdeal.τ).loc Cert.DwGRefIdeal.main_arg1))
      ∧ r.2.sem = fun _ => 0)

def quiescent_DwQkv [hDwQkv : Cert.DwQkv.Facts] : Prop :=
  ∀ (m : (ℓ : Loc Cert.DwQkv.nD Cert.DwQkv.τ Cert.DwQkv.sig) → Buf (Elt Bits) ℓ) (g : Dev Cert.DwQkv.nD → PrngReg), Pre_DwQkv m →
    θ_run (Cert.DwQkv.defs (F := Bits)) (onTc (τ := Cert.DwQkv.τ) (Cert.DwQkv.main (F := Bits))) ⟨m, fun _ => 0, g⟩ (fun r => (∀ c : Dev Cert.DwQkv.nD,
      r.2.mem ((c.tc : Thread Cert.DwQkv.nD Cert.DwQkv.τ).loc Cert.DwQkv.main_arg0) = m ((c.tc : Thread Cert.DwQkv.nD Cert.DwQkv.τ).loc Cert.DwQkv.main_arg0)
      ∧ r.2.mem ((c.tc : Thread Cert.DwQkv.nD Cert.DwQkv.τ).loc Cert.DwQkv.main_arg1) = m ((c.tc : Thread Cert.DwQkv.nD Cert.DwQkv.τ).loc Cert.DwQkv.main_arg1))
      ∧ r.2.sem = fun _ => 0)

def quiescent_DwQkvIdeal [hDwQkvIdeal : Cert.DwQkvIdeal.Facts] : Prop :=
  ∀ (m : (ℓ : Loc Cert.DwQkvIdeal.nD Cert.DwQkvIdeal.τ Cert.DwQkvIdeal.sig) → Buf (Elt Ideal) ℓ) (g : Dev Cert.DwQkvIdeal.nD → PrngReg), Pre_DwQkvIdeal m →
    θ_run (Cert.DwQkvIdeal.defs (F := Ideal)) (onTc (τ := Cert.DwQkvIdeal.τ) (Cert.DwQkvIdeal.main (F := Ideal))) ⟨m, fun _ => 0, g⟩ (fun r => (∀ c : Dev Cert.DwQkvIdeal.nD,
      r.2.mem ((c.tc : Thread Cert.DwQkvIdeal.nD Cert.DwQkvIdeal.τ).loc Cert.DwQkvIdeal.main_arg0) = m ((c.tc : Thread Cert.DwQkvIdeal.nD Cert.DwQkvIdeal.τ).loc Cert.DwQkvIdeal.main_arg0)
      ∧ r.2.mem ((c.tc : Thread Cert.DwQkvIdeal.nD Cert.DwQkvIdeal.τ).loc Cert.DwQkvIdeal.main_arg1) = m ((c.tc : Thread Cert.DwQkvIdeal.nD Cert.DwQkvIdeal.τ).loc Cert.DwQkvIdeal.main_arg1))
      ∧ r.2.sem = fun _ => 0)

def quiescent_DwQkvRefIdeal [hDwQkvRefIdeal : Cert.DwQkvRefIdeal.Facts] : Prop :=
  ∀ (m : (ℓ : Loc Cert.DwQkvRefIdeal.nD Cert.DwQkvRefIdeal.τ Cert.DwQkvRefIdeal.sig) → Buf (Elt Ideal) ℓ) (g : Dev Cert.DwQkvRefIdeal.nD → PrngReg), Pre_DwQkvRefIdeal m →
    θ_run (Cert.DwQkvRefIdeal.defs (F := Ideal)) (onTc (τ := Cert.DwQkvRefIdeal.τ) (Cert.DwQkvRefIdeal.main (F := Ideal))) ⟨m, fun _ => 0, g⟩ (fun r => (∀ c : Dev Cert.DwQkvRefIdeal.nD,
      r.2.mem ((c.tc : Thread Cert.DwQkvRefIdeal.nD Cert.DwQkvRefIdeal.τ).loc Cert.DwQkvRefIdeal.main_arg0) = m ((c.tc : Thread Cert.DwQkvRefIdeal.nD Cert.DwQkvRefIdeal.τ).loc Cert.DwQkvRefIdeal.main_arg0)
      ∧ r.2.mem ((c.tc : Thread Cert.DwQkvRefIdeal.nD Cert.DwQkvRefIdeal.τ).loc Cert.DwQkvRefIdeal.main_arg1) = m ((c.tc : Thread Cert.DwQkvRefIdeal.nD Cert.DwQkvRefIdeal.τ).loc Cert.DwQkvRefIdeal.main_arg1))
      ∧ r.2.sem = fun _ => 0)

def quiescent_DwBranch [hDwBranch : Cert.DwBranch.Facts] : Prop :=
  ∀ (m : (ℓ : Loc Cert.DwBranch.nD Cert.DwBranch.τ Cert.DwBranch.sig) → Buf (Elt Bits) ℓ) (g : Dev Cert.DwBranch.nD → PrngReg), Pre_DwBranch m →
    θ_run (Cert.DwBranch.defs (F := Bits)) (onTc (τ := Cert.DwBranch.τ) (Cert.DwBranch.main (F := Bits))) ⟨m, fun _ => 0, g⟩ (fun r => (∀ c : Dev Cert.DwBranch.nD,
      r.2.mem ((c.tc : Thread Cert.DwBranch.nD Cert.DwBranch.τ).loc Cert.DwBranch.main_arg0) = m ((c.tc : Thread Cert.DwBranch.nD Cert.DwBranch.τ).loc Cert.DwBranch.main_arg0)
      ∧ r.2.mem ((c.tc : Thread Cert.DwBranch.nD Cert.DwBranch.τ).loc Cert.DwBranch.main_arg1) = m ((c.tc : Thread Cert.DwBranch.nD Cert.DwBranch.τ).loc Cert.DwBranch.main_arg1))
      ∧ r.2.sem = fun _ => 0)

def quiescent_DwBranchIdeal [hDwBranchIdeal : Cert.DwBranchIdeal.Facts] : Prop :=
  ∀ (m : (ℓ : Loc Cert.DwBranchIdeal.nD Cert.DwBranchIdeal.τ Cert.DwBranchIdeal.sig) → Buf (Elt Ideal) ℓ) (g : Dev Cert.DwBranchIdeal.nD → PrngReg), Pre_DwBranchIdeal m →
    θ_run (Cert.DwBranchIdeal.defs (F := Ideal)) (onTc (τ := Cert.DwBranchIdeal.τ) (Cert.DwBranchIdeal.main (F := Ideal))) ⟨m, fun _ => 0, g⟩ (fun r => (∀ c : Dev Cert.DwBranchIdeal.nD,
      r.2.mem ((c.tc : Thread Cert.DwBranchIdeal.nD Cert.DwBranchIdeal.τ).loc Cert.DwBranchIdeal.main_arg0) = m ((c.tc : Thread Cert.DwBranchIdeal.nD Cert.DwBranchIdeal.τ).loc Cert.DwBranchIdeal.main_arg0)
      ∧ r.2.mem ((c.tc : Thread Cert.DwBranchIdeal.nD Cert.DwBranchIdeal.τ).loc Cert.DwBranchIdeal.main_arg1) = m ((c.tc : Thread Cert.DwBranchIdeal.nD Cert.DwBranchIdeal.τ).loc Cert.DwBranchIdeal.main_arg1))
      ∧ r.2.sem = fun _ => 0)

def quiescent_DwBranchRefIdeal [hDwBranchRefIdeal : Cert.DwBranchRefIdeal.Facts] : Prop :=
  ∀ (m : (ℓ : Loc Cert.DwBranchRefIdeal.nD Cert.DwBranchRefIdeal.τ Cert.DwBranchRefIdeal.sig) → Buf (Elt Ideal) ℓ) (g : Dev Cert.DwBranchRefIdeal.nD → PrngReg), Pre_DwBranchRefIdeal m →
    θ_run (Cert.DwBranchRefIdeal.defs (F := Ideal)) (onTc (τ := Cert.DwBranchRefIdeal.τ) (Cert.DwBranchRefIdeal.main (F := Ideal))) ⟨m, fun _ => 0, g⟩ (fun r => (∀ c : Dev Cert.DwBranchRefIdeal.nD,
      r.2.mem ((c.tc : Thread Cert.DwBranchRefIdeal.nD Cert.DwBranchRefIdeal.τ).loc Cert.DwBranchRefIdeal.main_arg0) = m ((c.tc : Thread Cert.DwBranchRefIdeal.nD Cert.DwBranchRefIdeal.τ).loc Cert.DwBranchRefIdeal.main_arg0)
      ∧ r.2.mem ((c.tc : Thread Cert.DwBranchRefIdeal.nD Cert.DwBranchRefIdeal.τ).loc Cert.DwBranchRefIdeal.main_arg1) = m ((c.tc : Thread Cert.DwBranchRefIdeal.nD Cert.DwBranchRefIdeal.τ).loc Cert.DwBranchRefIdeal.main_arg1))
      ∧ r.2.sem = fun _ => 0)

def quiescent_DBranch [hDBranch : Cert.DBranch.Facts] : Prop :=
  ∀ (m : (ℓ : Loc Cert.DBranch.nD Cert.DBranch.τ Cert.DBranch.sig) → Buf (Elt Bits) ℓ) (g : Dev Cert.DBranch.nD → PrngReg), Pre_DBranch m →
    θ_run (Cert.DBranch.defs (F := Bits)) (onTc (τ := Cert.DBranch.τ) (Cert.DBranch.main (F := Bits))) ⟨m, fun _ => 0, g⟩ (fun r => (∀ c : Dev Cert.DBranch.nD,
      r.2.mem ((c.tc : Thread Cert.DBranch.nD Cert.DBranch.τ).loc Cert.DBranch.main_arg0) = m ((c.tc : Thread Cert.DBranch.nD Cert.DBranch.τ).loc Cert.DBranch.main_arg0)
      ∧ r.2.mem ((c.tc : Thread Cert.DBranch.nD Cert.DBranch.τ).loc Cert.DBranch.main_arg1) = m ((c.tc : Thread Cert.DBranch.nD Cert.DBranch.τ).loc Cert.DBranch.main_arg1))
      ∧ r.2.sem = fun _ => 0)

def quiescent_DBranchIdeal [hDBranchIdeal : Cert.DBranchIdeal.Facts] : Prop :=
  ∀ (m : (ℓ : Loc Cert.DBranchIdeal.nD Cert.DBranchIdeal.τ Cert.DBranchIdeal.sig) → Buf (Elt Ideal) ℓ) (g : Dev Cert.DBranchIdeal.nD → PrngReg), Pre_DBranchIdeal m →
    θ_run (Cert.DBranchIdeal.defs (F := Ideal)) (onTc (τ := Cert.DBranchIdeal.τ) (Cert.DBranchIdeal.main (F := Ideal))) ⟨m, fun _ => 0, g⟩ (fun r => (∀ c : Dev Cert.DBranchIdeal.nD,
      r.2.mem ((c.tc : Thread Cert.DBranchIdeal.nD Cert.DBranchIdeal.τ).loc Cert.DBranchIdeal.main_arg0) = m ((c.tc : Thread Cert.DBranchIdeal.nD Cert.DBranchIdeal.τ).loc Cert.DBranchIdeal.main_arg0)
      ∧ r.2.mem ((c.tc : Thread Cert.DBranchIdeal.nD Cert.DBranchIdeal.τ).loc Cert.DBranchIdeal.main_arg1) = m ((c.tc : Thread Cert.DBranchIdeal.nD Cert.DBranchIdeal.τ).loc Cert.DBranchIdeal.main_arg1))
      ∧ r.2.sem = fun _ => 0)

def quiescent_DBranchRefIdeal [hDBranchRefIdeal : Cert.DBranchRefIdeal.Facts] : Prop :=
  ∀ (m : (ℓ : Loc Cert.DBranchRefIdeal.nD Cert.DBranchRefIdeal.τ Cert.DBranchRefIdeal.sig) → Buf (Elt Ideal) ℓ) (g : Dev Cert.DBranchRefIdeal.nD → PrngReg), Pre_DBranchRefIdeal m →
    θ_run (Cert.DBranchRefIdeal.defs (F := Ideal)) (onTc (τ := Cert.DBranchRefIdeal.τ) (Cert.DBranchRefIdeal.main (F := Ideal))) ⟨m, fun _ => 0, g⟩ (fun r => (∀ c : Dev Cert.DBranchRefIdeal.nD,
      r.2.mem ((c.tc : Thread Cert.DBranchRefIdeal.nD Cert.DBranchRefIdeal.τ).loc Cert.DBranchRefIdeal.main_arg0) = m ((c.tc : Thread Cert.DBranchRefIdeal.nD Cert.DBranchRefIdeal.τ).loc Cert.DBranchRefIdeal.main_arg0)
      ∧ r.2.mem ((c.tc : Thread Cert.DBranchRefIdeal.nD Cert.DBranchRefIdeal.τ).loc Cert.DBranchRefIdeal.main_arg1) = m ((c.tc : Thread Cert.DBranchRefIdeal.nD Cert.DBranchRefIdeal.τ).loc Cert.DBranchRefIdeal.main_arg1))
      ∧ r.2.sem = fun _ => 0)

def quiescent_DXnQkv [hDXnQkv : Cert.DXnQkv.Facts] : Prop :=
  ∀ (m : (ℓ : Loc Cert.DXnQkv.nD Cert.DXnQkv.τ Cert.DXnQkv.sig) → Buf (Elt Bits) ℓ) (g : Dev Cert.DXnQkv.nD → PrngReg), Pre_DXnQkv m →
    θ_run (Cert.DXnQkv.defs (F := Bits)) (onTc (τ := Cert.DXnQkv.τ) (Cert.DXnQkv.main (F := Bits))) ⟨m, fun _ => 0, g⟩ (fun r => (∀ c : Dev Cert.DXnQkv.nD,
      r.2.mem ((c.tc : Thread Cert.DXnQkv.nD Cert.DXnQkv.τ).loc Cert.DXnQkv.main_arg0) = m ((c.tc : Thread Cert.DXnQkv.nD Cert.DXnQkv.τ).loc Cert.DXnQkv.main_arg0)
      ∧ r.2.mem ((c.tc : Thread Cert.DXnQkv.nD Cert.DXnQkv.τ).loc Cert.DXnQkv.main_arg1) = m ((c.tc : Thread Cert.DXnQkv.nD Cert.DXnQkv.τ).loc Cert.DXnQkv.main_arg1))
      ∧ r.2.sem = fun _ => 0)

def quiescent_DXnQkvIdeal [hDXnQkvIdeal : Cert.DXnQkvIdeal.Facts] : Prop :=
  ∀ (m : (ℓ : Loc Cert.DXnQkvIdeal.nD Cert.DXnQkvIdeal.τ Cert.DXnQkvIdeal.sig) → Buf (Elt Ideal) ℓ) (g : Dev Cert.DXnQkvIdeal.nD → PrngReg), Pre_DXnQkvIdeal m →
    θ_run (Cert.DXnQkvIdeal.defs (F := Ideal)) (onTc (τ := Cert.DXnQkvIdeal.τ) (Cert.DXnQkvIdeal.main (F := Ideal))) ⟨m, fun _ => 0, g⟩ (fun r => (∀ c : Dev Cert.DXnQkvIdeal.nD,
      r.2.mem ((c.tc : Thread Cert.DXnQkvIdeal.nD Cert.DXnQkvIdeal.τ).loc Cert.DXnQkvIdeal.main_arg0) = m ((c.tc : Thread Cert.DXnQkvIdeal.nD Cert.DXnQkvIdeal.τ).loc Cert.DXnQkvIdeal.main_arg0)
      ∧ r.2.mem ((c.tc : Thread Cert.DXnQkvIdeal.nD Cert.DXnQkvIdeal.τ).loc Cert.DXnQkvIdeal.main_arg1) = m ((c.tc : Thread Cert.DXnQkvIdeal.nD Cert.DXnQkvIdeal.τ).loc Cert.DXnQkvIdeal.main_arg1))
      ∧ r.2.sem = fun _ => 0)

def quiescent_DXnQkvRefIdeal [hDXnQkvRefIdeal : Cert.DXnQkvRefIdeal.Facts] : Prop :=
  ∀ (m : (ℓ : Loc Cert.DXnQkvRefIdeal.nD Cert.DXnQkvRefIdeal.τ Cert.DXnQkvRefIdeal.sig) → Buf (Elt Ideal) ℓ) (g : Dev Cert.DXnQkvRefIdeal.nD → PrngReg), Pre_DXnQkvRefIdeal m →
    θ_run (Cert.DXnQkvRefIdeal.defs (F := Ideal)) (onTc (τ := Cert.DXnQkvRefIdeal.τ) (Cert.DXnQkvRefIdeal.main (F := Ideal))) ⟨m, fun _ => 0, g⟩ (fun r => (∀ c : Dev Cert.DXnQkvRefIdeal.nD,
      r.2.mem ((c.tc : Thread Cert.DXnQkvRefIdeal.nD Cert.DXnQkvRefIdeal.τ).loc Cert.DXnQkvRefIdeal.main_arg0) = m ((c.tc : Thread Cert.DXnQkvRefIdeal.nD Cert.DXnQkvRefIdeal.τ).loc Cert.DXnQkvRefIdeal.main_arg0)
      ∧ r.2.mem ((c.tc : Thread Cert.DXnQkvRefIdeal.nD Cert.DXnQkvRefIdeal.τ).loc Cert.DXnQkvRefIdeal.main_arg1) = m ((c.tc : Thread Cert.DXnQkvRefIdeal.nD Cert.DXnQkvRefIdeal.τ).loc Cert.DXnQkvRefIdeal.main_arg1))
      ∧ r.2.sem = fun _ => 0)

def quiescent_DXnZ [hDXnZ : Cert.DXnZ.Facts] : Prop :=
  ∀ (m : (ℓ : Loc Cert.DXnZ.nD Cert.DXnZ.τ Cert.DXnZ.sig) → Buf (Elt Bits) ℓ) (g : Dev Cert.DXnZ.nD → PrngReg), Pre_DXnZ m →
    θ_run (Cert.DXnZ.defs (F := Bits)) (onTc (τ := Cert.DXnZ.τ) (Cert.DXnZ.main (F := Bits))) ⟨m, fun _ => 0, g⟩ (fun r => (∀ c : Dev Cert.DXnZ.nD,
      r.2.mem ((c.tc : Thread Cert.DXnZ.nD Cert.DXnZ.τ).loc Cert.DXnZ.main_arg0) = m ((c.tc : Thread Cert.DXnZ.nD Cert.DXnZ.τ).loc Cert.DXnZ.main_arg0)
      ∧ r.2.mem ((c.tc : Thread Cert.DXnZ.nD Cert.DXnZ.τ).loc Cert.DXnZ.main_arg1) = m ((c.tc : Thread Cert.DXnZ.nD Cert.DXnZ.τ).loc Cert.DXnZ.main_arg1)
      ∧ r.2.mem ((c.tc : Thread Cert.DXnZ.nD Cert.DXnZ.τ).loc Cert.DXnZ.main_arg2) = m ((c.tc : Thread Cert.DXnZ.nD Cert.DXnZ.τ).loc Cert.DXnZ.main_arg2))
      ∧ r.2.sem = fun _ => 0)

def quiescent_DXnZIdeal [hDXnZIdeal : Cert.DXnZIdeal.Facts] : Prop :=
  ∀ (m : (ℓ : Loc Cert.DXnZIdeal.nD Cert.DXnZIdeal.τ Cert.DXnZIdeal.sig) → Buf (Elt Ideal) ℓ) (g : Dev Cert.DXnZIdeal.nD → PrngReg), Pre_DXnZIdeal m →
    θ_run (Cert.DXnZIdeal.defs (F := Ideal)) (onTc (τ := Cert.DXnZIdeal.τ) (Cert.DXnZIdeal.main (F := Ideal))) ⟨m, fun _ => 0, g⟩ (fun r => (∀ c : Dev Cert.DXnZIdeal.nD,
      r.2.mem ((c.tc : Thread Cert.DXnZIdeal.nD Cert.DXnZIdeal.τ).loc Cert.DXnZIdeal.main_arg0) = m ((c.tc : Thread Cert.DXnZIdeal.nD Cert.DXnZIdeal.τ).loc Cert.DXnZIdeal.main_arg0)
      ∧ r.2.mem ((c.tc : Thread Cert.DXnZIdeal.nD Cert.DXnZIdeal.τ).loc Cert.DXnZIdeal.main_arg1) = m ((c.tc : Thread Cert.DXnZIdeal.nD Cert.DXnZIdeal.τ).loc Cert.DXnZIdeal.main_arg1)
      ∧ r.2.mem ((c.tc : Thread Cert.DXnZIdeal.nD Cert.DXnZIdeal.τ).loc Cert.DXnZIdeal.main_arg2) = m ((c.tc : Thread Cert.DXnZIdeal.nD Cert.DXnZIdeal.τ).loc Cert.DXnZIdeal.main_arg2))
      ∧ r.2.sem = fun _ => 0)

def quiescent_DXnZRefIdeal [hDXnZRefIdeal : Cert.DXnZRefIdeal.Facts] : Prop :=
  ∀ (m : (ℓ : Loc Cert.DXnZRefIdeal.nD Cert.DXnZRefIdeal.τ Cert.DXnZRefIdeal.sig) → Buf (Elt Ideal) ℓ) (g : Dev Cert.DXnZRefIdeal.nD → PrngReg), Pre_DXnZRefIdeal m →
    θ_run (Cert.DXnZRefIdeal.defs (F := Ideal)) (onTc (τ := Cert.DXnZRefIdeal.τ) (Cert.DXnZRefIdeal.main (F := Ideal))) ⟨m, fun _ => 0, g⟩ (fun r => (∀ c : Dev Cert.DXnZRefIdeal.nD,
      r.2.mem ((c.tc : Thread Cert.DXnZRefIdeal.nD Cert.DXnZRefIdeal.τ).loc Cert.DXnZRefIdeal.main_arg0) = m ((c.tc : Thread Cert.DXnZRefIdeal.nD Cert.DXnZRefIdeal.τ).loc Cert.DXnZRefIdeal.main_arg0)
      ∧ r.2.mem ((c.tc : Thread Cert.DXnZRefIdeal.nD Cert.DXnZRefIdeal.τ).loc Cert.DXnZRefIdeal.main_arg1) = m ((c.tc : Thread Cert.DXnZRefIdeal.nD Cert.DXnZRefIdeal.τ).loc Cert.DXnZRefIdeal.main_arg1)
      ∧ r.2.mem ((c.tc : Thread Cert.DXnZRefIdeal.nD Cert.DXnZRefIdeal.τ).loc Cert.DXnZRefIdeal.main_arg2) = m ((c.tc : Thread Cert.DXnZRefIdeal.nD Cert.DXnZRefIdeal.τ).loc Cert.DXnZRefIdeal.main_arg2))
      ∧ r.2.sem = fun _ => 0)

def quiescent_DXnG [hDXnG : Cert.DXnG.Facts] : Prop :=
  ∀ (m : (ℓ : Loc Cert.DXnG.nD Cert.DXnG.τ Cert.DXnG.sig) → Buf (Elt Bits) ℓ) (g : Dev Cert.DXnG.nD → PrngReg), Pre_DXnG m →
    θ_run (Cert.DXnG.defs (F := Bits)) (onTc (τ := Cert.DXnG.τ) (Cert.DXnG.main (F := Bits))) ⟨m, fun _ => 0, g⟩ (fun r => (∀ c : Dev Cert.DXnG.nD,
      r.2.mem ((c.tc : Thread Cert.DXnG.nD Cert.DXnG.τ).loc Cert.DXnG.main_arg0) = m ((c.tc : Thread Cert.DXnG.nD Cert.DXnG.τ).loc Cert.DXnG.main_arg0)
      ∧ r.2.mem ((c.tc : Thread Cert.DXnG.nD Cert.DXnG.τ).loc Cert.DXnG.main_arg1) = m ((c.tc : Thread Cert.DXnG.nD Cert.DXnG.τ).loc Cert.DXnG.main_arg1)
      ∧ r.2.mem ((c.tc : Thread Cert.DXnG.nD Cert.DXnG.τ).loc Cert.DXnG.main_arg2) = m ((c.tc : Thread Cert.DXnG.nD Cert.DXnG.τ).loc Cert.DXnG.main_arg2))
      ∧ r.2.sem = fun _ => 0)

def quiescent_DXnGIdeal [hDXnGIdeal : Cert.DXnGIdeal.Facts] : Prop :=
  ∀ (m : (ℓ : Loc Cert.DXnGIdeal.nD Cert.DXnGIdeal.τ Cert.DXnGIdeal.sig) → Buf (Elt Ideal) ℓ) (g : Dev Cert.DXnGIdeal.nD → PrngReg), Pre_DXnGIdeal m →
    θ_run (Cert.DXnGIdeal.defs (F := Ideal)) (onTc (τ := Cert.DXnGIdeal.τ) (Cert.DXnGIdeal.main (F := Ideal))) ⟨m, fun _ => 0, g⟩ (fun r => (∀ c : Dev Cert.DXnGIdeal.nD,
      r.2.mem ((c.tc : Thread Cert.DXnGIdeal.nD Cert.DXnGIdeal.τ).loc Cert.DXnGIdeal.main_arg0) = m ((c.tc : Thread Cert.DXnGIdeal.nD Cert.DXnGIdeal.τ).loc Cert.DXnGIdeal.main_arg0)
      ∧ r.2.mem ((c.tc : Thread Cert.DXnGIdeal.nD Cert.DXnGIdeal.τ).loc Cert.DXnGIdeal.main_arg1) = m ((c.tc : Thread Cert.DXnGIdeal.nD Cert.DXnGIdeal.τ).loc Cert.DXnGIdeal.main_arg1)
      ∧ r.2.mem ((c.tc : Thread Cert.DXnGIdeal.nD Cert.DXnGIdeal.τ).loc Cert.DXnGIdeal.main_arg2) = m ((c.tc : Thread Cert.DXnGIdeal.nD Cert.DXnGIdeal.τ).loc Cert.DXnGIdeal.main_arg2))
      ∧ r.2.sem = fun _ => 0)

def quiescent_DXnGRefIdeal [hDXnGRefIdeal : Cert.DXnGRefIdeal.Facts] : Prop :=
  ∀ (m : (ℓ : Loc Cert.DXnGRefIdeal.nD Cert.DXnGRefIdeal.τ Cert.DXnGRefIdeal.sig) → Buf (Elt Ideal) ℓ) (g : Dev Cert.DXnGRefIdeal.nD → PrngReg), Pre_DXnGRefIdeal m →
    θ_run (Cert.DXnGRefIdeal.defs (F := Ideal)) (onTc (τ := Cert.DXnGRefIdeal.τ) (Cert.DXnGRefIdeal.main (F := Ideal))) ⟨m, fun _ => 0, g⟩ (fun r => (∀ c : Dev Cert.DXnGRefIdeal.nD,
      r.2.mem ((c.tc : Thread Cert.DXnGRefIdeal.nD Cert.DXnGRefIdeal.τ).loc Cert.DXnGRefIdeal.main_arg0) = m ((c.tc : Thread Cert.DXnGRefIdeal.nD Cert.DXnGRefIdeal.τ).loc Cert.DXnGRefIdeal.main_arg0)
      ∧ r.2.mem ((c.tc : Thread Cert.DXnGRefIdeal.nD Cert.DXnGRefIdeal.τ).loc Cert.DXnGRefIdeal.main_arg1) = m ((c.tc : Thread Cert.DXnGRefIdeal.nD Cert.DXnGRefIdeal.τ).loc Cert.DXnGRefIdeal.main_arg1)
      ∧ r.2.mem ((c.tc : Thread Cert.DXnGRefIdeal.nD Cert.DXnGRefIdeal.τ).loc Cert.DXnGRefIdeal.main_arg2) = m ((c.tc : Thread Cert.DXnGRefIdeal.nD Cert.DXnGRefIdeal.τ).loc Cert.DXnGRefIdeal.main_arg2))
      ∧ r.2.sem = fun _ => 0)

def quiescent_ProjQkv [hProjQkv : Cert.ProjQkv.Facts] : Prop :=
  ∀ (m : (ℓ : Loc Cert.ProjQkv.nD Cert.ProjQkv.τ Cert.ProjQkv.sig) → Buf (Elt Bits) ℓ) (g : Dev Cert.ProjQkv.nD → PrngReg), Pre_ProjQkv m →
    θ_run (Cert.ProjQkv.defs (F := Bits)) (onTc (τ := Cert.ProjQkv.τ) (Cert.ProjQkv.main (F := Bits))) ⟨m, fun _ => 0, g⟩ (fun r => (∀ c : Dev Cert.ProjQkv.nD,
      r.2.mem ((c.tc : Thread Cert.ProjQkv.nD Cert.ProjQkv.τ).loc Cert.ProjQkv.main_arg0) = m ((c.tc : Thread Cert.ProjQkv.nD Cert.ProjQkv.τ).loc Cert.ProjQkv.main_arg0)
      ∧ r.2.mem ((c.tc : Thread Cert.ProjQkv.nD Cert.ProjQkv.τ).loc Cert.ProjQkv.main_arg1) = m ((c.tc : Thread Cert.ProjQkv.nD Cert.ProjQkv.τ).loc Cert.ProjQkv.main_arg1)
      ∧ r.2.mem ((c.tc : Thread Cert.ProjQkv.nD Cert.ProjQkv.τ).loc Cert.ProjQkv.main_arg2) = m ((c.tc : Thread Cert.ProjQkv.nD Cert.ProjQkv.τ).loc Cert.ProjQkv.main_arg2))
      ∧ r.2.sem = fun _ => 0)

def quiescent_ProjQkvIdeal [hProjQkvIdeal : Cert.ProjQkvIdeal.Facts] : Prop :=
  ∀ (m : (ℓ : Loc Cert.ProjQkvIdeal.nD Cert.ProjQkvIdeal.τ Cert.ProjQkvIdeal.sig) → Buf (Elt Ideal) ℓ) (g : Dev Cert.ProjQkvIdeal.nD → PrngReg), Pre_ProjQkvIdeal m →
    θ_run (Cert.ProjQkvIdeal.defs (F := Ideal)) (onTc (τ := Cert.ProjQkvIdeal.τ) (Cert.ProjQkvIdeal.main (F := Ideal))) ⟨m, fun _ => 0, g⟩ (fun r => (∀ c : Dev Cert.ProjQkvIdeal.nD,
      r.2.mem ((c.tc : Thread Cert.ProjQkvIdeal.nD Cert.ProjQkvIdeal.τ).loc Cert.ProjQkvIdeal.main_arg0) = m ((c.tc : Thread Cert.ProjQkvIdeal.nD Cert.ProjQkvIdeal.τ).loc Cert.ProjQkvIdeal.main_arg0)
      ∧ r.2.mem ((c.tc : Thread Cert.ProjQkvIdeal.nD Cert.ProjQkvIdeal.τ).loc Cert.ProjQkvIdeal.main_arg1) = m ((c.tc : Thread Cert.ProjQkvIdeal.nD Cert.ProjQkvIdeal.τ).loc Cert.ProjQkvIdeal.main_arg1)
      ∧ r.2.mem ((c.tc : Thread Cert.ProjQkvIdeal.nD Cert.ProjQkvIdeal.τ).loc Cert.ProjQkvIdeal.main_arg2) = m ((c.tc : Thread Cert.ProjQkvIdeal.nD Cert.ProjQkvIdeal.τ).loc Cert.ProjQkvIdeal.main_arg2))
      ∧ r.2.sem = fun _ => 0)

def quiescent_ProjQkvRefIdeal [hProjQkvRefIdeal : Cert.ProjQkvRefIdeal.Facts] : Prop :=
  ∀ (m : (ℓ : Loc Cert.ProjQkvRefIdeal.nD Cert.ProjQkvRefIdeal.τ Cert.ProjQkvRefIdeal.sig) → Buf (Elt Ideal) ℓ) (g : Dev Cert.ProjQkvRefIdeal.nD → PrngReg), Pre_ProjQkvRefIdeal m →
    θ_run (Cert.ProjQkvRefIdeal.defs (F := Ideal)) (onTc (τ := Cert.ProjQkvRefIdeal.τ) (Cert.ProjQkvRefIdeal.main (F := Ideal))) ⟨m, fun _ => 0, g⟩ (fun r => (∀ c : Dev Cert.ProjQkvRefIdeal.nD,
      r.2.mem ((c.tc : Thread Cert.ProjQkvRefIdeal.nD Cert.ProjQkvRefIdeal.τ).loc Cert.ProjQkvRefIdeal.main_arg0) = m ((c.tc : Thread Cert.ProjQkvRefIdeal.nD Cert.ProjQkvRefIdeal.τ).loc Cert.ProjQkvRefIdeal.main_arg0)
      ∧ r.2.mem ((c.tc : Thread Cert.ProjQkvRefIdeal.nD Cert.ProjQkvRefIdeal.τ).loc Cert.ProjQkvRefIdeal.main_arg1) = m ((c.tc : Thread Cert.ProjQkvRefIdeal.nD Cert.ProjQkvRefIdeal.τ).loc Cert.ProjQkvRefIdeal.main_arg1)
      ∧ r.2.mem ((c.tc : Thread Cert.ProjQkvRefIdeal.nD Cert.ProjQkvRefIdeal.τ).loc Cert.ProjQkvRefIdeal.main_arg2) = m ((c.tc : Thread Cert.ProjQkvRefIdeal.nD Cert.ProjQkvRefIdeal.τ).loc Cert.ProjQkvRefIdeal.main_arg2))
      ∧ r.2.sem = fun _ => 0)

def quiescent_ProjZ [hProjZ : Cert.ProjZ.Facts] : Prop :=
  ∀ (m : (ℓ : Loc Cert.ProjZ.nD Cert.ProjZ.τ Cert.ProjZ.sig) → Buf (Elt Bits) ℓ) (g : Dev Cert.ProjZ.nD → PrngReg), Pre_ProjZ m →
    θ_run (Cert.ProjZ.defs (F := Bits)) (onTc (τ := Cert.ProjZ.τ) (Cert.ProjZ.main (F := Bits))) ⟨m, fun _ => 0, g⟩ (fun r => (∀ c : Dev Cert.ProjZ.nD,
      r.2.mem ((c.tc : Thread Cert.ProjZ.nD Cert.ProjZ.τ).loc Cert.ProjZ.main_arg0) = m ((c.tc : Thread Cert.ProjZ.nD Cert.ProjZ.τ).loc Cert.ProjZ.main_arg0)
      ∧ r.2.mem ((c.tc : Thread Cert.ProjZ.nD Cert.ProjZ.τ).loc Cert.ProjZ.main_arg1) = m ((c.tc : Thread Cert.ProjZ.nD Cert.ProjZ.τ).loc Cert.ProjZ.main_arg1)
      ∧ r.2.mem ((c.tc : Thread Cert.ProjZ.nD Cert.ProjZ.τ).loc Cert.ProjZ.main_arg2) = m ((c.tc : Thread Cert.ProjZ.nD Cert.ProjZ.τ).loc Cert.ProjZ.main_arg2))
      ∧ r.2.sem = fun _ => 0)

def quiescent_ProjZIdeal [hProjZIdeal : Cert.ProjZIdeal.Facts] : Prop :=
  ∀ (m : (ℓ : Loc Cert.ProjZIdeal.nD Cert.ProjZIdeal.τ Cert.ProjZIdeal.sig) → Buf (Elt Ideal) ℓ) (g : Dev Cert.ProjZIdeal.nD → PrngReg), Pre_ProjZIdeal m →
    θ_run (Cert.ProjZIdeal.defs (F := Ideal)) (onTc (τ := Cert.ProjZIdeal.τ) (Cert.ProjZIdeal.main (F := Ideal))) ⟨m, fun _ => 0, g⟩ (fun r => (∀ c : Dev Cert.ProjZIdeal.nD,
      r.2.mem ((c.tc : Thread Cert.ProjZIdeal.nD Cert.ProjZIdeal.τ).loc Cert.ProjZIdeal.main_arg0) = m ((c.tc : Thread Cert.ProjZIdeal.nD Cert.ProjZIdeal.τ).loc Cert.ProjZIdeal.main_arg0)
      ∧ r.2.mem ((c.tc : Thread Cert.ProjZIdeal.nD Cert.ProjZIdeal.τ).loc Cert.ProjZIdeal.main_arg1) = m ((c.tc : Thread Cert.ProjZIdeal.nD Cert.ProjZIdeal.τ).loc Cert.ProjZIdeal.main_arg1)
      ∧ r.2.mem ((c.tc : Thread Cert.ProjZIdeal.nD Cert.ProjZIdeal.τ).loc Cert.ProjZIdeal.main_arg2) = m ((c.tc : Thread Cert.ProjZIdeal.nD Cert.ProjZIdeal.τ).loc Cert.ProjZIdeal.main_arg2))
      ∧ r.2.sem = fun _ => 0)

def quiescent_ProjZRefIdeal [hProjZRefIdeal : Cert.ProjZRefIdeal.Facts] : Prop :=
  ∀ (m : (ℓ : Loc Cert.ProjZRefIdeal.nD Cert.ProjZRefIdeal.τ Cert.ProjZRefIdeal.sig) → Buf (Elt Ideal) ℓ) (g : Dev Cert.ProjZRefIdeal.nD → PrngReg), Pre_ProjZRefIdeal m →
    θ_run (Cert.ProjZRefIdeal.defs (F := Ideal)) (onTc (τ := Cert.ProjZRefIdeal.τ) (Cert.ProjZRefIdeal.main (F := Ideal))) ⟨m, fun _ => 0, g⟩ (fun r => (∀ c : Dev Cert.ProjZRefIdeal.nD,
      r.2.mem ((c.tc : Thread Cert.ProjZRefIdeal.nD Cert.ProjZRefIdeal.τ).loc Cert.ProjZRefIdeal.main_arg0) = m ((c.tc : Thread Cert.ProjZRefIdeal.nD Cert.ProjZRefIdeal.τ).loc Cert.ProjZRefIdeal.main_arg0)
      ∧ r.2.mem ((c.tc : Thread Cert.ProjZRefIdeal.nD Cert.ProjZRefIdeal.τ).loc Cert.ProjZRefIdeal.main_arg1) = m ((c.tc : Thread Cert.ProjZRefIdeal.nD Cert.ProjZRefIdeal.τ).loc Cert.ProjZRefIdeal.main_arg1)
      ∧ r.2.mem ((c.tc : Thread Cert.ProjZRefIdeal.nD Cert.ProjZRefIdeal.τ).loc Cert.ProjZRefIdeal.main_arg2) = m ((c.tc : Thread Cert.ProjZRefIdeal.nD Cert.ProjZRefIdeal.τ).loc Cert.ProjZRefIdeal.main_arg2))
      ∧ r.2.sem = fun _ => 0)

def quiescent_ProjG [hProjG : Cert.ProjG.Facts] : Prop :=
  ∀ (m : (ℓ : Loc Cert.ProjG.nD Cert.ProjG.τ Cert.ProjG.sig) → Buf (Elt Bits) ℓ) (g : Dev Cert.ProjG.nD → PrngReg), Pre_ProjG m →
    θ_run (Cert.ProjG.defs (F := Bits)) (onTc (τ := Cert.ProjG.τ) (Cert.ProjG.main (F := Bits))) ⟨m, fun _ => 0, g⟩ (fun r => (∀ c : Dev Cert.ProjG.nD,
      r.2.mem ((c.tc : Thread Cert.ProjG.nD Cert.ProjG.τ).loc Cert.ProjG.main_arg0) = m ((c.tc : Thread Cert.ProjG.nD Cert.ProjG.τ).loc Cert.ProjG.main_arg0)
      ∧ r.2.mem ((c.tc : Thread Cert.ProjG.nD Cert.ProjG.τ).loc Cert.ProjG.main_arg1) = m ((c.tc : Thread Cert.ProjG.nD Cert.ProjG.τ).loc Cert.ProjG.main_arg1)
      ∧ r.2.mem ((c.tc : Thread Cert.ProjG.nD Cert.ProjG.τ).loc Cert.ProjG.main_arg2) = m ((c.tc : Thread Cert.ProjG.nD Cert.ProjG.τ).loc Cert.ProjG.main_arg2))
      ∧ r.2.sem = fun _ => 0)

def quiescent_ProjGIdeal [hProjGIdeal : Cert.ProjGIdeal.Facts] : Prop :=
  ∀ (m : (ℓ : Loc Cert.ProjGIdeal.nD Cert.ProjGIdeal.τ Cert.ProjGIdeal.sig) → Buf (Elt Ideal) ℓ) (g : Dev Cert.ProjGIdeal.nD → PrngReg), Pre_ProjGIdeal m →
    θ_run (Cert.ProjGIdeal.defs (F := Ideal)) (onTc (τ := Cert.ProjGIdeal.τ) (Cert.ProjGIdeal.main (F := Ideal))) ⟨m, fun _ => 0, g⟩ (fun r => (∀ c : Dev Cert.ProjGIdeal.nD,
      r.2.mem ((c.tc : Thread Cert.ProjGIdeal.nD Cert.ProjGIdeal.τ).loc Cert.ProjGIdeal.main_arg0) = m ((c.tc : Thread Cert.ProjGIdeal.nD Cert.ProjGIdeal.τ).loc Cert.ProjGIdeal.main_arg0)
      ∧ r.2.mem ((c.tc : Thread Cert.ProjGIdeal.nD Cert.ProjGIdeal.τ).loc Cert.ProjGIdeal.main_arg1) = m ((c.tc : Thread Cert.ProjGIdeal.nD Cert.ProjGIdeal.τ).loc Cert.ProjGIdeal.main_arg1)
      ∧ r.2.mem ((c.tc : Thread Cert.ProjGIdeal.nD Cert.ProjGIdeal.τ).loc Cert.ProjGIdeal.main_arg2) = m ((c.tc : Thread Cert.ProjGIdeal.nD Cert.ProjGIdeal.τ).loc Cert.ProjGIdeal.main_arg2))
      ∧ r.2.sem = fun _ => 0)

def quiescent_ProjGRefIdeal [hProjGRefIdeal : Cert.ProjGRefIdeal.Facts] : Prop :=
  ∀ (m : (ℓ : Loc Cert.ProjGRefIdeal.nD Cert.ProjGRefIdeal.τ Cert.ProjGRefIdeal.sig) → Buf (Elt Ideal) ℓ) (g : Dev Cert.ProjGRefIdeal.nD → PrngReg), Pre_ProjGRefIdeal m →
    θ_run (Cert.ProjGRefIdeal.defs (F := Ideal)) (onTc (τ := Cert.ProjGRefIdeal.τ) (Cert.ProjGRefIdeal.main (F := Ideal))) ⟨m, fun _ => 0, g⟩ (fun r => (∀ c : Dev Cert.ProjGRefIdeal.nD,
      r.2.mem ((c.tc : Thread Cert.ProjGRefIdeal.nD Cert.ProjGRefIdeal.τ).loc Cert.ProjGRefIdeal.main_arg0) = m ((c.tc : Thread Cert.ProjGRefIdeal.nD Cert.ProjGRefIdeal.τ).loc Cert.ProjGRefIdeal.main_arg0)
      ∧ r.2.mem ((c.tc : Thread Cert.ProjGRefIdeal.nD Cert.ProjGRefIdeal.τ).loc Cert.ProjGRefIdeal.main_arg1) = m ((c.tc : Thread Cert.ProjGRefIdeal.nD Cert.ProjGRefIdeal.τ).loc Cert.ProjGRefIdeal.main_arg1)
      ∧ r.2.mem ((c.tc : Thread Cert.ProjGRefIdeal.nD Cert.ProjGRefIdeal.τ).loc Cert.ProjGRefIdeal.main_arg2) = m ((c.tc : Thread Cert.ProjGRefIdeal.nD Cert.ProjGRefIdeal.τ).loc Cert.ProjGRefIdeal.main_arg2))
      ∧ r.2.sem = fun _ => 0)

def quiescent_DownProj [hDownProj : Cert.DownProj.Facts] : Prop :=
  ∀ (m : (ℓ : Loc Cert.DownProj.nD Cert.DownProj.τ Cert.DownProj.sig) → Buf (Elt Bits) ℓ) (g : Dev Cert.DownProj.nD → PrngReg), Pre_DownProj m →
    θ_run (Cert.DownProj.defs (F := Bits)) (onTc (τ := Cert.DownProj.τ) (Cert.DownProj.main (F := Bits))) ⟨m, fun _ => 0, g⟩ (fun r => (∀ c : Dev Cert.DownProj.nD,
      r.2.mem ((c.tc : Thread Cert.DownProj.nD Cert.DownProj.τ).loc Cert.DownProj.main_arg0) = m ((c.tc : Thread Cert.DownProj.nD Cert.DownProj.τ).loc Cert.DownProj.main_arg0)
      ∧ r.2.mem ((c.tc : Thread Cert.DownProj.nD Cert.DownProj.τ).loc Cert.DownProj.main_arg1) = m ((c.tc : Thread Cert.DownProj.nD Cert.DownProj.τ).loc Cert.DownProj.main_arg1)
      ∧ r.2.mem ((c.tc : Thread Cert.DownProj.nD Cert.DownProj.τ).loc Cert.DownProj.main_arg2) = m ((c.tc : Thread Cert.DownProj.nD Cert.DownProj.τ).loc Cert.DownProj.main_arg2))
      ∧ r.2.sem = fun _ => 0)

def quiescent_DownProjIdeal [hDownProjIdeal : Cert.DownProjIdeal.Facts] : Prop :=
  ∀ (m : (ℓ : Loc Cert.DownProjIdeal.nD Cert.DownProjIdeal.τ Cert.DownProjIdeal.sig) → Buf (Elt Ideal) ℓ) (g : Dev Cert.DownProjIdeal.nD → PrngReg), Pre_DownProjIdeal m →
    θ_run (Cert.DownProjIdeal.defs (F := Ideal)) (onTc (τ := Cert.DownProjIdeal.τ) (Cert.DownProjIdeal.main (F := Ideal))) ⟨m, fun _ => 0, g⟩ (fun r => (∀ c : Dev Cert.DownProjIdeal.nD,
      r.2.mem ((c.tc : Thread Cert.DownProjIdeal.nD Cert.DownProjIdeal.τ).loc Cert.DownProjIdeal.main_arg0) = m ((c.tc : Thread Cert.DownProjIdeal.nD Cert.DownProjIdeal.τ).loc Cert.DownProjIdeal.main_arg0)
      ∧ r.2.mem ((c.tc : Thread Cert.DownProjIdeal.nD Cert.DownProjIdeal.τ).loc Cert.DownProjIdeal.main_arg1) = m ((c.tc : Thread Cert.DownProjIdeal.nD Cert.DownProjIdeal.τ).loc Cert.DownProjIdeal.main_arg1)
      ∧ r.2.mem ((c.tc : Thread Cert.DownProjIdeal.nD Cert.DownProjIdeal.τ).loc Cert.DownProjIdeal.main_arg2) = m ((c.tc : Thread Cert.DownProjIdeal.nD Cert.DownProjIdeal.τ).loc Cert.DownProjIdeal.main_arg2))
      ∧ r.2.sem = fun _ => 0)

def quiescent_DownProjRefIdeal [hDownProjRefIdeal : Cert.DownProjRefIdeal.Facts] : Prop :=
  ∀ (m : (ℓ : Loc Cert.DownProjRefIdeal.nD Cert.DownProjRefIdeal.τ Cert.DownProjRefIdeal.sig) → Buf (Elt Ideal) ℓ) (g : Dev Cert.DownProjRefIdeal.nD → PrngReg), Pre_DownProjRefIdeal m →
    θ_run (Cert.DownProjRefIdeal.defs (F := Ideal)) (onTc (τ := Cert.DownProjRefIdeal.τ) (Cert.DownProjRefIdeal.main (F := Ideal))) ⟨m, fun _ => 0, g⟩ (fun r => (∀ c : Dev Cert.DownProjRefIdeal.nD,
      r.2.mem ((c.tc : Thread Cert.DownProjRefIdeal.nD Cert.DownProjRefIdeal.τ).loc Cert.DownProjRefIdeal.main_arg0) = m ((c.tc : Thread Cert.DownProjRefIdeal.nD Cert.DownProjRefIdeal.τ).loc Cert.DownProjRefIdeal.main_arg0)
      ∧ r.2.mem ((c.tc : Thread Cert.DownProjRefIdeal.nD Cert.DownProjRefIdeal.τ).loc Cert.DownProjRefIdeal.main_arg1) = m ((c.tc : Thread Cert.DownProjRefIdeal.nD Cert.DownProjRefIdeal.τ).loc Cert.DownProjRefIdeal.main_arg1)
      ∧ r.2.mem ((c.tc : Thread Cert.DownProjRefIdeal.nD Cert.DownProjRefIdeal.τ).loc Cert.DownProjRefIdeal.main_arg2) = m ((c.tc : Thread Cert.DownProjRefIdeal.nD Cert.DownProjRefIdeal.τ).loc Cert.DownProjRefIdeal.main_arg2))
      ∧ r.2.sem = fun _ => 0)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1))
      ∧ r.2.sem = fun _ => 0)

def quiescent_GateUpRefIdeal [hGateUpRefIdeal : Cert.GateUpRefIdeal.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1))
      ∧ r.2.sem = fun _ => 0)

def quiescent_DAct [hDAct : Cert.DAct.Facts] : Prop :=
  ∀ (m : (ℓ : Loc Cert.DAct.nD Cert.DAct.τ Cert.DAct.sig) → Buf (Elt Bits) ℓ) (g : Dev Cert.DAct.nD → PrngReg), Pre_DAct m →
    θ_run (Cert.DAct.defs (F := Bits)) (onTc (τ := Cert.DAct.τ) (Cert.DAct.main (F := Bits))) ⟨m, fun _ => 0, g⟩ (fun r => (∀ c : Dev Cert.DAct.nD,
      r.2.mem ((c.tc : Thread Cert.DAct.nD Cert.DAct.τ).loc Cert.DAct.main_arg0) = m ((c.tc : Thread Cert.DAct.nD Cert.DAct.τ).loc Cert.DAct.main_arg0)
      ∧ r.2.mem ((c.tc : Thread Cert.DAct.nD Cert.DAct.τ).loc Cert.DAct.main_arg1) = m ((c.tc : Thread Cert.DAct.nD Cert.DAct.τ).loc Cert.DAct.main_arg1)
      ∧ r.2.mem ((c.tc : Thread Cert.DAct.nD Cert.DAct.τ).loc Cert.DAct.main_arg2) = m ((c.tc : Thread Cert.DAct.nD Cert.DAct.τ).loc Cert.DAct.main_arg2))
      ∧ r.2.sem = fun _ => 0)

def quiescent_DActIdeal [hDActIdeal : Cert.DActIdeal.Facts] : Prop :=
  ∀ (m : (ℓ : Loc Cert.DActIdeal.nD Cert.DActIdeal.τ Cert.DActIdeal.sig) → Buf (Elt Ideal) ℓ) (g : Dev Cert.DActIdeal.nD → PrngReg), Pre_DActIdeal m →
    θ_run (Cert.DActIdeal.defs (F := Ideal)) (onTc (τ := Cert.DActIdeal.τ) (Cert.DActIdeal.main (F := Ideal))) ⟨m, fun _ => 0, g⟩ (fun r => (∀ c : Dev Cert.DActIdeal.nD,
      r.2.mem ((c.tc : Thread Cert.DActIdeal.nD Cert.DActIdeal.τ).loc Cert.DActIdeal.main_arg0) = m ((c.tc : Thread Cert.DActIdeal.nD Cert.DActIdeal.τ).loc Cert.DActIdeal.main_arg0)
      ∧ r.2.mem ((c.tc : Thread Cert.DActIdeal.nD Cert.DActIdeal.τ).loc Cert.DActIdeal.main_arg1) = m ((c.tc : Thread Cert.DActIdeal.nD Cert.DActIdeal.τ).loc Cert.DActIdeal.main_arg1)
      ∧ r.2.mem ((c.tc : Thread Cert.DActIdeal.nD Cert.DActIdeal.τ).loc Cert.DActIdeal.main_arg2) = m ((c.tc : Thread Cert.DActIdeal.nD Cert.DActIdeal.τ).loc Cert.DActIdeal.main_arg2))
      ∧ r.2.sem = fun _ => 0)

def quiescent_DActIdeal_pre_all_finite_act [hDActIdeal : Cert.DActIdeal.Facts] [hPre_all_finite_act : Cert.Pre_all_finite_act.Facts] : Prop :=
  ∀ (m : (ℓ : Loc Cert.DActIdeal.nD Cert.DActIdeal.τ Cert.DActIdeal.sig) → Buf (Elt Ideal) ℓ) (g : Dev Cert.DActIdeal.nD → PrngReg), Pre_DActIdeal_all_finite_act m →
    θ_run (Cert.DActIdeal.defs (F := Ideal)) (onTc (τ := Cert.DActIdeal.τ) (Cert.DActIdeal.main (F := Ideal))) ⟨m, fun _ => 0, g⟩ (fun r => (∀ c : Dev Cert.DActIdeal.nD,
      r.2.mem ((c.tc : Thread Cert.DActIdeal.nD Cert.DActIdeal.τ).loc Cert.DActIdeal.main_arg0) = m ((c.tc : Thread Cert.DActIdeal.nD Cert.DActIdeal.τ).loc Cert.DActIdeal.main_arg0)
      ∧ r.2.mem ((c.tc : Thread Cert.DActIdeal.nD Cert.DActIdeal.τ).loc Cert.DActIdeal.main_arg1) = m ((c.tc : Thread Cert.DActIdeal.nD Cert.DActIdeal.τ).loc Cert.DActIdeal.main_arg1)
      ∧ r.2.mem ((c.tc : Thread Cert.DActIdeal.nD Cert.DActIdeal.τ).loc Cert.DActIdeal.main_arg2) = m ((c.tc : Thread Cert.DActIdeal.nD Cert.DActIdeal.τ).loc Cert.DActIdeal.main_arg2))
      ∧ r.2.sem = fun _ => 0)

def quiescent_DActRefIdeal [hDActRefIdeal : Cert.DActRefIdeal.Facts] : Prop :=
  ∀ (m : (ℓ : Loc Cert.DActRefIdeal.nD Cert.DActRefIdeal.τ Cert.DActRefIdeal.sig) → Buf (Elt Ideal) ℓ) (g : Dev Cert.DActRefIdeal.nD → PrngReg), Pre_DActRefIdeal m →
    θ_run (Cert.DActRefIdeal.defs (F := Ideal)) (onTc (τ := Cert.DActRefIdeal.τ) (Cert.DActRefIdeal.main (F := Ideal))) ⟨m, fun _ => 0, g⟩ (fun r => (∀ c : Dev Cert.DActRefIdeal.nD,
      r.2.mem ((c.tc : Thread Cert.DActRefIdeal.nD Cert.DActRefIdeal.τ).loc Cert.DActRefIdeal.main_arg0) = m ((c.tc : Thread Cert.DActRefIdeal.nD Cert.DActRefIdeal.τ).loc Cert.DActRefIdeal.main_arg0)
      ∧ r.2.mem ((c.tc : Thread Cert.DActRefIdeal.nD Cert.DActRefIdeal.τ).loc Cert.DActRefIdeal.main_arg1) = m ((c.tc : Thread Cert.DActRefIdeal.nD Cert.DActRefIdeal.τ).loc Cert.DActRefIdeal.main_arg1)
      ∧ r.2.mem ((c.tc : Thread Cert.DActRefIdeal.nD Cert.DActRefIdeal.τ).loc Cert.DActRefIdeal.main_arg2) = m ((c.tc : Thread Cert.DActRefIdeal.nD Cert.DActRefIdeal.τ).loc Cert.DActRefIdeal.main_arg2))
      ∧ r.2.sem = fun _ => 0)

def quiescent_DActRefIdeal_pre_all_finite_act [hDActRefIdeal : Cert.DActRefIdeal.Facts] [hPre_all_finite_act : Cert.Pre_all_finite_act.Facts] : Prop :=
  ∀ (m : (ℓ : Loc Cert.DActRefIdeal.nD Cert.DActRefIdeal.τ Cert.DActRefIdeal.sig) → Buf (Elt Ideal) ℓ) (g : Dev Cert.DActRefIdeal.nD → PrngReg), Pre_DActRefIdeal_all_finite_act m →
    θ_run (Cert.DActRefIdeal.defs (F := Ideal)) (onTc (τ := Cert.DActRefIdeal.τ) (Cert.DActRefIdeal.main (F := Ideal))) ⟨m, fun _ => 0, g⟩ (fun r => (∀ c : Dev Cert.DActRefIdeal.nD,
      r.2.mem ((c.tc : Thread Cert.DActRefIdeal.nD Cert.DActRefIdeal.τ).loc Cert.DActRefIdeal.main_arg0) = m ((c.tc : Thread Cert.DActRefIdeal.nD Cert.DActRefIdeal.τ).loc Cert.DActRefIdeal.main_arg0)
      ∧ r.2.mem ((c.tc : Thread Cert.DActRefIdeal.nD Cert.DActRefIdeal.τ).loc Cert.DActRefIdeal.main_arg1) = m ((c.tc : Thread Cert.DActRefIdeal.nD Cert.DActRefIdeal.τ).loc Cert.DActRefIdeal.main_arg1)
      ∧ r.2.mem ((c.tc : Thread Cert.DActRefIdeal.nD Cert.DActRefIdeal.τ).loc Cert.DActRefIdeal.main_arg2) = m ((c.tc : Thread Cert.DActRefIdeal.nD Cert.DActRefIdeal.τ).loc Cert.DActRefIdeal.main_arg2))
      ∧ r.2.sem = fun _ => 0)

def quiescent_BranchesMerge [hBranchesMerge : Cert.BranchesMerge.Facts] : Prop :=
  ∀ (m : (ℓ : Loc Cert.BranchesMerge.nD Cert.BranchesMerge.τ Cert.BranchesMerge.sig) → Buf (Elt Bits) ℓ) (g : Dev Cert.BranchesMerge.nD → PrngReg), Pre_BranchesMerge m →
    θ_run (Cert.BranchesMerge.defs (F := Bits)) (onTc (τ := Cert.BranchesMerge.τ) (Cert.BranchesMerge.main (F := Bits))) ⟨m, fun _ => 0, g⟩ (fun r => (∀ c : Dev Cert.BranchesMerge.nD,
      r.2.mem ((c.tc : Thread Cert.BranchesMerge.nD Cert.BranchesMerge.τ).loc Cert.BranchesMerge.main_arg0) = m ((c.tc : Thread Cert.BranchesMerge.nD Cert.BranchesMerge.τ).loc Cert.BranchesMerge.main_arg0)
      ∧ r.2.mem ((c.tc : Thread Cert.BranchesMerge.nD Cert.BranchesMerge.τ).loc Cert.BranchesMerge.main_arg1) = m ((c.tc : Thread Cert.BranchesMerge.nD Cert.BranchesMerge.τ).loc Cert.BranchesMerge.main_arg1)
      ∧ r.2.mem ((c.tc : Thread Cert.BranchesMerge.nD Cert.BranchesMerge.τ).loc Cert.BranchesMerge.main_arg2) = m ((c.tc : Thread Cert.BranchesMerge.nD Cert.BranchesMerge.τ).loc Cert.BranchesMerge.main_arg2)
      ∧ r.2.mem ((c.tc : Thread Cert.BranchesMerge.nD Cert.BranchesMerge.τ).loc Cert.BranchesMerge.main_arg3) = m ((c.tc : Thread Cert.BranchesMerge.nD Cert.BranchesMerge.τ).loc Cert.BranchesMerge.main_arg3)
      ∧ r.2.mem ((c.tc : Thread Cert.BranchesMerge.nD Cert.BranchesMerge.τ).loc Cert.BranchesMerge.main_arg4) = m ((c.tc : Thread Cert.BranchesMerge.nD Cert.BranchesMerge.τ).loc Cert.BranchesMerge.main_arg4))
      ∧ r.2.sem = fun _ => 0)

def quiescent_BranchesMergeIdeal [hBranchesMergeIdeal : Cert.BranchesMergeIdeal.Facts] : Prop :=
  ∀ (m : (ℓ : Loc Cert.BranchesMergeIdeal.nD Cert.BranchesMergeIdeal.τ Cert.BranchesMergeIdeal.sig) → Buf (Elt Ideal) ℓ) (g : Dev Cert.BranchesMergeIdeal.nD → PrngReg), Pre_BranchesMergeIdeal m →
    θ_run (Cert.BranchesMergeIdeal.defs (F := Ideal)) (onTc (τ := Cert.BranchesMergeIdeal.τ) (Cert.BranchesMergeIdeal.main (F := Ideal))) ⟨m, fun _ => 0, g⟩ (fun r => (∀ c : Dev Cert.BranchesMergeIdeal.nD,
      r.2.mem ((c.tc : Thread Cert.BranchesMergeIdeal.nD Cert.BranchesMergeIdeal.τ).loc Cert.BranchesMergeIdeal.main_arg0) = m ((c.tc : Thread Cert.BranchesMergeIdeal.nD Cert.BranchesMergeIdeal.τ).loc Cert.BranchesMergeIdeal.main_arg0)
      ∧ r.2.mem ((c.tc : Thread Cert.BranchesMergeIdeal.nD Cert.BranchesMergeIdeal.τ).loc Cert.BranchesMergeIdeal.main_arg1) = m ((c.tc : Thread Cert.BranchesMergeIdeal.nD Cert.BranchesMergeIdeal.τ).loc Cert.BranchesMergeIdeal.main_arg1)
      ∧ r.2.mem ((c.tc : Thread Cert.BranchesMergeIdeal.nD Cert.BranchesMergeIdeal.τ).loc Cert.BranchesMergeIdeal.main_arg2) = m ((c.tc : Thread Cert.BranchesMergeIdeal.nD Cert.BranchesMergeIdeal.τ).loc Cert.BranchesMergeIdeal.main_arg2)
      ∧ r.2.mem ((c.tc : Thread Cert.BranchesMergeIdeal.nD Cert.BranchesMergeIdeal.τ).loc Cert.BranchesMergeIdeal.main_arg3) = m ((c.tc : Thread Cert.BranchesMergeIdeal.nD Cert.BranchesMergeIdeal.τ).loc Cert.BranchesMergeIdeal.main_arg3)
      ∧ r.2.mem ((c.tc : Thread Cert.BranchesMergeIdeal.nD Cert.BranchesMergeIdeal.τ).loc Cert.BranchesMergeIdeal.main_arg4) = m ((c.tc : Thread Cert.BranchesMergeIdeal.nD Cert.BranchesMergeIdeal.τ).loc Cert.BranchesMergeIdeal.main_arg4))
      ∧ r.2.sem = fun _ => 0)

def quiescent_BranchesMergeRefIdeal [hBranchesMergeRefIdeal : Cert.BranchesMergeRefIdeal.Facts] : Prop :=
  ∀ (m : (ℓ : Loc Cert.BranchesMergeRefIdeal.nD Cert.BranchesMergeRefIdeal.τ Cert.BranchesMergeRefIdeal.sig) → Buf (Elt Ideal) ℓ) (g : Dev Cert.BranchesMergeRefIdeal.nD → PrngReg), Pre_BranchesMergeRefIdeal m →
    θ_run (Cert.BranchesMergeRefIdeal.defs (F := Ideal)) (onTc (τ := Cert.BranchesMergeRefIdeal.τ) (Cert.BranchesMergeRefIdeal.main (F := Ideal))) ⟨m, fun _ => 0, g⟩ (fun r => (∀ c : Dev Cert.BranchesMergeRefIdeal.nD,
      r.2.mem ((c.tc : Thread Cert.BranchesMergeRefIdeal.nD Cert.BranchesMergeRefIdeal.τ).loc Cert.BranchesMergeRefIdeal.main_arg0) = m ((c.tc : Thread Cert.BranchesMergeRefIdeal.nD Cert.BranchesMergeRefIdeal.τ).loc Cert.BranchesMergeRefIdeal.main_arg0)
      ∧ r.2.mem ((c.tc : Thread Cert.BranchesMergeRefIdeal.nD Cert.BranchesMergeRefIdeal.τ).loc Cert.BranchesMergeRefIdeal.main_arg1) = m ((c.tc : Thread Cert.BranchesMergeRefIdeal.nD Cert.BranchesMergeRefIdeal.τ).loc Cert.BranchesMergeRefIdeal.main_arg1)
      ∧ r.2.mem ((c.tc : Thread Cert.BranchesMergeRefIdeal.nD Cert.BranchesMergeRefIdeal.τ).loc Cert.BranchesMergeRefIdeal.main_arg2) = m ((c.tc : Thread Cert.BranchesMergeRefIdeal.nD Cert.BranchesMergeRefIdeal.τ).loc Cert.BranchesMergeRefIdeal.main_arg2)
      ∧ r.2.mem ((c.tc : Thread Cert.BranchesMergeRefIdeal.nD Cert.BranchesMergeRefIdeal.τ).loc Cert.BranchesMergeRefIdeal.main_arg3) = m ((c.tc : Thread Cert.BranchesMergeRefIdeal.nD Cert.BranchesMergeRefIdeal.τ).loc Cert.BranchesMergeRefIdeal.main_arg3)
      ∧ r.2.mem ((c.tc : Thread Cert.BranchesMergeRefIdeal.nD Cert.BranchesMergeRefIdeal.τ).loc Cert.BranchesMergeRefIdeal.main_arg4) = m ((c.tc : Thread Cert.BranchesMergeRefIdeal.nD Cert.BranchesMergeRefIdeal.τ).loc Cert.BranchesMergeRefIdeal.main_arg4))
      ∧ r.2.sem = fun _ => 0)

def quiescent_DMerged [hDMerged : Cert.DMerged.Facts] : Prop :=
  ∀ (m : (ℓ : Loc Cert.DMerged.nD Cert.DMerged.τ Cert.DMerged.sig) → Buf (Elt Bits) ℓ) (g : Dev Cert.DMerged.nD → PrngReg), Pre_DMerged m →
    θ_run (Cert.DMerged.defs (F := Bits)) (onTc (τ := Cert.DMerged.τ) (Cert.DMerged.main (F := Bits))) ⟨m, fun _ => 0, g⟩ (fun r => (∀ c : Dev Cert.DMerged.nD,
      r.2.mem ((c.tc : Thread Cert.DMerged.nD Cert.DMerged.τ).loc Cert.DMerged.main_arg0) = m ((c.tc : Thread Cert.DMerged.nD Cert.DMerged.τ).loc Cert.DMerged.main_arg0)
      ∧ r.2.mem ((c.tc : Thread Cert.DMerged.nD Cert.DMerged.τ).loc Cert.DMerged.main_arg1) = m ((c.tc : Thread Cert.DMerged.nD Cert.DMerged.τ).loc Cert.DMerged.main_arg1)
      ∧ r.2.mem ((c.tc : Thread Cert.DMerged.nD Cert.DMerged.τ).loc Cert.DMerged.main_arg2) = m ((c.tc : Thread Cert.DMerged.nD Cert.DMerged.τ).loc Cert.DMerged.main_arg2)
      ∧ r.2.mem ((c.tc : Thread Cert.DMerged.nD Cert.DMerged.τ).loc Cert.DMerged.main_arg3) = m ((c.tc : Thread Cert.DMerged.nD Cert.DMerged.τ).loc Cert.DMerged.main_arg3)
      ∧ r.2.mem ((c.tc : Thread Cert.DMerged.nD Cert.DMerged.τ).loc Cert.DMerged.main_arg4) = m ((c.tc : Thread Cert.DMerged.nD Cert.DMerged.τ).loc Cert.DMerged.main_arg4))
      ∧ r.2.sem = fun _ => 0)

def quiescent_DMergedIdeal [hDMergedIdeal : Cert.DMergedIdeal.Facts] : Prop :=
  ∀ (m : (ℓ : Loc Cert.DMergedIdeal.nD Cert.DMergedIdeal.τ Cert.DMergedIdeal.sig) → Buf (Elt Ideal) ℓ) (g : Dev Cert.DMergedIdeal.nD → PrngReg), Pre_DMergedIdeal m →
    θ_run (Cert.DMergedIdeal.defs (F := Ideal)) (onTc (τ := Cert.DMergedIdeal.τ) (Cert.DMergedIdeal.main (F := Ideal))) ⟨m, fun _ => 0, g⟩ (fun r => (∀ c : Dev Cert.DMergedIdeal.nD,
      r.2.mem ((c.tc : Thread Cert.DMergedIdeal.nD Cert.DMergedIdeal.τ).loc Cert.DMergedIdeal.main_arg0) = m ((c.tc : Thread Cert.DMergedIdeal.nD Cert.DMergedIdeal.τ).loc Cert.DMergedIdeal.main_arg0)
      ∧ r.2.mem ((c.tc : Thread Cert.DMergedIdeal.nD Cert.DMergedIdeal.τ).loc Cert.DMergedIdeal.main_arg1) = m ((c.tc : Thread Cert.DMergedIdeal.nD Cert.DMergedIdeal.τ).loc Cert.DMergedIdeal.main_arg1)
      ∧ r.2.mem ((c.tc : Thread Cert.DMergedIdeal.nD Cert.DMergedIdeal.τ).loc Cert.DMergedIdeal.main_arg2) = m ((c.tc : Thread Cert.DMergedIdeal.nD Cert.DMergedIdeal.τ).loc Cert.DMergedIdeal.main_arg2)
      ∧ r.2.mem ((c.tc : Thread Cert.DMergedIdeal.nD Cert.DMergedIdeal.τ).loc Cert.DMergedIdeal.main_arg3) = m ((c.tc : Thread Cert.DMergedIdeal.nD Cert.DMergedIdeal.τ).loc Cert.DMergedIdeal.main_arg3)
      ∧ r.2.mem ((c.tc : Thread Cert.DMergedIdeal.nD Cert.DMergedIdeal.τ).loc Cert.DMergedIdeal.main_arg4) = m ((c.tc : Thread Cert.DMergedIdeal.nD Cert.DMergedIdeal.τ).loc Cert.DMergedIdeal.main_arg4))
      ∧ r.2.sem = fun _ => 0)

def quiescent_DMergedRefIdeal [hDMergedRefIdeal : Cert.DMergedRefIdeal.Facts] : Prop :=
  ∀ (m : (ℓ : Loc Cert.DMergedRefIdeal.nD Cert.DMergedRefIdeal.τ Cert.DMergedRefIdeal.sig) → Buf (Elt Ideal) ℓ) (g : Dev Cert.DMergedRefIdeal.nD → PrngReg), Pre_DMergedRefIdeal m →
    θ_run (Cert.DMergedRefIdeal.defs (F := Ideal)) (onTc (τ := Cert.DMergedRefIdeal.τ) (Cert.DMergedRefIdeal.main (F := Ideal))) ⟨m, fun _ => 0, g⟩ (fun r => (∀ c : Dev Cert.DMergedRefIdeal.nD,
      r.2.mem ((c.tc : Thread Cert.DMergedRefIdeal.nD Cert.DMergedRefIdeal.τ).loc Cert.DMergedRefIdeal.main_arg0) = m ((c.tc : Thread Cert.DMergedRefIdeal.nD Cert.DMergedRefIdeal.τ).loc Cert.DMergedRefIdeal.main_arg0)
      ∧ r.2.mem ((c.tc : Thread Cert.DMergedRefIdeal.nD Cert.DMergedRefIdeal.τ).loc Cert.DMergedRefIdeal.main_arg1) = m ((c.tc : Thread Cert.DMergedRefIdeal.nD Cert.DMergedRefIdeal.τ).loc Cert.DMergedRefIdeal.main_arg1)
      ∧ r.2.mem ((c.tc : Thread Cert.DMergedRefIdeal.nD Cert.DMergedRefIdeal.τ).loc Cert.DMergedRefIdeal.main_arg2) = m ((c.tc : Thread Cert.DMergedRefIdeal.nD Cert.DMergedRefIdeal.τ).loc Cert.DMergedRefIdeal.main_arg2)
      ∧ r.2.mem ((c.tc : Thread Cert.DMergedRefIdeal.nD Cert.DMergedRefIdeal.τ).loc Cert.DMergedRefIdeal.main_arg3) = m ((c.tc : Thread Cert.DMergedRefIdeal.nD Cert.DMergedRefIdeal.τ).loc Cert.DMergedRefIdeal.main_arg3)
      ∧ r.2.mem ((c.tc : Thread Cert.DMergedRefIdeal.nD Cert.DMergedRefIdeal.τ).loc Cert.DMergedRefIdeal.main_arg4) = m ((c.tc : Thread Cert.DMergedRefIdeal.nD Cert.DMergedRefIdeal.τ).loc Cert.DMergedRefIdeal.main_arg4))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3))
      ∧ r.2.sem = fun _ => 0)

def quiescent_RmsFwd [hRmsFwd : Cert.RmsFwd.Facts] : Prop :=
  ∀ (m : (ℓ : Loc Cert.RmsFwd.nD Cert.RmsFwd.τ Cert.RmsFwd.sig) → Buf (Elt Bits) ℓ) (g : Dev Cert.RmsFwd.nD → PrngReg), Pre_RmsFwd m →
    θ_run (Cert.RmsFwd.defs (F := Bits)) (onTc (τ := Cert.RmsFwd.τ) (Cert.RmsFwd.main (F := Bits))) ⟨m, fun _ => 0, g⟩ (fun r => (∀ c : Dev Cert.RmsFwd.nD,
      r.2.mem ((c.tc : Thread Cert.RmsFwd.nD Cert.RmsFwd.τ).loc Cert.RmsFwd.main_arg0) = m ((c.tc : Thread Cert.RmsFwd.nD Cert.RmsFwd.τ).loc Cert.RmsFwd.main_arg0)
      ∧ r.2.mem ((c.tc : Thread Cert.RmsFwd.nD Cert.RmsFwd.τ).loc Cert.RmsFwd.main_arg1) = m ((c.tc : Thread Cert.RmsFwd.nD Cert.RmsFwd.τ).loc Cert.RmsFwd.main_arg1))
      ∧ r.2.sem = fun _ => 0)

def quiescent_RmsFwdIdeal [hRmsFwdIdeal : Cert.RmsFwdIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg), Pre_RmsFwdIdeal m →
    θ_run (Cert.RmsFwdIdeal.defs (F := Ideal)) (onTc (τ := Cert.RmsFwdIdeal.τ) (Cert.RmsFwdIdeal.main (F := Ideal))) ⟨m, fun _ => 0, g⟩ (fun r => (∀ c : Dev Cert.RmsFwdIdeal.nD,
      r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
      ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ r.2.sem = fun _ => 0)

def quiescent_RmsFwdRefIdeal [hRmsFwdRefIdeal : Cert.RmsFwdRefIdeal.Facts] : Prop :=
  ∀ (m : (ℓ : Loc Cert.RmsFwdRefIdeal.nD Cert.RmsFwdRefIdeal.τ Cert.RmsFwdRefIdeal.sig) → Buf (Elt Ideal) ℓ) (g : Dev Cert.RmsFwdRefIdeal.nD → PrngReg), Pre_RmsFwdRefIdeal m →
    θ_run (Cert.RmsFwdRefIdeal.defs (F := Ideal)) (onTc (τ := Cert.RmsFwdRefIdeal.τ) (Cert.RmsFwdRefIdeal.main (F := Ideal))) ⟨m, fun _ => 0, g⟩ (fun r => (∀ c : Dev Cert.RmsFwdRefIdeal.nD,
      r.2.mem ((c.tc : Thread Cert.RmsFwdRefIdeal.nD Cert.RmsFwdRefIdeal.τ).loc Cert.RmsFwdRefIdeal.main_arg0) = m ((c.tc : Thread Cert.RmsFwdRefIdeal.nD Cert.RmsFwdRefIdeal.τ).loc Cert.RmsFwdRefIdeal.main_arg0)
      ∧ r.2.mem ((c.tc : Thread Cert.RmsFwdRefIdeal.nD Cert.RmsFwdRefIdeal.τ).loc Cert.RmsFwdRefIdeal.main_arg1) = m ((c.tc : Thread Cert.RmsFwdRefIdeal.nD Cert.RmsFwdRefIdeal.τ).loc Cert.RmsFwdRefIdeal.main_arg1))
      ∧ r.2.sem = fun _ => 0)

def quiescent_RmsBwd [hRmsBwd : Cert.RmsBwd.Facts] : Prop :=
  ∀ (m : (ℓ : Loc Cert.RmsBwd.nD Cert.RmsBwd.τ Cert.RmsBwd.sig) → Buf (Elt Bits) ℓ) (g : Dev Cert.RmsBwd.nD → PrngReg), Pre_RmsBwd m →
    θ_run (Cert.RmsBwd.defs (F := Bits)) (onTc (τ := Cert.RmsBwd.τ) (Cert.RmsBwd.main (F := Bits))) ⟨m, fun _ => 0, g⟩ (fun r => (∀ c : Dev Cert.RmsBwd.nD,
      r.2.mem ((c.tc : Thread Cert.RmsBwd.nD Cert.RmsBwd.τ).loc Cert.RmsBwd.main_arg0) = m ((c.tc : Thread Cert.RmsBwd.nD Cert.RmsBwd.τ).loc Cert.RmsBwd.main_arg0)
      ∧ r.2.mem ((c.tc : Thread Cert.RmsBwd.nD Cert.RmsBwd.τ).loc Cert.RmsBwd.main_arg1) = m ((c.tc : Thread Cert.RmsBwd.nD Cert.RmsBwd.τ).loc Cert.RmsBwd.main_arg1)
      ∧ r.2.mem ((c.tc : Thread Cert.RmsBwd.nD Cert.RmsBwd.τ).loc Cert.RmsBwd.main_arg2) = m ((c.tc : Thread Cert.RmsBwd.nD Cert.RmsBwd.τ).loc Cert.RmsBwd.main_arg2)
      ∧ r.2.mem ((c.tc : Thread Cert.RmsBwd.nD Cert.RmsBwd.τ).loc Cert.RmsBwd.main_arg3) = m ((c.tc : Thread Cert.RmsBwd.nD Cert.RmsBwd.τ).loc Cert.RmsBwd.main_arg3))
      ∧ r.2.sem = fun _ => 0)

def quiescent_RmsBwdIdeal [hRmsBwdIdeal : Cert.RmsBwdIdeal.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg), Pre_RmsBwdIdeal m →
    θ_run (Cert.RmsBwdIdeal.defs (F := Ideal)) (onTc (τ := Cert.RmsBwdIdeal.τ) (Cert.RmsBwdIdeal.main (F := Ideal))) ⟨m, fun _ => 0, g⟩ (fun r => (∀ c : Dev Cert.RmsBwdIdeal.nD,
      r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
      ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
      ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
      ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ r.2.sem = fun _ => 0)

def quiescent_RmsBwdRefIdeal [hRmsBwdRefIdeal : Cert.RmsBwdRefIdeal.Facts] : Prop :=
  ∀ (m : (ℓ : Loc Cert.RmsBwdRefIdeal.nD Cert.RmsBwdRefIdeal.τ Cert.RmsBwdRefIdeal.sig) → Buf (Elt Ideal) ℓ) (g : Dev Cert.RmsBwdRefIdeal.nD → PrngReg), Pre_RmsBwdRefIdeal m →
    θ_run (Cert.RmsBwdRefIdeal.defs (F := Ideal)) (onTc (τ := Cert.RmsBwdRefIdeal.τ) (Cert.RmsBwdRefIdeal.main (F := Ideal))) ⟨m, fun _ => 0, g⟩ (fun r => (∀ c : Dev Cert.RmsBwdRefIdeal.nD,
      r.2.mem ((c.tc : Thread Cert.RmsBwdRefIdeal.nD Cert.RmsBwdRefIdeal.τ).loc Cert.RmsBwdRefIdeal.main_arg0) = m ((c.tc : Thread Cert.RmsBwdRefIdeal.nD Cert.RmsBwdRefIdeal.τ).loc Cert.RmsBwdRefIdeal.main_arg0)
      ∧ r.2.mem ((c.tc : Thread Cert.RmsBwdRefIdeal.nD Cert.RmsBwdRefIdeal.τ).loc Cert.RmsBwdRefIdeal.main_arg1) = m ((c.tc : Thread Cert.RmsBwdRefIdeal.nD Cert.RmsBwdRefIdeal.τ).loc Cert.RmsBwdRefIdeal.main_arg1)
      ∧ r.2.mem ((c.tc : Thread Cert.RmsBwdRefIdeal.nD Cert.RmsBwdRefIdeal.τ).loc Cert.RmsBwdRefIdeal.main_arg2) = m ((c.tc : Thread Cert.RmsBwdRefIdeal.nD Cert.RmsBwdRefIdeal.τ).loc Cert.RmsBwdRefIdeal.main_arg2)
      ∧ r.2.mem ((c.tc : Thread Cert.RmsBwdRefIdeal.nD Cert.RmsBwdRefIdeal.τ).loc Cert.RmsBwdRefIdeal.main_arg3) = m ((c.tc : Thread Cert.RmsBwdRefIdeal.nD Cert.RmsBwdRefIdeal.τ).loc Cert.RmsBwdRefIdeal.main_arg3))
      ∧ r.2.sem = fun _ => 0)

def quiescent_DbQkv [hDbQkv : Cert.DbQkv.Facts] : Prop :=
  ∀ (m : (ℓ : Loc Cert.DbQkv.nD Cert.DbQkv.τ Cert.DbQkv.sig) → Buf (Elt Bits) ℓ) (g : Dev Cert.DbQkv.nD → PrngReg), Pre_DbQkv m →
    θ_run (Cert.DbQkv.defs (F := Bits)) (onTc (τ := Cert.DbQkv.τ) (Cert.DbQkv.main (F := Bits))) ⟨m, fun _ => 0, g⟩ (fun r => (∀ c : Dev Cert.DbQkv.nD,
      r.2.mem ((c.tc : Thread Cert.DbQkv.nD Cert.DbQkv.τ).loc Cert.DbQkv.main_arg0) = m ((c.tc : Thread Cert.DbQkv.nD Cert.DbQkv.τ).loc Cert.DbQkv.main_arg0))
      ∧ r.2.sem = fun _ => 0)

def quiescent_DbQkvIdeal [hDbQkvIdeal : Cert.DbQkvIdeal.Facts] : Prop :=
  ∀ (m : (ℓ : Loc Cert.DbQkvIdeal.nD Cert.DbQkvIdeal.τ Cert.DbQkvIdeal.sig) → Buf (Elt Ideal) ℓ) (g : Dev Cert.DbQkvIdeal.nD → PrngReg), Pre_DbQkvIdeal m →
    θ_run (Cert.DbQkvIdeal.defs (F := Ideal)) (onTc (τ := Cert.DbQkvIdeal.τ) (Cert.DbQkvIdeal.main (F := Ideal))) ⟨m, fun _ => 0, g⟩ (fun r => (∀ c : Dev Cert.DbQkvIdeal.nD,
      r.2.mem ((c.tc : Thread Cert.DbQkvIdeal.nD Cert.DbQkvIdeal.τ).loc Cert.DbQkvIdeal.main_arg0) = m ((c.tc : Thread Cert.DbQkvIdeal.nD Cert.DbQkvIdeal.τ).loc Cert.DbQkvIdeal.main_arg0))
      ∧ r.2.sem = fun _ => 0)

def quiescent_DbQkvRefIdeal [hDbQkvRefIdeal : Cert.DbQkvRefIdeal.Facts] : Prop :=
  ∀ (m : (ℓ : Loc Cert.DbQkvRefIdeal.nD Cert.DbQkvRefIdeal.τ Cert.DbQkvRefIdeal.sig) → Buf (Elt Ideal) ℓ) (g : Dev Cert.DbQkvRefIdeal.nD → PrngReg), Pre_DbQkvRefIdeal m →
    θ_run (Cert.DbQkvRefIdeal.defs (F := Ideal)) (onTc (τ := Cert.DbQkvRefIdeal.τ) (Cert.DbQkvRefIdeal.main (F := Ideal))) ⟨m, fun _ => 0, g⟩ (fun r => (∀ c : Dev Cert.DbQkvRefIdeal.nD,
      r.2.mem ((c.tc : Thread Cert.DbQkvRefIdeal.nD Cert.DbQkvRefIdeal.τ).loc Cert.DbQkvRefIdeal.main_arg0) = m ((c.tc : Thread Cert.DbQkvRefIdeal.nD Cert.DbQkvRefIdeal.τ).loc Cert.DbQkvRefIdeal.main_arg0))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1)
      ∧ r.2.mem ((c.tc : Thread Cert.AttnFwd.nD Cert.AttnFwd.τ).loc Cert.AttnFwd.main_arg2) = m ((c.tc : Thread Cert.AttnFwd.nD Cert.AttnFwd.τ).loc Cert.AttnFwd.main_arg2)
      ∧ r.2.mem ((c.tc : Thread Cert.AttnFwd.nD Cert.AttnFwd.τ).loc Cert.AttnFwd.main_arg3) = m ((c.tc : Thread Cert.AttnFwd.nD Cert.AttnFwd.τ).loc Cert.AttnFwd.main_arg3))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
      ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3))
      ∧ r.2.sem = fun _ => 0)

def quiescent_AttnFwdIdeal_pre_all_finite_attn [hAttnFwdIdeal : Cert.AttnFwdIdeal.Facts] [hPre_all_finite_attn : Cert.Pre_all_finite_attn.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal_all_finite_attn m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
      ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2)
      ∧ r.2.mem ((c.tc : Thread Cert.AttnFwdRefIdeal.nD Cert.AttnFwdRefIdeal.τ).loc Cert.AttnFwdRefIdeal.main_arg3) = m ((c.tc : Thread Cert.AttnFwdRefIdeal.nD Cert.AttnFwdRefIdeal.τ).loc Cert.AttnFwdRefIdeal.main_arg3))
      ∧ r.2.sem = fun _ => 0)

def quiescent_AttnFwdRefIdeal_pre_all_finite_attn [hAttnFwdRefIdeal : Cert.AttnFwdRefIdeal.Facts] [hPre_all_finite_attn : Cert.Pre_all_finite_attn.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal_all_finite_attn m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2)
      ∧ r.2.mem ((c.tc : Thread Cert.AttnFwdRefIdeal.nD Cert.AttnFwdRefIdeal.τ).loc Cert.AttnFwdRefIdeal.main_arg3) = m ((c.tc : Thread Cert.AttnFwdRefIdeal.nD Cert.AttnFwdRefIdeal.τ).loc Cert.AttnFwdRefIdeal.main_arg3))
      ∧ r.2.sem = fun _ => 0)

def preserves_Kernel_KernelIdeal : Prop :=
  IdealRules.named_const.Statement Cert.KernelIdeal.κ "inv_sqrt2" .f32 0x3F3504F3#32 (((Real.sqrt 2)⁻¹ : ℝ) : EReal)
  ∧ IdealRules.named_const.Statement Cert.KernelIdeal.κ "inv_sqrt2pi" .f32 0x3ECC422A#32 (((Real.sqrt (2 * Real.pi))⁻¹ : ℝ) : EReal)

def algebraic_KernelIdeal_ReferenceIdeal_pre_all_finite [hKernelIdeal : Cert.KernelIdeal.Facts] [hReferenceIdeal : Cert.ReferenceIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_all_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)) (v4 : (c : Dev Cert.KernelIdeal.nD) → Buf (Elt Ideal) ((c.tc : Thread Cert.KernelIdeal.nD Cert.KernelIdeal.τ).loc Cert.KernelIdeal.main_v4_4)) (v5 : (c : Dev Cert.KernelIdeal.nD) → Buf (Elt Ideal) ((c.tc : Thread Cert.KernelIdeal.nD Cert.KernelIdeal.τ).loc Cert.KernelIdeal.main_v4_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_v4_4) = v4 c
          ∧ r.2.mem ((c.tc : Thread Cert.KernelIdeal.nD Cert.KernelIdeal.τ).loc Cert.KernelIdeal.main_v4_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_v129) = v1 c
          ∧ r.2.mem ((c.tc : Thread Cert.ReferenceIdeal.nD Cert.ReferenceIdeal.τ).loc Cert.ReferenceIdeal.main_v130) = v2 c
          ∧ r.2.mem ((c.tc : Thread Cert.ReferenceIdeal.nD Cert.ReferenceIdeal.τ).loc Cert.ReferenceIdeal.main_v78) = v3 c
          ∧ r.2.mem ((c.tc : Thread Cert.ReferenceIdeal.nD Cert.ReferenceIdeal.τ).loc Cert.ReferenceIdeal.main_v131) = v4 c
          ∧ r.2.mem ((c.tc : Thread Cert.ReferenceIdeal.nD Cert.ReferenceIdeal.τ).loc Cert.ReferenceIdeal.main_v133) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_DHn_DHnIdeal : Prop :=
  True

def algebraic_DHnIdeal_DHnRefIdeal [hDHnIdeal : Cert.DHnIdeal.Facts] [hDHnRefIdeal : Cert.DHnRefIdeal.Facts] : Prop :=
  ∀ (m : (ℓ : Loc Cert.DHnIdeal.nD Cert.DHnIdeal.τ Cert.DHnIdeal.sig) → Buf (Elt Ideal) ℓ) (g : Dev Cert.DHnIdeal.nD → PrngReg)
    (m' : (ℓ : Loc Cert.DHnRefIdeal.nD Cert.DHnRefIdeal.τ Cert.DHnRefIdeal.sig) → Buf (Elt Ideal) ℓ) (g' : Dev Cert.DHnRefIdeal.nD → PrngReg), Pre_DHnIdeal m →
    (∀ c : Dev Cert.DHnIdeal.nD,
      m' ((c.tc : Thread Cert.DHnRefIdeal.nD Cert.DHnRefIdeal.τ).loc Cert.DHnRefIdeal.main_arg0) = m ((c.tc : Thread Cert.DHnIdeal.nD Cert.DHnIdeal.τ).loc Cert.DHnIdeal.main_arg0)
      ∧ m' ((c.tc : Thread Cert.DHnRefIdeal.nD Cert.DHnRefIdeal.τ).loc Cert.DHnRefIdeal.main_arg1) = m ((c.tc : Thread Cert.DHnIdeal.nD Cert.DHnIdeal.τ).loc Cert.DHnIdeal.main_arg1)) →
    ∃ (v0 : (c : Dev Cert.DHnIdeal.nD) → Buf (Elt Ideal) ((c.tc : Thread Cert.DHnIdeal.nD Cert.DHnIdeal.τ).loc Cert.DHnIdeal.main_v0)),
      θ_run (Cert.DHnIdeal.defs (F := Ideal)) (onTc (τ := Cert.DHnIdeal.τ) (Cert.DHnIdeal.main (F := Ideal))) ⟨m, fun _ => 0, g⟩ (fun r => ∀ c : Dev Cert.DHnIdeal.nD,
          r.2.mem ((c.tc : Thread Cert.DHnIdeal.nD Cert.DHnIdeal.τ).loc Cert.DHnIdeal.main_v0) = v0 c
          ∧ r.2.mem ((c.tc : Thread Cert.DHnIdeal.nD Cert.DHnIdeal.τ).loc Cert.DHnIdeal.main_arg0) = m ((c.tc : Thread Cert.DHnIdeal.nD Cert.DHnIdeal.τ).loc Cert.DHnIdeal.main_arg0)
          ∧ r.2.mem ((c.tc : Thread Cert.DHnIdeal.nD Cert.DHnIdeal.τ).loc Cert.DHnIdeal.main_arg1) = m ((c.tc : Thread Cert.DHnIdeal.nD Cert.DHnIdeal.τ).loc Cert.DHnIdeal.main_arg1))
      ∧ θ_run (Cert.DHnRefIdeal.defs (F := Ideal)) (onTc (τ := Cert.DHnRefIdeal.τ) (Cert.DHnRefIdeal.main (F := Ideal))) ⟨m', fun _ => 0, g'⟩ (fun r => ∀ c : Dev Cert.DHnRefIdeal.nD,
          r.2.mem ((c.tc : Thread Cert.DHnRefIdeal.nD Cert.DHnRefIdeal.τ).loc Cert.DHnRefIdeal.main_v5) = v0 c
          ∧ r.2.mem ((c.tc : Thread Cert.DHnRefIdeal.nD Cert.DHnRefIdeal.τ).loc Cert.DHnRefIdeal.main_arg0) = m' ((c.tc : Thread Cert.DHnRefIdeal.nD Cert.DHnRefIdeal.τ).loc Cert.DHnRefIdeal.main_arg0)
          ∧ r.2.mem ((c.tc : Thread Cert.DHnRefIdeal.nD Cert.DHnRefIdeal.τ).loc Cert.DHnRefIdeal.main_arg1) = m' ((c.tc : Thread Cert.DHnRefIdeal.nD Cert.DHnRefIdeal.τ).loc Cert.DHnRefIdeal.main_arg1))

def preserves_DwGateUp_DwGateUpIdeal : Prop :=
  True

def algebraic_DwGateUpIdeal_DwGateUpRefIdeal [hDwGateUpIdeal : Cert.DwGateUpIdeal.Facts] [hDwGateUpRefIdeal : Cert.DwGateUpRefIdeal.Facts] : Prop :=
  ∀ (m : (ℓ : Loc Cert.DwGateUpIdeal.nD Cert.DwGateUpIdeal.τ Cert.DwGateUpIdeal.sig) → Buf (Elt Ideal) ℓ) (g : Dev Cert.DwGateUpIdeal.nD → PrngReg)
    (m' : (ℓ : Loc Cert.DwGateUpRefIdeal.nD Cert.DwGateUpRefIdeal.τ Cert.DwGateUpRefIdeal.sig) → Buf (Elt Ideal) ℓ) (g' : Dev Cert.DwGateUpRefIdeal.nD → PrngReg), Pre_DwGateUpIdeal m →
    (∀ c : Dev Cert.DwGateUpIdeal.nD,
      m' ((c.tc : Thread Cert.DwGateUpRefIdeal.nD Cert.DwGateUpRefIdeal.τ).loc Cert.DwGateUpRefIdeal.main_arg0) = m ((c.tc : Thread Cert.DwGateUpIdeal.nD Cert.DwGateUpIdeal.τ).loc Cert.DwGateUpIdeal.main_arg0)
      ∧ m' ((c.tc : Thread Cert.DwGateUpRefIdeal.nD Cert.DwGateUpRefIdeal.τ).loc Cert.DwGateUpRefIdeal.main_arg1) = m ((c.tc : Thread Cert.DwGateUpIdeal.nD Cert.DwGateUpIdeal.τ).loc Cert.DwGateUpIdeal.main_arg1)) →
    ∃ (v0 : (c : Dev Cert.DwGateUpIdeal.nD) → Buf (Elt Ideal) ((c.tc : Thread Cert.DwGateUpIdeal.nD Cert.DwGateUpIdeal.τ).loc Cert.DwGateUpIdeal.main_v0)),
      θ_run (Cert.DwGateUpIdeal.defs (F := Ideal)) (onTc (τ := Cert.DwGateUpIdeal.τ) (Cert.DwGateUpIdeal.main (F := Ideal))) ⟨m, fun _ => 0, g⟩ (fun r => ∀ c : Dev Cert.DwGateUpIdeal.nD,
          r.2.mem ((c.tc : Thread Cert.DwGateUpIdeal.nD Cert.DwGateUpIdeal.τ).loc Cert.DwGateUpIdeal.main_v0) = v0 c
          ∧ r.2.mem ((c.tc : Thread Cert.DwGateUpIdeal.nD Cert.DwGateUpIdeal.τ).loc Cert.DwGateUpIdeal.main_arg0) = m ((c.tc : Thread Cert.DwGateUpIdeal.nD Cert.DwGateUpIdeal.τ).loc Cert.DwGateUpIdeal.main_arg0)
          ∧ r.2.mem ((c.tc : Thread Cert.DwGateUpIdeal.nD Cert.DwGateUpIdeal.τ).loc Cert.DwGateUpIdeal.main_arg1) = m ((c.tc : Thread Cert.DwGateUpIdeal.nD Cert.DwGateUpIdeal.τ).loc Cert.DwGateUpIdeal.main_arg1))
      ∧ θ_run (Cert.DwGateUpRefIdeal.defs (F := Ideal)) (onTc (τ := Cert.DwGateUpRefIdeal.τ) (Cert.DwGateUpRefIdeal.main (F := Ideal))) ⟨m', fun _ => 0, g'⟩ (fun r => ∀ c : Dev Cert.DwGateUpRefIdeal.nD,
          r.2.mem ((c.tc : Thread Cert.DwGateUpRefIdeal.nD Cert.DwGateUpRefIdeal.τ).loc Cert.DwGateUpRefIdeal.main_v6) = v0 c
          ∧ r.2.mem ((c.tc : Thread Cert.DwGateUpRefIdeal.nD Cert.DwGateUpRefIdeal.τ).loc Cert.DwGateUpRefIdeal.main_arg0) = m' ((c.tc : Thread Cert.DwGateUpRefIdeal.nD Cert.DwGateUpRefIdeal.τ).loc Cert.DwGateUpRefIdeal.main_arg0)
          ∧ r.2.mem ((c.tc : Thread Cert.DwGateUpRefIdeal.nD Cert.DwGateUpRefIdeal.τ).loc Cert.DwGateUpRefIdeal.main_arg1) = m' ((c.tc : Thread Cert.DwGateUpRefIdeal.nD Cert.DwGateUpRefIdeal.τ).loc Cert.DwGateUpRefIdeal.main_arg1))

def preserves_DwDown_DwDownIdeal : Prop :=
  True

def algebraic_DwDownIdeal_DwDownRefIdeal [hDwDownIdeal : Cert.DwDownIdeal.Facts] [hDwDownRefIdeal : Cert.DwDownRefIdeal.Facts] : Prop :=
  ∀ (m : (ℓ : Loc Cert.DwDownIdeal.nD Cert.DwDownIdeal.τ Cert.DwDownIdeal.sig) → Buf (Elt Ideal) ℓ) (g : Dev Cert.DwDownIdeal.nD → PrngReg)
    (m' : (ℓ : Loc Cert.DwDownRefIdeal.nD Cert.DwDownRefIdeal.τ Cert.DwDownRefIdeal.sig) → Buf (Elt Ideal) ℓ) (g' : Dev Cert.DwDownRefIdeal.nD → PrngReg), Pre_DwDownIdeal m →
    (∀ c : Dev Cert.DwDownIdeal.nD,
      m' ((c.tc : Thread Cert.DwDownRefIdeal.nD Cert.DwDownRefIdeal.τ).loc Cert.DwDownRefIdeal.main_arg0) = m ((c.tc : Thread Cert.DwDownIdeal.nD Cert.DwDownIdeal.τ).loc Cert.DwDownIdeal.main_arg0)
      ∧ m' ((c.tc : Thread Cert.DwDownRefIdeal.nD Cert.DwDownRefIdeal.τ).loc Cert.DwDownRefIdeal.main_arg1) = m ((c.tc : Thread Cert.DwDownIdeal.nD Cert.DwDownIdeal.τ).loc Cert.DwDownIdeal.main_arg1)) →
    ∃ (v0 : (c : Dev Cert.DwDownIdeal.nD) → Buf (Elt Ideal) ((c.tc : Thread Cert.DwDownIdeal.nD Cert.DwDownIdeal.τ).loc Cert.DwDownIdeal.main_v0)),
      θ_run (Cert.DwDownIdeal.defs (F := Ideal)) (onTc (τ := Cert.DwDownIdeal.τ) (Cert.DwDownIdeal.main (F := Ideal))) ⟨m, fun _ => 0, g⟩ (fun r => ∀ c : Dev Cert.DwDownIdeal.nD,
          r.2.mem ((c.tc : Thread Cert.DwDownIdeal.nD Cert.DwDownIdeal.τ).loc Cert.DwDownIdeal.main_v0) = v0 c
          ∧ r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
          ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ θ_run (Cert.DwDownRefIdeal.defs (F := Ideal)) (onTc (τ := Cert.DwDownRefIdeal.τ) (Cert.DwDownRefIdeal.main (F := Ideal))) ⟨m', fun _ => 0, g'⟩ (fun r => ∀ c : Dev Cert.DwDownRefIdeal.nD,
          r.2.mem ((c.tc : Thread Cert.DwDownRefIdeal.nD Cert.DwDownRefIdeal.τ).loc Cert.DwDownRefIdeal.main_v6) = v0 c
          ∧ r.2.mem ((c.tc : Thread Cert.DwDownRefIdeal.nD Cert.DwDownRefIdeal.τ).loc Cert.DwDownRefIdeal.main_arg0) = m' ((c.tc : Thread Cert.DwDownRefIdeal.nD Cert.DwDownRefIdeal.τ).loc Cert.DwDownRefIdeal.main_arg0)
          ∧ r.2.mem ((c.tc : Thread Cert.DwDownRefIdeal.nD Cert.DwDownRefIdeal.τ).loc Cert.DwDownRefIdeal.main_arg1) = m' ((c.tc : Thread Cert.DwDownRefIdeal.nD Cert.DwDownRefIdeal.τ).loc Cert.DwDownRefIdeal.main_arg1))

def preserves_DwSquare_DwSquareIdeal : Prop :=
  True

def algebraic_DwSquareIdeal_DwSquareRefIdeal [hDwSquareIdeal : Cert.DwSquareIdeal.Facts] [hDwSquareRefIdeal : Cert.DwSquareRefIdeal.Facts] : Prop :=
  ∀ (m : (ℓ : Loc Cert.DwSquareIdeal.nD Cert.DwSquareIdeal.τ Cert.DwSquareIdeal.sig) → Buf (Elt Ideal) ℓ) (g : Dev Cert.DwSquareIdeal.nD → PrngReg)
    (m' : (ℓ : Loc Cert.DwSquareRefIdeal.nD Cert.DwSquareRefIdeal.τ Cert.DwSquareRefIdeal.sig) → Buf (Elt Ideal) ℓ) (g' : Dev Cert.DwSquareRefIdeal.nD → PrngReg), Pre_DwSquareIdeal m →
    (∀ c : Dev Cert.DwSquareIdeal.nD,
      m' ((c.tc : Thread Cert.DwSquareRefIdeal.nD Cert.DwSquareRefIdeal.τ).loc Cert.DwSquareRefIdeal.main_arg0) = m ((c.tc : Thread Cert.DwSquareIdeal.nD Cert.DwSquareIdeal.τ).loc Cert.DwSquareIdeal.main_arg0)
      ∧ m' ((c.tc : Thread Cert.DwSquareRefIdeal.nD Cert.DwSquareRefIdeal.τ).loc Cert.DwSquareRefIdeal.main_arg1) = m ((c.tc : Thread Cert.DwSquareIdeal.nD Cert.DwSquareIdeal.τ).loc Cert.DwSquareIdeal.main_arg1)) →
    ∃ (v0 : (c : Dev Cert.DwSquareIdeal.nD) → Buf (Elt Ideal) ((c.tc : Thread Cert.DwSquareIdeal.nD Cert.DwSquareIdeal.τ).loc Cert.DwSquareIdeal.main_v0)),
      θ_run (Cert.DwSquareIdeal.defs (F := Ideal)) (onTc (τ := Cert.DwSquareIdeal.τ) (Cert.DwSquareIdeal.main (F := Ideal))) ⟨m, fun _ => 0, g⟩ (fun r => ∀ c : Dev Cert.DwSquareIdeal.nD,
          r.2.mem ((c.tc : Thread Cert.DwSquareIdeal.nD Cert.DwSquareIdeal.τ).loc Cert.DwSquareIdeal.main_v0) = v0 c
          ∧ r.2.mem ((c.tc : Thread Cert.DwSquareIdeal.nD Cert.DwSquareIdeal.τ).loc Cert.DwSquareIdeal.main_arg0) = m ((c.tc : Thread Cert.DwSquareIdeal.nD Cert.DwSquareIdeal.τ).loc Cert.DwSquareIdeal.main_arg0)
          ∧ r.2.mem ((c.tc : Thread Cert.DwSquareIdeal.nD Cert.DwSquareIdeal.τ).loc Cert.DwSquareIdeal.main_arg1) = m ((c.tc : Thread Cert.DwSquareIdeal.nD Cert.DwSquareIdeal.τ).loc Cert.DwSquareIdeal.main_arg1))
      ∧ θ_run (Cert.DwSquareRefIdeal.defs (F := Ideal)) (onTc (τ := Cert.DwSquareRefIdeal.τ) (Cert.DwSquareRefIdeal.main (F := Ideal))) ⟨m', fun _ => 0, g'⟩ (fun r => ∀ c : Dev Cert.DwSquareRefIdeal.nD,
          r.2.mem ((c.tc : Thread Cert.DwSquareRefIdeal.nD Cert.DwSquareRefIdeal.τ).loc Cert.DwSquareRefIdeal.main_v6) = v0 c
          ∧ r.2.mem ((c.tc : Thread Cert.DwSquareRefIdeal.nD Cert.DwSquareRefIdeal.τ).loc Cert.DwSquareRefIdeal.main_arg0) = m' ((c.tc : Thread Cert.DwSquareRefIdeal.nD Cert.DwSquareRefIdeal.τ).loc Cert.DwSquareRefIdeal.main_arg0)
          ∧ r.2.mem ((c.tc : Thread Cert.DwSquareRefIdeal.nD Cert.DwSquareRefIdeal.τ).loc Cert.DwSquareRefIdeal.main_arg1) = m' ((c.tc : Thread Cert.DwSquareRefIdeal.nD Cert.DwSquareRefIdeal.τ).loc Cert.DwSquareRefIdeal.main_arg1))

def preserves_DwG_DwGIdeal : Prop :=
  True

def algebraic_DwGIdeal_DwGRefIdeal [hDwGIdeal : Cert.DwGIdeal.Facts] [hDwGRefIdeal : Cert.DwGRefIdeal.Facts] : Prop :=
  ∀ (m : (ℓ : Loc Cert.DwGIdeal.nD Cert.DwGIdeal.τ Cert.DwGIdeal.sig) → Buf (Elt Ideal) ℓ) (g : Dev Cert.DwGIdeal.nD → PrngReg)
    (m' : (ℓ : Loc Cert.DwGRefIdeal.nD Cert.DwGRefIdeal.τ Cert.DwGRefIdeal.sig) → Buf (Elt Ideal) ℓ) (g' : Dev Cert.DwGRefIdeal.nD → PrngReg), Pre_DwGIdeal m →
    (∀ c : Dev Cert.DwGIdeal.nD,
      m' ((c.tc : Thread Cert.DwGRefIdeal.nD Cert.DwGRefIdeal.τ).loc Cert.DwGRefIdeal.main_arg0) = m ((c.tc : Thread Cert.DwGIdeal.nD Cert.DwGIdeal.τ).loc Cert.DwGIdeal.main_arg0)
      ∧ m' ((c.tc : Thread Cert.DwGRefIdeal.nD Cert.DwGRefIdeal.τ).loc Cert.DwGRefIdeal.main_arg1) = m ((c.tc : Thread Cert.DwGIdeal.nD Cert.DwGIdeal.τ).loc Cert.DwGIdeal.main_arg1)) →
    ∃ (v0 : (c : Dev Cert.DwGIdeal.nD) → Buf (Elt Ideal) ((c.tc : Thread Cert.DwGIdeal.nD Cert.DwGIdeal.τ).loc Cert.DwGIdeal.main_v0)),
      θ_run (Cert.DwGIdeal.defs (F := Ideal)) (onTc (τ := Cert.DwGIdeal.τ) (Cert.DwGIdeal.main (F := Ideal))) ⟨m, fun _ => 0, g⟩ (fun r => ∀ c : Dev Cert.DwGIdeal.nD,
          r.2.mem ((c.tc : Thread Cert.DwGIdeal.nD Cert.DwGIdeal.τ).loc Cert.DwGIdeal.main_v0) = v0 c
          ∧ r.2.mem ((c.tc : Thread Cert.DwGIdeal.nD Cert.DwGIdeal.τ).loc Cert.DwGIdeal.main_arg0) = m ((c.tc : Thread Cert.DwGIdeal.nD Cert.DwGIdeal.τ).loc Cert.DwGIdeal.main_arg0)
          ∧ r.2.mem ((c.tc : Thread Cert.DwGIdeal.nD Cert.DwGIdeal.τ).loc Cert.DwGIdeal.main_arg1) = m ((c.tc : Thread Cert.DwGIdeal.nD Cert.DwGIdeal.τ).loc Cert.DwGIdeal.main_arg1))
      ∧ θ_run (Cert.DwGRefIdeal.defs (F := Ideal)) (onTc (τ := Cert.DwGRefIdeal.τ) (Cert.DwGRefIdeal.main (F := Ideal))) ⟨m', fun _ => 0, g'⟩ (fun r => ∀ c : Dev Cert.DwGRefIdeal.nD,
          r.2.mem ((c.tc : Thread Cert.DwGRefIdeal.nD Cert.DwGRefIdeal.τ).loc Cert.DwGRefIdeal.main_v5) = v0 c
          ∧ r.2.mem ((c.tc : Thread Cert.DwGRefIdeal.nD Cert.DwGRefIdeal.τ).loc Cert.DwGRefIdeal.main_arg0) = m' ((c.tc : Thread Cert.DwGRefIdeal.nD Cert.DwGRefIdeal.τ).loc Cert.DwGRefIdeal.main_arg0)
          ∧ r.2.mem ((c.tc : Thread Cert.DwGRefIdeal.nD Cert.DwGRefIdeal.τ).loc Cert.DwGRefIdeal.main_arg1) = m' ((c.tc : Thread Cert.DwGRefIdeal.nD Cert.DwGRefIdeal.τ).loc Cert.DwGRefIdeal.main_arg1))

def preserves_DwQkv_DwQkvIdeal : Prop :=
  True

def algebraic_DwQkvIdeal_DwQkvRefIdeal [hDwQkvIdeal : Cert.DwQkvIdeal.Facts] [hDwQkvRefIdeal : Cert.DwQkvRefIdeal.Facts] : Prop :=
  ∀ (m : (ℓ : Loc Cert.DwQkvIdeal.nD Cert.DwQkvIdeal.τ Cert.DwQkvIdeal.sig) → Buf (Elt Ideal) ℓ) (g : Dev Cert.DwQkvIdeal.nD → PrngReg)
    (m' : (ℓ : Loc Cert.DwQkvRefIdeal.nD Cert.DwQkvRefIdeal.τ Cert.DwQkvRefIdeal.sig) → Buf (Elt Ideal) ℓ) (g' : Dev Cert.DwQkvRefIdeal.nD → PrngReg), Pre_DwQkvIdeal m →
    (∀ c : Dev Cert.DwQkvIdeal.nD,
      m' ((c.tc : Thread Cert.DwQkvRefIdeal.nD Cert.DwQkvRefIdeal.τ).loc Cert.DwQkvRefIdeal.main_arg0) = m ((c.tc : Thread Cert.DwQkvIdeal.nD Cert.DwQkvIdeal.τ).loc Cert.DwQkvIdeal.main_arg0)
      ∧ m' ((c.tc : Thread Cert.DwQkvRefIdeal.nD Cert.DwQkvRefIdeal.τ).loc Cert.DwQkvRefIdeal.main_arg1) = m ((c.tc : Thread Cert.DwQkvIdeal.nD Cert.DwQkvIdeal.τ).loc Cert.DwQkvIdeal.main_arg1)) →
    ∃ (v0 : (c : Dev Cert.DwQkvIdeal.nD) → Buf (Elt Ideal) ((c.tc : Thread Cert.DwQkvIdeal.nD Cert.DwQkvIdeal.τ).loc Cert.DwQkvIdeal.main_v0)),
      θ_run (Cert.DwQkvIdeal.defs (F := Ideal)) (onTc (τ := Cert.DwQkvIdeal.τ) (Cert.DwQkvIdeal.main (F := Ideal))) ⟨m, fun _ => 0, g⟩ (fun r => ∀ c : Dev Cert.DwQkvIdeal.nD,
          r.2.mem ((c.tc : Thread Cert.DwQkvIdeal.nD Cert.DwQkvIdeal.τ).loc Cert.DwQkvIdeal.main_v0) = v0 c
          ∧ r.2.mem ((c.tc : Thread Cert.DwQkvIdeal.nD Cert.DwQkvIdeal.τ).loc Cert.DwQkvIdeal.main_arg0) = m ((c.tc : Thread Cert.DwQkvIdeal.nD Cert.DwQkvIdeal.τ).loc Cert.DwQkvIdeal.main_arg0)
          ∧ r.2.mem ((c.tc : Thread Cert.DwQkvIdeal.nD Cert.DwQkvIdeal.τ).loc Cert.DwQkvIdeal.main_arg1) = m ((c.tc : Thread Cert.DwQkvIdeal.nD Cert.DwQkvIdeal.τ).loc Cert.DwQkvIdeal.main_arg1))
      ∧ θ_run (Cert.DwQkvRefIdeal.defs (F := Ideal)) (onTc (τ := Cert.DwQkvRefIdeal.τ) (Cert.DwQkvRefIdeal.main (F := Ideal))) ⟨m', fun _ => 0, g'⟩ (fun r => ∀ c : Dev Cert.DwQkvRefIdeal.nD,
          r.2.mem ((c.tc : Thread Cert.DwQkvRefIdeal.nD Cert.DwQkvRefIdeal.τ).loc Cert.DwQkvRefIdeal.main_v5) = v0 c
          ∧ r.2.mem ((c.tc : Thread Cert.DwQkvRefIdeal.nD Cert.DwQkvRefIdeal.τ).loc Cert.DwQkvRefIdeal.main_arg0) = m' ((c.tc : Thread Cert.DwQkvRefIdeal.nD Cert.DwQkvRefIdeal.τ).loc Cert.DwQkvRefIdeal.main_arg0)
          ∧ r.2.mem ((c.tc : Thread Cert.DwQkvRefIdeal.nD Cert.DwQkvRefIdeal.τ).loc Cert.DwQkvRefIdeal.main_arg1) = m' ((c.tc : Thread Cert.DwQkvRefIdeal.nD Cert.DwQkvRefIdeal.τ).loc Cert.DwQkvRefIdeal.main_arg1))

def preserves_DwBranch_DwBranchIdeal : Prop :=
  True

def algebraic_DwBranchIdeal_DwBranchRefIdeal [hDwBranchIdeal : Cert.DwBranchIdeal.Facts] [hDwBranchRefIdeal : Cert.DwBranchRefIdeal.Facts] : Prop :=
  ∀ (m : (ℓ : Loc Cert.DwBranchIdeal.nD Cert.DwBranchIdeal.τ Cert.DwBranchIdeal.sig) → Buf (Elt Ideal) ℓ) (g : Dev Cert.DwBranchIdeal.nD → PrngReg)
    (m' : (ℓ : Loc Cert.DwBranchRefIdeal.nD Cert.DwBranchRefIdeal.τ Cert.DwBranchRefIdeal.sig) → Buf (Elt Ideal) ℓ) (g' : Dev Cert.DwBranchRefIdeal.nD → PrngReg), Pre_DwBranchIdeal m →
    (∀ c : Dev Cert.DwBranchIdeal.nD,
      m' ((c.tc : Thread Cert.DwBranchRefIdeal.nD Cert.DwBranchRefIdeal.τ).loc Cert.DwBranchRefIdeal.main_arg0) = m ((c.tc : Thread Cert.DwBranchIdeal.nD Cert.DwBranchIdeal.τ).loc Cert.DwBranchIdeal.main_arg0)
      ∧ m' ((c.tc : Thread Cert.DwBranchRefIdeal.nD Cert.DwBranchRefIdeal.τ).loc Cert.DwBranchRefIdeal.main_arg1) = m ((c.tc : Thread Cert.DwBranchIdeal.nD Cert.DwBranchIdeal.τ).loc Cert.DwBranchIdeal.main_arg1)) →
    ∃ (v0 : (c : Dev Cert.DwBranchIdeal.nD) → Buf (Elt Ideal) ((c.tc : Thread Cert.DwBranchIdeal.nD Cert.DwBranchIdeal.τ).loc Cert.DwBranchIdeal.main_v0)),
      θ_run (Cert.DwBranchIdeal.defs (F := Ideal)) (onTc (τ := Cert.DwBranchIdeal.τ) (Cert.DwBranchIdeal.main (F := Ideal))) ⟨m, fun _ => 0, g⟩ (fun r => ∀ c : Dev Cert.DwBranchIdeal.nD,
          r.2.mem ((c.tc : Thread Cert.DwBranchIdeal.nD Cert.DwBranchIdeal.τ).loc Cert.DwBranchIdeal.main_v0) = v0 c
          ∧ r.2.mem ((c.tc : Thread Cert.DwBranchIdeal.nD Cert.DwBranchIdeal.τ).loc Cert.DwBranchIdeal.main_arg0) = m ((c.tc : Thread Cert.DwBranchIdeal.nD Cert.DwBranchIdeal.τ).loc Cert.DwBranchIdeal.main_arg0)
          ∧ r.2.mem ((c.tc : Thread Cert.DwBranchIdeal.nD Cert.DwBranchIdeal.τ).loc Cert.DwBranchIdeal.main_arg1) = m ((c.tc : Thread Cert.DwBranchIdeal.nD Cert.DwBranchIdeal.τ).loc Cert.DwBranchIdeal.main_arg1))
      ∧ θ_run (Cert.DwBranchRefIdeal.defs (F := Ideal)) (onTc (τ := Cert.DwBranchRefIdeal.τ) (Cert.DwBranchRefIdeal.main (F := Ideal))) ⟨m', fun _ => 0, g'⟩ (fun r => ∀ c : Dev Cert.DwBranchRefIdeal.nD,
          r.2.mem ((c.tc : Thread Cert.DwBranchRefIdeal.nD Cert.DwBranchRefIdeal.τ).loc Cert.DwBranchRefIdeal.main_v6) = v0 c
          ∧ r.2.mem ((c.tc : Thread Cert.DwBranchRefIdeal.nD Cert.DwBranchRefIdeal.τ).loc Cert.DwBranchRefIdeal.main_arg0) = m' ((c.tc : Thread Cert.DwBranchRefIdeal.nD Cert.DwBranchRefIdeal.τ).loc Cert.DwBranchRefIdeal.main_arg0)
          ∧ r.2.mem ((c.tc : Thread Cert.DwBranchRefIdeal.nD Cert.DwBranchRefIdeal.τ).loc Cert.DwBranchRefIdeal.main_arg1) = m' ((c.tc : Thread Cert.DwBranchRefIdeal.nD Cert.DwBranchRefIdeal.τ).loc Cert.DwBranchRefIdeal.main_arg1))

def preserves_DBranch_DBranchIdeal : Prop :=
  True

def algebraic_DBranchIdeal_DBranchRefIdeal [hDBranchIdeal : Cert.DBranchIdeal.Facts] [hDBranchRefIdeal : Cert.DBranchRefIdeal.Facts] : Prop :=
  ∀ (m : (ℓ : Loc Cert.DBranchIdeal.nD Cert.DBranchIdeal.τ Cert.DBranchIdeal.sig) → Buf (Elt Ideal) ℓ) (g : Dev Cert.DBranchIdeal.nD → PrngReg)
    (m' : (ℓ : Loc Cert.DBranchRefIdeal.nD Cert.DBranchRefIdeal.τ Cert.DBranchRefIdeal.sig) → Buf (Elt Ideal) ℓ) (g' : Dev Cert.DBranchRefIdeal.nD → PrngReg), Pre_DBranchIdeal m →
    (∀ c : Dev Cert.DBranchIdeal.nD,
      m' ((c.tc : Thread Cert.DBranchRefIdeal.nD Cert.DBranchRefIdeal.τ).loc Cert.DBranchRefIdeal.main_arg0) = m ((c.tc : Thread Cert.DBranchIdeal.nD Cert.DBranchIdeal.τ).loc Cert.DBranchIdeal.main_arg0)
      ∧ m' ((c.tc : Thread Cert.DBranchRefIdeal.nD Cert.DBranchRefIdeal.τ).loc Cert.DBranchRefIdeal.main_arg1) = m ((c.tc : Thread Cert.DBranchIdeal.nD Cert.DBranchIdeal.τ).loc Cert.DBranchIdeal.main_arg1)) →
    ∃ (v0 : (c : Dev Cert.DBranchIdeal.nD) → Buf (Elt Ideal) ((c.tc : Thread Cert.DBranchIdeal.nD Cert.DBranchIdeal.τ).loc Cert.DBranchIdeal.main_v0)),
      θ_run (Cert.DBranchIdeal.defs (F := Ideal)) (onTc (τ := Cert.DBranchIdeal.τ) (Cert.DBranchIdeal.main (F := Ideal))) ⟨m, fun _ => 0, g⟩ (fun r => ∀ c : Dev Cert.DBranchIdeal.nD,
          r.2.mem ((c.tc : Thread Cert.DBranchIdeal.nD Cert.DBranchIdeal.τ).loc Cert.DBranchIdeal.main_v0) = v0 c
          ∧ r.2.mem ((c.tc : Thread Cert.DBranchIdeal.nD Cert.DBranchIdeal.τ).loc Cert.DBranchIdeal.main_arg0) = m ((c.tc : Thread Cert.DBranchIdeal.nD Cert.DBranchIdeal.τ).loc Cert.DBranchIdeal.main_arg0)
          ∧ r.2.mem ((c.tc : Thread Cert.DBranchIdeal.nD Cert.DBranchIdeal.τ).loc Cert.DBranchIdeal.main_arg1) = m ((c.tc : Thread Cert.DBranchIdeal.nD Cert.DBranchIdeal.τ).loc Cert.DBranchIdeal.main_arg1))
      ∧ θ_run (Cert.DBranchRefIdeal.defs (F := Ideal)) (onTc (τ := Cert.DBranchRefIdeal.τ) (Cert.DBranchRefIdeal.main (F := Ideal))) ⟨m', fun _ => 0, g'⟩ (fun r => ∀ c : Dev Cert.DBranchRefIdeal.nD,
          r.2.mem ((c.tc : Thread Cert.DBranchRefIdeal.nD Cert.DBranchRefIdeal.τ).loc Cert.DBranchRefIdeal.main_v5) = v0 c
          ∧ r.2.mem ((c.tc : Thread Cert.DBranchRefIdeal.nD Cert.DBranchRefIdeal.τ).loc Cert.DBranchRefIdeal.main_arg0) = m' ((c.tc : Thread Cert.DBranchRefIdeal.nD Cert.DBranchRefIdeal.τ).loc Cert.DBranchRefIdeal.main_arg0)
          ∧ r.2.mem ((c.tc : Thread Cert.DBranchRefIdeal.nD Cert.DBranchRefIdeal.τ).loc Cert.DBranchRefIdeal.main_arg1) = m' ((c.tc : Thread Cert.DBranchRefIdeal.nD Cert.DBranchRefIdeal.τ).loc Cert.DBranchRefIdeal.main_arg1))

def preserves_DXnQkv_DXnQkvIdeal : Prop :=
  True

def algebraic_DXnQkvIdeal_DXnQkvRefIdeal [hDXnQkvIdeal : Cert.DXnQkvIdeal.Facts] [hDXnQkvRefIdeal : Cert.DXnQkvRefIdeal.Facts] : Prop :=
  ∀ (m : (ℓ : Loc Cert.DXnQkvIdeal.nD Cert.DXnQkvIdeal.τ Cert.DXnQkvIdeal.sig) → Buf (Elt Ideal) ℓ) (g : Dev Cert.DXnQkvIdeal.nD → PrngReg)
    (m' : (ℓ : Loc Cert.DXnQkvRefIdeal.nD Cert.DXnQkvRefIdeal.τ Cert.DXnQkvRefIdeal.sig) → Buf (Elt Ideal) ℓ) (g' : Dev Cert.DXnQkvRefIdeal.nD → PrngReg), Pre_DXnQkvIdeal m →
    (∀ c : Dev Cert.DXnQkvIdeal.nD,
      m' ((c.tc : Thread Cert.DXnQkvRefIdeal.nD Cert.DXnQkvRefIdeal.τ).loc Cert.DXnQkvRefIdeal.main_arg0) = m ((c.tc : Thread Cert.DXnQkvIdeal.nD Cert.DXnQkvIdeal.τ).loc Cert.DXnQkvIdeal.main_arg0)
      ∧ m' ((c.tc : Thread Cert.DXnQkvRefIdeal.nD Cert.DXnQkvRefIdeal.τ).loc Cert.DXnQkvRefIdeal.main_arg1) = m ((c.tc : Thread Cert.DXnQkvIdeal.nD Cert.DXnQkvIdeal.τ).loc Cert.DXnQkvIdeal.main_arg1)) →
    ∃ (v0 : (c : Dev Cert.DXnQkvIdeal.nD) → Buf (Elt Ideal) ((c.tc : Thread Cert.DXnQkvIdeal.nD Cert.DXnQkvIdeal.τ).loc Cert.DXnQkvIdeal.main_v0)),
      θ_run (Cert.DXnQkvIdeal.defs (F := Ideal)) (onTc (τ := Cert.DXnQkvIdeal.τ) (Cert.DXnQkvIdeal.main (F := Ideal))) ⟨m, fun _ => 0, g⟩ (fun r => ∀ c : Dev Cert.DXnQkvIdeal.nD,
          r.2.mem ((c.tc : Thread Cert.DXnQkvIdeal.nD Cert.DXnQkvIdeal.τ).loc Cert.DXnQkvIdeal.main_v0) = v0 c
          ∧ r.2.mem ((c.tc : Thread Cert.DXnQkvIdeal.nD Cert.DXnQkvIdeal.τ).loc Cert.DXnQkvIdeal.main_arg0) = m ((c.tc : Thread Cert.DXnQkvIdeal.nD Cert.DXnQkvIdeal.τ).loc Cert.DXnQkvIdeal.main_arg0)
          ∧ r.2.mem ((c.tc : Thread Cert.DXnQkvIdeal.nD Cert.DXnQkvIdeal.τ).loc Cert.DXnQkvIdeal.main_arg1) = m ((c.tc : Thread Cert.DXnQkvIdeal.nD Cert.DXnQkvIdeal.τ).loc Cert.DXnQkvIdeal.main_arg1))
      ∧ θ_run (Cert.DXnQkvRefIdeal.defs (F := Ideal)) (onTc (τ := Cert.DXnQkvRefIdeal.τ) (Cert.DXnQkvRefIdeal.main (F := Ideal))) ⟨m', fun _ => 0, g'⟩ (fun r => ∀ c : Dev Cert.DXnQkvRefIdeal.nD,
          r.2.mem ((c.tc : Thread Cert.DXnQkvRefIdeal.nD Cert.DXnQkvRefIdeal.τ).loc Cert.DXnQkvRefIdeal.main_v4) = v0 c
          ∧ r.2.mem ((c.tc : Thread Cert.DXnQkvRefIdeal.nD Cert.DXnQkvRefIdeal.τ).loc Cert.DXnQkvRefIdeal.main_arg0) = m' ((c.tc : Thread Cert.DXnQkvRefIdeal.nD Cert.DXnQkvRefIdeal.τ).loc Cert.DXnQkvRefIdeal.main_arg0)
          ∧ r.2.mem ((c.tc : Thread Cert.DXnQkvRefIdeal.nD Cert.DXnQkvRefIdeal.τ).loc Cert.DXnQkvRefIdeal.main_arg1) = m' ((c.tc : Thread Cert.DXnQkvRefIdeal.nD Cert.DXnQkvRefIdeal.τ).loc Cert.DXnQkvRefIdeal.main_arg1))

def preserves_DXnZ_DXnZIdeal : Prop :=
  True

def algebraic_DXnZIdeal_DXnZRefIdeal [hDXnZIdeal : Cert.DXnZIdeal.Facts] [hDXnZRefIdeal : Cert.DXnZRefIdeal.Facts] : Prop :=
  ∀ (m : (ℓ : Loc Cert.DXnZIdeal.nD Cert.DXnZIdeal.τ Cert.DXnZIdeal.sig) → Buf (Elt Ideal) ℓ) (g : Dev Cert.DXnZIdeal.nD → PrngReg)
    (m' : (ℓ : Loc Cert.DXnZRefIdeal.nD Cert.DXnZRefIdeal.τ Cert.DXnZRefIdeal.sig) → Buf (Elt Ideal) ℓ) (g' : Dev Cert.DXnZRefIdeal.nD → PrngReg), Pre_DXnZIdeal m →
    (∀ c : Dev Cert.DXnZIdeal.nD,
      m' ((c.tc : Thread Cert.DXnZRefIdeal.nD Cert.DXnZRefIdeal.τ).loc Cert.DXnZRefIdeal.main_arg0) = m ((c.tc : Thread Cert.DXnZIdeal.nD Cert.DXnZIdeal.τ).loc Cert.DXnZIdeal.main_arg0)
      ∧ m' ((c.tc : Thread Cert.DXnZRefIdeal.nD Cert.DXnZRefIdeal.τ).loc Cert.DXnZRefIdeal.main_arg1) = m ((c.tc : Thread Cert.DXnZIdeal.nD Cert.DXnZIdeal.τ).loc Cert.DXnZIdeal.main_arg1)
      ∧ m' ((c.tc : Thread Cert.DXnZRefIdeal.nD Cert.DXnZRefIdeal.τ).loc Cert.DXnZRefIdeal.main_arg2) = m ((c.tc : Thread Cert.DXnZIdeal.nD Cert.DXnZIdeal.τ).loc Cert.DXnZIdeal.main_arg2)) →
    ∃ (v0 : (c : Dev Cert.DXnZIdeal.nD) → Buf (Elt Ideal) ((c.tc : Thread Cert.DXnZIdeal.nD Cert.DXnZIdeal.τ).loc Cert.DXnZIdeal.main_v0)),
      θ_run (Cert.DXnZIdeal.defs (F := Ideal)) (onTc (τ := Cert.DXnZIdeal.τ) (Cert.DXnZIdeal.main (F := Ideal))) ⟨m, fun _ => 0, g⟩ (fun r => ∀ c : Dev Cert.DXnZIdeal.nD,
          r.2.mem ((c.tc : Thread Cert.DXnZIdeal.nD Cert.DXnZIdeal.τ).loc Cert.DXnZIdeal.main_v0) = v0 c
          ∧ r.2.mem ((c.tc : Thread Cert.DXnZIdeal.nD Cert.DXnZIdeal.τ).loc Cert.DXnZIdeal.main_arg0) = m ((c.tc : Thread Cert.DXnZIdeal.nD Cert.DXnZIdeal.τ).loc Cert.DXnZIdeal.main_arg0)
          ∧ r.2.mem ((c.tc : Thread Cert.DXnZIdeal.nD Cert.DXnZIdeal.τ).loc Cert.DXnZIdeal.main_arg1) = m ((c.tc : Thread Cert.DXnZIdeal.nD Cert.DXnZIdeal.τ).loc Cert.DXnZIdeal.main_arg1)
          ∧ r.2.mem ((c.tc : Thread Cert.DXnZIdeal.nD Cert.DXnZIdeal.τ).loc Cert.DXnZIdeal.main_arg2) = m ((c.tc : Thread Cert.DXnZIdeal.nD Cert.DXnZIdeal.τ).loc Cert.DXnZIdeal.main_arg2))
      ∧ θ_run (Cert.DXnZRefIdeal.defs (F := Ideal)) (onTc (τ := Cert.DXnZRefIdeal.τ) (Cert.DXnZRefIdeal.main (F := Ideal))) ⟨m', fun _ => 0, g'⟩ (fun r => ∀ c : Dev Cert.DXnZRefIdeal.nD,
          r.2.mem ((c.tc : Thread Cert.DXnZRefIdeal.nD Cert.DXnZRefIdeal.τ).loc Cert.DXnZRefIdeal.main_v5) = v0 c
          ∧ r.2.mem ((c.tc : Thread Cert.DXnZRefIdeal.nD Cert.DXnZRefIdeal.τ).loc Cert.DXnZRefIdeal.main_arg0) = m' ((c.tc : Thread Cert.DXnZRefIdeal.nD Cert.DXnZRefIdeal.τ).loc Cert.DXnZRefIdeal.main_arg0)
          ∧ r.2.mem ((c.tc : Thread Cert.DXnZRefIdeal.nD Cert.DXnZRefIdeal.τ).loc Cert.DXnZRefIdeal.main_arg1) = m' ((c.tc : Thread Cert.DXnZRefIdeal.nD Cert.DXnZRefIdeal.τ).loc Cert.DXnZRefIdeal.main_arg1)
          ∧ r.2.mem ((c.tc : Thread Cert.DXnZRefIdeal.nD Cert.DXnZRefIdeal.τ).loc Cert.DXnZRefIdeal.main_arg2) = m' ((c.tc : Thread Cert.DXnZRefIdeal.nD Cert.DXnZRefIdeal.τ).loc Cert.DXnZRefIdeal.main_arg2))

def preserves_DXnG_DXnGIdeal : Prop :=
  True

def algebraic_DXnGIdeal_DXnGRefIdeal [hDXnGIdeal : Cert.DXnGIdeal.Facts] [hDXnGRefIdeal : Cert.DXnGRefIdeal.Facts] : Prop :=
  ∀ (m : (ℓ : Loc Cert.DXnGIdeal.nD Cert.DXnGIdeal.τ Cert.DXnGIdeal.sig) → Buf (Elt Ideal) ℓ) (g : Dev Cert.DXnGIdeal.nD → PrngReg)
    (m' : (ℓ : Loc Cert.DXnGRefIdeal.nD Cert.DXnGRefIdeal.τ Cert.DXnGRefIdeal.sig) → Buf (Elt Ideal) ℓ) (g' : Dev Cert.DXnGRefIdeal.nD → PrngReg), Pre_DXnGIdeal m →
    (∀ c : Dev Cert.DXnGIdeal.nD,
      m' ((c.tc : Thread Cert.DXnGRefIdeal.nD Cert.DXnGRefIdeal.τ).loc Cert.DXnGRefIdeal.main_arg0) = m ((c.tc : Thread Cert.DXnGIdeal.nD Cert.DXnGIdeal.τ).loc Cert.DXnGIdeal.main_arg0)
      ∧ m' ((c.tc : Thread Cert.DXnGRefIdeal.nD Cert.DXnGRefIdeal.τ).loc Cert.DXnGRefIdeal.main_arg1) = m ((c.tc : Thread Cert.DXnGIdeal.nD Cert.DXnGIdeal.τ).loc Cert.DXnGIdeal.main_arg1)
      ∧ m' ((c.tc : Thread Cert.DXnGRefIdeal.nD Cert.DXnGRefIdeal.τ).loc Cert.DXnGRefIdeal.main_arg2) = m ((c.tc : Thread Cert.DXnGIdeal.nD Cert.DXnGIdeal.τ).loc Cert.DXnGIdeal.main_arg2)) →
    ∃ (v0 : (c : Dev Cert.DXnGIdeal.nD) → Buf (Elt Ideal) ((c.tc : Thread Cert.DXnGIdeal.nD Cert.DXnGIdeal.τ).loc Cert.DXnGIdeal.main_v0)),
      θ_run (Cert.DXnGIdeal.defs (F := Ideal)) (onTc (τ := Cert.DXnGIdeal.τ) (Cert.DXnGIdeal.main (F := Ideal))) ⟨m, fun _ => 0, g⟩ (fun r => ∀ c : Dev Cert.DXnGIdeal.nD,
          r.2.mem ((c.tc : Thread Cert.DXnGIdeal.nD Cert.DXnGIdeal.τ).loc Cert.DXnGIdeal.main_v0) = v0 c
          ∧ r.2.mem ((c.tc : Thread Cert.DXnGIdeal.nD Cert.DXnGIdeal.τ).loc Cert.DXnGIdeal.main_arg0) = m ((c.tc : Thread Cert.DXnGIdeal.nD Cert.DXnGIdeal.τ).loc Cert.DXnGIdeal.main_arg0)
          ∧ r.2.mem ((c.tc : Thread Cert.DXnGIdeal.nD Cert.DXnGIdeal.τ).loc Cert.DXnGIdeal.main_arg1) = m ((c.tc : Thread Cert.DXnGIdeal.nD Cert.DXnGIdeal.τ).loc Cert.DXnGIdeal.main_arg1)
          ∧ r.2.mem ((c.tc : Thread Cert.DXnGIdeal.nD Cert.DXnGIdeal.τ).loc Cert.DXnGIdeal.main_arg2) = m ((c.tc : Thread Cert.DXnGIdeal.nD Cert.DXnGIdeal.τ).loc Cert.DXnGIdeal.main_arg2))
      ∧ θ_run (Cert.DXnGRefIdeal.defs (F := Ideal)) (onTc (τ := Cert.DXnGRefIdeal.τ) (Cert.DXnGRefIdeal.main (F := Ideal))) ⟨m', fun _ => 0, g'⟩ (fun r => ∀ c : Dev Cert.DXnGRefIdeal.nD,
          r.2.mem ((c.tc : Thread Cert.DXnGRefIdeal.nD Cert.DXnGRefIdeal.τ).loc Cert.DXnGRefIdeal.main_v5) = v0 c
          ∧ r.2.mem ((c.tc : Thread Cert.DXnGRefIdeal.nD Cert.DXnGRefIdeal.τ).loc Cert.DXnGRefIdeal.main_arg0) = m' ((c.tc : Thread Cert.DXnGRefIdeal.nD Cert.DXnGRefIdeal.τ).loc Cert.DXnGRefIdeal.main_arg0)
          ∧ r.2.mem ((c.tc : Thread Cert.DXnGRefIdeal.nD Cert.DXnGRefIdeal.τ).loc Cert.DXnGRefIdeal.main_arg1) = m' ((c.tc : Thread Cert.DXnGRefIdeal.nD Cert.DXnGRefIdeal.τ).loc Cert.DXnGRefIdeal.main_arg1)
          ∧ r.2.mem ((c.tc : Thread Cert.DXnGRefIdeal.nD Cert.DXnGRefIdeal.τ).loc Cert.DXnGRefIdeal.main_arg2) = m' ((c.tc : Thread Cert.DXnGRefIdeal.nD Cert.DXnGRefIdeal.τ).loc Cert.DXnGRefIdeal.main_arg2))

def preserves_ProjQkv_ProjQkvIdeal : Prop :=
  True

def algebraic_ProjQkvIdeal_ProjQkvRefIdeal [hProjQkvIdeal : Cert.ProjQkvIdeal.Facts] [hProjQkvRefIdeal : Cert.ProjQkvRefIdeal.Facts] : Prop :=
  ∀ (m : (ℓ : Loc Cert.ProjQkvIdeal.nD Cert.ProjQkvIdeal.τ Cert.ProjQkvIdeal.sig) → Buf (Elt Ideal) ℓ) (g : Dev Cert.ProjQkvIdeal.nD → PrngReg)
    (m' : (ℓ : Loc Cert.ProjQkvRefIdeal.nD Cert.ProjQkvRefIdeal.τ Cert.ProjQkvRefIdeal.sig) → Buf (Elt Ideal) ℓ) (g' : Dev Cert.ProjQkvRefIdeal.nD → PrngReg), Pre_ProjQkvIdeal m →
    (∀ c : Dev Cert.ProjQkvIdeal.nD,
      m' ((c.tc : Thread Cert.ProjQkvRefIdeal.nD Cert.ProjQkvRefIdeal.τ).loc Cert.ProjQkvRefIdeal.main_arg0) = m ((c.tc : Thread Cert.ProjQkvIdeal.nD Cert.ProjQkvIdeal.τ).loc Cert.ProjQkvIdeal.main_arg0)
      ∧ m' ((c.tc : Thread Cert.ProjQkvRefIdeal.nD Cert.ProjQkvRefIdeal.τ).loc Cert.ProjQkvRefIdeal.main_arg1) = m ((c.tc : Thread Cert.ProjQkvIdeal.nD Cert.ProjQkvIdeal.τ).loc Cert.ProjQkvIdeal.main_arg1)
      ∧ m' ((c.tc : Thread Cert.ProjQkvRefIdeal.nD Cert.ProjQkvRefIdeal.τ).loc Cert.ProjQkvRefIdeal.main_arg2) = m ((c.tc : Thread Cert.ProjQkvIdeal.nD Cert.ProjQkvIdeal.τ).loc Cert.ProjQkvIdeal.main_arg2)) →
    ∃ (v0 : (c : Dev Cert.ProjQkvIdeal.nD) → Buf (Elt Ideal) ((c.tc : Thread Cert.ProjQkvIdeal.nD Cert.ProjQkvIdeal.τ).loc Cert.ProjQkvIdeal.main_v0)),
      θ_run (Cert.ProjQkvIdeal.defs (F := Ideal)) (onTc (τ := Cert.ProjQkvIdeal.τ) (Cert.ProjQkvIdeal.main (F := Ideal))) ⟨m, fun _ => 0, g⟩ (fun r => ∀ c : Dev Cert.ProjQkvIdeal.nD,
          r.2.mem ((c.tc : Thread Cert.ProjQkvIdeal.nD Cert.ProjQkvIdeal.τ).loc Cert.ProjQkvIdeal.main_v0) = v0 c
          ∧ r.2.mem ((c.tc : Thread Cert.ProjQkvIdeal.nD Cert.ProjQkvIdeal.τ).loc Cert.ProjQkvIdeal.main_arg0) = m ((c.tc : Thread Cert.ProjQkvIdeal.nD Cert.ProjQkvIdeal.τ).loc Cert.ProjQkvIdeal.main_arg0)
          ∧ r.2.mem ((c.tc : Thread Cert.ProjQkvIdeal.nD Cert.ProjQkvIdeal.τ).loc Cert.ProjQkvIdeal.main_arg1) = m ((c.tc : Thread Cert.ProjQkvIdeal.nD Cert.ProjQkvIdeal.τ).loc Cert.ProjQkvIdeal.main_arg1)
          ∧ r.2.mem ((c.tc : Thread Cert.ProjQkvIdeal.nD Cert.ProjQkvIdeal.τ).loc Cert.ProjQkvIdeal.main_arg2) = m ((c.tc : Thread Cert.ProjQkvIdeal.nD Cert.ProjQkvIdeal.τ).loc Cert.ProjQkvIdeal.main_arg2))
      ∧ θ_run (Cert.ProjQkvRefIdeal.defs (F := Ideal)) (onTc (τ := Cert.ProjQkvRefIdeal.τ) (Cert.ProjQkvRefIdeal.main (F := Ideal))) ⟨m', fun _ => 0, g'⟩ (fun r => ∀ c : Dev Cert.ProjQkvRefIdeal.nD,
          r.2.mem ((c.tc : Thread Cert.ProjQkvRefIdeal.nD Cert.ProjQkvRefIdeal.τ).loc Cert.ProjQkvRefIdeal.main_v5) = v0 c
          ∧ r.2.mem ((c.tc : Thread Cert.ProjQkvRefIdeal.nD Cert.ProjQkvRefIdeal.τ).loc Cert.ProjQkvRefIdeal.main_arg0) = m' ((c.tc : Thread Cert.ProjQkvRefIdeal.nD Cert.ProjQkvRefIdeal.τ).loc Cert.ProjQkvRefIdeal.main_arg0)
          ∧ r.2.mem ((c.tc : Thread Cert.ProjQkvRefIdeal.nD Cert.ProjQkvRefIdeal.τ).loc Cert.ProjQkvRefIdeal.main_arg1) = m' ((c.tc : Thread Cert.ProjQkvRefIdeal.nD Cert.ProjQkvRefIdeal.τ).loc Cert.ProjQkvRefIdeal.main_arg1)
          ∧ r.2.mem ((c.tc : Thread Cert.ProjQkvRefIdeal.nD Cert.ProjQkvRefIdeal.τ).loc Cert.ProjQkvRefIdeal.main_arg2) = m' ((c.tc : Thread Cert.ProjQkvRefIdeal.nD Cert.ProjQkvRefIdeal.τ).loc Cert.ProjQkvRefIdeal.main_arg2))

def preserves_ProjZ_ProjZIdeal : Prop :=
  True

def algebraic_ProjZIdeal_ProjZRefIdeal [hProjZIdeal : Cert.ProjZIdeal.Facts] [hProjZRefIdeal : Cert.ProjZRefIdeal.Facts] : Prop :=
  ∀ (m : (ℓ : Loc Cert.ProjZIdeal.nD Cert.ProjZIdeal.τ Cert.ProjZIdeal.sig) → Buf (Elt Ideal) ℓ) (g : Dev Cert.ProjZIdeal.nD → PrngReg)
    (m' : (ℓ : Loc Cert.ProjZRefIdeal.nD Cert.ProjZRefIdeal.τ Cert.ProjZRefIdeal.sig) → Buf (Elt Ideal) ℓ) (g' : Dev Cert.ProjZRefIdeal.nD → PrngReg), Pre_ProjZIdeal m →
    (∀ c : Dev Cert.ProjZIdeal.nD,
      m' ((c.tc : Thread Cert.ProjZRefIdeal.nD Cert.ProjZRefIdeal.τ).loc Cert.ProjZRefIdeal.main_arg0) = m ((c.tc : Thread Cert.ProjZIdeal.nD Cert.ProjZIdeal.τ).loc Cert.ProjZIdeal.main_arg0)
      ∧ m' ((c.tc : Thread Cert.ProjZRefIdeal.nD Cert.ProjZRefIdeal.τ).loc Cert.ProjZRefIdeal.main_arg1) = m ((c.tc : Thread Cert.ProjZIdeal.nD Cert.ProjZIdeal.τ).loc Cert.ProjZIdeal.main_arg1)
      ∧ m' ((c.tc : Thread Cert.ProjZRefIdeal.nD Cert.ProjZRefIdeal.τ).loc Cert.ProjZRefIdeal.main_arg2) = m ((c.tc : Thread Cert.ProjZIdeal.nD Cert.ProjZIdeal.τ).loc Cert.ProjZIdeal.main_arg2)) →
    ∃ (v0 : (c : Dev Cert.ProjZIdeal.nD) → Buf (Elt Ideal) ((c.tc : Thread Cert.ProjZIdeal.nD Cert.ProjZIdeal.τ).loc Cert.ProjZIdeal.main_v0)),
      θ_run (Cert.ProjZIdeal.defs (F := Ideal)) (onTc (τ := Cert.ProjZIdeal.τ) (Cert.ProjZIdeal.main (F := Ideal))) ⟨m, fun _ => 0, g⟩ (fun r => ∀ c : Dev Cert.ProjZIdeal.nD,
          r.2.mem ((c.tc : Thread Cert.ProjZIdeal.nD Cert.ProjZIdeal.τ).loc Cert.ProjZIdeal.main_v0) = v0 c
          ∧ r.2.mem ((c.tc : Thread Cert.ProjZIdeal.nD Cert.ProjZIdeal.τ).loc Cert.ProjZIdeal.main_arg0) = m ((c.tc : Thread Cert.ProjZIdeal.nD Cert.ProjZIdeal.τ).loc Cert.ProjZIdeal.main_arg0)
          ∧ r.2.mem ((c.tc : Thread Cert.ProjZIdeal.nD Cert.ProjZIdeal.τ).loc Cert.ProjZIdeal.main_arg1) = m ((c.tc : Thread Cert.ProjZIdeal.nD Cert.ProjZIdeal.τ).loc Cert.ProjZIdeal.main_arg1)
          ∧ r.2.mem ((c.tc : Thread Cert.ProjZIdeal.nD Cert.ProjZIdeal.τ).loc Cert.ProjZIdeal.main_arg2) = m ((c.tc : Thread Cert.ProjZIdeal.nD Cert.ProjZIdeal.τ).loc Cert.ProjZIdeal.main_arg2))
      ∧ θ_run (Cert.ProjZRefIdeal.defs (F := Ideal)) (onTc (τ := Cert.ProjZRefIdeal.τ) (Cert.ProjZRefIdeal.main (F := Ideal))) ⟨m', fun _ => 0, g'⟩ (fun r => ∀ c : Dev Cert.ProjZRefIdeal.nD,
          r.2.mem ((c.tc : Thread Cert.ProjZRefIdeal.nD Cert.ProjZRefIdeal.τ).loc Cert.ProjZRefIdeal.main_v5) = v0 c
          ∧ r.2.mem ((c.tc : Thread Cert.ProjZRefIdeal.nD Cert.ProjZRefIdeal.τ).loc Cert.ProjZRefIdeal.main_arg0) = m' ((c.tc : Thread Cert.ProjZRefIdeal.nD Cert.ProjZRefIdeal.τ).loc Cert.ProjZRefIdeal.main_arg0)
          ∧ r.2.mem ((c.tc : Thread Cert.ProjZRefIdeal.nD Cert.ProjZRefIdeal.τ).loc Cert.ProjZRefIdeal.main_arg1) = m' ((c.tc : Thread Cert.ProjZRefIdeal.nD Cert.ProjZRefIdeal.τ).loc Cert.ProjZRefIdeal.main_arg1)
          ∧ r.2.mem ((c.tc : Thread Cert.ProjZRefIdeal.nD Cert.ProjZRefIdeal.τ).loc Cert.ProjZRefIdeal.main_arg2) = m' ((c.tc : Thread Cert.ProjZRefIdeal.nD Cert.ProjZRefIdeal.τ).loc Cert.ProjZRefIdeal.main_arg2))

def preserves_ProjG_ProjGIdeal : Prop :=
  True

def algebraic_ProjGIdeal_ProjGRefIdeal [hProjGIdeal : Cert.ProjGIdeal.Facts] [hProjGRefIdeal : Cert.ProjGRefIdeal.Facts] : Prop :=
  ∀ (m : (ℓ : Loc Cert.ProjGIdeal.nD Cert.ProjGIdeal.τ Cert.ProjGIdeal.sig) → Buf (Elt Ideal) ℓ) (g : Dev Cert.ProjGIdeal.nD → PrngReg)
    (m' : (ℓ : Loc Cert.ProjGRefIdeal.nD Cert.ProjGRefIdeal.τ Cert.ProjGRefIdeal.sig) → Buf (Elt Ideal) ℓ) (g' : Dev Cert.ProjGRefIdeal.nD → PrngReg), Pre_ProjGIdeal m →
    (∀ c : Dev Cert.ProjGIdeal.nD,
      m' ((c.tc : Thread Cert.ProjGRefIdeal.nD Cert.ProjGRefIdeal.τ).loc Cert.ProjGRefIdeal.main_arg0) = m ((c.tc : Thread Cert.ProjGIdeal.nD Cert.ProjGIdeal.τ).loc Cert.ProjGIdeal.main_arg0)
      ∧ m' ((c.tc : Thread Cert.ProjGRefIdeal.nD Cert.ProjGRefIdeal.τ).loc Cert.ProjGRefIdeal.main_arg1) = m ((c.tc : Thread Cert.ProjGIdeal.nD Cert.ProjGIdeal.τ).loc Cert.ProjGIdeal.main_arg1)
      ∧ m' ((c.tc : Thread Cert.ProjGRefIdeal.nD Cert.ProjGRefIdeal.τ).loc Cert.ProjGRefIdeal.main_arg2) = m ((c.tc : Thread Cert.ProjGIdeal.nD Cert.ProjGIdeal.τ).loc Cert.ProjGIdeal.main_arg2)) →
    ∃ (v0 : (c : Dev Cert.ProjGIdeal.nD) → Buf (Elt Ideal) ((c.tc : Thread Cert.ProjGIdeal.nD Cert.ProjGIdeal.τ).loc Cert.ProjGIdeal.main_v0)),
      θ_run (Cert.ProjGIdeal.defs (F := Ideal)) (onTc (τ := Cert.ProjGIdeal.τ) (Cert.ProjGIdeal.main (F := Ideal))) ⟨m, fun _ => 0, g⟩ (fun r => ∀ c : Dev Cert.ProjGIdeal.nD,
          r.2.mem ((c.tc : Thread Cert.ProjGIdeal.nD Cert.ProjGIdeal.τ).loc Cert.ProjGIdeal.main_v0) = v0 c
          ∧ r.2.mem ((c.tc : Thread Cert.ProjGIdeal.nD Cert.ProjGIdeal.τ).loc Cert.ProjGIdeal.main_arg0) = m ((c.tc : Thread Cert.ProjGIdeal.nD Cert.ProjGIdeal.τ).loc Cert.ProjGIdeal.main_arg0)
          ∧ r.2.mem ((c.tc : Thread Cert.ProjGIdeal.nD Cert.ProjGIdeal.τ).loc Cert.ProjGIdeal.main_arg1) = m ((c.tc : Thread Cert.ProjGIdeal.nD Cert.ProjGIdeal.τ).loc Cert.ProjGIdeal.main_arg1)
          ∧ r.2.mem ((c.tc : Thread Cert.ProjGIdeal.nD Cert.ProjGIdeal.τ).loc Cert.ProjGIdeal.main_arg2) = m ((c.tc : Thread Cert.ProjGIdeal.nD Cert.ProjGIdeal.τ).loc Cert.ProjGIdeal.main_arg2))
      ∧ θ_run (Cert.ProjGRefIdeal.defs (F := Ideal)) (onTc (τ := Cert.ProjGRefIdeal.τ) (Cert.ProjGRefIdeal.main (F := Ideal))) ⟨m', fun _ => 0, g'⟩ (fun r => ∀ c : Dev Cert.ProjGRefIdeal.nD,
          r.2.mem ((c.tc : Thread Cert.ProjGRefIdeal.nD Cert.ProjGRefIdeal.τ).loc Cert.ProjGRefIdeal.main_v5) = v0 c
          ∧ r.2.mem ((c.tc : Thread Cert.ProjGRefIdeal.nD Cert.ProjGRefIdeal.τ).loc Cert.ProjGRefIdeal.main_arg0) = m' ((c.tc : Thread Cert.ProjGRefIdeal.nD Cert.ProjGRefIdeal.τ).loc Cert.ProjGRefIdeal.main_arg0)
          ∧ r.2.mem ((c.tc : Thread Cert.ProjGRefIdeal.nD Cert.ProjGRefIdeal.τ).loc Cert.ProjGRefIdeal.main_arg1) = m' ((c.tc : Thread Cert.ProjGRefIdeal.nD Cert.ProjGRefIdeal.τ).loc Cert.ProjGRefIdeal.main_arg1)
          ∧ r.2.mem ((c.tc : Thread Cert.ProjGRefIdeal.nD Cert.ProjGRefIdeal.τ).loc Cert.ProjGRefIdeal.main_arg2) = m' ((c.tc : Thread Cert.ProjGRefIdeal.nD Cert.ProjGRefIdeal.τ).loc Cert.ProjGRefIdeal.main_arg2))

def preserves_DownProj_DownProjIdeal : Prop :=
  True

def algebraic_DownProjIdeal_DownProjRefIdeal [hDownProjIdeal : Cert.DownProjIdeal.Facts] [hDownProjRefIdeal : Cert.DownProjRefIdeal.Facts] : Prop :=
  ∀ (m : (ℓ : Loc Cert.DownProjIdeal.nD Cert.DownProjIdeal.τ Cert.DownProjIdeal.sig) → Buf (Elt Ideal) ℓ) (g : Dev Cert.DownProjIdeal.nD → PrngReg)
    (m' : (ℓ : Loc Cert.DownProjRefIdeal.nD Cert.DownProjRefIdeal.τ Cert.DownProjRefIdeal.sig) → Buf (Elt Ideal) ℓ) (g' : Dev Cert.DownProjRefIdeal.nD → PrngReg), Pre_DownProjIdeal m →
    (∀ c : Dev Cert.DownProjIdeal.nD,
      m' ((c.tc : Thread Cert.DownProjRefIdeal.nD Cert.DownProjRefIdeal.τ).loc Cert.DownProjRefIdeal.main_arg0) = m ((c.tc : Thread Cert.DownProjIdeal.nD Cert.DownProjIdeal.τ).loc Cert.DownProjIdeal.main_arg0)
      ∧ m' ((c.tc : Thread Cert.DownProjRefIdeal.nD Cert.DownProjRefIdeal.τ).loc Cert.DownProjRefIdeal.main_arg1) = m ((c.tc : Thread Cert.DownProjIdeal.nD Cert.DownProjIdeal.τ).loc Cert.DownProjIdeal.main_arg1)
      ∧ m' ((c.tc : Thread Cert.DownProjRefIdeal.nD Cert.DownProjRefIdeal.τ).loc Cert.DownProjRefIdeal.main_arg2) = m ((c.tc : Thread Cert.DownProjIdeal.nD Cert.DownProjIdeal.τ).loc Cert.DownProjIdeal.main_arg2)) →
    ∃ (v0 : (c : Dev Cert.DownProjIdeal.nD) → Buf (Elt Ideal) ((c.tc : Thread Cert.DownProjIdeal.nD Cert.DownProjIdeal.τ).loc Cert.DownProjIdeal.main_v0)),
      θ_run (Cert.DownProjIdeal.defs (F := Ideal)) (onTc (τ := Cert.DownProjIdeal.τ) (Cert.DownProjIdeal.main (F := Ideal))) ⟨m, fun _ => 0, g⟩ (fun r => ∀ c : Dev Cert.DownProjIdeal.nD,
          r.2.mem ((c.tc : Thread Cert.DownProjIdeal.nD Cert.DownProjIdeal.τ).loc Cert.DownProjIdeal.main_v0) = v0 c
          ∧ r.2.mem ((c.tc : Thread Cert.DownProjIdeal.nD Cert.DownProjIdeal.τ).loc Cert.DownProjIdeal.main_arg0) = m ((c.tc : Thread Cert.DownProjIdeal.nD Cert.DownProjIdeal.τ).loc Cert.DownProjIdeal.main_arg0)
          ∧ r.2.mem ((c.tc : Thread Cert.DownProjIdeal.nD Cert.DownProjIdeal.τ).loc Cert.DownProjIdeal.main_arg1) = m ((c.tc : Thread Cert.DownProjIdeal.nD Cert.DownProjIdeal.τ).loc Cert.DownProjIdeal.main_arg1)
          ∧ r.2.mem ((c.tc : Thread Cert.DownProjIdeal.nD Cert.DownProjIdeal.τ).loc Cert.DownProjIdeal.main_arg2) = m ((c.tc : Thread Cert.DownProjIdeal.nD Cert.DownProjIdeal.τ).loc Cert.DownProjIdeal.main_arg2))
      ∧ θ_run (Cert.DownProjRefIdeal.defs (F := Ideal)) (onTc (τ := Cert.DownProjRefIdeal.τ) (Cert.DownProjRefIdeal.main (F := Ideal))) ⟨m', fun _ => 0, g'⟩ (fun r => ∀ c : Dev Cert.DownProjRefIdeal.nD,
          r.2.mem ((c.tc : Thread Cert.DownProjRefIdeal.nD Cert.DownProjRefIdeal.τ).loc Cert.DownProjRefIdeal.main_v3) = v0 c
          ∧ r.2.mem ((c.tc : Thread Cert.DownProjRefIdeal.nD Cert.DownProjRefIdeal.τ).loc Cert.DownProjRefIdeal.main_arg0) = m' ((c.tc : Thread Cert.DownProjRefIdeal.nD Cert.DownProjRefIdeal.τ).loc Cert.DownProjRefIdeal.main_arg0)
          ∧ r.2.mem ((c.tc : Thread Cert.DownProjRefIdeal.nD Cert.DownProjRefIdeal.τ).loc Cert.DownProjRefIdeal.main_arg1) = m' ((c.tc : Thread Cert.DownProjRefIdeal.nD Cert.DownProjRefIdeal.τ).loc Cert.DownProjRefIdeal.main_arg1)
          ∧ r.2.mem ((c.tc : Thread Cert.DownProjRefIdeal.nD Cert.DownProjRefIdeal.τ).loc Cert.DownProjRefIdeal.main_arg2) = m' ((c.tc : Thread Cert.DownProjRefIdeal.nD Cert.DownProjRefIdeal.τ).loc Cert.DownProjRefIdeal.main_arg2))

def preserves_GateUp_GateUpIdeal : Prop :=
  True

def algebraic_GateUpIdeal_GateUpRefIdeal [hGateUpIdeal : Cert.GateUpIdeal.Facts] [hGateUpRefIdeal : Cert.GateUpRefIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpRefIdeal.nD Cert.GateUpRefIdeal.τ Cert.GateUpRefIdeal.sig) → Buf (Elt Ideal) ℓ) (g' : Dev Cert.GateUpRefIdeal.nD → PrngReg), Pre_GateUpIdeal m →
    (∀ c : Dev Cert.GateUpIdeal.nD,
      m' ((c.tc : Thread Cert.GateUpRefIdeal.nD Cert.GateUpRefIdeal.τ).loc Cert.GateUpRefIdeal.main_arg0) = m ((c.tc : Thread Cert.GateUpIdeal.nD Cert.GateUpIdeal.τ).loc Cert.GateUpIdeal.main_arg0)
      ∧ m' ((c.tc : Thread Cert.GateUpRefIdeal.nD Cert.GateUpRefIdeal.τ).loc Cert.GateUpRefIdeal.main_arg1) = m ((c.tc : Thread Cert.GateUpIdeal.nD Cert.GateUpIdeal.τ).loc Cert.GateUpIdeal.main_arg1)) →
    ∃ (v0 : (c : Dev Cert.GateUpIdeal.nD) → Buf (Elt Ideal) ((c.tc : Thread Cert.GateUpIdeal.nD Cert.GateUpIdeal.τ).loc Cert.GateUpIdeal.main_v0_0)) (v1 : (c : Dev Cert.GateUpIdeal.nD) → Buf (Elt Ideal) ((c.tc : Thread Cert.GateUpIdeal.nD Cert.GateUpIdeal.τ).loc Cert.GateUpIdeal.main_v0_1)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v0_0) = v0 c
          ∧ r.2.mem ((c.tc : Thread Cert.GateUpIdeal.nD Cert.GateUpIdeal.τ).loc Cert.GateUpIdeal.main_v0_1) = v1 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1))
      ∧ θ_run (Cert.GateUpRefIdeal.defs (F := Ideal)) (onTc (τ := Cert.GateUpRefIdeal.τ) (Cert.GateUpRefIdeal.main (F := Ideal))) ⟨m', fun _ => 0, g'⟩ (fun r => ∀ c : Dev Cert.GateUpRefIdeal.nD,
          r.2.mem ((c.tc : Thread Cert.GateUpRefIdeal.nD Cert.GateUpRefIdeal.τ).loc Cert.GateUpRefIdeal.main_v10) = v0 c
          ∧ r.2.mem ((c.tc : Thread Cert.GateUpRefIdeal.nD Cert.GateUpRefIdeal.τ).loc Cert.GateUpRefIdeal.main_v13) = v1 c
          ∧ r.2.mem ((c.tc : Thread Cert.GateUpRefIdeal.nD Cert.GateUpRefIdeal.τ).loc Cert.GateUpRefIdeal.main_arg0) = m' ((c.tc : Thread Cert.GateUpRefIdeal.nD Cert.GateUpRefIdeal.τ).loc Cert.GateUpRefIdeal.main_arg0)
          ∧ r.2.mem ((c.tc : Thread Cert.GateUpRefIdeal.nD Cert.GateUpRefIdeal.τ).loc Cert.GateUpRefIdeal.main_arg1) = m' ((c.tc : Thread Cert.GateUpRefIdeal.nD Cert.GateUpRefIdeal.τ).loc Cert.GateUpRefIdeal.main_arg1))

def preserves_DAct_DActIdeal : Prop :=
  True

def algebraic_DActIdeal_DActRefIdeal_pre_all_finite_act [hDActIdeal : Cert.DActIdeal.Facts] [hDActRefIdeal : Cert.DActRefIdeal.Facts] [hPre_all_finite_act : Cert.Pre_all_finite_act.Facts] : Prop :=
  ∀ (m : (ℓ : Loc Cert.DActIdeal.nD Cert.DActIdeal.τ Cert.DActIdeal.sig) → Buf (Elt Ideal) ℓ) (g : Dev Cert.DActIdeal.nD → PrngReg)
    (m' : (ℓ : Loc Cert.DActRefIdeal.nD Cert.DActRefIdeal.τ Cert.DActRefIdeal.sig) → Buf (Elt Ideal) ℓ) (g' : Dev Cert.DActRefIdeal.nD → PrngReg), Pre_DActIdeal_all_finite_act m →
    (∀ c : Dev Cert.DActIdeal.nD,
      m' ((c.tc : Thread Cert.DActRefIdeal.nD Cert.DActRefIdeal.τ).loc Cert.DActRefIdeal.main_arg0) = m ((c.tc : Thread Cert.DActIdeal.nD Cert.DActIdeal.τ).loc Cert.DActIdeal.main_arg0)
      ∧ m' ((c.tc : Thread Cert.DActRefIdeal.nD Cert.DActRefIdeal.τ).loc Cert.DActRefIdeal.main_arg1) = m ((c.tc : Thread Cert.DActIdeal.nD Cert.DActIdeal.τ).loc Cert.DActIdeal.main_arg1)
      ∧ m' ((c.tc : Thread Cert.DActRefIdeal.nD Cert.DActRefIdeal.τ).loc Cert.DActRefIdeal.main_arg2) = m ((c.tc : Thread Cert.DActIdeal.nD Cert.DActIdeal.τ).loc Cert.DActIdeal.main_arg2)) →
    ∃ (v0 : (c : Dev Cert.DActIdeal.nD) → Buf (Elt Ideal) ((c.tc : Thread Cert.DActIdeal.nD Cert.DActIdeal.τ).loc Cert.DActIdeal.main_v0)),
      θ_run (Cert.DActIdeal.defs (F := Ideal)) (onTc (τ := Cert.DActIdeal.τ) (Cert.DActIdeal.main (F := Ideal))) ⟨m, fun _ => 0, g⟩ (fun r => ∀ c : Dev Cert.DActIdeal.nD,
          r.2.mem ((c.tc : Thread Cert.DActIdeal.nD Cert.DActIdeal.τ).loc Cert.DActIdeal.main_v0) = v0 c
          ∧ r.2.mem ((c.tc : Thread Cert.DActIdeal.nD Cert.DActIdeal.τ).loc Cert.DActIdeal.main_arg0) = m ((c.tc : Thread Cert.DActIdeal.nD Cert.DActIdeal.τ).loc Cert.DActIdeal.main_arg0)
          ∧ r.2.mem ((c.tc : Thread Cert.DActIdeal.nD Cert.DActIdeal.τ).loc Cert.DActIdeal.main_arg1) = m ((c.tc : Thread Cert.DActIdeal.nD Cert.DActIdeal.τ).loc Cert.DActIdeal.main_arg1)
          ∧ r.2.mem ((c.tc : Thread Cert.DActIdeal.nD Cert.DActIdeal.τ).loc Cert.DActIdeal.main_arg2) = m ((c.tc : Thread Cert.DActIdeal.nD Cert.DActIdeal.τ).loc Cert.DActIdeal.main_arg2))
      ∧ θ_run (Cert.DActRefIdeal.defs (F := Ideal)) (onTc (τ := Cert.DActRefIdeal.τ) (Cert.DActRefIdeal.main (F := Ideal))) ⟨m', fun _ => 0, g'⟩ (fun r => ∀ c : Dev Cert.DActRefIdeal.nD,
          r.2.mem ((c.tc : Thread Cert.DActRefIdeal.nD Cert.DActRefIdeal.τ).loc Cert.DActRefIdeal.main_v25) = v0 c
          ∧ r.2.mem ((c.tc : Thread Cert.DActRefIdeal.nD Cert.DActRefIdeal.τ).loc Cert.DActRefIdeal.main_arg0) = m' ((c.tc : Thread Cert.DActRefIdeal.nD Cert.DActRefIdeal.τ).loc Cert.DActRefIdeal.main_arg0)
          ∧ r.2.mem ((c.tc : Thread Cert.DActRefIdeal.nD Cert.DActRefIdeal.τ).loc Cert.DActRefIdeal.main_arg1) = m' ((c.tc : Thread Cert.DActRefIdeal.nD Cert.DActRefIdeal.τ).loc Cert.DActRefIdeal.main_arg1)
          ∧ r.2.mem ((c.tc : Thread Cert.DActRefIdeal.nD Cert.DActRefIdeal.τ).loc Cert.DActRefIdeal.main_arg2) = m' ((c.tc : Thread Cert.DActRefIdeal.nD Cert.DActRefIdeal.τ).loc Cert.DActRefIdeal.main_arg2))

def preserves_BranchesMerge_BranchesMergeIdeal : Prop :=
  True

def algebraic_BranchesMergeIdeal_BranchesMergeRefIdeal [hBranchesMergeIdeal : Cert.BranchesMergeIdeal.Facts] [hBranchesMergeRefIdeal : Cert.BranchesMergeRefIdeal.Facts] : Prop :=
  ∀ (m : (ℓ : Loc Cert.BranchesMergeIdeal.nD Cert.BranchesMergeIdeal.τ Cert.BranchesMergeIdeal.sig) → Buf (Elt Ideal) ℓ) (g : Dev Cert.BranchesMergeIdeal.nD → PrngReg)
    (m' : (ℓ : Loc Cert.BranchesMergeRefIdeal.nD Cert.BranchesMergeRefIdeal.τ Cert.BranchesMergeRefIdeal.sig) → Buf (Elt Ideal) ℓ) (g' : Dev Cert.BranchesMergeRefIdeal.nD → PrngReg), Pre_BranchesMergeIdeal m →
    (∀ c : Dev Cert.BranchesMergeIdeal.nD,
      m' ((c.tc : Thread Cert.BranchesMergeRefIdeal.nD Cert.BranchesMergeRefIdeal.τ).loc Cert.BranchesMergeRefIdeal.main_arg0) = m ((c.tc : Thread Cert.BranchesMergeIdeal.nD Cert.BranchesMergeIdeal.τ).loc Cert.BranchesMergeIdeal.main_arg0)
      ∧ m' ((c.tc : Thread Cert.BranchesMergeRefIdeal.nD Cert.BranchesMergeRefIdeal.τ).loc Cert.BranchesMergeRefIdeal.main_arg1) = m ((c.tc : Thread Cert.BranchesMergeIdeal.nD Cert.BranchesMergeIdeal.τ).loc Cert.BranchesMergeIdeal.main_arg1)
      ∧ m' ((c.tc : Thread Cert.BranchesMergeRefIdeal.nD Cert.BranchesMergeRefIdeal.τ).loc Cert.BranchesMergeRefIdeal.main_arg2) = m ((c.tc : Thread Cert.BranchesMergeIdeal.nD Cert.BranchesMergeIdeal.τ).loc Cert.BranchesMergeIdeal.main_arg2)
      ∧ m' ((c.tc : Thread Cert.BranchesMergeRefIdeal.nD Cert.BranchesMergeRefIdeal.τ).loc Cert.BranchesMergeRefIdeal.main_arg3) = m ((c.tc : Thread Cert.BranchesMergeIdeal.nD Cert.BranchesMergeIdeal.τ).loc Cert.BranchesMergeIdeal.main_arg3)
      ∧ m' ((c.tc : Thread Cert.BranchesMergeRefIdeal.nD Cert.BranchesMergeRefIdeal.τ).loc Cert.BranchesMergeRefIdeal.main_arg4) = m ((c.tc : Thread Cert.BranchesMergeIdeal.nD Cert.BranchesMergeIdeal.τ).loc Cert.BranchesMergeIdeal.main_arg4)) →
    ∃ (v0 : (c : Dev Cert.BranchesMergeIdeal.nD) → Buf (Elt Ideal) ((c.tc : Thread Cert.BranchesMergeIdeal.nD Cert.BranchesMergeIdeal.τ).loc Cert.BranchesMergeIdeal.main_v0_0)) (v1 : (c : Dev Cert.BranchesMergeIdeal.nD) → Buf (Elt Ideal) ((c.tc : Thread Cert.BranchesMergeIdeal.nD Cert.BranchesMergeIdeal.τ).loc Cert.BranchesMergeIdeal.main_v0_1)) (v2 : (c : Dev Cert.BranchesMergeIdeal.nD) → Buf (Elt Ideal) ((c.tc : Thread Cert.BranchesMergeIdeal.nD Cert.BranchesMergeIdeal.τ).loc Cert.BranchesMergeIdeal.main_v0_2)),
      θ_run (Cert.BranchesMergeIdeal.defs (F := Ideal)) (onTc (τ := Cert.BranchesMergeIdeal.τ) (Cert.BranchesMergeIdeal.main (F := Ideal))) ⟨m, fun _ => 0, g⟩ (fun r => ∀ c : Dev Cert.BranchesMergeIdeal.nD,
          r.2.mem ((c.tc : Thread Cert.BranchesMergeIdeal.nD Cert.BranchesMergeIdeal.τ).loc Cert.BranchesMergeIdeal.main_v0_0) = v0 c
          ∧ r.2.mem ((c.tc : Thread Cert.BranchesMergeIdeal.nD Cert.BranchesMergeIdeal.τ).loc Cert.BranchesMergeIdeal.main_v0_1) = v1 c
          ∧ r.2.mem ((c.tc : Thread Cert.BranchesMergeIdeal.nD Cert.BranchesMergeIdeal.τ).loc Cert.BranchesMergeIdeal.main_v0_2) = v2 c
          ∧ r.2.mem ((c.tc : Thread Cert.BranchesMergeIdeal.nD Cert.BranchesMergeIdeal.τ).loc Cert.BranchesMergeIdeal.main_arg0) = m ((c.tc : Thread Cert.BranchesMergeIdeal.nD Cert.BranchesMergeIdeal.τ).loc Cert.BranchesMergeIdeal.main_arg0)
          ∧ r.2.mem ((c.tc : Thread Cert.BranchesMergeIdeal.nD Cert.BranchesMergeIdeal.τ).loc Cert.BranchesMergeIdeal.main_arg1) = m ((c.tc : Thread Cert.BranchesMergeIdeal.nD Cert.BranchesMergeIdeal.τ).loc Cert.BranchesMergeIdeal.main_arg1)
          ∧ r.2.mem ((c.tc : Thread Cert.BranchesMergeIdeal.nD Cert.BranchesMergeIdeal.τ).loc Cert.BranchesMergeIdeal.main_arg2) = m ((c.tc : Thread Cert.BranchesMergeIdeal.nD Cert.BranchesMergeIdeal.τ).loc Cert.BranchesMergeIdeal.main_arg2)
          ∧ r.2.mem ((c.tc : Thread Cert.BranchesMergeIdeal.nD Cert.BranchesMergeIdeal.τ).loc Cert.BranchesMergeIdeal.main_arg3) = m ((c.tc : Thread Cert.BranchesMergeIdeal.nD Cert.BranchesMergeIdeal.τ).loc Cert.BranchesMergeIdeal.main_arg3)
          ∧ r.2.mem ((c.tc : Thread Cert.BranchesMergeIdeal.nD Cert.BranchesMergeIdeal.τ).loc Cert.BranchesMergeIdeal.main_arg4) = m ((c.tc : Thread Cert.BranchesMergeIdeal.nD Cert.BranchesMergeIdeal.τ).loc Cert.BranchesMergeIdeal.main_arg4))
      ∧ θ_run (Cert.BranchesMergeRefIdeal.defs (F := Ideal)) (onTc (τ := Cert.BranchesMergeRefIdeal.τ) (Cert.BranchesMergeRefIdeal.main (F := Ideal))) ⟨m', fun _ => 0, g'⟩ (fun r => ∀ c : Dev Cert.BranchesMergeRefIdeal.nD,
          r.2.mem ((c.tc : Thread Cert.BranchesMergeRefIdeal.nD Cert.BranchesMergeRefIdeal.τ).loc Cert.BranchesMergeRefIdeal.main_v20) = v0 c
          ∧ r.2.mem ((c.tc : Thread Cert.BranchesMergeRefIdeal.nD Cert.BranchesMergeRefIdeal.τ).loc Cert.BranchesMergeRefIdeal.main_v21) = v1 c
          ∧ r.2.mem ((c.tc : Thread Cert.BranchesMergeRefIdeal.nD Cert.BranchesMergeRefIdeal.τ).loc Cert.BranchesMergeRefIdeal.main_v25) = v2 c
          ∧ r.2.mem ((c.tc : Thread Cert.BranchesMergeRefIdeal.nD Cert.BranchesMergeRefIdeal.τ).loc Cert.BranchesMergeRefIdeal.main_arg0) = m' ((c.tc : Thread Cert.BranchesMergeRefIdeal.nD Cert.BranchesMergeRefIdeal.τ).loc Cert.BranchesMergeRefIdeal.main_arg0)
          ∧ r.2.mem ((c.tc : Thread Cert.BranchesMergeRefIdeal.nD Cert.BranchesMergeRefIdeal.τ).loc Cert.BranchesMergeRefIdeal.main_arg1) = m' ((c.tc : Thread Cert.BranchesMergeRefIdeal.nD Cert.BranchesMergeRefIdeal.τ).loc Cert.BranchesMergeRefIdeal.main_arg1)
          ∧ r.2.mem ((c.tc : Thread Cert.BranchesMergeRefIdeal.nD Cert.BranchesMergeRefIdeal.τ).loc Cert.BranchesMergeRefIdeal.main_arg2) = m' ((c.tc : Thread Cert.BranchesMergeRefIdeal.nD Cert.BranchesMergeRefIdeal.τ).loc Cert.BranchesMergeRefIdeal.main_arg2)
          ∧ r.2.mem ((c.tc : Thread Cert.BranchesMergeRefIdeal.nD Cert.BranchesMergeRefIdeal.τ).loc Cert.BranchesMergeRefIdeal.main_arg3) = m' ((c.tc : Thread Cert.BranchesMergeRefIdeal.nD Cert.BranchesMergeRefIdeal.τ).loc Cert.BranchesMergeRefIdeal.main_arg3)
          ∧ r.2.mem ((c.tc : Thread Cert.BranchesMergeRefIdeal.nD Cert.BranchesMergeRefIdeal.τ).loc Cert.BranchesMergeRefIdeal.main_arg4) = m' ((c.tc : Thread Cert.BranchesMergeRefIdeal.nD Cert.BranchesMergeRefIdeal.τ).loc Cert.BranchesMergeRefIdeal.main_arg4))

def preserves_DMerged_DMergedIdeal : Prop :=
  True

def algebraic_DMergedIdeal_DMergedRefIdeal [hDMergedIdeal : Cert.DMergedIdeal.Facts] [hDMergedRefIdeal : Cert.DMergedRefIdeal.Facts] : Prop :=
  ∀ (m : (ℓ : Loc Cert.DMergedIdeal.nD Cert.DMergedIdeal.τ Cert.DMergedIdeal.sig) → Buf (Elt Ideal) ℓ) (g : Dev Cert.DMergedIdeal.nD → PrngReg)
    (m' : (ℓ : Loc Cert.DMergedRefIdeal.nD Cert.DMergedRefIdeal.τ Cert.DMergedRefIdeal.sig) → Buf (Elt Ideal) ℓ) (g' : Dev Cert.DMergedRefIdeal.nD → PrngReg), Pre_DMergedIdeal m →
    (∀ c : Dev Cert.DMergedIdeal.nD,
      m' ((c.tc : Thread Cert.DMergedRefIdeal.nD Cert.DMergedRefIdeal.τ).loc Cert.DMergedRefIdeal.main_arg0) = m ((c.tc : Thread Cert.DMergedIdeal.nD Cert.DMergedIdeal.τ).loc Cert.DMergedIdeal.main_arg0)
      ∧ m' ((c.tc : Thread Cert.DMergedRefIdeal.nD Cert.DMergedRefIdeal.τ).loc Cert.DMergedRefIdeal.main_arg1) = m ((c.tc : Thread Cert.DMergedIdeal.nD Cert.DMergedIdeal.τ).loc Cert.DMergedIdeal.main_arg1)
      ∧ m' ((c.tc : Thread Cert.DMergedRefIdeal.nD Cert.DMergedRefIdeal.τ).loc Cert.DMergedRefIdeal.main_arg2) = m ((c.tc : Thread Cert.DMergedIdeal.nD Cert.DMergedIdeal.τ).loc Cert.DMergedIdeal.main_arg2)
      ∧ m' ((c.tc : Thread Cert.DMergedRefIdeal.nD Cert.DMergedRefIdeal.τ).loc Cert.DMergedRefIdeal.main_arg3) = m ((c.tc : Thread Cert.DMergedIdeal.nD Cert.DMergedIdeal.τ).loc Cert.DMergedIdeal.main_arg3)
      ∧ m' ((c.tc : Thread Cert.DMergedRefIdeal.nD Cert.DMergedRefIdeal.τ).loc Cert.DMergedRefIdeal.main_arg4) = m ((c.tc : Thread Cert.DMergedIdeal.nD Cert.DMergedIdeal.τ).loc Cert.DMergedIdeal.main_arg4)) →
    ∃ (v0 : (c : Dev Cert.DMergedIdeal.nD) → Buf (Elt Ideal) ((c.tc : Thread Cert.DMergedIdeal.nD Cert.DMergedIdeal.τ).loc Cert.DMergedIdeal.main_v0_0)) (v1 : (c : Dev Cert.DMergedIdeal.nD) → Buf (Elt Ideal) ((c.tc : Thread Cert.DMergedIdeal.nD Cert.DMergedIdeal.τ).loc Cert.DMergedIdeal.main_v0_1)) (v2 : (c : Dev Cert.DMergedIdeal.nD) → Buf (Elt Ideal) ((c.tc : Thread Cert.DMergedIdeal.nD Cert.DMergedIdeal.τ).loc Cert.DMergedIdeal.main_v0_2)) (v3 : (c : Dev Cert.DMergedIdeal.nD) → Buf (Elt Ideal) ((c.tc : Thread Cert.DMergedIdeal.nD Cert.DMergedIdeal.τ).loc Cert.DMergedIdeal.main_v0_3)),
      θ_run (Cert.DMergedIdeal.defs (F := Ideal)) (onTc (τ := Cert.DMergedIdeal.τ) (Cert.DMergedIdeal.main (F := Ideal))) ⟨m, fun _ => 0, g⟩ (fun r => ∀ c : Dev Cert.DMergedIdeal.nD,
          r.2.mem ((c.tc : Thread Cert.DMergedIdeal.nD Cert.DMergedIdeal.τ).loc Cert.DMergedIdeal.main_v0_0) = v0 c
          ∧ r.2.mem ((c.tc : Thread Cert.DMergedIdeal.nD Cert.DMergedIdeal.τ).loc Cert.DMergedIdeal.main_v0_1) = v1 c
          ∧ r.2.mem ((c.tc : Thread Cert.DMergedIdeal.nD Cert.DMergedIdeal.τ).loc Cert.DMergedIdeal.main_v0_2) = v2 c
          ∧ r.2.mem ((c.tc : Thread Cert.DMergedIdeal.nD Cert.DMergedIdeal.τ).loc Cert.DMergedIdeal.main_v0_3) = v3 c
          ∧ r.2.mem ((c.tc : Thread Cert.DMergedIdeal.nD Cert.DMergedIdeal.τ).loc Cert.DMergedIdeal.main_arg0) = m ((c.tc : Thread Cert.DMergedIdeal.nD Cert.DMergedIdeal.τ).loc Cert.DMergedIdeal.main_arg0)
          ∧ r.2.mem ((c.tc : Thread Cert.DMergedIdeal.nD Cert.DMergedIdeal.τ).loc Cert.DMergedIdeal.main_arg1) = m ((c.tc : Thread Cert.DMergedIdeal.nD Cert.DMergedIdeal.τ).loc Cert.DMergedIdeal.main_arg1)
          ∧ r.2.mem ((c.tc : Thread Cert.DMergedIdeal.nD Cert.DMergedIdeal.τ).loc Cert.DMergedIdeal.main_arg2) = m ((c.tc : Thread Cert.DMergedIdeal.nD Cert.DMergedIdeal.τ).loc Cert.DMergedIdeal.main_arg2)
          ∧ r.2.mem ((c.tc : Thread Cert.DMergedIdeal.nD Cert.DMergedIdeal.τ).loc Cert.DMergedIdeal.main_arg3) = m ((c.tc : Thread Cert.DMergedIdeal.nD Cert.DMergedIdeal.τ).loc Cert.DMergedIdeal.main_arg3)
          ∧ r.2.mem ((c.tc : Thread Cert.DMergedIdeal.nD Cert.DMergedIdeal.τ).loc Cert.DMergedIdeal.main_arg4) = m ((c.tc : Thread Cert.DMergedIdeal.nD Cert.DMergedIdeal.τ).loc Cert.DMergedIdeal.main_arg4))
      ∧ θ_run (Cert.DMergedRefIdeal.defs (F := Ideal)) (onTc (τ := Cert.DMergedRefIdeal.τ) (Cert.DMergedRefIdeal.main (F := Ideal))) ⟨m', fun _ => 0, g'⟩ (fun r => ∀ c : Dev Cert.DMergedRefIdeal.nD,
          r.2.mem ((c.tc : Thread Cert.DMergedRefIdeal.nD Cert.DMergedRefIdeal.τ).loc Cert.DMergedRefIdeal.main_v39) = v0 c
          ∧ r.2.mem ((c.tc : Thread Cert.DMergedRefIdeal.nD Cert.DMergedRefIdeal.τ).loc Cert.DMergedRefIdeal.main_v40) = v1 c
          ∧ r.2.mem ((c.tc : Thread Cert.DMergedRefIdeal.nD Cert.DMergedRefIdeal.τ).loc Cert.DMergedRefIdeal.main_v41) = v2 c
          ∧ r.2.mem ((c.tc : Thread Cert.DMergedRefIdeal.nD Cert.DMergedRefIdeal.τ).loc Cert.DMergedRefIdeal.main_v43) = v3 c
          ∧ r.2.mem ((c.tc : Thread Cert.DMergedRefIdeal.nD Cert.DMergedRefIdeal.τ).loc Cert.DMergedRefIdeal.main_arg0) = m' ((c.tc : Thread Cert.DMergedRefIdeal.nD Cert.DMergedRefIdeal.τ).loc Cert.DMergedRefIdeal.main_arg0)
          ∧ r.2.mem ((c.tc : Thread Cert.DMergedRefIdeal.nD Cert.DMergedRefIdeal.τ).loc Cert.DMergedRefIdeal.main_arg1) = m' ((c.tc : Thread Cert.DMergedRefIdeal.nD Cert.DMergedRefIdeal.τ).loc Cert.DMergedRefIdeal.main_arg1)
          ∧ r.2.mem ((c.tc : Thread Cert.DMergedRefIdeal.nD Cert.DMergedRefIdeal.τ).loc Cert.DMergedRefIdeal.main_arg2) = m' ((c.tc : Thread Cert.DMergedRefIdeal.nD Cert.DMergedRefIdeal.τ).loc Cert.DMergedRefIdeal.main_arg2)
          ∧ r.2.mem ((c.tc : Thread Cert.DMergedRefIdeal.nD Cert.DMergedRefIdeal.τ).loc Cert.DMergedRefIdeal.main_arg3) = m' ((c.tc : Thread Cert.DMergedRefIdeal.nD Cert.DMergedRefIdeal.τ).loc Cert.DMergedRefIdeal.main_arg3)
          ∧ r.2.mem ((c.tc : Thread Cert.DMergedRefIdeal.nD Cert.DMergedRefIdeal.τ).loc Cert.DMergedRefIdeal.main_arg4) = m' ((c.tc : Thread Cert.DMergedRefIdeal.nD Cert.DMergedRefIdeal.τ).loc Cert.DMergedRefIdeal.main_arg4))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v0_0)) (v1 : (c : Dev Cert.OutProjIdeal.nD) → Buf (Elt Ideal) ((c.tc : Thread Cert.OutProjIdeal.nD Cert.OutProjIdeal.τ).loc Cert.OutProjIdeal.main_v0_1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0_0) = v0 c
          ∧ r.2.mem ((c.tc : Thread Cert.OutProjIdeal.nD Cert.OutProjIdeal.τ).loc Cert.OutProjIdeal.main_v0_1) = v1 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v3) = v0 c
          ∧ r.2.mem ((c.tc : Thread Cert.OutProjRefIdeal.nD Cert.OutProjRefIdeal.τ).loc Cert.OutProjRefIdeal.main_v16) = v1 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3))

def preserves_RmsFwd_RmsFwdIdeal : Prop :=
  True

def algebraic_RmsFwdIdeal_RmsFwdRefIdeal [hRmsFwdIdeal : Cert.RmsFwdIdeal.Facts] [hRmsFwdRefIdeal : Cert.RmsFwdRefIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg)
    (m' : (ℓ : Loc Cert.RmsFwdRefIdeal.nD Cert.RmsFwdRefIdeal.τ Cert.RmsFwdRefIdeal.sig) → Buf (Elt Ideal) ℓ) (g' : Dev Cert.RmsFwdRefIdeal.nD → PrngReg), Pre_RmsFwdIdeal m →
    (∀ c : Dev Cert.RmsFwdIdeal.nD,
      m' ((c.tc : Thread Cert.RmsFwdRefIdeal.nD Cert.RmsFwdRefIdeal.τ).loc Cert.RmsFwdRefIdeal.main_arg0) = m ((c.tc : Thread Cert.RmsFwdIdeal.nD Cert.RmsFwdIdeal.τ).loc Cert.RmsFwdIdeal.main_arg0)
      ∧ m' ((c.tc : Thread Cert.RmsFwdRefIdeal.nD Cert.RmsFwdRefIdeal.τ).loc Cert.RmsFwdRefIdeal.main_arg1) = m ((c.tc : Thread Cert.RmsFwdIdeal.nD Cert.RmsFwdIdeal.τ).loc Cert.RmsFwdIdeal.main_arg1)) →
    ∃ (v0 : (c : Dev Cert.RmsFwdIdeal.nD) → Buf (Elt Ideal) ((c.tc : Thread Cert.RmsFwdIdeal.nD Cert.RmsFwdIdeal.τ).loc Cert.RmsFwdIdeal.main_v0)),
      θ_run (Cert.RmsFwdIdeal.defs (F := Ideal)) (onTc (τ := Cert.RmsFwdIdeal.τ) (Cert.RmsFwdIdeal.main (F := Ideal))) ⟨m, fun _ => 0, g⟩ (fun r => ∀ c : Dev Cert.RmsFwdIdeal.nD,
          r.2.mem ((c.tc : Thread Cert.RmsFwdIdeal.nD Cert.RmsFwdIdeal.τ).loc Cert.RmsFwdIdeal.main_v0) = v0 c
          ∧ r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
          ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ θ_run (Cert.RmsFwdRefIdeal.defs (F := Ideal)) (onTc (τ := Cert.RmsFwdRefIdeal.τ) (Cert.RmsFwdRefIdeal.main (F := Ideal))) ⟨m', fun _ => 0, g'⟩ (fun r => ∀ c : Dev Cert.RmsFwdRefIdeal.nD,
          r.2.mem ((c.tc : Thread Cert.RmsFwdRefIdeal.nD Cert.RmsFwdRefIdeal.τ).loc Cert.RmsFwdRefIdeal.main_v12) = v0 c
          ∧ r.2.mem ((c.tc : Thread Cert.RmsFwdRefIdeal.nD Cert.RmsFwdRefIdeal.τ).loc Cert.RmsFwdRefIdeal.main_arg0) = m' ((c.tc : Thread Cert.RmsFwdRefIdeal.nD Cert.RmsFwdRefIdeal.τ).loc Cert.RmsFwdRefIdeal.main_arg0)
          ∧ r.2.mem ((c.tc : Thread Cert.RmsFwdRefIdeal.nD Cert.RmsFwdRefIdeal.τ).loc Cert.RmsFwdRefIdeal.main_arg1) = m' ((c.tc : Thread Cert.RmsFwdRefIdeal.nD Cert.RmsFwdRefIdeal.τ).loc Cert.RmsFwdRefIdeal.main_arg1))

def preserves_RmsBwd_RmsBwdIdeal : Prop :=
  True

def algebraic_RmsBwdIdeal_RmsBwdRefIdeal [hRmsBwdIdeal : Cert.RmsBwdIdeal.Facts] [hRmsBwdRefIdeal : Cert.RmsBwdRefIdeal.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg)
    (m' : (ℓ : Loc Cert.RmsBwdRefIdeal.nD Cert.RmsBwdRefIdeal.τ Cert.RmsBwdRefIdeal.sig) → Buf (Elt Ideal) ℓ) (g' : Dev Cert.RmsBwdRefIdeal.nD → PrngReg), Pre_RmsBwdIdeal m →
    (∀ c : Dev Cert.RmsBwdIdeal.nD,
      m' ((c.tc : Thread Cert.RmsBwdRefIdeal.nD Cert.RmsBwdRefIdeal.τ).loc Cert.RmsBwdRefIdeal.main_arg0) = m ((c.tc : Thread Cert.RmsBwdIdeal.nD Cert.RmsBwdIdeal.τ).loc Cert.RmsBwdIdeal.main_arg0)
      ∧ m' ((c.tc : Thread Cert.RmsBwdRefIdeal.nD Cert.RmsBwdRefIdeal.τ).loc Cert.RmsBwdRefIdeal.main_arg1) = m ((c.tc : Thread Cert.RmsBwdIdeal.nD Cert.RmsBwdIdeal.τ).loc Cert.RmsBwdIdeal.main_arg1)
      ∧ m' ((c.tc : Thread Cert.RmsBwdRefIdeal.nD Cert.RmsBwdRefIdeal.τ).loc Cert.RmsBwdRefIdeal.main_arg2) = m ((c.tc : Thread Cert.RmsBwdIdeal.nD Cert.RmsBwdIdeal.τ).loc Cert.RmsBwdIdeal.main_arg2)
      ∧ m' ((c.tc : Thread Cert.RmsBwdRefIdeal.nD Cert.RmsBwdRefIdeal.τ).loc Cert.RmsBwdRefIdeal.main_arg3) = m ((c.tc : Thread Cert.RmsBwdIdeal.nD Cert.RmsBwdIdeal.τ).loc Cert.RmsBwdIdeal.main_arg3)) →
    ∃ (v0 : (c : Dev Cert.RmsBwdIdeal.nD) → Buf (Elt Ideal) ((c.tc : Thread Cert.RmsBwdIdeal.nD Cert.RmsBwdIdeal.τ).loc Cert.RmsBwdIdeal.main_v0_0)) (v1 : (c : Dev Cert.RmsBwdIdeal.nD) → Buf (Elt Ideal) ((c.tc : Thread Cert.RmsBwdIdeal.nD Cert.RmsBwdIdeal.τ).loc Cert.RmsBwdIdeal.main_v0_1)) (v2 : (c : Dev Cert.RmsBwdIdeal.nD) → Buf (Elt Ideal) ((c.tc : Thread Cert.RmsBwdIdeal.nD Cert.RmsBwdIdeal.τ).loc Cert.RmsBwdIdeal.main_v0_2)),
      θ_run (Cert.RmsBwdIdeal.defs (F := Ideal)) (onTc (τ := Cert.RmsBwdIdeal.τ) (Cert.RmsBwdIdeal.main (F := Ideal))) ⟨m, fun _ => 0, g⟩ (fun r => ∀ c : Dev Cert.RmsBwdIdeal.nD,
          r.2.mem ((c.tc : Thread Cert.RmsBwdIdeal.nD Cert.RmsBwdIdeal.τ).loc Cert.RmsBwdIdeal.main_v0_0) = v0 c
          ∧ r.2.mem ((c.tc : Thread Cert.RmsBwdIdeal.nD Cert.RmsBwdIdeal.τ).loc Cert.RmsBwdIdeal.main_v0_1) = v1 c
          ∧ r.2.mem ((c.tc : Thread Cert.RmsBwdIdeal.nD Cert.RmsBwdIdeal.τ).loc Cert.RmsBwdIdeal.main_v0_2) = v2 c
          ∧ r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
          ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
          ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
          ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ θ_run (Cert.RmsBwdRefIdeal.defs (F := Ideal)) (onTc (τ := Cert.RmsBwdRefIdeal.τ) (Cert.RmsBwdRefIdeal.main (F := Ideal))) ⟨m', fun _ => 0, g'⟩ (fun r => ∀ c : Dev Cert.RmsBwdRefIdeal.nD,
          r.2.mem ((c.tc : Thread Cert.RmsBwdRefIdeal.nD Cert.RmsBwdRefIdeal.τ).loc Cert.RmsBwdRefIdeal.main_v35) = v0 c
          ∧ r.2.mem ((c.tc : Thread Cert.RmsBwdRefIdeal.nD Cert.RmsBwdRefIdeal.τ).loc Cert.RmsBwdRefIdeal.main_v37) = v1 c
          ∧ r.2.mem ((c.tc : Thread Cert.RmsBwdRefIdeal.nD Cert.RmsBwdRefIdeal.τ).loc Cert.RmsBwdRefIdeal.main_v18) = v2 c
          ∧ r.2.mem ((c.tc : Thread Cert.RmsBwdRefIdeal.nD Cert.RmsBwdRefIdeal.τ).loc Cert.RmsBwdRefIdeal.main_arg0) = m' ((c.tc : Thread Cert.RmsBwdRefIdeal.nD Cert.RmsBwdRefIdeal.τ).loc Cert.RmsBwdRefIdeal.main_arg0)
          ∧ r.2.mem ((c.tc : Thread Cert.RmsBwdRefIdeal.nD Cert.RmsBwdRefIdeal.τ).loc Cert.RmsBwdRefIdeal.main_arg1) = m' ((c.tc : Thread Cert.RmsBwdRefIdeal.nD Cert.RmsBwdRefIdeal.τ).loc Cert.RmsBwdRefIdeal.main_arg1)
          ∧ r.2.mem ((c.tc : Thread Cert.RmsBwdRefIdeal.nD Cert.RmsBwdRefIdeal.τ).loc Cert.RmsBwdRefIdeal.main_arg2) = m' ((c.tc : Thread Cert.RmsBwdRefIdeal.nD Cert.RmsBwdRefIdeal.τ).loc Cert.RmsBwdRefIdeal.main_arg2)
          ∧ r.2.mem ((c.tc : Thread Cert.RmsBwdRefIdeal.nD Cert.RmsBwdRefIdeal.τ).loc Cert.RmsBwdRefIdeal.main_arg3) = m' ((c.tc : Thread Cert.RmsBwdRefIdeal.nD Cert.RmsBwdRefIdeal.τ).loc Cert.RmsBwdRefIdeal.main_arg3))

def preserves_DbQkv_DbQkvIdeal : Prop :=
  True

def algebraic_DbQkvIdeal_DbQkvRefIdeal [hDbQkvIdeal : Cert.DbQkvIdeal.Facts] [hDbQkvRefIdeal : Cert.DbQkvRefIdeal.Facts] : Prop :=
  ∀ (m : (ℓ : Loc Cert.DbQkvIdeal.nD Cert.DbQkvIdeal.τ Cert.DbQkvIdeal.sig) → Buf (Elt Ideal) ℓ) (g : Dev Cert.DbQkvIdeal.nD → PrngReg)
    (m' : (ℓ : Loc Cert.DbQkvRefIdeal.nD Cert.DbQkvRefIdeal.τ Cert.DbQkvRefIdeal.sig) → Buf (Elt Ideal) ℓ) (g' : Dev Cert.DbQkvRefIdeal.nD → PrngReg), Pre_DbQkvIdeal m →
    (∀ c : Dev Cert.DbQkvIdeal.nD,
      m' ((c.tc : Thread Cert.DbQkvRefIdeal.nD Cert.DbQkvRefIdeal.τ).loc Cert.DbQkvRefIdeal.main_arg0) = m ((c.tc : Thread Cert.DbQkvIdeal.nD Cert.DbQkvIdeal.τ).loc Cert.DbQkvIdeal.main_arg0)) →
    ∃ (v0 : (c : Dev Cert.DbQkvIdeal.nD) → Buf (Elt Ideal) ((c.tc : Thread Cert.DbQkvIdeal.nD Cert.DbQkvIdeal.τ).loc Cert.DbQkvIdeal.main_v0)),
      θ_run (Cert.DbQkvIdeal.defs (F := Ideal)) (onTc (τ := Cert.DbQkvIdeal.τ) (Cert.DbQkvIdeal.main (F := Ideal))) ⟨m, fun _ => 0, g⟩ (fun r => ∀ c : Dev Cert.DbQkvIdeal.nD,
          r.2.mem ((c.tc : Thread Cert.DbQkvIdeal.nD Cert.DbQkvIdeal.τ).loc Cert.DbQkvIdeal.main_v0) = v0 c
          ∧ r.2.mem ((c.tc : Thread Cert.DbQkvIdeal.nD Cert.DbQkvIdeal.τ).loc Cert.DbQkvIdeal.main_arg0) = m ((c.tc : Thread Cert.DbQkvIdeal.nD Cert.DbQkvIdeal.τ).loc Cert.DbQkvIdeal.main_arg0))
      ∧ θ_run (Cert.DbQkvRefIdeal.defs (F := Ideal)) (onTc (τ := Cert.DbQkvRefIdeal.τ) (Cert.DbQkvRefIdeal.main (F := Ideal))) ⟨m', fun _ => 0, g'⟩ (fun r => ∀ c : Dev Cert.DbQkvRefIdeal.nD,
          r.2.mem ((c.tc : Thread Cert.DbQkvRefIdeal.nD Cert.DbQkvRefIdeal.τ).loc Cert.DbQkvRefIdeal.main_v6) = v0 c
          ∧ r.2.mem ((c.tc : Thread Cert.DbQkvRefIdeal.nD Cert.DbQkvRefIdeal.τ).loc Cert.DbQkvRefIdeal.main_arg0) = m' ((c.tc : Thread Cert.DbQkvRefIdeal.nD Cert.DbQkvRefIdeal.τ).loc Cert.DbQkvRefIdeal.main_arg0))

def preserves_AttnFwd_AttnFwdIdeal : Prop :=
  IdealRules.named_const.Statement Cert.AttnFwdIdeal.κ "masked" .f32 0xF149F2CA#32 ⊥

def algebraic_AttnFwdIdeal_AttnFwdRefIdeal_pre_all_finite_attn [hAttnFwdIdeal : Cert.AttnFwdIdeal.Facts] [hAttnFwdRefIdeal : Cert.AttnFwdRefIdeal.Facts] [hPre_all_finite_attn : Cert.Pre_all_finite_attn.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal_all_finite_attn m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)
      ∧ m' ((c.tc : Thread Cert.AttnFwdRefIdeal.nD Cert.AttnFwdRefIdeal.τ).loc Cert.AttnFwdRefIdeal.main_arg1) = m ((c.tc : Thread Cert.AttnFwdIdeal.nD Cert.AttnFwdIdeal.τ).loc Cert.AttnFwdIdeal.main_arg1)
      ∧ m' ((c.tc : Thread Cert.AttnFwdRefIdeal.nD Cert.AttnFwdRefIdeal.τ).loc Cert.AttnFwdRefIdeal.main_arg2) = m ((c.tc : Thread Cert.AttnFwdIdeal.nD Cert.AttnFwdIdeal.τ).loc Cert.AttnFwdIdeal.main_arg2)
      ∧ m' ((c.tc : Thread Cert.AttnFwdRefIdeal.nD Cert.AttnFwdRefIdeal.τ).loc Cert.AttnFwdRefIdeal.main_arg3) = m ((c.tc : Thread Cert.AttnFwdIdeal.nD Cert.AttnFwdIdeal.τ).loc Cert.AttnFwdIdeal.main_arg3)) →
    ∃ (v0 : (c : Dev Cert.AttnFwdIdeal.nD) → Buf (Elt Ideal) ((c.tc : Thread Cert.AttnFwdIdeal.nD Cert.AttnFwdIdeal.τ).loc Cert.AttnFwdIdeal.main_v8)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v8) = v0 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
          ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
          ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v101) = v0 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0)
          ∧ r.2.mem ((c.tc : Thread Cert.AttnFwdRefIdeal.nD Cert.AttnFwdRefIdeal.τ).loc Cert.AttnFwdRefIdeal.main_arg1) = m' ((c.tc : Thread Cert.AttnFwdRefIdeal.nD Cert.AttnFwdRefIdeal.τ).loc Cert.AttnFwdRefIdeal.main_arg1)
          ∧ r.2.mem ((c.tc : Thread Cert.AttnFwdRefIdeal.nD Cert.AttnFwdRefIdeal.τ).loc Cert.AttnFwdRefIdeal.main_arg2) = m' ((c.tc : Thread Cert.AttnFwdRefIdeal.nD Cert.AttnFwdRefIdeal.τ).loc Cert.AttnFwdRefIdeal.main_arg2)
          ∧ r.2.mem ((c.tc : Thread Cert.AttnFwdRefIdeal.nD Cert.AttnFwdRefIdeal.τ).loc Cert.AttnFwdRefIdeal.main_arg3) = m' ((c.tc : Thread Cert.AttnFwdRefIdeal.nD Cert.AttnFwdRefIdeal.τ).loc Cert.AttnFwdRefIdeal.main_arg3))

def Claim : Prop :=
  ∃ (hKernel : Cert.Kernel.Facts) (hKernelIdeal : Cert.KernelIdeal.Facts) (hReferenceIdeal : Cert.ReferenceIdeal.Facts) (hDHn : Cert.DHn.Facts) (hDHnIdeal : Cert.DHnIdeal.Facts) (hDHnRefIdeal : Cert.DHnRefIdeal.Facts) (hDwGateUp : Cert.DwGateUp.Facts) (hDwGateUpIdeal : Cert.DwGateUpIdeal.Facts) (hDwGateUpRefIdeal : Cert.DwGateUpRefIdeal.Facts) (hDwDown : Cert.DwDown.Facts) (hDwDownIdeal : Cert.DwDownIdeal.Facts) (hDwDownRefIdeal : Cert.DwDownRefIdeal.Facts) (hDwSquare : Cert.DwSquare.Facts) (hDwSquareIdeal : Cert.DwSquareIdeal.Facts) (hDwSquareRefIdeal : Cert.DwSquareRefIdeal.Facts) (hDwG : Cert.DwG.Facts) (hDwGIdeal : Cert.DwGIdeal.Facts) (hDwGRefIdeal : Cert.DwGRefIdeal.Facts) (hDwQkv : Cert.DwQkv.Facts) (hDwQkvIdeal : Cert.DwQkvIdeal.Facts) (hDwQkvRefIdeal : Cert.DwQkvRefIdeal.Facts) (hDwBranch : Cert.DwBranch.Facts) (hDwBranchIdeal : Cert.DwBranchIdeal.Facts) (hDwBranchRefIdeal : Cert.DwBranchRefIdeal.Facts) (hDBranch : Cert.DBranch.Facts) (hDBranchIdeal : Cert.DBranchIdeal.Facts) (hDBranchRefIdeal : Cert.DBranchRefIdeal.Facts) (hDXnQkv : Cert.DXnQkv.Facts) (hDXnQkvIdeal : Cert.DXnQkvIdeal.Facts) (hDXnQkvRefIdeal : Cert.DXnQkvRefIdeal.Facts) (hDXnZ : Cert.DXnZ.Facts) (hDXnZIdeal : Cert.DXnZIdeal.Facts) (hDXnZRefIdeal : Cert.DXnZRefIdeal.Facts) (hDXnG : Cert.DXnG.Facts) (hDXnGIdeal : Cert.DXnGIdeal.Facts) (hDXnGRefIdeal : Cert.DXnGRefIdeal.Facts) (hProjQkv : Cert.ProjQkv.Facts) (hProjQkvIdeal : Cert.ProjQkvIdeal.Facts) (hProjQkvRefIdeal : Cert.ProjQkvRefIdeal.Facts) (hProjZ : Cert.ProjZ.Facts) (hProjZIdeal : Cert.ProjZIdeal.Facts) (hProjZRefIdeal : Cert.ProjZRefIdeal.Facts) (hProjG : Cert.ProjG.Facts) (hProjGIdeal : Cert.ProjGIdeal.Facts) (hProjGRefIdeal : Cert.ProjGRefIdeal.Facts) (hDownProj : Cert.DownProj.Facts) (hDownProjIdeal : Cert.DownProjIdeal.Facts) (hDownProjRefIdeal : Cert.DownProjRefIdeal.Facts) (hGateUp : Cert.GateUp.Facts) (hGateUpIdeal : Cert.GateUpIdeal.Facts) (hGateUpRefIdeal : Cert.GateUpRefIdeal.Facts) (hDAct : Cert.DAct.Facts) (hDActIdeal : Cert.DActIdeal.Facts) (hDActRefIdeal : Cert.DActRefIdeal.Facts) (hBranchesMerge : Cert.BranchesMerge.Facts) (hBranchesMergeIdeal : Cert.BranchesMergeIdeal.Facts) (hBranchesMergeRefIdeal : Cert.BranchesMergeRefIdeal.Facts) (hDMerged : Cert.DMerged.Facts) (hDMergedIdeal : Cert.DMergedIdeal.Facts) (hDMergedRefIdeal : Cert.DMergedRefIdeal.Facts) (hOutProj : Cert.OutProj.Facts) (hOutProjIdeal : Cert.OutProjIdeal.Facts) (hOutProjRefIdeal : Cert.OutProjRefIdeal.Facts) (hRmsFwd : Cert.RmsFwd.Facts) (hRmsFwdIdeal : Cert.RmsFwdIdeal.Facts) (hRmsFwdRefIdeal : Cert.RmsFwdRefIdeal.Facts) (hRmsBwd : Cert.RmsBwd.Facts) (hRmsBwdIdeal : Cert.RmsBwdIdeal.Facts) (hRmsBwdRefIdeal : Cert.RmsBwdRefIdeal.Facts) (hDbQkv : Cert.DbQkv.Facts) (hDbQkvIdeal : Cert.DbQkvIdeal.Facts) (hDbQkvRefIdeal : Cert.DbQkvRefIdeal.Facts) (hAttnFwd : Cert.AttnFwd.Facts) (hAttnFwdIdeal : Cert.AttnFwdIdeal.Facts) (hAttnFwdRefIdeal : Cert.AttnFwdRefIdeal.Facts) (hPre_all_finite : Cert.Pre_all_finite.Facts) (hPre_all_finite_act : Cert.Pre_all_finite_act.Facts) (hPre_all_finite_attn : Cert.Pre_all_finite_attn.Facts),
    quiescent_Kernel (hKernel := hKernel)
    ∧ quiescent_KernelIdeal (hKernelIdeal := hKernelIdeal)
    ∧ quiescent_KernelIdeal_pre_all_finite (hKernelIdeal := hKernelIdeal) (hPre_all_finite := hPre_all_finite)
    ∧ quiescent_ReferenceIdeal (hReferenceIdeal := hReferenceIdeal)
    ∧ quiescent_ReferenceIdeal_pre_all_finite (hReferenceIdeal := hReferenceIdeal) (hPre_all_finite := hPre_all_finite)
    ∧ quiescent_DHn (hDHn := hDHn)
    ∧ quiescent_DHnIdeal (hDHnIdeal := hDHnIdeal)
    ∧ quiescent_DHnRefIdeal (hDHnRefIdeal := hDHnRefIdeal)
    ∧ quiescent_DwGateUp (hDwGateUp := hDwGateUp)
    ∧ quiescent_DwGateUpIdeal (hDwGateUpIdeal := hDwGateUpIdeal)
    ∧ quiescent_DwGateUpRefIdeal (hDwGateUpRefIdeal := hDwGateUpRefIdeal)
    ∧ quiescent_DwDown (hDwDown := hDwDown)
    ∧ quiescent_DwDownIdeal (hDwDownIdeal := hDwDownIdeal)
    ∧ quiescent_DwDownRefIdeal (hDwDownRefIdeal := hDwDownRefIdeal)
    ∧ quiescent_DwSquare (hDwSquare := hDwSquare)
    ∧ quiescent_DwSquareIdeal (hDwSquareIdeal := hDwSquareIdeal)
    ∧ quiescent_DwSquareRefIdeal (hDwSquareRefIdeal := hDwSquareRefIdeal)
    ∧ quiescent_DwG (hDwG := hDwG)
    ∧ quiescent_DwGIdeal (hDwGIdeal := hDwGIdeal)
    ∧ quiescent_DwGRefIdeal (hDwGRefIdeal := hDwGRefIdeal)
    ∧ quiescent_DwQkv (hDwQkv := hDwQkv)
    ∧ quiescent_DwQkvIdeal (hDwQkvIdeal := hDwQkvIdeal)
    ∧ quiescent_DwQkvRefIdeal (hDwQkvRefIdeal := hDwQkvRefIdeal)
    ∧ quiescent_DwBranch (hDwBranch := hDwBranch)
    ∧ quiescent_DwBranchIdeal (hDwBranchIdeal := hDwBranchIdeal)
    ∧ quiescent_DwBranchRefIdeal (hDwBranchRefIdeal := hDwBranchRefIdeal)
    ∧ quiescent_DBranch (hDBranch := hDBranch)
    ∧ quiescent_DBranchIdeal (hDBranchIdeal := hDBranchIdeal)
    ∧ quiescent_DBranchRefIdeal (hDBranchRefIdeal := hDBranchRefIdeal)
    ∧ quiescent_DXnQkv (hDXnQkv := hDXnQkv)
    ∧ quiescent_DXnQkvIdeal (hDXnQkvIdeal := hDXnQkvIdeal)
    ∧ quiescent_DXnQkvRefIdeal (hDXnQkvRefIdeal := hDXnQkvRefIdeal)
    ∧ quiescent_DXnZ (hDXnZ := hDXnZ)
    ∧ quiescent_DXnZIdeal (hDXnZIdeal := hDXnZIdeal)
    ∧ quiescent_DXnZRefIdeal (hDXnZRefIdeal := hDXnZRefIdeal)
    ∧ quiescent_DXnG (hDXnG := hDXnG)
    ∧ quiescent_DXnGIdeal (hDXnGIdeal := hDXnGIdeal)
    ∧ quiescent_DXnGRefIdeal (hDXnGRefIdeal := hDXnGRefIdeal)
    ∧ quiescent_ProjQkv (hProjQkv := hProjQkv)
    ∧ quiescent_ProjQkvIdeal (hProjQkvIdeal := hProjQkvIdeal)
    ∧ quiescent_ProjQkvRefIdeal (hProjQkvRefIdeal := hProjQkvRefIdeal)
    ∧ quiescent_ProjZ (hProjZ := hProjZ)
    ∧ quiescent_ProjZIdeal (hProjZIdeal := hProjZIdeal)
    ∧ quiescent_ProjZRefIdeal (hProjZRefIdeal := hProjZRefIdeal)
    ∧ quiescent_ProjG (hProjG := hProjG)
    ∧ quiescent_ProjGIdeal (hProjGIdeal := hProjGIdeal)
    ∧ quiescent_ProjGRefIdeal (hProjGRefIdeal := hProjGRefIdeal)
    ∧ quiescent_DownProj (hDownProj := hDownProj)
    ∧ quiescent_DownProjIdeal (hDownProjIdeal := hDownProjIdeal)
    ∧ quiescent_DownProjRefIdeal (hDownProjRefIdeal := hDownProjRefIdeal)
    ∧ quiescent_GateUp (hGateUp := hGateUp)
    ∧ quiescent_GateUpIdeal (hGateUpIdeal := hGateUpIdeal)
    ∧ quiescent_GateUpRefIdeal (hGateUpRefIdeal := hGateUpRefIdeal)
    ∧ quiescent_DAct (hDAct := hDAct)
    ∧ quiescent_DActIdeal (hDActIdeal := hDActIdeal)
    ∧ quiescent_DActIdeal_pre_all_finite_act (hDActIdeal := hDActIdeal) (hPre_all_finite_act := hPre_all_finite_act)
    ∧ quiescent_DActRefIdeal (hDActRefIdeal := hDActRefIdeal)
    ∧ quiescent_DActRefIdeal_pre_all_finite_act (hDActRefIdeal := hDActRefIdeal) (hPre_all_finite_act := hPre_all_finite_act)
    ∧ quiescent_BranchesMerge (hBranchesMerge := hBranchesMerge)
    ∧ quiescent_BranchesMergeIdeal (hBranchesMergeIdeal := hBranchesMergeIdeal)
    ∧ quiescent_BranchesMergeRefIdeal (hBranchesMergeRefIdeal := hBranchesMergeRefIdeal)
    ∧ quiescent_DMerged (hDMerged := hDMerged)
    ∧ quiescent_DMergedIdeal (hDMergedIdeal := hDMergedIdeal)
    ∧ quiescent_DMergedRefIdeal (hDMergedRefIdeal := hDMergedRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_RmsFwd (hRmsFwd := hRmsFwd)
    ∧ quiescent_RmsFwdIdeal (hRmsFwdIdeal := hRmsFwdIdeal)
    ∧ quiescent_RmsFwdRefIdeal (hRmsFwdRefIdeal := hRmsFwdRefIdeal)
    ∧ quiescent_RmsBwd (hRmsBwd := hRmsBwd)
    ∧ quiescent_RmsBwdIdeal (hRmsBwdIdeal := hRmsBwdIdeal)
    ∧ quiescent_RmsBwdRefIdeal (hRmsBwdRefIdeal := hRmsBwdRefIdeal)
    ∧ quiescent_DbQkv (hDbQkv := hDbQkv)
    ∧ quiescent_DbQkvIdeal (hDbQkvIdeal := hDbQkvIdeal)
    ∧ quiescent_DbQkvRefIdeal (hDbQkvRefIdeal := hDbQkvRefIdeal)
    ∧ quiescent_AttnFwd (hAttnFwd := hAttnFwd)
    ∧ quiescent_AttnFwdIdeal (hAttnFwdIdeal := hAttnFwdIdeal)
    ∧ quiescent_AttnFwdIdeal_pre_all_finite_attn (hAttnFwdIdeal := hAttnFwdIdeal) (hPre_all_finite_attn := hPre_all_finite_attn)
    ∧ quiescent_AttnFwdRefIdeal (hAttnFwdRefIdeal := hAttnFwdRefIdeal)
    ∧ quiescent_AttnFwdRefIdeal_pre_all_finite_attn (hAttnFwdRefIdeal := hAttnFwdRefIdeal) (hPre_all_finite_attn := hPre_all_finite_attn)
    ∧ preserves_Kernel_KernelIdeal
    ∧ algebraic_KernelIdeal_ReferenceIdeal_pre_all_finite (hKernelIdeal := hKernelIdeal) (hReferenceIdeal := hReferenceIdeal) (hPre_all_finite := hPre_all_finite)
    ∧ preserves_DHn_DHnIdeal
    ∧ algebraic_DHnIdeal_DHnRefIdeal (hDHnIdeal := hDHnIdeal) (hDHnRefIdeal := hDHnRefIdeal)
    ∧ preserves_DwGateUp_DwGateUpIdeal
    ∧ algebraic_DwGateUpIdeal_DwGateUpRefIdeal (hDwGateUpIdeal := hDwGateUpIdeal) (hDwGateUpRefIdeal := hDwGateUpRefIdeal)
    ∧ preserves_DwDown_DwDownIdeal
    ∧ algebraic_DwDownIdeal_DwDownRefIdeal (hDwDownIdeal := hDwDownIdeal) (hDwDownRefIdeal := hDwDownRefIdeal)
    ∧ preserves_DwSquare_DwSquareIdeal
    ∧ algebraic_DwSquareIdeal_DwSquareRefIdeal (hDwSquareIdeal := hDwSquareIdeal) (hDwSquareRefIdeal := hDwSquareRefIdeal)
    ∧ preserves_DwG_DwGIdeal
    ∧ algebraic_DwGIdeal_DwGRefIdeal (hDwGIdeal := hDwGIdeal) (hDwGRefIdeal := hDwGRefIdeal)
    ∧ preserves_DwQkv_DwQkvIdeal
    ∧ algebraic_DwQkvIdeal_DwQkvRefIdeal (hDwQkvIdeal := hDwQkvIdeal) (hDwQkvRefIdeal := hDwQkvRefIdeal)
    ∧ preserves_DwBranch_DwBranchIdeal
    ∧ algebraic_DwBranchIdeal_DwBranchRefIdeal (hDwBranchIdeal := hDwBranchIdeal) (hDwBranchRefIdeal := hDwBranchRefIdeal)
    ∧ preserves_DBranch_DBranchIdeal
    ∧ algebraic_DBranchIdeal_DBranchRefIdeal (hDBranchIdeal := hDBranchIdeal) (hDBranchRefIdeal := hDBranchRefIdeal)
    ∧ preserves_DXnQkv_DXnQkvIdeal
    ∧ algebraic_DXnQkvIdeal_DXnQkvRefIdeal (hDXnQkvIdeal := hDXnQkvIdeal) (hDXnQkvRefIdeal := hDXnQkvRefIdeal)
    ∧ preserves_DXnZ_DXnZIdeal
    ∧ algebraic_DXnZIdeal_DXnZRefIdeal (hDXnZIdeal := hDXnZIdeal) (hDXnZRefIdeal := hDXnZRefIdeal)
    ∧ preserves_DXnG_DXnGIdeal
    ∧ algebraic_DXnGIdeal_DXnGRefIdeal (hDXnGIdeal := hDXnGIdeal) (hDXnGRefIdeal := hDXnGRefIdeal)
    ∧ preserves_ProjQkv_ProjQkvIdeal
    ∧ algebraic_ProjQkvIdeal_ProjQkvRefIdeal (hProjQkvIdeal := hProjQkvIdeal) (hProjQkvRefIdeal := hProjQkvRefIdeal)
    ∧ preserves_ProjZ_ProjZIdeal
    ∧ algebraic_ProjZIdeal_ProjZRefIdeal (hProjZIdeal := hProjZIdeal) (hProjZRefIdeal := hProjZRefIdeal)
    ∧ preserves_ProjG_ProjGIdeal
    ∧ algebraic_ProjGIdeal_ProjGRefIdeal (hProjGIdeal := hProjGIdeal) (hProjGRefIdeal := hProjGRefIdeal)
    ∧ preserves_DownProj_DownProjIdeal
    ∧ algebraic_DownProjIdeal_DownProjRefIdeal (hDownProjIdeal := hDownProjIdeal) (hDownProjRefIdeal := hDownProjRefIdeal)
    ∧ preserves_GateUp_GateUpIdeal
    ∧ algebraic_GateUpIdeal_GateUpRefIdeal (hGateUpIdeal := hGateUpIdeal) (hGateUpRefIdeal := hGateUpRefIdeal)
    ∧ preserves_DAct_DActIdeal
    ∧ algebraic_DActIdeal_DActRefIdeal_pre_all_finite_act (hDActIdeal := hDActIdeal) (hDActRefIdeal := hDActRefIdeal) (hPre_all_finite_act := hPre_all_finite_act)
    ∧ preserves_BranchesMerge_BranchesMergeIdeal
    ∧ algebraic_BranchesMergeIdeal_BranchesMergeRefIdeal (hBranchesMergeIdeal := hBranchesMergeIdeal) (hBranchesMergeRefIdeal := hBranchesMergeRefIdeal)
    ∧ preserves_DMerged_DMergedIdeal
    ∧ algebraic_DMergedIdeal_DMergedRefIdeal (hDMergedIdeal := hDMergedIdeal) (hDMergedRefIdeal := hDMergedRefIdeal)
    ∧ preserves_OutProj_OutProjIdeal
    ∧ algebraic_OutProjIdeal_OutProjRefIdeal (hOutProjIdeal := hOutProjIdeal) (hOutProjRefIdeal := hOutProjRefIdeal)
    ∧ preserves_RmsFwd_RmsFwdIdeal
    ∧ algebraic_RmsFwdIdeal_RmsFwdRefIdeal (hRmsFwdIdeal := hRmsFwdIdeal) (hRmsFwdRefIdeal := hRmsFwdRefIdeal)
    ∧ preserves_RmsBwd_RmsBwdIdeal
    ∧ algebraic_RmsBwdIdeal_RmsBwdRefIdeal (hRmsBwdIdeal := hRmsBwdIdeal) (hRmsBwdRefIdeal := hRmsBwdRefIdeal)
    ∧ preserves_DbQkv_DbQkvIdeal
    ∧ algebraic_DbQkvIdeal_DbQkvRefIdeal (hDbQkvIdeal := hDbQkvIdeal) (hDbQkvRefIdeal := hDbQkvRefIdeal)
    ∧ preserves_AttnFwd_AttnFwdIdeal
    ∧ algebraic_AttnFwdIdeal_AttnFwdRefIdeal_pre_all_finite_attn (hAttnFwdIdeal := hAttnFwdIdeal) (hAttnFwdRefIdeal := hAttnFwdRefIdeal) (hPre_all_finite_attn := hPre_all_finite_attn)
-- ==== Pre_all_finite.lean ====
abbrev S8192x2048 : Shape := ⟨2, ![8192, 2048]⟩
abbrev S8192x1024 : Shape := ⟨2, ![8192, 1024]⟩
abbrev S1024 : Shape := ⟨1, ![1024]⟩
abbrev S8x128x128 : Shape := ⟨3, ![8, 128, 128]⟩
abbrev S8x128 : Shape := ⟨2, ![8, 128]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S1024 : S_.BroadcastsInDim S1024 (![] : Fin 0 → Fin S1024.rank)
  reducesTo_S1024_S_d0 : S1024.ReducesTo [0] S_
  bcast_S_S8x128x128 : S_.BroadcastsInDim S8x128x128 (![] : Fin 0 → Fin S8x128x128.rank)
  reducesTo_S8x128x128_S_d0_1_2 : S8x128x128.ReducesTo [0, 1, 2] S_
  bcast_S_S8x128 : S_.BroadcastsInDim S8x128 (![] : Fin 0 → Fin S8x128.rank)
  reducesTo_S8x128_S_d0_1 : S8x128.ReducesTo [0, 1] S_

variable [Facts]

def fn_part1 {F : FTy → Type} [FloatOps F] (main_arg4 : FVec F S8x128x128 .f32) (main_arg5 : FVec F S8x128 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S8x128x128 .f32 := Host.absf main_arg4
  let main_cst_6 : FVec F S_ .f32 := constant S_ .f32 0x7F800000#32
  let main_v20 : FVec F S8x128x128 .f32 := broadcastInDim S8x128x128 ![] bcast_S_S8x128x128 main_cst_6
  let main_v21 : IVec S8x128x128 1 := cmpf .olt main_v19 main_v20
  let main_c_7 : IVec S_ 1 := constantI S_ 1 1#1
  let main_v22 : IVec S_ 1 := (fun x v => Host.reduce IntOp.andi x v reducesTo_S8x128x128_S_d0_1_2 h_S_) main_v21 main_c_7
  let main_v23 : IVec S_ 1 := andi main_v18 main_v22
  let main_v24 : FVec F S8x128 .f32 := Host.absf main_arg5
  let main_cst_8 : FVec F S_ .f32 := constant S_ .f32 0x7F800000#32
  let main_v25 : FVec F S8x128 .f32 := broadcastInDim S8x128 ![] bcast_S_S8x128 main_cst_8
  let main_v26 : IVec S8x128 1 := cmpf .olt main_v24 main_v25
  let main_c_9 : IVec S_ 1 := constantI S_ 1 1#1
  let main_v27 : IVec S_ 1 := (fun x v => Host.reduce IntOp.andi x v reducesTo_S8x128_S_d0_1 h_S_) main_v26 main_c_9
  let main_v28 : IVec S_ 1 := andi main_v23 main_v27
  main_v28

def fn {F : FTy → Type} [FloatOps F] (main_arg0 : FVec F S8192x2048 .bf16) (main_arg1 : FVec F S8192x1024 .bf16) (main_arg2 : FVec F S1024 .f32) (main_arg3 : FVec F S1024 .f32) (main_arg4 : FVec F S8x128x128 .f32) (main_arg5 : FVec F S8x128 .f32) : IVec S_ 1 :=
  let main_v0 : FVec F S8192x2048 .bf16 := Host.absf main_arg0
  let main_cst : FVec F S_ .bf16 := constant S_ .bf16 0x7F80#16
  let main_v1 : FVec F S8192x2048 .bf16 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x1024 .bf16 := Host.absf main_arg1
  let main_cst_0 : FVec F S_ .bf16 := constant S_ .bf16 0x7F80#16
  let main_v5 : FVec F S8192x1024 .bf16 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_v13 main_v16
-- ==== Pre_all_finite_act.lean ====
abbrev S8192x11264 : Shape := ⟨2, ![8192, 11264]⟩
abbrev S5632x2048 : Shape := ⟨2, ![5632, 2048]⟩
abbrev S8192x2048 : Shape := ⟨2, ![8192, 2048]⟩
abbrev S_ : Shape := ⟨0, ![]⟩

class Facts : Prop where
  bcast_S_S8192x11264 : S_.BroadcastsInDim S8192x11264 (![] : Fin 0 → Fin S8192x11264.rank)
  reducesTo_S8192x11264_S_d0_1 : S8192x11264.ReducesTo [0, 1] S_
  h_S_ : 0 < S_.numel
  bcast_S_S5632x2048 : S_.BroadcastsInDim S5632x2048 (![] : Fin 0 → Fin S5632x2048.rank)
  reducesTo_S5632x2048_S_d0_1 : S5632x2048.ReducesTo [0, 1] S_
  bcast_S_S8192x2048 : S_.BroadcastsInDim S8192x2048 (![] : Fin 0 → Fin S8192x2048.rank)
  reducesTo_S8192x2048_S_d0_1 : S8192x2048.ReducesTo [0, 1] S_

variable [Facts]

def fn {F : FTy → Type} [FloatOps F] (main_arg0 : FVec F S8192x11264 .bf16) (main_arg1 : FVec F S5632x2048 .bf16) (main_arg2 : FVec F S8192x2048 .bf16) : IVec S_ 1 :=
  let main_v0 : FVec F S8192x11264 .bf16 := Host.absf main_arg0
  let main_cst : FVec F S_ .bf16 := constant S_ .bf16 0x7F80#16
  let main_v1 : FVec F S8192x11264 .bf16 := broadcastInDim S8192x11264 ![] bcast_S_S8192x11264 main_cst
  let main_v2 : IVec S8192x11264 1 := cmpf .olt main_v0 main_v1
  let main_c : IVec S_ 1 := constantI S_ 1 1#1
  let main_v3 : IVec S_ 1 := (fun x v => Host.reduce IntOp.andi x v reducesTo_S8192x11264_S_d0_1 h_S_) main_v2 main_c
  let main_v4 : FVec F S5632x2048 .bf16 := Host.absf main_arg1
  let main_cst_0 : FVec F S_ .bf16 := constant S_ .bf16 0x7F80#16
  let main_v5 : FVec F S5632x2048 .bf16 := broadcastInDim S5632x2048 ![] bcast_S_S5632x2048 main_cst_0
  let main_v6 : IVec S5632x2048 1 := cmpf .olt main_v4 main_v5
  let main_c_1 : IVec S_ 1 := constantI S_ 1 1#1
  let main_v7 : IVec S_ 1 := (fun x v => Host.reduce IntOp.andi x v reducesTo_S5632x2048_S_d0_1 h_S_) main_v6 main_c_1
  let main_v8 : FVec F S8192x2048 .bf16 := Host.absf main_arg2
  let main_cst_2 : FVec F S_ .bf16 := constant S_ .bf16 0x7F80#16
  let main_v9 : FVec F S8192x2048 .bf16 := broadcastInDim S8192x2048 ![] bcast_S_S8192x2048 main_cst_2
  let main_v10 : IVec S8192x2048 1 := cmpf .olt main_v8 main_v9
  let main_c_3 : IVec S_ 1 := constantI S_ 1 1#1
  let main_v11 : IVec S_ 1 := (fun x v => Host.reduce IntOp.andi x v reducesTo_S8192x2048_S_d0_1 h_S_) main_v10 main_c_3
  let main_v12 : IVec S_ 1 := andi main_v7 main_v11
  let main_v13 : IVec S_ 1 := andi main_v3 main_v12
  main_v13
-- ==== Pre_all_finite_attn.lean ====
abbrev S8192x1536 : Shape := ⟨2, ![8192, 1536]⟩
abbrev S8192x8 : Shape := ⟨2, ![8192, 8]⟩
abbrev S16 : Shape := ⟨1, ![16]⟩
abbrev S_ : Shape := ⟨0, ![]⟩

class Facts : Prop where
  bcast_S_S8192x1536 : S_.BroadcastsInDim S8192x1536 (![] : Fin 0 → Fin S8192x1536.rank)
  reducesTo_S8192x1536_S_d0_1 : S8192x1536.ReducesTo [0, 1] S_
  h_S_ : 0 < S_.numel
  bcast_S_S8192x8 : S_.BroadcastsInDim S8192x8 (![] : Fin 0 → Fin S8192x8.rank)
  reducesTo_S8192x8_S_d0_1 : S8192x8.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_v8 : IVec S_ 1) (main_v12 : IVec S_ 1) (main_v15 : IVec S16 1) (main_c_5 : IVec S_ 1) : IVec S_ 1 :=
  let main_v16 : IVec S_ 1 := (fun x v => Host.reduce IntOp.andi x v reducesTo_S16_S_d0 h_S_) main_v15 main_c_5
  let main_v17 : IVec S_ 1 := andi main_v12 main_v16
  let main_v18 : IVec S_ 1 := andi main_v8 main_v17
  main_v18

def fn {F : FTy → Type} [FloatOps F] (main_arg0 : FVec F S8192x1536 .bf16) (main_arg1 : FVec F S8192x8 .f32) (main_arg2 : FVec F S8192x8 .f32) (main_arg3 : FVec F S16 .f32) : IVec S_ 1 :=
  let main_v0 : FVec F S8192x1536 .bf16 := Host.absf main_arg0
  let main_cst : FVec F S_ .bf16 := constant S_ .bf16 0x7F80#16
  let main_v1 : FVec F S8192x1536 .bf16 := broadcastInDim S8192x1536 ![] bcast_S_S8192x1536 main_cst
  let main_v2 : IVec S8192x1536 1 := cmpf .olt main_v0 main_v1
  let main_c : IVec S_ 1 := constantI S_ 1 1#1
  let main_v3 : IVec S_ 1 := (fun x v => Host.reduce IntOp.andi x v reducesTo_S8192x1536_S_d0_1 h_S_) main_v2 main_c
  let main_v4 : FVec F S8192x8 .f32 := Host.absf main_arg1
  let main_cst_0 : FVec F S_ .f32 := constant S_ .f32 0x7F800000#32
  let main_v5 : FVec F S8192x8 .f32 := broadcastInDim S8192x8 ![] bcast_S_S8192x8 main_cst_0
  let main_v6 : IVec S8192x8 1 := cmpf .olt main_v4 main_v5
  let main_c_1 : IVec S_ 1 := constantI S_ 1 1#1
  let main_v7 : IVec S_ 1 := (fun x v => Host.reduce IntOp.andi x v reducesTo_S8192x8_S_d0_1 h_S_) main_v6 main_c_1
  let main_v8 : IVec S_ 1 := andi main_v3 main_v7
  let main_v9 : FVec F S8192x8 .f32 := Host.absf main_arg2
  let main_cst_2 : FVec F S_ .f32 := constant S_ .f32 0x7F800000#32
  let main_v10 : FVec F S8192x8 .f32 := broadcastInDim S8192x8 ![] bcast_S_S8192x8 main_cst_2
  let main_v11 : IVec S8192x8 1 := cmpf .olt main_v9 main_v10
  let main_c_3 : IVec S_ 1 := constantI S_ 1 1#1
  let main_v12 : IVec S_ 1 := (fun x v => Host.reduce IntOp.andi x v reducesTo_S8192x8_S_d0_1 h_S_) main_v11 main_c_3
  let main_v13 : FVec F S16 .f32 := Host.absf main_arg3
  let main_cst_4 : FVec F S_ .f32 := constant S_ .f32 0x7F800000#32
  let main_v14 : FVec F S16 .f32 := broadcastInDim S16 ![] bcast_S_S16 main_cst_4
  let main_v15 : IVec S16 1 := cmpf .olt main_v13 main_v14
  let main_c_5 : IVec S_ 1 := constantI S_ 1 1#1
  fn_part1 (F := F) main_v8 main_v12 main_v15 main_c_5
-- ==== Kernel.lean ====
abbrev S8192x2048 : Shape := ⟨2, ![8192, 2048]⟩
abbrev S8192x1024 : Shape := ⟨2, ![8192, 1024]⟩
abbrev S1024 : Shape := ⟨1, ![1024]⟩
abbrev S8x128x128 : Shape := ⟨3, ![8, 128, 128]⟩
abbrev S8x128 : Shape := ⟨2, ![8, 128]⟩
abbrev S1x1024 : Shape := ⟨2, ![1, 1024]⟩
abbrev S128x8 : Shape := ⟨2, ![128, 8]⟩
abbrev S1x2048 : Shape := ⟨2, ![1, 2048]⟩
abbrev S128x2048 : Shape := ⟨2, ![128, 2048]⟩
abbrev S128x1024 : Shape := ⟨2, ![128, 1024]⟩
abbrev S128 : Shape := ⟨1, ![128]⟩
abbrev S128x1 : Shape := ⟨2, ![128, 1]⟩
abbrev S128x128 : Shape := ⟨2, ![128, 128]⟩
abbrev S1x128x128 : Shape := ⟨3, ![1, 128, 128]⟩
abbrev S1x128 : Shape := ⟨2, ![1, 128]⟩

abbrev nBuf : Space → Nat
  | .hbm => 16
  | .vmem => 16
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S1024, .f32⟩
  | .hbm, ⟨3, _⟩ => ⟨S1024, .f32⟩
  | .hbm, ⟨4, _⟩ => ⟨S8x128x128, .f32⟩
  | .hbm, ⟨5, _⟩ => ⟨S8x128, .f32⟩
  | .hbm, ⟨6, _⟩ => ⟨S1x1024, .f32⟩
  | .hbm, ⟨7, _⟩ => ⟨S1x1024, .f32⟩
  | .hbm, ⟨8, _⟩ => ⟨S8x128x128, .f32⟩
  | .hbm, ⟨9, _⟩ => ⟨S128x8, .f32⟩
  | .hbm, ⟨10, _⟩ => ⟨S8192x2048, .bf16⟩
  | .hbm, ⟨11, _⟩ => ⟨S1x1024, .f32⟩
  | .hbm, ⟨12, _⟩ => ⟨S1x1024, .f32⟩
  | .hbm, ⟨13, _⟩ => ⟨S8x128x128, .f32⟩
  | .hbm, ⟨14, _⟩ => ⟨S128x8, .f32⟩
  | .hbm, ⟨15, _⟩ => ⟨S1x2048, .f32⟩
  | .local _ .vmem, ⟨0, _⟩ => ⟨S128x2048, .bf16⟩
  | .local _ .vmem, ⟨1, _⟩ => ⟨S128x2048, .bf16⟩
  | .local _ .vmem, ⟨2, _⟩ => ⟨S128x1024, .bf16⟩
  | .local _ .vmem, ⟨3, _⟩ => ⟨S128x1024, .bf16⟩
  | .local _ .vmem, ⟨4, _⟩ => ⟨S1x1024, .f32⟩
  | .local _ .vmem, ⟨5, _⟩ => ⟨S1x1024, .f32⟩
  | .local _ .vmem, ⟨6, _⟩ => ⟨S8x128x128, .f32⟩
  | .local _ .vmem, ⟨7, _⟩ => ⟨S8x128x128, .f32⟩
  | .local _ .vmem, ⟨8, _⟩ => ⟨S128x8, .f32⟩
  | .local _ .vmem, ⟨9, _⟩ => ⟨S128x2048, .bf16⟩
  | .local _ .vmem, ⟨10, _⟩ => ⟨S128x2048, .bf16⟩
  | .local _ .vmem, ⟨11, _⟩ => ⟨S1x1024, .f32⟩
  | .local _ .vmem, ⟨12, _⟩ => ⟨S1x1024, .f32⟩
  | .local _ .vmem, ⟨13, _⟩ => ⟨S8x128x128, .f32⟩
  | .local _ .vmem, ⟨14, _⟩ => ⟨S128x8, .f32⟩
  | .local _ .vmem, ⟨15, _⟩ => ⟨S1x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v4_4 : Ref sig .tc := ⟨.hbm, 14, rfl⟩
abbrev main_v4_5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x8 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== KernelIdeal.lean ====
variable {F : FTy → Type} [FloatOps F] [Named F]
def κ : String → Option EReal := fun
  | "inv_sqrt2" => some (((Real.sqrt 2)⁻¹ : ℝ) : EReal)
  | "inv_sqrt2pi" => some (((Real.sqrt (2 * Real.pi))⁻¹ : ℝ) : EReal)
  | _ => none
-- ==== ReferenceIdeal.lean ====
abbrev S8192x2048 : Shape := ⟨2, ![8192, 2048]⟩
abbrev S8192x1024 : Shape := ⟨2, ![8192, 1024]⟩
abbrev S1024 : Shape := ⟨1, ![1024]⟩
abbrev S8x128x128 : Shape := ⟨3, ![8, 128, 128]⟩
abbrev S8x128 : Shape := ⟨2, ![8, 128]⟩
abbrev S1x8192x2048 : Shape := ⟨3, ![1, 8192, 2048]⟩
abbrev S_ : Shape := ⟨0, ![]⟩
abbrev S1x8192x1024 : Shape := ⟨3, ![1, 8192, 1024]⟩
abbrev S1x8192 : Shape := ⟨2, ![1, 8192]⟩
abbrev S1x8192x1 : Shape := ⟨3, ![1, 8192, 1]⟩
abbrev S1x1x1024 : Shape := ⟨3, ![1, 1, 1024]⟩
abbrev S1x64x128x8x128 : Shape := ⟨5, ![1, 64, 128, 8, 128]⟩
abbrev S128x128 : Shape := ⟨2, ![128, 128]⟩
abbrev S1x128x128 : Shape := ⟨3, ![1, 128, 128]⟩
abbrev S8x1x64x128x128 : Shape := ⟨5, ![8, 1, 64, 128, 128]⟩
abbrev S128x8 : Shape := ⟨2, ![128, 8]⟩
abbrev S1x1x128x8x1 : Shape := ⟨5, ![1, 1, 128, 8, 1]⟩
abbrev S1x128x8 : Shape := ⟨3, ![1, 128, 8]⟩
abbrev S1x1024 : Shape := ⟨2, ![1, 1024]⟩
abbrev S8192 : Shape := ⟨1, ![8192]⟩
abbrev S2048 : Shape := ⟨1, ![2048]⟩
abbrev S1x2048 : Shape := ⟨2, ![1, 2048]⟩

abbrev nBuf : Space → Nat
  | .hbm => 182
  | .vmem => 0
  | .smem => 0
  | _ => 0

abbrev hbmTy0_0 (i : Nat) : BufTy := match i % 128 with
  | 0 => ⟨S8192x2048, .bf16⟩
  | 1 => ⟨S8192x1024, .bf16⟩
  | 2 => ⟨S1024, .f32⟩
  | 3 => ⟨S1024, .f32⟩
  | 4 => ⟨S8x128x128, .f32⟩
  | 5 => ⟨S8x128, .f32⟩
  | 6 => ⟨S8192x2048, .f32⟩
  | 7 => ⟨S1x8192x2048, .f32⟩
  | 8 => ⟨S_, .f32⟩
  | 9 => ⟨S1x8192x2048, .f32⟩
  | 10 => ⟨S1x8192x2048, .f32⟩
  | 11 => ⟨S1x8192x2048, .f32⟩
  | 12 => ⟨S_, .f32⟩
  | 13 => ⟨S_, .f32⟩
  | 14 => ⟨S_, .f32⟩
  | 15 => ⟨S1x8192x2048, .f32⟩
  | 16 => ⟨S1x8192x2048, .f32⟩
  | 17 => ⟨S1x8192x2048, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S1x8192x2048, .f32⟩
  | 26 => ⟨S1x8192x2048, .f32⟩
  | 27 => ⟨S1x8192x2048, .f32⟩
  | 28 => ⟨S1x8192x2048, .f32⟩
  | 29 => ⟨S1x8192x1024, .f32⟩
  | 30 => ⟨S1x8192x1024, .f32⟩
  | 31 => ⟨S_, .f32⟩
  | 32 => ⟨S1x8192, .f32⟩
  | 33 => ⟨S1x8192x1, .f32⟩
  | 34 => ⟨S_, .f32⟩
  | 35 => ⟨S1x8192x1, .f32⟩
  | 36 => ⟨S1x8192x1, .f32⟩
  | 37 => ⟨S1x8192x1024, .f32⟩
  | 38 => ⟨S1x8192x1024, .f32⟩
  | 39 => ⟨S1x8192x1024, .f32⟩
  | 40 => ⟨S_, .f32⟩
  | 41 => ⟨S1x8192x1024, .f32⟩
  | 42 => ⟨S1x8192x1024, .f32⟩
  | 43 => ⟨S_, .f32⟩
  | 44 => ⟨S1x8192, .f32⟩
  | 45 => ⟨S1x8192x1, .f32⟩
  | 46 => ⟨S_, .f32⟩
  | 47 => ⟨S1x8192x1, .f32⟩
  | 48 => ⟨S1x8192x1, .f32⟩
  | 49 => ⟨S1x8192x1024, .f32⟩
  | 50 => ⟨S1x8192x1024, .f32⟩
  | 51 => ⟨S_, .f32⟩
  | 52 => ⟨S1x8192x1, .f32⟩
  | 53 => ⟨S1x8192x1, .f32⟩
  | 54 => ⟨S1x8192x1, .f32⟩
  | 55 => ⟨S1x8192x1, .f32⟩
  | 56 => ⟨S_, .f32⟩
  | 57 => ⟨S1x8192x1, .f32⟩
  | 58 => ⟨S1x8192x1, .f32⟩
  | 59 => ⟨S1x8192x1024, .f32⟩
  | 60 => ⟨S1x8192x1024, .f32⟩
  | 61 => ⟨S1x1x1024, .f32⟩
  | 62 => ⟨S1x8192x1024, .f32⟩
  | 63 => ⟨S1x8192x1024, .f32⟩
  | 64 => ⟨S1x1x1024, .f32⟩
  | 65 => ⟨S1x8192x1024, .f32⟩
  | 66 => ⟨S1x8192x1024, .f32⟩
  | 67 => ⟨S1x64x128x8x128, .f32⟩
  | 68 => ⟨S_, .i1⟩
  | 69 => ⟨S128x128, .i1⟩
  | 70 => ⟨S128x128, .i32⟩
  | 71 => ⟨S_, .i32⟩
  | 72 => ⟨S128x128, .i32⟩
  | 73 => ⟨S128x128, .i32⟩
  | 74 => ⟨S128x128, .i32⟩
  | 75 => ⟨S128x128, .i1⟩
  | 76 => ⟨S_, .i1⟩
  | 77 => ⟨S128x128, .i1⟩
  | 78 => ⟨S128x128, .i1⟩
  | 79 => ⟨S1x128x128, .i1⟩
  | 80 => ⟨S_, .f32⟩
  | 81 => ⟨S8x128x128, .f32⟩
  | 82 => ⟨S8x128x128, .i1⟩
  | 83 => ⟨S8x128x128, .f32⟩
  | 84 => ⟨S_, .f32⟩
  | 85 => ⟨S8x128x128, .f32⟩
  | 86 => ⟨S8x1x64x128x128, .f32⟩
  | 87 => ⟨S1x64x128x8x128, .f32⟩
  | 88 => ⟨S128x8, .f32⟩
  | 89 => ⟨S1x1x128x8x1, .f32⟩
  | 90 => ⟨S1x64x128x8x128, .f32⟩
  | 91 => ⟨S1x64x128x8x128, .f32⟩
  | 92 => ⟨S1x8192x1024, .f32⟩
  | 93 => ⟨S1x8192x1024, .f32⟩
  | 94 => ⟨S8192x1024, .f32⟩
  | 95 => ⟨S8192x1024, .f32⟩
  | 96 => ⟨S1x8192x1024, .f32⟩
  | 97 => ⟨S1x8192x1024, .f32⟩
  | 98 => ⟨S1x8192x1024, .f32⟩
  | 99 => ⟨S1x64x128x8x128, .f32⟩
  | 100 => ⟨S_, .f32⟩
  | 101 => ⟨S1x128x8, .f32⟩
  | 102 => ⟨S1x1x128x8x1, .f32⟩
  | 103 => ⟨S_, .f32⟩
  | 104 => ⟨S128x8, .f32⟩
  | 105 => ⟨S8x128, .f32⟩
  | 106 => ⟨S8x1x64x128x128, .f32⟩
  | 107 => ⟨S8x128x128, .f32⟩
  | 108 => ⟨S8x1x64x128x128, .f32⟩
  | 109 => ⟨S1x64x128x8x128, .f32⟩
  | 110 => ⟨S_, .f32⟩
  | 111 => ⟨S8x128x128, .f32⟩
  | 112 => ⟨S8x128x128, .f32⟩
  | 113 => ⟨S1x8192x1024, .f32⟩
  | 114 => ⟨S_, .f32⟩
  | 115 => ⟨S1x1024, .f32⟩
  | 116 => ⟨S1x1x1024, .f32⟩
  | 117 => ⟨S_, .f32⟩
  | 118 => ⟨S1024, .f32⟩
  | 119 => ⟨S1x8192x1024, .f32⟩
  | 120 => ⟨S_, .f32⟩
  | 121 => ⟨S1x1024, .f32⟩
  | 122 => ⟨S1x1x1024, .f32⟩
  | 123 => ⟨S1x8192x1024, .f32⟩
  | 124 => ⟨S1x8192x1024, .f32⟩
  | 125 => ⟨S_, .f32⟩
  | 126 => ⟨S1024, .f32⟩
  | 127 => ⟨S1x8192x1024, .f32⟩
  | _ => ⟨S8192x2048, .bf16⟩

abbrev hbmTy0_1 (i : Nat) : BufTy := match i % 128 with
  | 0 => ⟨S_, .f32⟩
  | 1 => ⟨S1x8192, .f32⟩
  | 2 => ⟨S1x8192x1, .f32⟩
  | 3 => ⟨S1x8192x1024, .f32⟩
  | 4 => ⟨S1x8192x1024, .f32⟩
  | 5 => ⟨S1x8192x1, .f32⟩
  | 6 => ⟨S1x8192x1024, .f32⟩
  | 7 => ⟨S_, .f32⟩
  | 8 => ⟨S1x8192, .f32⟩
  | 9 => ⟨S1x8192x1, .f32⟩
  | 10 => ⟨S_, .f32⟩
  | 11 => ⟨S1x8192x1, .f32⟩
  | 12 => ⟨S1x8192x1, .f32⟩
  | 13 => ⟨S_, .f32⟩
  | 14 => ⟨S8192, .f32⟩
  | 15 => ⟨S1x8192, .f32⟩
  | 16 => ⟨S1x8192x1024, .f32⟩
  | 17 => ⟨S1x8192x1024, .f32⟩
  | 18 => ⟨S1x8192x1024, .f32⟩
  | 19 => ⟨S_, .f32⟩
  | 20 => ⟨S1x8192, .f32⟩
  | 21 => ⟨S1x8192x1, .f32⟩
  | 22 => ⟨S1x8192x1024, .f32⟩
  | 23 => ⟨S1x8192x1, .f32⟩
  | 24 => ⟨S_, .f32⟩
  | 25 => ⟨S1x8192x1, .f32⟩
  | 26 => ⟨S1x8192x1, .f32⟩
  | 27 => ⟨S_, .f32⟩
  | 28 => ⟨S8192, .f32⟩
  | 29 => ⟨S1x8192, .f32⟩
  | 30 => ⟨S1x8192x1024, .f32⟩
  | 31 => ⟨S1x8192x1024, .f32⟩
  | 32 => ⟨S1x8192x2048, .f32⟩
  | 33 => ⟨S1x8192x2048, .f32⟩
  | 34 => ⟨S1x8192x2048, .f32⟩
  | 35 => ⟨S1x8192x2048, .f32⟩
  | 36 => ⟨S1x8192x2048, .f32⟩
  | 37 => ⟨S1x8192x2048, .f32⟩
  | 38 => ⟨S1x8192x2048, .f32⟩
  | 39 => ⟨S1x8192x2048, .f32⟩
  | 40 => ⟨S1x8192x2048, .f32⟩
  | 41 => ⟨S_, .f32⟩
  | 42 => ⟨S1x8192x2048, .f32⟩
  | 43 => ⟨S1x8192x2048, .f32⟩
  | 44 => ⟨S1x8192x2048, .f32⟩
  | 45 => ⟨S_, .f32⟩
  | 46 => ⟨S8192x2048, .f32⟩
  | 47 => ⟨S8192x2048, .bf16⟩
  | 48 => ⟨S1x1024, .f32⟩
  | 49 => ⟨S1x1024, .f32⟩
  | 50 => ⟨S128x8, .f32⟩
  | 51 => ⟨S_, .f32⟩
  | 52 => ⟨S2048, .f32⟩
  | 53 => ⟨S1x2048, .f32⟩
  | _ => ⟨S8192x2048, .bf16⟩

abbrev hbmTy (i : Nat) : BufTy := match i / 128 with
  | 0 => hbmTy0_0 i
  | 1 => hbmTy0_1 i
  | _ => ⟨S8192x2048, .bf16⟩

abbrev bufTy : (tb : Table) → Fin (tcTables nBuf tb) → BufTy
  | .hbm, ⟨i, _⟩ => hbmTy i
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_8 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_9 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_c : Ref sig .tc := ⟨.hbm, 68, rfl⟩
abbrev main_v51 : Ref sig .tc := ⟨.hbm, 69, rfl⟩
abbrev main_call0_v0 : Ref sig .tc := ⟨.hbm, 70, rfl⟩
abbrev main_call0_c : Ref sig .tc := ⟨.hbm, 71, rfl⟩
abbrev main_call0_v1 : Ref sig .tc := ⟨.hbm, 72, rfl⟩
abbrev main_call0_v2 : Ref sig .tc := ⟨.hbm, 73, rfl⟩
abbrev main_call0_v3 : Ref sig .tc := ⟨.hbm, 74, rfl⟩
abbrev main_call0_v4 : Ref sig .tc := ⟨.hbm, 75, rfl⟩
abbrev main_call0_c_0 : Ref sig .tc := ⟨.hbm, 76, rfl⟩
abbrev main_call0_v5 : Ref sig .tc := ⟨.hbm, 77, rfl⟩
abbrev main_v52 : Ref sig .tc := ⟨.hbm, 78, rfl⟩
abbrev main_v53 : Ref sig .tc := ⟨.hbm, 79, rfl⟩
abbrev main_cst_10 : Ref sig .tc := ⟨.hbm, 80, rfl⟩
abbrev main_v54 : Ref sig .tc := ⟨.hbm, 81, rfl⟩
abbrev main_v55_1 : Ref sig .tc := ⟨.hbm, 82, rfl⟩
abbrev main_v55_0 : Ref sig .tc := ⟨.hbm, 83, rfl⟩
abbrev main_call1_cst : Ref sig .tc := ⟨.hbm, 84, rfl⟩
abbrev main_v55_2 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_11 : Ref sig .tc := ⟨.hbm, 100, rfl⟩
abbrev main_v70 : Ref sig .tc := ⟨.hbm, 101, rfl⟩
abbrev main_v71 : Ref sig .tc := ⟨.hbm, 102, rfl⟩
abbrev main_cst_12 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_call2_cst : Ref sig .tc := ⟨.hbm, 110, rfl⟩
abbrev main_call2_v0 : Ref sig .tc := ⟨.hbm, 111, rfl⟩
abbrev main_v78 : Ref sig .tc := ⟨.hbm, 112, rfl⟩
abbrev main_v79 : Ref sig .tc := ⟨.hbm, 113, rfl⟩
abbrev main_cst_13 : Ref sig .tc := ⟨.hbm, 114, rfl⟩
abbrev main_v80 : Ref sig .tc := ⟨.hbm, 115, rfl⟩
abbrev main_v81 : Ref sig .tc := ⟨.hbm, 116, rfl⟩
abbrev main_cst_14 : Ref sig .tc := ⟨.hbm, 117, rfl⟩
abbrev main_v82 : Ref sig .tc := ⟨.hbm, 118, rfl⟩
abbrev main_v83 : Ref sig .tc := ⟨.hbm, 119, rfl⟩
abbrev main_cst_15 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_cst_16 : Ref sig .tc := ⟨.hbm, 125, rfl⟩
abbrev main_v88 : Ref sig .tc := ⟨.hbm, 126, rfl⟩
abbrev main_v89 : Ref sig .tc := ⟨.hbm, 127, rfl⟩
abbrev main_cst_17 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_cst_18 : Ref sig .tc := ⟨.hbm, 135, rfl⟩
abbrev main_v96 : Ref sig .tc := ⟨.hbm, 136, rfl⟩
abbrev main_v97 : Ref sig .tc := ⟨.hbm, 137, rfl⟩
abbrev main_cst_19 : Ref sig .tc := ⟨.hbm, 138, rfl⟩
abbrev main_v98 : Ref sig .tc := ⟨.hbm, 139, rfl⟩
abbrev main_v99 : Ref sig .tc := ⟨.hbm, 140, rfl⟩
abbrev main_cst_20 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_cst_21 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_cst_22 : Ref sig .tc := ⟨.hbm, 152, rfl⟩
abbrev main_v109 : Ref sig .tc := ⟨.hbm, 153, rfl⟩
abbrev main_v110 : Ref sig .tc := ⟨.hbm, 154, rfl⟩
abbrev main_cst_23 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_cst_24 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_cst_25 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_cst_26 : Ref sig .tc := ⟨.hbm, 179, rfl⟩
abbrev main_v132 : Ref sig .tc := ⟨.hbm, 180, rfl⟩
abbrev main_v133 : Ref sig .tc := ⟨.hbm, 181, rfl⟩

abbrev nD : Nat := 1
abbrev τ : Topo := Topo.v7x

variable {F : FTy → Type} [FloatOps F]
-- ==== DHn.lean ====
abbrev S8192x11264 : Shape := ⟨2, ![8192, 11264]⟩
abbrev S2048x11264 : Shape := ⟨2, ![2048, 11264]⟩
abbrev S8192x2048 : Shape := ⟨2, ![8192, 2048]⟩
abbrev S1024x2816 : Shape := ⟨2, ![1024, 2816]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x11264, .bf16⟩
  | .hbm, ⟨1, _⟩ => ⟨S2048x11264, .bf16⟩
  | .hbm, ⟨2, _⟩ => ⟨S8192x2048, .bf16⟩
  | .local _ .vmem, ⟨0, _⟩ => ⟨S1024x2816, .bf16⟩
  | .local _ .vmem, ⟨1, _⟩ => ⟨S1024x2816, .bf16⟩
  | .local _ .vmem, ⟨2, _⟩ => ⟨S1024x2816, .bf16⟩
  | .local _ .vmem, ⟨3, _⟩ => ⟨S1024x2816, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DHnRefIdeal.lean ====
abbrev S8192x11264 : Shape := ⟨2, ![8192, 11264]⟩
abbrev S2048x11264 : Shape := ⟨2, ![2048, 11264]⟩
abbrev S_ : Shape := ⟨0, ![]⟩
abbrev S8192x2048 : Shape := ⟨2, ![8192, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x11264, .bf16⟩
  | .hbm, ⟨1, _⟩ => ⟨S2048x11264, .bf16⟩
  | .hbm, ⟨2, _⟩ => ⟨S2048x11264, .f32⟩
  | .hbm, ⟨3, _⟩ => ⟨S_, .f32⟩
  | .hbm, ⟨4, _⟩ => ⟨S8192x2048, .f32⟩
  | .hbm, ⟨5, _⟩ => ⟨S8192x11264, .f32⟩
  | .hbm, ⟨6, _⟩ => ⟨S8192x11264, .f32⟩
  | .hbm, ⟨7, _⟩ => ⟨S8192x2048, .f32⟩
  | .hbm, ⟨8, _⟩ => ⟨S8192x2048, .bf16⟩
  | _, _ => ⟨S8192x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DwGateUp.lean ====
abbrev S8192x2048 : Shape := ⟨2, ![8192, 2048]⟩
abbrev S8192x11264 : Shape := ⟨2, ![8192, 11264]⟩
abbrev S2048x11264 : Shape := ⟨2, ![2048, 11264]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x11264, .bf16⟩
  | .hbm, ⟨2, _⟩ => ⟨S2048x11264, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwGateUpRefIdeal.lean ====
abbrev S8192x2048 : Shape := ⟨2, ![8192, 2048]⟩
abbrev S8192x11264 : Shape := ⟨2, ![8192, 11264]⟩
abbrev S_ : Shape := ⟨0, ![]⟩
abbrev S2048x11264 : Shape := ⟨2, ![2048, 11264]⟩
abbrev S11264x2048 : Shape := ⟨2, ![11264, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x11264, .bf16⟩
  | .hbm, ⟨2, _⟩ => ⟨S8192x2048, .f32⟩
  | .hbm, ⟨3, _⟩ => ⟨S_, .f32⟩
  | .hbm, ⟨4, _⟩ => ⟨S2048x11264, .f32⟩
  | .hbm, ⟨5, _⟩ => ⟨S8192x11264, .f32⟩
  | .hbm, ⟨6, _⟩ => ⟨S8192x11264, .f32⟩
  | .hbm, ⟨7, _⟩ => ⟨S11264x2048, .f32⟩
  | .hbm, ⟨8, _⟩ => ⟨S2048x11264, .f32⟩
  | .hbm, ⟨9, _⟩ => ⟨S2048x11264, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DwDown.lean ====
abbrev S8192x5632 : Shape := ⟨2, ![8192, 5632]⟩
abbrev S8192x2048 : Shape := ⟨2, ![8192, 2048]⟩
abbrev S5632x2048 : Shape := ⟨2, ![5632, 2048]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S5632x2048, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwDownRefIdeal.lean ====
abbrev S8192x5632 : Shape := ⟨2, ![8192, 5632]⟩
abbrev S8192x2048 : Shape := ⟨2, ![8192, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 10
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S8192x5632, .f32⟩
  | .hbm, ⟨3, _⟩ => ⟨S_, .f32⟩
  | .hbm, ⟨4, _⟩ => ⟨S5632x2048, .f32⟩
  | .hbm, ⟨5, _⟩ => ⟨S8192x2048, .f32⟩
  | .hbm, ⟨6, _⟩ => ⟨S8192x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DwSquare.lean ====
abbrev S8192x2048 : Shape := ⟨2, ![8192, 2048]⟩
abbrev S2048x2048 : Shape := ⟨2, ![2048, 2048]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwSquareRefIdeal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x2048, .f32⟩
  | .hbm, ⟨3, _⟩ => ⟨S_, .f32⟩
  | .hbm, ⟨4, _⟩ => ⟨S2048x2048, .f32⟩
  | .hbm, ⟨5, _⟩ => ⟨S8192x2048, .f32⟩
  | .hbm, ⟨6, _⟩ => ⟨S8192x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DwG.lean ====
abbrev S8192x4096 : Shape := ⟨2, ![8192, 4096]⟩
abbrev S8192x2048 : Shape := ⟨2, ![8192, 2048]⟩
abbrev S4096x2048 : Shape := ⟨2, ![4096, 2048]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S8192x2048, .bf16⟩
  | .hbm, ⟨2, _⟩ => ⟨S4096x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwGRefIdeal.lean ====
abbrev S8192x4096 : Shape := ⟨2, ![8192, 4096]⟩
abbrev S8192x2048 : Shape := ⟨2, ![8192, 2048]⟩
abbrev S_ : Shape := ⟨0, ![]⟩
abbrev S4096x2048 : Shape := ⟨2, ![4096, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x2048, .bf16⟩
  | .hbm, ⟨2, _⟩ => ⟨S8192x2048, .f32⟩
  | .hbm, ⟨3, _⟩ => ⟨S_, .f32⟩
  | .hbm, ⟨4, _⟩ => ⟨S4096x2048, .f32⟩
  | .hbm, ⟨5, _⟩ => ⟨S8192x4096, .f32⟩
  | .hbm, ⟨6, _⟩ => ⟨S8192x4096, .f32⟩
  | .hbm, ⟨7, _⟩ => ⟨S4096x2048, .f32⟩
  | .hbm, ⟨8, _⟩ => ⟨S4096x2048, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DwQkv.lean ====
abbrev S8192x1536 : Shape := ⟨2, ![8192, 1536]⟩
abbrev S8192x2048 : Shape := ⟨2, ![8192, 2048]⟩
abbrev S1536x2048 : Shape := ⟨2, ![1536, 2048]⟩
abbrev S4096x768 : Shape := ⟨2, ![4096, 768]⟩
abbrev S4096x1024 : Shape := ⟨2, ![4096, 1024]⟩
abbrev S768x1024 : Shape := ⟨2, ![768, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1536, .bf16⟩
  | .hbm, ⟨1, _⟩ => ⟨S8192x2048, .bf16⟩
  | .hbm, ⟨2, _⟩ => ⟨S1536x2048, .bf16⟩
  | .local _ .vmem, ⟨0, _⟩ => ⟨S4096x768, .bf16⟩
  | .local _ .vmem, ⟨1, _⟩ => ⟨S4096x768, .bf16⟩
  | .local _ .vmem, ⟨2, _⟩ => ⟨S4096x1024, .bf16⟩
  | .local _ .vmem, ⟨3, _⟩ => ⟨S4096x1024, .bf16⟩
  | .local _ .vmem, ⟨4, _⟩ => ⟨S768x1024, .bf16⟩
  | .local _ .vmem, ⟨5, _⟩ => ⟨S768x1024, .bf16⟩
  | .local _ .vmem, ⟨6, _⟩ => ⟨S768x1024, .f32⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwQkvRefIdeal.lean ====
abbrev S8192x1536 : Shape := ⟨2, ![8192, 1536]⟩
abbrev S8192x2048 : Shape := ⟨2, ![8192, 2048]⟩
abbrev S_ : Shape := ⟨0, ![]⟩
abbrev S1536x2048 : Shape := ⟨2, ![1536, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x1536, .bf16⟩
  | .hbm, ⟨1, _⟩ => ⟨S8192x2048, .bf16⟩
  | .hbm, ⟨2, _⟩ => ⟨S8192x2048, .f32⟩
  | .hbm, ⟨3, _⟩ => ⟨S_, .f32⟩
  | .hbm, ⟨4, _⟩ => ⟨S1536x2048, .f32⟩
  | .hbm, ⟨5, _⟩ => ⟨S8192x1536, .f32⟩
  | .hbm, ⟨6, _⟩ => ⟨S8192x1536, .f32⟩
  | .hbm, ⟨7, _⟩ => ⟨S1536x2048, .f32⟩
  | .hbm, ⟨8, _⟩ => ⟨S1536x2048, .bf16⟩
  | _, _ => ⟨S8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DwBranch.lean ====
abbrev S8192x1024 : Shape := ⟨2, ![8192, 1024]⟩
abbrev S8192x2048 : Shape := ⟨2, ![8192, 2048]⟩
abbrev S1024x2048 : Shape := ⟨2, ![1024, 2048]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S1024x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwBranchRefIdeal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S8192x1024, .f32⟩
  | .hbm, ⟨3, _⟩ => ⟨S_, .f32⟩
  | .hbm, ⟨4, _⟩ => ⟨S1024x2048, .f32⟩
  | .hbm, ⟨5, _⟩ => ⟨S8192x2048, .f32⟩
  | .hbm, ⟨6, _⟩ => ⟨S8192x2048, .f32⟩
  | .hbm, ⟨7, _⟩ => ⟨S2048x1024, .f32⟩
  | .hbm, ⟨8, _⟩ => ⟨S1024x2048, .f32⟩
  | .hbm, ⟨9, _⟩ => ⟨S1024x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DBranch.lean ====
abbrev S8192x2048 : Shape := ⟨2, ![8192, 2048]⟩
abbrev S1024x2048 : Shape := ⟨2, ![1024, 2048]⟩
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .bf16⟩
  | .hbm, ⟨2, _⟩ => ⟨S8192x1024, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x1024, .bf16⟩
  | .local _ .vmem, ⟨4, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DBranchRefIdeal.lean ====
abbrev S8192x2048 : Shape := ⟨2, ![8192, 2048]⟩
abbrev S1024x2048 : Shape := ⟨2, ![1024, 2048]⟩
abbrev S_ : Shape := ⟨0, ![]⟩
abbrev S8192x1024 : Shape := ⟨2, ![8192, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .bf16⟩
  | .hbm, ⟨2, _⟩ => ⟨S1024x2048, .f32⟩
  | .hbm, ⟨3, _⟩ => ⟨S_, .f32⟩
  | .hbm, ⟨4, _⟩ => ⟨S8192x1024, .f32⟩
  | .hbm, ⟨5, _⟩ => ⟨S8192x2048, .f32⟩
  | .hbm, ⟨6, _⟩ => ⟨S8192x2048, .f32⟩
  | .hbm, ⟨7, _⟩ => ⟨S8192x1024, .f32⟩
  | .hbm, ⟨8, _⟩ => ⟨S8192x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DXnQkv.lean ====
abbrev S8192x1536 : Shape := ⟨2, ![8192, 1536]⟩
abbrev S1536x2048 : Shape := ⟨2, ![1536, 2048]⟩
abbrev S8192x2048 : Shape := ⟨2, ![8192, 2048]⟩
abbrev S1024x1536 : Shape := ⟨2, ![1024, 1536]⟩
abbrev S1536x1024 : Shape := ⟨2, ![1536, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1536, .bf16⟩
  | .hbm, ⟨1, _⟩ => ⟨S1536x2048, .bf16⟩
  | .hbm, ⟨2, _⟩ => ⟨S8192x2048, .f32⟩
  | .local _ .vmem, ⟨0, _⟩ => ⟨S1024x1536, .bf16⟩
  | .local _ .vmem, ⟨1, _⟩ => ⟨S1024x1536, .bf16⟩
  | .local _ .vmem, ⟨2, _⟩ => ⟨S1536x1024, .bf16⟩
  | .local _ .vmem, ⟨3, _⟩ => ⟨S1536x1024, .bf16⟩
  | .local _ .vmem, ⟨4, _⟩ => ⟨S1024x1024, .f32⟩
  | .local _ .vmem, ⟨5, _⟩ => ⟨S1024x1024, .f32⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DXnQkvRefIdeal.lean ====
abbrev S8192x1536 : Shape := ⟨2, ![8192, 1536]⟩
abbrev S1536x2048 : Shape := ⟨2, ![1536, 2048]⟩
abbrev S_ : Shape := ⟨0, ![]⟩
abbrev S8192x2048 : Shape := ⟨2, ![8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x1536, .bf16⟩
  | .hbm, ⟨1, _⟩ => ⟨S1536x2048, .bf16⟩
  | .hbm, ⟨2, _⟩ => ⟨S1536x2048, .f32⟩
  | .hbm, ⟨3, _⟩ => ⟨S_, .f32⟩
  | .hbm, ⟨4, _⟩ => ⟨S8192x2048, .f32⟩
  | .hbm, ⟨5, _⟩ => ⟨S8192x1536, .f32⟩
  | .hbm, ⟨6, _⟩ => ⟨S8192x1536, .f32⟩
  | .hbm, ⟨7, _⟩ => ⟨S8192x2048, .f32⟩
  | _, _ => ⟨S8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DXnZ.lean ====
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DXnZRefIdeal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S2048x2048, .f32⟩
  | .hbm, ⟨4, _⟩ => ⟨S_, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== DXnG.lean ====
abbrev S8192x4096 : Shape := ⟨2, ![8192, 4096]⟩
abbrev S4096x2048 : Shape := ⟨2, ![4096, 2048]⟩
abbrev S8192x2048 : Shape := ⟨2, ![8192, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x4096, .bf16⟩
  | .hbm, ⟨1, _⟩ => ⟨S4096x2048, .bf16⟩
  | .hbm, ⟨2, _⟩ => ⟨S8192x2048, .f32⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DXnGRefIdeal.lean ====
abbrev S8192x4096 : Shape := ⟨2, ![8192, 4096]⟩
abbrev S4096x2048 : Shape := ⟨2, ![4096, 2048]⟩
abbrev S8192x2048 : Shape := ⟨2, ![8192, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x2048, .bf16⟩
  | .hbm, ⟨2, _⟩ => ⟨S8192x2048, .f32⟩
  | .hbm, ⟨3, _⟩ => ⟨S4096x2048, .f32⟩
  | .hbm, ⟨4, _⟩ => ⟨S_, .f32⟩
  | .hbm, ⟨5, _⟩ => ⟨S8192x2048, .f32⟩
  | .hbm, ⟨6, _⟩ => ⟨S8192x4096, .f32⟩
  | .hbm, ⟨7, _⟩ => ⟨S8192x4096, .f32⟩
  | .hbm, ⟨8, _⟩ => ⟨S8192x2048, .f32⟩
  | .hbm, ⟨9, _⟩ => ⟨S8192x2048, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== ProjQkv.lean ====
abbrev S8192x2048 : Shape := ⟨2, ![8192, 2048]⟩
abbrev S1536x2048 : Shape := ⟨2, ![1536, 2048]⟩
abbrev S1x1536 : Shape := ⟨2, ![1, 1536]⟩
abbrev S8192x1536 : Shape := ⟨2, ![8192, 1536]⟩
abbrev S1024x2048 : Shape := ⟨2, ![1024, 2048]⟩
abbrev S768x2048 : Shape := ⟨2, ![768, 2048]⟩
abbrev S1x768 : Shape := ⟨2, ![1, 768]⟩
abbrev S1024x768 : Shape := ⟨2, ![1024, 768]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S1536x2048, .bf16⟩
  | .hbm, ⟨2, _⟩ => ⟨S1x1536, .f32⟩
  | .hbm, ⟨3, _⟩ => ⟨S8192x1536, .bf16⟩
  | .local _ .vmem, ⟨0, _⟩ => ⟨S1024x2048, .bf16⟩
  | .local _ .vmem, ⟨1, _⟩ => ⟨S1024x2048, .bf16⟩
  | .local _ .vmem, ⟨2, _⟩ => ⟨S768x2048, .bf16⟩
  | .local _ .vmem, ⟨3, _⟩ => ⟨S768x2048, .bf16⟩
  | .local _ .vmem, ⟨4, _⟩ => ⟨S1x768, .f32⟩
  | .local _ .vmem, ⟨5, _⟩ => ⟨S1x768, .f32⟩
  | .local _ .vmem, ⟨6, _⟩ => ⟨S1024x768, .bf16⟩
  | .local _ .vmem, ⟨7, _⟩ => ⟨S1024x768, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ProjQkvRefIdeal.lean ====
abbrev S8192x2048 : Shape := ⟨2, ![8192, 2048]⟩
abbrev S1536x2048 : Shape := ⟨2, ![1536, 2048]⟩
abbrev S1x1536 : Shape := ⟨2, ![1, 1536]⟩
abbrev S8192x1536 : Shape := ⟨2, ![8192, 1536]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1536x2048, .bf16⟩
  | .hbm, ⟨2, _⟩ => ⟨S1x1536, .f32⟩
  | .hbm, ⟨3, _⟩ => ⟨S8192x2048, .f32⟩
  | .hbm, ⟨4, _⟩ => ⟨S1536x2048, .f32⟩
  | .hbm, ⟨5, _⟩ => ⟨S8192x1536, .f32⟩
  | .hbm, ⟨6, _⟩ => ⟨S8192x1536, .f32⟩
  | .hbm, ⟨7, _⟩ => ⟨S8192x1536, .f32⟩
  | .hbm, ⟨8, _⟩ => ⟨S8192x1536, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== ProjZ.lean ====
abbrev S8192x2048 : Shape := ⟨2, ![8192, 2048]⟩
abbrev S2048x2048 : Shape := ⟨2, ![2048, 2048]⟩
abbrev S1x2048 : Shape := ⟨2, ![1, 2048]⟩
abbrev S1024x2048 : Shape := ⟨2, ![1024, 2048]⟩
abbrev S1x1024 : Shape := ⟨2, ![1, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S1x2048, .f32⟩
  | .hbm, ⟨3, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ProjZRefIdeal.lean ====
abbrev S8192x2048 : Shape := ⟨2, ![8192, 2048]⟩
abbrev S2048x2048 : Shape := ⟨2, ![2048, 2048]⟩
abbrev S1x2048 : Shape := ⟨2, ![1, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S1x2048, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== ProjG.lean ====
abbrev S8192x2048 : Shape := ⟨2, ![8192, 2048]⟩
abbrev S4096x2048 : Shape := ⟨2, ![4096, 2048]⟩
abbrev S1x4096 : Shape := ⟨2, ![1, 4096]⟩
abbrev S8192x4096 : Shape := ⟨2, ![8192, 4096]⟩
abbrev S1024x2048 : Shape := ⟨2, ![1024, 2048]⟩
abbrev S1x1024 : Shape := ⟨2, ![1, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S4096x2048, .bf16⟩
  | .hbm, ⟨2, _⟩ => ⟨S1x4096, .f32⟩
  | .hbm, ⟨3, _⟩ => ⟨S8192x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ProjGRefIdeal.lean ====
abbrev S8192x2048 : Shape := ⟨2, ![8192, 2048]⟩
abbrev S4096x2048 : Shape := ⟨2, ![4096, 2048]⟩
abbrev S1x4096 : Shape := ⟨2, ![1, 4096]⟩
abbrev S8192x4096 : Shape := ⟨2, ![8192, 4096]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4096x2048, .bf16⟩
  | .hbm, ⟨2, _⟩ => ⟨S1x4096, .f32⟩
  | .hbm, ⟨3, _⟩ => ⟨S8192x2048, .f32⟩
  | .hbm, ⟨4, _⟩ => ⟨S4096x2048, .f32⟩
  | .hbm, ⟨5, _⟩ => ⟨S8192x4096, .f32⟩
  | .hbm, ⟨6, _⟩ => ⟨S8192x4096, .f32⟩
  | .hbm, ⟨7, _⟩ => ⟨S8192x4096, .f32⟩
  | .hbm, ⟨8, _⟩ => ⟨S8192x4096, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DownProj.lean ====
abbrev S8192x5632 : Shape := ⟨2, ![8192, 5632]⟩
abbrev S5632x2048 : Shape := ⟨2, ![5632, 2048]⟩
abbrev S8192x2048 : Shape := ⟨2, ![8192, 2048]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S8192x2048, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownProjRefIdeal.lean ====
abbrev S8192x5632 : Shape := ⟨2, ![8192, 5632]⟩
abbrev S5632x2048 : Shape := ⟨2, ![5632, 2048]⟩
abbrev S8192x2048 : Shape := ⟨2, ![8192, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S8192x5632, .f32⟩
  | .hbm, ⟨4, _⟩ => ⟨S5632x2048, .f32⟩
  | .hbm, ⟨5, _⟩ => ⟨S8192x2048, .f32⟩
  | .hbm, ⟨6, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== GateUp.lean ====
abbrev S8192x2048 : Shape := ⟨2, ![8192, 2048]⟩
abbrev S2048x11264 : Shape := ⟨2, ![2048, 11264]⟩
abbrev S8192x11264 : Shape := ⟨2, ![8192, 11264]⟩
abbrev S8192x5632 : Shape := ⟨2, ![8192, 5632]⟩
abbrev S512x2048 : Shape := ⟨2, ![512, 2048]⟩
abbrev S2048x2816 : Shape := ⟨2, ![2048, 2816]⟩
abbrev S512x2816 : Shape := ⟨2, ![512, 2816]⟩
abbrev S512x1408 : Shape := ⟨2, ![512, 1408]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S2048x11264, .bf16⟩
  | .hbm, ⟨2, _⟩ => ⟨S8192x11264, .bf16⟩
  | .hbm, ⟨3, _⟩ => ⟨S8192x5632, .bf16⟩
  | .local _ .vmem, ⟨0, _⟩ => ⟨S512x2048, .bf16⟩
  | .local _ .vmem, ⟨1, _⟩ => ⟨S512x2048, .bf16⟩
  | .local _ .vmem, ⟨2, _⟩ => ⟨S2048x2816, .bf16⟩
  | .local _ .vmem, ⟨3, _⟩ => ⟨S2048x2816, .bf16⟩
  | .local _ .vmem, ⟨4, _⟩ => ⟨S512x2816, .bf16⟩
  | .local _ .vmem, ⟨5, _⟩ => ⟨S512x2816, .bf16⟩
  | .local _ .vmem, ⟨6, _⟩ => ⟨S512x1408, .bf16⟩
  | .local _ .vmem, ⟨7, _⟩ => ⟨S512x1408, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GateUpRefIdeal.lean ====
abbrev S8192x2048 : Shape := ⟨2, ![8192, 2048]⟩
abbrev S2048x11264 : Shape := ⟨2, ![2048, 11264]⟩
abbrev S8192x11264 : Shape := ⟨2, ![8192, 11264]⟩
abbrev S8192x4x2x1408 : Shape := ⟨4, ![8192, 4, 2, 1408]⟩
abbrev S8192x4x1x1408 : Shape := ⟨4, ![8192, 4, 1, 1408]⟩
abbrev S8192x4x1408 : Shape := ⟨3, ![8192, 4, 1408]⟩
abbrev S8192x5632 : Shape := ⟨2, ![8192, 5632]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x11264, .bf16⟩
  | .hbm, ⟨2, _⟩ => ⟨S8192x2048, .f32⟩
  | .hbm, ⟨3, _⟩ => ⟨S2048x11264, .f32⟩
  | .hbm, ⟨4, _⟩ => ⟨S8192x11264, .f32⟩
  | .hbm, ⟨5, _⟩ => ⟨S8192x4x2x1408, .f32⟩
  | .hbm, ⟨6, _⟩ => ⟨S8192x4x1x1408, .f32⟩
  | .hbm, ⟨7, _⟩ => ⟨S8192x4x1408, .f32⟩
  | .hbm, ⟨8, _⟩ => ⟨S8192x5632, .f32⟩
  | .hbm, ⟨9, _⟩ => ⟨S8192x4x1x1408, .f32⟩
  | .hbm, ⟨10, _⟩ => ⟨S8192x4x1408, .f32⟩
  | .hbm, ⟨11, _⟩ => ⟨S8192x5632, .f32⟩
  | .hbm, ⟨12, _⟩ => ⟨S8192x11264, .bf16⟩
  | .hbm, ⟨13, _⟩ => ⟨S8192x5632, .f32⟩
  | .hbm, ⟨14, _⟩ => ⟨S8192x5632, .f32⟩
  | .hbm, ⟨15, _⟩ => ⟨S_, .f32⟩
  | .hbm, ⟨16, _⟩ => ⟨S8192x5632, .f32⟩
  | .hbm, ⟨17, _⟩ => ⟨S8192x5632, .f32⟩
  | .hbm, ⟨18, _⟩ => ⟨S_, .f32⟩
  | .hbm, ⟨19, _⟩ => ⟨S8192x5632, .f32⟩
  | .hbm, ⟨20, _⟩ => ⟨S8192x5632, .f32⟩
  | .hbm, ⟨21, _⟩ => ⟨S8192x5632, .f32⟩
  | .hbm, ⟨22, _⟩ => ⟨S8192x5632, .f32⟩
  | .hbm, ⟨23, _⟩ => ⟨S8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩

abbrev nD : Nat := 1
abbrev τ : Topo := Topo.v7x

variable {F : FTy → Type} [FloatOps F]
-- ==== DAct.lean ====
abbrev S8192x11264 : Shape := ⟨2, ![8192, 11264]⟩
abbrev S5632x2048 : Shape := ⟨2, ![5632, 2048]⟩
abbrev S8192x2048 : Shape := ⟨2, ![8192, 2048]⟩
abbrev S1024x2048 : Shape := ⟨2, ![1024, 2048]⟩
abbrev S1408x2048 : Shape := ⟨2, ![1408, 2048]⟩
abbrev S1024x2816 : Shape := ⟨2, ![1024, 2816]⟩
abbrev S256x2048 : Shape := ⟨2, ![256, 2048]⟩
abbrev S256x1408 : Shape := ⟨2, ![256, 1408]⟩

abbrev nBuf : Space → Nat
  | .hbm => 4
  | .vmem => 8
  | .smem => 0
  | _ => 0

abbrev bufTy : (tb : Table) → Fin (tcTables nBuf tb) → BufTy
  | .hbm, ⟨0, _⟩ => ⟨S8192x11264, .bf16⟩
  | .hbm, ⟨1, _⟩ => ⟨S5632x2048, .bf16⟩
  | .hbm, ⟨2, _⟩ => ⟨S8192x2048, .bf16⟩
  | .hbm, ⟨3, _⟩ => ⟨S8192x11264, .bf16⟩
  | .local _ .vmem, ⟨0, _⟩ => ⟨S1024x2048, .bf16⟩
  | .local _ .vmem, ⟨1, _⟩ => ⟨S1024x2048, .bf16⟩
  | .local _ .vmem, ⟨2, _⟩ => ⟨S1408x2048, .bf16⟩
  | .local _ .vmem, ⟨3, _⟩ => ⟨S1408x2048, .bf16⟩
  | .local _ .vmem, ⟨4, _⟩ => ⟨S1024x2816, .bf16⟩
  | .local _ .vmem, ⟨5, _⟩ => ⟨S1024x2816, .bf16⟩
  | .local _ .vmem, ⟨6, _⟩ => ⟨S1024x2816, .bf16⟩
  | .local _ .vmem, ⟨7, _⟩ => ⟨S1024x2816, .bf16⟩
  | _, _ => ⟨S8192x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DActRefIdeal.lean ====
abbrev S8192x11264 : Shape := ⟨2, ![8192, 11264]⟩
abbrev S5632x2048 : Shape := ⟨2, ![5632, 2048]⟩
abbrev S8192x2048 : Shape := ⟨2, ![8192, 2048]⟩
abbrev S8192x4x2x1408 : Shape := ⟨4, ![8192, 4, 2, 1408]⟩
abbrev S8192x4x1x1408 : Shape := ⟨4, ![8192, 4, 1, 1408]⟩
abbrev S8192x4x1408 : Shape := ⟨3, ![8192, 4, 1408]⟩
abbrev S8192x5632 : Shape := ⟨2, ![8192, 5632]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S8192x11264, .bf16⟩
  | .hbm, ⟨1, _⟩ => ⟨S5632x2048, .bf16⟩
  | .hbm, ⟨2, _⟩ => ⟨S8192x2048, .bf16⟩
  | .hbm, ⟨3, _⟩ => ⟨S5632x2048, .f32⟩
  | .hbm, ⟨4, _⟩ => ⟨S8192x11264, .f32⟩
  | .hbm, ⟨5, _⟩ => ⟨S8192x4x2x1408, .f32⟩
  | .hbm, ⟨6, _⟩ => ⟨S8192x4x1x1408, .f32⟩
  | .hbm, ⟨7, _⟩ => ⟨S8192x4x1408, .f32⟩
  | .hbm, ⟨8, _⟩ => ⟨S8192x5632, .f32⟩
  | .hbm, ⟨9, _⟩ => ⟨S8192x4x1x1408, .f32⟩
  | .hbm, ⟨10, _⟩ => ⟨S8192x4x1408, .f32⟩
  | .hbm, ⟨11, _⟩ => ⟨S8192x5632, .f32⟩
  | .hbm, ⟨12, _⟩ => ⟨S8192x5632, .f32⟩
  | .hbm, ⟨13, _⟩ => ⟨S8192x5632, .f32⟩
  | .hbm, ⟨14, _⟩ => ⟨S_, .f32⟩
  | .hbm, ⟨15, _⟩ => ⟨S8192x5632, .f32⟩
  | .hbm, ⟨16, _⟩ => ⟨S8192x5632, .f32⟩
  | .hbm, ⟨17, _⟩ => ⟨S_, .f32⟩
  | .hbm, ⟨18, _⟩ => ⟨S8192x5632, .f32⟩
  | .hbm, ⟨19, _⟩ => ⟨S8192x5632, .f32⟩
  | .hbm, ⟨20, _⟩ => ⟨S_, .f32⟩
  | .hbm, ⟨21, _⟩ => ⟨S8192x5632, .f32⟩
  | .hbm, ⟨22, _⟩ => ⟨S8192x5632, .f32⟩
  | .hbm, ⟨23, _⟩ => ⟨S8192x5632, .f32⟩
  | .hbm, ⟨24, _⟩ => ⟨S8192x5632, .f32⟩
  | .hbm, ⟨25, _⟩ => ⟨S8192x5632, .f32⟩
  | .hbm, ⟨26, _⟩ => ⟨S8192x2048, .f32⟩
  | .hbm, ⟨27, _⟩ => ⟨S8192x2048, .f32⟩
  | .hbm, ⟨28, _⟩ => ⟨S8192x5632, .f32⟩
  | .hbm, ⟨29, _⟩ => ⟨S8192x5632, .f32⟩
  | .hbm, ⟨30, _⟩ => ⟨S8192x5632, .f32⟩
  | .hbm, ⟨31, _⟩ => ⟨S8192x5632, .f32⟩
  | .hbm, ⟨32, _⟩ => ⟨S8192x5632, .f32⟩
  | .hbm, ⟨33, _⟩ => ⟨S8192x5632, .f32⟩
  | .hbm, ⟨34, _⟩ => ⟨S8192x5632, .f32⟩
  | .hbm, ⟨35, _⟩ => ⟨S8192x4x1408, .f32⟩
  | .hbm, ⟨36, _⟩ => ⟨S8192x4x1x1408, .f32⟩
  | .hbm, ⟨37, _⟩ => ⟨S_, .f32⟩
  | .hbm, ⟨38, _⟩ => ⟨S8192x4x2x1408, .f32⟩
  | .hbm, ⟨39, _⟩ => ⟨S8192x4x1408, .f32⟩
  | .hbm, ⟨40, _⟩ => ⟨S8192x4x1x1408, .f32⟩
  | .hbm, ⟨41, _⟩ => ⟨S_, .f32⟩
  | .hbm, ⟨42, _⟩ => ⟨S8192x4x2x1408, .f32⟩
  | .hbm, ⟨43, _⟩ => ⟨S8192x4x2x1408, .f32⟩
  | .hbm, ⟨44, _⟩ => ⟨S8192x11264, .f32⟩
  | .hbm, ⟨45, _⟩ => ⟨S8192x11264, .bf16⟩
  | _, _ => ⟨S8192x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_v9_2 : Ref sig .tc := ⟨.hbm, 19, rfl⟩
abbrev main_call0_cst_1 : Ref sig .tc := ⟨.hbm, 20, rfl⟩
abbrev main_call0_v6 : Ref sig .tc := ⟨.hbm, 21, rfl⟩
abbrev main_call0_v7 : Ref sig .tc := ⟨.hbm, 22, rfl⟩
abbrev main_v9_1 : Ref sig .tc := ⟨.hbm, 23, rfl⟩
abbrev main_v9_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_0 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩

abbrev nD : Nat := 1
abbrev τ : Topo := Topo.v7x

variable {F : FTy → Type} [FloatOps F]
-- ==== BranchesMerge.lean ====
abbrev S8192x1024 : Shape := ⟨2, ![8192, 1024]⟩
abbrev S1024x2048 : Shape := ⟨2, ![1024, 2048]⟩
abbrev S8192x4096 : Shape := ⟨2, ![8192, 4096]⟩
abbrev S8192x2048 : Shape := ⟨2, ![8192, 2048]⟩
abbrev S1024x1024 : Shape := ⟨2, ![1024, 1024]⟩
abbrev S256x1024 : Shape := ⟨2, ![256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x2048, .bf16⟩
  | .hbm, ⟨3, _⟩ => ⟨S1024x2048, .bf16⟩
  | .hbm, ⟨4, _⟩ => ⟨S8192x4096, .bf16⟩
  | .hbm, ⟨5, _⟩ => ⟨S8192x2048, .bf16⟩
  | .hbm, ⟨6, _⟩ => ⟨S8192x2048, .bf16⟩
  | .hbm, ⟨7, _⟩ => ⟨S8192x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x2048, .bf16⟩
  | .local _ .vmem, ⟨9, _⟩ => ⟨S1024x2048, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== BranchesMergeRefIdeal.lean ====
abbrev S8192x1024 : Shape := ⟨2, ![8192, 1024]⟩
abbrev S1024x2048 : Shape := ⟨2, ![1024, 2048]⟩
abbrev S8192x4096 : Shape := ⟨2, ![8192, 4096]⟩
abbrev S_ : Shape := ⟨0, ![]⟩
abbrev S8192x2x2x1024 : Shape := ⟨4, ![8192, 2, 2, 1024]⟩
abbrev S8192x2x1x1024 : Shape := ⟨4, ![8192, 2, 1, 1024]⟩
abbrev S8192x2x1024 : Shape := ⟨3, ![8192, 2, 1024]⟩
abbrev S8192x2048 : Shape := ⟨2, ![8192, 2048]⟩

abbrev nBuf : Space → Nat
  | .hbm => 33
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x2048, .bf16⟩
  | .hbm, ⟨3, _⟩ => ⟨S1024x2048, .bf16⟩
  | .hbm, ⟨4, _⟩ => ⟨S8192x4096, .bf16⟩
  | .hbm, ⟨5, _⟩ => ⟨S8192x4096, .f32⟩
  | .hbm, ⟨6, _⟩ => ⟨S8192x4096, .f32⟩
  | .hbm, ⟨7, _⟩ => ⟨S8192x4096, .f32⟩
  | .hbm, ⟨8, _⟩ => ⟨S_, .f32⟩
  | .hbm, ⟨9, _⟩ => ⟨S8192x4096, .f32⟩
  | .hbm, ⟨10, _⟩ => ⟨S8192x4096, .f32⟩
  | .hbm, ⟨11, _⟩ => ⟨S_, .f32⟩
  | .hbm, ⟨12, _⟩ => ⟨S8192x4096, .f32⟩
  | .hbm, ⟨13, _⟩ => ⟨S8192x4096, .f32⟩
  | .hbm, ⟨14, _⟩ => ⟨S8192x2x2x1024, .f32⟩
  | .hbm, ⟨15, _⟩ => ⟨S8192x2x1x1024, .f32⟩
  | .hbm, ⟨16, _⟩ => ⟨S8192x2x1024, .f32⟩
  | .hbm, ⟨17, _⟩ => ⟨S8192x2048, .f32⟩
  | .hbm, ⟨18, _⟩ => ⟨S8192x2x1x1024, .f32⟩
  | .hbm, ⟨19, _⟩ => ⟨S8192x2x1024, .f32⟩
  | .hbm, ⟨20, _⟩ => ⟨S8192x2048, .f32⟩
  | .hbm, ⟨21, _⟩ => ⟨S8192x1024, .f32⟩
  | .hbm, ⟨22, _⟩ => ⟨S1024x2048, .f32⟩
  | .hbm, ⟨23, _⟩ => ⟨S8192x2048, .f32⟩
  | .hbm, ⟨24, _⟩ => ⟨S8192x1024, .f32⟩
  | .hbm, ⟨25, _⟩ => ⟨S1024x2048, .f32⟩
  | .hbm, ⟨26, _⟩ => ⟨S8192x2048, .f32⟩
  | .hbm, ⟨27, _⟩ => ⟨S8192x2048, .bf16⟩
  | .hbm, ⟨28, _⟩ => ⟨S8192x2048, .bf16⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== DMerged.lean ====
abbrev S8192x2048 : Shape := ⟨2, ![8192, 2048]⟩
abbrev S8192x4096 : Shape := ⟨2, ![8192, 4096]⟩
abbrev S2048x2048 : Shape := ⟨2, ![2048, 2048]⟩
abbrev S1x4096 : Shape := ⟨2, ![1, 4096]⟩
abbrev S1024x2048 : Shape := ⟨2, ![1024, 2048]⟩
abbrev S1024x1024 : Shape := ⟨2, ![1024, 1024]⟩
abbrev S1x2048 : Shape := ⟨2, ![1, 2048]⟩
abbrev S256x2048 : Shape := ⟨2, ![256, 2048]⟩
abbrev S256x1024 : Shape := ⟨2, ![256, 1024]⟩
abbrev S1x1024 : Shape := ⟨2, ![1, 1024]⟩
abbrev S1024 : Shape := ⟨1, ![1024]⟩

abbrev nBuf : Space → Nat
  | .hbm => 9
  | .vmem => 18
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x4096, .bf16⟩
  | .hbm, ⟨3, _⟩ => ⟨S2048x2048, .bf16⟩
  | .hbm, ⟨4, _⟩ => ⟨S8192x2048, .bf16⟩
  | .hbm, ⟨5, _⟩ => ⟨S8192x2048, .bf16⟩
  | .hbm, ⟨6, _⟩ => ⟨S8192x2048, .bf16⟩
  | .hbm, ⟨7, _⟩ => ⟨S8192x4096, .bf16⟩
  | .hbm, ⟨8, _⟩ => ⟨S1x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x2048, .bf16⟩
  | .local _ .vmem, ⟨15, _⟩ => ⟨S1024x2048, .bf16⟩
  | .local _ .vmem, ⟨16, _⟩ => ⟨S1x2048, .f32⟩
  | .local _ .vmem, ⟨17, _⟩ => ⟨S1x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== DMergedRefIdeal.lean ====
abbrev S8192x2048 : Shape := ⟨2, ![8192, 2048]⟩
abbrev S8192x4096 : Shape := ⟨2, ![8192, 4096]⟩
abbrev S2048x2048 : Shape := ⟨2, ![2048, 2048]⟩
abbrev S_ : Shape := ⟨0, ![]⟩
abbrev S8192x2x2x1024 : Shape := ⟨4, ![8192, 2, 2, 1024]⟩
abbrev S8192x2x1x1024 : Shape := ⟨4, ![8192, 2, 1, 1024]⟩
abbrev S8192x2x1024 : Shape := ⟨3, ![8192, 2, 1024]⟩
abbrev S4096 : Shape := ⟨1, ![4096]⟩
abbrev S1x4096 : Shape := ⟨2, ![1, 4096]⟩

abbrev nBuf : Space → Nat
  | .hbm => 55
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x4096, .bf16⟩
  | .hbm, ⟨3, _⟩ => ⟨S2048x2048, .bf16⟩
  | .hbm, ⟨4, _⟩ => ⟨S8192x2048, .bf16⟩
  | .hbm, ⟨5, _⟩ => ⟨S2048x2048, .f32⟩
  | .hbm, ⟨6, _⟩ => ⟨S8192x2048, .f32⟩
  | .hbm, ⟨7, _⟩ => ⟨S8192x2048, .f32⟩
  | .hbm, ⟨8, _⟩ => ⟨S8192x4096, .f32⟩
  | .hbm, ⟨9, _⟩ => ⟨S8192x4096, .f32⟩
  | .hbm, ⟨10, _⟩ => ⟨S8192x4096, .f32⟩
  | .hbm, ⟨11, _⟩ => ⟨S_, .f32⟩
  | .hbm, ⟨12, _⟩ => ⟨S8192x4096, .f32⟩
  | .hbm, ⟨13, _⟩ => ⟨S8192x4096, .f32⟩
  | .hbm, ⟨14, _⟩ => ⟨S_, .f32⟩
  | .hbm, ⟨15, _⟩ => ⟨S8192x4096, .f32⟩
  | .hbm, ⟨16, _⟩ => ⟨S8192x4096, .f32⟩
  | .hbm, ⟨17, _⟩ => ⟨S_, .f32⟩
  | .hbm, ⟨18, _⟩ => ⟨S8192x4096, .f32⟩
  | .hbm, ⟨19, _⟩ => ⟨S8192x4096, .f32⟩
  | .hbm, ⟨20, _⟩ => ⟨S8192x4096, .f32⟩
  | .hbm, ⟨21, _⟩ => ⟨S8192x2x2x1024, .f32⟩
  | .hbm, ⟨22, _⟩ => ⟨S8192x2x1x1024, .f32⟩
  | .hbm, ⟨23, _⟩ => ⟨S8192x2x1024, .f32⟩
  | .hbm, ⟨24, _⟩ => ⟨S8192x2048, .f32⟩
  | .hbm, ⟨25, _⟩ => ⟨S8192x2x1x1024, .f32⟩
  | .hbm, ⟨26, _⟩ => ⟨S8192x2x1024, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S8192x2x1024, .f32⟩
  | .hbm, ⟨39, _⟩ => ⟨S8192x2x1x1024, .f32⟩
  | .hbm, ⟨40, _⟩ => ⟨S_, .f32⟩
  | .hbm, ⟨41, _⟩ => ⟨S8192x2x2x1024, .f32⟩
  | .hbm, ⟨42, _⟩ => ⟨S8192x2x1024, .f32⟩
  | .hbm, ⟨43, _⟩ => ⟨S8192x2x1x1024, .f32⟩
  | .hbm, ⟨44, _⟩ => ⟨S_, .f32⟩
  | .hbm, ⟨45, _⟩ => ⟨S8192x2x2x1024, .f32⟩
  | .hbm, ⟨46, _⟩ => ⟨S8192x2x2x1024, .f32⟩
  | .hbm, ⟨47, _⟩ => ⟨S8192x4096, .f32⟩
  | .hbm, ⟨48, _⟩ => ⟨S8192x4096, .f32⟩
  | .hbm, ⟨49, _⟩ => ⟨S8192x2048, .bf16⟩
  | .hbm, ⟨50, _⟩ => ⟨S8192x2048, .bf16⟩
  | .hbm, ⟨51, _⟩ => ⟨S8192x4096, .bf16⟩
  | .hbm, ⟨52, _⟩ => ⟨S_, .f32⟩
  | .hbm, ⟨53, _⟩ => ⟨S4096, .f32⟩
  | .hbm, ⟨54, _⟩ => ⟨S1x4096, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_2 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_3 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst_4 : Ref sig .tc := ⟨.hbm, 52, rfl⟩
abbrev main_v42 : Ref sig .tc := ⟨.hbm, 53, rfl⟩
abbrev main_v43 : Ref sig .tc := ⟨.hbm, 54, rfl⟩

abbrev nD : Nat := 1
abbrev τ : Topo := Topo.v7x

variable {F : FTy → Type} [FloatOps F]
-- ==== OutProj.lean ====
abbrev S8192x2048 : Shape := ⟨2, ![8192, 2048]⟩
abbrev S2048x2048 : Shape := ⟨2, ![2048, 2048]⟩
abbrev S1x2048 : Shape := ⟨2, ![1, 2048]⟩
abbrev S512x2048 : Shape := ⟨2, ![512, 2048]⟩
abbrev S256x2048 : Shape := ⟨2, ![256, 2048]⟩
abbrev S256 : Shape := ⟨1, ![256]⟩
abbrev S256x1 : Shape := ⟨2, ![256, 1]⟩

abbrev nBuf : Space → Nat
  | .hbm => 6
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S1x2048, .f32⟩
  | .hbm, ⟨4, _⟩ => ⟨S8192x2048, .f32⟩
  | .hbm, ⟨5, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutProjRefIdeal.lean ====
abbrev S8192x2048 : Shape := ⟨2, ![8192, 2048]⟩
abbrev S2048x2048 : Shape := ⟨2, ![2048, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 24
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S1x2048, .f32⟩
  | .hbm, ⟨4, _⟩ => ⟨S8192x2048, .f32⟩
  | .hbm, ⟨5, _⟩ => ⟨S2048x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== RmsFwd.lean ====
abbrev S8192x2048 : Shape := ⟨2, ![8192, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsFwdRefIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== RmsBwd.lean ====
abbrev S8192x2048 : Shape := ⟨2, ![8192, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S2048 : Shape := ⟨1, ![2048]⟩

abbrev nBuf : Space → Nat
  | .hbm => 7
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .bf16⟩
  | .hbm, ⟨3, _⟩ => ⟨S8192x2048, .f32⟩
  | .hbm, ⟨4, _⟩ => ⟨S8192x2048, .f32⟩
  | .hbm, ⟨5, _⟩ => ⟨S8192x2048, .bf16⟩
  | .hbm, ⟨6, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | .local _ .vmem, ⟨11, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== RmsBwdRefIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 50
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .bf16⟩
  | .hbm, ⟨3, _⟩ => ⟨S8192x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S_, .f32⟩
  | .hbm, ⟨32, _⟩ => ⟨S8192, .f32⟩
  | .hbm, ⟨33, _⟩ => ⟨S8192x1, .f32⟩
  | .hbm, ⟨34, _⟩ => ⟨S8192x2048, .f32⟩
  | .hbm, ⟨35, _⟩ => ⟨S8192x2048, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S_, .f32⟩
  | .hbm, ⟨41, _⟩ => ⟨S8192, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]
-- ==== DbQkv.lean ====
abbrev S8192x1536 : Shape := ⟨2, ![8192, 1536]⟩
abbrev S1x1536 : Shape := ⟨2, ![1, 1536]⟩
abbrev S512x1536 : Shape := ⟨2, ![512, 1536]⟩
abbrev S1536 : Shape := ⟨1, ![1536]⟩

abbrev nBuf : Space → Nat
  | .hbm => 2
  | .vmem => 3
  | .smem => 0
  | _ => 0

abbrev bufTy : (tb : Table) → Fin (tcTables nBuf tb) → BufTy
  | .hbm, ⟨0, _⟩ => ⟨S8192x1536, .bf16⟩
  | .hbm, ⟨1, _⟩ => ⟨S1x1536, .f32⟩
  | .local _ .vmem, ⟨0, _⟩ => ⟨S512x1536, .bf16⟩
  | .local _ .vmem, ⟨1, _⟩ => ⟨S512x1536, .bf16⟩
  | .local _ .vmem, ⟨2, _⟩ => ⟨S1x1536, .f32⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== DbQkvRefIdeal.lean ====
abbrev S8192x1536 : Shape := ⟨2, ![8192, 1536]⟩
abbrev S_ : Shape := ⟨0, ![]⟩
abbrev S1x1536 : Shape := ⟨2, ![1, 1536]⟩
abbrev S1536 : Shape := ⟨1, ![1536]⟩

abbrev nBuf : Space → Nat
  | .hbm => 11
  | .vmem => 0
  | .smem => 0
  | _ => 0

abbrev bufTy : (tb : Table) → Fin (tcTables nBuf tb) → BufTy
  | .hbm, ⟨0, _⟩ => ⟨S8192x1536, .bf16⟩
  | .hbm, ⟨1, _⟩ => ⟨S_, .f32⟩
  | .hbm, ⟨2, _⟩ => ⟨S1x1536, .f32⟩
  | .hbm, ⟨3, _⟩ => ⟨S_, .f32⟩
  | .hbm, ⟨4, _⟩ => ⟨S8192x1536, .f32⟩
  | .hbm, ⟨5, _⟩ => ⟨S8192x1536, .f32⟩
  | .hbm, ⟨6, _⟩ => ⟨S8192x1536, .f32⟩
  | .hbm, ⟨7, _⟩ => ⟨S8192x1536, .f32⟩
  | .hbm, ⟨8, _⟩ => ⟨S_, .f32⟩
  | .hbm, ⟨9, _⟩ => ⟨S1536, .f32⟩
  | .hbm, ⟨10, _⟩ => ⟨S1x1536, .f32⟩
  | _, _ => ⟨S8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== AttnFwd.lean ====
abbrev S8192x1536 : Shape := ⟨2, ![8192, 1536]⟩
abbrev S8192x8 : Shape := ⟨2, ![8192, 8]⟩
abbrev S16 : Shape := ⟨1, ![16]⟩
abbrev S_ : Shape := ⟨0, ![]⟩
abbrev S8192x48 : Shape := ⟨2, ![8192, 48]⟩
abbrev S8192x328 : Shape := ⟨2, ![8192, 328]⟩
abbrev S8192x56 : Shape := ⟨2, ![8192, 56]⟩
abbrev S8192x384 : Shape := ⟨2, ![8192, 384]⟩
abbrev S8192x1024 : Shape := ⟨2, ![8192, 1024]⟩
abbrev S128x1024 : Shape := ⟨2, ![128, 1024]⟩
abbrev S128x256 : Shape := ⟨2, ![128, 256]⟩
abbrev S128x384 : Shape := ⟨2, ![128, 384]⟩
abbrev S128x128 : Shape := ⟨2, ![128, 128]⟩
abbrev S256x256 : Shape := ⟨2, ![256, 256]⟩
abbrev S128x64 : Shape := ⟨2, ![128, 64]⟩
abbrev S256x64 : Shape := ⟨2, ![256, 64]⟩
abbrev S128 : Shape := ⟨1, ![128]⟩
abbrev S128x1 : Shape := ⟨2, ![128, 1]⟩
abbrev S1 : Shape := ⟨1, ![1]⟩

abbrev nBuf : Space → Nat
  | .hbm => 16
  | .vmem => 16
  | .smem => 1
  | _ => 0

abbrev bufTy : (tb : Table) → Fin (tcTables nBuf tb) → BufTy
  | .hbm, ⟨0, _⟩ => ⟨S8192x1536, .bf16⟩
  | .hbm, ⟨1, _⟩ => ⟨S8192x8, .f32⟩
  | .hbm, ⟨2, _⟩ => ⟨S8192x8, .f32⟩
  | .hbm, ⟨3, _⟩ => ⟨S16, .f32⟩
  | .hbm, ⟨4, _⟩ => ⟨S_, .f32⟩
  | .hbm, ⟨5, _⟩ => ⟨S8192x48, .f32⟩
  | .hbm, ⟨6, _⟩ => ⟨S_, .f32⟩
  | .hbm, ⟨7, _⟩ => ⟨S8192x48, .f32⟩
  | .hbm, ⟨8, _⟩ => ⟨S_, .f32⟩
  | .hbm, ⟨9, _⟩ => ⟨S8192x8, .f32⟩
  | .hbm, ⟨10, _⟩ => ⟨S8192x8, .f32⟩
  | .hbm, ⟨11, _⟩ => ⟨S8192x8, .f32⟩
  | .hbm, ⟨12, _⟩ => ⟨S8192x328, .f32⟩
  | .hbm, ⟨13, _⟩ => ⟨S8192x56, .f32⟩
  | .hbm, ⟨14, _⟩ => ⟨S8192x384, .f32⟩
  | .hbm, ⟨15, _⟩ => ⟨S8192x1024, .bf16⟩
  | .local _ .vmem, ⟨0, _⟩ => ⟨S128x1024, .bf16⟩
  | .local _ .vmem, ⟨1, _⟩ => ⟨S128x1024, .bf16⟩
  | .local _ .vmem, ⟨2, _⟩ => ⟨S128x256, .bf16⟩
  | .local _ .vmem, ⟨3, _⟩ => ⟨S128x256, .bf16⟩
  | .local _ .vmem, ⟨4, _⟩ => ⟨S128x256, .bf16⟩
  | .local _ .vmem, ⟨5, _⟩ => ⟨S128x256, .bf16⟩
  | .local _ .vmem, ⟨6, _⟩ => ⟨S128x256, .bf16⟩
  | .local _ .vmem, ⟨7, _⟩ => ⟨S128x256, .bf16⟩
  | .local _ .vmem, ⟨8, _⟩ => ⟨S128x256, .bf16⟩
  | .local _ .vmem, ⟨9, _⟩ => ⟨S128x256, .bf16⟩
  | .local _ .vmem, ⟨10, _⟩ => ⟨S128x384, .f32⟩
  | .local _ .vmem, ⟨11, _⟩ => ⟨S128x384, .f32⟩
  | .local _ .vmem, ⟨12, _⟩ => ⟨S128x384, .f32⟩
  | .local _ .vmem, ⟨13, _⟩ => ⟨S128x384, .f32⟩
  | .local _ .vmem, ⟨14, _⟩ => ⟨S128x1024, .bf16⟩
  | .local _ .vmem, ⟨15, _⟩ => ⟨S128x1024, .bf16⟩
  | .local _ .smem, ⟨0, _⟩ => ⟨S16, .f32⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_cst_1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let c0_i32_0 : BitVec 32 := 0#32
  ![v1.toNat, c4_i32.toNat]

def cc0_transform_4 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c5_i32 : BitVec 32 := 5#32
  let c0_i32_0 : BitVec 32 := 0#32
  ![v1.toNat, c5_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AttnFwdIdeal.lean ====
variable {F : FTy → Type} [FloatOps F] [Named F]
def κ : String → Option EReal := fun
  | "masked" => some ⊥
  | _ => none
-- ==== AttnFwdRefIdeal.lean ====
abbrev S8192x1536 : Shape := ⟨2, ![8192, 1536]⟩
abbrev S8192x8 : Shape := ⟨2, ![8192, 8]⟩
abbrev S16 : Shape := ⟨1, ![16]⟩
abbrev S8192x1024 : Shape := ⟨2, ![8192, 1024]⟩
abbrev S8192x16x64 : Shape := ⟨3, ![8192, 16, 64]⟩
abbrev S8192x1x8 : Shape := ⟨3, ![8192, 1, 8]⟩
abbrev S8192x16x8 : Shape := ⟨3, ![8192, 16, 8]⟩
abbrev S8192x16x48 : Shape := ⟨3, ![8192, 16, 48]⟩
abbrev S8192x256 : Shape := ⟨2, ![8192, 256]⟩
abbrev S8192x4x64 : Shape := ⟨3, ![8192, 4, 64]⟩
abbrev S8192x4x8 : Shape := ⟨3, ![8192, 4, 8]⟩
abbrev S8192x4x48 : Shape := ⟨3, ![8192, 4, 48]⟩
abbrev S64x128x4x4x64 : Shape := ⟨5, ![64, 128, 4, 4, 64]⟩
abbrev S64x128x4x64 : Shape := ⟨4, ![64, 128, 4, 64]⟩
abbrev S_ : Shape := ⟨0, ![]⟩
abbrev S65x128x4x64 : Shape := ⟨4, ![65, 128, 4, 64]⟩
abbrev S64x256x4x64 : Shape := ⟨4, ![64, 256, 4, 64]⟩
abbrev S64x4x256x128x4 : Shape := ⟨5, ![64, 4, 256, 128, 4]⟩
abbrev S64x4x4x128x256 : Shape := ⟨5, ![64, 4, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1x1 : Shape := ⟨3, ![64, 1, 1]⟩
abbrev S1x1x256 : Shape := ⟨3, ![1, 1, 256]⟩
abbrev S64x1x256 : Shape := ⟨3, ![64, 1, 256]⟩
abbrev S1x128x256 : Shape := ⟨3, ![1, 128, 256]⟩
abbrev S64x128x256 : Shape := ⟨3, ![64, 128, 256]⟩
abbrev S64x1x1x128x256 : Shape := ⟨5, ![64, 1, 1, 128, 256]⟩
abbrev S4x4 : Shape := ⟨2, ![4, 4]⟩
abbrev S1x4x4x1x1 : Shape := ⟨5, ![1, 4, 4, 1, 1]⟩
abbrev S64x4x4x128x1 : Shape := ⟨5, ![64, 4, 4, 128, 1]⟩
abbrev S64x4x4x128x257 : Shape := ⟨5, ![64, 4, 4, 128, 257]⟩
abbrev S64x4x4x128 : Shape := ⟨4, ![64, 4, 4, 128]⟩
abbrev S64x4x64x4x128 : Shape := ⟨5, ![64, 4, 64, 4, 128]⟩

abbrev nBuf : Space → Nat
  | .hbm => 123
  | .vmem => 0
  | .smem => 0
  | _ => 0

abbrev bufTy : (tb : Table) → Fin (tcTables nBuf tb) → BufTy
  | .hbm, ⟨0, _⟩ => ⟨S8192x1536, .bf16⟩
  | .hbm, ⟨1, _⟩ => ⟨S8192x8, .f32⟩
  | .hbm, ⟨2, _⟩ => ⟨S8192x8, .f32⟩
  | .hbm, ⟨3, _⟩ => ⟨S16, .f32⟩
  | .hbm, ⟨4, _⟩ => ⟨S8192x1536, .f32⟩
  | .hbm, ⟨5, _⟩ => ⟨S8192x1024, .f32⟩
  | .hbm, ⟨6, _⟩ => ⟨S8192x16x64, .f32⟩
  | .hbm, ⟨7, _⟩ => ⟨S8192x1x8, .f32⟩
  | .hbm, ⟨8, _⟩ => ⟨S8192x1x8, .f32⟩
  | .hbm, ⟨9, _⟩ => ⟨S8192x16x8, .f32⟩
  | .hbm, ⟨10, _⟩ => ⟨S8192x16x8, .f32⟩
  | .hbm, ⟨11, _⟩ => ⟨S8192x16x8, .f32⟩
  | .hbm, ⟨12, _⟩ => ⟨S8192x16x8, .f32⟩
  | .hbm, ⟨13, _⟩ => ⟨S8192x16x8, .f32⟩
  | .hbm, ⟨14, _⟩ => ⟨S8192x16x8, .f32⟩
  | .hbm, ⟨15, _⟩ => ⟨S8192x16x8, .f32⟩
  | .hbm, ⟨16, _⟩ => ⟨S8192x16x8, .f32⟩
  | .hbm, ⟨17, _⟩ => ⟨S8192x16x8, .f32⟩
  | .hbm, ⟨18, _⟩ => ⟨S8192x16x8, .f32⟩
  | .hbm, ⟨19, _⟩ => ⟨S8192x16x8, .f32⟩
  | .hbm, ⟨20, _⟩ => ⟨S8192x16x8, .f32⟩
  | .hbm, ⟨21, _⟩ => ⟨S8192x16x48, .f32⟩
  | .hbm, ⟨22, _⟩ => ⟨S8192x16x64, .f32⟩
  | .hbm, ⟨23, _⟩ => ⟨S8192x256, .f32⟩
  | .hbm, ⟨24, _⟩ => ⟨S8192x4x64, .f32⟩
  | .hbm, ⟨25, _⟩ => ⟨S8192x1x8, .f32⟩
  | .hbm, ⟨26, _⟩ => ⟨S8192x1x8, .f32⟩
  | .hbm, ⟨27, _⟩ => ⟨S8192x4x8, .f32⟩
  | .hbm, ⟨28, _⟩ => ⟨S8192x4x8, .f32⟩
  | .hbm, ⟨29, _⟩ => ⟨S8192x4x8, .f32⟩
  | .hbm, ⟨30, _⟩ => ⟨S8192x4x8, .f32⟩
  | .hbm, ⟨31, _⟩ => ⟨S8192x4x8, .f32⟩
  | .hbm, ⟨32, _⟩ => ⟨S8192x4x8, .f32⟩
  | .hbm, ⟨33, _⟩ => ⟨S8192x4x8, .f32⟩
  | .hbm, ⟨34, _⟩ => ⟨S8192x4x8, .f32⟩
  | .hbm, ⟨35, _⟩ => ⟨S8192x4x8, .f32⟩
  | .hbm, ⟨36, _⟩ => ⟨S8192x4x8, .f32⟩
  | .hbm, ⟨37, _⟩ => ⟨S8192x4x8, .f32⟩
  | .hbm, ⟨38, _⟩ => ⟨S8192x4x8, .f32⟩
  | .hbm, ⟨39, _⟩ => ⟨S8192x4x48, .f32⟩
  | .hbm, ⟨40, _⟩ => ⟨S8192x4x64, .f32⟩
  | .hbm, ⟨41, _⟩ => ⟨S8192x256, .f32⟩
  | .hbm, ⟨42, _⟩ => ⟨S8192x4x64, .f32⟩
  | .hbm, ⟨43, _⟩ => ⟨S64x128x4x4x64, .f32⟩
  | .hbm, ⟨44, _⟩ => ⟨S64x128x4x64, .f32⟩
  | .hbm, ⟨45, _⟩ => ⟨S_, .i32⟩
  | .hbm, ⟨46, _⟩ => ⟨S_, .f32⟩
  | .hbm, ⟨47, _⟩ => ⟨S65x128x4x64, .f32⟩
  | .hbm, ⟨48, _⟩ => ⟨S64x128x4x64, .f32⟩
  | .hbm, ⟨49, _⟩ => ⟨S64x256x4x64, .f32⟩
  | .hbm, ⟨50, _⟩ => ⟨S64x128x4x64, .f32⟩
  | .hbm, ⟨51, _⟩ => ⟨S_, .i32⟩
  | .hbm, ⟨52, _⟩ => ⟨S_, .f32⟩
  | .hbm, ⟨53, _⟩ => ⟨S65x128x4x64, .f32⟩
  | .hbm, ⟨54, _⟩ => ⟨S64x128x4x64, .f32⟩
  | .hbm, ⟨55, _⟩ => ⟨S64x256x4x64, .f32⟩
  | .hbm, ⟨56, _⟩ => ⟨S64x4x256x128x4, .f32⟩
  | .hbm, ⟨57, _⟩ => ⟨S64x4x4x128x256, .f32⟩
  | .hbm, ⟨58, _⟩ => ⟨S_, .f32⟩
  | .hbm, ⟨59, _⟩ => ⟨S64x4x4x128x256, .f32⟩
  | .hbm, ⟨60, _⟩ => ⟨S64x4x4x128x256, .f32⟩
  | .hbm, ⟨61, _⟩ => ⟨S128, .i32⟩
  | .hbm, ⟨62, _⟩ => ⟨S128x1, .i32⟩
  | .hbm, ⟨63, _⟩ => ⟨S256, .i32⟩
  | .hbm, ⟨64, _⟩ => ⟨S1x256, .i32⟩
  | .hbm, ⟨65, _⟩ => ⟨S_, .i32⟩
  | .hbm, ⟨66, _⟩ => ⟨S128x1, .i32⟩
  | .hbm, ⟨67, _⟩ => ⟨S128x1, .i32⟩
  | .hbm, ⟨68, _⟩ => ⟨S128x256, .i32⟩
  | .hbm, ⟨69, _⟩ => ⟨S128x256, .i32⟩
  | .hbm, ⟨70, _⟩ => ⟨S128x256, .i32⟩
  | .hbm, ⟨71, _⟩ => ⟨S_, .i32⟩
  | .hbm, ⟨72, _⟩ => ⟨S128x256, .i32⟩
  | .hbm, ⟨73, _⟩ => ⟨S128x256, .i1⟩
  | .hbm, ⟨74, _⟩ => ⟨S_, .i32⟩
  | .hbm, ⟨75, _⟩ => ⟨S128x256, .i32⟩
  | .hbm, ⟨76, _⟩ => ⟨S128x256, .i1⟩
  | .hbm, ⟨77, _⟩ => ⟨S128x256, .i1⟩
  | .hbm, ⟨78, _⟩ => ⟨S64, .i32⟩
  | .hbm, ⟨79, _⟩ => ⟨S64x1x1, .i32⟩
  | .hbm, ⟨80, _⟩ => ⟨S_, .i32⟩
  | .hbm, ⟨81, _⟩ => ⟨S64x1x1, .i32⟩
  | .hbm, ⟨82, _⟩ => ⟨S64x1x1, .i1⟩
  | .hbm, ⟨83, _⟩ => ⟨S_, .i32⟩
  | .hbm, ⟨84, _⟩ => ⟨S1x256, .i32⟩
  | .hbm, ⟨85, _⟩ => ⟨S1x256, .i1⟩
  | .hbm, ⟨86, _⟩ => ⟨S1x1x256, .i1⟩
  | .hbm, ⟨87, _⟩ => ⟨S64x1x256, .i1⟩
  | .hbm, ⟨88, _⟩ => ⟨S64x1x256, .i1⟩
  | .hbm, ⟨89, _⟩ => ⟨S64x1x256, .i1⟩
  | .hbm, ⟨90, _⟩ => ⟨S1x128x256, .i1⟩
  | .hbm, ⟨91, _⟩ => ⟨S64x128x256, .i1⟩
  | .hbm, ⟨92, _⟩ => ⟨S64x128x256, .i1⟩
  | .hbm, ⟨93, _⟩ => ⟨S64x128x256, .i1⟩
  | .hbm, ⟨94, _⟩ => ⟨S64x1x1x128x256, .i1⟩
  | .hbm, ⟨95, _⟩ => ⟨S_, .f32⟩
  | .hbm, ⟨96, _⟩ => ⟨S_, .f32⟩
  | .hbm, ⟨97, _⟩ => ⟨S64x4x4x128x256, .i1⟩
  | .hbm, ⟨98, _⟩ => ⟨S64x4x4x128x256, .f32⟩
  | .hbm, ⟨99, _⟩ => ⟨S64x4x4x128x256, .f32⟩
  | .hbm, ⟨100, _⟩ => ⟨S4x4, .f32⟩
  | .hbm, ⟨101, _⟩ => ⟨S1x4x4x1x1, .f32⟩
  | .hbm, ⟨102, _⟩ => ⟨S64x4x4x128x1, .f32⟩
  | .hbm, ⟨103, _⟩ => ⟨S64x4x4x128x257, .f32⟩
  | .hbm, ⟨104, _⟩ => ⟨S_, .f32⟩
  | .hbm, ⟨105, _⟩ => ⟨S64x4x4x128, .f32⟩
  | .hbm, ⟨106, _⟩ => ⟨S_, .f32⟩
  | .hbm, ⟨107, _⟩ => ⟨S64x4x4x128, .f32⟩
  | .hbm, ⟨108, _⟩ => ⟨S64x4x4x128, .f32⟩
  | .hbm, ⟨109, _⟩ => ⟨S64x4x4x128x1, .f32⟩
  | .hbm, ⟨110, _⟩ => ⟨S64x4x4x128x257, .f32⟩
  | .hbm, ⟨111, _⟩ => ⟨S64x4x4x128x257, .f32⟩
  | .hbm, ⟨112, _⟩ => ⟨S64x4x4x128x257, .f32⟩
  | .hbm, ⟨113, _⟩ => ⟨S_, .f32⟩
  | .hbm, ⟨114, _⟩ => ⟨S64x4x4x128, .f32⟩
  | .hbm, ⟨115, _⟩ => ⟨S64x4x4x128x1, .f32⟩
  | .hbm, ⟨116, _⟩ => ⟨S64x4x4x128x257, .f32⟩
  | .hbm, ⟨117, _⟩ => ⟨S64x4x4x128x257, .f32⟩
  | .hbm, ⟨118, _⟩ => ⟨S64x4x4x128x256, .f32⟩
  | .hbm, ⟨119, _⟩ => ⟨S64x4x64x4x128, .f32⟩
  | .hbm, ⟨120, _⟩ => ⟨S64x128x4x4x64, .f32⟩
  | .hbm, ⟨121, _⟩ => ⟨S8192x1024, .f32⟩
  | .hbm, ⟨122, _⟩ => ⟨S8192x1024, .bf16⟩
  | _, _ => ⟨S8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_c : Ref sig .tc := ⟨.hbm, 45, rfl⟩
abbrev main_call0_v0 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_c_0 : Ref sig .tc := ⟨.hbm, 51, rfl⟩
abbrev main_call1_v0 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_cst : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_c_1 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_c_2 : Ref sig .tc := ⟨.hbm, 71, rfl⟩
abbrev main_v61 : Ref sig .tc := ⟨.hbm, 72, rfl⟩
abbrev main_v62 : Ref sig .tc := ⟨.hbm, 73, rfl⟩
abbrev main_c_3 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_c_4 : Ref sig .tc := ⟨.hbm, 80, rfl⟩
abbrev main_v68 : Ref sig .tc := ⟨.hbm, 81, rfl⟩
abbrev main_v69 : Ref sig .tc := ⟨.hbm, 82, rfl⟩
abbrev main_c_5 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_cst_6 : Ref sig .tc := ⟨.hbm, 95, rfl⟩
abbrev main_call2_v0 : Ref sig .tc := ⟨.hbm, 96, rfl⟩
abbrev main_call2_v1 : Ref sig .tc := ⟨.hbm, 97, rfl⟩
abbrev main_call2_v2 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_cst_7 : Ref sig .tc := ⟨.hbm, 104, rfl⟩
abbrev main_v86 : Ref sig .tc := ⟨.hbm, 105, rfl⟩
abbrev main_cst_8 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_cst_9 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩

abbrev nD : Nat := 1
abbrev τ : Topo := Topo.v7x

variable {F : FTy → Type} [FloatOps F]
-- ==== Proof.Finite.lean ====
module

public import proofs.«01_k».proof.Defs
public import Idealize.ShloMosaic.Lib.ReduceAll
public import Idealize.ShloMosaic.Lib.Pointwise

/-! The precondition `all_finite`: every element of the six arrays is a real number. -/

@[expose] public section
noncomputable section
namespace Sgu.Finite
open Idealize.ShloMosaic

instance facts : Cert.Pre_all_finite.Facts where
  bcast_S_S8192x2048 := by decide
  reducesTo_S8192x2048_S_d0_1 := by decide
  h_S_ := by decide
  bcast_S_S8192x1024 := by decide
  reducesTo_S8192x1024_S_d0_1 := by decide
  bcast_S_S1024 := by decide
  reducesTo_S1024_S_d0 := by decide
  bcast_S_S8x128x128 := by decide
  reducesTo_S8x128x128_S_d0_1_2 := by decide
  bcast_S_S8x128 := by decide
  reducesTo_S8x128_S_d0_1 := by decide

/-- An extended real whose absolute value is below `⊤` is a real. -/
theorem real_of_abs_lt {a : EReal} (h : max a (-a) < ⊤) : a = ((a.toReal : ℝ) : EReal) := by
  refine (EReal.coe_toReal ?_ ?_).symm
  · rintro rfl; simp at h
  · rintro rfl; simp at h

/-- One conjunct of the precondition, at one element. -/
theorem real_of_all {s : Shape} {axes : List (Fin s.rank)} {ty : FTy} (x : FVec Ideal s ty) (b : FVec Ideal s ty) (hb : ∀ i, b i = (⊤ : EReal))
    (init : Cert.Pre_all_finite.S_.Idx → BitVec 1) (h : s.ReducesTo axes Cert.Pre_all_finite.S_) (hu : 0 < Cert.Pre_all_finite.S_.numel) (j : Cert.Pre_all_finite.S_.Idx)
    (e : Host.reduce IntOp.andi (cmpf .olt (Host.absf x) b) init h hu j = 1#1) (i : s.Idx) : (x i : EReal) = (((x i : EReal).toReal : ℝ) : EReal) := by
  have : Subsingleton Cert.Pre_all_finite.S_.Idx := ⟨fun a b => funext fun k => k.elim0⟩
  have h1 := Host.reduce_andi_all (cmpf .olt (Host.absf x) b) init h hu j e i
  have h2 : FloatOps.cmpf .olt (FloatOps.hostAbsf (x i)) (b i) = 1#1 := h1
  rw [hb i, Ideal.cmpf_def, Ideal.hostAbsf_def, Ideal.absf_def] at h2
  apply real_of_abs_lt
  by_contra hn
  simp [Ideal.cmp, hn] at h2

theorem inf_bf16 : (Ideal.ofBits .bf16 0x7F80#16 : EReal) = ⊤ := by
  simp [Ideal.ofBits, Ideal.ieee]

theorem inf_f32 : (Ideal.ofBits .f32 0x7F800000#32 : EReal) = ⊤ := by
  simp [Ideal.ofBits, Ideal.ieee]

section
variable (x0 : FVec Ideal Cert.Pre_all_finite.S8192x2048 .bf16) (x1 : FVec Ideal Cert.Pre_all_finite.S8192x1024 .bf16) (x2 x3 : FVec Ideal Cert.Pre_all_finite.S1024 .f32)
  (x4 : FVec Ideal Cert.Pre_all_finite.S8x128x128 .f32) (x5 : FVec Ideal Cert.Pre_all_finite.S8x128 .f32)

/-- The precondition read: each array is real at every index. -/
theorem reals (j : Cert.Pre_all_finite.S_.Idx) (h : Cert.Pre_all_finite.fn (F := Ideal) x0 x1 x2 x3 x4 x5 j = 1#1) :
    (∀ i, (x0 i : EReal) = (((x0 i : EReal).toReal : ℝ) : EReal)) ∧ (∀ i, (x1 i : EReal) = (((x1 i : EReal).toReal : ℝ) : EReal))
      ∧ (∀ i, (x2 i : EReal) = (((x2 i : EReal).toReal : ℝ) : EReal)) ∧ (∀ i, (x3 i : EReal) = (((x3 i : EReal).toReal : ℝ) : EReal))
      ∧ (∀ i, (x4 i : EReal) = (((x4 i : EReal).toReal : ℝ) : EReal)) ∧ (∀ i, (x5 i : EReal) = (((x5 i : EReal).toReal : ℝ) : EReal)) := by
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨real_of_all x0 _ (fun _ => inf_bf16) _ _ _ j h0, real_of_all x1 _ (fun _ => inf_bf16) _ _ _ j h1, real_of_all x2 _ (fun _ => inf_f32) _ _ _ j h2,
    real_of_all x3 _ (fun _ => inf_f32) _ _ _ j h3, real_of_all x4 _ (fun _ => inf_f32) _ _ _ j h4, real_of_all x5 _ (fun _ => inf_f32) _ _ _ j h5⟩
end

theorem matrix {n k : ℕ} (x : (⟨2, ![n, k]⟩ : Shape).Idx → EReal) (h : ∀ i, x i = (((x i).toReal : ℝ) : EReal)) :
    ∃ P : ℕ → ℕ → ℝ, ∀ i, x i = ((P (i 0).val (i 1).val : ℝ) : EReal) := by
  refine ⟨fun a b => if h : a < n ∧ b < k then (x (ValueIdx.ix2 ⟨a, h.1⟩ ⟨b, h.2⟩)).toReal else 0, fun i => (h i).trans ?_⟩
  have h0 : (i 0).val < n := (i 0).isLt
  have h1 : (i 1).val < k := (i 1).isLt
  have e : ValueIdx.ix2 (⟨(i 0).val, h0⟩ : Fin n) (⟨(i 1).val, h1⟩ : Fin k) = i := funext fun a => by match a with | ⟨0, _⟩ => rfl | ⟨1, _⟩ => rfl
  simp only [h0, h1, and_self, dite_true, e]

theorem vector {n : ℕ} (x : (⟨1, ![n]⟩ : Shape).Idx → EReal) (h : ∀ i, x i = (((x i).toReal : ℝ) : EReal)) :
    ∃ P : ℕ → ℝ, ∀ i, x i = ((P (i 0).val : ℝ) : EReal) := by
  refine ⟨fun a => if h : a < n then (x (ValueIdx.ix1 ⟨a, h⟩)).toReal else 0, fun i => (h i).trans ?_⟩
  have h0 : (i 0).val < n := (i 0).isLt
  have e : ValueIdx.ix1 (⟨(i 0).val, h0⟩ : Fin n) = i := funext fun a => by match a with | ⟨0, _⟩ => rfl
  simp only [h0, dite_true, e]

theorem cube {n k l : ℕ} (x : (⟨3, ![n, k, l]⟩ : Shape).Idx → EReal) (h : ∀ i, x i = (((x i).toReal : ℝ) : EReal)) :
    ∃ P : ℕ → ℕ → ℕ → ℝ, ∀ i, x i = ((P (i 0).val (i 1).val (i 2).val : ℝ) : EReal) := by
  refine ⟨fun a b c => if h : a < n ∧ b < k ∧ c < l then (x (ValueIdx.ix3 ⟨a, h.1⟩ ⟨b, h.2.1⟩ ⟨c, h.2.2⟩)).toReal else 0, fun i => (h i).trans ?_⟩
  have h0 : (i 0).val < n := (i 0).isLt
  have h1 : (i 1).val < k := (i 1).isLt
  have h2 : (i 2).val < l := (i 2).isLt
  have e : ValueIdx.ix3 (⟨(i 0).val, h0⟩ : Fin n) (⟨(i 1).val, h1⟩ : Fin k) (⟨(i 2).val, h2⟩ : Fin l) = i :=
    funext fun a => by match a with | ⟨0, _⟩ => rfl | ⟨1, _⟩ => rfl | ⟨2, _⟩ => rfl
  simp only [h0, h1, h2, and_self, dite_true, e]

end Sgu.Finite
end
-- ==== Proof.Consts.lean ====
module

public import proofs.«01_k».proof.KernelIdeal
public import Idealize.ShloMosaic.Lib.Pointwise
public import Idealize.ShloMosaic.Lib.WordCmp
public import Idealize.ShloMosaic.PureOps.IdealRules
public import Mathlib.Analysis.SpecialFunctions.Trigonometric.Inverse

/-! The literals of the two programs as real numbers, and the few facts that carry a real computation through the
extended reals. -/

@[expose] public section
noncomputable section
namespace Sgu
open Idealize.ShloMosaic Idealize.SL.Sem

/-- The epsilon of the layer norm, as the rational of its word. -/
def eps : ℝ := 10995116 / 1099511627776

theorem eps_pos : 0 < eps := by unfold eps; norm_num

theorem lit_half : Ideal.ofBits .f32 0x3F000000#32 = ((1 / 2 : ℝ) : EReal) := by
  simp [Ideal.ofBits, Ideal.ieee, -EReal.coe_mul]; norm_num
theorem lit_neg_half : Ideal.ofBits .f32 0xBF000000#32 = ((-(1 / 2) : ℝ) : EReal) := by
  simp [Ideal.ofBits, Ideal.ieee, -EReal.coe_mul]; norm_num
theorem lit_1024 : Ideal.ofBits .f32 0x44800000#32 = ((1024 : ℝ) : EReal) := by
  simp [Ideal.ofBits, Ideal.ieee, -EReal.coe_mul]; norm_num
theorem lit_eps : Ideal.ofBits .f32 0x3727C5AC#32 = ((eps : ℝ) : EReal) := by
  simp [Ideal.ofBits, Ideal.ieee, -EReal.coe_mul, eps]; norm_num
theorem lit_two : Ideal.ofBits .f32 0x40000000#32 = ((2 : ℝ) : EReal) := by
  simp [Ideal.ofBits, Ideal.ieee, -EReal.coe_mul]; norm_num
theorem lit_neg_one : Ideal.ofBits .f32 0xBF800000#32 = ((-1 : ℝ) : EReal) := by
  simp [Ideal.ofBits, Ideal.ieee, -EReal.coe_mul]; norm_num
theorem lit_one : Ideal.ofBits .f32 0x3F800000#32 = ((1 : ℝ) : EReal) := by
  simp [Ideal.ofBits, Ideal.ieee, -EReal.coe_mul]; norm_num
theorem lit_zero : Ideal.ofBits .f32 0x00000000#32 = ((0 : ℝ) : EReal) := by
  simp [Ideal.ofBits, Ideal.ieee, -EReal.coe_mul]

theorem named_sqrt2 : Named.named (F := Ideal) Cert.KernelIdeal.κ "inv_sqrt2" (φ := .f32) 0x3F3504F3#32 = (((Real.sqrt 2)⁻¹ : ℝ) : EReal) :=
  IdealRules.named_const.ideal_named_scalar _ _ _ _ rfl
theorem named_sqrt2pi : Named.named (F := Ideal) Cert.KernelIdeal.κ "inv_sqrt2pi" (φ := .f32) 0x3ECC422A#32 = (((Real.sqrt (2 * Real.pi))⁻¹ : ℝ) : EReal) :=
  IdealRules.named_const.ideal_named_scalar _ _ _ _ rfl

/-- The real error function. -/
def erfR (x : ℝ) : ℝ := 2 / Real.sqrt Real.pi * ∫ t in (0 : ℝ)..x, Real.exp (-(t ^ 2))

theorem erf_real (x : ℝ) : Ideal.erf (x : EReal) = ((erfR x : ℝ) : EReal) := Ideal.erf_coe x
theorem erf_real' (x : ℝ) : FloatOps.erf (F := Ideal) (φ := .f32) (x : EReal) = ((erfR x : ℝ) : EReal) := Ideal.erf_coe x
theorem exp_real (x : ℝ) : Ideal.exp (x : EReal) = ((Real.exp x : ℝ) : EReal) := Ideal.exp_coe x

theorem div_real (x y : ℝ) (h : y ≠ 0) : Ideal.div (x : EReal) (y : EReal) = ((x / y : ℝ) : EReal) := by
  rw [Ideal.div_coe h, ← EReal.coe_mul]; congr 1; ring

theorem div_1024 (x : ℝ) : Ideal.div (x : EReal) ((1024 : ℝ) : EReal) = ((x / 1024 : ℝ) : EReal) :=
  div_real x 1024 (by norm_num)

theorem rsqrt_real (x : ℝ) (h : 0 < x) : Ideal.rsqrt (x : EReal) = (((Real.sqrt x)⁻¹ : ℝ) : EReal) := by
  rw [Ideal.rsqrt_coe, if_neg (not_lt.2 h.le), if_neg h.ne']

/-- A finite sum of reals, read in the extended reals. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, ← EReal.coe_add]

theorem coe_ite {c : Prop} [Decidable c] (x y : ℝ) : (if c then (x : EReal) else (y : EReal)) = ((if c then x else y : ℝ) : EReal) := by
  split <;> rfl

theorem coe_ite_zero {c : Prop} [Decidable c] (x : ℝ) : (if c then (x : EReal) else 0) = ((if c then x else 0 : ℝ) : EReal) := by
  split <;> rfl

/-- A mask on two counters. -/
theorem select_ge {α : Type} (a b : Nat) (ha : a < 128) (hb : b < 128) (x y : α) :
    Scalar.select (IntOp.cmpi .sge (BitVec.ofNat 32 a) (BitVec.ofNat 32 b)) x y = if b ≤ a then x else y := by
  rw [WordCmp.cmpi_sge_ofNat (by omega) (by omega)]
  by_cases h : b ≤ a <;> simp [h, Scalar.select]

theorem select_ge_fin {α : Type} (a b : Fin 128) (x y : α) :
    Scalar.select (IntOp.cmpi .sge (BitVec.ofNat 32 (a : Nat)) (BitVec.ofNat 32 (b : Nat))) x y = if (b : Nat) ≤ (a : Nat) then x else y :=
  select_ge a b a.2 b.2 x y

end Sgu
end
-- ==== Proof.Spec.lean ====
module

public import proofs.«01_k».proof.Proof.Consts

/-! The gradient of the chunked spatial gating unit over the reals. An array is a function of its natural-number
coordinates; `p` is the projection (2048 columns: the half `u` that is gated, then the half `v` that gates), `y` the
cotangent of the output, `lg`, `lb` the layer norm's scale and shift, `w g r s` and `b g r` the spatial weights and biases
of group `g` (128 columns each). -/

@[expose] public section
noncomputable section
namespace Sgu

/-- The normal distribution function. -/
def cdf (x : ℝ) : ℝ := 1 / 2 * (erfR (x * (Real.sqrt 2)⁻¹) + 1)
def gelu (x : ℝ) : ℝ := x * cdf x
/-- The derivative of `gelu`. -/
def geluD (x : ℝ) : ℝ := cdf x + x * Real.exp (-(1 / 2) * x * x) * (Real.sqrt (2 * Real.pi))⁻¹

/-! One row `u` of the projection. -/
def zu (u : ℕ → ℝ) (c : ℕ) : ℝ := gelu (u c)
def zv (u : ℕ → ℝ) (c : ℕ) : ℝ := gelu (u (1024 + c))
def mean (f : ℕ → ℝ) : ℝ := (∑ k : Fin 1024, f k) / 1024
def cen (u : ℕ → ℝ) (c : ℕ) : ℝ := zv u c - mean (zv u)
def var (u : ℕ → ℝ) : ℝ := mean fun k => cen u k * cen u k
def rs (u : ℕ → ℝ) : ℝ := (Real.sqrt (var u + eps))⁻¹
def xhat (u : ℕ → ℝ) (c : ℕ) : ℝ := cen u c * rs u
def vn (lg lb : ℕ → ℝ) (u : ℕ → ℝ) (c : ℕ) : ℝ := xhat u c * lg c + lb c

theorem var_nonneg (u : ℕ → ℝ) : 0 ≤ var u := by
  unfold var mean
  exact div_nonneg (Finset.sum_nonneg fun k _ => mul_self_nonneg _) (by norm_num)

theorem var_eps_pos (u : ℕ → ℝ) : 0 < var u + eps := add_pos_of_nonneg_of_pos (var_nonneg u) eps_pos

/-! One chunk of 128 rows. -/
section chunk
variable (lg lb : ℕ → ℝ) (w : ℕ → ℕ → ℕ → ℝ) (b : ℕ → ℕ → ℝ) (p y : ℕ → ℕ → ℝ)

/-- The gate: the lower-triangular weights over the normalised half. -/
def sv (r c : ℕ) : ℝ := (∑ s : Fin 128, if (s : ℕ) ≤ r then w (c / 128) r s * vn lg lb (p s) c else 0) + b (c / 128) r
/-- The cotangent of the gate. -/
def dsv (r c : ℕ) : ℝ := y r c * zu (p r) c
/-- The cotangent of the normalised half. -/
def dvn (r c : ℕ) : ℝ := ∑ s : Fin 128, if r ≤ (s : ℕ) then w (c / 128) s r * dsv p y s c else 0
def dpu (r c : ℕ) : ℝ := y r c * sv lg lb w b p r c * geluD (p r c)
def dxh (r c : ℕ) : ℝ := dvn w p y r c * lg c
def dz (r c : ℕ) : ℝ :=
  rs (p r) * (dxh lg w p y r c - mean (dxh lg w p y r) - xhat (p r) c * mean fun k => dxh lg w p y r k * xhat (p r) k)
def dpv (r c : ℕ) : ℝ := dz lg w p y r c * geluD (p r (1024 + c))
/-- The cotangent of the projection. -/
def dp (r c : ℕ) : ℝ := if c < 1024 then dpu lg lb w b p y r c else dpv lg w p y r (c - 1024)

/-! What one chunk adds to the sums. -/
def clg (c : ℕ) : ℝ := ∑ r : Fin 128, dvn w p y r c * xhat (p r) c
def clb (c : ℕ) : ℝ := ∑ r : Fin 128, dvn w p y r c
def cw (g r s : ℕ) : ℝ :=
  if s ≤ r then ∑ k : Fin 128, dsv p y r (128 * g + k) * vn lg lb (p s) (128 * g + k) else 0
def cb (r g : ℕ) : ℝ := ∑ k : Fin 128, dsv p y r (128 * g + k)
def cdb (c : ℕ) : ℝ := ∑ r : Fin 128, dp lg lb w b p y r c
end chunk

/-- Chunk `t` of an array of rows. -/
def chunk (t : ℕ) (a : ℕ → ℕ → ℝ) (r c : ℕ) : ℝ := a (128 * t + r) c

/-! The six results over the whole sequence of 64 chunks. -/
section whole
variable (lg lb : ℕ → ℝ) (w : ℕ → ℕ → ℕ → ℝ) (b : ℕ → ℕ → ℝ) (P Y : ℕ → ℕ → ℝ)
def Dp (n c : ℕ) : ℝ := dp lg lb w b (chunk (n / 128) P) (chunk (n / 128) Y) (n % 128) c
def Dlg (c : ℕ) : ℝ := ∑ t : Fin 64, clg w (chunk t P) (chunk t Y) c
def Dlb (c : ℕ) : ℝ := ∑ t : Fin 64, clb w (chunk t P) (chunk t Y) c
def Dw (g r s : ℕ) : ℝ := ∑ t : Fin 64, cw lg lb (chunk t P) (chunk t Y) g r s
def Db (r g : ℕ) : ℝ := ∑ t : Fin 64, cb (chunk t P) (chunk t Y) r g
def Ddb (c : ℕ) : ℝ := ∑ t : Fin 64, cdb lg lb w b (chunk t P) (chunk t Y) c
end whole

end Sgu
end
-- ==== Proof.Block.lean ====
module

public import proofs.«01_k».proof.Proof.Gen.KernelIdeal.Skeleton
public import proofs.«01_k».proof.Proof.Spec

/-! The blocks one grid point computes, as functions of the blocks it loads: the gate, its cotangents and the sums of one
group of 128 columns, and the layer norm with its gradient over the whole width. Each is read at one index as the real
function of `Spec.lean`. -/

@[expose] public section
noncomputable section
namespace Sgu.Block
open Cert.KernelIdeal Cert.KernelIdeal.Gen Idealize.ShloMosaic Idealize.SL.Sem

set_option maxHeartbeats 4000000

/-- Columns `o … o+127` of a 1024-wide block. -/
abbrev Cut (o : Nat) : Prop := S128x1024.Slices ![0, o] S128x128

/-- Mask of the lower triangle (row counter at least column counter). -/
def lower : IVec S128x128 1 :=
  cmpi .sge (iota .tc S128x128 32 [0] iota_S128x128_d0_w32) (iota .tc S128x128 32 [1] iota_S128x128_d1_w32)

/-- The mask the other way round. -/
def upper : IVec S128x128 1 :=
  cmpi .sge (iota .tc S128x128 32 [1] iota_S128x128_d1_w32) (iota .tc S128x128 32 [0] iota_S128x128_d0_w32)

def masked (m : IVec S128x128 1) (w : Vec Ideal S1x128x128 .f32) : FVec Ideal S128x128 .bf16 :=
  truncf .bf16 (select m (shapeCast S128x128 w shapeCasts_S1x128x128_S128x128) (broadcast S128x128 (Scalar.ofBits .f32 0x00000000#32))) bitsLt_bf16_f32

/-- The gate of a group. -/
def svG (o g : Nat) (hs : Cut o) (hb : S128x8.Slices ![0, g] S128x1)
    (bt : FVec Ideal S128x8 .f32) (v : FVec Ideal S128x1024 .bf16) (w : Vec Ideal S1x128x128 .f32) : FVec Ideal S128x128 .f32 :=
  addf (matmul dot_S128x128_S128x128_S128x128_1_0_0_1_n_n none (masked lower w)
      (extractStridedSlice S128x128 ![0, o] v hs) (constant S128x128 .f32 0x00000000#32))
    (broadcastTo S128x128 (extractStridedSlice S128x1 ![0, g] bt hb) broadcasts_S128x1_S128x128)

/-- The derivative of the GELU on a block. -/
def geluDG {s : Shape} (x : FVec Ideal s .f32) : FVec Ideal s .f32 :=
  addf (mulf (broadcast s (Scalar.ofBits .f32 0x3F000000#32))
      (addf (erf (mulf x (broadcast s (Named.named κ "inv_sqrt2" 0x3F3504F3#32)))) (broadcast s (Scalar.ofBits .f32 0x3F800000#32))))
    (mulf (mulf x (exp (mulf (mulf (broadcast s (Scalar.ofBits .f32 0xBF000000#32)) x) x)))
      (broadcast s (Named.named κ "inv_sqrt2pi" 0x3ECC422A#32)))

/-- The cotangent of the gated half of a group. -/
def dpuG (o g : Nat) (hs : Cut o) (hb : S128x8.Slices ![0, g] S128x1)
    (bt : FVec Ideal S128x8 .f32) (u y : FVec Ideal S128x1024 .f32) (v : FVec Ideal S128x1024 .bf16) (w : Vec Ideal S1x128x128 .f32) : FVec Ideal S128x128 .f32 :=
  mulf (mulf (extractStridedSlice S128x128 ![0, o] y hs) (svG o g hs hb bt v w)) (geluDG (extractStridedSlice S128x128 ![0, o] u hs))

/-- The cotangent of the gate of a group. -/
def dsvG (o : Nat) (hs : Cut o) (y z : FVec Ideal S128x1024 .f32) : FVec Ideal S128x128 .f32 :=
  mulf (extractStridedSlice S128x128 ![0, o] y hs) (extractStridedSlice S128x128 ![0, o] z hs)

/-- Its row sums. -/
def rowG (d : FVec Ideal S128x128 .f32) : FVec Ideal S128x1 .f32 :=
  shapeCast S128x1 (multiReduction .add [1] S128 d 0x00000000#32 reduces_S128x128_S128_2 (.inl rfl) rfl) shapeCasts_S128_S128x1

/-- The weight gradient of a group, added to what is there. -/
def dwG (o : Nat) (hs : Cut o) (d : FVec Ideal S128x128 .f32) (v : FVec Ideal S128x1024 .bf16) (prev : Vec Ideal S1x128x128 .f32) : FVec Ideal S1x128x128 .f32 :=
  shapeCast S1x128x128 (addf (shapeCast S128x128 prev shapeCasts_S1x128x128_S128x128)
    (select lower (matmul dot_S128x128_S128x128_S128x128_1_1_0_0_n_n none (truncf .bf16 d bitsLt_bf16_f32)
      (extractStridedSlice S128x128 ![0, o] v hs) (constant S128x128 .f32 0x00000000#32)) (broadcast S128x128 (Scalar.ofBits .f32 0x00000000#32))))
    shapeCasts_S128x128_S1x128x128

/-- The cotangent of the normalised half of a group. -/
def dvnG (d : FVec Ideal S128x128 .f32) (wt : Vec Ideal S1x128x128 .f32) : FVec Ideal S128x128 .f32 :=
  matmul dot_S128x128_S128x128_S128x128_1_0_0_1_n_n none (masked upper wt) (truncf .bf16 d bitsLt_bf16_f32) (constant S128x128 .f32 0x00000000#32)

/-- Column sums of a group, added to what is there. -/
def dbG (d : FVec Ideal S128x128 .f32) (prev : Vec Ideal S1x128 .f32) : FVec Ideal S1x128 .f32 :=
  addf (shapeCast S1x128 prev shapeCasts_S1x128_S1x128)
    (shapeCast S1x128 (multiReduction .add [0] S128 d 0x00000000#32 reduces_S128x128_S128 (.inl rfl) rfl) shapeCasts_S128_S1x128)

/-- Column sums over the whole width, added to what is there. -/
def colG (d : FVec Ideal S128x1024 .f32) (prev : Vec Ideal S1x1024 .f32) : FVec Ideal S1x1024 .f32 :=
  addf (shapeCast S1x1024 prev shapeCasts_S1x1024_S1x1024)
    (shapeCast S1x1024 (multiReduction .add [0] S1024 d 0x00000000#32 reduces_S128x1024_S1024 (.inl rfl) rfl) shapeCasts_S1024_S1x1024)

/-! Each block at an index. -/
section at_index
variable {o g : Nat} {hs : Cut o} {hb : S128x8.Slices ![0, g] S128x1}
variable {bt : FVec Ideal S128x8 .f32} {u y z : FVec Ideal S128x1024 .f32} {v : FVec Ideal S128x1024 .bf16}
variable {w : Vec Ideal S1x128x128 .f32} {d : FVec Ideal S128x128 .f32}
variable {B U Y Z V W D : ℕ → ℕ → ℝ}

theorem svG_at (hbt : ∀ i, bt i = ((B (i 1).val (i 0).val : ℝ) : EReal)) (hv : ∀ i, v i = ((V (i 0).val (i 1).val : ℝ) : EReal))
    (hw : ∀ i, w i = ((W (i 1).val (i 2).val : ℝ) : EReal)) (j : S128x128.Idx) :
    svG o g hs hb bt v w j
      = (((∑ s : Fin 128, if (s : ℕ) ≤ (j 0).val then W (j 0).val s * V s (o + (j 1).val) else 0) + B g (j 0).val : ℝ) : EReal) := by
  unfold svG masked lower
  pointwise
  simp only [hbt, hv, hw, ix3_0, ix3_1, ix3_2, ix2_0, ix2_1]
  have (x : Fin 128) (a b : EReal) := select_ge_fin (j 0) x a b
  simp only [this, ← EReal.coe_mul, coe_ite_zero, coe_sum, ← EReal.coe_add]
  rfl

theorem geluDG_at {s : Shape} {x : FVec Ideal s .f32} {j : s.Idx} {r : ℝ} (h : x j = ((r : ℝ) : EReal)) :
    geluDG x j = ((geluD r : ℝ) : EReal) := by
  unfold geluDG
  pointwise
  simp only [h, lit_half, lit_one, lit_neg_half, named_sqrt2, named_sqrt2pi, ← EReal.coe_mul, ← EReal.coe_add, erf_real, exp_real]
  rfl

theorem dpuG_at (hbt : ∀ i, bt i = ((B (i 1).val (i 0).val : ℝ) : EReal)) (hv : ∀ i, v i = ((V (i 0).val (i 1).val : ℝ) : EReal))
    (hw : ∀ i, w i = ((W (i 1).val (i 2).val : ℝ) : EReal)) (hu : ∀ i, u i = ((U (i 0).val (i 1).val : ℝ) : EReal))
    (hy : ∀ i, y i = ((Y (i 0).val (i 1).val : ℝ) : EReal)) (j : S128x128.Idx) :
    dpuG o g hs hb bt u y v w j
      = ((Y (j 0).val (o + (j 1).val) * ((∑ s : Fin 128, if (s : ℕ) ≤ (j 0).val then W (j 0).val s * V s (o + (j 1).val) else 0) + B g (j 0).val)
          * geluD (U (j 0).val (o + (j 1).val)) : ℝ) : EReal) := by
  have h1 := svG_at (hs := hs) (hb := hb) hbt hv hw j
  have h2 : geluDG (extractStridedSlice S128x128 ![0, o] u hs) j = ((geluD (U (j 0).val (o + (j 1).val)) : ℝ) : EReal) := by
    apply geluDG_at; pointwise; simp only [hu]; rfl
  unfold dpuG
  show _ * svG o g hs hb bt v w j * geluDG (extractStridedSlice S128x128 ![0, o] u hs) j = _
  rw [h1, h2]
  pointwise
  simp only [hy, ix2_0, ix2_1, ← EReal.coe_mul]
  rfl

theorem dsvG_at (hy : ∀ i, y i = ((Y (i 0).val (i 1).val : ℝ) : EReal)) (hz : ∀ i, z i = ((Z (i 0).val (i 1).val : ℝ) : EReal)) (j : S128x128.Idx) :
    dsvG o hs y z j = ((Y (j 0).val (o + (j 1).val) * Z (j 0).val (o + (j 1).val) : ℝ) : EReal) := by
  unfold dsvG
  pointwise
  simp only [hy, hz, ix2_0, ix2_1, ← EReal.coe_mul]
  rfl

theorem rowG_at (hd : ∀ i, d i = ((D (i 0).val (i 1).val : ℝ) : EReal)) (j : S128x1.Idx) :
    rowG d j = ((∑ k : Fin 128, D (j 0).val k : ℝ) : EReal) := by
  unfold rowG
  pointwise
  simp only [hd, ix2_0, ix2_1, coe_sum]
  rfl

theorem dwG_at (hd : ∀ i, d i = ((D (i 0).val (i 1).val : ℝ) : EReal)) (hv : ∀ i, v i = ((V (i 0).val (i 1).val : ℝ) : EReal))
    (prev : Vec Ideal S1x128x128 .f32) (j : S1x128x128.Idx) :
    dwG o hs d v prev j
      = prev j + ((if (j 2).val ≤ (j 1).val then ∑ k : Fin 128, D (j 1).val k * V (j 2).val (o + k) else 0 : ℝ) : EReal) := by
  unfold dwG lower
  pointwise
  simp only [hd, hv, ix2_0, ix2_1]
  have (a b : EReal) := select_ge_fin (j 1) (j 2) a b
  simp only [this, ← EReal.coe_mul, coe_sum, coe_ite_zero]
  rfl

theorem dvnG_at (hd : ∀ i, d i = ((D (i 0).val (i 1).val : ℝ) : EReal)) (hw : ∀ i, w i = ((W (i 2).val (i 1).val : ℝ) : EReal)) (j : S128x128.Idx) :
    dvnG d w j = ((∑ s : Fin 128, if (j 0).val ≤ (s : ℕ) then W s (j 0).val * D s (j 1).val else 0 : ℝ) : EReal) := by
  unfold dvnG masked upper
  pointwise
  simp only [hd, hw, ix3_0, ix3_1, ix3_2, ix2_0, ix2_1]
  have (x : Fin 128) (a b : EReal) := select_ge_fin x (j 0) a b
  simp only [this, ← EReal.coe_mul, coe_ite_zero, coe_sum, ← EReal.coe_add]
  rfl

theorem dbG_at (hd : ∀ i, d i = ((D (i 0).val (i 1).val : ℝ) : EReal)) (prev : Vec Ideal S1x128 .f32) (j : S1x128.Idx) :
    dbG d prev j = prev j + ((∑ r : Fin 128, D r (j 1).val : ℝ) : EReal) := by
  unfold dbG
  pointwise
  simp only [hd, ix2_0, ix2_1, coe_sum]
  rfl

theorem colG_at {d : FVec Ideal S128x1024 .f32} (hd : ∀ i, d i = ((D (i 0).val (i 1).val : ℝ) : EReal)) (prev : Vec Ideal S1x1024 .f32) (j : S1x1024.Idx) :
    colG d prev j = prev j + ((∑ r : Fin 128, D r (j 1).val : ℝ) : EReal) := by
  unfold colG
  pointwise
  simp only [hd, ix2_0, ix2_1, coe_sum]
  rfl

/-! The layer norm and the halves of the projection. -/
section rows
variable {lg lb : ℕ → ℝ} {p y : ℕ → ℕ → ℝ}
variable {pu pv dy : Vec Ideal S128x1024 .bf16} {l1 l3 : FVec Ideal S1x1024 .f32} {v30 v35 : FVec Ideal S128x1024 .f32}

theorem zu_at (hp : ∀ i, pu i = ((p (i 0).val (i 1).val : ℝ) : EReal)) (j : S128x1024.Idx) :
    k0_pay13 pu j = ((zu (p (j 0).val) (j 1).val : ℝ) : EReal) := by
  pointwise [k0_pay13, k0_pay10]
  simp only [hp, lit_half, ← EReal.coe_one, named_sqrt2, ← EReal.coe_mul, ← EReal.coe_add, erf_real']
  congr 1; unfold zu gelu cdf; ring

theorem zv_at (hp : ∀ i, pv i = ((p (i 0).val (1024 + (i 1).val) : ℝ) : EReal)) (j : S128x1024.Idx) :
    k0_pay14 pv j = ((zv (p (j 0).val) (j 1).val : ℝ) : EReal) := by
  pointwise [k0_pay14, k0_pay11]
  simp only [hp, lit_half, ← EReal.coe_one, named_sqrt2, ← EReal.coe_mul, ← EReal.coe_add, erf_real']
  congr 1; unfold zv gelu cdf; ring

theorem mean_at (hp : ∀ i, pv i = ((p (i 0).val (1024 + (i 1).val) : ℝ) : EReal)) (j : S128x1024.Idx) :
    k0_pay15 pv j = ((mean (zv (p (j 0).val)) : ℝ) : EReal) := by
  have h := zv_at hp
  pointwise [k0_pay15]
  simp only [h, lit_1024, coe_sum, div_1024]
  rfl

theorem cen_at (h0 : ∀ j, v30 j = ((zv (p (j 0).val) (j 1).val : ℝ) : EReal)) (h5 : ∀ j, v35 j = ((mean (zv (p (j 0).val)) : ℝ) : EReal)) (j : S128x1024.Idx) :
    k0_pay16 v30 v35 j = ((cen (p (j 0).val) (j 1).val : ℝ) : EReal) := by
  show v30 j - v35 j = _
  rw [h0, h5, ← EReal.coe_sub]; rfl

theorem rs_at (h0 : ∀ j, v30 j = ((zv (p (j 0).val) (j 1).val : ℝ) : EReal)) (h5 : ∀ j, v35 j = ((mean (zv (p (j 0).val)) : ℝ) : EReal)) (j : S128x1.Idx) :
    k0_pay17 v30 v35 j = ((rs (p (j 0).val) : ℝ) : EReal) := by
  have h := cen_at h0 h5
  pointwise [k0_pay17]
  simp only [h, lit_1024, lit_eps, ← EReal.coe_mul, coe_sum, div_1024, ← EReal.coe_add]
  exact rsqrt_real _ (var_eps_pos (p (j 0).val))

theorem xhat_at (h0 : ∀ j, v30 j = ((zv (p (j 0).val) (j 1).val : ℝ) : EReal)) (h5 : ∀ j, v35 j = ((mean (zv (p (j 0).val)) : ℝ) : EReal)) (j : S128x1024.Idx) :
    k0_pay18 v30 v35 j = ((xhat (p (j 0).val) (j 1).val : ℝ) : EReal) := by
  have h := cen_at h0 h5
  have h' := rs_at h0 h5
  pointwise [k0_pay18]
  simp only [h, h', ← EReal.coe_mul]
  rfl

theorem vn_at (h0 : ∀ j, v30 j = ((zv (p (j 0).val) (j 1).val : ℝ) : EReal)) (h5 : ∀ j, v35 j = ((mean (zv (p (j 0).val)) : ℝ) : EReal))
    (h1 : ∀ j, l1 j = ((lg (j 1).val : ℝ) : EReal)) (h3 : ∀ j, l3 j = ((lb (j 1).val : ℝ) : EReal)) (j : S128x1024.Idx) :
    k0_pay19 l1 l3 v30 v35 j = ((vn lg lb (p (j 0).val) (j 1).val : ℝ) : EReal) := by
  have h := xhat_at h0 h5
  pointwise [k0_pay19]
  simp only [h, h1, h3, ← EReal.coe_mul, ← EReal.coe_add]
  rfl
end rows

/-- Eight blocks of 128 columns side by side. -/
theorem concat_at {a0 a1 a2 a3 a4 a5 a6 a7 : FVec Ideal S128x128 .f32} {f : ℕ → ℕ → ℝ}
    (h0 : ∀ i, a0 i = ((f (i 0).val (0 + (i 1).val) : ℝ) : EReal)) (h1 : ∀ i, a1 i = ((f (i 0).val (128 + (i 1).val) : ℝ) : EReal))
    (h2 : ∀ i, a2 i = ((f (i 0).val (256 + (i 1).val) : ℝ) : EReal)) (h3 : ∀ i, a3 i = ((f (i 0).val (384 + (i 1).val) : ℝ) : EReal))
    (h4 : ∀ i, a4 i = ((f (i 0).val (512 + (i 1).val) : ℝ) : EReal)) (h5 : ∀ i, a5 i = ((f (i 0).val (640 + (i 1).val) : ℝ) : EReal))
    (h6 : ∀ i, a6 i = ((f (i 0).val (768 + (i 1).val) : ℝ) : EReal)) (h7 : ∀ i, a7 i = ((f (i 0).val (896 + (i 1).val) : ℝ) : EReal))
    (j : S128x1024.Idx) :
    concatenate S128x1024 1 [⟨S128x128, a0⟩, ⟨S128x128, a1⟩, ⟨S128x128, a2⟩, ⟨S128x128, a3⟩, ⟨S128x128, a4⟩, ⟨S128x128, a5⟩, ⟨S128x128, a6⟩, ⟨S128x128, a7⟩]
      concatenates_S128x128_S128x128_S128x128_S128x128_S128x128_S128x128_S128x128_S128x128_S128x1024_d1 j = ((f (j 0).val (j 1).val : ℝ) : EReal) := by
  pointwise
  simp only [h0, h1, h2, h3, h4, h5, h6, h7]
  have hj : (j 1).val < 1024 := (j 1).isLt
  repeat' split
  · exact congrArg (fun n => ((f (j 0).val n : ℝ) : EReal)) (show 0 + ((j 1).val) = (j 1).val by omega)
  · exact congrArg (fun n => ((f (j 0).val n : ℝ) : EReal)) (show 128 + ((j 1).val - 128) = (j 1).val by omega)
  · exact congrArg (fun n => ((f (j 0).val n : ℝ) : EReal)) (show 256 + ((j 1).val - 128 - 128) = (j 1).val by omega)
  · exact congrArg (fun n => ((f (j 0).val n : ℝ) : EReal)) (show 384 + ((j 1).val - 128 - 128 - 128) = (j 1).val by omega)
  · exact congrArg (fun n => ((f (j 0).val n : ℝ) : EReal)) (show 512 + ((j 1).val - 128 - 128 - 128 - 128) = (j 1).val by omega)
  · exact congrArg (fun n => ((f (j 0).val n : ℝ) : EReal)) (show 640 + ((j 1).val - 128 - 128 - 128 - 128 - 128) = (j 1).val by omega)
  · exact congrArg (fun n => ((f (j 0).val n : ℝ) : EReal)) (show 768 + ((j 1).val - 128 - 128 - 128 - 128 - 128 - 128) = (j 1).val by omega)
  · exact congrArg (fun n => ((f (j 0).val n : ℝ) : EReal)) (show 896 + ((j 1).val - 128 - 128 - 128 - 128 - 128 - 128 - 128) = (j 1).val by omega)

/-- Eight columns side by side. -/
theorem concat8_at {a0 a1 a2 a3 a4 a5 a6 a7 : FVec Ideal S128x1 .f32} {f : ℕ → ℕ → ℝ}
    (h0 : ∀ i, a0 i = ((f (i 0).val 0 : ℝ) : EReal)) (h1 : ∀ i, a1 i = ((f (i 0).val 1 : ℝ) : EReal))
    (h2 : ∀ i, a2 i = ((f (i 0).val 2 : ℝ) : EReal)) (h3 : ∀ i, a3 i = ((f (i 0).val 3 : ℝ) : EReal))
    (h4 : ∀ i, a4 i = ((f (i 0).val 4 : ℝ) : EReal)) (h5 : ∀ i, a5 i = ((f (i 0).val 5 : ℝ) : EReal))
    (h6 : ∀ i, a6 i = ((f (i 0).val 6 : ℝ) : EReal)) (h7 : ∀ i, a7 i = ((f (i 0).val 7 : ℝ) : EReal))
    (j : S128x8.Idx) :
    concatenate S128x8 1 [⟨S128x1, a0⟩, ⟨S128x1, a1⟩, ⟨S128x1, a2⟩, ⟨S128x1, a3⟩, ⟨S128x1, a4⟩, ⟨S128x1, a5⟩, ⟨S128x1, a6⟩, ⟨S128x1, a7⟩]
      concatenates_S128x1_S128x1_S128x1_S128x1_S128x1_S128x1_S128x1_S128x1_S128x8_d1 j = ((f (j 0).val (j 1).val : ℝ) : EReal) := by
  pointwise
  simp only [h0, h1, h2, h3, h4, h5, h6, h7]
  have hj : (j 1).val < 8 := (j 1).isLt
  repeat' split
  all_goals
    refine congrArg (fun n => ((f (j 0).val n : ℝ) : EReal)) ?_
    omega

section tail
variable {lg : ℕ → ℝ} {w : ℕ → ℕ → ℕ → ℝ} {p y : ℕ → ℕ → ℝ}
variable {l1 : FVec Ideal S1x1024 .f32} {pv dn xh : FVec Ideal S128x1024 .f32} {r : FVec Ideal S128x1 .f32}

/-- The gradient through the layer norm and the GELU of the half that gates. -/
theorem dpv_at (h1 : ∀ j, l1 j = ((lg (j 1).val : ℝ) : EReal)) (hp : ∀ i, pv i = ((p (i 0).val (1024 + (i 1).val) : ℝ) : EReal))
    (hr : ∀ j, r j = ((rs (p (j 0).val) : ℝ) : EReal)) (hx : ∀ j, xh j = ((xhat (p (j 0).val) (j 1).val : ℝ) : EReal))
    (hd : ∀ j, dn j = ((dvn w p y (j 0).val (j 1).val : ℝ) : EReal)) (j : S128x1024.Idx) :
    k0_pay102 l1 pv r xh dn j = ((dpv lg w p y (j 0).val (j 1).val : ℝ) : EReal) := by
  have hg : geluDG pv j = ((geluD (p (j 0).val (1024 + (j 1).val)) : ℝ) : EReal) := geluDG_at (hp j)
  show _ * geluDG pv j = _
  rw [hg]
  pointwise
  simp only [h1, hr, hx, hd, lit_1024, ← EReal.coe_mul, coe_sum, div_1024, ← EReal.coe_sub]
  rfl
end tail
end at_index
end Sgu.Block
end
-- ==== Proof.Group.lean ====
module

public import proofs.«01_k».proof.Proof.Block

/-! The printed values of one grid point, group by group, as the real functions of `Spec.lean`: `p`, `y` are the chunk's
projection and cotangent. -/

@[expose] public section
noncomputable section
namespace Sgu.Block
open Cert.KernelIdeal Cert.KernelIdeal.Gen Idealize.ShloMosaic Idealize.SL.Sem

set_option maxHeartbeats 4000000

variable {lg lb : ℕ → ℝ} {w : ℕ → ℕ → ℕ → ℝ} {b : ℕ → ℕ → ℝ} {p y : ℕ → ℕ → ℝ}
variable {bt : FVec Ideal S128x8 .f32} {U Y Z : FVec Ideal S128x1024 .f32} {V : FVec Ideal S128x1024 .bf16}
variable {W WT : Vec Ideal S1x128x128 .f32}

section spec
variable {o g : Nat} {hs : Cut o} {hb : S128x8.Slices ![0, g] S128x1}

theorem div_group {o g c : ℕ} (ho : o = 128 * g) (hc : c < 128) : (o + c) / 128 = g := by omega

theorem dpuG_spec (ho : o = 128 * g) (hbt : ∀ i, bt i = ((b (i 1).val (i 0).val : ℝ) : EReal))
    (hV : ∀ i, V i = ((vn lg lb (p (i 0).val) (i 1).val : ℝ) : EReal)) (hW : ∀ i, W i = ((w g (i 1).val (i 2).val : ℝ) : EReal))
    (hU : ∀ i, U i = ((p (i 0).val (i 1).val : ℝ) : EReal)) (hY : ∀ i, Y i = ((y (i 0).val (i 1).val : ℝ) : EReal)) (j : S128x128.Idx) :
    dpuG o g hs hb bt U Y V W j = ((dpu lg lb w b p y (j 0).val (o + (j 1).val) : ℝ) : EReal) := by
  rw [dpuG_at (B := b) (V := fun r c => vn lg lb (p r) c) (W := w g) (U := p) (Y := y) hbt hV hW hU hY j]
  unfold dpu sv
  rw [div_group ho (j 1).isLt]

theorem dsvG_spec (hY : ∀ i, Y i = ((y (i 0).val (i 1).val : ℝ) : EReal)) (hZ : ∀ i, Z i = ((zu (p (i 0).val) (i 1).val : ℝ) : EReal)) (j : S128x128.Idx) :
    dsvG o hs Y Z j = ((dsv p y (j 0).val (o + (j 1).val) : ℝ) : EReal) :=
  dsvG_at (Y := y) (Z := fun r c => zu (p r) c) hY hZ j

theorem rowG_spec (ho : o = 128 * g) (hY : ∀ i, Y i = ((y (i 0).val (i 1).val : ℝ) : EReal)) (hZ : ∀ i, Z i = ((zu (p (i 0).val) (i 1).val : ℝ) : EReal)) (j : S128x1.Idx) :
    rowG (dsvG o hs Y Z) j = ((cb p y (j 0).val g : ℝ) : EReal) := by
  subst ho
  exact rowG_at (D := fun r c => dsv p y r (128 * g + c)) (dsvG_spec hY hZ) j

theorem dwG_spec (ho : o = 128 * g) (hY : ∀ i, Y i = ((y (i 0).val (i 1).val : ℝ) : EReal)) (hZ : ∀ i, Z i = ((zu (p (i 0).val) (i 1).val : ℝ) : EReal))
    (hV : ∀ i, V i = ((vn lg lb (p (i 0).val) (i 1).val : ℝ) : EReal)) (prev : Vec Ideal S1x128x128 .f32) (j : S1x128x128.Idx) :
    dwG o hs (dsvG o hs Y Z) V prev j = prev j + ((cw lg lb p y g (j 1).val (j 2).val : ℝ) : EReal) := by
  subst ho
  exact dwG_at (D := fun r c => dsv p y r (128 * g + c)) (V := fun r c => vn lg lb (p r) c) (dsvG_spec hY hZ) hV prev j

theorem dvnG_spec (ho : o = 128 * g) (hY : ∀ i, Y i = ((y (i 0).val (i 1).val : ℝ) : EReal)) (hZ : ∀ i, Z i = ((zu (p (i 0).val) (i 1).val : ℝ) : EReal))
    (hWT : ∀ i, WT i = ((w g (i 2).val (i 1).val : ℝ) : EReal)) (j : S128x128.Idx) :
    dvnG (dsvG o hs Y Z) WT j = ((dvn w p y (j 0).val (o + (j 1).val) : ℝ) : EReal) := by
  rw [dvnG_at (D := fun r c => dsv p y r (o + c)) (W := w g) (dsvG_spec hY hZ) hWT j]
  unfold dvn
  rw [div_group ho (j 1).isLt]

theorem dbG_spec (ho : o = 128 * g) (hg : g < 8) {d : FVec Ideal S128x128 .f32}
    (hd : ∀ j, d j = ((dpu lg lb w b p y (j 0).val (o + (j 1).val) : ℝ) : EReal)) (prev : Vec Ideal S1x128 .f32) (j : S1x128.Idx) :
    dbG d prev j = prev j + ((cdb lg lb w b p y (o + (j 1).val) : ℝ) : EReal) := by
  rw [dbG_at (D := fun r c => dpu lg lb w b p y r (o + c)) hd prev j]
  unfold cdb dp
  have : (j 1).val < 128 := (j 1).isLt
  simp only [show o + (j 1).val < 1024 by omega, if_true]
end spec

/-! The eight groups. -/
section groups
variable {l1 l3 : FVec Ideal S1x1024 .f32} {v30 v35 : FVec Ideal S128x1024 .f32}

theorem dpu0 (hbt : ∀ i, bt i = ((b (i 1).val (i 0).val : ℝ) : EReal)) (hV : ∀ i, k0_pay19 l1 l3 v30 v35 i = ((vn lg lb (p (i 0).val) (i 1).val : ℝ) : EReal)) (hW : ∀ i, W i = ((w 0 (i 1).val (i 2).val : ℝ) : EReal)) (hU : ∀ i, U i = ((p (i 0).val (i 1).val : ℝ) : EReal)) (hY : ∀ i, Y i = ((y (i 0).val (i 1).val : ℝ) : EReal)) (j : S128x128.Idx) :
    k0_pay26 (k0_pay21 l1 l3 bt Y v30 v35 W) (k0_pay23 U) (k0_pay24 U) (Named.named κ "inv_sqrt2pi" 0x3ECC422A#32) j = ((dpu lg lb w b p y (j 0).val (0 + (j 1).val) : ℝ) : EReal) :=
  dpuG_spec (o := 0) (g := 0) (hs := slices_S128x1024_o0_0_S128x128) (hb := slices_S128x8_o0_0_S128x1) rfl hbt hV hW hU hY j
theorem db0 (hbt : ∀ i, bt i = ((b (i 1).val (i 0).val : ℝ) : EReal)) (hV : ∀ i, k0_pay19 l1 l3 v30 v35 i = ((vn lg lb (p (i 0).val) (i 1).val : ℝ) : EReal)) (hW : ∀ i, W i = ((w 0 (i 1).val (i 2).val : ℝ) : EReal)) (hU : ∀ i, U i = ((p (i 0).val (i 1).val : ℝ) : EReal)) (hY : ∀ i, Y i = ((y (i 0).val (i 1).val : ℝ) : EReal)) (prev : Vec Ideal S1x128 .f32) (j : S1x128.Idx) :
    k0_pay27 (k0_pay21 l1 l3 bt Y v30 v35 W) (k0_pay23 U) (k0_pay24 U) (Named.named κ "inv_sqrt2pi" 0x3ECC422A#32) prev j = prev j + ((cdb lg lb w b p y (0 + (j 1).val) : ℝ) : EReal) :=
  dbG_spec (o := 0) (g := 0) rfl (by norm_num) (dpuG_spec (o := 0) (g := 0) (hs := slices_S128x1024_o0_0_S128x128) (hb := slices_S128x8_o0_0_S128x1) rfl hbt hV hW hU hY) prev j
theorem row0 (hY : ∀ i, Y i = ((y (i 0).val (i 1).val : ℝ) : EReal)) (hZ : ∀ i, Z i = ((zu (p (i 0).val) (i 1).val : ℝ) : EReal)) (j : S128x1.Idx) :
    k0_pay30 Y Z j = ((cb p y (j 0).val 0 : ℝ) : EReal) :=
  rowG_spec (o := 0) (g := 0) (hs := slices_S128x1024_o0_0_S128x128) rfl hY hZ j
theorem dw0 (hY : ∀ i, Y i = ((y (i 0).val (i 1).val : ℝ) : EReal)) (hZ : ∀ i, Z i = ((zu (p (i 0).val) (i 1).val : ℝ) : EReal)) (hV : ∀ i, V i = ((vn lg lb (p (i 0).val) (i 1).val : ℝ) : EReal)) (prev : Vec Ideal S1x128x128 .f32) (j : S1x128x128.Idx) :
    k0_pay31 Y Z V k0_pay20 prev j = prev j + ((cw lg lb p y 0 (j 1).val (j 2).val : ℝ) : EReal) :=
  dwG_spec (o := 0) (g := 0) (hs := slices_S128x1024_o0_0_S128x128) rfl hY hZ hV prev j

theorem dvn0 (hY : ∀ i, Y i = ((y (i 0).val (i 1).val : ℝ) : EReal)) (hZ : ∀ i, Z i = ((zu (p (i 0).val) (i 1).val : ℝ) : EReal)) (hWT : ∀ i, WT i = ((w 0 (i 2).val (i 1).val : ℝ) : EReal)) (j : S128x128.Idx) :
    k0_pay33 (k0_pay29 Y Z) (k0_pay32 WT) (constant S128x128 .f32 0x00000000#32) j = ((dvn w p y (j 0).val (0 + (j 1).val) : ℝ) : EReal) :=
  dvnG_spec (o := 0) (g := 0) (hs := slices_S128x1024_o0_0_S128x128) rfl hY hZ hWT j

theorem dpu1 (hbt : ∀ i, bt i = ((b (i 1).val (i 0).val : ℝ) : EReal)) (hV : ∀ i, V i = ((vn lg lb (p (i 0).val) (i 1).val : ℝ) : EReal)) (hW : ∀ i, W i = ((w 1 (i 1).val (i 2).val : ℝ) : EReal)) (hU : ∀ i, U i = ((p (i 0).val (i 1).val : ℝ) : EReal)) (hY : ∀ i, Y i = ((y (i 0).val (i 1).val : ℝ) : EReal)) (j : S128x128.Idx) :
    k0_pay35 bt U Y V W j = ((dpu lg lb w b p y (j 0).val (128 + (j 1).val) : ℝ) : EReal) :=
  dpuG_spec (o := 128) (g := 1) (hs := slices_S128x1024_o0_128_S128x128) (hb := slices_S128x8_o0_1_S128x1) rfl hbt hV hW hU hY j
theorem db1 (hbt : ∀ i, bt i = ((b (i 1).val (i 0).val : ℝ) : EReal)) (hV : ∀ i, V i = ((vn lg lb (p (i 0).val) (i 1).val : ℝ) : EReal)) (hW : ∀ i, W i = ((w 1 (i 1).val (i 2).val : ℝ) : EReal)) (hU : ∀ i, U i = ((p (i 0).val (i 1).val : ℝ) : EReal)) (hY : ∀ i, Y i = ((y (i 0).val (i 1).val : ℝ) : EReal)) (prev : Vec Ideal S1x128 .f32) (j : S1x128.Idx) :
    k0_pay36 bt U Y V W prev j = prev j + ((cdb lg lb w b p y (128 + (j 1).val) : ℝ) : EReal) :=
  dbG_spec (o := 128) (g := 1) rfl (by norm_num) (dpuG_spec (o := 128) (g := 1) (hs := slices_S128x1024_o0_128_S128x128) (hb := slices_S128x8_o0_1_S128x1) rfl hbt hV hW hU hY) prev j
theorem row1 (hY : ∀ i, Y i = ((y (i 0).val (i 1).val : ℝ) : EReal)) (hZ : ∀ i, Z i = ((zu (p (i 0).val) (i 1).val : ℝ) : EReal)) (j : S128x1.Idx) :
    k0_pay39 Y Z j = ((cb p y (j 0).val 1 : ℝ) : EReal) :=
  rowG_spec (o := 128) (g := 1) (hs := slices_S128x1024_o0_128_S128x128) rfl hY hZ j
theorem dw1 (hY : ∀ i, Y i = ((y (i 0).val (i 1).val : ℝ) : EReal)) (hZ : ∀ i, Z i = ((zu (p (i 0).val) (i 1).val : ℝ) : EReal)) (hV : ∀ i, V i = ((vn lg lb (p (i 0).val) (i 1).val : ℝ) : EReal)) (prev : Vec Ideal S1x128x128 .f32) (j : S1x128x128.Idx) :
    k0_pay40 Y Z V k0_pay20 prev j = prev j + ((cw lg lb p y 1 (j 1).val (j 2).val : ℝ) : EReal) :=
  dwG_spec (o := 128) (g := 1) (hs := slices_S128x1024_o0_128_S128x128) rfl hY hZ hV prev j

theorem dvn1 (hY : ∀ i, Y i = ((y (i 0).val (i 1).val : ℝ) : EReal)) (hZ : ∀ i, Z i = ((zu (p (i 0).val) (i 1).val : ℝ) : EReal)) (hWT : ∀ i, WT i = ((w 1 (i 2).val (i 1).val : ℝ) : EReal)) (j : S128x128.Idx) :
    k0_pay41 Y Z WT j = ((dvn w p y (j 0).val (128 + (j 1).val) : ℝ) : EReal) :=
  dvnG_spec (o := 128) (g := 1) (hs := slices_S128x1024_o0_128_S128x128) rfl hY hZ hWT j

theorem dpu2 (hbt : ∀ i, bt i = ((b (i 1).val (i 0).val : ℝ) : EReal)) (hV : ∀ i, V i = ((vn lg lb (p (i 0).val) (i 1).val : ℝ) : EReal)) (hW : ∀ i, W i = ((w 2 (i 1).val (i 2).val : ℝ) : EReal)) (hU : ∀ i, U i = ((p (i 0).val (i 1).val : ℝ) : EReal)) (hY : ∀ i, Y i = ((y (i 0).val (i 1).val : ℝ) : EReal)) (j : S128x128.Idx) :
    k0_pay44 U (k0_pay42 bt Y V W) j = ((dpu lg lb w b p y (j 0).val (256 + (j 1).val) : ℝ) : EReal) :=
  dpuG_spec (o := 256) (g := 2) (hs := slices_S128x1024_o0_256_S128x128) (hb := slices_S128x8_o0_2_S128x1) rfl hbt hV hW hU hY j
theorem db2 (hbt : ∀ i, bt i = ((b (i 1).val (i 0).val : ℝ) : EReal)) (hV : ∀ i, V i = ((vn lg lb (p (i 0).val) (i 1).val : ℝ) : EReal)) (hW : ∀ i, W i = ((w 2 (i 1).val (i 2).val : ℝ) : EReal)) (hU : ∀ i, U i = ((p (i 0).val (i 1).val : ℝ) : EReal)) (hY : ∀ i, Y i = ((y (i 0).val (i 1).val : ℝ) : EReal)) (prev : Vec Ideal S1x128 .f32) (j : S1x128.Idx) :
    k0_pay45 U (k0_pay42 bt Y V W) prev j = prev j + ((cdb lg lb w b p y (256 + (j 1).val) : ℝ) : EReal) :=
  dbG_spec (o := 256) (g := 2) rfl (by norm_num) (dpuG_spec (o := 256) (g := 2) (hs := slices_S128x1024_o0_256_S128x128) (hb := slices_S128x8_o0_2_S128x1) rfl hbt hV hW hU hY) prev j
theorem row2 (hY : ∀ i, Y i = ((y (i 0).val (i 1).val : ℝ) : EReal)) (hZ : ∀ i, Z i = ((zu (p (i 0).val) (i 1).val : ℝ) : EReal)) (j : S128x1.Idx) :
    k0_pay48 Y Z j = ((cb p y (j 0).val 2 : ℝ) : EReal) :=
  rowG_spec (o := 256) (g := 2) (hs := slices_S128x1024_o0_256_S128x128) rfl hY hZ j
theorem dw2 (hY : ∀ i, Y i = ((y (i 0).val (i 1).val : ℝ) : EReal)) (hZ : ∀ i, Z i = ((zu (p (i 0).val) (i 1).val : ℝ) : EReal)) (hV : ∀ i, V i = ((vn lg lb (p (i 0).val) (i 1).val : ℝ) : EReal)) (prev : Vec Ideal S1x128x128 .f32) (j : S1x128x128.Idx) :
    k0_pay50 (k0_pay49 Y Z V k0_pay20 prev) j = prev j + ((cw lg lb p y 2 (j 1).val (j 2).val : ℝ) : EReal) :=
  dwG_spec (o := 256) (g := 2) (hs := slices_S128x1024_o0_256_S128x128) rfl hY hZ hV prev j

theorem dvn2 (hY : ∀ i, Y i = ((y (i 0).val (i 1).val : ℝ) : EReal)) (hZ : ∀ i, Z i = ((zu (p (i 0).val) (i 1).val : ℝ) : EReal)) (hWT : ∀ i, WT i = ((w 2 (i 2).val (i 1).val : ℝ) : EReal)) (j : S128x128.Idx) :
    k0_pay51 (k0_pay47 Y Z) WT j = ((dvn w p y (j 0).val (256 + (j 1).val) : ℝ) : EReal) :=
  dvnG_spec (o := 256) (g := 2) (hs := slices_S128x1024_o0_256_S128x128) rfl hY hZ hWT j

theorem dpu3 (hbt : ∀ i, bt i = ((b (i 1).val (i 0).val : ℝ) : EReal)) (hV : ∀ i, V i = ((vn lg lb (p (i 0).val) (i 1).val : ℝ) : EReal)) (hW : ∀ i, W i = ((w 3 (i 1).val (i 2).val : ℝ) : EReal)) (hU : ∀ i, U i = ((p (i 0).val (i 1).val : ℝ) : EReal)) (hY : ∀ i, Y i = ((y (i 0).val (i 1).val : ℝ) : EReal)) (j : S128x128.Idx) :
    k0_pay55 (k0_pay52 bt Y V W) (k0_pay53 U) j = ((dpu lg lb w b p y (j 0).val (384 + (j 1).val) : ℝ) : EReal) :=
  dpuG_spec (o := 384) (g := 3) (hs := slices_S128x1024_o0_384_S128x128) (hb := slices_S128x8_o0_3_S128x1) rfl hbt hV hW hU hY j
theorem db3 (hbt : ∀ i, bt i = ((b (i 1).val (i 0).val : ℝ) : EReal)) (hV : ∀ i, V i = ((vn lg lb (p (i 0).val) (i 1).val : ℝ) : EReal)) (hW : ∀ i, W i = ((w 3 (i 1).val (i 2).val : ℝ) : EReal)) (hU : ∀ i, U i = ((p (i 0).val (i 1).val : ℝ) : EReal)) (hY : ∀ i, Y i = ((y (i 0).val (i 1).val : ℝ) : EReal)) (prev : Vec Ideal S1x128 .f32) (j : S1x128.Idx) :
    k0_pay56 (k0_pay52 bt Y V W) (k0_pay53 U) prev j = prev j + ((cdb lg lb w b p y (384 + (j 1).val) : ℝ) : EReal) :=
  dbG_spec (o := 384) (g := 3) rfl (by norm_num) (dpuG_spec (o := 384) (g := 3) (hs := slices_S128x1024_o0_384_S128x128) (hb := slices_S128x8_o0_3_S128x1) rfl hbt hV hW hU hY) prev j
theorem row3 (hY : ∀ i, Y i = ((y (i 0).val (i 1).val : ℝ) : EReal)) (hZ : ∀ i, Z i = ((zu (p (i 0).val) (i 1).val : ℝ) : EReal)) (j : S128x1.Idx) :
    k0_pay59 Y Z j = ((cb p y (j 0).val 3 : ℝ) : EReal) :=
  rowG_spec (o := 384) (g := 3) (hs := slices_S128x1024_o0_384_S128x128) rfl hY hZ j
theorem dw3 (hY : ∀ i, Y i = ((y (i 0).val (i 1).val : ℝ) : EReal)) (hZ : ∀ i, Z i = ((zu (p (i 0).val) (i 1).val : ℝ) : EReal)) (hV : ∀ i, V i = ((vn lg lb (p (i 0).val) (i 1).val : ℝ) : EReal)) (prev : Vec Ideal S1x128x128 .f32) (j : S1x128x128.Idx) :
    k0_pay60 Y Z V k0_pay20 prev j = prev j + ((cw lg lb p y 3 (j 1).val (j 2).val : ℝ) : EReal) :=
  dwG_spec (o := 384) (g := 3) (hs := slices_S128x1024_o0_384_S128x128) rfl hY hZ hV prev j

theorem dvn3 (hY : ∀ i, Y i = ((y (i 0).val (i 1).val : ℝ) : EReal)) (hZ : ∀ i, Z i = ((zu (p (i 0).val) (i 1).val : ℝ) : EReal)) (hWT : ∀ i, WT i = ((w 3 (i 2).val (i 1).val : ℝ) : EReal)) (j : S128x128.Idx) :
    k0_pay61 Y Z WT j = ((dvn w p y (j 0).val (384 + (j 1).val) : ℝ) : EReal) :=
  dvnG_spec (o := 384) (g := 3) (hs := slices_S128x1024_o0_384_S128x128) rfl hY hZ hWT j

theorem dpu4 (hbt : ∀ i, bt i = ((b (i 1).val (i 0).val : ℝ) : EReal)) (hV : ∀ i, V i = ((vn lg lb (p (i 0).val) (i 1).val : ℝ) : EReal)) (hW : ∀ i, W i = ((w 4 (i 1).val (i 2).val : ℝ) : EReal)) (hU : ∀ i, U i = ((p (i 0).val (i 1).val : ℝ) : EReal)) (hY : ∀ i, Y i = ((y (i 0).val (i 1).val : ℝ) : EReal)) (j : S128x128.Idx) :
    k0_pay63 bt U Y V W j = ((dpu lg lb w b p y (j 0).val (512 + (j 1).val) : ℝ) : EReal) :=
  dpuG_spec (o := 512) (g := 4) (hs := slices_S128x1024_o0_512_S128x128) (hb := slices_S128x8_o0_4_S128x1) rfl hbt hV hW hU hY j
theorem db4 (hbt : ∀ i, bt i = ((b (i 1).val (i 0).val : ℝ) : EReal)) (hV : ∀ i, V i = ((vn lg lb (p (i 0).val) (i 1).val : ℝ) : EReal)) (hW : ∀ i, W i = ((w 4 (i 1).val (i 2).val : ℝ) : EReal)) (hU : ∀ i, U i = ((p (i 0).val (i 1).val : ℝ) : EReal)) (hY : ∀ i, Y i = ((y (i 0).val (i 1).val : ℝ) : EReal)) (prev : Vec Ideal S1x128 .f32) (j : S1x128.Idx) :
    k0_pay64 bt U Y V W prev j = prev j + ((cdb lg lb w b p y (512 + (j 1).val) : ℝ) : EReal) :=
  dbG_spec (o := 512) (g := 4) rfl (by norm_num) (dpuG_spec (o := 512) (g := 4) (hs := slices_S128x1024_o0_512_S128x128) (hb := slices_S128x8_o0_4_S128x1) rfl hbt hV hW hU hY) prev j
theorem row4 (hY : ∀ i, Y i = ((y (i 0).val (i 1).val : ℝ) : EReal)) (hZ : ∀ i, Z i = ((zu (p (i 0).val) (i 1).val : ℝ) : EReal)) (j : S128x1.Idx) :
    k0_pay67 (k0_pay65 Y Z) j = ((cb p y (j 0).val 4 : ℝ) : EReal) :=
  rowG_spec (o := 512) (g := 4) (hs := slices_S128x1024_o0_512_S128x128) rfl hY hZ j
theorem dw4 (hY : ∀ i, Y i = ((y (i 0).val (i 1).val : ℝ) : EReal)) (hZ : ∀ i, Z i = ((zu (p (i 0).val) (i 1).val : ℝ) : EReal)) (hV : ∀ i, V i = ((vn lg lb (p (i 0).val) (i 1).val : ℝ) : EReal)) (prev : Vec Ideal S1x128x128 .f32) (j : S1x128x128.Idx) :
    k0_pay68 V k0_pay20 (k0_pay65 Y Z) prev j = prev j + ((cw lg lb p y 4 (j 1).val (j 2).val : ℝ) : EReal) :=
  dwG_spec (o := 512) (g := 4) (hs := slices_S128x1024_o0_512_S128x128) rfl hY hZ hV prev j

theorem dvn4 (hY : ∀ i, Y i = ((y (i 0).val (i 1).val : ℝ) : EReal)) (hZ : ∀ i, Z i = ((zu (p (i 0).val) (i 1).val : ℝ) : EReal)) (hWT : ∀ i, WT i = ((w 4 (i 2).val (i 1).val : ℝ) : EReal)) (j : S128x128.Idx) :
    k0_pay69 (k0_pay65 Y Z) WT j = ((dvn w p y (j 0).val (512 + (j 1).val) : ℝ) : EReal) :=
  dvnG_spec (o := 512) (g := 4) (hs := slices_S128x1024_o0_512_S128x128) rfl hY hZ hWT j

theorem dpu5 (hbt : ∀ i, bt i = ((b (i 1).val (i 0).val : ℝ) : EReal)) (hV : ∀ i, V i = ((vn lg lb (p (i 0).val) (i 1).val : ℝ) : EReal)) (hW : ∀ i, W i = ((w 5 (i 1).val (i 2).val : ℝ) : EReal)) (hU : ∀ i, U i = ((p (i 0).val (i 1).val : ℝ) : EReal)) (hY : ∀ i, Y i = ((y (i 0).val (i 1).val : ℝ) : EReal)) (j : S128x128.Idx) :
    k0_pay74 (k0_pay70 bt Y V W) (k0_pay71 U) k0_pay72 j = ((dpu lg lb w b p y (j 0).val (640 + (j 1).val) : ℝ) : EReal) :=
  dpuG_spec (o := 640) (g := 5) (hs := slices_S128x1024_o0_640_S128x128) (hb := slices_S128x8_o0_5_S128x1) rfl hbt hV hW hU hY j
theorem db5 (hbt : ∀ i, bt i = ((b (i 1).val (i 0).val : ℝ) : EReal)) (hV : ∀ i, V i = ((vn lg lb (p (i 0).val) (i 1).val : ℝ) : EReal)) (hW : ∀ i, W i = ((w 5 (i 1).val (i 2).val : ℝ) : EReal)) (hU : ∀ i, U i = ((p (i 0).val (i 1).val : ℝ) : EReal)) (hY : ∀ i, Y i = ((y (i 0).val (i 1).val : ℝ) : EReal)) (prev : Vec Ideal S1x128 .f32) (j : S1x128.Idx) :
    k0_pay75 (k0_pay70 bt Y V W) (k0_pay71 U) k0_pay72 prev j = prev j + ((cdb lg lb w b p y (640 + (j 1).val) : ℝ) : EReal) :=
  dbG_spec (o := 640) (g := 5) rfl (by norm_num) (dpuG_spec (o := 640) (g := 5) (hs := slices_S128x1024_o0_640_S128x128) (hb := slices_S128x8_o0_5_S128x1) rfl hbt hV hW hU hY) prev j
theorem row5 (hY : ∀ i, Y i = ((y (i 0).val (i 1).val : ℝ) : EReal)) (hZ : ∀ i, Z i = ((zu (p (i 0).val) (i 1).val : ℝ) : EReal)) (j : S128x1.Idx) :
    k0_pay78 Y Z j = ((cb p y (j 0).val 5 : ℝ) : EReal) :=
  rowG_spec (o := 640) (g := 5) (hs := slices_S128x1024_o0_640_S128x128) rfl hY hZ j
theorem dw5 (hY : ∀ i, Y i = ((y (i 0).val (i 1).val : ℝ) : EReal)) (hZ : ∀ i, Z i = ((zu (p (i 0).val) (i 1).val : ℝ) : EReal)) (hV : ∀ i, V i = ((vn lg lb (p (i 0).val) (i 1).val : ℝ) : EReal)) (prev : Vec Ideal S1x128x128 .f32) (j : S1x128x128.Idx) :
    k0_pay80 (k0_pay79 Y Z V k0_pay20 prev) j = prev j + ((cw lg lb p y 5 (j 1).val (j 2).val : ℝ) : EReal) :=
  dwG_spec (o := 640) (g := 5) (hs := slices_S128x1024_o0_640_S128x128) rfl hY hZ hV prev j

theorem dvn5 (hY : ∀ i, Y i = ((y (i 0).val (i 1).val : ℝ) : EReal)) (hZ : ∀ i, Z i = ((zu (p (i 0).val) (i 1).val : ℝ) : EReal)) (hWT : ∀ i, WT i = ((w 5 (i 2).val (i 1).val : ℝ) : EReal)) (j : S128x128.Idx) :
    k0_pay81 (k0_pay77 Y Z) WT j = ((dvn w p y (j 0).val (640 + (j 1).val) : ℝ) : EReal) :=
  dvnG_spec (o := 640) (g := 5) (hs := slices_S128x1024_o0_640_S128x128) rfl hY hZ hWT j

theorem dpu6 (hbt : ∀ i, bt i = ((b (i 1).val (i 0).val : ℝ) : EReal)) (hV : ∀ i, V i = ((vn lg lb (p (i 0).val) (i 1).val : ℝ) : EReal)) (hW : ∀ i, W i = ((w 6 (i 1).val (i 2).val : ℝ) : EReal)) (hU : ∀ i, U i = ((p (i 0).val (i 1).val : ℝ) : EReal)) (hY : ∀ i, Y i = ((y (i 0).val (i 1).val : ℝ) : EReal)) (j : S128x128.Idx) :
    k0_pay83 bt U Y V W j = ((dpu lg lb w b p y (j 0).val (768 + (j 1).val) : ℝ) : EReal) :=
  dpuG_spec (o := 768) (g := 6) (hs := slices_S128x1024_o0_768_S128x128) (hb := slices_S128x8_o0_6_S128x1) rfl hbt hV hW hU hY j
theorem db6 (hbt : ∀ i, bt i = ((b (i 1).val (i 0).val : ℝ) : EReal)) (hV : ∀ i, V i = ((vn lg lb (p (i 0).val) (i 1).val : ℝ) : EReal)) (hW : ∀ i, W i = ((w 6 (i 1).val (i 2).val : ℝ) : EReal)) (hU : ∀ i, U i = ((p (i 0).val (i 1).val : ℝ) : EReal)) (hY : ∀ i, Y i = ((y (i 0).val (i 1).val : ℝ) : EReal)) (prev : Vec Ideal S1x128 .f32) (j : S1x128.Idx) :
    k0_pay84 (k0_pay82 bt U Y V W) prev j = prev j + ((cdb lg lb w b p y (768 + (j 1).val) : ℝ) : EReal) :=
  dbG_spec (o := 768) (g := 6) rfl (by norm_num) (dpuG_spec (o := 768) (g := 6) (hs := slices_S128x1024_o0_768_S128x128) (hb := slices_S128x8_o0_6_S128x1) rfl hbt hV hW hU hY) prev j
theorem row6 (hY : ∀ i, Y i = ((y (i 0).val (i 1).val : ℝ) : EReal)) (hZ : ∀ i, Z i = ((zu (p (i 0).val) (i 1).val : ℝ) : EReal)) (j : S128x1.Idx) :
    k0_pay87 Y Z j = ((cb p y (j 0).val 6 : ℝ) : EReal) :=
  rowG_spec (o := 768) (g := 6) (hs := slices_S128x1024_o0_768_S128x128) rfl hY hZ j
theorem dw6 (hY : ∀ i, Y i = ((y (i 0).val (i 1).val : ℝ) : EReal)) (hZ : ∀ i, Z i = ((zu (p (i 0).val) (i 1).val : ℝ) : EReal)) (hV : ∀ i, V i = ((vn lg lb (p (i 0).val) (i 1).val : ℝ) : EReal)) (prev : Vec Ideal S1x128x128 .f32) (j : S1x128x128.Idx) :
    k0_pay88 Y Z V k0_pay20 prev j = prev j + ((cw lg lb p y 6 (j 1).val (j 2).val : ℝ) : EReal) :=
  dwG_spec (o := 768) (g := 6) (hs := slices_S128x1024_o0_768_S128x128) rfl hY hZ hV prev j

theorem dvn6 (hY : ∀ i, Y i = ((y (i 0).val (i 1).val : ℝ) : EReal)) (hZ : ∀ i, Z i = ((zu (p (i 0).val) (i 1).val : ℝ) : EReal)) (hWT : ∀ i, WT i = ((w 6 (i 2).val (i 1).val : ℝ) : EReal)) (j : S128x128.Idx) :
    k0_pay89 Y Z WT j = ((dvn w p y (j 0).val (768 + (j 1).val) : ℝ) : EReal) :=
  dvnG_spec (o := 768) (g := 6) (hs := slices_S128x1024_o0_768_S128x128) rfl hY hZ hWT j

theorem dpu7 (hbt : ∀ i, bt i = ((b (i 1).val (i 0).val : ℝ) : EReal)) (hV : ∀ i, V i = ((vn lg lb (p (i 0).val) (i 1).val : ℝ) : EReal)) (hW : ∀ i, W i = ((w 7 (i 1).val (i 2).val : ℝ) : EReal)) (hU : ∀ i, U i = ((p (i 0).val (i 1).val : ℝ) : EReal)) (hY : ∀ i, Y i = ((y (i 0).val (i 1).val : ℝ) : EReal)) (j : S128x128.Idx) :
    k0_pay92 bt U Y V (k0_pay90 W) j = ((dpu lg lb w b p y (j 0).val (896 + (j 1).val) : ℝ) : EReal) :=
  dpuG_spec (o := 896) (g := 7) (hs := slices_S128x1024_o0_896_S128x128) (hb := slices_S128x8_o0_7_S128x1) rfl hbt hV hW hU hY j
theorem db7 (hbt : ∀ i, bt i = ((b (i 1).val (i 0).val : ℝ) : EReal)) (hV : ∀ i, V i = ((vn lg lb (p (i 0).val) (i 1).val : ℝ) : EReal)) (hW : ∀ i, W i = ((w 7 (i 1).val (i 2).val : ℝ) : EReal)) (hU : ∀ i, U i = ((p (i 0).val (i 1).val : ℝ) : EReal)) (hY : ∀ i, Y i = ((y (i 0).val (i 1).val : ℝ) : EReal)) (prev : Vec Ideal S1x128 .f32) (j : S1x128.Idx) :
    k0_pay93 bt U Y V (k0_pay90 W) prev j = prev j + ((cdb lg lb w b p y (896 + (j 1).val) : ℝ) : EReal) :=
  dbG_spec (o := 896) (g := 7) rfl (by norm_num) (dpuG_spec (o := 896) (g := 7) (hs := slices_S128x1024_o0_896_S128x128) (hb := slices_S128x8_o0_7_S128x1) rfl hbt hV hW hU hY) prev j
theorem row7 (hY : ∀ i, Y i = ((y (i 0).val (i 1).val : ℝ) : EReal)) (hZ : ∀ i, Z i = ((zu (p (i 0).val) (i 1).val : ℝ) : EReal)) (j : S128x1.Idx) :
    (shapeCast S128x1 (k0_pay96 Y Z) shapeCasts_S128_S128x1 : FVec Ideal S128x1 .f32) j = ((cb p y (j 0).val 7 : ℝ) : EReal) :=
  rowG_spec (o := 896) (g := 7) (hs := slices_S128x1024_o0_896_S128x128) rfl hY hZ j
theorem dw7 (hY : ∀ i, Y i = ((y (i 0).val (i 1).val : ℝ) : EReal)) (hZ : ∀ i, Z i = ((zu (p (i 0).val) (i 1).val : ℝ) : EReal)) (hV : ∀ i, V i = ((vn lg lb (p (i 0).val) (i 1).val : ℝ) : EReal)) (prev : Vec Ideal S1x128x128 .f32) (j : S1x128x128.Idx) :
    k0_pay97 V k0_pay20 (k0_pay95 Y Z) prev j = prev j + ((cw lg lb p y 7 (j 1).val (j 2).val : ℝ) : EReal) :=
  dwG_spec (o := 896) (g := 7) (hs := slices_S128x1024_o0_896_S128x128) rfl hY hZ hV prev j

end groups

/-! The whole width. -/
section whole
variable {D0 D1 D2 D3 D4 D5 D6 : FVec Ideal S128x128 .f32} {R0 R1 R2 R3 R4 R5 R6 : FVec Ideal S128x1 .f32} {xh : FVec Ideal S128x1024 .f32}

theorem dvnAll (h0 : ∀ i, D0 i = ((dvn w p y (i 0).val (0 + (i 1).val) : ℝ) : EReal)) (h1 : ∀ i, D1 i = ((dvn w p y (i 0).val (128 + (i 1).val) : ℝ) : EReal)) (h2 : ∀ i, D2 i = ((dvn w p y (i 0).val (256 + (i 1).val) : ℝ) : EReal)) (h3 : ∀ i, D3 i = ((dvn w p y (i 0).val (384 + (i 1).val) : ℝ) : EReal)) (h4 : ∀ i, D4 i = ((dvn w p y (i 0).val (512 + (i 1).val) : ℝ) : EReal)) (h5 : ∀ i, D5 i = ((dvn w p y (i 0).val (640 + (i 1).val) : ℝ) : EReal)) (h6 : ∀ i, D6 i = ((dvn w p y (i 0).val (768 + (i 1).val) : ℝ) : EReal)) (hY : ∀ i, Y i = ((y (i 0).val (i 1).val : ℝ) : EReal)) (hZ : ∀ i, Z i = ((zu (p (i 0).val) (i 1).val : ℝ) : EReal))
    (hWT : ∀ i, WT i = ((w 7 (i 2).val (i 1).val : ℝ) : EReal)) (j : S128x1024.Idx) :
    k0_pay98 D0 D1 D2 D3 D4 D5 D6 (k0_pay95 Y Z) WT j = ((dvn w p y (j 0).val (j 1).val : ℝ) : EReal) := by
  have h7 : ∀ i, dvnG (dsvG 896 slices_S128x1024_o0_896_S128x128 Y Z) WT i = ((dvn w p y (i 0).val (896 + (i 1).val) : ℝ) : EReal) :=
    dvnG_spec (g := 7) rfl hY hZ hWT
  exact concat_at (f := fun r c => dvn w p y r c) h0 h1 h2 h3 h4 h5 h6 h7 j

theorem sbt (h0 : ∀ i, R0 i = ((cb p y (i 0).val 0 : ℝ) : EReal)) (h1 : ∀ i, R1 i = ((cb p y (i 0).val 1 : ℝ) : EReal)) (h2 : ∀ i, R2 i = ((cb p y (i 0).val 2 : ℝ) : EReal)) (h3 : ∀ i, R3 i = ((cb p y (i 0).val 3 : ℝ) : EReal)) (h4 : ∀ i, R4 i = ((cb p y (i 0).val 4 : ℝ) : EReal)) (h5 : ∀ i, R5 i = ((cb p y (i 0).val 5 : ℝ) : EReal)) (h6 : ∀ i, R6 i = ((cb p y (i 0).val 6 : ℝ) : EReal)) (hY : ∀ i, Y i = ((y (i 0).val (i 1).val : ℝ) : EReal)) (hZ : ∀ i, Z i = ((zu (p (i 0).val) (i 1).val : ℝ) : EReal))
    (prev : Vec Ideal S128x8 .f32) (j : S128x8.Idx) :
    k0_pay99 R0 R1 R2 R3 R4 R5 R6 (k0_pay96 Y Z) prev j = prev j + ((cb p y (j 0).val (j 1).val : ℝ) : EReal) := by
  have h7 := row7 hY hZ
  have h := concat8_at (f := fun r g => cb p y r g) h0 h1 h2 h3 h4 h5 h6 h7 j
  pointwise [k0_pay99] at h ⊢
  exact congrArg (prev j + ·) h

variable {dn : FVec Ideal S128x1024 .f32}
theorem lbSum (hd : ∀ j, dn j = ((dvn w p y (j 0).val (j 1).val : ℝ) : EReal)) (prev : Vec Ideal S1x1024 .f32) (j : S1x1024.Idx) :
    k0_pay101 dn prev j = prev j + ((clb w p y (j 1).val : ℝ) : EReal) :=
  colG_at (D := fun r c => dvn w p y r c) hd prev j

theorem lgSum (h0 : ∀ i, D0 i = ((dvn w p y (i 0).val (0 + (i 1).val) : ℝ) : EReal)) (h1 : ∀ i, D1 i = ((dvn w p y (i 0).val (128 + (i 1).val) : ℝ) : EReal)) (h2 : ∀ i, D2 i = ((dvn w p y (i 0).val (256 + (i 1).val) : ℝ) : EReal)) (h3 : ∀ i, D3 i = ((dvn w p y (i 0).val (384 + (i 1).val) : ℝ) : EReal)) (h4 : ∀ i, D4 i = ((dvn w p y (i 0).val (512 + (i 1).val) : ℝ) : EReal)) (h5 : ∀ i, D5 i = ((dvn w p y (i 0).val (640 + (i 1).val) : ℝ) : EReal)) (h6 : ∀ i, D6 i = ((dvn w p y (i 0).val (768 + (i 1).val) : ℝ) : EReal)) (hY : ∀ i, Y i = ((y (i 0).val (i 1).val : ℝ) : EReal)) (hZ : ∀ i, Z i = ((zu (p (i 0).val) (i 1).val : ℝ) : EReal))
    (hWT : ∀ i, WT i = ((w 7 (i 2).val (i 1).val : ℝ) : EReal)) (hx : ∀ j, xh j = ((xhat (p (j 0).val) (j 1).val : ℝ) : EReal))
    (prev : Vec Ideal S1x1024 .f32) (j : S1x1024.Idx) :
    k0_pay100 xh D0 D1 D2 D3 D4 D5 D6 (k0_pay95 Y Z) WT prev j = prev j + ((clg w p y (j 1).val : ℝ) : EReal) := by
  have h := dvnAll h0 h1 h2 h3 h4 h5 h6 hY hZ hWT
  refine colG_at (D := fun r c => dvn w p y r c * xhat (p r) c) (d := mulf (k0_pay98 D0 D1 D2 D3 D4 D5 D6 (k0_pay95 Y Z) WT) xh) (fun i => ?_) prev j
  show k0_pay98 D0 D1 D2 D3 D4 D5 D6 (k0_pay95 Y Z) WT i * xh i = _
  rw [h, hx, ← EReal.coe_mul]

theorem dbTail {d : FVec Ideal S128x1024 .f32} (hd : ∀ j, d j = ((dpv lg w p y (j 0).val (j 1).val : ℝ) : EReal))
    (prev : Vec Ideal S1x1024 .f32) (j : S1x1024.Idx) :
    k0_pay1 d prev j = prev j + ((cdb lg lb w b p y (1024 + (j 1).val) : ℝ) : EReal) := by
  refine (colG_at (D := fun r c => dpv lg w p y r c) hd prev j).trans ?_
  unfold cdb dp
  simp only [show ¬ (1024 + (j 1).val < 1024) by omega, if_false, Nat.add_sub_cancel_left]
end whole
end Sgu.Block
end
-- ==== Proof.Out.lean ====
module

public import proofs.«01_k».proof.Proof.Gen.KernelIdeal.Value
public import proofs.«01_k».proof.Proof.Group
public import Idealize.ShloMosaic.Lib.Pipeline.ValueKit
public import Idealize.ShloMosaic.Lib.Pipeline.ReadBack

/-! What one grid point leaves in its six output blocks, in the first case (the accumulators are set to zero first) and in
the other (they are added to), when its input blocks hold real numbers. -/

@[expose] public section
noncomputable section
namespace Sgu.Block
open Cert.KernelIdeal Cert.KernelIdeal.Gen Idealize.ShloMosaic Idealize.ShloMosaic.TcCoe Idealize.SL.Sem
set_option maxHeartbeats 4000000

variable {lg lb : ℕ → ℝ} {w : ℕ → ℕ → ℕ → ℝ} {b : ℕ → ℕ → ℝ} {p y : ℕ → ℕ → ℝ}

/-- The seven input blocks of a point hold the chunk's rows and the parameters. -/
structure In (lg lb : ℕ → ℝ) (w : ℕ → ℕ → ℕ → ℝ) (b p y : ℕ → ℕ → ℝ) (x0 : Vec Ideal S128x2048 .bf16) (x1 : Vec Ideal S128x1024 .bf16)
    (x2 : Vec Ideal S1x1024 .f32) (x3 : Vec Ideal S1x1024 .f32) (x4 : Vec Ideal S8x128x128 .f32) (x5 : Vec Ideal S8x128x128 .f32)
    (x6 : Vec Ideal S128x8 .f32) : Prop where
  h0 : ∀ i, x0 i = ((p (i 0).val (i 1).val : ℝ) : EReal)
  h1 : ∀ i, x1 i = ((y (i 0).val (i 1).val : ℝ) : EReal)
  h2 : ∀ i, x2 i = ((lg (i 1).val : ℝ) : EReal)
  h3 : ∀ i, x3 i = ((lb (i 1).val : ℝ) : EReal)
  h4 : ∀ i, x4 i = ((w (i 0).val (i 1).val (i 2).val : ℝ) : EReal)
  h5 : ∀ i, x5 i = ((w (i 0).val (i 2).val (i 1).val : ℝ) : EReal)
  h6 : ∀ i, x6 i = ((b (i 1).val (i 0).val : ℝ) : EReal)

section loads
variable {x0 : Vec Ideal S128x2048 .bf16} {x1 : Vec Ideal S128x1024 .bf16} {x2 : Vec Ideal S1x1024 .f32} {x3 : Vec Ideal S1x1024 .f32} {x4 : Vec Ideal S8x128x128 .f32} {x5 : Vec Ideal S8x128x128 .f32} {x6 : Vec Ideal S128x8 .f32}
variable (H : In lg lb w b p y x0 x1 x2 x3 x4 x5 x6)
include H

/-- The gated half. -/
abbrev half0 (x0 : Vec Ideal S128x2048 .bf16) : Vec Ideal S128x1024 .bf16 := View.ld x0 (Rect.unit ![0, 0] ![128, 1024] inb_S128x2048_S128x1024_0_0)
/-- The half that gates. -/
abbrev half1 (x0 : Vec Ideal S128x2048 .bf16) : Vec Ideal S128x1024 .bf16 := View.ld x0 (Rect.unit ![0, 1024] ![128, 1024] inb_S128x2048_S128x1024_0_1024)

omit H in
theorem half0_at (h0 : ∀ i, x0 i = ((p (i 0).val (i 1).val : ℝ) : EReal)) (i : S128x1024.Idx) : half0 x0 i = ((p (i 0).val (i 1).val : ℝ) : EReal) := by
  refine (h0 _).trans ?_
  exact congrArg₂ (fun a b => ((p a b : ℝ) : EReal)) (show 0 + 1 * (i 0).val = (i 0).val by omega) (show 0 + 1 * (i 1).val = (i 1).val by omega)
omit H in
theorem half1_at (h0 : ∀ i, x0 i = ((p (i 0).val (i 1).val : ℝ) : EReal)) (i : S128x1024.Idx) : half1 x0 i = ((p (i 0).val (1024 + (i 1).val) : ℝ) : EReal) := by
  refine (h0 _).trans ?_
  exact congrArg₂ (fun a b => ((p a b : ℝ) : EReal)) (show 0 + 1 * (i 0).val = (i 0).val by omega) (show 1024 + 1 * (i 1).val = 1024 + (i 1).val by omega)

theorem In.hU (i) : k0_pay10 (half0 x0) i = ((p (i 0).val (i 1).val : ℝ) : EReal) := by
  pointwise [k0_pay10]; exact half0_at H.h0 i
theorem In.hP (i) : k0_pay11 (half1 x0) i = ((p (i 0).val (1024 + (i 1).val) : ℝ) : EReal) := by
  pointwise [k0_pay11]; exact half1_at H.h0 i
theorem In.hY (i) : k0_pay12 x1 i = ((y (i 0).val (i 1).val : ℝ) : EReal) := by
  pointwise [k0_pay12]; exact H.h1 i
theorem In.hl1 (i) : k0_pay2 x2 i = ((lg (i 1).val : ℝ) : EReal) := by
  pointwise [k0_pay2]; exact H.h2 i
theorem In.hl3 (i) : k0_pay3 x3 i = ((lb (i 1).val : ℝ) : EReal) := by
  pointwise [k0_pay3]; exact H.h3 i
theorem In.hbt (i) : k0_pay4 x6 i = ((b (i 1).val (i 0).val : ℝ) : EReal) := by
  pointwise [k0_pay4]; exact H.h6 i
theorem In.hZ (i) : k0_pay13 (half0 x0) i = ((zu (p (i 0).val) (i 1).val : ℝ) : EReal) := zu_at (half0_at H.h0) i
theorem In.h30 (i) : k0_pay14 (half1 x0) i = ((zv (p (i 0).val) (i 1).val : ℝ) : EReal) := zv_at (half1_at H.h0) i
theorem In.h35 (i) : k0_pay15 (half1 x0) i = ((mean (zv (p (i 0).val)) : ℝ) : EReal) := mean_at (half1_at H.h0) i
theorem In.hV (i) : k0_pay19 (k0_pay2 x2) (k0_pay3 x3) (k0_pay14 (half1 x0)) (k0_pay15 (half1 x0)) i = ((vn lg lb (p (i 0).val) (i 1).val : ℝ) : EReal) :=
  vn_at H.h30 H.h35 H.hl1 H.hl3 i
theorem In.hr (i) : k0_pay17 (k0_pay14 (half1 x0)) (k0_pay15 (half1 x0)) i = ((rs (p (i 0).val) : ℝ) : EReal) := rs_at H.h30 H.h35 i
theorem In.hx (i) : k0_pay18 (k0_pay14 (half1 x0)) (k0_pay15 (half1 x0)) i = ((xhat (p (i 0).val) (i 1).val : ℝ) : EReal) := xhat_at H.h30 H.h35 i

/-- One group's weights. -/
theorem In.hW {g : ℕ} (inb : ∀ a, ![g, 0, 0] a + S1x128x128.size a ≤ S8x128x128.size a) (i : S1x128x128.Idx) :
    View.ld x4 (Rect.unit ![g, 0, 0] ![1, 128, 128] inb) i = ((w g (i 1).val (i 2).val : ℝ) : EReal) := by
  refine (H.h4 _).trans ?_
  show ((w (g + 1 * (i 0).val) (0 + 1 * (i 1).val) (0 + 1 * (i 2).val) : ℝ) : EReal) = _
  have : (i 0).val = 0 := Nat.lt_one_iff.mp (i 0).isLt
  simp only [this, one_mul, zero_add, add_zero, mul_zero]
/-- The same out of the transposed array. -/
theorem In.hWT {g : ℕ} (inb : ∀ a, ![g, 0, 0] a + S1x128x128.size a ≤ S8x128x128.size a) (i : S1x128x128.Idx) :
    View.ld x5 (Rect.unit ![g, 0, 0] ![1, 128, 128] inb) i = ((w g (i 2).val (i 1).val : ℝ) : EReal) := by
  refine (H.h5 _).trans ?_
  show ((w (g + 1 * (i 0).val) (0 + 1 * (i 2).val) (0 + 1 * (i 1).val) : ℝ) : EReal) = _
  have : (i 0).val = 0 := Nat.lt_one_iff.mp (i 0).isLt
  simp only [this, one_mul, zero_add, add_zero, mul_zero]
end loads

/-! An element of a store lies at its offset plus its place in the store. -/
theorem slab {G : S8x128x128.Idx → EReal} (prev : S8x128x128.Idx → EReal) {f : ℕ → ℕ → ℕ → ℝ} (hG : ∀ j, G j = prev j + ((f (j 0).val (j 1).val (j 2).val : ℝ) : EReal)) {g : ℕ}
    (inb : ∀ a, ![g, 0, 0] a + S1x128x128.size a ≤ S8x128x128.size a) (x : S1x128x128.Idx) :
    View.ld (Val := Elt Ideal) (e' := .f32) prev (Rect.unit ![g, 0, 0] ![1, 128, 128] inb) x + ((f g (x 1).val (x 2).val : ℝ) : EReal)
      = G ((Rect.unit (s := S8x128x128) ![g, 0, 0] ![1, 128, 128] inb).emb x) := by
  rw [hG]
  refine congrArg (prev _ + ·) ?_
  show _ = ((f (g + 1 * (x 0).val) (0 + 1 * (x 1).val) (0 + 1 * (x 2).val) : ℝ) : EReal)
  have : (x 0).val = 0 := Nat.lt_one_iff.mp (x 0).isLt
  simp only [this, one_mul, zero_add, add_zero, mul_zero]

theorem strip {n : ℕ} {G : S1x2048.Idx → EReal} (prev : S1x2048.Idx → EReal) {f : ℕ → ℝ} (hG : ∀ j, G j = prev j + ((f (j 1).val : ℝ) : EReal)) {o : ℕ}
    (inb : ∀ a, ![0, o] a + ![1, n] a ≤ S1x2048.size a) (x : (Rect.unit (s := S1x2048) ![0, o] ![1, n] inb).shape.Idx) :
    View.ld (Val := Elt Ideal) (e' := .f32) prev (Rect.unit ![0, o] ![1, n] inb) x + ((f (o + (x 1).val) : ℝ) : EReal)
      = G ((Rect.unit (s := S1x2048) ![0, o] ![1, n] inb).emb x) := by
  rw [hG]
  refine congrArg (prev _ + ·) ?_
  show _ = ((f (o + 1 * (x 1).val) : ℝ) : EReal)
  rw [one_mul]

theorem cols {n : ℕ} {G : S128x2048.Idx → EReal} {f : ℕ → ℕ → ℝ} (hG : ∀ j, G j = ((f (j 0).val (j 1).val : ℝ) : EReal)) {o : ℕ}
    (inb : ∀ a, ![0, o] a + ![128, n] a ≤ S128x2048.size a) (x : (Rect.unit (s := S128x2048) ![0, o] ![128, n] inb).shape.Idx) :
    ((f (x 0).val (o + (x 1).val) : ℝ) : EReal) = G ((Rect.unit (s := S128x2048) ![0, o] ![128, n] inb).emb x) := by
  rw [hG]
  show _ = ((f (0 + 1 * (x 0).val) (o + 1 * (x 1).val) : ℝ) : EReal)
  rw [one_mul, one_mul, zero_add]

theorem dp_lo {r c : ℕ} (h : c < 1024) : dp lg lb w b p y r c = dpu lg lb w b p y r c := if_pos h
theorem dp_hi (r c : ℕ) : dp lg lb w b p y r (1024 + c) = dpv lg w p y r c := by
  unfold dp; rw [if_neg (by omega), Nat.add_sub_cancel_left]

theorem zero8 (j : S1x1024.Idx) : (k0_pay5 : FVec Ideal S1x1024 .f32) j = 0 := by
  pointwise [k0_pay5]

theorem zero9 (j : S1x1024.Idx) : (k0_pay6 : FVec Ideal S1x1024 .f32) j = 0 := by
  pointwise [k0_pay6]

theorem zero10 (j : S8x128x128.Idx) : (k0_pay7 : FVec Ideal S8x128x128 .f32) j = 0 := by
  pointwise [k0_pay7]

theorem zero11 (j : S128x8.Idx) : (k0_pay8 : FVec Ideal S128x8 .f32) j = 0 := by
  pointwise [k0_pay8]

theorem zero12 (j : S1x2048.Idx) : (k0_pay9 : FVec Ideal S1x2048 .f32) j = 0 := by
  pointwise [k0_pay9]

theorem rawA7 (c : Dev nD) (i : grid0.Coords) (arg1 : Memref sig .tc .vmem S128x2048 .bf16) (harg1 : arg1.IsWhole) (arg2 : Memref sig .tc .vmem S128x1024 .bf16) (harg2 : arg2.IsWhole) (arg3 : Memref sig .tc .vmem S1x1024 .f32) (harg3 : arg3.IsWhole) (arg4 : Memref sig .tc .vmem S1x1024 .f32) (harg4 : arg4.IsWhole) (arg5 : Memref sig .tc .vmem S8x128x128 .f32) (harg5 : arg5.IsWhole) (arg6 : Memref sig .tc .vmem S8x128x128 .f32) (harg6 : arg6.IsWhole) (arg7 : Memref sig .tc .vmem S128x8 .f32) (harg7 : arg7.IsWhole) (arg8 : Memref sig .tc .vmem S128x2048 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S8x128x128 .f32) (harg11 : arg11.IsWhole) (arg12 : Memref sig .tc .vmem S128x8 .f32) (harg12 : arg12.IsWhole) (arg13 : Memref sig .tc .vmem S1x2048 .f32) (harg13 : arg13.IsWhole) (hc0 : cond0_0 i) {x0 : Vec Ideal S128x2048 .bf16} {x1 : Vec Ideal S128x1024 .bf16} {x2 : Vec Ideal S1x1024 .f32} {x3 : Vec Ideal S1x1024 .f32} {x4 : Vec Ideal S8x128x128 .f32} {x5 : Vec Ideal S8x128x128 .f32} {x6 : Vec Ideal S128x8 .f32}
    (H : In lg lb w b p y x0 x1 x2 x3 x4 x5 x6) (j) : out0_A_7 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 j
      = ((dp lg lb w b p y (j 0).val (j 1).val : ℝ) : EReal) := by
  frame_out [↓View.readCov_skip, ↓View.readCov_fill]
  let G : Vec Ideal S128x2048 .bf16 := fun j => ((dp lg lb w b p y (j 0).val (j 1).val : ℝ) : EReal)
  have hG : ∀ j, G j = ((dp lg lb w b p y (j 0).val (j 1).val : ℝ) : EReal) := fun _ => rfl
  show View.canon (Val := Elt Ideal) (e := .bf16) ([_, _, _, _, _, _, _, _, _] ++ []) j = G j
  refine View.canon_append_of_piecesOf (Val := Elt Ideal) (e := .bf16) G _ _ ?_ j ?_
  on_goal 2 => exact View.cover_of_tiledBy (s := S128x2048) _ ![128, 128] (by sl_kernel_rfl) j
  refine ⟨fun x => ?_, fun x => ?_, fun x => ?_, fun x => ?_, fun x => ?_, fun x => ?_, fun x => ?_, fun x => ?_, fun x => ?_, trivial⟩
  · refine Eq.trans (b := ((dp lg lb w b p y (x 0).val (1024 + (x 1).val) : ℝ) : EReal)) ?_ (cols (o := 1024) (n := 1024) (f := dp lg lb w b p y) hG inb_S128x2048_S128x1024_0_1024 x)
    rw [dp_hi]
    exact dpv_at H.hl1 H.hP H.hr H.hx (dvnAll (dvn0 H.hY H.hZ (H.hWT _)) (dvn1 H.hY H.hZ (H.hWT _)) (dvn2 H.hY H.hZ (H.hWT _)) (dvn3 H.hY H.hZ (H.hWT _)) (dvn4 H.hY H.hZ (H.hWT _)) (dvn5 H.hY H.hZ (H.hWT _)) (dvn6 H.hY H.hZ (H.hWT _)) H.hY H.hZ (H.hWT _)) x
  · refine Eq.trans (b := ((dp lg lb w b p y (x 0).val (896 + (x 1).val) : ℝ) : EReal)) ?_ (cols (o := 896) (n := 128) (f := dp lg lb w b p y) hG inb_S128x2048_S128x128_0_896 x)
    have hx : (x 1).val < 128 := (x 1).isLt
    rw [dp_lo (by omega)]
    exact dpu7 H.hbt H.hV (H.hW _) H.hU H.hY x
  · refine Eq.trans (b := ((dp lg lb w b p y (x 0).val (768 + (x 1).val) : ℝ) : EReal)) ?_ (cols (o := 768) (n := 128) (f := dp lg lb w b p y) hG inb_S128x2048_S128x128_0_768 x)
    have hx : (x 1).val < 128 := (x 1).isLt
    rw [dp_lo (by omega)]
    exact dpu6 H.hbt H.hV (H.hW _) H.hU H.hY x
  · refine Eq.trans (b := ((dp lg lb w b p y (x 0).val (640 + (x 1).val) : ℝ) : EReal)) ?_ (cols (o := 640) (n := 128) (f := dp lg lb w b p y) hG inb_S128x2048_S128x128_0_640 x)
    have hx : (x 1).val < 128 := (x 1).isLt
    rw [dp_lo (by omega)]
    exact dpu5 H.hbt H.hV (H.hW _) H.hU H.hY x
  · refine Eq.trans (b := ((dp lg lb w b p y (x 0).val (512 + (x 1).val) : ℝ) : EReal)) ?_ (cols (o := 512) (n := 128) (f := dp lg lb w b p y) hG inb_S128x2048_S128x128_0_512 x)
    have hx : (x 1).val < 128 := (x 1).isLt
    rw [dp_lo (by omega)]
    exact dpu4 H.hbt H.hV (H.hW _) H.hU H.hY x
  · refine Eq.trans (b := ((dp lg lb w b p y (x 0).val (384 + (x 1).val) : ℝ) : EReal)) ?_ (cols (o := 384) (n := 128) (f := dp lg lb w b p y) hG inb_S128x2048_S128x128_0_384 x)
    have hx : (x 1).val < 128 := (x 1).isLt
    rw [dp_lo (by omega)]
    exact dpu3 H.hbt H.hV (H.hW _) H.hU H.hY x
  · refine Eq.trans (b := ((dp lg lb w b p y (x 0).val (256 + (x 1).val) : ℝ) : EReal)) ?_ (cols (o := 256) (n := 128) (f := dp lg lb w b p y) hG inb_S128x2048_S128x128_0_256 x)
    have hx : (x 1).val < 128 := (x 1).isLt
    rw [dp_lo (by omega)]
    exact dpu2 H.hbt H.hV (H.hW _) H.hU H.hY x
  · refine Eq.trans (b := ((dp lg lb w b p y (x 0).val (128 + (x 1).val) : ℝ) : EReal)) ?_ (cols (o := 128) (n := 128) (f := dp lg lb w b p y) hG inb_S128x2048_S128x128_0_128 x)
    have hx : (x 1).val < 128 := (x 1).isLt
    rw [dp_lo (by omega)]
    exact dpu1 H.hbt H.hV (H.hW _) H.hU H.hY x
  · refine Eq.trans (b := ((dp lg lb w b p y (x 0).val (0 + (x 1).val) : ℝ) : EReal)) ?_ (cols (o := 0) (n := 128) (f := dp lg lb w b p y) hG inb_S128x2048_S128x128_0_0 x)
    have hx : (x 1).val < 128 := (x 1).isLt
    rw [dp_lo (by omega)]
    exact dpu0 H.hbt H.hV (H.hW _) H.hU H.hY x

theorem rawA8 (c : Dev nD) (i : grid0.Coords) (arg1 : Memref sig .tc .vmem S128x2048 .bf16) (harg1 : arg1.IsWhole) (arg2 : Memref sig .tc .vmem S128x1024 .bf16) (harg2 : arg2.IsWhole) (arg3 : Memref sig .tc .vmem S1x1024 .f32) (harg3 : arg3.IsWhole) (arg4 : Memref sig .tc .vmem S1x1024 .f32) (harg4 : arg4.IsWhole) (arg5 : Memref sig .tc .vmem S8x128x128 .f32) (harg5 : arg5.IsWhole) (arg6 : Memref sig .tc .vmem S8x128x128 .f32) (harg6 : arg6.IsWhole) (arg7 : Memref sig .tc .vmem S128x8 .f32) (harg7 : arg7.IsWhole) (arg8 : Memref sig .tc .vmem S128x2048 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S8x128x128 .f32) (harg11 : arg11.IsWhole) (arg12 : Memref sig .tc .vmem S128x8 .f32) (harg12 : arg12.IsWhole) (arg13 : Memref sig .tc .vmem S1x2048 .f32) (harg13 : arg13.IsWhole) (hc0 : cond0_0 i) {x0 : Vec Ideal S128x2048 .bf16} {x1 : Vec Ideal S128x1024 .bf16} {x2 : Vec Ideal S1x1024 .f32} {x3 : Vec Ideal S1x1024 .f32} {x4 : Vec Ideal S8x128x128 .f32} {x5 : Vec Ideal S8x128x128 .f32} {x6 : Vec Ideal S128x8 .f32}
    (H : In lg lb w b p y x0 x1 x2 x3 x4 x5 x6) (j) : out0_A_8 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 j
      = (k0_pay5 : FVec Ideal S1x1024 .f32) j + ((clg w p y (j 1).val : ℝ) : EReal) := by
  frame_out [↓View.readCov_skip, ↓View.readCov_fill]
  exact lgSum (dvn0 H.hY H.hZ (H.hWT _)) (dvn1 H.hY H.hZ (H.hWT _)) (dvn2 H.hY H.hZ (H.hWT _)) (dvn3 H.hY H.hZ (H.hWT _)) (dvn4 H.hY H.hZ (H.hWT _)) (dvn5 H.hY H.hZ (H.hWT _)) (dvn6 H.hY H.hZ (H.hWT _)) H.hY H.hZ (H.hWT _) H.hx _ j

theorem rawA9 (c : Dev nD) (i : grid0.Coords) (arg1 : Memref sig .tc .vmem S128x2048 .bf16) (harg1 : arg1.IsWhole) (arg2 : Memref sig .tc .vmem S128x1024 .bf16) (harg2 : arg2.IsWhole) (arg3 : Memref sig .tc .vmem S1x1024 .f32) (harg3 : arg3.IsWhole) (arg4 : Memref sig .tc .vmem S1x1024 .f32) (harg4 : arg4.IsWhole) (arg5 : Memref sig .tc .vmem S8x128x128 .f32) (harg5 : arg5.IsWhole) (arg6 : Memref sig .tc .vmem S8x128x128 .f32) (harg6 : arg6.IsWhole) (arg7 : Memref sig .tc .vmem S128x8 .f32) (harg7 : arg7.IsWhole) (arg8 : Memref sig .tc .vmem S128x2048 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S8x128x128 .f32) (harg11 : arg11.IsWhole) (arg12 : Memref sig .tc .vmem S128x8 .f32) (harg12 : arg12.IsWhole) (arg13 : Memref sig .tc .vmem S1x2048 .f32) (harg13 : arg13.IsWhole) (hc0 : cond0_0 i) {x0 : Vec Ideal S128x2048 .bf16} {x1 : Vec Ideal S128x1024 .bf16} {x2 : Vec Ideal S1x1024 .f32} {x3 : Vec Ideal S1x1024 .f32} {x4 : Vec Ideal S8x128x128 .f32} {x5 : Vec Ideal S8x128x128 .f32} {x6 : Vec Ideal S128x8 .f32}
    (H : In lg lb w b p y x0 x1 x2 x3 x4 x5 x6) (j) : out0_A_9 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 j
      = (k0_pay6 : FVec Ideal S1x1024 .f32) j + ((clb w p y (j 1).val : ℝ) : EReal) := by
  frame_out [↓View.readCov_skip, ↓View.readCov_fill]
  exact lbSum (dvnAll (dvn0 H.hY H.hZ (H.hWT _)) (dvn1 H.hY H.hZ (H.hWT _)) (dvn2 H.hY H.hZ (H.hWT _)) (dvn3 H.hY H.hZ (H.hWT _)) (dvn4 H.hY H.hZ (H.hWT _)) (dvn5 H.hY H.hZ (H.hWT _)) (dvn6 H.hY H.hZ (H.hWT _)) H.hY H.hZ (H.hWT _)) _ j

theorem rawA10 (c : Dev nD) (i : grid0.Coords) (arg1 : Memref sig .tc .vmem S128x2048 .bf16) (harg1 : arg1.IsWhole) (arg2 : Memref sig .tc .vmem S128x1024 .bf16) (harg2 : arg2.IsWhole) (arg3 : Memref sig .tc .vmem S1x1024 .f32) (harg3 : arg3.IsWhole) (arg4 : Memref sig .tc .vmem S1x1024 .f32) (harg4 : arg4.IsWhole) (arg5 : Memref sig .tc .vmem S8x128x128 .f32) (harg5 : arg5.IsWhole) (arg6 : Memref sig .tc .vmem S8x128x128 .f32) (harg6 : arg6.IsWhole) (arg7 : Memref sig .tc .vmem S128x8 .f32) (harg7 : arg7.IsWhole) (arg8 : Memref sig .tc .vmem S128x2048 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S8x128x128 .f32) (harg11 : arg11.IsWhole) (arg12 : Memref sig .tc .vmem S128x8 .f32) (harg12 : arg12.IsWhole) (arg13 : Memref sig .tc .vmem S1x2048 .f32) (harg13 : arg13.IsWhole) (hc0 : cond0_0 i) {x0 : Vec Ideal S128x2048 .bf16} {x1 : Vec Ideal S128x1024 .bf16} {x2 : Vec Ideal S1x1024 .f32} {x3 : Vec Ideal S1x1024 .f32} {x4 : Vec Ideal S8x128x128 .f32} {x5 : Vec Ideal S8x128x128 .f32} {x6 : Vec Ideal S128x8 .f32}
    (H : In lg lb w b p y x0 x1 x2 x3 x4 x5 x6) (j) : out0_A_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 j
      = (k0_pay7 : FVec Ideal S8x128x128 .f32) j + ((cw lg lb p y (j 0).val (j 1).val (j 2).val : ℝ) : EReal) := by
  frame_out [↓View.readCov_skip, ↓View.readCov_fill]
  let G : Vec Ideal S8x128x128 .f32 := fun j => (k0_pay7 : FVec Ideal S8x128x128 .f32) j + ((cw lg lb p y (j 0).val (j 1).val (j 2).val : ℝ) : EReal)
  have hG : ∀ j, G j = (k0_pay7 : FVec Ideal S8x128x128 .f32) j + ((cw lg lb p y (j 0).val (j 1).val (j 2).val : ℝ) : EReal) := fun _ => rfl
  show View.canon (Val := Elt Ideal) (e := .f32) ([_, _, _, _, _, _, _, _] ++ [_]) j = G j
  refine View.canon_append_of_piecesOf (Val := Elt Ideal) (e := .f32) G _ _ ?_ j ?_
  on_goal 2 => exact View.cover_of_tiledL (s := S8x128x128) _ S1x128x128.size (by sl_kernel_rfl) j
  refine ⟨fun x => ?_, fun x => ?_, fun x => ?_, fun x => ?_, fun x => ?_, fun x => ?_, fun x => ?_, fun x => ?_, trivial⟩
  · exact (dw7 H.hY H.hZ H.hV _ x).trans (slab (f := cw lg lb p y) _ hG _ x)
  · exact (dw6 H.hY H.hZ H.hV _ x).trans (slab (f := cw lg lb p y) _ hG _ x)
  · exact (dw5 H.hY H.hZ H.hV _ x).trans (slab (f := cw lg lb p y) _ hG _ x)
  · exact (dw4 H.hY H.hZ H.hV _ x).trans (slab (f := cw lg lb p y) _ hG _ x)
  · exact (dw3 H.hY H.hZ H.hV _ x).trans (slab (f := cw lg lb p y) _ hG _ x)
  · exact (dw2 H.hY H.hZ H.hV _ x).trans (slab (f := cw lg lb p y) _ hG _ x)
  · exact (dw1 H.hY H.hZ H.hV _ x).trans (slab (f := cw lg lb p y) _ hG _ x)
  · exact (dw0 H.hY H.hZ H.hV _ x).trans (slab (f := cw lg lb p y) _ hG _ x)

theorem rawA11 (c : Dev nD) (i : grid0.Coords) (arg1 : Memref sig .tc .vmem S128x2048 .bf16) (harg1 : arg1.IsWhole) (arg2 : Memref sig .tc .vmem S128x1024 .bf16) (harg2 : arg2.IsWhole) (arg3 : Memref sig .tc .vmem S1x1024 .f32) (harg3 : arg3.IsWhole) (arg4 : Memref sig .tc .vmem S1x1024 .f32) (harg4 : arg4.IsWhole) (arg5 : Memref sig .tc .vmem S8x128x128 .f32) (harg5 : arg5.IsWhole) (arg6 : Memref sig .tc .vmem S8x128x128 .f32) (harg6 : arg6.IsWhole) (arg7 : Memref sig .tc .vmem S128x8 .f32) (harg7 : arg7.IsWhole) (arg8 : Memref sig .tc .vmem S128x2048 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S8x128x128 .f32) (harg11 : arg11.IsWhole) (arg12 : Memref sig .tc .vmem S128x8 .f32) (harg12 : arg12.IsWhole) (arg13 : Memref sig .tc .vmem S1x2048 .f32) (harg13 : arg13.IsWhole) (hc0 : cond0_0 i) {x0 : Vec Ideal S128x2048 .bf16} {x1 : Vec Ideal S128x1024 .bf16} {x2 : Vec Ideal S1x1024 .f32} {x3 : Vec Ideal S1x1024 .f32} {x4 : Vec Ideal S8x128x128 .f32} {x5 : Vec Ideal S8x128x128 .f32} {x6 : Vec Ideal S128x8 .f32}
    (H : In lg lb w b p y x0 x1 x2 x3 x4 x5 x6) (j) : out0_A_11 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 j
      = (k0_pay8 : FVec Ideal S128x8 .f32) j + ((cb p y (j 0).val (j 1).val : ℝ) : EReal) := by
  frame_out [↓View.readCov_skip, ↓View.readCov_fill]
  exact sbt (row0 H.hY H.hZ) (row1 H.hY H.hZ) (row2 H.hY H.hZ) (row3 H.hY H.hZ) (row4 H.hY H.hZ) (row5 H.hY H.hZ) (row6 H.hY H.hZ) H.hY H.hZ _ j

theorem rawA12 (c : Dev nD) (i : grid0.Coords) (arg1 : Memref sig .tc .vmem S128x2048 .bf16) (harg1 : arg1.IsWhole) (arg2 : Memref sig .tc .vmem S128x1024 .bf16) (harg2 : arg2.IsWhole) (arg3 : Memref sig .tc .vmem S1x1024 .f32) (harg3 : arg3.IsWhole) (arg4 : Memref sig .tc .vmem S1x1024 .f32) (harg4 : arg4.IsWhole) (arg5 : Memref sig .tc .vmem S8x128x128 .f32) (harg5 : arg5.IsWhole) (arg6 : Memref sig .tc .vmem S8x128x128 .f32) (harg6 : arg6.IsWhole) (arg7 : Memref sig .tc .vmem S128x8 .f32) (harg7 : arg7.IsWhole) (arg8 : Memref sig .tc .vmem S128x2048 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S8x128x128 .f32) (harg11 : arg11.IsWhole) (arg12 : Memref sig .tc .vmem S128x8 .f32) (harg12 : arg12.IsWhole) (arg13 : Memref sig .tc .vmem S1x2048 .f32) (harg13 : arg13.IsWhole) (hc0 : cond0_0 i) {x0 : Vec Ideal S128x2048 .bf16} {x1 : Vec Ideal S128x1024 .bf16} {x2 : Vec Ideal S1x1024 .f32} {x3 : Vec Ideal S1x1024 .f32} {x4 : Vec Ideal S8x128x128 .f32} {x5 : Vec Ideal S8x128x128 .f32} {x6 : Vec Ideal S128x8 .f32}
    (H : In lg lb w b p y x0 x1 x2 x3 x4 x5 x6) (j) : out0_A_12 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 j
      = (k0_pay9 : FVec Ideal S1x2048 .f32) j + ((cdb lg lb w b p y (j 1).val : ℝ) : EReal) := by
  frame_out [↓View.readCov_skip, ↓View.readCov_fill]
  let G : Vec Ideal S1x2048 .f32 := fun j => (k0_pay9 : FVec Ideal S1x2048 .f32) j + ((cdb lg lb w b p y (j 1).val : ℝ) : EReal)
  have hG : ∀ j, G j = (k0_pay9 : FVec Ideal S1x2048 .f32) j + ((cdb lg lb w b p y (j 1).val : ℝ) : EReal) := fun _ => rfl
  show View.canon (Val := Elt Ideal) (e := .f32) ([_, _, _, _, _, _, _, _, _] ++ [_]) j = G j
  refine View.canon_append_of_piecesOf (Val := Elt Ideal) (e := .f32) G _ _ ?_ j ?_
  on_goal 2 => exact View.cover_of_tiledBy (s := S1x2048) _ ![1, 128] (by sl_kernel_rfl) j
  refine ⟨fun x => ?_, fun x => ?_, fun x => ?_, fun x => ?_, fun x => ?_, fun x => ?_, fun x => ?_, fun x => ?_, fun x => ?_, trivial⟩
  · exact (dbTail (dpv_at H.hl1 H.hP H.hr H.hx (dvnAll (dvn0 H.hY H.hZ (H.hWT _)) (dvn1 H.hY H.hZ (H.hWT _)) (dvn2 H.hY H.hZ (H.hWT _)) (dvn3 H.hY H.hZ (H.hWT _)) (dvn4 H.hY H.hZ (H.hWT _)) (dvn5 H.hY H.hZ (H.hWT _)) (dvn6 H.hY H.hZ (H.hWT _)) H.hY H.hZ (H.hWT _))) _ x).trans (strip (f := cdb lg lb w b p y) _ hG _ x)
  · exact (db7 H.hbt H.hV (H.hW _) H.hU H.hY _ x).trans (strip (f := cdb lg lb w b p y) _ hG _ x)
  · exact (db6 H.hbt H.hV (H.hW _) H.hU H.hY _ x).trans (strip (f := cdb lg lb w b p y) _ hG _ x)
  · exact (db5 H.hbt H.hV (H.hW _) H.hU H.hY _ x).trans (strip (f := cdb lg lb w b p y) _ hG _ x)
  · exact (db4 H.hbt H.hV (H.hW _) H.hU H.hY _ x).trans (strip (f := cdb lg lb w b p y) _ hG _ x)
  · exact (db3 H.hbt H.hV (H.hW _) H.hU H.hY _ x).trans (strip (f := cdb lg lb w b p y) _ hG _ x)
  · exact (db2 H.hbt H.hV (H.hW _) H.hU H.hY _ x).trans (strip (f := cdb lg lb w b p y) _ hG _ x)
  · exact (db1 H.hbt H.hV (H.hW _) H.hU H.hY _ x).trans (strip (f := cdb lg lb w b p y) _ hG _ x)
  · exact (db0 H.hbt H.hV (H.hW _) H.hU H.hY _ x).trans (strip (f := cdb lg lb w b p y) _ hG _ x)

theorem rawB7 (c : Dev nD) (i : grid0.Coords) (arg1 : Memref sig .tc .vmem S128x2048 .bf16) (harg1 : arg1.IsWhole) (arg2 : Memref sig .tc .vmem S128x1024 .bf16) (harg2 : arg2.IsWhole) (arg3 : Memref sig .tc .vmem S1x1024 .f32) (harg3 : arg3.IsWhole) (arg4 : Memref sig .tc .vmem S1x1024 .f32) (harg4 : arg4.IsWhole) (arg5 : Memref sig .tc .vmem S8x128x128 .f32) (harg5 : arg5.IsWhole) (arg6 : Memref sig .tc .vmem S8x128x128 .f32) (harg6 : arg6.IsWhole) (arg7 : Memref sig .tc .vmem S128x8 .f32) (harg7 : arg7.IsWhole) (arg8 : Memref sig .tc .vmem S128x2048 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S8x128x128 .f32) (harg11 : arg11.IsWhole) (arg12 : Memref sig .tc .vmem S128x8 .f32) (harg12 : arg12.IsWhole) (arg13 : Memref sig .tc .vmem S1x2048 .f32) (harg13 : arg13.IsWhole) (hc0 : ¬cond0_0 i) {x0 : Vec Ideal S128x2048 .bf16} {x1 : Vec Ideal S128x1024 .bf16} {x2 : Vec Ideal S1x1024 .f32} {x3 : Vec Ideal S1x1024 .f32} {x4 : Vec Ideal S8x128x128 .f32} {x5 : Vec Ideal S8x128x128 .f32} {x6 : Vec Ideal S128x8 .f32} (xo8 : Vec Ideal S1x1024 .f32) (xo9 : Vec Ideal S1x1024 .f32) (xo10 : Vec Ideal S8x128x128 .f32) (xo11 : Vec Ideal S128x8 .f32) (xo12 : Vec Ideal S1x2048 .f32)
    (H : In lg lb w b p y x0 x1 x2 x3 x4 x5 x6) (j) : out0_B_7 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xo8 xo9 xo10 xo11 xo12 j
      = ((dp lg lb w b p y (j 0).val (j 1).val : ℝ) : EReal) := by
  frame_out [↓View.readCov_skip, ↓View.readCov_fill]
  let G : Vec Ideal S128x2048 .bf16 := fun j => ((dp lg lb w b p y (j 0).val (j 1).val : ℝ) : EReal)
  have hG : ∀ j, G j = ((dp lg lb w b p y (j 0).val (j 1).val : ℝ) : EReal) := fun _ => rfl
  show View.canon (Val := Elt Ideal) (e := .bf16) ([_, _, _, _, _, _, _, _, _] ++ []) j = G j
  refine View.canon_append_of_piecesOf (Val := Elt Ideal) (e := .bf16) G _ _ ?_ j ?_
  on_goal 2 => exact View.cover_of_tiledBy (s := S128x2048) _ ![128, 128] (by sl_kernel_rfl) j
  refine ⟨fun x => ?_, fun x => ?_, fun x => ?_, fun x => ?_, fun x => ?_, fun x => ?_, fun x => ?_, fun x => ?_, fun x => ?_, trivial⟩
  · refine Eq.trans (b := ((dp lg lb w b p y (x 0).val (1024 + (x 1).val) : ℝ) : EReal)) ?_ (cols (o := 1024) (n := 1024) (f := dp lg lb w b p y) hG inb_S128x2048_S128x1024_0_1024 x)
    rw [dp_hi]
    exact dpv_at H.hl1 H.hP H.hr H.hx (dvnAll (dvn0 H.hY H.hZ (H.hWT _)) (dvn1 H.hY H.hZ (H.hWT _)) (dvn2 H.hY H.hZ (H.hWT _)) (dvn3 H.hY H.hZ (H.hWT _)) (dvn4 H.hY H.hZ (H.hWT _)) (dvn5 H.hY H.hZ (H.hWT _)) (dvn6 H.hY H.hZ (H.hWT _)) H.hY H.hZ (H.hWT _)) x
  · refine Eq.trans (b := ((dp lg lb w b p y (x 0).val (896 + (x 1).val) : ℝ) : EReal)) ?_ (cols (o := 896) (n := 128) (f := dp lg lb w b p y) hG inb_S128x2048_S128x128_0_896 x)
    have hx : (x 1).val < 128 := (x 1).isLt
    rw [dp_lo (by omega)]
    exact dpu7 H.hbt H.hV (H.hW _) H.hU H.hY x
  · refine Eq.trans (b := ((dp lg lb w b p y (x 0).val (768 + (x 1).val) : ℝ) : EReal)) ?_ (cols (o := 768) (n := 128) (f := dp lg lb w b p y) hG inb_S128x2048_S128x128_0_768 x)
    have hx : (x 1).val < 128 := (x 1).isLt
    rw [dp_lo (by omega)]
    exact dpu6 H.hbt H.hV (H.hW _) H.hU H.hY x
  · refine Eq.trans (b := ((dp lg lb w b p y (x 0).val (640 + (x 1).val) : ℝ) : EReal)) ?_ (cols (o := 640) (n := 128) (f := dp lg lb w b p y) hG inb_S128x2048_S128x128_0_640 x)
    have hx : (x 1).val < 128 := (x 1).isLt
    rw [dp_lo (by omega)]
    exact dpu5 H.hbt H.hV (H.hW _) H.hU H.hY x
  · refine Eq.trans (b := ((dp lg lb w b p y (x 0).val (512 + (x 1).val) : ℝ) : EReal)) ?_ (cols (o := 512) (n := 128) (f := dp lg lb w b p y) hG inb_S128x2048_S128x128_0_512 x)
    have hx : (x 1).val < 128 := (x 1).isLt
    rw [dp_lo (by omega)]
    exact dpu4 H.hbt H.hV (H.hW _) H.hU H.hY x
  · refine Eq.trans (b := ((dp lg lb w b p y (x 0).val (384 + (x 1).val) : ℝ) : EReal)) ?_ (cols (o := 384) (n := 128) (f := dp lg lb w b p y) hG inb_S128x2048_S128x128_0_384 x)
    have hx : (x 1).val < 128 := (x 1).isLt
    rw [dp_lo (by omega)]
    exact dpu3 H.hbt H.hV (H.hW _) H.hU H.hY x
  · refine Eq.trans (b := ((dp lg lb w b p y (x 0).val (256 + (x 1).val) : ℝ) : EReal)) ?_ (cols (o := 256) (n := 128) (f := dp lg lb w b p y) hG inb_S128x2048_S128x128_0_256 x)
    have hx : (x 1).val < 128 := (x 1).isLt
    rw [dp_lo (by omega)]
    exact dpu2 H.hbt H.hV (H.hW _) H.hU H.hY x
  · refine Eq.trans (b := ((dp lg lb w b p y (x 0).val (128 + (x 1).val) : ℝ) : EReal)) ?_ (cols (o := 128) (n := 128) (f := dp lg lb w b p y) hG inb_S128x2048_S128x128_0_128 x)
    have hx : (x 1).val < 128 := (x 1).isLt
    rw [dp_lo (by omega)]
    exact dpu1 H.hbt H.hV (H.hW _) H.hU H.hY x
  · refine Eq.trans (b := ((dp lg lb w b p y (x 0).val (0 + (x 1).val) : ℝ) : EReal)) ?_ (cols (o := 0) (n := 128) (f := dp lg lb w b p y) hG inb_S128x2048_S128x128_0_0 x)
    have hx : (x 1).val < 128 := (x 1).isLt
    rw [dp_lo (by omega)]
    exact dpu0 H.hbt H.hV (H.hW _) H.hU H.hY x

theorem rawB8 (c : Dev nD) (i : grid0.Coords) (arg1 : Memref sig .tc .vmem S128x2048 .bf16) (harg1 : arg1.IsWhole) (arg2 : Memref sig .tc .vmem S128x1024 .bf16) (harg2 : arg2.IsWhole) (arg3 : Memref sig .tc .vmem S1x1024 .f32) (harg3 : arg3.IsWhole) (arg4 : Memref sig .tc .vmem S1x1024 .f32) (harg4 : arg4.IsWhole) (arg5 : Memref sig .tc .vmem S8x128x128 .f32) (harg5 : arg5.IsWhole) (arg6 : Memref sig .tc .vmem S8x128x128 .f32) (harg6 : arg6.IsWhole) (arg7 : Memref sig .tc .vmem S128x8 .f32) (harg7 : arg7.IsWhole) (arg8 : Memref sig .tc .vmem S128x2048 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S8x128x128 .f32) (harg11 : arg11.IsWhole) (arg12 : Memref sig .tc .vmem S128x8 .f32) (harg12 : arg12.IsWhole) (arg13 : Memref sig .tc .vmem S1x2048 .f32) (harg13 : arg13.IsWhole) (hc0 : ¬cond0_0 i) {x0 : Vec Ideal S128x2048 .bf16} {x1 : Vec Ideal S128x1024 .bf16} {x2 : Vec Ideal S1x1024 .f32} {x3 : Vec Ideal S1x1024 .f32} {x4 : Vec Ideal S8x128x128 .f32} {x5 : Vec Ideal S8x128x128 .f32} {x6 : Vec Ideal S128x8 .f32} (xo8 : Vec Ideal S1x1024 .f32) (xo9 : Vec Ideal S1x1024 .f32) (xo10 : Vec Ideal S8x128x128 .f32) (xo11 : Vec Ideal S128x8 .f32) (xo12 : Vec Ideal S1x2048 .f32)
    (H : In lg lb w b p y x0 x1 x2 x3 x4 x5 x6) (j) : out0_B_8 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xo8 xo9 xo10 xo11 xo12 j
      = xo8 j + ((clg w p y (j 1).val : ℝ) : EReal) := by
  frame_out [↓View.readCov_skip, ↓View.readCov_fill]
  exact lgSum (dvn0 H.hY H.hZ (H.hWT _)) (dvn1 H.hY H.hZ (H.hWT _)) (dvn2 H.hY H.hZ (H.hWT _)) (dvn3 H.hY H.hZ (H.hWT _)) (dvn4 H.hY H.hZ (H.hWT _)) (dvn5 H.hY H.hZ (H.hWT _)) (dvn6 H.hY H.hZ (H.hWT _)) H.hY H.hZ (H.hWT _) H.hx _ j

theorem rawB9 (c : Dev nD) (i : grid0.Coords) (arg1 : Memref sig .tc .vmem S128x2048 .bf16) (harg1 : arg1.IsWhole) (arg2 : Memref sig .tc .vmem S128x1024 .bf16) (harg2 : arg2.IsWhole) (arg3 : Memref sig .tc .vmem S1x1024 .f32) (harg3 : arg3.IsWhole) (arg4 : Memref sig .tc .vmem S1x1024 .f32) (harg4 : arg4.IsWhole) (arg5 : Memref sig .tc .vmem S8x128x128 .f32) (harg5 : arg5.IsWhole) (arg6 : Memref sig .tc .vmem S8x128x128 .f32) (harg6 : arg6.IsWhole) (arg7 : Memref sig .tc .vmem S128x8 .f32) (harg7 : arg7.IsWhole) (arg8 : Memref sig .tc .vmem S128x2048 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S8x128x128 .f32) (harg11 : arg11.IsWhole) (arg12 : Memref sig .tc .vmem S128x8 .f32) (harg12 : arg12.IsWhole) (arg13 : Memref sig .tc .vmem S1x2048 .f32) (harg13 : arg13.IsWhole) (hc0 : ¬cond0_0 i) {x0 : Vec Ideal S128x2048 .bf16} {x1 : Vec Ideal S128x1024 .bf16} {x2 : Vec Ideal S1x1024 .f32} {x3 : Vec Ideal S1x1024 .f32} {x4 : Vec Ideal S8x128x128 .f32} {x5 : Vec Ideal S8x128x128 .f32} {x6 : Vec Ideal S128x8 .f32} (xo8 : Vec Ideal S1x1024 .f32) (xo9 : Vec Ideal S1x1024 .f32) (xo10 : Vec Ideal S8x128x128 .f32) (xo11 : Vec Ideal S128x8 .f32) (xo12 : Vec Ideal S1x2048 .f32)
    (H : In lg lb w b p y x0 x1 x2 x3 x4 x5 x6) (j) : out0_B_9 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xo8 xo9 xo10 xo11 xo12 j
      = xo9 j + ((clb w p y (j 1).val : ℝ) : EReal) := by
  frame_out [↓View.readCov_skip, ↓View.readCov_fill]
  exact lbSum (dvnAll (dvn0 H.hY H.hZ (H.hWT _)) (dvn1 H.hY H.hZ (H.hWT _)) (dvn2 H.hY H.hZ (H.hWT _)) (dvn3 H.hY H.hZ (H.hWT _)) (dvn4 H.hY H.hZ (H.hWT _)) (dvn5 H.hY H.hZ (H.hWT _)) (dvn6 H.hY H.hZ (H.hWT _)) H.hY H.hZ (H.hWT _)) _ j

theorem rawB10 (c : Dev nD) (i : grid0.Coords) (arg1 : Memref sig .tc .vmem S128x2048 .bf16) (harg1 : arg1.IsWhole) (arg2 : Memref sig .tc .vmem S128x1024 .bf16) (harg2 : arg2.IsWhole) (arg3 : Memref sig .tc .vmem S1x1024 .f32) (harg3 : arg3.IsWhole) (arg4 : Memref sig .tc .vmem S1x1024 .f32) (harg4 : arg4.IsWhole) (arg5 : Memref sig .tc .vmem S8x128x128 .f32) (harg5 : arg5.IsWhole) (arg6 : Memref sig .tc .vmem S8x128x128 .f32) (harg6 : arg6.IsWhole) (arg7 : Memref sig .tc .vmem S128x8 .f32) (harg7 : arg7.IsWhole) (arg8 : Memref sig .tc .vmem S128x2048 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S8x128x128 .f32) (harg11 : arg11.IsWhole) (arg12 : Memref sig .tc .vmem S128x8 .f32) (harg12 : arg12.IsWhole) (arg13 : Memref sig .tc .vmem S1x2048 .f32) (harg13 : arg13.IsWhole) (hc0 : ¬cond0_0 i) {x0 : Vec Ideal S128x2048 .bf16} {x1 : Vec Ideal S128x1024 .bf16} {x2 : Vec Ideal S1x1024 .f32} {x3 : Vec Ideal S1x1024 .f32} {x4 : Vec Ideal S8x128x128 .f32} {x5 : Vec Ideal S8x128x128 .f32} {x6 : Vec Ideal S128x8 .f32} (xo8 : Vec Ideal S1x1024 .f32) (xo9 : Vec Ideal S1x1024 .f32) (xo10 : Vec Ideal S8x128x128 .f32) (xo11 : Vec Ideal S128x8 .f32) (xo12 : Vec Ideal S1x2048 .f32)
    (H : In lg lb w b p y x0 x1 x2 x3 x4 x5 x6) (j) : out0_B_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xo8 xo9 xo10 xo11 xo12 j
      = xo10 j + ((cw lg lb p y (j 0).val (j 1).val (j 2).val : ℝ) : EReal) := by
  frame_out [↓View.readCov_skip, ↓View.readCov_fill]
  let G : Vec Ideal S8x128x128 .f32 := fun j => xo10 j + ((cw lg lb p y (j 0).val (j 1).val (j 2).val : ℝ) : EReal)
  have hG : ∀ j, G j = xo10 j + ((cw lg lb p y (j 0).val (j 1).val (j 2).val : ℝ) : EReal) := fun _ => rfl
  show View.canon (Val := Elt Ideal) (e := .f32) ([_, _, _, _, _, _, _, _] ++ []) j = G j
  refine View.canon_append_of_piecesOf (Val := Elt Ideal) (e := .f32) G _ _ ?_ j ?_
  on_goal 2 => exact View.cover_of_tiledL (s := S8x128x128) _ S1x128x128.size (by sl_kernel_rfl) j
  refine ⟨fun x => ?_, fun x => ?_, fun x => ?_, fun x => ?_, fun x => ?_, fun x => ?_, fun x => ?_, fun x => ?_, trivial⟩
  · exact (dw7 H.hY H.hZ H.hV _ x).trans (slab (f := cw lg lb p y) _ hG _ x)
  · exact (dw6 H.hY H.hZ H.hV _ x).trans (slab (f := cw lg lb p y) _ hG _ x)
  · exact (dw5 H.hY H.hZ H.hV _ x).trans (slab (f := cw lg lb p y) _ hG _ x)
  · exact (dw4 H.hY H.hZ H.hV _ x).trans (slab (f := cw lg lb p y) _ hG _ x)
  · exact (dw3 H.hY H.hZ H.hV _ x).trans (slab (f := cw lg lb p y) _ hG _ x)
  · exact (dw2 H.hY H.hZ H.hV _ x).trans (slab (f := cw lg lb p y) _ hG _ x)
  · exact (dw1 H.hY H.hZ H.hV _ x).trans (slab (f := cw lg lb p y) _ hG _ x)
  · exact (dw0 H.hY H.hZ H.hV _ x).trans (slab (f := cw lg lb p y) _ hG _ x)

theorem rawB11 (c : Dev nD) (i : grid0.Coords) (arg1 : Memref sig .tc .vmem S128x2048 .bf16) (harg1 : arg1.IsWhole) (arg2 : Memref sig .tc .vmem S128x1024 .bf16) (harg2 : arg2.IsWhole) (arg3 : Memref sig .tc .vmem S1x1024 .f32) (harg3 : arg3.IsWhole) (arg4 : Memref sig .tc .vmem S1x1024 .f32) (harg4 : arg4.IsWhole) (arg5 : Memref sig .tc .vmem S8x128x128 .f32) (harg5 : arg5.IsWhole) (arg6 : Memref sig .tc .vmem S8x128x128 .f32) (harg6 : arg6.IsWhole) (arg7 : Memref sig .tc .vmem S128x8 .f32) (harg7 : arg7.IsWhole) (arg8 : Memref sig .tc .vmem S128x2048 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S8x128x128 .f32) (harg11 : arg11.IsWhole) (arg12 : Memref sig .tc .vmem S128x8 .f32) (harg12 : arg12.IsWhole) (arg13 : Memref sig .tc .vmem S1x2048 .f32) (harg13 : arg13.IsWhole) (hc0 : ¬cond0_0 i) {x0 : Vec Ideal S128x2048 .bf16} {x1 : Vec Ideal S128x1024 .bf16} {x2 : Vec Ideal S1x1024 .f32} {x3 : Vec Ideal S1x1024 .f32} {x4 : Vec Ideal S8x128x128 .f32} {x5 : Vec Ideal S8x128x128 .f32} {x6 : Vec Ideal S128x8 .f32} (xo8 : Vec Ideal S1x1024 .f32) (xo9 : Vec Ideal S1x1024 .f32) (xo10 : Vec Ideal S8x128x128 .f32) (xo11 : Vec Ideal S128x8 .f32) (xo12 : Vec Ideal S1x2048 .f32)
    (H : In lg lb w b p y x0 x1 x2 x3 x4 x5 x6) (j) : out0_B_11 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xo8 xo9 xo10 xo11 xo12 j
      = xo11 j + ((cb p y (j 0).val (j 1).val : ℝ) : EReal) := by
  frame_out [↓View.readCov_skip, ↓View.readCov_fill]
  exact sbt (row0 H.hY H.hZ) (row1 H.hY H.hZ) (row2 H.hY H.hZ) (row3 H.hY H.hZ) (row4 H.hY H.hZ) (row5 H.hY H.hZ) (row6 H.hY H.hZ) H.hY H.hZ _ j

theorem rawB12 (c : Dev nD) (i : grid0.Coords) (arg1 : Memref sig .tc .vmem S128x2048 .bf16) (harg1 : arg1.IsWhole) (arg2 : Memref sig .tc .vmem S128x1024 .bf16) (harg2 : arg2.IsWhole) (arg3 : Memref sig .tc .vmem S1x1024 .f32) (harg3 : arg3.IsWhole) (arg4 : Memref sig .tc .vmem S1x1024 .f32) (harg4 : arg4.IsWhole) (arg5 : Memref sig .tc .vmem S8x128x128 .f32) (harg5 : arg5.IsWhole) (arg6 : Memref sig .tc .vmem S8x128x128 .f32) (harg6 : arg6.IsWhole) (arg7 : Memref sig .tc .vmem S128x8 .f32) (harg7 : arg7.IsWhole) (arg8 : Memref sig .tc .vmem S128x2048 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S8x128x128 .f32) (harg11 : arg11.IsWhole) (arg12 : Memref sig .tc .vmem S128x8 .f32) (harg12 : arg12.IsWhole) (arg13 : Memref sig .tc .vmem S1x2048 .f32) (harg13 : arg13.IsWhole) (hc0 : ¬cond0_0 i) {x0 : Vec Ideal S128x2048 .bf16} {x1 : Vec Ideal S128x1024 .bf16} {x2 : Vec Ideal S1x1024 .f32} {x3 : Vec Ideal S1x1024 .f32} {x4 : Vec Ideal S8x128x128 .f32} {x5 : Vec Ideal S8x128x128 .f32} {x6 : Vec Ideal S128x8 .f32} (xo8 : Vec Ideal S1x1024 .f32) (xo9 : Vec Ideal S1x1024 .f32) (xo10 : Vec Ideal S8x128x128 .f32) (xo11 : Vec Ideal S128x8 .f32) (xo12 : Vec Ideal S1x2048 .f32)
    (H : In lg lb w b p y x0 x1 x2 x3 x4 x5 x6) (j) : out0_B_12 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xo8 xo9 xo10 xo11 xo12 j
      = xo12 j + ((cdb lg lb w b p y (j 1).val : ℝ) : EReal) := by
  frame_out [↓View.readCov_skip, ↓View.readCov_fill]
  let G : Vec Ideal S1x2048 .f32 := fun j => xo12 j + ((cdb lg lb w b p y (j 1).val : ℝ) : EReal)
  have hG : ∀ j, G j = xo12 j + ((cdb lg lb w b p y (j 1).val : ℝ) : EReal) := fun _ => rfl
  show View.canon (Val := Elt Ideal) (e := .f32) ([_, _, _, _, _, _, _, _, _] ++ []) j = G j
  refine View.canon_append_of_piecesOf (Val := Elt Ideal) (e := .f32) G _ _ ?_ j ?_
  on_goal 2 => exact View.cover_of_tiledBy (s := S1x2048) _ ![1, 128] (by sl_kernel_rfl) j
  refine ⟨fun x => ?_, fun x => ?_, fun x => ?_, fun x => ?_, fun x => ?_, fun x => ?_, fun x => ?_, fun x => ?_, fun x => ?_, trivial⟩
  · exact (dbTail (dpv_at H.hl1 H.hP H.hr H.hx (dvnAll (dvn0 H.hY H.hZ (H.hWT _)) (dvn1 H.hY H.hZ (H.hWT _)) (dvn2 H.hY H.hZ (H.hWT _)) (dvn3 H.hY H.hZ (H.hWT _)) (dvn4 H.hY H.hZ (H.hWT _)) (dvn5 H.hY H.hZ (H.hWT _)) (dvn6 H.hY H.hZ (H.hWT _)) H.hY H.hZ (H.hWT _))) _ x).trans (strip (f := cdb lg lb w b p y) _ hG _ x)
  · exact (db7 H.hbt H.hV (H.hW _) H.hU H.hY _ x).trans (strip (f := cdb lg lb w b p y) _ hG _ x)
  · exact (db6 H.hbt H.hV (H.hW _) H.hU H.hY _ x).trans (strip (f := cdb lg lb w b p y) _ hG _ x)
  · exact (db5 H.hbt H.hV (H.hW _) H.hU H.hY _ x).trans (strip (f := cdb lg lb w b p y) _ hG _ x)
  · exact (db4 H.hbt H.hV (H.hW _) H.hU H.hY _ x).trans (strip (f := cdb lg lb w b p y) _ hG _ x)
  · exact (db3 H.hbt H.hV (H.hW _) H.hU H.hY _ x).trans (strip (f := cdb lg lb w b p y) _ hG _ x)
  · exact (db2 H.hbt H.hV (H.hW _) H.hU H.hY _ x).trans (strip (f := cdb lg lb w b p y) _ hG _ x)
  · exact (db1 H.hbt H.hV (H.hW _) H.hU H.hY _ x).trans (strip (f := cdb lg lb w b p y) _ hG _ x)
  · exact (db0 H.hbt H.hV (H.hW _) H.hU H.hY _ x).trans (strip (f := cdb lg lb w b p y) _ hG _ x)

end Sgu.Block
end
-- ==== Proof.Arrays.lean ====
module

public import proofs.«01_k».proof.Proof.Out

/-! The whole grid: the six arrays the kernel leaves, when its input arrays hold real numbers. The first is written block
by block; the other five are sums over the 64 points. -/

@[expose] public section
noncomputable section
namespace Sgu.Arrays
open Cert.KernelIdeal Cert.KernelIdeal.Gen Idealize.ShloMosaic Idealize.ShloMosaic.TcCoe Idealize.SL.Sem
open Idealize.ShloMosaic.Pipeline (Dat)
open Sgu.Block
set_option maxHeartbeats 4000000

variable (m : (ℓ : Loc nD τ sig) → Buf (Elt Ideal) ℓ) (c : Dev nD)
variable {lg lb : ℕ → ℝ} {w : ℕ → ℕ → ℕ → ℝ} {b : ℕ → ℕ → ℝ} {P Y : ℕ → ℕ → ℝ}

/-- The arrays the kernel is called with are real. -/
structure Args (lg lb : ℕ → ℝ) (w : ℕ → ℕ → ℕ → ℝ) (b P Y : ℕ → ℕ → ℝ) : Prop where
  h0 : ∀ i : S8192x2048.Idx, V m c main_arg0 i = ((P (i 0).val (i 1).val : ℝ) : EReal)
  h1 : ∀ i : S8192x1024.Idx, V m c main_arg1 i = ((Y (i 0).val (i 1).val : ℝ) : EReal)
  h2 : ∀ i : S1x1024.Idx, V m c main_v0 i = ((lg (i 1).val : ℝ) : EReal)
  h3 : ∀ i : S1x1024.Idx, V m c main_v1 i = ((lb (i 1).val : ℝ) : EReal)
  h4 : ∀ i : S8x128x128.Idx, V m c main_arg4 i = ((w (i 0).val (i 1).val (i 2).val : ℝ) : EReal)
  h5 : ∀ i : S8x128x128.Idx, V m c main_v2 i = ((w (i 0).val (i 2).val (i 1).val : ℝ) : EReal)
  h6 : ∀ i : S128x8.Idx, V m c main_v3 i = ((b (i 1).val (i 0).val : ℝ) : EReal)

variable {m c}

theorem index0 : ∀ t : Fin cfg0.N, win0_0.index t 0 = t.val := by decide +kernel
theorem index1 : ∀ t : Fin cfg0.N, win0_1.index t 0 = t.val := by decide +kernel
theorem index7 : ∀ t : Fin cfg0.N, win0_7.index t 0 = t.val := by decide +kernel

variable (H : Args m c lg lb w b P Y)
include H

/-- The blocks of point `t` hold chunk `t`. -/
theorem Args.input (t : Fin cfg0.N) :
    In lg lb w b (chunk t P) (chunk t Y) (iblk m c 0 t) (iblk m c 1 t) (iblk m c 2 t) (iblk m c 3 t) (iblk m c 4 t) (iblk m c 5 t) (iblk m c 6 t) where
  h0 i := by
    refine (H.h0 ((win0_0.rect t).emb i)).trans ?_
    rw [win0_0.rect_emb_val t i 0, win0_0.rect_emb_val_of_index_zero t 1 rfl i, index0]
    show ((P (t.val * 128 + (i 0).val) (i 1).val : ℝ) : EReal) = ((P (128 * t.val + (i 0).val) (i 1).val : ℝ) : EReal)
    rw [mul_comm]
  h1 i := by
    refine (H.h1 ((win0_1.rect t).emb i)).trans ?_
    rw [win0_1.rect_emb_val t i 0, win0_1.rect_emb_val_of_index_zero t 1 rfl i, index1]
    show ((Y (t.val * 128 + (i 0).val) (i 1).val : ℝ) : EReal) = ((Y (128 * t.val + (i 0).val) (i 1).val : ℝ) : EReal)
    rw [mul_comm]
  h2 i := by
    refine (H.h2 ((win0_2.rect t).emb i)).trans ?_
    rw [win0_2.rect_emb_val_of_index_zero t 1 rfl i]
  h3 i := by
    refine (H.h3 ((win0_3.rect t).emb i)).trans ?_
    rw [win0_3.rect_emb_val_of_index_zero t 1 rfl i]
  h4 i := by
    refine (H.h4 ((win0_4.rect t).emb i)).trans ?_
    rw [win0_4.rect_emb_val_of_index_zero t 0 rfl i, win0_4.rect_emb_val_of_index_zero t 1 rfl i, win0_4.rect_emb_val_of_index_zero t 2 rfl i]
  h5 i := by
    refine (H.h5 ((win0_5.rect t).emb i)).trans ?_
    rw [win0_5.rect_emb_val_of_index_zero t 0 rfl i, win0_5.rect_emb_val_of_index_zero t 1 rfl i, win0_5.rect_emb_val_of_index_zero t 2 rfl i]
  h6 i := by
    refine (H.h6 ((win0_6.rect t).emb i)).trans ?_
    rw [win0_6.rect_emb_val_of_index_zero t 0 rfl i, win0_6.rect_emb_val_of_index_zero t 1 rfl i]

/-- The cotangent of the projection. -/
theorem Args.out7 (i : S8192x2048.Idx) : (dats m 0 c).arrAt 7 cfg0.N i = ((Dp lg lb w b P Y (i 0).val (i 1).val : ℝ) : EReal) := by
  refine (dats m 0 c).arrAt_forall_of_cover 7 (fun (i : S8192x2048.Idx) (v : EReal) => v = ((Dp lg lb w b P Y (i 0).val (i 1).val : ℝ) : EReal)) (fun t _ y => ?_) (fun i => ?_) i
  · have e : (dats m 0 c).flushed 7 t y = (outsAt0 m c t.val t.isLt).1 y := congrFun (Cert.KernelIdeal.Value.flushed7 m c t) y
    show (dats m 0 c).flushed 7 t y = ((Dp lg lb w b P Y ((win0_7.rect t).emb y 0).val ((win0_7.rect t).emb y 1).val : ℝ) : EReal)
    rw [e, win0_7.rect_emb_val t y 0, win0_7.rect_emb_val_of_index_zero t 1 rfl y, index7]
    have hy : (y 0).val < 128 := (y 0).isLt
    show _ = ((dp lg lb w b (chunk ((t.val * 128 + (y 0).val) / 128) P) (chunk ((t.val * 128 + (y 0).val) / 128) Y) ((t.val * 128 + (y 0).val) % 128) (y 1).val : ℝ) : EReal)
    rw [show (t.val * 128 + (y 0).val) / 128 = t.val by omega, show (t.val * 128 + (y 0).val) % 128 = (y 0).val by omega]
    by_cases h0 : t.val % 64 = 0
    · rw [outsAt0_A m c t h0]
      dsimp only; exact rawA7 (H := H.input t) ..
    · rw [outsAt0_B m c t h0]
      dsimp only; exact rawB7 (H := H.input t) ..
  · have hN : cfg0.N = 64 := N_0
    have hi : (i 0).val < 8192 := (i 0).isLt
    have hi1 : (i 1).val < 2048 := (i 1).isLt
    let t : Fin cfg0.N := ⟨(i 0).val / 128, by omega⟩
    refine ⟨t, flush0_7 t, ?_⟩
    show i ∈ ((View.whole main_v4_0).slice (win0_7.rect t)).set
    rw [View.set_slice_whole, win0_7.mem_rect_iff]
    intro a
    match a with
    | ⟨0, _⟩ =>
      show win0_7.index t 0 * 128 ≤ (i 0).val ∧ (i 0).val < win0_7.index t 0 * 128 + 128
      rw [index7]; show (i 0).val / 128 * 128 ≤ (i 0).val ∧ (i 0).val < (i 0).val / 128 * 128 + 128; omega
    | ⟨1, _⟩ =>
      show 0 * 2048 ≤ (i 1).val ∧ (i 1).val < 0 * 2048 + 2048; omega

theorem Args.last8 (t : Fin cfg0.N) (ht : t.val % 64 = 63) (i : S1x1024.Idx) :
    (outsAt0 m c t.val t.isLt).2.1 i = ((Dlg w P Y (i 1).val : ℝ) : EReal) := by
  have hN : cfg0.N = 64 := N_0
  have := Idealize.ShloMosaic.Pipeline.eq_sum_fin_of_reset_step_apply_last (fun n h => (outsAt0 m c n h).2.1) 64 (k0_pay5 : FVec Ideal S1x1024 .f32)
    (fun p i => ((clg w (chunk p P) (chunk p Y) (i 1).val : ℝ) : EReal))
    (fun t h0 i => by
      show (outsAt0 m c t.val t.isLt).2.1 i = _
      rw [outsAt0_A m c t h0]
      dsimp only; exact rawA8 (H := H.input t) ..)
    (fun t h0 i => by
      show (outsAt0 m c t.val t.isLt).2.1 i = _
      rw [outsAt0_B m c t h0]
      dsimp only; exact rawB8 (H := H.input t) ..) hN.le t (by have := t.isLt; omega) i
  refine this.trans ?_
  rw [zero8, zero_add, coe_sum]
  rfl

/-- The gradient of the layer norm's scale. -/
theorem Args.out8 (i : S1x1024.Idx) : (dats m 0 c).arrAt 8 cfg0.N i = ((Dlg w P Y (i 1).val : ℝ) : EReal) := by
  refine (dats m 0 c).arrAt_forall_of_cover 8 (fun (i : S1x1024.Idx) (v : EReal) => v = ((Dlg w P Y (i 1).val : ℝ) : EReal)) (fun t ht y => ?_) (fun i => ?_) i
  · have e : (dats m 0 c).flushed 8 t y = (outsAt0 m c t.val t.isLt).2.1 y := congrFun (Cert.KernelIdeal.Value.flushed8 m c t) y
    show (dats m 0 c).flushed 8 t y = ((Dlg w P Y ((win0_8.rect t).emb y 1).val : ℝ) : EReal)
    rw [e, win0_8.rect_emb_val_of_index_zero t 1 rfl y]
    exact H.last8 t ((flush0_8 t).mp ht) y
  · have hN : cfg0.N = 64 := N_0
    let t : Fin cfg0.N := ⟨63, by omega⟩
    refine ⟨t, (flush0_8 t).mpr rfl, ?_⟩
    show i ∈ ((View.whole main_v4_1).slice (win0_8.rect t)).set
    rw [View.set_slice_whole, win0_8.mem_rect_iff]
    intro a
    match a with
    | ⟨0, _⟩ => show 0 * 1 ≤ (i 0).val ∧ (i 0).val < 0 * 1 + 1; have := (i 0).isLt; exact ⟨by omega, (i 0).isLt.trans_le (by simp)⟩
    | ⟨1, _⟩ => show 0 * 1024 ≤ (i 1).val ∧ (i 1).val < 0 * 1024 + 1024; have := (i 1).isLt; exact ⟨by omega, (i 1).isLt.trans_le (by simp)⟩

theorem Args.last9 (t : Fin cfg0.N) (ht : t.val % 64 = 63) (i : S1x1024.Idx) :
    (outsAt0 m c t.val t.isLt).2.2.1 i = ((Dlb w P Y (i 1).val : ℝ) : EReal) := by
  have hN : cfg0.N = 64 := N_0
  have := Idealize.ShloMosaic.Pipeline.eq_sum_fin_of_reset_step_apply_last (fun n h => (outsAt0 m c n h).2.2.1) 64 (k0_pay6 : FVec Ideal S1x1024 .f32)
    (fun p i => ((clb w (chunk p P) (chunk p Y) (i 1).val : ℝ) : EReal))
    (fun t h0 i => by
      show (outsAt0 m c t.val t.isLt).2.2.1 i = _
      rw [outsAt0_A m c t h0]
      dsimp only; exact rawA9 (H := H.input t) ..)
    (fun t h0 i => by
      show (outsAt0 m c t.val t.isLt).2.2.1 i = _
      rw [outsAt0_B m c t h0]
      dsimp only; exact rawB9 (H := H.input t) ..) hN.le t (by have := t.isLt; omega) i
  refine this.trans ?_
  rw [zero9, zero_add, coe_sum]
  rfl

/-- The gradient of the layer norm's shift. -/
theorem Args.out9 (i : S1x1024.Idx) : (dats m 0 c).arrAt 9 cfg0.N i = ((Dlb w P Y (i 1).val : ℝ) : EReal) := by
  refine (dats m 0 c).arrAt_forall_of_cover 9 (fun (i : S1x1024.Idx) (v : EReal) => v = ((Dlb w P Y (i 1).val : ℝ) : EReal)) (fun t ht y => ?_) (fun i => ?_) i
  · have e : (dats m 0 c).flushed 9 t y = (outsAt0 m c t.val t.isLt).2.2.1 y := congrFun (Cert.KernelIdeal.Value.flushed9 m c t) y
    show (dats m 0 c).flushed 9 t y = ((Dlb w P Y ((win0_9.rect t).emb y 1).val : ℝ) : EReal)
    rw [e, win0_9.rect_emb_val_of_index_zero t 1 rfl y]
    exact H.last9 t ((flush0_9 t).mp ht) y
  · have hN : cfg0.N = 64 := N_0
    let t : Fin cfg0.N := ⟨63, by omega⟩
    refine ⟨t, (flush0_9 t).mpr rfl, ?_⟩
    show i ∈ ((View.whole main_v4_2).slice (win0_9.rect t)).set
    rw [View.set_slice_whole, win0_9.mem_rect_iff]
    intro a
    match a with
    | ⟨0, _⟩ => show 0 * 1 ≤ (i 0).val ∧ (i 0).val < 0 * 1 + 1; have := (i 0).isLt; exact ⟨by omega, (i 0).isLt.trans_le (by simp)⟩
    | ⟨1, _⟩ => show 0 * 1024 ≤ (i 1).val ∧ (i 1).val < 0 * 1024 + 1024; have := (i 1).isLt; exact ⟨by omega, (i 1).isLt.trans_le (by simp)⟩

theorem Args.last10 (t : Fin cfg0.N) (ht : t.val % 64 = 63) (i : S8x128x128.Idx) :
    (outsAt0 m c t.val t.isLt).2.2.2.1 i = ((Dw lg lb P Y (i 0).val (i 1).val (i 2).val : ℝ) : EReal) := by
  have hN : cfg0.N = 64 := N_0
  have := Idealize.ShloMosaic.Pipeline.eq_sum_fin_of_reset_step_apply_last (fun n h => (outsAt0 m c n h).2.2.2.1) 64 (k0_pay7 : FVec Ideal S8x128x128 .f32)
    (fun p i => ((cw lg lb (chunk p P) (chunk p Y) (i 0).val (i 1).val (i 2).val : ℝ) : EReal))
    (fun t h0 i => by
      show (outsAt0 m c t.val t.isLt).2.2.2.1 i = _
      rw [outsAt0_A m c t h0]
      dsimp only; exact rawA10 (H := H.input t) ..)
    (fun t h0 i => by
      show (outsAt0 m c t.val t.isLt).2.2.2.1 i = _
      rw [outsAt0_B m c t h0]
      dsimp only; exact rawB10 (H := H.input t) ..) hN.le t (by have := t.isLt; omega) i
  refine this.trans ?_
  rw [zero10, zero_add, coe_sum]
  rfl

/-- The gradient of the spatial weights. -/
theorem Args.out10 (i : S8x128x128.Idx) : (dats m 0 c).arrAt 10 cfg0.N i = ((Dw lg lb P Y (i 0).val (i 1).val (i 2).val : ℝ) : EReal) := by
  refine (dats m 0 c).arrAt_forall_of_cover 10 (fun (i : S8x128x128.Idx) (v : EReal) => v = ((Dw lg lb P Y (i 0).val (i 1).val (i 2).val : ℝ) : EReal)) (fun t ht y => ?_) (fun i => ?_) i
  · have e : (dats m 0 c).flushed 10 t y = (outsAt0 m c t.val t.isLt).2.2.2.1 y := congrFun (Cert.KernelIdeal.Value.flushed10 m c t) y
    show (dats m 0 c).flushed 10 t y = ((Dw lg lb P Y ((win0_10.rect t).emb y 0).val ((win0_10.rect t).emb y 1).val ((win0_10.rect t).emb y 2).val : ℝ) : EReal)
    rw [e, win0_10.rect_emb_val_of_index_zero t 0 rfl y, win0_10.rect_emb_val_of_index_zero t 1 rfl y, win0_10.rect_emb_val_of_index_zero t 2 rfl y]
    exact H.last10 t ((flush0_10 t).mp ht) y
  · have hN : cfg0.N = 64 := N_0
    let t : Fin cfg0.N := ⟨63, by omega⟩
    refine ⟨t, (flush0_10 t).mpr rfl, ?_⟩
    show i ∈ ((View.whole main_v4_3).slice (win0_10.rect t)).set
    rw [View.set_slice_whole, win0_10.mem_rect_iff]
    intro a
    match a with
    | ⟨0, _⟩ => show 0 * 8 ≤ (i 0).val ∧ (i 0).val < 0 * 8 + 8; have := (i 0).isLt; exact ⟨by omega, (i 0).isLt.trans_le (by simp)⟩
    | ⟨1, _⟩ => show 0 * 128 ≤ (i 1).val ∧ (i 1).val < 0 * 128 + 128; have := (i 1).isLt; exact ⟨by omega, (i 1).isLt.trans_le (by simp)⟩
    | ⟨2, _⟩ => show 0 * 128 ≤ (i 2).val ∧ (i 2).val < 0 * 128 + 128; have := (i 2).isLt; exact ⟨by omega, (i 2).isLt.trans_le (by simp)⟩

theorem Args.last11 (t : Fin cfg0.N) (ht : t.val % 64 = 63) (i : S128x8.Idx) :
    (outsAt0 m c t.val t.isLt).2.2.2.2.1 i = ((Db P Y (i 0).val (i 1).val : ℝ) : EReal) := by
  have hN : cfg0.N = 64 := N_0
  have := Idealize.ShloMosaic.Pipeline.eq_sum_fin_of_reset_step_apply_last (fun n h => (outsAt0 m c n h).2.2.2.2.1) 64 (k0_pay8 : FVec Ideal S128x8 .f32)
    (fun p i => ((cb (chunk p P) (chunk p Y) (i 0).val (i 1).val : ℝ) : EReal))
    (fun t h0 i => by
      show (outsAt0 m c t.val t.isLt).2.2.2.2.1 i = _
      rw [outsAt0_A m c t h0]
      dsimp only; exact rawA11 (H := H.input t) ..)
    (fun t h0 i => by
      show (outsAt0 m c t.val t.isLt).2.2.2.2.1 i = _
      rw [outsAt0_B m c t h0]
      dsimp only; exact rawB11 (H := H.input t) ..) hN.le t (by have := t.isLt; omega) i
  refine this.trans ?_
  rw [zero11, zero_add, coe_sum]
  rfl

/-- The gradient of the spatial biases. -/
theorem Args.out11 (i : S128x8.Idx) : (dats m 0 c).arrAt 11 cfg0.N i = ((Db P Y (i 0).val (i 1).val : ℝ) : EReal) := by
  refine (dats m 0 c).arrAt_forall_of_cover 11 (fun (i : S128x8.Idx) (v : EReal) => v = ((Db P Y (i 0).val (i 1).val : ℝ) : EReal)) (fun t ht y => ?_) (fun i => ?_) i
  · have e : (dats m 0 c).flushed 11 t y = (outsAt0 m c t.val t.isLt).2.2.2.2.1 y := congrFun (Cert.KernelIdeal.Value.flushed11 m c t) y
    show (dats m 0 c).flushed 11 t y = ((Db P Y ((win0_11.rect t).emb y 0).val ((win0_11.rect t).emb y 1).val : ℝ) : EReal)
    rw [e, win0_11.rect_emb_val_of_index_zero t 0 rfl y, win0_11.rect_emb_val_of_index_zero t 1 rfl y]
    exact H.last11 t ((flush0_11 t).mp ht) y
  · have hN : cfg0.N = 64 := N_0
    let t : Fin cfg0.N := ⟨63, by omega⟩
    refine ⟨t, (flush0_11 t).mpr rfl, ?_⟩
    show i ∈ ((View.whole main_v4_4).slice (win0_11.rect t)).set
    rw [View.set_slice_whole, win0_11.mem_rect_iff]
    intro a
    match a with
    | ⟨0, _⟩ => show 0 * 128 ≤ (i 0).val ∧ (i 0).val < 0 * 128 + 128; have := (i 0).isLt; exact ⟨by omega, (i 0).isLt.trans_le (by simp)⟩
    | ⟨1, _⟩ => show 0 * 8 ≤ (i 1).val ∧ (i 1).val < 0 * 8 + 8; have := (i 1).isLt; exact ⟨by omega, (i 1).isLt.trans_le (by simp)⟩

theorem Args.last12 (t : Fin cfg0.N) (ht : t.val % 64 = 63) (i : S1x2048.Idx) :
    (outsAt0 m c t.val t.isLt).2.2.2.2.2 i = ((Ddb lg lb w b P Y (i 1).val : ℝ) : EReal) := by
  have hN : cfg0.N = 64 := N_0
  have := Idealize.ShloMosaic.Pipeline.eq_sum_fin_of_reset_step_apply_last (fun n h => (outsAt0 m c n h).2.2.2.2.2) 64 (k0_pay9 : FVec Ideal S1x2048 .f32)
    (fun p i => ((cdb lg lb w b (chunk p P) (chunk p Y) (i 1).val : ℝ) : EReal))
    (fun t h0 i => by
      show (outsAt0 m c t.val t.isLt).2.2.2.2.2 i = _
      rw [outsAt0_A m c t h0]
      dsimp only; exact rawA12 (H := H.input t) ..)
    (fun t h0 i => by
      show (outsAt0 m c t.val t.isLt).2.2.2.2.2 i = _
      rw [outsAt0_B m c t h0]
      dsimp only; exact rawB12 (H := H.input t) ..) hN.le t (by have := t.isLt; omega) i
  refine this.trans ?_
  rw [zero12, zero_add, coe_sum]
  rfl

/-- The column sums of the cotangent of the projection. -/
theorem Args.out12 (i : S1x2048.Idx) : (dats m 0 c).arrAt 12 cfg0.N i = ((Ddb lg lb w b P Y (i 1).val : ℝ) : EReal) := by
  refine (dats m 0 c).arrAt_forall_of_cover 12 (fun (i : S1x2048.Idx) (v : EReal) => v = ((Ddb lg lb w b P Y (i 1).val : ℝ) : EReal)) (fun t ht y => ?_) (fun i => ?_) i
  · have e : (dats m 0 c).flushed 12 t y = (outsAt0 m c t.val t.isLt).2.2.2.2.2 y := congrFun (Cert.KernelIdeal.Value.flushed12 m c t) y
    show (dats m 0 c).flushed 12 t y = ((Ddb lg lb w b P Y ((win0_12.rect t).emb y 1).val : ℝ) : EReal)
    rw [e, win0_12.rect_emb_val_of_index_zero t 1 rfl y]
    exact H.last12 t ((flush0_12 t).mp ht) y
  · have hN : cfg0.N = 64 := N_0
    let t : Fin cfg0.N := ⟨63, by omega⟩
    refine ⟨t, (flush0_12 t).mpr rfl, ?_⟩
    show i ∈ ((View.whole main_v4_5).slice (win0_12.rect t)).set
    rw [View.set_slice_whole, win0_12.mem_rect_iff]
    intro a
    match a with
    | ⟨0, _⟩ => show 0 * 1 ≤ (i 0).val ∧ (i 0).val < 0 * 1 + 1; have := (i 0).isLt; exact ⟨by omega, (i 0).isLt.trans_le (by simp)⟩
    | ⟨1, _⟩ => show 0 * 2048 ≤ (i 1).val ∧ (i 1).val < 0 * 2048 + 2048; have := (i 1).isLt; exact ⟨by omega, (i 1).isLt.trans_le (by simp)⟩

end Sgu.Arrays
end
-- ==== Proof.RefGelu.lean ====
module

public import proofs.«01_k».proof.Proof.Spec
public import proofs.«01_k».proof.Proof.Gen.ReferenceIdeal.Read

/-! The reference at real arguments, first stage: the two halves of the activation, the layer norm of the second, and the
factors the gradient of the activation takes. -/

@[expose] public section
noncomputable section
namespace Sgu.Ref
open Cert.ReferenceIdeal Cert.ReferenceIdeal.Gen Cert.ReferenceIdeal.Read Idealize.ShloMosaic Idealize.ShloMosaic.TcCoe
set_option maxHeartbeats 1000000

/-- The reference's arguments are real. -/
structure In (P Y : ℕ → ℕ → ℝ) (lg lb : ℕ → ℝ) (w : ℕ → ℕ → ℕ → ℝ) (b : ℕ → ℕ → ℝ) (x0 : Vec Ideal S8192x2048 .bf16) (x1 : Vec Ideal S8192x1024 .bf16)
    (x2 x3 : Vec Ideal S1024 .f32) (x4 : Vec Ideal S8x128x128 .f32) (x5 : Vec Ideal S8x128 .f32) : Prop where
  h0 : ∀ i, x0 i = ((P (i 0).val (i 1).val : ℝ) : EReal)
  h1 : ∀ i, x1 i = ((Y (i 0).val (i 1).val : ℝ) : EReal)
  h2 : ∀ i, x2 i = ((lg (i 0).val : ℝ) : EReal)
  h3 : ∀ i, x3 i = ((lb (i 0).val : ℝ) : EReal)
  h4 : ∀ i, x4 i = ((w (i 0).val (i 1).val (i 2).val : ℝ) : EReal)
  h5 : ∀ i, x5 i = ((b (i 0).val (i 1).val : ℝ) : EReal)

theorem sqrt_half : Real.sqrt (1 / 2) = (Real.sqrt 2)⁻¹ := by rw [one_div, Real.sqrt_inv]

theorem half_sq (x : ℝ) : -(-(x * (Real.sqrt 2)⁻¹) * -(x * (Real.sqrt 2)⁻¹)) = -(1 / 2) * x * x := by
  have h : (Real.sqrt 2)⁻¹ * (Real.sqrt 2)⁻¹ = 1 / 2 := by
    rw [← mul_inv, Real.mul_self_sqrt (by norm_num)]; norm_num
  linear_combination -x * x * h

theorem sqrt_real (x : ℝ) (h : 0 ≤ x) : Ideal.sqrt (x : EReal) = ((Real.sqrt x : ℝ) : EReal) := by
  rw [Ideal.sqrt_coe]; simp [h]

theorem v6_at (i : S_.Idx) : val_main_v6 (F := Ideal) i = (((Real.sqrt 2)⁻¹ : ℝ) : EReal) := by
  simp only [val_main_v6_apply, val_main_v5_apply, val_main_cst_0_apply, Ideal.ofBits_def, lit_half, Ideal.hostUnary_sqrt_def]
  rw [sqrt_real _ (by norm_num), sqrt_half]

theorem v14_at (i : S_.Idx) : val_main_v14 (F := Ideal) i = ((-(2 / Real.sqrt Real.pi) : ℝ) : EReal) := by
  simp only [val_main_v14_apply, val_main_v13_apply, val_main_v12_apply, val_main_v11_apply, val_main_v10_apply, val_main_cst_1_apply,
    val_main_cst_2_apply, Ideal.ofBits_def, lit_two, lit_neg_one, Ideal.hostUnary_sqrt_def, Ideal.hostUnary_acos_def, Ideal.hostDivf_def,
    Ideal.hostNegf_def, Ideal.negf_def]
  have h : Ideal.acos ((-1 : ℝ) : EReal) = ((Real.pi : ℝ) : EReal) := by
    first
    | (rw [Ideal.acos_coe]; simp)
    | (simp [Ideal.acos])
  rw [h, sqrt_real _ Real.pi_pos.le, div_real _ _ (Real.sqrt_pos.mpr Real.pi_pos).ne', ← EReal.coe_neg]

variable {P Y : ℕ → ℕ → ℝ} {lg lb : ℕ → ℝ} {w : ℕ → ℕ → ℕ → ℝ} {b : ℕ → ℕ → ℝ} {x0 : Vec Ideal S8192x2048 .bf16} {x1 : Vec Ideal S8192x1024 .bf16}
  {x2 x3 : Vec Ideal S1024 .f32} {x4 : Vec Ideal S8x128x128 .f32} {x5 : Vec Ideal S8x128 .f32}
variable (H : In P Y lg lb w b x0 x1 x2 x3 x4 x5)
include H

theorem In.v1_at (i : S1x8192x2048.Idx) : val_main_v1 (F := Ideal) x0 i = ((P (i 1).val (i 2).val : ℝ) : EReal) := by
  rw [val_main_v1_apply, val_main_v0_apply]
  exact H.h0 _

theorem In.v3_at (i : S1x8192x2048.Idx) : val_main_v3 (F := Ideal) x0 i = ((1 / 2 * P (i 1).val (i 2).val : ℝ) : EReal) := by
  simp only [val_main_v3_apply, val_main_v2_apply, val_main_cst_apply, H.v1_at, Ideal.ofBits_def, lit_half, Ideal.mulf_def, ← EReal.coe_mul]

theorem In.v8_at (i : S1x8192x2048.Idx) : val_main_v8 (F := Ideal) x0 i = ((-(P (i 1).val (i 2).val * (Real.sqrt 2)⁻¹) : ℝ) : EReal) := by
  simp only [val_main_v8_apply, val_main_v7_apply, val_main_v4_apply, v6_at, H.v1_at, Ideal.mulf_def, Ideal.hostNegf_def, Ideal.negf_def,
    ← EReal.coe_mul, ← EReal.coe_neg, neg_mul]

theorem In.v9_at (i : S1x8192x2048.Idx) : val_main_v9 (F := Ideal) x0 i = ((erfR (P (i 1).val (i 2).val * (Real.sqrt 2)⁻¹) + 1 : ℝ) : EReal) := by
  rw [val_main_v9_apply, H.v8_at, Ideal.hostUnary_erfc_def, EReal.coe_neg, Ideal.erfc_neg, erf_real, ← EReal.coe_one, ← EReal.coe_add, add_comm]

theorem In.v17_at (i : S1x8192x2048.Idx) :
    val_main_v17 (F := Ideal) x0 i = ((Real.exp (-(1 / 2) * P (i 1).val (i 2).val * P (i 1).val (i 2).val) : ℝ) : EReal) := by
  simp only [val_main_v17_apply, val_main_v16_apply, val_main_v15_apply, H.v8_at, Ideal.mulf_def, Ideal.hostNegf_def, Ideal.negf_def,
    ← EReal.coe_mul, ← EReal.coe_neg, Ideal.hostUnary_exp_def, exp_real, half_sq]

theorem In.v18_at (i : S1x8192x2048.Idx) : val_main_v18 (F := Ideal) x0 i = ((gelu (P (i 1).val (i 2).val) : ℝ) : EReal) := by
  simp only [val_main_v18_apply, H.v3_at, H.v9_at, Ideal.mulf_def, ← EReal.coe_mul]
  refine congrArg _ ?_
  unfold gelu cdf; ring

theorem In.v19_at (i : S1x8192x1024.Idx) : val_main_v19 (F := Ideal) x0 i = ((zu (P (i 1).val) (i 2).val : ℝ) : EReal) := by
  rw [val_main_v19_apply, H.v18_at]; rfl

theorem In.v20_at (i : S1x8192x1024.Idx) : val_main_v20 (F := Ideal) x0 i = ((zv (P (i 1).val) (i 2).val : ℝ) : EReal) := by
  rw [val_main_v20_apply, H.v18_at]; rfl

theorem In.v24_at (i : S1x8192x1.Idx) : val_main_v24 (F := Ideal) x0 i = ((mean (zv (P (i 1).val)) : ℝ) : EReal) := by
  simp only [val_main_v24_apply, val_main_v23_apply, val_main_v22_apply, val_main_v21_apply, val_main_cst_4_apply, val_main_cst_3_apply, H.v20_at,
    Ideal.ofBits_def, lit_1024, Ideal.ofBits_zero_f32, zero_add, coe_sum, Ideal.hostDivf_def, div_1024]
  rfl

theorem In.v26_at (i : S1x8192x1024.Idx) : val_main_v26 (F := Ideal) x0 i = ((cen (P (i 1).val) (i 2).val : ℝ) : EReal) := by
  simp only [val_main_v26_apply, val_main_v25_apply, H.v24_at, H.v20_at, Ideal.subf_def, ← EReal.coe_sub]
  rfl

theorem In.v35_at (i : S1x8192x1024.Idx) : val_main_v35 (F := Ideal) x0 i = ((cen (P (i 1).val) (i 2).val : ℝ) : EReal) := by
  simp only [val_main_v35_apply, val_main_v34_apply, H.v24_at, H.v20_at, Ideal.subf_def, ← EReal.coe_sub]
  rfl

theorem In.v29_at (i : S1x8192x1024.Idx) : val_main_v29 (F := Ideal) x0 i = ((2 * cen (P (i 1).val) (i 2).val : ℝ) : EReal) := by
  simp only [val_main_v29_apply, val_main_v28_apply, val_main_cst_5_apply, H.v26_at, Ideal.ofBits_def, lit_two, Ideal.mulf_def, ← EReal.coe_mul]

theorem In.v37_at (i : S1x8192x1.Idx) : val_main_v37 (F := Ideal) x0 i = ((var (P (i 1).val) + eps : ℝ) : EReal) := by
  simp only [val_main_v37_apply, val_main_v36_apply, val_main_v33_apply, val_main_v32_apply, val_main_v31_apply, val_main_v30_apply, val_main_v27_apply,
    val_main_cst_8_apply, val_main_cst_7_apply, val_main_cst_6_apply, H.v26_at, Ideal.mulf_def, ← EReal.coe_mul,
    Ideal.ofBits_def, lit_1024, lit_eps, Ideal.ofBits_zero_f32, zero_add, coe_sum, Ideal.hostDivf_def, div_1024, Ideal.addf_def, ← EReal.coe_add]
  rfl

theorem In.v38_at (i : S1x8192x1.Idx) : val_main_v38 (F := Ideal) x0 i = ((rs (P (i 1).val) : ℝ) : EReal) := by
  rw [val_main_v38_apply, H.v37_at, Ideal.hostUnary_rsqrt_def, rsqrt_real _ (var_eps_pos _)]
  rfl

theorem In.v41_at (i : S1x8192x1.Idx) :
    val_main_v41 (F := Ideal) x0 i = ((-(1 / 2) * (rs (P (i 1).val) / (var (P (i 1).val) + eps)) : ℝ) : EReal) := by
  rw [val_main_v41_apply, val_main_v40_apply, val_main_cst_9_apply, val_main_v39_apply, H.v37_at, H.v38_at, Ideal.hostDivf_def,
    div_real _ _ (var_eps_pos _).ne', Ideal.ofBits_def, lit_neg_half, Ideal.mulf_def, ← EReal.coe_mul]

theorem In.v43_at (i : S1x8192x1024.Idx) : val_main_v43 (F := Ideal) x0 i = ((xhat (P (i 1).val) (i 2).val : ℝ) : EReal) := by
  simp only [val_main_v43_apply, val_main_v42_apply, H.v35_at, H.v38_at, Ideal.mulf_def, ← EReal.coe_mul]
  rfl

theorem In.v49_at (i : S1x8192x1024.Idx) : val_main_v49 (F := Ideal) x0 x2 x3 i = ((vn lg lb (P (i 1).val) (i 2).val : ℝ) : EReal) := by
  simp only [val_main_v49_apply, val_main_v48_apply, val_main_v47_apply, val_main_v46_apply, val_main_v45_apply, val_main_v44_apply, H.v43_at,
    H.h2, H.h3, Ideal.mulf_def, Ideal.addf_def, ← EReal.coe_mul, ← EReal.coe_add]
  rfl

theorem In.v66_at (i : S1x8192x1024.Idx) : val_main_v66 (F := Ideal) x1 i = ((Y (i 1).val (i 2).val : ℝ) : EReal) := by
  rw [val_main_v66_apply, val_main_v65_apply]
  exact H.h1 _

theorem In.v67_at (i : S1x8192x1024.Idx) : val_main_v67 (F := Ideal) x0 x1 i = ((dsv P Y (i 1).val (i 2).val : ℝ) : EReal) := by
  simp only [val_main_v67_apply, H.v19_at, H.v66_at, Ideal.mulf_def, ← EReal.coe_mul]
  exact congrArg _ (mul_comm _ _)

end Sgu.Ref
end
-- ==== Proof.RefGate.lean ====
module

public import proofs.«01_k».proof.Proof.RefGelu

/-! The reference at real arguments, second stage: the gate and the cotangents of its product, chunk by chunk. -/

@[expose] public section
noncomputable section
namespace Sgu.Ref
open Cert.ReferenceIdeal Cert.ReferenceIdeal.Gen Cert.ReferenceIdeal.Read Idealize.ShloMosaic Idealize.ShloMosaic.TcCoe
set_option maxHeartbeats 1000000

/-- Row `r` of chunk `t`, column `k` of group `g`, in the order of the whole array. -/
theorem row_of {z t r g k : ℕ} (hz : z < 1) (ht : t < 64) (hr : r < 128) (hg : g < 8) (hk : k < 128) :
    ((((z * 64 + t) * 128 + r) * 8 + g) * 128 + k) / 1024 % 8192 = 128 * t + r := by omega
theorem col_of {z t r g k : ℕ} (hg : g < 8) (hk : k < 128) :
    ((((z * 64 + t) * 128 + r) * 8 + g) * 128 + k) % 1024 = 128 * g + k := by omega
theorem chunk_of {z n c : ℕ} (hz : z < 1) (hn : n < 8192) (hc : c < 1024) :
    ((z * 8192 + n) * 1024 + c) / 131072 % 64 = n / 128 ∧ ((z * 8192 + n) * 1024 + c) / 1024 % 128 = n % 128
      ∧ ((z * 8192 + n) * 1024 + c) / 128 % 8 = c / 128 ∧ ((z * 8192 + n) * 1024 + c) % 128 = c % 128 := by omega
theorem group_of {g k : ℕ} (hk : k < 128) : (128 * g + k) / 128 = g := by omega
theorem group_split (c : ℕ) : 128 * (c / 128) + c % 128 = c := by omega

/-- The row whose chunk and place in it are `n / 128` and `n % 128`. -/
theorem chunk_row (a : ℕ → ℕ → ℝ) (n : ℕ) : chunk (n / 128) a (n % 128) = a n := by
  unfold chunk; rw [group_split]

variable {P Y : ℕ → ℕ → ℝ} {lg lb : ℕ → ℝ} {w : ℕ → ℕ → ℕ → ℝ} {b : ℕ → ℕ → ℝ} {x0 : Vec Ideal S8192x2048 .bf16} {x1 : Vec Ideal S8192x1024 .bf16}
  {x2 x3 : Vec Ideal S1024 .f32} {x4 : Vec Ideal S8x128x128 .f32} {x5 : Vec Ideal S8x128 .f32}

/-- The lower triangle, as the reference's mask has it. -/
theorem mask_at (i : S8x128x128.Idx) (x y : EReal) :
    Scalar.select (val_main_v55_1 (F := Ideal) i) x y = if (i 2).val ≤ (i 1).val then x else y := by
  have h1 : (i 1).val < 128 := (i 1).isLt
  have h2 : (i 2).val < 128 := (i 2).isLt
  rw [val_main_v55_1_apply, val_main_v53_apply, val_main_v52_apply, val_main_v51_apply, val_main_c_apply, val_main_call0_v5_apply,
    val_main_call0_c_0_apply, val_main_call0_v4_apply, val_main_call0_v2_apply, val_main_call0_v1_apply, val_main_call0_c_apply,
    val_main_call0_v0_apply, val_main_call0_v3_apply]
  show Scalar.select (Scalar.select (IntOp.cmpi .sge (IntOp.addi (BitVec.ofNat 32 (i 1).val) 0#32) (BitVec.ofNat 32 (i 2).val)) 1#1 0#1) x y = _
  have e : IntOp.addi (BitVec.ofNat 32 (i 1).val) 0#32 = BitVec.ofNat 32 (i 1).val := by
    unfold IntOp.addi; exact BitVec.add_zero _
  rw [e, select_ge _ _ h1 h2]
  split <;> rfl

variable (H : In P Y lg lb w b x0 x1 x2 x3 x4 x5)
include H

theorem In.v55_at (i : S8x128x128.Idx) :
    val_main_v55_0 (F := Ideal) x4 i = ((if (i 2).val ≤ (i 1).val then w (i 0).val (i 1).val (i 2).val else 0 : ℝ) : EReal) := by
  rw [val_main_v55_0_apply, mask_at, val_main_v54_apply, val_main_cst_10_apply, Ideal.ofBits_def, Ideal.ofBits_zero_f32, H.h4, coe_ite_zero]

theorem In.v50_at (i : S1x64x128x8x128.Idx) :
    val_main_v50 (F := Ideal) x0 x2 x3 i = ((vn lg lb (chunk (i 1).val P (i 2).val) (128 * (i 3).val + (i 4).val) : ℝ) : EReal) := by
  rw [val_main_v50_apply, H.v49_at]
  show ((vn lg lb (P ((((((i 0).val * 64 + (i 1).val) * 128 + (i 2).val) * 8 + (i 3).val) * 128 + (i 4).val) / 1024 % 8192))
    ((((((i 0).val * 64 + (i 1).val) * 128 + (i 2).val) * 8 + (i 3).val) * 128 + (i 4).val) % 1024) : ℝ) : EReal) = _
  rw [row_of (i 0).isLt (i 1).isLt (i 2).isLt (i 3).isLt (i 4).isLt, col_of (i 3).isLt (i 4).isLt]
  rfl

theorem In.v69_at (i : S1x64x128x8x128.Idx) :
    val_main_v69 (F := Ideal) x0 x1 i
      = ((dsv (chunk (i 1).val P) (chunk (i 1).val Y) (i 2).val (128 * (i 3).val + (i 4).val) : ℝ) : EReal) := by
  rw [val_main_v69_apply, H.v67_at]
  show ((dsv P Y ((((((i 0).val * 64 + (i 1).val) * 128 + (i 2).val) * 8 + (i 3).val) * 128 + (i 4).val) / 1024 % 8192)
    ((((((i 0).val * 64 + (i 1).val) * 128 + (i 2).val) * 8 + (i 3).val) * 128 + (i 4).val) % 1024) : ℝ) : EReal) = _
  rw [row_of (i 0).isLt (i 1).isLt (i 2).isLt (i 3).isLt (i 4).isLt, col_of (i 3).isLt (i 4).isLt]
  rfl

/-- The gate. -/
theorem In.v61_at (i : S1x64x128x8x128.Idx) :
    val_main_v61 (F := Ideal) x0 x2 x3 x4 x5 i
      = ((sv lg lb w b (chunk (i 1).val P) (i 2).val (128 * (i 3).val + (i 4).val) : ℝ) : EReal) := by
  rw [val_main_v61_apply, val_main_v57_apply, val_main_v56_apply, val_main_v60_apply, val_main_v59_apply, val_main_v58_apply, H.h5]
  simp only [H.v50_at, H.v55_at, ← EReal.coe_mul, coe_sum, Ideal.addf_def, ← EReal.coe_add]
  refine congrArg _ ?_
  unfold sv
  rw [group_of (i 4).isLt]
  refine congrArg₂ (· + ·) (Finset.sum_congr rfl fun s _ => ?_) rfl
  show vn lg lb (chunk (i 1).val P s.val) (128 * (i 3).val + (i 4).val) * (if s.val ≤ (i 2).val then w (i 3).val (i 2).val s.val else 0) = _
  rw [mul_ite, mul_zero, mul_comm]

theorem In.v62_at (i : S1x8192x1024.Idx) :
    val_main_v62 (F := Ideal) x0 x2 x3 x4 x5 i
      = ((sv lg lb w b (chunk ((i 1).val / 128) P) ((i 1).val % 128) (i 2).val : ℝ) : EReal) := by
  obtain ⟨e1, e2, e3, e4⟩ := chunk_of (i 0).isLt (i 1).isLt (i 2).isLt
  rw [val_main_v62_apply, H.v61_at]
  show ((sv lg lb w b (chunk ((((i 0).val * 8192 + (i 1).val) * 1024 + (i 2).val) / 131072 % 64) P)
    ((((i 0).val * 8192 + (i 1).val) * 1024 + (i 2).val) / 1024 % 128)
    (128 * ((((i 0).val * 8192 + (i 1).val) * 1024 + (i 2).val) / 128 % 8) + (((i 0).val * 8192 + (i 1).val) * 1024 + (i 2).val) % 128) : ℝ) : EReal) = _
  rw [e1, e2, e3, e4, group_split]

theorem In.v68_at (i : S1x8192x1024.Idx) :
    val_main_v68 (F := Ideal) x0 x1 x2 x3 x4 x5 i
      = ((Y (i 1).val (i 2).val * sv lg lb w b (chunk ((i 1).val / 128) P) ((i 1).val % 128) (i 2).val : ℝ) : EReal) := by
  rw [val_main_v68_apply, H.v66_at, H.v62_at, Ideal.mulf_def, ← EReal.coe_mul]

/-- The cotangent of the normalised half, chunk by chunk. -/
theorem In.v77_at (i : S1x64x128x8x128.Idx) :
    val_main_v77 (F := Ideal) x0 x1 x4 i
      = ((dvn w (chunk (i 1).val P) (chunk (i 1).val Y) (i 2).val (128 * (i 3).val + (i 4).val) : ℝ) : EReal) := by
  rw [val_main_v77_apply, val_main_v76_apply]
  simp only [val_main_v74_apply, H.v69_at, H.v55_at, ← EReal.coe_mul, coe_sum]
  refine congrArg _ ?_
  unfold dvn
  rw [group_of (i 4).isLt]
  refine Finset.sum_congr rfl fun s _ => ?_
  show dsv (chunk (i 1).val P) (chunk (i 1).val Y) s.val (128 * (i 3).val + (i 4).val) * (if (i 2).val ≤ s.val then w (i 3).val s.val (i 2).val else 0) = _
  rw [mul_ite, mul_zero, mul_comm]

theorem In.v79_at (i : S1x8192x1024.Idx) :
    val_main_v79 (F := Ideal) x0 x1 x4 i
      = ((dvn w (chunk ((i 1).val / 128) P) (chunk ((i 1).val / 128) Y) ((i 1).val % 128) (i 2).val : ℝ) : EReal) := by
  obtain ⟨e1, e2, e3, e4⟩ := chunk_of (i 0).isLt (i 1).isLt (i 2).isLt
  rw [val_main_v79_apply, H.v77_at]
  show ((dvn w (chunk ((((i 0).val * 8192 + (i 1).val) * 1024 + (i 2).val) / 131072 % 64) P)
    (chunk ((((i 0).val * 8192 + (i 1).val) * 1024 + (i 2).val) / 131072 % 64) Y) ((((i 0).val * 8192 + (i 1).val) * 1024 + (i 2).val) / 1024 % 128)
    (128 * ((((i 0).val * 8192 + (i 1).val) * 1024 + (i 2).val) / 128 % 8) + (((i 0).val * 8192 + (i 1).val) * 1024 + (i 2).val) % 128) : ℝ) : EReal) = _
  rw [e1, e2, e3, e4, group_split]

theorem In.v87_at (i : S1x8192x1024.Idx) :
    val_main_v87 (F := Ideal) x0 x1 x2 x4 i
      = ((dxh lg w (chunk ((i 1).val / 128) P) (chunk ((i 1).val / 128) Y) ((i 1).val % 128) (i 2).val : ℝ) : EReal) := by
  rw [val_main_v87_apply, H.v79_at, val_main_v86_apply, val_main_v44_apply, H.h2, Ideal.mulf_def, ← EReal.coe_mul]
  rfl

end Sgu.Ref
end
-- ==== Proof.RefNorm.lean ====
module

public import proofs.«01_k».proof.Proof.RefGate
public import Idealize.ShloMosaic.Lib.IdealHost
public import Idealize.ShloMosaic.Lib.Pointwise

/-! The reference at real arguments, third stage: the gradient back through the layer norm and the activation, which is the
cotangent of the projection. -/

@[expose] public section
noncomputable section

namespace Idealize.ShloMosaic
/-- A host sum over axes whose places `e` counts: the initial value and the sum over them. -/
theorem hostSum_of {s t : Shape} {axes : List (Fin s.rank)} (h : s.ReducesTo axes t) (x : s.Idx → EReal) (init : EReal) (j : t.Idx)
    {κ : Type} [Fintype κ] (e : κ → s.Idx) (he : ∀ k k', e k = e k' → k = k') (hd : ∀ k, h.drop (e k) = j) (hs : ∀ i, h.drop i = j → ∃ k, e k = i) :
    Ideal.hostReduceAdd h x init j = init + ∑ k : κ, x (e k) := by
  classical
  unfold Ideal.hostReduceAdd
  refine congrArg (init + ·) ?_
  rw [← Finset.sum_image (f := x) (s := Finset.univ) (g := e) fun k _ k' _ h => he k k' h]
  refine Finset.sum_congr (Finset.ext fun i => ?_) fun _ _ => rfl
  simp only [Finset.mem_filter, Finset.mem_univ, true_and, Finset.mem_image]
  exact ⟨hs i, fun ⟨k, hk⟩ => hk ▸ hd k⟩
end Idealize.ShloMosaic

namespace Sgu.Ref
open Cert.ReferenceIdeal Cert.ReferenceIdeal.Gen Cert.ReferenceIdeal.Read Idealize.ShloMosaic Idealize.ShloMosaic.TcCoe
set_option maxHeartbeats 1000000

/-- A sum over two axes of one place each. -/
theorem unit_sum (x : FVec Ideal S1x8192x1 .f32) (c : FVec Ideal S_ .f32) (j : S8192.Idx) :
    Host.reduceAdd x c reducesTo_S1x8192x1_S8192_d0_2 h_S_ j
      = c (Shape.Idx.first h_S_) + x (ValueIdx.ix3 ⟨0, Nat.one_pos⟩ ⟨(j 0).val, (j 0).isLt⟩ ⟨0, Nat.one_pos⟩) := by
  refine (hostSum_of (κ := Unit) _ x (c (Shape.Idx.first h_S_)) j (fun _ => ValueIdx.ix3 ⟨0, Nat.one_pos⟩ ⟨(j 0).val, (j 0).isLt⟩ ⟨0, Nat.one_pos⟩) (fun _ _ _ => rfl)
    (fun _ => funext fun b => Fin.ext (by match b with | ⟨0, _⟩ => rfl))
    (fun i hi => ⟨(), funext fun a => Fin.ext (by
      match a with
      | ⟨0, _⟩ => have h : (i 0).val < 1 := (i 0).isLt; show 0 = (i 0).val; omega
      | ⟨1, _⟩ => subst hi; rfl
      | ⟨2, _⟩ => have h : (i 2).val < 1 := (i 2).isLt; show 0 = (i 2).val; omega)⟩)).trans ?_
  simp

/-- The sum of the centred half is zero. -/
theorem sum_cen (u : ℕ → ℝ) : ∑ k : Fin 1024, cen u k = 0 := by
  unfold cen mean
  rw [Finset.sum_sub_distrib, Finset.sum_const, Finset.card_univ, Fintype.card_fin, nsmul_eq_mul]
  push_cast; ring

theorem rs_sq (u : ℕ → ℝ) : rs u / (var u + eps) = rs u * (rs u * rs u) := by
  have h := var_eps_pos u
  have h2 : rs u * rs u = (var u + eps)⁻¹ := by unfold rs; rw [← mul_inv, Real.mul_self_sqrt h.le]
  rw [h2]; rfl

/-- The gradient of the layer norm, the reference's way: through the variance and through the mean. -/
theorem norm_grad (u d : ℕ → ℝ) (c : ℕ) (S A : ℝ) (hS : S = ∑ k : Fin 1024, cen u k * d k)
    (hA : A = S * (-(1 / 2) * (rs u / (var u + eps))) / 1024) :
    d c * rs u + A * (2 * cen u c) + ((∑ k : Fin 1024, -(d k * rs u)) + ∑ k : Fin 1024, -(A * (2 * cen u k))) / 1024
      = rs u * (d c - mean d - xhat u c * mean fun k => d k * xhat u k) := by
  have e1 : ∑ k : Fin 1024, -(A * (2 * cen u k)) = 0 := by
    rw [Finset.sum_neg_distrib, ← Finset.mul_sum, ← Finset.mul_sum, sum_cen]; ring
  have e2 : ∑ k : Fin 1024, -(d k * rs u) = -((∑ k : Fin 1024, d k) * rs u) := by
    rw [Finset.sum_neg_distrib, Finset.sum_mul]
  have e3 : (∑ k : Fin 1024, d k * xhat u k) = S * rs u := by
    rw [hS, Finset.sum_mul]; exact Finset.sum_congr rfl fun k _ => by unfold xhat; ring
  unfold mean
  rw [e1, e2, e3, hA, rs_sq]
  unfold xhat; ring

/-- The gradient of the activation, the reference's way. -/
theorem gelu_grad (x ct : ℝ) :
    -(-(2 / Real.sqrt Real.pi) * (1 / 2 * x * ct * Real.exp (-(1 / 2) * x * x)) * (Real.sqrt 2)⁻¹) + 1 / 2 * (ct * (erfR (x * (Real.sqrt 2)⁻¹) + 1))
      = ct * geluD x := by
  unfold geluD cdf
  rw [Real.sqrt_mul (by norm_num), mul_inv]
  rw [div_eq_mul_inv]; ring

variable {P Y : ℕ → ℕ → ℝ} {lg lb : ℕ → ℝ} {w : ℕ → ℕ → ℕ → ℝ} {b : ℕ → ℕ → ℝ} {x0 : Vec Ideal S8192x2048 .bf16} {x1 : Vec Ideal S8192x1024 .bf16}
  {x2 x3 : Vec Ideal S1024 .f32} {x4 : Vec Ideal S8x128x128 .f32} {x5 : Vec Ideal S8x128 .f32}

/-- Row `n` of the cotangent of the layer norm's normalised value. -/
def D (P Y : ℕ → ℕ → ℝ) (lg : ℕ → ℝ) (w : ℕ → ℕ → ℕ → ℝ) (n : ℕ) : ℕ → ℝ :=
  dxh lg w (chunk (n / 128) P) (chunk (n / 128) Y) (n % 128)
def S (P Y : ℕ → ℕ → ℝ) (lg : ℕ → ℝ) (w : ℕ → ℕ → ℕ → ℝ) (n : ℕ) : ℝ := ∑ k : Fin 1024, cen (P n) k * D P Y lg w n k
def A (P Y : ℕ → ℕ → ℝ) (lg : ℕ → ℝ) (w : ℕ → ℕ → ℕ → ℝ) (n : ℕ) : ℝ := S P Y lg w n * (-(1 / 2) * (rs (P n) / (var (P n) + eps))) / 1024

theorem dz_eq (n c : ℕ) :
    D P Y lg w n c * rs (P n) + A P Y lg w n * (2 * cen (P n) c)
        + ((∑ k : Fin 1024, -(D P Y lg w n k * rs (P n))) + ∑ k : Fin 1024, -(A P Y lg w n * (2 * cen (P n) k))) / 1024
      = dz lg w (chunk (n / 128) P) (chunk (n / 128) Y) (n % 128) c := by
  rw [norm_grad (P n) (D P Y lg w n) c (S P Y lg w n) (A P Y lg w n) rfl rfl]
  unfold dz D
  rw [chunk_row]

variable (H : In P Y lg lb w b x0 x1 x2 x3 x4 x5)
include H

theorem In.v93_at (i : S1x8192x1024.Idx) :
    val_main_v93 (F := Ideal) x0 x1 x2 x4 i = ((D P Y lg w (i 1).val (i 2).val * rs (P (i 1).val) : ℝ) : EReal) := by
  rw [val_main_v93_apply, H.v87_at, val_main_v92_apply, H.v38_at, Ideal.mulf_def, ← EReal.coe_mul, D]

theorem In.v90_at (i : S1x8192.Idx) : val_main_v90 (F := Ideal) x0 x1 x2 x4 i = ((S P Y lg w (i 1).val : ℝ) : EReal) := by
  simp only [val_main_v90_apply, val_main_cst_17_apply, val_main_v89_apply, H.v35_at, H.v87_at, Ideal.mulf_def, ← EReal.coe_mul, coe_sum,
    Ideal.ofBits_def, Ideal.ofBits_zero_f32, zero_add]
  rfl

omit H in
theorem unit_pos {z n : ℕ} (hz : z < 1) (hn : n < 8192) (q : ℕ) (hq : q < 1) : ((z * 8192 + n) * 1 + q) % 8192 = n := by omega

theorem In.v99_at (i : S1x8192x1.Idx) : val_main_v99 (F := Ideal) x0 x1 x2 x4 i = ((A P Y lg w (i 1).val : ℝ) : EReal) := by
  rw [val_main_v99_apply, val_main_v98_apply, val_main_cst_19_apply, val_main_v94_apply, val_main_v91_apply, H.v90_at, H.v41_at,
    Ideal.ofBits_def, lit_1024, Ideal.mulf_def, ← EReal.coe_mul, Ideal.hostDivf_def, div_1024]
  show ((S P Y lg w ((((i 0).val * 8192 + (i 1).val) * 1 + (i 2).val) % 8192) * _ / 1024 : ℝ) : EReal) = _
  rw [unit_pos (i 0).isLt (i 1).isLt _ (i 2).isLt]
  rfl

theorem In.v103_at (i : S1x8192x1024.Idx) :
    val_main_v103 (F := Ideal) x0 x1 x2 x4 i = ((A P Y lg w (i 1).val * (2 * cen (P (i 1).val) (i 2).val) : ℝ) : EReal) := by
  rw [val_main_v103_apply, val_main_v102_apply, val_main_v101_apply, H.v29_at]
  unfold val_main_v100
  rw [unit_sum, H.v99_at, val_main_cst_20_apply, Ideal.ofBits_def, Ideal.ofBits_zero_f32, zero_add, Ideal.mulf_def, ← EReal.coe_mul]

theorem In.v110_at (i : S1x8192x1.Idx) :
    val_main_v110 (F := Ideal) x0 x1 x2 x4 i
      = ((((∑ k : Fin 1024, -(D P Y lg w (i 1).val k * rs (P (i 1).val)))
          + ∑ k : Fin 1024, -(A P Y lg w (i 1).val * (2 * cen (P (i 1).val) k))) / 1024 : ℝ) : EReal) := by
  simp only [val_main_v110_apply, val_main_v109_apply, val_main_cst_22_apply, val_main_v108_apply, val_main_v106_apply, val_main_v105_apply,
    val_main_cst_21_apply, val_main_v104_apply, H.v103_at, val_main_v97_apply, val_main_v96_apply, val_main_cst_18_apply, val_main_v95_apply, H.v93_at,
    Ideal.ofBits_def, Ideal.ofBits_zero_f32, zero_add, Ideal.hostNegf_def, Ideal.negf_def, ← EReal.coe_neg, coe_sum, Ideal.addf_def, ← EReal.coe_add,
    lit_1024, Ideal.hostDivf_def, div_1024]
  show ((((∑ k : Fin 1024, -(D P Y lg w ((((i 0).val * 8192 + (i 1).val) * 1 + (i 2).val) % 8192) k * rs (P ((((i 0).val * 8192 + (i 1).val) * 1 + (i 2).val) % 8192))))
          + ∑ k : Fin 1024, -(A P Y lg w ((((i 0).val * 8192 + (i 1).val) * 1 + (i 2).val) % 8192) * (2 * cen (P ((((i 0).val * 8192 + (i 1).val) * 1 + (i 2).val) % 8192)) k))) / 1024 : ℝ) : EReal) = _
  rw [unit_pos (i 0).isLt (i 1).isLt _ (i 2).isLt]

theorem In.v114_at (i : S1x8192x1024.Idx) :
    val_main_v114 (F := Ideal) x0 x1 x2 x4 i
      = ((dz lg w (chunk ((i 1).val / 128) P) (chunk ((i 1).val / 128) Y) ((i 1).val % 128) (i 2).val : ℝ) : EReal) := by
  rw [val_main_v114_apply, val_main_v107_apply, H.v93_at, H.v103_at, val_main_v113_apply, val_main_v112_apply]
  unfold val_main_v111
  rw [unit_sum, H.v110_at, val_main_cst_23_apply, Ideal.ofBits_def, Ideal.ofBits_zero_f32, zero_add, Ideal.addf_def, Ideal.addf_def,
    ← EReal.coe_add, ← EReal.coe_add, ← dz_eq]

/-- The cotangent of the activation: the half that is gated, then the half that gates. -/
theorem In.v115_at (i : S1x8192x2048.Idx) :
    val_main_v115 (F := Ideal) x0 x1 x2 x3 x4 x5 i
      = ((if (i 2).val < 1024 then Y (i 1).val (i 2).val * sv lg lb w b (chunk ((i 1).val / 128) P) ((i 1).val % 128) (i 2).val
          else dz lg w (chunk ((i 1).val / 128) P) (chunk ((i 1).val / 128) Y) ((i 1).val % 128) ((i 2).val - 1024) : ℝ) : EReal) := by
  unfold val_main_v115
  pointwise
  split
  · rw [H.v68_at]; rfl
  · rw [H.v114_at]; rfl

theorem In.v126_at (i : S1x8192x2048.Idx) :
    val_main_v126 (F := Ideal) x0 x1 x2 x3 x4 x5 i = ((Dp lg lb w b P Y (i 1).val (i 2).val : ℝ) : EReal) := by
  simp only [val_main_v126_apply, val_main_v125_apply, val_main_v124_apply, val_main_cst_24_apply, val_main_v123_apply, val_main_v122_apply,
    val_main_v121_apply, val_main_v120_apply, val_main_v119_apply, val_main_v118_apply, val_main_v117_apply, val_main_v116_apply, H.v115_at,
    H.v9_at, H.v17_at, H.v3_at, v6_at, v14_at, Ideal.ofBits_def, lit_half, Ideal.mulf_def, Ideal.addf_def, Ideal.hostNegf_def, Ideal.negf_def,
    ← EReal.coe_mul, ← EReal.coe_neg, ← EReal.coe_add]
  refine congrArg _ ?_
  rw [gelu_grad]
  unfold Dp dp dpu dpv
  rw [chunk_row P, chunk_row Y]
  by_cases h : (i 2).val < 1024
  · rw [if_pos h, if_pos h]
  · rw [if_neg h, if_neg h, show 1024 + ((i 2).val - 1024) = (i 2).val by omega]

/-- The first result: the cotangent of the projection. -/
theorem In.v127_at (i : S8192x2048.Idx) :
    val_main_v127 (F := Ideal) x0 x1 x2 x3 x4 x5 i = ((Dp lg lb w b P Y (i 0).val (i 1).val : ℝ) : EReal) := by
  rw [val_main_v127_apply, Fin.sum_univ_one, H.v126_at, val_main_cst_25_apply, Ideal.ofBits_def, Ideal.ofBits_zero_f32, zero_add]

end Sgu.Ref
end
-- ==== Proof.RefSums.lean ====
module

public import proofs.«01_k».proof.Proof.RefNorm
public import Idealize.ShloMosaic.Lib.Pipeline.ValueKit

/-! The reference at real arguments, last stage: the five sums over the sequence, put in the order of the chunks. -/

@[expose] public section
noncomputable section
namespace Sgu.Ref
open Cert.ReferenceIdeal Cert.ReferenceIdeal.Gen Cert.ReferenceIdeal.Read Idealize.ShloMosaic Idealize.ShloMosaic.TcCoe
set_option maxHeartbeats 1000000

/-- A sum over the sequence, chunk by chunk. -/
theorem sum_chunks (f : ℕ → ℕ → ℝ) : ∑ n : Fin 8192, f (n.val / 128) (n.val % 128) = ∑ t : Fin 64, ∑ r : Fin 128, f t r :=
  Fin.sum_divmod_fin 128 (fun (a : Fin 64) (s : Fin 128) => f a s) rfl

theorem unit_sum3 (x : FVec Ideal S1x1x1024 .f32) (c : FVec Ideal S_ .f32) (j : S1024.Idx) :
    Host.reduceAdd x c reducesTo_S1x1x1024_S1024_d0_1 h_S_ j
      = c (Shape.Idx.first h_S_) + x (ValueIdx.ix3 ⟨0, Nat.one_pos⟩ ⟨0, Nat.one_pos⟩ ⟨(j 0).val, (j 0).isLt⟩) := by
  refine (hostSum_of (κ := Unit) _ x (c (Shape.Idx.first h_S_)) j (fun _ => ValueIdx.ix3 ⟨0, Nat.one_pos⟩ ⟨0, Nat.one_pos⟩ ⟨(j 0).val, (j 0).isLt⟩) (fun _ _ _ => rfl)
    (fun _ => funext fun b => Fin.ext (by match b with | ⟨0, _⟩ => rfl))
    (fun i hi => ⟨(), funext fun a => Fin.ext (by
      match a with
      | ⟨0, _⟩ => have h : (i 0).val < 1 := (i 0).isLt; show 0 = (i 0).val; omega
      | ⟨1, _⟩ => have h : (i 1).val < 1 := (i 1).isLt; show 0 = (i 1).val; omega
      | ⟨2, _⟩ => subst hi; rfl)⟩)).trans ?_
  simp

theorem unit_sum5 (x : FVec Ideal S1x1x128x8x1 .f32) (c : FVec Ideal S_ .f32) (j : S128x8.Idx) :
    Host.reduceAdd x c reducesTo_S1x1x128x8x1_S128x8_d0_1_4 h_S_ j
      = c (Shape.Idx.first h_S_) + x (ValueIdx.ix5 ⟨0, Nat.one_pos⟩ ⟨0, Nat.one_pos⟩ ⟨(j 0).val, (j 0).isLt⟩ ⟨(j 1).val, (j 1).isLt⟩ ⟨0, Nat.one_pos⟩) := by
  refine (hostSum_of (κ := Unit) _ x (c (Shape.Idx.first h_S_)) j
    (fun _ => ValueIdx.ix5 ⟨0, Nat.one_pos⟩ ⟨0, Nat.one_pos⟩ ⟨(j 0).val, (j 0).isLt⟩ ⟨(j 1).val, (j 1).isLt⟩ ⟨0, Nat.one_pos⟩) (fun _ _ _ => rfl)
    (fun _ => funext fun b => Fin.ext (by match b with | ⟨0, _⟩ => rfl | ⟨1, _⟩ => rfl))
    (fun i hi => ⟨(), funext fun a => Fin.ext (by
      match a with
      | ⟨0, _⟩ => have h : (i 0).val < 1 := (i 0).isLt; show 0 = (i 0).val; omega
      | ⟨1, _⟩ => have h : (i 1).val < 1 := (i 1).isLt; show 0 = (i 1).val; omega
      | ⟨2, _⟩ => subst hi; rfl
      | ⟨3, _⟩ => subst hi; rfl
      | ⟨4, _⟩ => have h : (i 4).val < 1 := (i 4).isLt; show 0 = (i 4).val; omega)⟩)).trans ?_
  simp

/-- A sum over the chunks and the columns of a group. -/
theorem chunk_group_sum (x : FVec Ideal S1x64x128x8x128 .f32) (c : FVec Ideal S_ .f32) (j : S1x128x8.Idx) :
    Host.reduceAdd x c reducesTo_S1x64x128x8x128_S1x128x8_d1_4 h_S_ j
      = c (Shape.Idx.first h_S_) + ∑ t : Fin 64, ∑ k : Fin 128, x (ValueIdx.ix5 ⟨0, Nat.one_pos⟩ t ⟨(j 1).val, (j 1).isLt⟩ ⟨(j 2).val, (j 2).isLt⟩ k) := by
  refine (hostSum_of (κ := Fin 64 × Fin 128) _ x (c (Shape.Idx.first h_S_)) j
    (fun q => ValueIdx.ix5 ⟨0, Nat.one_pos⟩ q.1 ⟨(j 1).val, (j 1).isLt⟩ ⟨(j 2).val, (j 2).isLt⟩ q.2)
    (fun q q' h => Prod.ext (congrFun h 1) (congrFun h 4))
    (fun _ => funext fun b => Fin.ext (by
      match b with
      | ⟨0, _⟩ => have h : (j 0).val < 1 := (j 0).isLt; show 0 = (j 0).val; omega
      | ⟨1, _⟩ => rfl
      | ⟨2, _⟩ => rfl))
    (fun i hi => ⟨(i 1, i 4), funext fun a => Fin.ext (by
      match a with
      | ⟨0, _⟩ => have h : (i 0).val < 1 := (i 0).isLt; show 0 = (i 0).val; omega
      | ⟨1, _⟩ => rfl
      | ⟨2, _⟩ => subst hi; rfl
      | ⟨3, _⟩ => subst hi; rfl
      | ⟨4, _⟩ => rfl)⟩)).trans ?_
  rw [Fintype.sum_prod_type]

/-- The product over a chunk's columns and the chunks. -/
theorem weight_dot (l : FVec Ideal S8x1x64x128x128 .f32) (r : FVec Ideal S1x64x128x8x128 .f32) (j : S8x128x128.Idx) :
    Host.dotGeneral dot_S8x1x64x128x128_S1x64x128x8x128_S8x128x128_123_014_4_2_0_3 none l r j
      = ∑ t : Fin 64, ∑ k : Fin 128, l (ValueIdx.ix5 ⟨(j 0).val, (j 0).isLt⟩ ⟨0, Nat.one_pos⟩ t k ⟨(j 1).val, (j 1).isLt⟩)
          * r (ValueIdx.ix5 ⟨0, Nat.one_pos⟩ t ⟨(j 2).val, (j 2).isLt⟩ ⟨(j 0).val, (j 0).isLt⟩ k) := by
  simp only [Host.dotGeneral]
  rw [Ideal.dotGeneral_apply]
  let D := dot_S8x1x64x128x128_S1x64x128x8x128_S8x128x128_123_014_4_2_0_3
  let e : Fin 64 × Fin 128 ≃ D.contr.Idx :=
    { toFun := fun q a => match a with
        | ⟨0, _⟩ => (⟨0, Nat.one_pos⟩ : Fin 1)
        | ⟨1, _⟩ => (q.1 : Fin 64)
        | ⟨2, _⟩ => (q.2 : Fin 128)
      invFun := fun k => ((k ⟨1, by decide⟩ : Fin 64), (k ⟨2, by decide⟩ : Fin 128))
      left_inv := fun q => rfl
      right_inv := fun k => funext fun a => Fin.ext (by
        match a with
        | ⟨0, _⟩ => have h : (k ⟨0, by decide⟩).val < 1 := (k ⟨0, by decide⟩).isLt; show 0 = (k ⟨0, by decide⟩).val; omega
        | ⟨1, _⟩ => rfl
        | ⟨2, _⟩ => rfl) }
  rw [← Equiv.sum_comp e, Fintype.sum_prod_type]
  refine Finset.sum_congr rfl fun t _ => Finset.sum_congr rfl fun k _ => ?_
  refine congrArg₂ (· * ·) (congrArg l (funext fun a => Fin.ext ?_)) (congrArg r (funext fun a => Fin.ext ?_))
  · match a with | ⟨0, _⟩ => rfl | ⟨1, _⟩ => rfl | ⟨2, _⟩ => rfl | ⟨3, _⟩ => rfl | ⟨4, _⟩ => rfl
  · match a with | ⟨0, _⟩ => rfl | ⟨1, _⟩ => rfl | ⟨2, _⟩ => rfl | ⟨3, _⟩ => rfl | ⟨4, _⟩ => rfl

variable {P Y : ℕ → ℕ → ℝ} {lg lb : ℕ → ℝ} {w : ℕ → ℕ → ℕ → ℝ} {b : ℕ → ℕ → ℝ} {x0 : Vec Ideal S8192x2048 .bf16} {x1 : Vec Ideal S8192x1024 .bf16}
  {x2 x3 : Vec Ideal S1024 .f32} {x4 : Vec Ideal S8x128x128 .f32} {x5 : Vec Ideal S8x128 .f32}
variable (H : In P Y lg lb w b x0 x1 x2 x3 x4 x5)
include H

theorem In.out0 (i : S8192x2048.Idx) :
    val_main_v128 (F := Ideal) x0 x1 x2 x3 x4 x5 i = ((Dp lg lb w b P Y (i 0).val (i 1).val : ℝ) : EReal) := by
  rw [val_main_v128_apply, H.v127_at, Ideal.truncf_def]

theorem In.out1 (i : S1x1024.Idx) : val_main_v129 (F := Ideal) x0 x1 x4 i = ((Dlg w P Y (i 1).val : ℝ) : EReal) := by
  rw [val_main_v129_apply]
  unfold val_main_v88
  rw [unit_sum3, val_main_cst_16_apply, val_main_v85_apply, val_main_v84_apply, val_main_cst_15_apply]
  simp only [val_main_v83_apply, H.v43_at, H.v79_at, Ideal.ofBits_def, Ideal.ofBits_zero_f32, zero_add, Ideal.mulf_def, ← EReal.coe_mul, coe_sum]
  refine congrArg _ ?_
  have hc : (i 1).val < 1024 := (i 1).isLt
  show ∑ n : Fin 8192, xhat (P n.val) (((0 * 1 + 0) * 1024 + (i 1).val) % 1024)
    * dvn w (chunk (n.val / 128) P) (chunk (n.val / 128) Y) (n.val % 128) (((0 * 1 + 0) * 1024 + (i 1).val) % 1024) = _
  rw [show ((0 * 1 + 0) * 1024 + (i 1).val) % 1024 = (i 1).val by omega]
  refine (Finset.sum_congr rfl fun n _ => ?_).trans
    (sum_chunks fun t r => dvn w (chunk t P) (chunk t Y) r (i 1).val * xhat (chunk t P r) (i 1).val)
  rw [chunk_row P, mul_comm]

theorem In.out2 (i : S1x1024.Idx) : val_main_v130 (F := Ideal) x0 x1 x4 i = ((Dlb w P Y (i 1).val : ℝ) : EReal) := by
  rw [val_main_v130_apply]
  unfold val_main_v82
  rw [unit_sum3, val_main_cst_14_apply, val_main_v81_apply, val_main_v80_apply, val_main_cst_13_apply]
  simp only [H.v79_at, Ideal.ofBits_def, Ideal.ofBits_zero_f32, zero_add, coe_sum]
  refine congrArg _ ?_
  have hc : (i 1).val < 1024 := (i 1).isLt
  show ∑ n : Fin 8192, dvn w (chunk (n.val / 128) P) (chunk (n.val / 128) Y) (n.val % 128) (((0 * 1 + 0) * 1024 + (i 1).val) % 1024) = _
  rw [show ((0 * 1 + 0) * 1024 + (i 1).val) % 1024 = (i 1).val by omega]
  exact sum_chunks fun t r => dvn w (chunk t P) (chunk t Y) r (i 1).val

theorem In.out3 (i : S8x128x128.Idx) :
    val_main_v78 (F := Ideal) x0 x1 x2 x3 i = ((Dw lg lb P Y (i 0).val (i 1).val (i 2).val : ℝ) : EReal) := by
  rw [val_main_v78_apply, mask_at, val_main_call2_v0_apply, val_main_call2_cst_apply, Ideal.ofBits_def, Ideal.ofBits_zero_f32]
  unfold val_main_v75
  rw [weight_dot]
  simp only [val_main_v74_apply, H.v69_at, H.v50_at, ← EReal.coe_mul, coe_sum]
  rw [coe_ite_zero]
  refine congrArg _ ?_
  unfold Dw cw
  split
  · rfl
  · simp

theorem In.out4 (i : S128x8.Idx) : val_main_v131 (F := Ideal) x0 x1 i = ((Db P Y (i 0).val (i 1).val : ℝ) : EReal) := by
  rw [val_main_v131_apply, val_main_v73_apply]
  unfold val_main_v72
  rw [unit_sum5, val_main_cst_12_apply, val_main_v71_apply]
  unfold val_main_v70
  rw [chunk_group_sum, val_main_cst_11_apply]
  simp only [H.v69_at, Ideal.ofBits_def, Ideal.ofBits_zero_f32, zero_add, coe_sum]
  refine congrArg _ ?_
  have h0 : (i 0).val < 128 := (i 0).isLt
  have h1 : (i 1).val < 8 := (i 1).isLt
  show ∑ t : Fin 64, ∑ k : Fin 128, dsv (chunk t.val P) (chunk t.val Y) (((((0 * 1 + 0) * 128 + (i 0).val) * 8 + (i 1).val) * 1 + 0) / 8 % 128)
    (128 * (((((0 * 1 + 0) * 128 + (i 0).val) * 8 + (i 1).val) * 1 + 0) % 8) + k.val) = _
  rw [show ((((0 * 1 + 0) * 128 + (i 0).val) * 8 + (i 1).val) * 1 + 0) / 8 % 128 = (i 0).val by omega,
    show ((((0 * 1 + 0) * 128 + (i 0).val) * 8 + (i 1).val) * 1 + 0) % 8 = (i 1).val by omega]
  rfl

theorem In.out5 (i : S1x2048.Idx) :
    val_main_v133 (F := Ideal) x0 x1 x2 x3 x4 x5 i = ((Ddb lg lb w b P Y (i 1).val : ℝ) : EReal) := by
  rw [val_main_v133_apply, val_main_v132_apply, val_main_cst_26_apply]
  simp only [H.v127_at, Ideal.ofBits_def, Ideal.ofBits_zero_f32, zero_add, coe_sum]
  refine congrArg _ ?_
  exact sum_chunks fun t r => dp lg lb w b (chunk t P) (chunk t Y) r (i 1).val

end Sgu.Ref
end
-- ==== Proof.Equation.lean ====
module

public import proofs.«01_k».proof.Proof.Finite
public import proofs.«01_k».proof.Proof.Arrays
public import proofs.«01_k».proof.Proof.RefSums
public import proofs.«01_k».proof.Proof.Gen.KernelIdeal.Value
public import proofs.«01_k».proof.Proof.Gen.ReferenceIdeal.Run

/-! The two programs from memories that agree on the six arguments: the kernel's host operations lay the arguments out for
the call, and the six arrays the call leaves are the six the reference returns. -/

@[expose] public section
noncomputable section
namespace Sgu.Equation
open Cert.KernelIdeal Cert.KernelIdeal.Gen Idealize.ShloMosaic Idealize.ShloMosaic.TcCoe Idealize.SL.Sem
set_option maxHeartbeats 1000000

variable {m : (ℓ : Loc nD τ sig) → Buf (Elt Ideal) ℓ} {c : Dev nD}
variable {lg lb : ℕ → ℝ} {w : ℕ → ℕ → ℕ → ℝ} {b : ℕ → ℕ → ℝ} {P Y : ℕ → ℕ → ℝ}

/-- The arrays of the call, from the arguments. -/
theorem args (h : Sgu.Ref.In P Y lg lb w b (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))) :
    Sgu.Arrays.Args m c lg lb w b P Y where
  h0 i := by rw [V_main_arg0]; exact h.h0 i
  h1 i := by rw [V_main_arg1]; exact h.h1 i
  h2 i := by
    entry_read
    pointwise
    exact h.h2 _
  h3 i := by
    entry_read
    pointwise
    exact h.h3 _
  h4 i := by rw [V_main_arg4]; exact h.h4 i
  h5 i := by
    entry_read
    pointwise
    exact h.h4 _
  h6 i := by
    entry_read
    pointwise
    exact h.h5 _

/-- The precondition names the real arrays. -/
theorem inputs (h : Cert.Pre_KernelIdeal_all_finite m) (c : Dev nD) :
    ∃ (P Y : ℕ → ℕ → ℝ) (lg lb : ℕ → ℝ) (w : ℕ → ℕ → ℕ → ℝ) (b : ℕ → ℕ → ℝ),
      Sgu.Ref.In P Y lg lb w b (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) := by
  obtain ⟨h0, h1, h2, h3, h4, h5⟩ := Sgu.Finite.reals _ _ _ _ _ _ (fun k => k.elim0) (congrFun (h c) (fun k => k.elim0))
  obtain ⟨P, h0⟩ := Sgu.Finite.matrix _ h0
  obtain ⟨Y, h1⟩ := Sgu.Finite.matrix _ h1
  obtain ⟨lg, h2⟩ := Sgu.Finite.vector _ h2
  obtain ⟨lb, h3⟩ := Sgu.Finite.vector _ h3
  obtain ⟨w, h4⟩ := Sgu.Finite.cube _ h4
  obtain ⟨b, h5⟩ := Sgu.Finite.matrix _ h5
  exact ⟨P, Y, lg, lb, w, b, ⟨h0, h1, h2, h3, h4, h5⟩⟩

section
open Cert.ReferenceIdeal.Read
variable (H : Sgu.Ref.In P Y lg lb w b (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)))
include H

theorem eq0 : (dats m 0 c).arrAt 7 cfg0.N = val_main_v128 (F := Ideal) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) (m ((c.tc : Thread nD τ).loc main_arg5)) :=
  funext fun i => ((args H).out7 i).trans (H.out0 i).symm

theorem eq1 : (dats m 0 c).arrAt 8 cfg0.N = val_main_v129 (F := Ideal) (m ((c.tc : Thread nD τ).loc main_arg0)) (m ((c.tc : Thread nD τ).loc main_arg1))
    (m ((c.tc : Thread nD τ).loc main_arg4)) :=
  funext fun i => ((args H).out8 i).trans (H.out1 i).symm

theorem eq2 : (dats m 0 c).arrAt 9 cfg0.N = val_main_v130 (F := Ideal) (m ((c.tc : Thread nD τ).loc main_arg0)) (m ((c.tc : Thread nD τ).loc main_arg1))
    (m ((c.tc : Thread nD τ).loc main_arg4)) :=
  funext fun i => ((args H).out9 i).trans (H.out2 i).symm

theorem eq3 : (dats m 0 c).arrAt 10 cfg0.N = val_main_v78 (F := Ideal) (m ((c.tc : Thread nD τ).loc main_arg0)) (m ((c.tc : Thread nD τ).loc main_arg1))
    (m ((c.tc : Thread nD τ).loc main_arg2)) (m ((c.tc : Thread nD τ).loc main_arg3)) :=
  funext fun i => ((args H).out10 i).trans (H.out3 i).symm

theorem eq4 : (dats m 0 c).arrAt 11 cfg0.N = val_main_v131 (F := Ideal) (m ((c.tc : Thread nD τ).loc main_arg0)) (m ((c.tc : Thread nD τ).loc main_arg1)) :=
  funext fun i => ((args H).out11 i).trans (H.out4 i).symm

theorem eq5 : (dats m 0 c).arrAt 12 cfg0.N = val_main_v133 (F := Ideal) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) (m ((c.tc : Thread nD τ).loc main_arg5)) :=
  funext fun i => ((args H).out12 i).trans (H.out5 i).symm
end

end Sgu.Equation
end
-- ==== Proof.Product.lean ====
module

public import Idealize.ShloMosaic.Lib.Pointwise

/-! Sums of products over the rows and columns of two arrays, and the same sums taken a stretch at a time. -/

@[expose] public section
noncomputable section
namespace Product

/-- An array of two axes, as a function of two numbers. -/
theorem table {n k : ℕ} (x : (∀ a : Fin 2, Fin (![n, k] a)) → EReal) :
    ∃ A : ℕ → ℕ → EReal, ∀ i, x i = A (i 0).val (i 1).val := by
  classical
  refine ⟨fun r c => if h : ∃ i : (∀ a : Fin 2, Fin (![n, k] a)), (i 0).val = r ∧ (i 1).val = c then x h.choose else 0, fun i => ?_⟩
  have h : ∃ j : (∀ a : Fin 2, Fin (![n, k] a)), (j 0).val = (i 0).val ∧ (j 1).val = (i 1).val := ⟨i, rfl, rfl⟩
  refine Eq.trans ?_ (dif_pos h).symm
  refine congrArg x (funext fun a => Fin.ext ?_)
  match a with
  | ⟨0, _⟩ => exact h.choose_spec.1.symm
  | ⟨1, _⟩ => exact h.choose_spec.2.symm

/-- An array of one row, as a function of one number. -/
theorem row {k : ℕ} (x : (∀ a : Fin 2, Fin (![1, k] a)) → EReal) : ∃ R : ℕ → EReal, ∀ i, x i = R (i 1).val := by
  obtain ⟨A, h⟩ := table x
  exact ⟨A 0, fun i => (h i).trans (congrArg (A · (i 1).val) (Nat.lt_one_iff.mp (i 0).isLt))⟩

/-- The sum of the `n` terms of stretch `q`. -/
def stretch (n q : ℕ) (f : ℕ → EReal) : EReal := ∑ k ∈ Finset.range n, f (q * n + k)

/-- A sum over an axis is the first stretch. -/
theorem stretch_first (n : ℕ) (f : ℕ → EReal) : ∑ k : Fin n, f k.val = stretch n 0 f := by
  rw [Fin.sum_univ_eq_sum_range]
  simp only [stretch, zero_mul, zero_add]

/-- A later stretch is the first one of the terms moved down. -/
theorem stretch_shift (n q : ℕ) (f : ℕ → EReal) : stretch n 0 (fun k => f (q * n + k)) = stretch n q f := by
  simp only [stretch, zero_mul, zero_add]

/-- A sum over two stretches. -/
theorem stretch_two (n : ℕ) (f : ℕ → EReal) : stretch n 0 f + stretch n 1 f = stretch (2 * n) 0 f := by
  simp only [stretch, show 2 * n = n + n by omega, Finset.sum_range_add, zero_mul, one_mul, zero_add]

/-- A sum over four stretches. -/
theorem stretch_four (n : ℕ) (f : ℕ → EReal) :
    stretch n 0 f + stretch n 1 f + stretch n 2 f + stretch n 3 f = stretch (4 * n) 0 f := by
  simp only [stretch, show 4 * n = n + n + n + n by omega, show 2 * n = n + n by omega, show 3 * n = n + n + n by omega,
    Finset.sum_range_add, zero_mul, one_mul, zero_add]

end Product
-- ==== Proof.DHn.lean ====
module

public import proofs.«01_k».proof.Defs
public import proofs.«01_k».proof.Proof.Gen.DHn.Frame
public import proofs.«01_k».proof.Proof.Gen.DHnIdeal.Frame
public import proofs.«01_k».proof.Proof.Gen.DHnIdeal.Value
public import proofs.«01_k».proof.Proof.Gen.DHnRefIdeal
public import proofs.«01_k».proof.Proof.Gen.DHnRefIdeal.Run
public import proofs.«01_k».proof.Proof.Gen.DHnRefIdeal.Read
public import proofs.«01_k».proof.Proof.Product
public import Idealize.ShloMosaic.Lib.Pipeline.ValueKit
public import Idealize.ShloMosaic.Lib.Pipeline.ReadBack

/-! The gradient of the channel mixer's normalised input: the array the kernel leaves, as the sum of products it is, and that the
reference leaves the same array. -/

@[expose] public section
noncomputable section
namespace DHn
open Idealize.ShloMosaic Idealize.ShloMosaic.TcCoe Idealize.SL.Sem Product

section kernel
open Cert.DHnIdeal Cert.DHnIdeal.Gen
set_option maxHeartbeats 4000000

section block
variable {x0 : Vec Ideal S1024x2816 .bf16} {x1 : Vec Ideal S1024x2816 .bf16} {A B : ℕ → ℕ → EReal}
variable (h0 : ∀ i, x0 i = A (i 0).val (i 1).val) (h1 : ∀ i, x1 i = B (i 0).val (i 1).val)
include h0 h1

/-- The product of two blocks. -/
theorem part (i : S1024x1024.Idx) : k0_pay1 x0 x1 i = stretch 2816 0 fun k => A (i 0).val k * B (i 1).val k := by
  pointwise [k0_pay1]
  simp only [h0, h1]
  exact stretch_first 2816 fun k => A (i 0).val k * B (i 1).val k

/-- What the first point of a run leaves in the accumulator. -/
theorem first {c : Dev nD} {g : grid0.Coords} {a0 : Memref sig .tc .vmem S1024x2816 .bf16} {ha0 : a0.IsWhole} {a1 : Memref sig .tc .vmem S1024x2816 .bf16} {ha1 : a1.IsWhole} {a2 : Memref sig .tc .vmem S1024x1024 .bf16} {ha2 : a2.IsWhole} {a3 : Memref sig .tc .vmem S1024x1024 .f32} {ha3 : a3.IsWhole} {hc} {hc'} {hc''} (i : S1024x1024.Idx) :
    sout0_A_0 (F := Ideal) c g a0 ha0 a1 ha1 a2 ha2 a3 ha3 hc hc' hc'' x0 x1 i = stretch 2816 0 fun k => A (i 0).val k * B (i 1).val k := by
  frame_out [↓View.readCov_skip, ↓View.readCov_fill]
  pointwise [k0_pay2]
  exact part h0 h1 i

/-- What a middle point adds to it. -/
theorem middle {c : Dev nD} {g : grid0.Coords} {a0 : Memref sig .tc .vmem S1024x2816 .bf16} {ha0 : a0.IsWhole} {a1 : Memref sig .tc .vmem S1024x2816 .bf16} {ha1 : a1.IsWhole} {a2 : Memref sig .tc .vmem S1024x1024 .bf16} {ha2 : a2.IsWhole} {a3 : Memref sig .tc .vmem S1024x1024 .f32} {ha3 : a3.IsWhole} {hc} {hc'} {hc''} (acc : Vec Ideal S1024x1024 .f32) (i : S1024x1024.Idx) :
    sout0_B_0 (F := Ideal) c g a0 ha0 a1 ha1 a2 ha2 a3 ha3 hc hc' hc'' x0 x1 acc i = acc i + stretch 2816 0 fun k => A (i 0).val k * B (i 1).val k := by
  frame_out [↓View.readCov_skip, ↓View.readCov_fill]
  pointwise [k0_pay3]
  exact congrArg (acc i + ·) (part h0 h1 i)

/-- What the last point stores in its block. -/
theorem last {c : Dev nD} {g : grid0.Coords} {a0 : Memref sig .tc .vmem S1024x2816 .bf16} {ha0 : a0.IsWhole} {a1 : Memref sig .tc .vmem S1024x2816 .bf16} {ha1 : a1.IsWhole} {a2 : Memref sig .tc .vmem S1024x1024 .bf16} {ha2 : a2.IsWhole} {a3 : Memref sig .tc .vmem S1024x1024 .f32} {ha3 : a3.IsWhole} {hc} {hc'} {hc''} (acc : Vec Ideal S1024x1024 .f32) (i : S1024x1024.Idx) :
    out0_C_2 (F := Ideal) c g a0 ha0 a1 ha1 a2 ha2 a3 ha3 hc hc' hc'' x0 x1 acc i = (acc i + stretch 2816 0 fun k => A (i 0).val k * B (i 1).val k) := by
  frame_out [↓View.readCov_skip, ↓View.readCov_fill]
  pointwise [k0_pay4]
  exact congrArg (fun s => acc i + s) (part h0 h1 i)
end block

variable (m : (ℓ : Loc nD τ sig) → Buf (Elt Ideal) ℓ) (c : Dev nD) {A B : ℕ → ℕ → EReal}

theorem index0_0 : ∀ t : Fin cfg0.N, win0_0.index t 0 = t.val / 8 := by decide +kernel
theorem index0_1 : ∀ t : Fin cfg0.N, win0_0.index t 1 = t.val % 4 := by decide +kernel
theorem index1_0 : ∀ t : Fin cfg0.N, win0_1.index t 0 = t.val / 4 % 2 := by decide +kernel
theorem index1_1 : ∀ t : Fin cfg0.N, win0_1.index t 1 = t.val % 4 := by decide +kernel
theorem index2_0 : ∀ t : Fin cfg0.N, win0_2.index t 0 = t.val / 8 := by decide +kernel
theorem index2_1 : ∀ t : Fin cfg0.N, win0_2.index t 1 = t.val / 4 % 2 := by decide +kernel

variable {m c}
variable (hA : ∀ i : S8192x11264.Idx, V m c main_arg0 i = A (i 0).val (i 1).val) (hB : ∀ i : S2048x11264.Idx, V m c main_arg1 i = B (i 0).val (i 1).val)

include hA in
theorem inA (t : Fin cfg0.N) (i : S1024x2816.Idx) : (iblk m c 0 t : Vec Ideal S1024x2816 .bf16) i = A (t.val / 8 * 1024 + (i 0).val) (t.val % 4 * 2816 + (i 1).val) := by
  refine (hA ((win0_0.rect t).emb i)).trans ?_
  rw [win0_0.rect_emb_val t i 0, index0_0, win0_0.rect_emb_val t i 1, index0_1]
  rfl
include hB in
theorem inB (t : Fin cfg0.N) (i : S1024x2816.Idx) : (iblk m c 1 t : Vec Ideal S1024x2816 .bf16) i = B (t.val / 4 % 2 * 1024 + (i 0).val) (t.val % 4 * 2816 + (i 1).val) := by
  refine (hB ((win0_1.rect t).emb i)).trans ?_
  rw [win0_1.rect_emb_val t i 0, index1_0, win0_1.rect_emb_val t i 1, index1_1]
  rfl

/-- The terms of the sum at place `i` of point `t`'s block. -/
abbrev terms (A B : ℕ → ℕ → EReal) (t : Fin cfg0.N) (i : S1024x1024.Idx) : ℕ → EReal := fun k => A (t.val / 8 * 1024 + (i 0).val) k * B (t.val / 4 % 2 * 1024 + (i 1).val) k

include hA hB

theorem after_first (t : Fin cfg0.N) (h : t.val % 4 = 0) (i : S1024x1024.Idx) :
    (outsAt0 m c t.val t.isLt).2 i = stretch 2816 0 (terms A B t i) := by
  rw [outsAt0_A m c t h (by omega) (by omega)]
  dsimp only
  refine (first (A := fun r k => A (t.val / 8 * 1024 + r) (t.val % 4 * 2816 + k)) (B := fun r k => B (t.val / 4 % 2 * 1024 + r) (t.val % 4 * 2816 + k)) (inA hA t) (inB hB t) i).trans ?_
  rw [h]
  exact stretch_shift 2816 0 (terms A B t i)

theorem after_middle (t : Fin cfg0.N) (q : ℕ) (h : t.val % 4 = q) (hq : 1 ≤ q ∧ q ≤ 2) (i : S1024x1024.Idx) :
    (outsAt0 m c t.val t.isLt).2 i = (outsAt0 m c (t.val - 1) (Nat.lt_of_le_of_lt (Nat.sub_le _ _) t.isLt)).2 i + stretch 2816 q (terms A B t i) := by
  subst h
  rw [outsAt0_B m c t (by omega) (by omega) (by omega)]
  dsimp only
  refine (middle (A := fun r k => A (t.val / 8 * 1024 + r) (t.val % 4 * 2816 + k)) (B := fun r k => B (t.val / 4 % 2 * 1024 + r) (t.val % 4 * 2816 + k)) (inA hA t) (inB hB t) _ i).trans ?_
  rw [← stretch_shift 2816 (t.val % 4) (terms A B t i)]

theorem after_last (t : Fin cfg0.N) (h : t.val % 4 = 3) (i : S1024x1024.Idx) :
    (outsAt0 m c t.val t.isLt).1 i = (outsAt0 m c (t.val - 1) (Nat.lt_of_le_of_lt (Nat.sub_le _ _) t.isLt)).2 i + stretch 2816 3 (terms A B t i) := by
  rw [outsAt0_C m c t (by omega) (by omega) (by omega)]
  dsimp only
  refine (last (A := fun r k => A (t.val / 8 * 1024 + r) (t.val % 4 * 2816 + k)) (B := fun r k => B (t.val / 4 % 2 * 1024 + r) (t.val % 4 * 2816 + k)) (inA hA t) (inB hB t) _ i).trans ?_
  rw [h, ← stretch_shift 2816 3 (terms A B t i)]

omit hA hB in
/-- Two points of one run sum the same terms. -/
theorem terms_same {t s : Fin cfg0.N} (h : t.val / 4 = s.val / 4) (i : S1024x1024.Idx) : terms A B t i = terms A B s i := by
  funext k
  simp only [terms, show t.val / 8 = s.val / 8 by omega, show t.val / 4 % 2 = s.val / 4 % 2 by omega]

/-- The block the last point of a run stores. -/
theorem stored (t : Fin cfg0.N) (h : t.val % 4 = 3) (i : S1024x1024.Idx) :
    (outsAt0 m c t.val t.isLt).1 i = stretch 11264 0 (terms A B t i) := by
  rw [after_last hA hB t h, after_middle hA hB ⟨t.val - 1, by omega⟩ 2 (by show (t.val - 1) % 4 = 2; omega) (by omega),
    after_middle hA hB ⟨t.val - 1 - 1, by omega⟩ 1 (by show (t.val - 1 - 1) % 4 = 1; omega) (by omega),
    after_first hA hB ⟨t.val - 1 - 1 - 1, by omega⟩ (by show (t.val - 1 - 1 - 1) % 4 = 0; omega),
    terms_same (t := ⟨t.val - 1, by omega⟩) (s := t) (by show (t.val - 1) / 4 = t.val / 4; omega),
    terms_same (t := ⟨t.val - 1 - 1, by omega⟩) (s := t) (by show (t.val - 1 - 1) / 4 = t.val / 4; omega),
    terms_same (t := ⟨t.val - 1 - 1 - 1, by omega⟩) (s := t) (by show (t.val - 1 - 1 - 1) / 4 = t.val / 4; omega), stretch_four]

/-- The array the kernel leaves. -/
theorem array (i : S8192x2048.Idx) : (dats m 0 c).arrAt 2 cfg0.N i = stretch 11264 0 (fun k => A (i 0).val k * B (i 1).val k) := by
  refine (dats m 0 c).arrAt_forall_of_cover 2 (fun (i : S8192x2048.Idx) (v : EReal) => v = stretch 11264 0 (fun k => A (i 0).val k * B (i 1).val k)) (fun t ht y => ?_) (fun i => ?_) i
  · have e : (dats m 0 c).flushed 2 t y = (outsAt0 m c t.val t.isLt).1 y := congrFun (Cert.DHnIdeal.Value.flushed2 m c t) y
    show (dats m 0 c).flushed 2 t y = stretch 11264 0 (fun k => A ((win0_2.rect t).emb y 0).val k * B ((win0_2.rect t).emb y 1).val k)
    rw [e, win0_2.rect_emb_val t y 0, index2_0, win0_2.rect_emb_val t y 1, index2_1]
    exact stored hA hB t ((flush0_2 t).mp ht) y
  · have hN : cfg0.N = 64 := N_0
    have b0 : (i 0).val < 8192 := (i 0).isLt
    have b1 : (i 1).val < 2048 := (i 1).isLt
    let t : Fin cfg0.N := ⟨(i 0).val / 1024 * 8 + (i 1).val / 1024 * 4 + 3, by omega⟩
    refine ⟨t, (flush0_2 t).mpr (by show ((i 0).val / 1024 * 8 + (i 1).val / 1024 * 4 + 3) % 4 = 3; omega), ?_⟩
    show i ∈ ((View.whole main_v0).slice (win0_2.rect t)).set
    rw [View.set_slice_whole, win0_2.mem_rect_iff]
    intro a
    match a with
    | ⟨0, _⟩ =>
      show win0_2.index t 0 * 1024 ≤ (i 0).val ∧ (i 0).val < win0_2.index t 0 * 1024 + 1024
      rw [index2_0]
      show ((i 0).val / 1024 * 8 + (i 1).val / 1024 * 4 + 3) / 8 * 1024 ≤ _ ∧ _ < ((i 0).val / 1024 * 8 + (i 1).val / 1024 * 4 + 3) / 8 * 1024 + 1024
      omega
    | ⟨1, _⟩ =>
      show win0_2.index t 1 * 1024 ≤ (i 1).val ∧ (i 1).val < win0_2.index t 1 * 1024 + 1024
      rw [index2_1]
      show ((i 0).val / 1024 * 8 + (i 1).val / 1024 * 4 + 3) / 4 % 2 * 1024 ≤ _ ∧ _ < ((i 0).val / 1024 * 8 + (i 1).val / 1024 * 4 + 3) / 4 % 2 * 1024 + 1024
      omega

end kernel

section reference
open Cert.DHnRefIdeal Cert.DHnRefIdeal.Read
variable {x0 : S8192x11264.Idx → EReal} {x1 : S2048x11264.Idx → EReal} {A B : ℕ → ℕ → EReal}

/-- The array the reference leaves. -/
theorem reference (h0 : ∀ i, x0 i = A (i 0).val (i 1).val) (h1 : ∀ i, x1 i = B (i 0).val (i 1).val) (i : S8192x2048.Idx) :
    val_main_v5 (F := Ideal) x0 x1 i = stretch 11264 0 (fun k => A (i 0).val k * B (i 1).val k) := by
  simp only [val_main_v5_apply, val_main_v4_apply, val_main_v3_apply, val_main_v0_apply, Ideal.truncf_def, Ideal.extf_def, Ideal.addf_def, h0, h1]
  exact stretch_first 11264 (fun k => A (i 0).val k * B (i 1).val k)
end reference

/-- The reference ends, keeps its arguments and leaves no signal. -/
theorem reference_frame : Cert.quiescent_DHnRefIdeal := fun m g _ =>
  (θ_run Cert.DHnRefIdeal.defs _ _).mono (fun r h => ⟨fun c => (h c).2, sem_eq_zero_of_no_sems (by decide) r.2⟩)
    (Cert.DHnRefIdeal.Value.run m g)

/-- The two arrays agree. -/
theorem algebraic : Cert.algebraic_DHnIdeal_DHnRefIdeal := by
  intro m g m' g' _ hagree
  refine ⟨_, Cert.DHnIdeal.Value.run_blocks m g, ?_⟩
  refine (θ_run Cert.DHnRefIdeal.defs _ _).mono (fun r h c => ?_) (Cert.DHnRefIdeal.Value.run m' g')
  obtain ⟨a0, a1⟩ := hagree c
  obtain ⟨h0, hk⟩ := h c
  obtain ⟨A, hA⟩ := table (m ((c.tc : Thread Cert.DHnIdeal.nD Cert.DHnIdeal.τ).loc Cert.DHnIdeal.main_arg0))
  obtain ⟨B, hB⟩ := table (m ((c.tc : Thread Cert.DHnIdeal.nD Cert.DHnIdeal.τ).loc Cert.DHnIdeal.main_arg1))
  refine ⟨?_, hk⟩
  rw [h0, Cert.DHnRefIdeal.Read.val_main_v5_eq, a0, a1]
  exact funext fun i => (reference hA hB i).trans (array hA hB i).symm

end DHn
-- ==== Proof.DwGateUp.lean ====
module

public import proofs.«01_k».proof.Defs
public import proofs.«01_k».proof.Proof.Gen.DwGateUp.Frame
public import proofs.«01_k».proof.Proof.Gen.DwGateUpIdeal.Frame
public import proofs.«01_k».proof.Proof.Gen.DwGateUpIdeal.Value
public import proofs.«01_k».proof.Proof.Gen.DwGateUpRefIdeal
public import proofs.«01_k».proof.Proof.Gen.DwGateUpRefIdeal.Run
public import proofs.«01_k».proof.Proof.Gen.DwGateUpRefIdeal.Read
public import proofs.«01_k».proof.Proof.Product
public import Idealize.ShloMosaic.Lib.Pipeline.ValueKit
public import Idealize.ShloMosaic.Lib.Pipeline.ReadBack

/-! The gradient of the gate and up weight: the array the kernel leaves, as the sum of products it is, and that the
reference leaves the same array. -/

@[expose] public section
noncomputable section
namespace DwGateUp
open Idealize.ShloMosaic Idealize.ShloMosaic.TcCoe Idealize.SL.Sem Product

section kernel
open Cert.DwGateUpIdeal Cert.DwGateUpIdeal.Gen
set_option maxHeartbeats 4000000

section block
variable {x0 : Vec Ideal S4096x1024 .bf16} {x1 : Vec Ideal S4096x1024 .bf16} {A B : ℕ → ℕ → EReal}
variable (h0 : ∀ i, x0 i = A (i 0).val (i 1).val) (h1 : ∀ i, x1 i = B (i 0).val (i 1).val)
include h0 h1

/-- The product of two blocks. -/
theorem part (i : S1024x1024.Idx) : k0_pay1 x0 x1 i = stretch 4096 0 fun k => A k (i 0).val * B k (i 1).val := by
  pointwise [k0_pay1]
  simp only [h0, h1]
  exact stretch_first 4096 fun k => A k (i 0).val * B k (i 1).val

/-- What the first point of a run leaves in the accumulator. -/
theorem first {c : Dev nD} {g : grid0.Coords} {a0 : Memref sig .tc .vmem S4096x1024 .bf16} {ha0 : a0.IsWhole} {a1 : Memref sig .tc .vmem S4096x1024 .bf16} {ha1 : a1.IsWhole} {a2 : Memref sig .tc .vmem S1024x1024 .bf16} {ha2 : a2.IsWhole} {a3 : Memref sig .tc .vmem S1024x1024 .f32} {ha3 : a3.IsWhole} {hc} {hc'} {hc''} (i : S1024x1024.Idx) :
    sout0_A_0 (F := Ideal) c g a0 ha0 a1 ha1 a2 ha2 a3 ha3 hc hc' hc'' x0 x1 i = stretch 4096 0 fun k => A k (i 0).val * B k (i 1).val := by
  frame_out [↓View.readCov_skip, ↓View.readCov_fill]
  pointwise [k0_pay2]
  exact part h0 h1 i

/-- What the last point stores in its block. -/
theorem last {c : Dev nD} {g : grid0.Coords} {a0 : Memref sig .tc .vmem S4096x1024 .bf16} {ha0 : a0.IsWhole} {a1 : Memref sig .tc .vmem S4096x1024 .bf16} {ha1 : a1.IsWhole} {a2 : Memref sig .tc .vmem S1024x1024 .bf16} {ha2 : a2.IsWhole} {a3 : Memref sig .tc .vmem S1024x1024 .f32} {ha3 : a3.IsWhole} {hc} {hc'} {hc''} (acc : Vec Ideal S1024x1024 .f32) (i : S1024x1024.Idx) :
    out0_B_2 (F := Ideal) c g a0 ha0 a1 ha1 a2 ha2 a3 ha3 hc hc' hc'' x0 x1 acc i = (acc i + stretch 4096 0 fun k => A k (i 0).val * B k (i 1).val) := by
  frame_out [↓View.readCov_skip, ↓View.readCov_fill]
  pointwise [k0_pay4]
  exact congrArg (fun s => acc i + s) (part h0 h1 i)
end block

variable (m : (ℓ : Loc nD τ sig) → Buf (Elt Ideal) ℓ) (c : Dev nD) {A B : ℕ → ℕ → EReal}

theorem index0_0 : ∀ t : Fin cfg0.N, win0_0.index t 0 = t.val % 2 := by decide +kernel
theorem index0_1 : ∀ t : Fin cfg0.N, win0_0.index t 1 = t.val / 22 := by decide +kernel
theorem index1_0 : ∀ t : Fin cfg0.N, win0_1.index t 0 = t.val % 2 := by decide +kernel
theorem index1_1 : ∀ t : Fin cfg0.N, win0_1.index t 1 = t.val / 2 % 11 := by decide +kernel
theorem index2_0 : ∀ t : Fin cfg0.N, win0_2.index t 0 = t.val / 22 := by decide +kernel
theorem index2_1 : ∀ t : Fin cfg0.N, win0_2.index t 1 = t.val / 2 % 11 := by decide +kernel

variable {m c}
variable (hA : ∀ i : S8192x2048.Idx, V m c main_arg0 i = A (i 0).val (i 1).val) (hB : ∀ i : S8192x11264.Idx, V m c main_arg1 i = B (i 0).val (i 1).val)

include hA in
theorem inA (t : Fin cfg0.N) (i : S4096x1024.Idx) : (iblk m c 0 t : Vec Ideal S4096x1024 .bf16) i = A (t.val % 2 * 4096 + (i 0).val) (t.val / 22 * 1024 + (i 1).val) := by
  refine (hA ((win0_0.rect t).emb i)).trans ?_
  rw [win0_0.rect_emb_val t i 0, index0_0, win0_0.rect_emb_val t i 1, index0_1]
  rfl
include hB in
theorem inB (t : Fin cfg0.N) (i : S4096x1024.Idx) : (iblk m c 1 t : Vec Ideal S4096x1024 .bf16) i = B (t.val % 2 * 4096 + (i 0).val) (t.val / 2 % 11 * 1024 + (i 1).val) := by
  refine (hB ((win0_1.rect t).emb i)).trans ?_
  rw [win0_1.rect_emb_val t i 0, index1_0, win0_1.rect_emb_val t i 1, index1_1]
  rfl

/-- The terms of the sum at place `i` of point `t`'s block. -/
abbrev terms (A B : ℕ → ℕ → EReal) (t : Fin cfg0.N) (i : S1024x1024.Idx) : ℕ → EReal := fun k => A k (t.val / 22 * 1024 + (i 0).val) * B k (t.val / 2 % 11 * 1024 + (i 1).val)

include hA hB

theorem after_first (t : Fin cfg0.N) (h : t.val % 2 = 0) (i : S1024x1024.Idx) :
    (outsAt0 m c t.val t.isLt).2 i = stretch 4096 0 (terms A B t i) := by
  rw [outsAt0_A m c t h (by omega)]
  dsimp only
  refine (first (A := fun r k => A (t.val % 2 * 4096 + r) (t.val / 22 * 1024 + k)) (B := fun r k => B (t.val % 2 * 4096 + r) (t.val / 2 % 11 * 1024 + k)) (inA hA t) (inB hB t) i).trans ?_
  rw [h]
  exact stretch_shift 4096 0 (terms A B t i)

theorem after_last (t : Fin cfg0.N) (h : t.val % 2 = 1) (i : S1024x1024.Idx) :
    (outsAt0 m c t.val t.isLt).1 i = (outsAt0 m c (t.val - 1) (Nat.lt_of_le_of_lt (Nat.sub_le _ _) t.isLt)).2 i + stretch 4096 1 (terms A B t i) := by
  rw [outsAt0_B m c t (by omega) (by omega)]
  dsimp only
  refine (last (A := fun r k => A (t.val % 2 * 4096 + r) (t.val / 22 * 1024 + k)) (B := fun r k => B (t.val % 2 * 4096 + r) (t.val / 2 % 11 * 1024 + k)) (inA hA t) (inB hB t) _ i).trans ?_
  rw [h, ← stretch_shift 4096 1 (terms A B t i)]

omit hA hB in
/-- Two points of one run sum the same terms. -/
theorem terms_same {t s : Fin cfg0.N} (h : t.val / 2 = s.val / 2) (i : S1024x1024.Idx) : terms A B t i = terms A B s i := by
  funext k
  simp only [terms, show t.val / 22 = s.val / 22 by omega, show t.val / 2 % 11 = s.val / 2 % 11 by omega]

/-- The block the last point of a run stores. -/
theorem stored (t : Fin cfg0.N) (h : t.val % 2 = 1) (i : S1024x1024.Idx) :
    (outsAt0 m c t.val t.isLt).1 i = stretch 8192 0 (terms A B t i) := by
  rw [after_last hA hB t h, after_first hA hB ⟨t.val - 1, by omega⟩ (by show (t.val - 1) % 2 = 0; omega),
    terms_same (t := ⟨t.val - 1, by omega⟩) (s := t) (by show (t.val - 1) / 2 = t.val / 2; omega), stretch_two]

/-- The array the kernel leaves. -/
theorem array (i : S2048x11264.Idx) : (dats m 0 c).arrAt 2 cfg0.N i = stretch 8192 0 (fun k => A k (i 0).val * B k (i 1).val) := by
  refine (dats m 0 c).arrAt_forall_of_cover 2 (fun (i : S2048x11264.Idx) (v : EReal) => v = stretch 8192 0 (fun k => A k (i 0).val * B k (i 1).val)) (fun t ht y => ?_) (fun i => ?_) i
  · have e : (dats m 0 c).flushed 2 t y = (outsAt0 m c t.val t.isLt).1 y := congrFun (Cert.DwGateUpIdeal.Value.flushed2 m c t) y
    show (dats m 0 c).flushed 2 t y = stretch 8192 0 (fun k => A k ((win0_2.rect t).emb y 0).val * B k ((win0_2.rect t).emb y 1).val)
    rw [e, win0_2.rect_emb_val t y 0, index2_0, win0_2.rect_emb_val t y 1, index2_1]
    exact stored hA hB t ((flush0_2 t).mp ht) y
  · have hN : cfg0.N = 44 := N_0
    have b0 : (i 0).val < 2048 := (i 0).isLt
    have b1 : (i 1).val < 11264 := (i 1).isLt
    let t : Fin cfg0.N := ⟨(i 0).val / 1024 * 22 + (i 1).val / 1024 * 2 + 1, by omega⟩
    refine ⟨t, (flush0_2 t).mpr (by show ((i 0).val / 1024 * 22 + (i 1).val / 1024 * 2 + 1) % 2 = 1; omega), ?_⟩
    show i ∈ ((View.whole main_v0).slice (win0_2.rect t)).set
    rw [View.set_slice_whole, win0_2.mem_rect_iff]
    intro a
    match a with
    | ⟨0, _⟩ =>
      show win0_2.index t 0 * 1024 ≤ (i 0).val ∧ (i 0).val < win0_2.index t 0 * 1024 + 1024
      rw [index2_0]
      show ((i 0).val / 1024 * 22 + (i 1).val / 1024 * 2 + 1) / 22 * 1024 ≤ _ ∧ _ < ((i 0).val / 1024 * 22 + (i 1).val / 1024 * 2 + 1) / 22 * 1024 + 1024
      omega
    | ⟨1, _⟩ =>
      show win0_2.index t 1 * 1024 ≤ (i 1).val ∧ (i 1).val < win0_2.index t 1 * 1024 + 1024
      rw [index2_1]
      show ((i 0).val / 1024 * 22 + (i 1).val / 1024 * 2 + 1) / 2 % 11 * 1024 ≤ _ ∧ _ < ((i 0).val / 1024 * 22 + (i 1).val / 1024 * 2 + 1) / 2 % 11 * 1024 + 1024
      omega

end kernel

section reference
open Cert.DwGateUpRefIdeal Cert.DwGateUpRefIdeal.Read
variable {x0 : S8192x2048.Idx → EReal} {x1 : S8192x11264.Idx → EReal} {A B : ℕ → ℕ → EReal}

/-- The array the reference leaves. -/
theorem reference (h0 : ∀ i, x0 i = A (i 0).val (i 1).val) (h1 : ∀ i, x1 i = B (i 0).val (i 1).val) (i : S2048x11264.Idx) :
    val_main_v6 (F := Ideal) x0 x1 i = stretch 8192 0 (fun k => A k (i 0).val * B k (i 1).val) := by
  simp only [val_main_v6_apply, val_main_v5_apply, val_main_v4_apply, val_main_v3_apply, val_main_v0_apply, Ideal.truncf_def, Ideal.extf_def, Ideal.addf_def, h0, h1]
  exact (Finset.sum_congr rfl fun k _ => mul_comm _ _).trans (stretch_first 8192 (fun k => A k (i 0).val * B k (i 1).val))
end reference

/-- The reference ends, keeps its arguments and leaves no signal. -/
theorem reference_frame : Cert.quiescent_DwGateUpRefIdeal := fun m g _ =>
  (θ_run Cert.DwGateUpRefIdeal.defs _ _).mono (fun r h => ⟨fun c => (h c).2, sem_eq_zero_of_no_sems (by decide) r.2⟩)
    (Cert.DwGateUpRefIdeal.Value.run m g)

/-- The two arrays agree. -/
theorem algebraic : Cert.algebraic_DwGateUpIdeal_DwGateUpRefIdeal := by
  intro m g m' g' _ hagree
  refine ⟨_, Cert.DwGateUpIdeal.Value.run_blocks m g, ?_⟩
  refine (θ_run Cert.DwGateUpRefIdeal.defs _ _).mono (fun r h c => ?_) (Cert.DwGateUpRefIdeal.Value.run m' g')
  obtain ⟨a0, a1⟩ := hagree c
  obtain ⟨h0, hk⟩ := h c
  obtain ⟨A, hA⟩ := table (m ((c.tc : Thread Cert.DwGateUpIdeal.nD Cert.DwGateUpIdeal.τ).loc Cert.DwGateUpIdeal.main_arg0))
  obtain ⟨B, hB⟩ := table (m ((c.tc : Thread Cert.DwGateUpIdeal.nD Cert.DwGateUpIdeal.τ).loc Cert.DwGateUpIdeal.main_arg1))
  refine ⟨?_, hk⟩
  rw [h0, Cert.DwGateUpRefIdeal.Read.val_main_v6_eq, a0, a1]
  exact funext fun i => (reference hA hB i).trans (array hA hB i).symm

end DwGateUp
-- ==== Proof.DwDown.lean ====
module

public import proofs.«01_k».proof.Defs
public import proofs.«01_k».proof.Proof.Gen.DwDown.Frame
public import proofs.«01_k».proof.Proof.Gen.DwDownIdeal.Frame
public import proofs.«01_k».proof.Proof.Gen.DwDownIdeal.Value
public import proofs.«01_k».proof.Proof.Gen.DwDownRefIdeal
public import proofs.«01_k».proof.Proof.Gen.DwDownRefIdeal.Run
public import proofs.«01_k».proof.Proof.Gen.DwDownRefIdeal.Read
public import proofs.«01_k».proof.Proof.Product
public import Idealize.ShloMosaic.Lib.Pipeline.ValueKit
public import Idealize.ShloMosaic.Lib.Pipeline.ReadBack

/-! The gradient of the down weight: the array the kernel leaves, as the sum of products it is, and that the
reference leaves the same array. -/

@[expose] public section
noncomputable section
namespace DwDown
open Idealize.ShloMosaic Idealize.ShloMosaic.TcCoe Idealize.SL.Sem Product

section kernel
open Cert.DwDownIdeal Cert.DwDownIdeal.Gen
set_option maxHeartbeats 4000000

section block
variable {x0 : Vec Ideal S2048x1408 .bf16} {x1 : Vec Ideal S2048x1024 .bf16} {A B : ℕ → ℕ → EReal}
variable (h0 : ∀ i, x0 i = A (i 0).val (i 1).val) (h1 : ∀ i, x1 i = B (i 0).val (i 1).val)
include h0 h1

/-- The product of two blocks. -/
theorem part (i : S1408x1024.Idx) : k0_pay1 x0 x1 i = stretch 2048 0 fun k => A k (i 0).val * B k (i 1).val := by
  pointwise [k0_pay1]
  simp only [h0, h1]
  exact stretch_first 2048 fun k => A k (i 0).val * B k (i 1).val

/-- What the first point of a run leaves in the accumulator. -/
theorem first {c : Dev nD} {g : grid0.Coords} {a0 : Memref sig .tc .vmem S2048x1408 .bf16} {ha0 : a0.IsWhole} {a1 : Memref sig .tc .vmem S2048x1024 .bf16} {ha1 : a1.IsWhole} {a2 : Memref sig .tc .vmem S1408x1024 .bf16} {ha2 : a2.IsWhole} {a3 : Memref sig .tc .vmem S1408x1024 .f32} {ha3 : a3.IsWhole} {hc} {hc'} {hc''} (i : S1408x1024.Idx) :
    sout0_A_0 (F := Ideal) c g a0 ha0 a1 ha1 a2 ha2 a3 ha3 hc hc' hc'' x0 x1 i = stretch 2048 0 fun k => A k (i 0).val * B k (i 1).val := by
  frame_out [↓View.readCov_skip, ↓View.readCov_fill]
  pointwise [k0_pay2]
  exact part h0 h1 i

/-- What a middle point adds to it. -/
theorem middle {c : Dev nD} {g : grid0.Coords} {a0 : Memref sig .tc .vmem S2048x1408 .bf16} {ha0 : a0.IsWhole} {a1 : Memref sig .tc .vmem S2048x1024 .bf16} {ha1 : a1.IsWhole} {a2 : Memref sig .tc .vmem S1408x1024 .bf16} {ha2 : a2.IsWhole} {a3 : Memref sig .tc .vmem S1408x1024 .f32} {ha3 : a3.IsWhole} {hc} {hc'} {hc''} (acc : Vec Ideal S1408x1024 .f32) (i : S1408x1024.Idx) :
    sout0_B_0 (F := Ideal) c g a0 ha0 a1 ha1 a2 ha2 a3 ha3 hc hc' hc'' x0 x1 acc i = acc i + stretch 2048 0 fun k => A k (i 0).val * B k (i 1).val := by
  frame_out [↓View.readCov_skip, ↓View.readCov_fill]
  pointwise [k0_pay3]
  exact congrArg (acc i + ·) (part h0 h1 i)

/-- What the last point stores in its block. -/
theorem last {c : Dev nD} {g : grid0.Coords} {a0 : Memref sig .tc .vmem S2048x1408 .bf16} {ha0 : a0.IsWhole} {a1 : Memref sig .tc .vmem S2048x1024 .bf16} {ha1 : a1.IsWhole} {a2 : Memref sig .tc .vmem S1408x1024 .bf16} {ha2 : a2.IsWhole} {a3 : Memref sig .tc .vmem S1408x1024 .f32} {ha3 : a3.IsWhole} {hc} {hc'} {hc''} (acc : Vec Ideal S1408x1024 .f32) (i : S1408x1024.Idx) :
    out0_C_2 (F := Ideal) c g a0 ha0 a1 ha1 a2 ha2 a3 ha3 hc hc' hc'' x0 x1 acc i = (acc i + stretch 2048 0 fun k => A k (i 0).val * B k (i 1).val) := by
  frame_out [↓View.readCov_skip, ↓View.readCov_fill]
  pointwise [k0_pay4]
  exact congrArg (fun s => acc i + s) (part h0 h1 i)
end block

variable (m : (ℓ : Loc nD τ sig) → Buf (Elt Ideal) ℓ) (c : Dev nD) {A B : ℕ → ℕ → EReal}

theorem index0_0 : ∀ t : Fin cfg0.N, win0_0.index t 0 = t.val % 4 := by decide +kernel
theorem index0_1 : ∀ t : Fin cfg0.N, win0_0.index t 1 = t.val / 8 := by decide +kernel
theorem index1_0 : ∀ t : Fin cfg0.N, win0_1.index t 0 = t.val % 4 := by decide +kernel
theorem index1_1 : ∀ t : Fin cfg0.N, win0_1.index t 1 = t.val / 4 % 2 := by decide +kernel
theorem index2_0 : ∀ t : Fin cfg0.N, win0_2.index t 0 = t.val / 8 := by decide +kernel
theorem index2_1 : ∀ t : Fin cfg0.N, win0_2.index t 1 = t.val / 4 % 2 := by decide +kernel

variable {m c}
variable (hA : ∀ i : S8192x5632.Idx, V m c main_arg0 i = A (i 0).val (i 1).val) (hB : ∀ i : S8192x2048.Idx, V m c main_arg1 i = B (i 0).val (i 1).val)

include hA in
theorem inA (t : Fin cfg0.N) (i : S2048x1408.Idx) : (iblk m c 0 t : Vec Ideal S2048x1408 .bf16) i = A (t.val % 4 * 2048 + (i 0).val) (t.val / 8 * 1408 + (i 1).val) := by
  refine (hA ((win0_0.rect t).emb i)).trans ?_
  rw [win0_0.rect_emb_val t i 0, index0_0, win0_0.rect_emb_val t i 1, index0_1]
  rfl
include hB in
theorem inB (t : Fin cfg0.N) (i : S2048x1024.Idx) : (iblk m c 1 t : Vec Ideal S2048x1024 .bf16) i = B (t.val % 4 * 2048 + (i 0).val) (t.val / 4 % 2 * 1024 + (i 1).val) := by
  refine (hB ((win0_1.rect t).emb i)).trans ?_
  rw [win0_1.rect_emb_val t i 0, index1_0, win0_1.rect_emb_val t i 1, index1_1]
  rfl

/-- The terms of the sum at place `i` of point `t`'s block. -/
abbrev terms (A B : ℕ → ℕ → EReal) (t : Fin cfg0.N) (i : S1408x1024.Idx) : ℕ → EReal := fun k => A k (t.val / 8 * 1408 + (i 0).val) * B k (t.val / 4 % 2 * 1024 + (i 1).val)

include hA hB

theorem after_first (t : Fin cfg0.N) (h : t.val % 4 = 0) (i : S1408x1024.Idx) :
    (outsAt0 m c t.val t.isLt).2 i = stretch 2048 0 (terms A B t i) := by
  rw [outsAt0_A m c t h (by omega) (by omega)]
  dsimp only
  refine (first (A := fun r k => A (t.val % 4 * 2048 + r) (t.val / 8 * 1408 + k)) (B := fun r k => B (t.val % 4 * 2048 + r) (t.val / 4 % 2 * 1024 + k)) (inA hA t) (inB hB t) i).trans ?_
  rw [h]
  exact stretch_shift 2048 0 (terms A B t i)

theorem after_middle (t : Fin cfg0.N) (q : ℕ) (h : t.val % 4 = q) (hq : 1 ≤ q ∧ q ≤ 2) (i : S1408x1024.Idx) :
    (outsAt0 m c t.val t.isLt).2 i = (outsAt0 m c (t.val - 1) (Nat.lt_of_le_of_lt (Nat.sub_le _ _) t.isLt)).2 i + stretch 2048 q (terms A B t i) := by
  subst h
  rw [outsAt0_B m c t (by omega) (by omega) (by omega)]
  dsimp only
  refine (middle (A := fun r k => A (t.val % 4 * 2048 + r) (t.val / 8 * 1408 + k)) (B := fun r k => B (t.val % 4 * 2048 + r) (t.val / 4 % 2 * 1024 + k)) (inA hA t) (inB hB t) _ i).trans ?_
  rw [← stretch_shift 2048 (t.val % 4) (terms A B t i)]

theorem after_last (t : Fin cfg0.N) (h : t.val % 4 = 3) (i : S1408x1024.Idx) :
    (outsAt0 m c t.val t.isLt).1 i = (outsAt0 m c (t.val - 1) (Nat.lt_of_le_of_lt (Nat.sub_le _ _) t.isLt)).2 i + stretch 2048 3 (terms A B t i) := by
  rw [outsAt0_C m c t (by omega) (by omega) (by omega)]
  dsimp only
  refine (last (A := fun r k => A (t.val % 4 * 2048 + r) (t.val / 8 * 1408 + k)) (B := fun r k => B (t.val % 4 * 2048 + r) (t.val / 4 % 2 * 1024 + k)) (inA hA t) (inB hB t) _ i).trans ?_
  rw [h, ← stretch_shift 2048 3 (terms A B t i)]

omit hA hB in
/-- Two points of one run sum the same terms. -/
theorem terms_same {t s : Fin cfg0.N} (h : t.val / 4 = s.val / 4) (i : S1408x1024.Idx) : terms A B t i = terms A B s i := by
  funext k
  simp only [terms, show t.val / 8 = s.val / 8 by omega, show t.val / 4 % 2 = s.val / 4 % 2 by omega]

/-- The block the last point of a run stores. -/
theorem stored (t : Fin cfg0.N) (h : t.val % 4 = 3) (i : S1408x1024.Idx) :
    (outsAt0 m c t.val t.isLt).1 i = stretch 8192 0 (terms A B t i) := by
  rw [after_last hA hB t h, after_middle hA hB ⟨t.val - 1, by omega⟩ 2 (by show (t.val - 1) % 4 = 2; omega) (by omega),
    after_middle hA hB ⟨t.val - 1 - 1, by omega⟩ 1 (by show (t.val - 1 - 1) % 4 = 1; omega) (by omega),
    after_first hA hB ⟨t.val - 1 - 1 - 1, by omega⟩ (by show (t.val - 1 - 1 - 1) % 4 = 0; omega),
    terms_same (t := ⟨t.val - 1, by omega⟩) (s := t) (by show (t.val - 1) / 4 = t.val / 4; omega),
    terms_same (t := ⟨t.val - 1 - 1, by omega⟩) (s := t) (by show (t.val - 1 - 1) / 4 = t.val / 4; omega),
    terms_same (t := ⟨t.val - 1 - 1 - 1, by omega⟩) (s := t) (by show (t.val - 1 - 1 - 1) / 4 = t.val / 4; omega), stretch_four]

/-- The array the kernel leaves. -/
theorem array (i : S5632x2048.Idx) : (dats m 0 c).arrAt 2 cfg0.N i = stretch 8192 0 (fun k => A k (i 0).val * B k (i 1).val) := by
  refine (dats m 0 c).arrAt_forall_of_cover 2 (fun (i : S5632x2048.Idx) (v : EReal) => v = stretch 8192 0 (fun k => A k (i 0).val * B k (i 1).val)) (fun t ht y => ?_) (fun i => ?_) i
  · have e : (dats m 0 c).flushed 2 t y = (outsAt0 m c t.val t.isLt).1 y := congrFun (Cert.DwDownIdeal.Value.flushed2 m c t) y
    show (dats m 0 c).flushed 2 t y = stretch 8192 0 (fun k => A k ((win0_2.rect t).emb y 0).val * B k ((win0_2.rect t).emb y 1).val)
    rw [e, win0_2.rect_emb_val t y 0, index2_0, win0_2.rect_emb_val t y 1, index2_1]
    exact stored hA hB t ((flush0_2 t).mp ht) y
  · have hN : cfg0.N = 32 := N_0
    have b0 : (i 0).val < 5632 := (i 0).isLt
    have b1 : (i 1).val < 2048 := (i 1).isLt
    let t : Fin cfg0.N := ⟨(i 0).val / 1408 * 8 + (i 1).val / 1024 * 4 + 3, by omega⟩
    refine ⟨t, (flush0_2 t).mpr (by show ((i 0).val / 1408 * 8 + (i 1).val / 1024 * 4 + 3) % 4 = 3; omega), ?_⟩
    show i ∈ ((View.whole main_v0).slice (win0_2.rect t)).set
    rw [View.set_slice_whole, win0_2.mem_rect_iff]
    intro a
    match a with
    | ⟨0, _⟩ =>
      show win0_2.index t 0 * 1408 ≤ (i 0).val ∧ (i 0).val < win0_2.index t 0 * 1408 + 1408
      rw [index2_0]
      show ((i 0).val / 1408 * 8 + (i 1).val / 1024 * 4 + 3) / 8 * 1408 ≤ _ ∧ _ < ((i 0).val / 1408 * 8 + (i 1).val / 1024 * 4 + 3) / 8 * 1408 + 1408
      omega
    | ⟨1, _⟩ =>
      show win0_2.index t 1 * 1024 ≤ (i 1).val ∧ (i 1).val < win0_2.index t 1 * 1024 + 1024
      rw [index2_1]
      show ((i 0).val / 1408 * 8 + (i 1).val / 1024 * 4 + 3) / 4 % 2 * 1024 ≤ _ ∧ _ < ((i 0).val / 1408 * 8 + (i 1).val / 1024 * 4 + 3) / 4 % 2 * 1024 + 1024
      omega

end kernel

section reference
open Cert.DwDownRefIdeal Cert.DwDownRefIdeal.Read
variable {x0 : S8192x5632.Idx → EReal} {x1 : S8192x2048.Idx → EReal} {A B : ℕ → ℕ → EReal}

/-- The array the reference leaves. -/
theorem reference (h0 : ∀ i, x0 i = A (i 0).val (i 1).val) (h1 : ∀ i, x1 i = B (i 0).val (i 1).val) (i : S5632x2048.Idx) :
    val_main_v6 (F := Ideal) x0 x1 i = stretch 8192 0 (fun k => A k (i 0).val * B k (i 1).val) := by
  simp only [val_main_v6_apply, val_main_v5_apply, val_main_v4_apply, val_main_v3_apply, val_main_v0_apply, Ideal.truncf_def, Ideal.extf_def, Ideal.addf_def, h0, h1]
  exact (Finset.sum_congr rfl fun k _ => mul_comm _ _).trans (stretch_first 8192 (fun k => A k (i 0).val * B k (i 1).val))
end reference

/-- The reference ends, keeps its arguments and leaves no signal. -/
theorem reference_frame : Cert.quiescent_DwDownRefIdeal := fun m g _ =>
  (θ_run Cert.DwDownRefIdeal.defs _ _).mono (fun r h => ⟨fun c => (h c).2, sem_eq_zero_of_no_sems (by decide) r.2⟩)
    (Cert.DwDownRefIdeal.Value.run m g)

/-- The two arrays agree. -/
theorem algebraic : Cert.algebraic_DwDownIdeal_DwDownRefIdeal := by
  intro m g m' g' _ hagree
  refine ⟨_, Cert.DwDownIdeal.Value.run_blocks m g, ?_⟩
  refine (θ_run Cert.DwDownRefIdeal.defs _ _).mono (fun r h c => ?_) (Cert.DwDownRefIdeal.Value.run m' g')
  obtain ⟨a0, a1⟩ := hagree c
  obtain ⟨h0, hk⟩ := h c
  obtain ⟨A, hA⟩ := table (m ((c.tc : Thread Cert.DwDownIdeal.nD Cert.DwDownIdeal.τ).loc Cert.DwDownIdeal.main_arg0))
  obtain ⟨B, hB⟩ := table (m ((c.tc : Thread Cert.DwDownIdeal.nD Cert.DwDownIdeal.τ).loc Cert.DwDownIdeal.main_arg1))
  refine ⟨?_, hk⟩
  rw [h0, Cert.DwDownRefIdeal.Read.val_main_v6_eq, a0, a1]
  exact funext fun i => (reference hA hB i).trans (array hA hB i).symm

end DwDown
-- ==== Proof.DwSquare.lean ====
module

public import proofs.«01_k».proof.Defs
public import proofs.«01_k».proof.Proof.Gen.DwSquare.Frame
public import proofs.«01_k».proof.Proof.Gen.DwSquareIdeal.Frame
public import proofs.«01_k».proof.Proof.Gen.DwSquareIdeal.Value
public import proofs.«01_k».proof.Proof.Gen.DwSquareRefIdeal
public import proofs.«01_k».proof.Proof.Gen.DwSquareRefIdeal.Run
public import proofs.«01_k».proof.Proof.Gen.DwSquareRefIdeal.Read
public import proofs.«01_k».proof.Proof.Product
public import Idealize.ShloMosaic.Lib.Pipeline.ValueKit
public import Idealize.ShloMosaic.Lib.Pipeline.ReadBack

/-! The gradient of a square weight: of the output projection, and of the gating unit's part of the input projection: the array the kernel leaves, as the sum of products it is, and that the
reference leaves the same array. -/

@[expose] public section
noncomputable section
namespace DwSquare
open Idealize.ShloMosaic Idealize.ShloMosaic.TcCoe Idealize.SL.Sem Product

section kernel
open Cert.DwSquareIdeal Cert.DwSquareIdeal.Gen
set_option maxHeartbeats 4000000

section block
variable {x0 : Vec Ideal S4096x1024 .bf16} {x1 : Vec Ideal S4096x1024 .bf16} {A B : ℕ → ℕ → EReal}
variable (h0 : ∀ i, x0 i = A (i 0).val (i 1).val) (h1 : ∀ i, x1 i = B (i 0).val (i 1).val)
include h0 h1

/-- The product of two blocks. -/
theorem part (i : S1024x1024.Idx) : k0_pay1 x0 x1 i = stretch 4096 0 fun k => A k (i 0).val * B k (i 1).val := by
  pointwise [k0_pay1]
  simp only [h0, h1]
  exact stretch_first 4096 fun k => A k (i 0).val * B k (i 1).val

/-- What the first point of a run leaves in the accumulator. -/
theorem first {c : Dev nD} {g : grid0.Coords} {a0 : Memref sig .tc .vmem S4096x1024 .bf16} {ha0 : a0.IsWhole} {a1 : Memref sig .tc .vmem S4096x1024 .bf16} {ha1 : a1.IsWhole} {a2 : Memref sig .tc .vmem S1024x1024 .bf16} {ha2 : a2.IsWhole} {a3 : Memref sig .tc .vmem S1024x1024 .f32} {ha3 : a3.IsWhole} {hc} {hc'} {hc''} (i : S1024x1024.Idx) :
    sout0_A_0 (F := Ideal) c g a0 ha0 a1 ha1 a2 ha2 a3 ha3 hc hc' hc'' x0 x1 i = stretch 4096 0 fun k => A k (i 0).val * B k (i 1).val := by
  frame_out [↓View.readCov_skip, ↓View.readCov_fill]
  pointwise [k0_pay2]
  exact part h0 h1 i

/-- What the last point stores in its block. -/
theorem last {c : Dev nD} {g : grid0.Coords} {a0 : Memref sig .tc .vmem S4096x1024 .bf16} {ha0 : a0.IsWhole} {a1 : Memref sig .tc .vmem S4096x1024 .bf16} {ha1 : a1.IsWhole} {a2 : Memref sig .tc .vmem S1024x1024 .bf16} {ha2 : a2.IsWhole} {a3 : Memref sig .tc .vmem S1024x1024 .f32} {ha3 : a3.IsWhole} {hc} {hc'} {hc''} (acc : Vec Ideal S1024x1024 .f32) (i : S1024x1024.Idx) :
    out0_B_2 (F := Ideal) c g a0 ha0 a1 ha1 a2 ha2 a3 ha3 hc hc' hc'' x0 x1 acc i = (acc i + stretch 4096 0 fun k => A k (i 0).val * B k (i 1).val) := by
  frame_out [↓View.readCov_skip, ↓View.readCov_fill]
  pointwise [k0_pay4]
  exact congrArg (fun s => acc i + s) (part h0 h1 i)
end block

variable (m : (ℓ : Loc nD τ sig) → Buf (Elt Ideal) ℓ) (c : Dev nD) {A B : ℕ → ℕ → EReal}

theorem index0_0 : ∀ t : Fin cfg0.N, win0_0.index t 0 = t.val % 2 := by decide +kernel
theorem index0_1 : ∀ t : Fin cfg0.N, win0_0.index t 1 = t.val / 4 := by decide +kernel
theorem index1_0 : ∀ t : Fin cfg0.N, win0_1.index t 0 = t.val % 2 := by decide +kernel
theorem index1_1 : ∀ t : Fin cfg0.N, win0_1.index t 1 = t.val / 2 % 2 := by decide +kernel
theorem index2_0 : ∀ t : Fin cfg0.N, win0_2.index t 0 = t.val / 4 := by decide +kernel
theorem index2_1 : ∀ t : Fin cfg0.N, win0_2.index t 1 = t.val / 2 % 2 := by decide +kernel

variable {m c}
variable (hA : ∀ i : S8192x2048.Idx, V m c main_arg0 i = A (i 0).val (i 1).val) (hB : ∀ i : S8192x2048.Idx, V m c main_arg1 i = B (i 0).val (i 1).val)

include hA in
theorem inA (t : Fin cfg0.N) (i : S4096x1024.Idx) : (iblk m c 0 t : Vec Ideal S4096x1024 .bf16) i = A (t.val % 2 * 4096 + (i 0).val) (t.val / 4 * 1024 + (i 1).val) := by
  refine (hA ((win0_0.rect t).emb i)).trans ?_
  rw [win0_0.rect_emb_val t i 0, index0_0, win0_0.rect_emb_val t i 1, index0_1]
  rfl
include hB in
theorem inB (t : Fin cfg0.N) (i : S4096x1024.Idx) : (iblk m c 1 t : Vec Ideal S4096x1024 .bf16) i = B (t.val % 2 * 4096 + (i 0).val) (t.val / 2 % 2 * 1024 + (i 1).val) := by
  refine (hB ((win0_1.rect t).emb i)).trans ?_
  rw [win0_1.rect_emb_val t i 0, index1_0, win0_1.rect_emb_val t i 1, index1_1]
  rfl

/-- The terms of the sum at place `i` of point `t`'s block. -/
abbrev terms (A B : ℕ → ℕ → EReal) (t : Fin cfg0.N) (i : S1024x1024.Idx) : ℕ → EReal := fun k => A k (t.val / 4 * 1024 + (i 0).val) * B k (t.val / 2 % 2 * 1024 + (i 1).val)

include hA hB

theorem after_first (t : Fin cfg0.N) (h : t.val % 2 = 0) (i : S1024x1024.Idx) :
    (outsAt0 m c t.val t.isLt).2 i = stretch 4096 0 (terms A B t i) := by
  rw [outsAt0_A m c t h (by omega)]
  dsimp only
  refine (first (A := fun r k => A (t.val % 2 * 4096 + r) (t.val / 4 * 1024 + k)) (B := fun r k => B (t.val % 2 * 4096 + r) (t.val / 2 % 2 * 1024 + k)) (inA hA t) (inB hB t) i).trans ?_
  rw [h]
  exact stretch_shift 4096 0 (terms A B t i)

theorem after_last (t : Fin cfg0.N) (h : t.val % 2 = 1) (i : S1024x1024.Idx) :
    (outsAt0 m c t.val t.isLt).1 i = (outsAt0 m c (t.val - 1) (Nat.lt_of_le_of_lt (Nat.sub_le _ _) t.isLt)).2 i + stretch 4096 1 (terms A B t i) := by
  rw [outsAt0_B m c t (by omega) (by omega)]
  dsimp only
  refine (last (A := fun r k => A (t.val % 2 * 4096 + r) (t.val / 4 * 1024 + k)) (B := fun r k => B (t.val % 2 * 4096 + r) (t.val / 2 % 2 * 1024 + k)) (inA hA t) (inB hB t) _ i).trans ?_
  rw [h, ← stretch_shift 4096 1 (terms A B t i)]

omit hA hB in
/-- Two points of one run sum the same terms. -/
theorem terms_same {t s : Fin cfg0.N} (h : t.val / 2 = s.val / 2) (i : S1024x1024.Idx) : terms A B t i = terms A B s i := by
  funext k
  simp only [terms, show t.val / 4 = s.val / 4 by omega, show t.val / 2 % 2 = s.val / 2 % 2 by omega]

/-- The block the last point of a run stores. -/
theorem stored (t : Fin cfg0.N) (h : t.val % 2 = 1) (i : S1024x1024.Idx) :
    (outsAt0 m c t.val t.isLt).1 i = stretch 8192 0 (terms A B t i) := by
  rw [after_last hA hB t h, after_first hA hB ⟨t.val - 1, by omega⟩ (by show (t.val - 1) % 2 = 0; omega),
    terms_same (t := ⟨t.val - 1, by omega⟩) (s := t) (by show (t.val - 1) / 2 = t.val / 2; omega), stretch_two]

/-- The array the kernel leaves. -/
theorem array (i : S2048x2048.Idx) : (dats m 0 c).arrAt 2 cfg0.N i = stretch 8192 0 (fun k => A k (i 0).val * B k (i 1).val) := by
  refine (dats m 0 c).arrAt_forall_of_cover 2 (fun (i : S2048x2048.Idx) (v : EReal) => v = stretch 8192 0 (fun k => A k (i 0).val * B k (i 1).val)) (fun t ht y => ?_) (fun i => ?_) i
  · have e : (dats m 0 c).flushed 2 t y = (outsAt0 m c t.val t.isLt).1 y := congrFun (Cert.DwSquareIdeal.Value.flushed2 m c t) y
    show (dats m 0 c).flushed 2 t y = stretch 8192 0 (fun k => A k ((win0_2.rect t).emb y 0).val * B k ((win0_2.rect t).emb y 1).val)
    rw [e, win0_2.rect_emb_val t y 0, index2_0, win0_2.rect_emb_val t y 1, index2_1]
    exact stored hA hB t ((flush0_2 t).mp ht) y
  · have hN : cfg0.N = 8 := N_0
    have b0 : (i 0).val < 2048 := (i 0).isLt
    have b1 : (i 1).val < 2048 := (i 1).isLt
    let t : Fin cfg0.N := ⟨(i 0).val / 1024 * 4 + (i 1).val / 1024 * 2 + 1, by omega⟩
    refine ⟨t, (flush0_2 t).mpr (by show ((i 0).val / 1024 * 4 + (i 1).val / 1024 * 2 + 1) % 2 = 1; omega), ?_⟩
    show i ∈ ((View.whole main_v0).slice (win0_2.rect t)).set
    rw [View.set_slice_whole, win0_2.mem_rect_iff]
    intro a
    match a with
    | ⟨0, _⟩ =>
      show win0_2.index t 0 * 1024 ≤ (i 0).val ∧ (i 0).val < win0_2.index t 0 * 1024 + 1024
      rw [index2_0]
      show ((i 0).val / 1024 * 4 + (i 1).val / 1024 * 2 + 1) / 4 * 1024 ≤ _ ∧ _ < ((i 0).val / 1024 * 4 + (i 1).val / 1024 * 2 + 1) / 4 * 1024 + 1024
      omega
    | ⟨1, _⟩ =>
      show win0_2.index t 1 * 1024 ≤ (i 1).val ∧ (i 1).val < win0_2.index t 1 * 1024 + 1024
      rw [index2_1]
      show ((i 0).val / 1024 * 4 + (i 1).val / 1024 * 2 + 1) / 2 % 2 * 1024 ≤ _ ∧ _ < ((i 0).val / 1024 * 4 + (i 1).val / 1024 * 2 + 1) / 2 % 2 * 1024 + 1024
      omega

end kernel

section reference
open Cert.DwSquareRefIdeal Cert.DwSquareRefIdeal.Read
variable {x0 : S8192x2048.Idx → EReal} {x1 : S8192x2048.Idx → EReal} {A B : ℕ → ℕ → EReal}

/-- The array the reference leaves. -/
theorem reference (h0 : ∀ i, x0 i = A (i 0).val (i 1).val) (h1 : ∀ i, x1 i = B (i 0).val (i 1).val) (i : S2048x2048.Idx) :
    val_main_v6 (F := Ideal) x0 x1 i = stretch 8192 0 (fun k => A k (i 0).val * B k (i 1).val) := by
  simp only [val_main_v6_apply, val_main_v5_apply, val_main_v4_apply, val_main_v3_apply, val_main_v0_apply, Ideal.truncf_def, Ideal.extf_def, Ideal.addf_def, h0, h1]
  exact (Finset.sum_congr rfl fun k _ => mul_comm _ _).trans (stretch_first 8192 (fun k => A k (i 0).val * B k (i 1).val))
end reference

/-- The reference ends, keeps its arguments and leaves no signal. -/
theorem reference_frame : Cert.quiescent_DwSquareRefIdeal := fun m g _ =>
  (θ_run Cert.DwSquareRefIdeal.defs _ _).mono (fun r h => ⟨fun c => (h c).2, sem_eq_zero_of_no_sems (by decide) r.2⟩)
    (Cert.DwSquareRefIdeal.Value.run m g)

/-- The two arrays agree. -/
theorem algebraic : Cert.algebraic_DwSquareIdeal_DwSquareRefIdeal := by
  intro m g m' g' _ hagree
  refine ⟨_, Cert.DwSquareIdeal.Value.run_blocks m g, ?_⟩
  refine (θ_run Cert.DwSquareRefIdeal.defs _ _).mono (fun r h c => ?_) (Cert.DwSquareRefIdeal.Value.run m' g')
  obtain ⟨a0, a1⟩ := hagree c
  obtain ⟨h0, hk⟩ := h c
  obtain ⟨A, hA⟩ := table (m ((c.tc : Thread Cert.DwSquareIdeal.nD Cert.DwSquareIdeal.τ).loc Cert.DwSquareIdeal.main_arg0))
  obtain ⟨B, hB⟩ := table (m ((c.tc : Thread Cert.DwSquareIdeal.nD Cert.DwSquareIdeal.τ).loc Cert.DwSquareIdeal.main_arg1))
  refine ⟨?_, hk⟩
  rw [h0, Cert.DwSquareRefIdeal.Read.val_main_v6_eq, a0, a1]
  exact funext fun i => (reference hA hB i).trans (array hA hB i).symm

end DwSquare
-- ==== Proof.DwG.lean ====
module

public import proofs.«01_k».proof.Defs
public import proofs.«01_k».proof.Proof.Gen.DwG.Frame
public import proofs.«01_k».proof.Proof.Gen.DwGIdeal.Frame
public import proofs.«01_k».proof.Proof.Gen.DwGIdeal.Value
public import proofs.«01_k».proof.Proof.Gen.DwGRefIdeal
public import proofs.«01_k».proof.Proof.Gen.DwGRefIdeal.Run
public import proofs.«01_k».proof.Proof.Gen.DwGRefIdeal.Read
public import proofs.«01_k».proof.Proof.Product
public import Idealize.ShloMosaic.Lib.Pipeline.ValueKit
public import Idealize.ShloMosaic.Lib.Pipeline.ReadBack

/-! The gradient of the gates' part of the input projection: the array the kernel leaves, as the sum of products it is, and that the
reference leaves the same array. -/

@[expose] public section
noncomputable section
namespace DwG
open Idealize.ShloMosaic Idealize.ShloMosaic.TcCoe Idealize.SL.Sem Product

section kernel
open Cert.DwGIdeal Cert.DwGIdeal.Gen
set_option maxHeartbeats 4000000

section block
variable {x0 : Vec Ideal S4096x1024 .bf16} {x1 : Vec Ideal S4096x1024 .bf16} {A B : ℕ → ℕ → EReal}
variable (h0 : ∀ i, x0 i = A (i 0).val (i 1).val) (h1 : ∀ i, x1 i = B (i 0).val (i 1).val)
include h0 h1

/-- The product of two blocks. -/
theorem part (i : S1024x1024.Idx) : k0_pay1 x0 x1 i = stretch 4096 0 fun k => A k (i 0).val * B k (i 1).val := by
  pointwise [k0_pay1]
  simp only [h0, h1]
  exact stretch_first 4096 fun k => A k (i 0).val * B k (i 1).val

/-- What the first point of a run leaves in the accumulator. -/
theorem first {c : Dev nD} {g : grid0.Coords} {a0 : Memref sig .tc .vmem S4096x1024 .bf16} {ha0 : a0.IsWhole} {a1 : Memref sig .tc .vmem S4096x1024 .bf16} {ha1 : a1.IsWhole} {a2 : Memref sig .tc .vmem S1024x1024 .bf16} {ha2 : a2.IsWhole} {a3 : Memref sig .tc .vmem S1024x1024 .f32} {ha3 : a3.IsWhole} {hc} {hc'} {hc''} (i : S1024x1024.Idx) :
    sout0_A_0 (F := Ideal) c g a0 ha0 a1 ha1 a2 ha2 a3 ha3 hc hc' hc'' x0 x1 i = stretch 4096 0 fun k => A k (i 0).val * B k (i 1).val := by
  frame_out [↓View.readCov_skip, ↓View.readCov_fill]
  pointwise [k0_pay2]
  exact part h0 h1 i

/-- What the last point stores in its block. -/
theorem last {c : Dev nD} {g : grid0.Coords} {a0 : Memref sig .tc .vmem S4096x1024 .bf16} {ha0 : a0.IsWhole} {a1 : Memref sig .tc .vmem S4096x1024 .bf16} {ha1 : a1.IsWhole} {a2 : Memref sig .tc .vmem S1024x1024 .bf16} {ha2 : a2.IsWhole} {a3 : Memref sig .tc .vmem S1024x1024 .f32} {ha3 : a3.IsWhole} {hc} {hc'} {hc''} (acc : Vec Ideal S1024x1024 .f32) (i : S1024x1024.Idx) :
    out0_B_2 (F := Ideal) c g a0 ha0 a1 ha1 a2 ha2 a3 ha3 hc hc' hc'' x0 x1 acc i = (acc i + stretch 4096 0 fun k => A k (i 0).val * B k (i 1).val) := by
  frame_out [↓View.readCov_skip, ↓View.readCov_fill]
  pointwise [k0_pay4]
  exact congrArg (fun s => acc i + s) (part h0 h1 i)
end block

variable (m : (ℓ : Loc nD τ sig) → Buf (Elt Ideal) ℓ) (c : Dev nD) {A B : ℕ → ℕ → EReal}

theorem index0_0 : ∀ t : Fin cfg0.N, win0_0.index t 0 = t.val % 2 := by decide +kernel
theorem index0_1 : ∀ t : Fin cfg0.N, win0_0.index t 1 = t.val / 4 := by decide +kernel
theorem index1_0 : ∀ t : Fin cfg0.N, win0_1.index t 0 = t.val % 2 := by decide +kernel
theorem index1_1 : ∀ t : Fin cfg0.N, win0_1.index t 1 = t.val / 2 % 2 := by decide +kernel
theorem index2_0 : ∀ t : Fin cfg0.N, win0_2.index t 0 = t.val / 4 := by decide +kernel
theorem index2_1 : ∀ t : Fin cfg0.N, win0_2.index t 1 = t.val / 2 % 2 := by decide +kernel

variable {m c}
variable (hA : ∀ i : S8192x4096.Idx, V m c main_arg0 i = A (i 0).val (i 1).val) (hB : ∀ i : S8192x2048.Idx, V m c main_arg1 i = B (i 0).val (i 1).val)

include hA in
theorem inA (t : Fin cfg0.N) (i : S4096x1024.Idx) : (iblk m c 0 t : Vec Ideal S4096x1024 .bf16) i = A (t.val % 2 * 4096 + (i 0).val) (t.val / 4 * 1024 + (i 1).val) := by
  refine (hA ((win0_0.rect t).emb i)).trans ?_
  rw [win0_0.rect_emb_val t i 0, index0_0, win0_0.rect_emb_val t i 1, index0_1]
  rfl
include hB in
theorem inB (t : Fin cfg0.N) (i : S4096x1024.Idx) : (iblk m c 1 t : Vec Ideal S4096x1024 .bf16) i = B (t.val % 2 * 4096 + (i 0).val) (t.val / 2 % 2 * 1024 + (i 1).val) := by
  refine (hB ((win0_1.rect t).emb i)).trans ?_
  rw [win0_1.rect_emb_val t i 0, index1_0, win0_1.rect_emb_val t i 1, index1_1]
  rfl

/-- The terms of the sum at place `i` of point `t`'s block. -/
abbrev terms (A B : ℕ → ℕ → EReal) (t : Fin cfg0.N) (i : S1024x1024.Idx) : ℕ → EReal := fun k => A k (t.val / 4 * 1024 + (i 0).val) * B k (t.val / 2 % 2 * 1024 + (i 1).val)

include hA hB

theorem after_first (t : Fin cfg0.N) (h : t.val % 2 = 0) (i : S1024x1024.Idx) :
    (outsAt0 m c t.val t.isLt).2 i = stretch 4096 0 (terms A B t i) := by
  rw [outsAt0_A m c t h (by omega)]
  dsimp only
  refine (first (A := fun r k => A (t.val % 2 * 4096 + r) (t.val / 4 * 1024 + k)) (B := fun r k => B (t.val % 2 * 4096 + r) (t.val / 2 % 2 * 1024 + k)) (inA hA t) (inB hB t) i).trans ?_
  rw [h]
  exact stretch_shift 4096 0 (terms A B t i)

theorem after_last (t : Fin cfg0.N) (h : t.val % 2 = 1) (i : S1024x1024.Idx) :
    (outsAt0 m c t.val t.isLt).1 i = (outsAt0 m c (t.val - 1) (Nat.lt_of_le_of_lt (Nat.sub_le _ _) t.isLt)).2 i + stretch 4096 1 (terms A B t i) := by
  rw [outsAt0_B m c t (by omega) (by omega)]
  dsimp only
  refine (last (A := fun r k => A (t.val % 2 * 4096 + r) (t.val / 4 * 1024 + k)) (B := fun r k => B (t.val % 2 * 4096 + r) (t.val / 2 % 2 * 1024 + k)) (inA hA t) (inB hB t) _ i).trans ?_
  rw [h, ← stretch_shift 4096 1 (terms A B t i)]

omit hA hB in
/-- Two points of one run sum the same terms. -/
theorem terms_same {t s : Fin cfg0.N} (h : t.val / 2 = s.val / 2) (i : S1024x1024.Idx) : terms A B t i = terms A B s i := by
  funext k
  simp only [terms, show t.val / 4 = s.val / 4 by omega, show t.val / 2 % 2 = s.val / 2 % 2 by omega]

/-- The block the last point of a run stores. -/
theorem stored (t : Fin cfg0.N) (h : t.val % 2 = 1) (i : S1024x1024.Idx) :
    (outsAt0 m c t.val t.isLt).1 i = stretch 8192 0 (terms A B t i) := by
  rw [after_last hA hB t h, after_first hA hB ⟨t.val - 1, by omega⟩ (by show (t.val - 1) % 2 = 0; omega),
    terms_same (t := ⟨t.val - 1, by omega⟩) (s := t) (by show (t.val - 1) / 2 = t.val / 2; omega), stretch_two]

/-- The array the kernel leaves. -/
theorem array (i : S4096x2048.Idx) : (dats m 0 c).arrAt 2 cfg0.N i = stretch 8192 0 (fun k => A k (i 0).val * B k (i 1).val) := by
  refine (dats m 0 c).arrAt_forall_of_cover 2 (fun (i : S4096x2048.Idx) (v : EReal) => v = stretch 8192 0 (fun k => A k (i 0).val * B k (i 1).val)) (fun t ht y => ?_) (fun i => ?_) i
  · have e : (dats m 0 c).flushed 2 t y = (outsAt0 m c t.val t.isLt).1 y := congrFun (Cert.DwGIdeal.Value.flushed2 m c t) y
    show (dats m 0 c).flushed 2 t y = stretch 8192 0 (fun k => A k ((win0_2.rect t).emb y 0).val * B k ((win0_2.rect t).emb y 1).val)
    rw [e, win0_2.rect_emb_val t y 0, index2_0, win0_2.rect_emb_val t y 1, index2_1]
    exact stored hA hB t ((flush0_2 t).mp ht) y
  · have hN : cfg0.N = 16 := N_0
    have b0 : (i 0).val < 4096 := (i 0).isLt
    have b1 : (i 1).val < 2048 := (i 1).isLt
    let t : Fin cfg0.N := ⟨(i 0).val / 1024 * 4 + (i 1).val / 1024 * 2 + 1, by omega⟩
    refine ⟨t, (flush0_2 t).mpr (by show ((i 0).val / 1024 * 4 + (i 1).val / 1024 * 2 + 1) % 2 = 1; omega), ?_⟩
    show i ∈ ((View.whole main_v0).slice (win0_2.rect t)).set
    rw [View.set_slice_whole, win0_2.mem_rect_iff]
    intro a
    match a with
    | ⟨0, _⟩ =>
      show win0_2.index t 0 * 1024 ≤ (i 0).val ∧ (i 0).val < win0_2.index t 0 * 1024 + 1024
      rw [index2_0]
      show ((i 0).val / 1024 * 4 + (i 1).val / 1024 * 2 + 1) / 4 * 1024 ≤ _ ∧ _ < ((i 0).val / 1024 * 4 + (i 1).val / 1024 * 2 + 1) / 4 * 1024 + 1024
      omega
    | ⟨1, _⟩ =>
      show win0_2.index t 1 * 1024 ≤ (i 1).val ∧ (i 1).val < win0_2.index t 1 * 1024 + 1024
      rw [index2_1]
      show ((i 0).val / 1024 * 4 + (i 1).val / 1024 * 2 + 1) / 2 % 2 * 1024 ≤ _ ∧ _ < ((i 0).val / 1024 * 4 + (i 1).val / 1024 * 2 + 1) / 2 % 2 * 1024 + 1024
      omega

end kernel

section reference
open Cert.DwGRefIdeal Cert.DwGRefIdeal.Read
variable {x0 : S8192x4096.Idx → EReal} {x1 : S8192x2048.Idx → EReal} {A B : ℕ → ℕ → EReal}

/-- The array the reference leaves. -/
theorem reference (h0 : ∀ i, x0 i = A (i 0).val (i 1).val) (h1 : ∀ i, x1 i = B (i 0).val (i 1).val) (i : S4096x2048.Idx) :
    val_main_v5 (F := Ideal) x0 x1 i = stretch 8192 0 (fun k => A k (i 0).val * B k (i 1).val) := by
  simp only [val_main_v5_apply, val_main_v4_apply, val_main_v3_apply, val_main_v0_apply, Ideal.truncf_def, Ideal.extf_def, Ideal.addf_def, h0, h1]
  exact stretch_first 8192 (fun k => A k (i 0).val * B k (i 1).val)
end reference

/-- The reference ends, keeps its arguments and leaves no signal. -/
theorem reference_frame : Cert.quiescent_DwGRefIdeal := fun m g _ =>
  (θ_run Cert.DwGRefIdeal.defs _ _).mono (fun r h => ⟨fun c => (h c).2, sem_eq_zero_of_no_sems (by decide) r.2⟩)
    (Cert.DwGRefIdeal.Value.run m g)

/-- The two arrays agree. -/
theorem algebraic : Cert.algebraic_DwGIdeal_DwGRefIdeal := by
  intro m g m' g' _ hagree
  refine ⟨_, Cert.DwGIdeal.Value.run_blocks m g, ?_⟩
  refine (θ_run Cert.DwGRefIdeal.defs _ _).mono (fun r h c => ?_) (Cert.DwGRefIdeal.Value.run m' g')
  obtain ⟨a0, a1⟩ := hagree c
  obtain ⟨h0, hk⟩ := h c
  obtain ⟨A, hA⟩ := table (m ((c.tc : Thread Cert.DwGIdeal.nD Cert.DwGIdeal.τ).loc Cert.DwGIdeal.main_arg0))
  obtain ⟨B, hB⟩ := table (m ((c.tc : Thread Cert.DwGIdeal.nD Cert.DwGIdeal.τ).loc Cert.DwGIdeal.main_arg1))
  refine ⟨?_, hk⟩
  rw [h0, Cert.DwGRefIdeal.Read.val_main_v5_eq, a0, a1]
  exact funext fun i => (reference hA hB i).trans (array hA hB i).symm

end DwG
-- ==== Proof.DwQkv.lean ====
module

public import proofs.«01_k».proof.Defs
public import proofs.«01_k».proof.Proof.Gen.DwQkv.Frame
public import proofs.«01_k».proof.Proof.Gen.DwQkvIdeal.Frame
public import proofs.«01_k».proof.Proof.Gen.DwQkvIdeal.Value
public import proofs.«01_k».proof.Proof.Gen.DwQkvRefIdeal
public import proofs.«01_k».proof.Proof.Gen.DwQkvRefIdeal.Run
public import proofs.«01_k».proof.Proof.Gen.DwQkvRefIdeal.Read
public import proofs.«01_k».proof.Proof.Product
public import Idealize.ShloMosaic.Lib.Pipeline.ValueKit
public import Idealize.ShloMosaic.Lib.Pipeline.ReadBack

/-! The gradient of the attention's part of the input projection: the array the kernel leaves, as the sum of products it is, and that the
reference leaves the same array. -/

@[expose] public section
noncomputable section
namespace DwQkv
open Idealize.ShloMosaic Idealize.ShloMosaic.TcCoe Idealize.SL.Sem Product

section kernel
open Cert.DwQkvIdeal Cert.DwQkvIdeal.Gen
set_option maxHeartbeats 4000000

section block
variable {x0 : Vec Ideal S4096x768 .bf16} {x1 : Vec Ideal S4096x1024 .bf16} {A B : ℕ → ℕ → EReal}
variable (h0 : ∀ i, x0 i = A (i 0).val (i 1).val) (h1 : ∀ i, x1 i = B (i 0).val (i 1).val)
include h0 h1

/-- The product of two blocks. -/
theorem part (i : S768x1024.Idx) : k0_pay1 x0 x1 i = stretch 4096 0 fun k => A k (i 0).val * B k (i 1).val := by
  pointwise [k0_pay1]
  simp only [h0, h1]
  exact stretch_first 4096 fun k => A k (i 0).val * B k (i 1).val

/-- What the first point of a run leaves in the accumulator. -/
theorem first {c : Dev nD} {g : grid0.Coords} {a0 : Memref sig .tc .vmem S4096x768 .bf16} {ha0 : a0.IsWhole} {a1 : Memref sig .tc .vmem S4096x1024 .bf16} {ha1 : a1.IsWhole} {a2 : Memref sig .tc .vmem S768x1024 .bf16} {ha2 : a2.IsWhole} {a3 : Memref sig .tc .vmem S768x1024 .f32} {ha3 : a3.IsWhole} {hc} {hc'} {hc''} (i : S768x1024.Idx) :
    sout0_A_0 (F := Ideal) c g a0 ha0 a1 ha1 a2 ha2 a3 ha3 hc hc' hc'' x0 x1 i = stretch 4096 0 fun k => A k (i 0).val * B k (i 1).val := by
  frame_out [↓View.readCov_skip, ↓View.readCov_fill]
  pointwise [k0_pay2]
  exact part h0 h1 i

/-- What the last point stores in its block. -/
theorem last {c : Dev nD} {g : grid0.Coords} {a0 : Memref sig .tc .vmem S4096x768 .bf16} {ha0 : a0.IsWhole} {a1 : Memref sig .tc .vmem S4096x1024 .bf16} {ha1 : a1.IsWhole} {a2 : Memref sig .tc .vmem S768x1024 .bf16} {ha2 : a2.IsWhole} {a3 : Memref sig .tc .vmem S768x1024 .f32} {ha3 : a3.IsWhole} {hc} {hc'} {hc''} (acc : Vec Ideal S768x1024 .f32) (i : S768x1024.Idx) :
    out0_B_2 (F := Ideal) c g a0 ha0 a1 ha1 a2 ha2 a3 ha3 hc hc' hc'' x0 x1 acc i = (acc i + stretch 4096 0 fun k => A k (i 0).val * B k (i 1).val) := by
  frame_out [↓View.readCov_skip, ↓View.readCov_fill]
  pointwise [k0_pay4]
  exact congrArg (fun s => acc i + s) (part h0 h1 i)
end block

variable (m : (ℓ : Loc nD τ sig) → Buf (Elt Ideal) ℓ) (c : Dev nD) {A B : ℕ → ℕ → EReal}

theorem index0_0 : ∀ t : Fin cfg0.N, win0_0.index t 0 = t.val % 2 := by decide +kernel
theorem index0_1 : ∀ t : Fin cfg0.N, win0_0.index t 1 = t.val / 4 := by decide +kernel
theorem index1_0 : ∀ t : Fin cfg0.N, win0_1.index t 0 = t.val % 2 := by decide +kernel
theorem index1_1 : ∀ t : Fin cfg0.N, win0_1.index t 1 = t.val / 2 % 2 := by decide +kernel
theorem index2_0 : ∀ t : Fin cfg0.N, win0_2.index t 0 = t.val / 4 := by decide +kernel
theorem index2_1 : ∀ t : Fin cfg0.N, win0_2.index t 1 = t.val / 2 % 2 := by decide +kernel

variable {m c}
variable (hA : ∀ i : S8192x1536.Idx, V m c main_arg0 i = A (i 0).val (i 1).val) (hB : ∀ i : S8192x2048.Idx, V m c main_arg1 i = B (i 0).val (i 1).val)

include hA in
theorem inA (t : Fin cfg0.N) (i : S4096x768.Idx) : (iblk m c 0 t : Vec Ideal S4096x768 .bf16) i = A (t.val % 2 * 4096 + (i 0).val) (t.val / 4 * 768 + (i 1).val) := by
  refine (hA ((win0_0.rect t).emb i)).trans ?_
  rw [win0_0.rect_emb_val t i 0, index0_0, win0_0.rect_emb_val t i 1, index0_1]
  rfl
include hB in
theorem inB (t : Fin cfg0.N) (i : S4096x1024.Idx) : (iblk m c 1 t : Vec Ideal S4096x1024 .bf16) i = B (t.val % 2 * 4096 + (i 0).val) (t.val / 2 % 2 * 1024 + (i 1).val) := by
  refine (hB ((win0_1.rect t).emb i)).trans ?_
  rw [win0_1.rect_emb_val t i 0, index1_0, win0_1.rect_emb_val t i 1, index1_1]
  rfl

/-- The terms of the sum at place `i` of point `t`'s block. -/
abbrev terms (A B : ℕ → ℕ → EReal) (t : Fin cfg0.N) (i : S768x1024.Idx) : ℕ → EReal := fun k => A k (t.val / 4 * 768 + (i 0).val) * B k (t.val / 2 % 2 * 1024 + (i 1).val)

include hA hB

theorem after_first (t : Fin cfg0.N) (h : t.val % 2 = 0) (i : S768x1024.Idx) :
    (outsAt0 m c t.val t.isLt).2 i = stretch 4096 0 (terms A B t i) := by
  rw [outsAt0_A m c t h (by omega)]
  dsimp only
  refine (first (A := fun r k => A (t.val % 2 * 4096 + r) (t.val / 4 * 768 + k)) (B := fun r k => B (t.val % 2 * 4096 + r) (t.val / 2 % 2 * 1024 + k)) (inA hA t) (inB hB t) i).trans ?_
  rw [h]
  exact stretch_shift 4096 0 (terms A B t i)

theorem after_last (t : Fin cfg0.N) (h : t.val % 2 = 1) (i : S768x1024.Idx) :
    (outsAt0 m c t.val t.isLt).1 i = (outsAt0 m c (t.val - 1) (Nat.lt_of_le_of_lt (Nat.sub_le _ _) t.isLt)).2 i + stretch 4096 1 (terms A B t i) := by
  rw [outsAt0_B m c t (by omega) (by omega)]
  dsimp only
  refine (last (A := fun r k => A (t.val % 2 * 4096 + r) (t.val / 4 * 768 + k)) (B := fun r k => B (t.val % 2 * 4096 + r) (t.val / 2 % 2 * 1024 + k)) (inA hA t) (inB hB t) _ i).trans ?_
  rw [h, ← stretch_shift 4096 1 (terms A B t i)]

omit hA hB in
/-- Two points of one run sum the same terms. -/
theorem terms_same {t s : Fin cfg0.N} (h : t.val / 2 = s.val / 2) (i : S768x1024.Idx) : terms A B t i = terms A B s i := by
  funext k
  simp only [terms, show t.val / 4 = s.val / 4 by omega, show t.val / 2 % 2 = s.val / 2 % 2 by omega]

/-- The block the last point of a run stores. -/
theorem stored (t : Fin cfg0.N) (h : t.val % 2 = 1) (i : S768x1024.Idx) :
    (outsAt0 m c t.val t.isLt).1 i = stretch 8192 0 (terms A B t i) := by
  rw [after_last hA hB t h, after_first hA hB ⟨t.val - 1, by omega⟩ (by show (t.val - 1) % 2 = 0; omega),
    terms_same (t := ⟨t.val - 1, by omega⟩) (s := t) (by show (t.val - 1) / 2 = t.val / 2; omega), stretch_two]

/-- The array the kernel leaves. -/
theorem array (i : S1536x2048.Idx) : (dats m 0 c).arrAt 2 cfg0.N i = stretch 8192 0 (fun k => A k (i 0).val * B k (i 1).val) := by
  refine (dats m 0 c).arrAt_forall_of_cover 2 (fun (i : S1536x2048.Idx) (v : EReal) => v = stretch 8192 0 (fun k => A k (i 0).val * B k (i 1).val)) (fun t ht y => ?_) (fun i => ?_) i
  · have e : (dats m 0 c).flushed 2 t y = (outsAt0 m c t.val t.isLt).1 y := congrFun (Cert.DwQkvIdeal.Value.flushed2 m c t) y
    show (dats m 0 c).flushed 2 t y = stretch 8192 0 (fun k => A k ((win0_2.rect t).emb y 0).val * B k ((win0_2.rect t).emb y 1).val)
    rw [e, win0_2.rect_emb_val t y 0, index2_0, win0_2.rect_emb_val t y 1, index2_1]
    exact stored hA hB t ((flush0_2 t).mp ht) y
  · have hN : cfg0.N = 8 := N_0
    have b0 : (i 0).val < 1536 := (i 0).isLt
    have b1 : (i 1).val < 2048 := (i 1).isLt
    let t : Fin cfg0.N := ⟨(i 0).val / 768 * 4 + (i 1).val / 1024 * 2 + 1, by omega⟩
    refine ⟨t, (flush0_2 t).mpr (by show ((i 0).val / 768 * 4 + (i 1).val / 1024 * 2 + 1) % 2 = 1; omega), ?_⟩
    show i ∈ ((View.whole main_v0).slice (win0_2.rect t)).set
    rw [View.set_slice_whole, win0_2.mem_rect_iff]
    intro a
    match a with
    | ⟨0, _⟩ =>
      show win0_2.index t 0 * 768 ≤ (i 0).val ∧ (i 0).val < win0_2.index t 0 * 768 + 768
      rw [index2_0]
      show ((i 0).val / 768 * 4 + (i 1).val / 1024 * 2 + 1) / 4 * 768 ≤ _ ∧ _ < ((i 0).val / 768 * 4 + (i 1).val / 1024 * 2 + 1) / 4 * 768 + 768
      omega
    | ⟨1, _⟩ =>
      show win0_2.index t 1 * 1024 ≤ (i 1).val ∧ (i 1).val < win0_2.index t 1 * 1024 + 1024
      rw [index2_1]
      show ((i 0).val / 768 * 4 + (i 1).val / 1024 * 2 + 1) / 2 % 2 * 1024 ≤ _ ∧ _ < ((i 0).val / 768 * 4 + (i 1).val / 1024 * 2 + 1) / 2 % 2 * 1024 + 1024
      omega

end kernel

section reference
open Cert.DwQkvRefIdeal Cert.DwQkvRefIdeal.Read
variable {x0 : S8192x1536.Idx → EReal} {x1 : S8192x2048.Idx → EReal} {A B : ℕ → ℕ → EReal}

/-- The array the reference leaves. -/
theorem reference (h0 : ∀ i, x0 i = A (i 0).val (i 1).val) (h1 : ∀ i, x1 i = B (i 0).val (i 1).val) (i : S1536x2048.Idx) :
    val_main_v5 (F := Ideal) x0 x1 i = stretch 8192 0 (fun k => A k (i 0).val * B k (i 1).val) := by
  simp only [val_main_v5_apply, val_main_v4_apply, val_main_v3_apply, val_main_v0_apply, Ideal.truncf_def, Ideal.extf_def, Ideal.addf_def, h0, h1]
  exact stretch_first 8192 (fun k => A k (i 0).val * B k (i 1).val)
end reference

/-- The reference ends, keeps its arguments and leaves no signal. -/
theorem reference_frame : Cert.quiescent_DwQkvRefIdeal := fun m g _ =>
  (θ_run Cert.DwQkvRefIdeal.defs _ _).mono (fun r h => ⟨fun c => (h c).2, sem_eq_zero_of_no_sems (by decide) r.2⟩)
    (Cert.DwQkvRefIdeal.Value.run m g)

/-- The two arrays agree. -/
theorem algebraic : Cert.algebraic_DwQkvIdeal_DwQkvRefIdeal := by
  intro m g m' g' _ hagree
  refine ⟨_, Cert.DwQkvIdeal.Value.run_blocks m g, ?_⟩
  refine (θ_run Cert.DwQkvRefIdeal.defs _ _).mono (fun r h c => ?_) (Cert.DwQkvRefIdeal.Value.run m' g')
  obtain ⟨a0, a1⟩ := hagree c
  obtain ⟨h0, hk⟩ := h c
  obtain ⟨A, hA⟩ := table (m ((c.tc : Thread Cert.DwQkvIdeal.nD Cert.DwQkvIdeal.τ).loc Cert.DwQkvIdeal.main_arg0))
  obtain ⟨B, hB⟩ := table (m ((c.tc : Thread Cert.DwQkvIdeal.nD Cert.DwQkvIdeal.τ).loc Cert.DwQkvIdeal.main_arg1))
  refine ⟨?_, hk⟩
  rw [h0, Cert.DwQkvRefIdeal.Read.val_main_v5_eq, a0, a1]
  exact funext fun i => (reference hA hB i).trans (array hA hB i).symm

end DwQkv
-- ==== Proof.DwBranch.lean ====
module

public import proofs.«01_k».proof.Defs
public import proofs.«01_k».proof.Proof.Gen.DwBranch.Frame
public import proofs.«01_k».proof.Proof.Gen.DwBranchIdeal.Frame
public import proofs.«01_k».proof.Proof.Gen.DwBranchIdeal.Value
public import proofs.«01_k».proof.Proof.Gen.DwBranchRefIdeal
public import proofs.«01_k».proof.Proof.Gen.DwBranchRefIdeal.Run
public import proofs.«01_k».proof.Proof.Gen.DwBranchRefIdeal.Read
public import proofs.«01_k».proof.Proof.Product
public import Idealize.ShloMosaic.Lib.Pipeline.ValueKit
public import Idealize.ShloMosaic.Lib.Pipeline.ReadBack

/-! The gradient of a branch weight: the array the kernel leaves, as the sum of products it is, and that the
reference leaves the same array. -/

@[expose] public section
noncomputable section
namespace DwBranch
open Idealize.ShloMosaic Idealize.ShloMosaic.TcCoe Idealize.SL.Sem Product

section kernel
open Cert.DwBranchIdeal Cert.DwBranchIdeal.Gen
set_option maxHeartbeats 4000000

section block
variable {x0 : Vec Ideal S4096x1024 .bf16} {x1 : Vec Ideal S4096x1024 .bf16} {A B : ℕ → ℕ → EReal}
variable (h0 : ∀ i, x0 i = A (i 0).val (i 1).val) (h1 : ∀ i, x1 i = B (i 0).val (i 1).val)
include h0 h1

/-- The product of two blocks. -/
theorem part (i : S1024x1024.Idx) : k0_pay1 x0 x1 i = stretch 4096 0 fun k => A k (i 0).val * B k (i 1).val := by
  pointwise [k0_pay1]
  simp only [h0, h1]
  exact stretch_first 4096 fun k => A k (i 0).val * B k (i 1).val

/-- What the first point of a run leaves in the accumulator. -/
theorem first {c : Dev nD} {g : grid0.Coords} {a0 : Memref sig .tc .vmem S4096x1024 .bf16} {ha0 : a0.IsWhole} {a1 : Memref sig .tc .vmem S4096x1024 .bf16} {ha1 : a1.IsWhole} {a2 : Memref sig .tc .vmem S1024x1024 .bf16} {ha2 : a2.IsWhole} {a3 : Memref sig .tc .vmem S1024x1024 .f32} {ha3 : a3.IsWhole} {hc} {hc'} {hc''} (i : S1024x1024.Idx) :
    sout0_A_0 (F := Ideal) c g a0 ha0 a1 ha1 a2 ha2 a3 ha3 hc hc' hc'' x0 x1 i = stretch 4096 0 fun k => A k (i 0).val * B k (i 1).val := by
  frame_out [↓View.readCov_skip, ↓View.readCov_fill]
  pointwise [k0_pay2]
  exact part h0 h1 i

/-- What the last point stores in its block. -/
theorem last {c : Dev nD} {g : grid0.Coords} {a0 : Memref sig .tc .vmem S4096x1024 .bf16} {ha0 : a0.IsWhole} {a1 : Memref sig .tc .vmem S4096x1024 .bf16} {ha1 : a1.IsWhole} {a2 : Memref sig .tc .vmem S1024x1024 .bf16} {ha2 : a2.IsWhole} {a3 : Memref sig .tc .vmem S1024x1024 .f32} {ha3 : a3.IsWhole} {hc} {hc'} {hc''} (acc : Vec Ideal S1024x1024 .f32) (i : S1024x1024.Idx) :
    out0_B_2 (F := Ideal) c g a0 ha0 a1 ha1 a2 ha2 a3 ha3 hc hc' hc'' x0 x1 acc i = (acc i + stretch 4096 0 fun k => A k (i 0).val * B k (i 1).val) := by
  frame_out [↓View.readCov_skip, ↓View.readCov_fill]
  pointwise [k0_pay4]
  exact congrArg (fun s => acc i + s) (part h0 h1 i)
end block

variable (m : (ℓ : Loc nD τ sig) → Buf (Elt Ideal) ℓ) (c : Dev nD) {A B : ℕ → ℕ → EReal}

theorem index0_0 : ∀ t : Fin cfg0.N, win0_0.index t 0 = t.val % 2 := by decide +kernel
theorem index0_1 : ∀ t : Fin cfg0.N, win0_0.index t 1 = 0 := by decide +kernel
theorem index1_0 : ∀ t : Fin cfg0.N, win0_1.index t 0 = t.val % 2 := by decide +kernel
theorem index1_1 : ∀ t : Fin cfg0.N, win0_1.index t 1 = t.val / 2 % 2 := by decide +kernel
theorem index2_0 : ∀ t : Fin cfg0.N, win0_2.index t 0 = 0 := by decide +kernel
theorem index2_1 : ∀ t : Fin cfg0.N, win0_2.index t 1 = t.val / 2 % 2 := by decide +kernel

variable {m c}
variable (hA : ∀ i : S8192x1024.Idx, V m c main_arg0 i = A (i 0).val (i 1).val) (hB : ∀ i : S8192x2048.Idx, V m c main_arg1 i = B (i 0).val (i 1).val)

include hA in
theorem inA (t : Fin cfg0.N) (i : S4096x1024.Idx) : (iblk m c 0 t : Vec Ideal S4096x1024 .bf16) i = A (t.val % 2 * 4096 + (i 0).val) (i 1).val := by
  refine (hA ((win0_0.rect t).emb i)).trans ?_
  rw [win0_0.rect_emb_val t i 0, index0_0, win0_0.rect_emb_val_of_index_zero t 1 (index0_1 t) i]
  rfl
include hB in
theorem inB (t : Fin cfg0.N) (i : S4096x1024.Idx) : (iblk m c 1 t : Vec Ideal S4096x1024 .bf16) i = B (t.val % 2 * 4096 + (i 0).val) (t.val / 2 % 2 * 1024 + (i 1).val) := by
  refine (hB ((win0_1.rect t).emb i)).trans ?_
  rw [win0_1.rect_emb_val t i 0, index1_0, win0_1.rect_emb_val t i 1, index1_1]
  rfl

/-- The terms of the sum at place `i` of point `t`'s block. -/
abbrev terms (A B : ℕ → ℕ → EReal) (t : Fin cfg0.N) (i : S1024x1024.Idx) : ℕ → EReal := fun k => A k (i 0).val * B k (t.val / 2 % 2 * 1024 + (i 1).val)

include hA hB

theorem after_first (t : Fin cfg0.N) (h : t.val % 2 = 0) (i : S1024x1024.Idx) :
    (outsAt0 m c t.val t.isLt).2 i = stretch 4096 0 (terms A B t i) := by
  rw [outsAt0_A m c t h (by omega)]
  dsimp only
  refine (first (A := fun r k => A (t.val % 2 * 4096 + r) k) (B := fun r k => B (t.val % 2 * 4096 + r) (t.val / 2 % 2 * 1024 + k)) (inA hA t) (inB hB t) i).trans ?_
  rw [h]
  exact stretch_shift 4096 0 (terms A B t i)

theorem after_last (t : Fin cfg0.N) (h : t.val % 2 = 1) (i : S1024x1024.Idx) :
    (outsAt0 m c t.val t.isLt).1 i = (outsAt0 m c (t.val - 1) (Nat.lt_of_le_of_lt (Nat.sub_le _ _) t.isLt)).2 i + stretch 4096 1 (terms A B t i) := by
  rw [outsAt0_B m c t (by omega) (by omega)]
  dsimp only
  refine (last (A := fun r k => A (t.val % 2 * 4096 + r) k) (B := fun r k => B (t.val % 2 * 4096 + r) (t.val / 2 % 2 * 1024 + k)) (inA hA t) (inB hB t) _ i).trans ?_
  rw [h, ← stretch_shift 4096 1 (terms A B t i)]

omit hA hB in
/-- Two points of one run sum the same terms. -/
theorem terms_same {t s : Fin cfg0.N} (h : t.val / 2 = s.val / 2) (i : S1024x1024.Idx) : terms A B t i = terms A B s i := by
  funext k
  simp only [terms, show t.val / 2 % 2 = s.val / 2 % 2 by omega]

/-- The block the last point of a run stores. -/
theorem stored (t : Fin cfg0.N) (h : t.val % 2 = 1) (i : S1024x1024.Idx) :
    (outsAt0 m c t.val t.isLt).1 i = stretch 8192 0 (terms A B t i) := by
  rw [after_last hA hB t h, after_first hA hB ⟨t.val - 1, by omega⟩ (by show (t.val - 1) % 2 = 0; omega),
    terms_same (t := ⟨t.val - 1, by omega⟩) (s := t) (by show (t.val - 1) / 2 = t.val / 2; omega), stretch_two]

/-- The array the kernel leaves. -/
theorem array (i : S1024x2048.Idx) : (dats m 0 c).arrAt 2 cfg0.N i = stretch 8192 0 (fun k => A k (i 0).val * B k (i 1).val) := by
  refine (dats m 0 c).arrAt_forall_of_cover 2 (fun (i : S1024x2048.Idx) (v : EReal) => v = stretch 8192 0 (fun k => A k (i 0).val * B k (i 1).val)) (fun t ht y => ?_) (fun i => ?_) i
  · have e : (dats m 0 c).flushed 2 t y = (outsAt0 m c t.val t.isLt).1 y := congrFun (Cert.DwBranchIdeal.Value.flushed2 m c t) y
    show (dats m 0 c).flushed 2 t y = stretch 8192 0 (fun k => A k ((win0_2.rect t).emb y 0).val * B k ((win0_2.rect t).emb y 1).val)
    rw [e, win0_2.rect_emb_val_of_index_zero t 0 (index2_0 t) y, win0_2.rect_emb_val t y 1, index2_1]
    exact stored hA hB t ((flush0_2 t).mp ht) y
  · have hN : cfg0.N = 4 := N_0
    have b0 : (i 0).val < 1024 := (i 0).isLt
    have b1 : (i 1).val < 2048 := (i 1).isLt
    let t : Fin cfg0.N := ⟨(i 1).val / 1024 * 2 + 1, by omega⟩
    refine ⟨t, (flush0_2 t).mpr (by show ((i 1).val / 1024 * 2 + 1) % 2 = 1; omega), ?_⟩
    show i ∈ ((View.whole main_v0).slice (win0_2.rect t)).set
    rw [View.set_slice_whole, win0_2.mem_rect_iff]
    intro a
    match a with
    | ⟨0, _⟩ =>
      show win0_2.index t 0 * 1024 ≤ (i 0).val ∧ (i 0).val < win0_2.index t 0 * 1024 + 1024
      rw [index2_0]
      omega
    | ⟨1, _⟩ =>
      show win0_2.index t 1 * 1024 ≤ (i 1).val ∧ (i 1).val < win0_2.index t 1 * 1024 + 1024
      rw [index2_1]
      show ((i 1).val / 1024 * 2 + 1) / 2 % 2 * 1024 ≤ _ ∧ _ < ((i 1).val / 1024 * 2 + 1) / 2 % 2 * 1024 + 1024
      omega

end kernel

section reference
open Cert.DwBranchRefIdeal Cert.DwBranchRefIdeal.Read
variable {x0 : S8192x1024.Idx → EReal} {x1 : S8192x2048.Idx → EReal} {A B : ℕ → ℕ → EReal}

/-- The array the reference leaves. -/
theorem reference (h0 : ∀ i, x0 i = A (i 0).val (i 1).val) (h1 : ∀ i, x1 i = B (i 0).val (i 1).val) (i : S1024x2048.Idx) :
    val_main_v6 (F := Ideal) x0 x1 i = stretch 8192 0 (fun k => A k (i 0).val * B k (i 1).val) := by
  simp only [val_main_v6_apply, val_main_v5_apply, val_main_v4_apply, val_main_v3_apply, val_main_v0_apply, Ideal.truncf_def, Ideal.extf_def, Ideal.addf_def, h0, h1]
  exact (Finset.sum_congr rfl fun k _ => mul_comm _ _).trans (stretch_first 8192 (fun k => A k (i 0).val * B k (i 1).val))
end reference

/-- The reference ends, keeps its arguments and leaves no signal. -/
theorem reference_frame : Cert.quiescent_DwBranchRefIdeal := fun m g _ =>
  (θ_run Cert.DwBranchRefIdeal.defs _ _).mono (fun r h => ⟨fun c => (h c).2, sem_eq_zero_of_no_sems (by decide) r.2⟩)
    (Cert.DwBranchRefIdeal.Value.run m g)

/-- The two arrays agree. -/
theorem algebraic : Cert.algebraic_DwBranchIdeal_DwBranchRefIdeal := by
  intro m g m' g' _ hagree
  refine ⟨_, Cert.DwBranchIdeal.Value.run_blocks m g, ?_⟩
  refine (θ_run Cert.DwBranchRefIdeal.defs _ _).mono (fun r h c => ?_) (Cert.DwBranchRefIdeal.Value.run m' g')
  obtain ⟨a0, a1⟩ := hagree c
  obtain ⟨h0, hk⟩ := h c
  obtain ⟨A, hA⟩ := table (m ((c.tc : Thread Cert.DwBranchIdeal.nD Cert.DwBranchIdeal.τ).loc Cert.DwBranchIdeal.main_arg0))
  obtain ⟨B, hB⟩ := table (m ((c.tc : Thread Cert.DwBranchIdeal.nD Cert.DwBranchIdeal.τ).loc Cert.DwBranchIdeal.main_arg1))
  refine ⟨?_, hk⟩
  rw [h0, Cert.DwBranchRefIdeal.Read.val_main_v6_eq, a0, a1]
  exact funext fun i => (reference hA hB i).trans (array hA hB i).symm

end DwBranch
-- ==== Proof.DBranch.lean ====
module

public import proofs.«01_k».proof.Defs
public import proofs.«01_k».proof.Proof.Gen.DBranch.Frame
public import proofs.«01_k».proof.Proof.Gen.DBranchIdeal.Frame
public import proofs.«01_k».proof.Proof.Gen.DBranchIdeal.Value
public import proofs.«01_k».proof.Proof.Gen.DBranchRefIdeal
public import proofs.«01_k».proof.Proof.Gen.DBranchRefIdeal.Run
public import proofs.«01_k».proof.Proof.Gen.DBranchRefIdeal.Read
public import proofs.«01_k».proof.Proof.Product
public import Idealize.ShloMosaic.Lib.Pipeline.ValueKit
public import Idealize.ShloMosaic.Lib.Pipeline.ReadBack

/-! The gradient of a branch: the array the kernel leaves, as the sum of products it is, and that the
reference leaves the same array. -/

@[expose] public section
noncomputable section
namespace DBranch
open Idealize.ShloMosaic Idealize.ShloMosaic.TcCoe Idealize.SL.Sem Product

section kernel
open Cert.DBranchIdeal Cert.DBranchIdeal.Gen
set_option maxHeartbeats 4000000

section block
variable {x0 : Vec Ideal S1024x2048 .bf16} {x1 : Vec Ideal S1024x2048 .bf16} {A B : ℕ → ℕ → EReal}
variable (h0 : ∀ i, x0 i = A (i 0).val (i 1).val) (h1 : ∀ i, x1 i = B (i 0).val (i 1).val)
include h0 h1

/-- The block the point stores: the product of its two blocks. -/
theorem block (i : S1024x1024.Idx) : out0_2 x0 x1 i = stretch 2048 0 fun k => A (i 0).val k * B (i 1).val k := by
  frame_out [↓View.readCov_skip, ↓View.readCov_fill]
  pointwise [k0_pay1]
  simp only [h0, h1]
  exact stretch_first 2048 fun k => A (i 0).val k * B (i 1).val k
end block

variable (m : (ℓ : Loc nD τ sig) → Buf (Elt Ideal) ℓ) (c : Dev nD) {A B : ℕ → ℕ → EReal}

theorem index0_0 : ∀ t : Fin cfg0.N, win0_0.index t 0 = t.val := by decide +kernel
theorem index0_1 : ∀ t : Fin cfg0.N, win0_0.index t 1 = 0 := by decide +kernel
theorem index1_0 : ∀ t : Fin cfg0.N, win0_1.index t 0 = 0 := by decide +kernel
theorem index1_1 : ∀ t : Fin cfg0.N, win0_1.index t 1 = 0 := by decide +kernel
theorem index2_0 : ∀ t : Fin cfg0.N, win0_2.index t 0 = t.val := by decide +kernel
theorem index2_1 : ∀ t : Fin cfg0.N, win0_2.index t 1 = 0 := by decide +kernel

variable {m c}
variable (hA : ∀ i : S8192x2048.Idx, V m c main_arg0 i = A (i 0).val (i 1).val) (hB : ∀ i : S1024x2048.Idx, V m c main_arg1 i = B (i 0).val (i 1).val)

include hA in
theorem inA (t : Fin cfg0.N) (i : S1024x2048.Idx) : (iblk m c 0 t : Vec Ideal S1024x2048 .bf16) i = A (t.val * 1024 + (i 0).val) (i 1).val := by
  refine (hA ((win0_0.rect t).emb i)).trans ?_
  rw [win0_0.rect_emb_val t i 0, index0_0, win0_0.rect_emb_val_of_index_zero t 1 (index0_1 t) i]
  rfl
include hB in
theorem inB (t : Fin cfg0.N) (i : S1024x2048.Idx) : (iblk m c 1 t : Vec Ideal S1024x2048 .bf16) i = B (i 0).val (i 1).val := by
  refine (hB ((win0_1.rect t).emb i)).trans ?_
  rw [win0_1.rect_emb_val_of_index_zero t 0 (index1_0 t) i, win0_1.rect_emb_val_of_index_zero t 1 (index1_1 t) i]

include hA hB

/-- The block point `t` stores. -/
theorem stored (t : Fin cfg0.N) (i : S1024x1024.Idx) : out0_2 (iblk m c 0 t) (iblk m c 1 t) i = stretch 2048 0 (fun k => A (t.val * 1024 + (i 0).val) k * B (i 1).val k) :=
  block (A := fun r k => A (t.val * 1024 + r) k) (B := fun r k => B r k) (inA hA t) (inB hB t) i

/-- The array the kernel leaves. -/
theorem array (i : S8192x1024.Idx) : (dats m 0 c).arrAt 2 cfg0.N i = stretch 2048 0 (fun k => A (i 0).val k * B (i 1).val k) := by
  refine (dats m 0 c).arrAt_forall_of_cover 2 (fun (i : S8192x1024.Idx) (v : EReal) => v = stretch 2048 0 (fun k => A (i 0).val k * B (i 1).val k)) (fun t ht y => ?_) (fun i => ?_) i
  · have e : (dats m 0 c).flushed 2 t y = out0_2 (iblk m c 0 t) (iblk m c 1 t) y := congrFun (Cert.DBranchIdeal.Value.flushed2 m c t) y
    show (dats m 0 c).flushed 2 t y = stretch 2048 0 (fun k => A ((win0_2.rect t).emb y 0).val k * B ((win0_2.rect t).emb y 1).val k)
    rw [e, win0_2.rect_emb_val t y 0, index2_0, win0_2.rect_emb_val_of_index_zero t 1 (index2_1 t) y]
    exact stored hA hB t y
  · have hN : cfg0.N = 8 := N_0
    have b0 : (i 0).val < 8192 := (i 0).isLt
    have b1 : (i 1).val < 1024 := (i 1).isLt
    let t : Fin cfg0.N := ⟨(i 0).val / 1024, by omega⟩
    refine ⟨t, flush0_2 t, ?_⟩
    show i ∈ ((View.whole main_v0).slice (win0_2.rect t)).set
    rw [View.set_slice_whole, win0_2.mem_rect_iff]
    intro a
    match a with
    | ⟨0, _⟩ =>
      show win0_2.index t 0 * 1024 ≤ (i 0).val ∧ (i 0).val < win0_2.index t 0 * 1024 + 1024
      rw [index2_0]
      show ((i 0).val / 1024) * 1024 ≤ _ ∧ _ < ((i 0).val / 1024) * 1024 + 1024
      omega
    | ⟨1, _⟩ =>
      show win0_2.index t 1 * 1024 ≤ (i 1).val ∧ (i 1).val < win0_2.index t 1 * 1024 + 1024
      rw [index2_1]
      omega

end kernel

section reference
open Cert.DBranchRefIdeal Cert.DBranchRefIdeal.Read
variable {x0 : S8192x2048.Idx → EReal} {x1 : S1024x2048.Idx → EReal} {A B : ℕ → ℕ → EReal}

/-- The array the reference leaves. -/
theorem reference (h0 : ∀ i, x0 i = A (i 0).val (i 1).val) (h1 : ∀ i, x1 i = B (i 0).val (i 1).val) (i : S8192x1024.Idx) :
    val_main_v5 (F := Ideal) x0 x1 i = stretch 2048 0 (fun k => A (i 0).val k * B (i 1).val k) := by
  simp only [val_main_v5_apply, val_main_v4_apply, val_main_v3_apply, val_main_v0_apply, Ideal.truncf_def, Ideal.extf_def, Ideal.addf_def, h0, h1]
  exact stretch_first 2048 (fun k => A (i 0).val k * B (i 1).val k)
end reference

/-- The reference ends, keeps its arguments and leaves no signal. -/
theorem reference_frame : Cert.quiescent_DBranchRefIdeal := fun m g _ =>
  (θ_run Cert.DBranchRefIdeal.defs _ _).mono (fun r h => ⟨fun c => (h c).2, sem_eq_zero_of_no_sems (by decide) r.2⟩)
    (Cert.DBranchRefIdeal.Value.run m g)

/-- The two arrays agree. -/
theorem algebraic : Cert.algebraic_DBranchIdeal_DBranchRefIdeal := by
  intro m g m' g' _ hagree
  refine ⟨_, Cert.DBranchIdeal.Value.run_blocks m g, ?_⟩
  refine (θ_run Cert.DBranchRefIdeal.defs _ _).mono (fun r h c => ?_) (Cert.DBranchRefIdeal.Value.run m' g')
  obtain ⟨a0, a1⟩ := hagree c
  obtain ⟨h0, hk⟩ := h c
  obtain ⟨A, hA⟩ := table (m ((c.tc : Thread Cert.DBranchIdeal.nD Cert.DBranchIdeal.τ).loc Cert.DBranchIdeal.main_arg0))
  obtain ⟨B, hB⟩ := table (m ((c.tc : Thread Cert.DBranchIdeal.nD Cert.DBranchIdeal.τ).loc Cert.DBranchIdeal.main_arg1))
  refine ⟨?_, hk⟩
  rw [h0, Cert.DBranchRefIdeal.Read.val_main_v5_eq, a0, a1]
  exact funext fun i => (reference hA hB i).trans (array hA hB i).symm

end DBranch
-- ==== Proof.DXnQkv.lean ====
module

public import proofs.«01_k».proof.Defs
public import proofs.«01_k».proof.Proof.Gen.DXnQkv.Frame
public import proofs.«01_k».proof.Proof.Gen.DXnQkvIdeal.Frame
public import proofs.«01_k».proof.Proof.Gen.DXnQkvIdeal.Value
public import proofs.«01_k».proof.Proof.Gen.DXnQkvRefIdeal
public import proofs.«01_k».proof.Proof.Gen.DXnQkvRefIdeal.Run
public import proofs.«01_k».proof.Proof.Gen.DXnQkvRefIdeal.Read
public import proofs.«01_k».proof.Proof.Product
public import Idealize.ShloMosaic.Lib.Pipeline.ValueKit
public import Idealize.ShloMosaic.Lib.Pipeline.ReadBack

/-! The gradient of the mixer's normalised input through the attention's part of the input projection: the array the kernel leaves, as the sum of products it is, and that the
reference leaves the same array. -/

@[expose] public section
noncomputable section
namespace DXnQkv
open Idealize.ShloMosaic Idealize.ShloMosaic.TcCoe Idealize.SL.Sem Product

section kernel
open Cert.DXnQkvIdeal Cert.DXnQkvIdeal.Gen
set_option maxHeartbeats 4000000

section block
variable {x0 : Vec Ideal S1024x1536 .bf16} {x1 : Vec Ideal S1536x1024 .bf16} {A B : ℕ → ℕ → EReal}
variable (h0 : ∀ i, x0 i = A (i 0).val (i 1).val) (h1 : ∀ i, x1 i = B (i 0).val (i 1).val)
include h0 h1

/-- The block the point stores: the product of its two blocks. -/
theorem block (i : S1024x1024.Idx) : out0_2 x0 x1 i = stretch 1536 0 fun k => A (i 0).val k * B k (i 1).val := by
  frame_out [↓View.readCov_skip, ↓View.readCov_fill]
  pointwise [k0_pay1]
  simp only [h0, h1]
  exact stretch_first 1536 fun k => A (i 0).val k * B k (i 1).val
end block

variable (m : (ℓ : Loc nD τ sig) → Buf (Elt Ideal) ℓ) (c : Dev nD) {A B : ℕ → ℕ → EReal}

theorem index0_0 : ∀ t : Fin cfg0.N, win0_0.index t 0 = t.val / 2 := by decide +kernel
theorem index0_1 : ∀ t : Fin cfg0.N, win0_0.index t 1 = 0 := by decide +kernel
theorem index1_0 : ∀ t : Fin cfg0.N, win0_1.index t 0 = 0 := by decide +kernel
theorem index1_1 : ∀ t : Fin cfg0.N, win0_1.index t 1 = t.val % 2 := by decide +kernel
theorem index2_0 : ∀ t : Fin cfg0.N, win0_2.index t 0 = t.val / 2 := by decide +kernel
theorem index2_1 : ∀ t : Fin cfg0.N, win0_2.index t 1 = t.val % 2 := by decide +kernel

variable {m c}
variable (hA : ∀ i : S8192x1536.Idx, V m c main_arg0 i = A (i 0).val (i 1).val) (hB : ∀ i : S1536x2048.Idx, V m c main_arg1 i = B (i 0).val (i 1).val)

include hA in
theorem inA (t : Fin cfg0.N) (i : S1024x1536.Idx) : (iblk m c 0 t : Vec Ideal S1024x1536 .bf16) i = A (t.val / 2 * 1024 + (i 0).val) (i 1).val := by
  refine (hA ((win0_0.rect t).emb i)).trans ?_
  rw [win0_0.rect_emb_val t i 0, index0_0, win0_0.rect_emb_val_of_index_zero t 1 (index0_1 t) i]
  rfl
include hB in
theorem inB (t : Fin cfg0.N) (i : S1536x1024.Idx) : (iblk m c 1 t : Vec Ideal S1536x1024 .bf16) i = B (i 0).val (t.val % 2 * 1024 + (i 1).val) := by
  refine (hB ((win0_1.rect t).emb i)).trans ?_
  rw [win0_1.rect_emb_val_of_index_zero t 0 (index1_0 t) i, win0_1.rect_emb_val t i 1, index1_1]
  rfl

include hA hB

/-- The block point `t` stores. -/
theorem stored (t : Fin cfg0.N) (i : S1024x1024.Idx) : out0_2 (iblk m c 0 t) (iblk m c 1 t) i = stretch 1536 0 (fun k => A (t.val / 2 * 1024 + (i 0).val) k * B k (t.val % 2 * 1024 + (i 1).val)) :=
  block (A := fun r k => A (t.val / 2 * 1024 + r) k) (B := fun r k => B r (t.val % 2 * 1024 + k)) (inA hA t) (inB hB t) i

/-- The array the kernel leaves. -/
theorem array (i : S8192x2048.Idx) : (dats m 0 c).arrAt 2 cfg0.N i = stretch 1536 0 (fun k => A (i 0).val k * B k (i 1).val) := by
  refine (dats m 0 c).arrAt_forall_of_cover 2 (fun (i : S8192x2048.Idx) (v : EReal) => v = stretch 1536 0 (fun k => A (i 0).val k * B k (i 1).val)) (fun t ht y => ?_) (fun i => ?_) i
  · have e : (dats m 0 c).flushed 2 t y = out0_2 (iblk m c 0 t) (iblk m c 1 t) y := congrFun (Cert.DXnQkvIdeal.Value.flushed2 m c t) y
    show (dats m 0 c).flushed 2 t y = stretch 1536 0 (fun k => A ((win0_2.rect t).emb y 0).val k * B k ((win0_2.rect t).emb y 1).val)
    rw [e, win0_2.rect_emb_val t y 0, index2_0, win0_2.rect_emb_val t y 1, index2_1]
    exact stored hA hB t y
  · have hN : cfg0.N = 16 := N_0
    have b0 : (i 0).val < 8192 := (i 0).isLt
    have b1 : (i 1).val < 2048 := (i 1).isLt
    let t : Fin cfg0.N := ⟨(i 0).val / 1024 * 2 + (i 1).val / 1024, by omega⟩
    refine ⟨t, flush0_2 t, ?_⟩
    show i ∈ ((View.whole main_v0).slice (win0_2.rect t)).set
    rw [View.set_slice_whole, win0_2.mem_rect_iff]
    intro a
    match a with
    | ⟨0, _⟩ =>
      show win0_2.index t 0 * 1024 ≤ (i 0).val ∧ (i 0).val < win0_2.index t 0 * 1024 + 1024
      rw [index2_0]
      show ((i 0).val / 1024 * 2 + (i 1).val / 1024) / 2 * 1024 ≤ _ ∧ _ < ((i 0).val / 1024 * 2 + (i 1).val / 1024) / 2 * 1024 + 1024
      omega
    | ⟨1, _⟩ =>
      show win0_2.index t 1 * 1024 ≤ (i 1).val ∧ (i 1).val < win0_2.index t 1 * 1024 + 1024
      rw [index2_1]
      show ((i 0).val / 1024 * 2 + (i 1).val / 1024) % 2 * 1024 ≤ _ ∧ _ < ((i 0).val / 1024 * 2 + (i 1).val / 1024) % 2 * 1024 + 1024
      omega

end kernel

section reference
open Cert.DXnQkvRefIdeal Cert.DXnQkvRefIdeal.Read
variable {x0 : S8192x1536.Idx → EReal} {x1 : S1536x2048.Idx → EReal} {A B : ℕ → ℕ → EReal}

/-- The array the reference leaves. -/
theorem reference (h0 : ∀ i, x0 i = A (i 0).val (i 1).val) (h1 : ∀ i, x1 i = B (i 0).val (i 1).val) (i : S8192x2048.Idx) :
    val_main_v4 (F := Ideal) x0 x1 i = stretch 1536 0 (fun k => A (i 0).val k * B k (i 1).val) := by
  simp only [val_main_v4_apply, val_main_v3_apply, val_main_v0_apply, Ideal.truncf_def, Ideal.extf_def, Ideal.addf_def, h0, h1]
  exact stretch_first 1536 (fun k => A (i 0).val k * B k (i 1).val)
end reference

/-- The reference ends, keeps its arguments and leaves no signal. -/
theorem reference_frame : Cert.quiescent_DXnQkvRefIdeal := fun m g _ =>
  (θ_run Cert.DXnQkvRefIdeal.defs _ _).mono (fun r h => ⟨fun c => (h c).2, sem_eq_zero_of_no_sems (by decide) r.2⟩)
    (Cert.DXnQkvRefIdeal.Value.run m g)

/-- The two arrays agree. -/
theorem algebraic : Cert.algebraic_DXnQkvIdeal_DXnQkvRefIdeal := by
  intro m g m' g' _ hagree
  refine ⟨_, Cert.DXnQkvIdeal.Value.run_blocks m g, ?_⟩
  refine (θ_run Cert.DXnQkvRefIdeal.defs _ _).mono (fun r h c => ?_) (Cert.DXnQkvRefIdeal.Value.run m' g')
  obtain ⟨a0, a1⟩ := hagree c
  obtain ⟨h0, hk⟩ := h c
  obtain ⟨A, hA⟩ := table (m ((c.tc : Thread Cert.DXnQkvIdeal.nD Cert.DXnQkvIdeal.τ).loc Cert.DXnQkvIdeal.main_arg0))
  obtain ⟨B, hB⟩ := table (m ((c.tc : Thread Cert.DXnQkvIdeal.nD Cert.DXnQkvIdeal.τ).loc Cert.DXnQkvIdeal.main_arg1))
  refine ⟨?_, hk⟩
  rw [h0, Cert.DXnQkvRefIdeal.Read.val_main_v4_eq, a0, a1]
  exact funext fun i => (reference hA hB i).trans (array hA hB i).symm

end DXnQkv
-- ==== Proof.DXnZ.lean ====
module

public import proofs.«01_k».proof.Defs
public import proofs.«01_k».proof.Proof.Gen.DXnZ.Frame
public import proofs.«01_k».proof.Proof.Gen.DXnZIdeal.Frame
public import proofs.«01_k».proof.Proof.Gen.DXnZIdeal.Value
public import proofs.«01_k».proof.Proof.Gen.DXnZRefIdeal
public import proofs.«01_k».proof.Proof.Gen.DXnZRefIdeal.Run
public import proofs.«01_k».proof.Proof.Gen.DXnZRefIdeal.Read
public import proofs.«01_k».proof.Proof.Product
public import Idealize.ShloMosaic.Lib.Pipeline.ValueKit
public import Idealize.ShloMosaic.Lib.Pipeline.ReadBack

/-! The same through the gating unit's part, added to it: the array the kernel leaves, as the sum of products it is, and that the
reference leaves the same array. -/

@[expose] public section
noncomputable section
namespace DXnZ
open Idealize.ShloMosaic Idealize.ShloMosaic.TcCoe Idealize.SL.Sem Product

section kernel
open Cert.DXnZIdeal Cert.DXnZIdeal.Gen
set_option maxHeartbeats 4000000

section block
variable {x0 : Vec Ideal S1024x2048 .bf16} {x1 : Vec Ideal S2048x1024 .bf16} {A B : ℕ → ℕ → EReal}
variable (h0 : ∀ i, x0 i = A (i 0).val (i 1).val) (h1 : ∀ i, x1 i = B (i 0).val (i 1).val)
include h0 h1

/-- The block the point stores: the product of its two blocks and what is added. -/
theorem block {x2 : Vec Ideal S1024x1024 .f32} {R : ℕ → ℕ → EReal} (h2 : ∀ i, x2 i = R (i 0).val (i 1).val) (i : S1024x1024.Idx) : out0_3 x0 x1 x2 i = stretch 2048 0 (fun k => A (i 0).val k * B k (i 1).val) + R (i 0).val (i 1).val := by
  frame_out [↓View.readCov_skip, ↓View.readCov_fill]
  pointwise [k0_pay1]
  simp only [h0, h1, h2]
  exact congrArg (· + _) (stretch_first 2048 fun k => A (i 0).val k * B k (i 1).val)
end block

variable (m : (ℓ : Loc nD τ sig) → Buf (Elt Ideal) ℓ) (c : Dev nD) {A B R : ℕ → ℕ → EReal}

theorem index0_0 : ∀ t : Fin cfg0.N, win0_0.index t 0 = t.val / 2 := by decide +kernel
theorem index0_1 : ∀ t : Fin cfg0.N, win0_0.index t 1 = 0 := by decide +kernel
theorem index1_0 : ∀ t : Fin cfg0.N, win0_1.index t 0 = 0 := by decide +kernel
theorem index1_1 : ∀ t : Fin cfg0.N, win0_1.index t 1 = t.val % 2 := by decide +kernel
theorem index2_0 : ∀ t : Fin cfg0.N, win0_2.index t 0 = t.val / 2 := by decide +kernel
theorem index2_1 : ∀ t : Fin cfg0.N, win0_2.index t 1 = t.val % 2 := by decide +kernel
theorem index3_0 : ∀ t : Fin cfg0.N, win0_3.index t 0 = t.val / 2 := by decide +kernel
theorem index3_1 : ∀ t : Fin cfg0.N, win0_3.index t 1 = t.val % 2 := by decide +kernel

variable {m c}
variable (hA : ∀ i : S8192x2048.Idx, V m c main_arg0 i = A (i 0).val (i 1).val) (hB : ∀ i : S2048x2048.Idx, V m c main_arg1 i = B (i 0).val (i 1).val) (hR : ∀ i : S8192x2048.Idx, V m c main_arg2 i = R (i 0).val (i 1).val)

include hA in
theorem inA (t : Fin cfg0.N) (i : S1024x2048.Idx) : (iblk m c 0 t : Vec Ideal S1024x2048 .bf16) i = A (t.val / 2 * 1024 + (i 0).val) (i 1).val := by
  refine (hA ((win0_0.rect t).emb i)).trans ?_
  rw [win0_0.rect_emb_val t i 0, index0_0, win0_0.rect_emb_val_of_index_zero t 1 (index0_1 t) i]
  rfl
include hB in
theorem inB (t : Fin cfg0.N) (i : S2048x1024.Idx) : (iblk m c 1 t : Vec Ideal S2048x1024 .bf16) i = B (i 0).val (t.val % 2 * 1024 + (i 1).val) := by
  refine (hB ((win0_1.rect t).emb i)).trans ?_
  rw [win0_1.rect_emb_val_of_index_zero t 0 (index1_0 t) i, win0_1.rect_emb_val t i 1, index1_1]
  rfl
include hR in
theorem inR (t : Fin cfg0.N) (i : S1024x1024.Idx) : (iblk m c 2 t : Vec Ideal S1024x1024 .f32) i = R (t.val / 2 * 1024 + (i 0).val) (t.val % 2 * 1024 + (i 1).val) := by
  refine (hR ((win0_2.rect t).emb i)).trans ?_
  rw [win0_2.rect_emb_val t i 0, index2_0, win0_2.rect_emb_val t i 1, index2_1]
  rfl

include hA hB hR

/-- The block point `t` stores. -/
theorem stored (t : Fin cfg0.N) (i : S1024x1024.Idx) : out0_3 (iblk m c 0 t) (iblk m c 1 t) (iblk m c 2 t) i = stretch 2048 0 (fun k => A (t.val / 2 * 1024 + (i 0).val) k * B k (t.val % 2 * 1024 + (i 1).val)) + R (t.val / 2 * 1024 + (i 0).val) (t.val % 2 * 1024 + (i 1).val) :=
  block (A := fun r k => A (t.val / 2 * 1024 + r) k) (B := fun r k => B r (t.val % 2 * 1024 + k)) (inA hA t) (inB hB t) (R := fun r k => R (t.val / 2 * 1024 + r) (t.val % 2 * 1024 + k)) (inR hR t) i

/-- The array the kernel leaves. -/
theorem array (i : S8192x2048.Idx) : (dats m 0 c).arrAt 3 cfg0.N i = stretch 2048 0 (fun k => A (i 0).val k * B k (i 1).val) + R (i 0).val (i 1).val := by
  refine (dats m 0 c).arrAt_forall_of_cover 3 (fun (i : S8192x2048.Idx) (v : EReal) => v = stretch 2048 0 (fun k => A (i 0).val k * B k (i 1).val) + R (i 0).val (i 1).val) (fun t ht y => ?_) (fun i => ?_) i
  · have e : (dats m 0 c).flushed 3 t y = out0_3 (iblk m c 0 t) (iblk m c 1 t) (iblk m c 2 t) y := congrFun (Cert.DXnZIdeal.Value.flushed3 m c t) y
    show (dats m 0 c).flushed 3 t y = stretch 2048 0 (fun k => A ((win0_3.rect t).emb y 0).val k * B k ((win0_3.rect t).emb y 1).val) + R ((win0_3.rect t).emb y 0).val ((win0_3.rect t).emb y 1).val
    rw [e, win0_3.rect_emb_val t y 0, index3_0, win0_3.rect_emb_val t y 1, index3_1]
    exact stored hA hB hR t y
  · have hN : cfg0.N = 16 := N_0
    have b0 : (i 0).val < 8192 := (i 0).isLt
    have b1 : (i 1).val < 2048 := (i 1).isLt
    let t : Fin cfg0.N := ⟨(i 0).val / 1024 * 2 + (i 1).val / 1024, by omega⟩
    refine ⟨t, flush0_3 t, ?_⟩
    show i ∈ ((View.whole main_v0).slice (win0_3.rect t)).set
    rw [View.set_slice_whole, win0_3.mem_rect_iff]
    intro a
    match a with
    | ⟨0, _⟩ =>
      show win0_3.index t 0 * 1024 ≤ (i 0).val ∧ (i 0).val < win0_3.index t 0 * 1024 + 1024
      rw [index3_0]
      show ((i 0).val / 1024 * 2 + (i 1).val / 1024) / 2 * 1024 ≤ _ ∧ _ < ((i 0).val / 1024 * 2 + (i 1).val / 1024) / 2 * 1024 + 1024
      omega
    | ⟨1, _⟩ =>
      show win0_3.index t 1 * 1024 ≤ (i 1).val ∧ (i 1).val < win0_3.index t 1 * 1024 + 1024
      rw [index3_1]
      show ((i 0).val / 1024 * 2 + (i 1).val / 1024) % 2 * 1024 ≤ _ ∧ _ < ((i 0).val / 1024 * 2 + (i 1).val / 1024) % 2 * 1024 + 1024
      omega

end kernel

section reference
open Cert.DXnZRefIdeal Cert.DXnZRefIdeal.Read
variable {x0 : S8192x2048.Idx → EReal} {x1 : S2048x2048.Idx → EReal} {A B : ℕ → ℕ → EReal} {x2 : S8192x2048.Idx → EReal} {R : ℕ → ℕ → EReal}

/-- The array the reference leaves. -/
theorem reference (h0 : ∀ i, x0 i = A (i 0).val (i 1).val) (h1 : ∀ i, x1 i = B (i 0).val (i 1).val) (h2 : ∀ i, x2 i = R (i 0).val (i 1).val) (i : S8192x2048.Idx) :
    val_main_v5 (F := Ideal) x0 x1 x2 i = stretch 2048 0 (fun k => A (i 0).val k * B k (i 1).val) + R (i 0).val (i 1).val := by
  simp only [val_main_v5_apply, val_main_v4_apply, val_main_v3_apply, val_main_v0_apply, Ideal.truncf_def, Ideal.extf_def, Ideal.addf_def, h0, h1, h2]
  exact (congrArg (_ + ·) (stretch_first 2048 (fun k => A (i 0).val k * B k (i 1).val))).trans (add_comm _ _)
end reference

/-- The reference ends, keeps its arguments and leaves no signal. -/
theorem reference_frame : Cert.quiescent_DXnZRefIdeal := fun m g _ =>
  (θ_run Cert.DXnZRefIdeal.defs _ _).mono (fun r h => ⟨fun c => (h c).2, sem_eq_zero_of_no_sems (by decide) r.2⟩)
    (Cert.DXnZRefIdeal.Value.run m g)

/-- The two arrays agree. -/
theorem algebraic : Cert.algebraic_DXnZIdeal_DXnZRefIdeal := by
  intro m g m' g' _ hagree
  refine ⟨_, Cert.DXnZIdeal.Value.run_blocks m g, ?_⟩
  refine (θ_run Cert.DXnZRefIdeal.defs _ _).mono (fun r h c => ?_) (Cert.DXnZRefIdeal.Value.run m' g')
  obtain ⟨a0, a1, a2⟩ := hagree c
  obtain ⟨h0, hk⟩ := h c
  obtain ⟨A, hA⟩ := table (m ((c.tc : Thread Cert.DXnZIdeal.nD Cert.DXnZIdeal.τ).loc Cert.DXnZIdeal.main_arg0))
  obtain ⟨B, hB⟩ := table (m ((c.tc : Thread Cert.DXnZIdeal.nD Cert.DXnZIdeal.τ).loc Cert.DXnZIdeal.main_arg1))
  obtain ⟨R, hR⟩ := table (m ((c.tc : Thread Cert.DXnZIdeal.nD Cert.DXnZIdeal.τ).loc Cert.DXnZIdeal.main_arg2))
  refine ⟨?_, hk⟩
  rw [h0, Cert.DXnZRefIdeal.Read.val_main_v5_eq, a0, a1, a2]
  exact funext fun i => (reference hA hB hR i).trans (array hA hB hR i).symm

end DXnZ
-- ==== Proof.DXnG.lean ====
module

public import proofs.«01_k».proof.Defs
public import proofs.«01_k».proof.Proof.Gen.DXnG.Frame
public import proofs.«01_k».proof.Proof.Gen.DXnGIdeal.Frame
public import proofs.«01_k».proof.Proof.Gen.DXnGIdeal.Value
public import proofs.«01_k».proof.Proof.Gen.DXnGRefIdeal
public import proofs.«01_k».proof.Proof.Gen.DXnGRefIdeal.Run
public import proofs.«01_k».proof.Proof.Gen.DXnGRefIdeal.Read
public import proofs.«01_k».proof.Proof.Product
public import Idealize.ShloMosaic.Lib.Pipeline.ValueKit
public import Idealize.ShloMosaic.Lib.Pipeline.ReadBack

/-! The same through the gates' part, added to it: the array the kernel leaves, as the sum of products it is, and that the
reference leaves the same array. -/

@[expose] public section
noncomputable section
namespace DXnG
open Idealize.ShloMosaic Idealize.ShloMosaic.TcCoe Idealize.SL.Sem Product

section kernel
open Cert.DXnGIdeal Cert.DXnGIdeal.Gen
set_option maxHeartbeats 4000000

section block
variable {x0 : Vec Ideal S1024x2048 .bf16} {x1 : Vec Ideal S2048x1024 .bf16} {A B : ℕ → ℕ → EReal}
variable (h0 : ∀ i, x0 i = A (i 0).val (i 1).val) (h1 : ∀ i, x1 i = B (i 0).val (i 1).val)
include h0 h1

/-- The product of two blocks. -/
theorem part (i : S1024x1024.Idx) : k0_pay1 x0 x1 i = stretch 2048 0 fun k => A (i 0).val k * B k (i 1).val := by
  pointwise [k0_pay1]
  simp only [h0, h1]
  exact stretch_first 2048 fun k => A (i 0).val k * B k (i 1).val

/-- What the first point of a run leaves in the accumulator. -/
theorem first {x2 : Vec Ideal S1024x1024 .f32} {c : Dev nD} {g : grid0.Coords} {a0 : Memref sig .tc .vmem S1024x2048 .bf16} {ha0 : a0.IsWhole} {a1 : Memref sig .tc .vmem S2048x1024 .bf16} {ha1 : a1.IsWhole} {a2 : Memref sig .tc .vmem S1024x1024 .f32} {ha2 : a2.IsWhole} {a3 : Memref sig .tc .vmem S1024x1024 .f32} {ha3 : a3.IsWhole} {a4 : Memref sig .tc .vmem S1024x1024 .f32} {ha4 : a4.IsWhole} {hc} {hc'} {hc''} (i : S1024x1024.Idx) :
    sout0_A_0 (F := Ideal) c g a0 ha0 a1 ha1 a2 ha2 a3 ha3 a4 ha4 hc hc' hc'' x0 x1 x2 i = stretch 2048 0 fun k => A (i 0).val k * B k (i 1).val := by
  frame_out [↓View.readCov_skip, ↓View.readCov_fill]
  pointwise [k0_pay2]
  exact part h0 h1 i

/-- What the last point stores in its block. -/
theorem last {x2 : Vec Ideal S1024x1024 .f32} {R : ℕ → ℕ → EReal} (h2 : ∀ i, x2 i = R (i 0).val (i 1).val) {c : Dev nD} {g : grid0.Coords} {a0 : Memref sig .tc .vmem S1024x2048 .bf16} {ha0 : a0.IsWhole} {a1 : Memref sig .tc .vmem S2048x1024 .bf16} {ha1 : a1.IsWhole} {a2 : Memref sig .tc .vmem S1024x1024 .f32} {ha2 : a2.IsWhole} {a3 : Memref sig .tc .vmem S1024x1024 .f32} {ha3 : a3.IsWhole} {a4 : Memref sig .tc .vmem S1024x1024 .f32} {ha4 : a4.IsWhole} {hc} {hc'} {hc''} (acc : Vec Ideal S1024x1024 .f32) (i : S1024x1024.Idx) :
    out0_B_3 (F := Ideal) c g a0 ha0 a1 ha1 a2 ha2 a3 ha3 a4 ha4 hc hc' hc'' x0 x1 x2 acc i = (acc i + stretch 2048 0 fun k => A (i 0).val k * B k (i 1).val) + R (i 0).val (i 1).val := by
  frame_out [↓View.readCov_skip, ↓View.readCov_fill]
  pointwise [k0_pay4]
  rw [h2]; exact congrArg (fun s => acc i + s + _) (part h0 h1 i)
end block

variable (m : (ℓ : Loc nD τ sig) → Buf (Elt Ideal) ℓ) (c : Dev nD) {A B R : ℕ → ℕ → EReal}

theorem index0_0 : ∀ t : Fin cfg0.N, win0_0.index t 0 = t.val / 4 := by decide +kernel
theorem index0_1 : ∀ t : Fin cfg0.N, win0_0.index t 1 = t.val % 2 := by decide +kernel
theorem index1_0 : ∀ t : Fin cfg0.N, win0_1.index t 0 = t.val % 2 := by decide +kernel
theorem index1_1 : ∀ t : Fin cfg0.N, win0_1.index t 1 = t.val / 2 % 2 := by decide +kernel
theorem index2_0 : ∀ t : Fin cfg0.N, win0_2.index t 0 = t.val / 4 := by decide +kernel
theorem index2_1 : ∀ t : Fin cfg0.N, win0_2.index t 1 = t.val / 2 % 2 := by decide +kernel
theorem index3_0 : ∀ t : Fin cfg0.N, win0_3.index t 0 = t.val / 4 := by decide +kernel
theorem index3_1 : ∀ t : Fin cfg0.N, win0_3.index t 1 = t.val / 2 % 2 := by decide +kernel

variable {m c}
variable (hA : ∀ i : S8192x4096.Idx, V m c main_arg0 i = A (i 0).val (i 1).val) (hB : ∀ i : S4096x2048.Idx, V m c main_arg1 i = B (i 0).val (i 1).val) (hR : ∀ i : S8192x2048.Idx, V m c main_arg2 i = R (i 0).val (i 1).val)

include hA in
theorem inA (t : Fin cfg0.N) (i : S1024x2048.Idx) : (iblk m c 0 t : Vec Ideal S1024x2048 .bf16) i = A (t.val / 4 * 1024 + (i 0).val) (t.val % 2 * 2048 + (i 1).val) := by
  refine (hA ((win0_0.rect t).emb i)).trans ?_
  rw [win0_0.rect_emb_val t i 0, index0_0, win0_0.rect_emb_val t i 1, index0_1]
  rfl
include hB in
theorem inB (t : Fin cfg0.N) (i : S2048x1024.Idx) : (iblk m c 1 t : Vec Ideal S2048x1024 .bf16) i = B (t.val % 2 * 2048 + (i 0).val) (t.val / 2 % 2 * 1024 + (i 1).val) := by
  refine (hB ((win0_1.rect t).emb i)).trans ?_
  rw [win0_1.rect_emb_val t i 0, index1_0, win0_1.rect_emb_val t i 1, index1_1]
  rfl
include hR in
theorem inR (t : Fin cfg0.N) (i : S1024x1024.Idx) : (iblk m c 2 t : Vec Ideal S1024x1024 .f32) i = R (t.val / 4 * 1024 + (i 0).val) (t.val / 2 % 2 * 1024 + (i 1).val) := by
  refine (hR ((win0_2.rect t).emb i)).trans ?_
  rw [win0_2.rect_emb_val t i 0, index2_0, win0_2.rect_emb_val t i 1, index2_1]
  rfl

/-- The terms of the sum at place `i` of point `t`'s block. -/
abbrev terms (A B : ℕ → ℕ → EReal) (t : Fin cfg0.N) (i : S1024x1024.Idx) : ℕ → EReal := fun k => A (t.val / 4 * 1024 + (i 0).val) k * B k (t.val / 2 % 2 * 1024 + (i 1).val)

include hA hB

theorem after_first (t : Fin cfg0.N) (h : t.val % 2 = 0) (i : S1024x1024.Idx) :
    (outsAt0 m c t.val t.isLt).2 i = stretch 2048 0 (terms A B t i) := by
  rw [outsAt0_A m c t h (by omega)]
  dsimp only
  refine (first (A := fun r k => A (t.val / 4 * 1024 + r) (t.val % 2 * 2048 + k)) (B := fun r k => B (t.val % 2 * 2048 + r) (t.val / 2 % 2 * 1024 + k)) (inA hA t) (inB hB t) i).trans ?_
  rw [h]
  exact stretch_shift 2048 0 (terms A B t i)

include hR in
theorem after_last (t : Fin cfg0.N) (h : t.val % 2 = 1) (i : S1024x1024.Idx) :
    (outsAt0 m c t.val t.isLt).1 i = (outsAt0 m c (t.val - 1) (Nat.lt_of_le_of_lt (Nat.sub_le _ _) t.isLt)).2 i + stretch 2048 1 (terms A B t i) + R (t.val / 4 * 1024 + (i 0).val) (t.val / 2 % 2 * 1024 + (i 1).val) := by
  rw [outsAt0_B m c t (by omega) (by omega)]
  dsimp only
  refine (last (A := fun r k => A (t.val / 4 * 1024 + r) (t.val % 2 * 2048 + k)) (B := fun r k => B (t.val % 2 * 2048 + r) (t.val / 2 % 2 * 1024 + k)) (inA hA t) (inB hB t) (R := fun r k => R (t.val / 4 * 1024 + r) (t.val / 2 % 2 * 1024 + k)) (inR hR t) _ i).trans ?_
  rw [h, ← stretch_shift 2048 1 (terms A B t i)]

omit hA hB in
/-- Two points of one run sum the same terms. -/
theorem terms_same {t s : Fin cfg0.N} (h : t.val / 2 = s.val / 2) (i : S1024x1024.Idx) : terms A B t i = terms A B s i := by
  funext k
  simp only [terms, show t.val / 4 = s.val / 4 by omega, show t.val / 2 % 2 = s.val / 2 % 2 by omega]

include hR in
/-- The block the last point of a run stores. -/
theorem stored (t : Fin cfg0.N) (h : t.val % 2 = 1) (i : S1024x1024.Idx) :
    (outsAt0 m c t.val t.isLt).1 i = stretch 4096 0 (terms A B t i) + R (t.val / 4 * 1024 + (i 0).val) (t.val / 2 % 2 * 1024 + (i 1).val) := by
  rw [after_last hA hB hR t h, after_first hA hB ⟨t.val - 1, by omega⟩ (by show (t.val - 1) % 2 = 0; omega),
    terms_same (t := ⟨t.val - 1, by omega⟩) (s := t) (by show (t.val - 1) / 2 = t.val / 2; omega), stretch_two]

include hR in
/-- The array the kernel leaves. -/
theorem array (i : S8192x2048.Idx) : (dats m 0 c).arrAt 3 cfg0.N i = stretch 4096 0 (fun k => A (i 0).val k * B k (i 1).val) + R (i 0).val (i 1).val := by
  refine (dats m 0 c).arrAt_forall_of_cover 3 (fun (i : S8192x2048.Idx) (v : EReal) => v = stretch 4096 0 (fun k => A (i 0).val k * B k (i 1).val) + R (i 0).val (i 1).val) (fun t ht y => ?_) (fun i => ?_) i
  · have e : (dats m 0 c).flushed 3 t y = (outsAt0 m c t.val t.isLt).1 y := congrFun (Cert.DXnGIdeal.Value.flushed3 m c t) y
    show (dats m 0 c).flushed 3 t y = stretch 4096 0 (fun k => A ((win0_3.rect t).emb y 0).val k * B k ((win0_3.rect t).emb y 1).val) + R ((win0_3.rect t).emb y 0).val ((win0_3.rect t).emb y 1).val
    rw [e, win0_3.rect_emb_val t y 0, index3_0, win0_3.rect_emb_val t y 1, index3_1]
    exact stored hA hB hR t ((flush0_3 t).mp ht) y
  · have hN : cfg0.N = 32 := N_0
    have b0 : (i 0).val < 8192 := (i 0).isLt
    have b1 : (i 1).val < 2048 := (i 1).isLt
    let t : Fin cfg0.N := ⟨(i 0).val / 1024 * 4 + (i 1).val / 1024 * 2 + 1, by omega⟩
    refine ⟨t, (flush0_3 t).mpr (by show ((i 0).val / 1024 * 4 + (i 1).val / 1024 * 2 + 1) % 2 = 1; omega), ?_⟩
    show i ∈ ((View.whole main_v0).slice (win0_3.rect t)).set
    rw [View.set_slice_whole, win0_3.mem_rect_iff]
    intro a
    match a with
    | ⟨0, _⟩ =>
      show win0_3.index t 0 * 1024 ≤ (i 0).val ∧ (i 0).val < win0_3.index t 0 * 1024 + 1024
      rw [index3_0]
      show ((i 0).val / 1024 * 4 + (i 1).val / 1024 * 2 + 1) / 4 * 1024 ≤ _ ∧ _ < ((i 0).val / 1024 * 4 + (i 1).val / 1024 * 2 + 1) / 4 * 1024 + 1024
      omega
    | ⟨1, _⟩ =>
      show win0_3.index t 1 * 1024 ≤ (i 1).val ∧ (i 1).val < win0_3.index t 1 * 1024 + 1024
      rw [index3_1]
      show ((i 0).val / 1024 * 4 + (i 1).val / 1024 * 2 + 1) / 2 % 2 * 1024 ≤ _ ∧ _ < ((i 0).val / 1024 * 4 + (i 1).val / 1024 * 2 + 1) / 2 % 2 * 1024 + 1024
      omega

end kernel

section reference
open Cert.DXnGRefIdeal Cert.DXnGRefIdeal.Read
variable {x0 : S8192x4096.Idx → EReal} {x1 : S4096x2048.Idx → EReal} {A B : ℕ → ℕ → EReal} {x2 : S8192x2048.Idx → EReal} {R : ℕ → ℕ → EReal}

/-- The array the reference leaves. -/
theorem reference (h0 : ∀ i, x0 i = A (i 0).val (i 1).val) (h1 : ∀ i, x1 i = B (i 0).val (i 1).val) (h2 : ∀ i, x2 i = R (i 0).val (i 1).val) (i : S8192x2048.Idx) :
    val_main_v5 (F := Ideal) x0 x1 x2 i = stretch 4096 0 (fun k => A (i 0).val k * B k (i 1).val) + R (i 0).val (i 1).val := by
  simp only [val_main_v5_apply, val_main_v4_apply, val_main_v3_apply, val_main_v0_apply, Ideal.truncf_def, Ideal.extf_def, Ideal.addf_def, h0, h1, h2]
  exact (congrArg (_ + ·) (stretch_first 4096 (fun k => A (i 0).val k * B k (i 1).val))).trans (add_comm _ _)
end reference

/-- The reference ends, keeps its arguments and leaves no signal. -/
theorem reference_frame : Cert.quiescent_DXnGRefIdeal := fun m g _ =>
  (θ_run Cert.DXnGRefIdeal.defs _ _).mono (fun r h => ⟨fun c => (h c).2, sem_eq_zero_of_no_sems (by decide) r.2⟩)
    (Cert.DXnGRefIdeal.Value.run m g)

/-- The two arrays agree. -/
theorem algebraic : Cert.algebraic_DXnGIdeal_DXnGRefIdeal := by
  intro m g m' g' _ hagree
  refine ⟨_, Cert.DXnGIdeal.Value.run_blocks m g, ?_⟩
  refine (θ_run Cert.DXnGRefIdeal.defs _ _).mono (fun r h c => ?_) (Cert.DXnGRefIdeal.Value.run m' g')
  obtain ⟨a0, a1, a2⟩ := hagree c
  obtain ⟨h0, hk⟩ := h c
  obtain ⟨A, hA⟩ := table (m ((c.tc : Thread Cert.DXnGIdeal.nD Cert.DXnGIdeal.τ).loc Cert.DXnGIdeal.main_arg0))
  obtain ⟨B, hB⟩ := table (m ((c.tc : Thread Cert.DXnGIdeal.nD Cert.DXnGIdeal.τ).loc Cert.DXnGIdeal.main_arg1))
  obtain ⟨R, hR⟩ := table (m ((c.tc : Thread Cert.DXnGIdeal.nD Cert.DXnGIdeal.τ).loc Cert.DXnGIdeal.main_arg2))
  refine ⟨?_, hk⟩
  rw [h0, Cert.DXnGRefIdeal.Read.val_main_v5_eq, a0, a1, a2]
  exact funext fun i => (reference hA hB hR i).trans (array hA hB hR i).symm

end DXnG
-- ==== Proof.ProjQkv.lean ====
module

public import proofs.«01_k».proof.Defs
public import proofs.«01_k».proof.Proof.Gen.ProjQkv.Frame
public import proofs.«01_k».proof.Proof.Gen.ProjQkvIdeal.Frame
public import proofs.«01_k».proof.Proof.Gen.ProjQkvIdeal.Value
public import proofs.«01_k».proof.Proof.Gen.ProjQkvRefIdeal
public import proofs.«01_k».proof.Proof.Gen.ProjQkvRefIdeal.Run
public import proofs.«01_k».proof.Proof.Gen.ProjQkvRefIdeal.Read
public import proofs.«01_k».proof.Proof.Product
public import Idealize.ShloMosaic.Lib.Pipeline.ValueKit
public import Idealize.ShloMosaic.Lib.Pipeline.ReadBack

/-! The attention's part of the input projection: the array the kernel leaves, as the sum of products it is, and that the
reference leaves the same array. -/

@[expose] public section
noncomputable section
namespace ProjQkv
open Idealize.ShloMosaic Idealize.ShloMosaic.TcCoe Idealize.SL.Sem Product

section kernel
open Cert.ProjQkvIdeal Cert.ProjQkvIdeal.Gen
set_option maxHeartbeats 4000000

section block
variable {x0 : Vec Ideal S1024x2048 .bf16} {x1 : Vec Ideal S768x2048 .bf16} {A B : ℕ → ℕ → EReal}
variable (h0 : ∀ i, x0 i = A (i 0).val (i 1).val) (h1 : ∀ i, x1 i = B (i 0).val (i 1).val)
include h0 h1

/-- The block the point stores: the product of its two blocks and what is added. -/
theorem block {x2 : Vec Ideal S1x768 .f32} {R : ℕ → EReal} (h2 : ∀ i, x2 i = R (i 1).val) (i : S1024x768.Idx) : out0_3 x0 x1 x2 i = stretch 2048 0 (fun k => A (i 0).val k * B (i 1).val k) + R (i 1).val := by
  frame_out [↓View.readCov_skip, ↓View.readCov_fill]
  pointwise [k0_pay1]
  simp only [h0, h1, h2]
  exact congrArg (· + _) (stretch_first 2048 fun k => A (i 0).val k * B (i 1).val k)
end block

variable (m : (ℓ : Loc nD τ sig) → Buf (Elt Ideal) ℓ) (c : Dev nD) {A B : ℕ → ℕ → EReal} {R : ℕ → EReal}

theorem index0_0 : ∀ t : Fin cfg0.N, win0_0.index t 0 = t.val / 2 := by decide +kernel
theorem index0_1 : ∀ t : Fin cfg0.N, win0_0.index t 1 = 0 := by decide +kernel
theorem index1_0 : ∀ t : Fin cfg0.N, win0_1.index t 0 = t.val % 2 := by decide +kernel
theorem index1_1 : ∀ t : Fin cfg0.N, win0_1.index t 1 = 0 := by decide +kernel
theorem index2_0 : ∀ t : Fin cfg0.N, win0_2.index t 0 = 0 := by decide +kernel
theorem index2_1 : ∀ t : Fin cfg0.N, win0_2.index t 1 = t.val % 2 := by decide +kernel
theorem index3_0 : ∀ t : Fin cfg0.N, win0_3.index t 0 = t.val / 2 := by decide +kernel
theorem index3_1 : ∀ t : Fin cfg0.N, win0_3.index t 1 = t.val % 2 := by decide +kernel

variable {m c}
variable (hA : ∀ i : S8192x2048.Idx, V m c main_arg0 i = A (i 0).val (i 1).val) (hB : ∀ i : S1536x2048.Idx, V m c main_arg1 i = B (i 0).val (i 1).val) (hR : ∀ i : S1x1536.Idx, V m c main_arg2 i = R (i 1).val)

include hA in
theorem inA (t : Fin cfg0.N) (i : S1024x2048.Idx) : (iblk m c 0 t : Vec Ideal S1024x2048 .bf16) i = A (t.val / 2 * 1024 + (i 0).val) (i 1).val := by
  refine (hA ((win0_0.rect t).emb i)).trans ?_
  rw [win0_0.rect_emb_val t i 0, index0_0, win0_0.rect_emb_val_of_index_zero t 1 (index0_1 t) i]
  rfl
include hB in
theorem inB (t : Fin cfg0.N) (i : S768x2048.Idx) : (iblk m c 1 t : Vec Ideal S768x2048 .bf16) i = B (t.val % 2 * 768 + (i 0).val) (i 1).val := by
  refine (hB ((win0_1.rect t).emb i)).trans ?_
  rw [win0_1.rect_emb_val t i 0, index1_0, win0_1.rect_emb_val_of_index_zero t 1 (index1_1 t) i]
  rfl
include hR in
theorem inR (t : Fin cfg0.N) (i : S1x768.Idx) : (iblk m c 2 t : Vec Ideal S1x768 .f32) i = R (t.val % 2 * 768 + (i 1).val) := by
  refine (hR ((win0_2.rect t).emb i)).trans ?_
  rw [win0_2.rect_emb_val t i 1, index2_1]
  rfl

include hA hB hR

/-- The block point `t` stores. -/
theorem stored (t : Fin cfg0.N) (i : S1024x768.Idx) : out0_3 (iblk m c 0 t) (iblk m c 1 t) (iblk m c 2 t) i = stretch 2048 0 (fun k => A (t.val / 2 * 1024 + (i 0).val) k * B (t.val % 2 * 768 + (i 1).val) k) + R (t.val % 2 * 768 + (i 1).val) :=
  block (A := fun r k => A (t.val / 2 * 1024 + r) k) (B := fun r k => B (t.val % 2 * 768 + r) k) (inA hA t) (inB hB t) (R := fun k => R (t.val % 2 * 768 + k)) (inR hR t) i

/-- The array the kernel leaves. -/
theorem array (i : S8192x1536.Idx) : (dats m 0 c).arrAt 3 cfg0.N i = stretch 2048 0 (fun k => A (i 0).val k * B (i 1).val k) + R (i 1).val := by
  refine (dats m 0 c).arrAt_forall_of_cover 3 (fun (i : S8192x1536.Idx) (v : EReal) => v = stretch 2048 0 (fun k => A (i 0).val k * B (i 1).val k) + R (i 1).val) (fun t ht y => ?_) (fun i => ?_) i
  · have e : (dats m 0 c).flushed 3 t y = out0_3 (iblk m c 0 t) (iblk m c 1 t) (iblk m c 2 t) y := congrFun (Cert.ProjQkvIdeal.Value.flushed3 m c t) y
    show (dats m 0 c).flushed 3 t y = stretch 2048 0 (fun k => A ((win0_3.rect t).emb y 0).val k * B ((win0_3.rect t).emb y 1).val k) + R ((win0_3.rect t).emb y 1).val
    rw [e, win0_3.rect_emb_val t y 0, index3_0, win0_3.rect_emb_val t y 1, index3_1]
    exact stored hA hB hR t y
  · have hN : cfg0.N = 16 := N_0
    have b0 : (i 0).val < 8192 := (i 0).isLt
    have b1 : (i 1).val < 1536 := (i 1).isLt
    let t : Fin cfg0.N := ⟨(i 0).val / 1024 * 2 + (i 1).val / 768, by omega⟩
    refine ⟨t, flush0_3 t, ?_⟩
    show i ∈ ((View.whole main_v0).slice (win0_3.rect t)).set
    rw [View.set_slice_whole, win0_3.mem_rect_iff]
    intro a
    match a with
    | ⟨0, _⟩ =>
      show win0_3.index t 0 * 1024 ≤ (i 0).val ∧ (i 0).val < win0_3.index t 0 * 1024 + 1024
      rw [index3_0]
      show ((i 0).val / 1024 * 2 + (i 1).val / 768) / 2 * 1024 ≤ _ ∧ _ < ((i 0).val / 1024 * 2 + (i 1).val / 768) / 2 * 1024 + 1024
      omega
    | ⟨1, _⟩ =>
      show win0_3.index t 1 * 768 ≤ (i 1).val ∧ (i 1).val < win0_3.index t 1 * 768 + 768
      rw [index3_1]
      show ((i 0).val / 1024 * 2 + (i 1).val / 768) % 2 * 768 ≤ _ ∧ _ < ((i 0).val / 1024 * 2 + (i 1).val / 768) % 2 * 768 + 768
      omega

end kernel

section reference
open Cert.ProjQkvRefIdeal Cert.ProjQkvRefIdeal.Read
variable {x0 : S8192x2048.Idx → EReal} {x1 : S1536x2048.Idx → EReal} {A B : ℕ → ℕ → EReal} {x2 : S1x1536.Idx → EReal} {R : ℕ → EReal}

/-- The array the reference leaves. -/
theorem reference (h0 : ∀ i, x0 i = A (i 0).val (i 1).val) (h1 : ∀ i, x1 i = B (i 0).val (i 1).val) (h2 : ∀ i, x2 i = R (i 1).val) (i : S8192x1536.Idx) :
    val_main_v5 (F := Ideal) x0 x1 x2 i = stretch 2048 0 (fun k => A (i 0).val k * B (i 1).val k) + R (i 1).val := by
  simp only [val_main_v5_apply, val_main_v4_apply, val_main_v3_apply, val_main_v2_apply, val_main_v1_apply, val_main_v0_apply, Ideal.truncf_def, Ideal.extf_def, Ideal.addf_def, h0, h1, h2]
  exact congrArg (· + _) (stretch_first 2048 (fun k => A (i 0).val k * B (i 1).val k))
end reference

/-- The reference ends, keeps its arguments and leaves no signal. -/
theorem reference_frame : Cert.quiescent_ProjQkvRefIdeal := fun m g _ =>
  (θ_run Cert.ProjQkvRefIdeal.defs _ _).mono (fun r h => ⟨fun c => (h c).2, sem_eq_zero_of_no_sems (by decide) r.2⟩)
    (Cert.ProjQkvRefIdeal.Value.run m g)

/-- The two arrays agree. -/
theorem algebraic : Cert.algebraic_ProjQkvIdeal_ProjQkvRefIdeal := by
  intro m g m' g' _ hagree
  refine ⟨_, Cert.ProjQkvIdeal.Value.run_blocks m g, ?_⟩
  refine (θ_run Cert.ProjQkvRefIdeal.defs _ _).mono (fun r h c => ?_) (Cert.ProjQkvRefIdeal.Value.run m' g')
  obtain ⟨a0, a1, a2⟩ := hagree c
  obtain ⟨h0, hk⟩ := h c
  obtain ⟨A, hA⟩ := table (m ((c.tc : Thread Cert.ProjQkvIdeal.nD Cert.ProjQkvIdeal.τ).loc Cert.ProjQkvIdeal.main_arg0))
  obtain ⟨B, hB⟩ := table (m ((c.tc : Thread Cert.ProjQkvIdeal.nD Cert.ProjQkvIdeal.τ).loc Cert.ProjQkvIdeal.main_arg1))
  obtain ⟨R, hR⟩ := row (m ((c.tc : Thread Cert.ProjQkvIdeal.nD Cert.ProjQkvIdeal.τ).loc Cert.ProjQkvIdeal.main_arg2))
  refine ⟨?_, hk⟩
  rw [h0, Cert.ProjQkvRefIdeal.Read.val_main_v5_eq, a0, a1, a2]
  exact funext fun i => (reference hA hB hR i).trans (array hA hB hR i).symm

end ProjQkv
-- ==== Proof.ProjZ.lean ====
module

public import proofs.«01_k».proof.Defs
public import proofs.«01_k».proof.Proof.Gen.ProjZ.Frame
public import proofs.«01_k».proof.Proof.Gen.ProjZIdeal.Frame
public import proofs.«01_k».proof.Proof.Gen.ProjZIdeal.Value
public import proofs.«01_k».proof.Proof.Gen.ProjZRefIdeal
public import proofs.«01_k».proof.Proof.Gen.ProjZRefIdeal.Run
public import proofs.«01_k».proof.Proof.Gen.ProjZRefIdeal.Read
public import proofs.«01_k».proof.Proof.Product
public import Idealize.ShloMosaic.Lib.Pipeline.ValueKit
public import Idealize.ShloMosaic.Lib.Pipeline.ReadBack

/-! The gating unit's part of the input projection: the array the kernel leaves, as the sum of products it is, and that the
reference leaves the same array. -/

@[expose] public section
noncomputable section
namespace ProjZ
open Idealize.ShloMosaic Idealize.ShloMosaic.TcCoe Idealize.SL.Sem Product

section kernel
open Cert.ProjZIdeal Cert.ProjZIdeal.Gen
set_option maxHeartbeats 4000000

section block
variable {x0 : Vec Ideal S1024x2048 .bf16} {x1 : Vec Ideal S1024x2048 .bf16} {A B : ℕ → ℕ → EReal}
variable (h0 : ∀ i, x0 i = A (i 0).val (i 1).val) (h1 : ∀ i, x1 i = B (i 0).val (i 1).val)
include h0 h1

/-- The block the point stores: the product of its two blocks and what is added. -/
theorem block {x2 : Vec Ideal S1x1024 .f32} {R : ℕ → EReal} (h2 : ∀ i, x2 i = R (i 1).val) (i : S1024x1024.Idx) : out0_3 x0 x1 x2 i = stretch 2048 0 (fun k => A (i 0).val k * B (i 1).val k) + R (i 1).val := by
  frame_out [↓View.readCov_skip, ↓View.readCov_fill]
  pointwise [k0_pay1]
  simp only [h0, h1, h2]
  exact congrArg (· + _) (stretch_first 2048 fun k => A (i 0).val k * B (i 1).val k)
end block

variable (m : (ℓ : Loc nD τ sig) → Buf (Elt Ideal) ℓ) (c : Dev nD) {A B : ℕ → ℕ → EReal} {R : ℕ → EReal}

theorem index0_0 : ∀ t : Fin cfg0.N, win0_0.index t 0 = t.val / 2 := by decide +kernel
theorem index0_1 : ∀ t : Fin cfg0.N, win0_0.index t 1 = 0 := by decide +kernel
theorem index1_0 : ∀ t : Fin cfg0.N, win0_1.index t 0 = t.val % 2 := by decide +kernel
theorem index1_1 : ∀ t : Fin cfg0.N, win0_1.index t 1 = 0 := by decide +kernel
theorem index2_0 : ∀ t : Fin cfg0.N, win0_2.index t 0 = 0 := by decide +kernel
theorem index2_1 : ∀ t : Fin cfg0.N, win0_2.index t 1 = t.val % 2 := by decide +kernel
theorem index3_0 : ∀ t : Fin cfg0.N, win0_3.index t 0 = t.val / 2 := by decide +kernel
theorem index3_1 : ∀ t : Fin cfg0.N, win0_3.index t 1 = t.val % 2 := by decide +kernel

variable {m c}
variable (hA : ∀ i : S8192x2048.Idx, V m c main_arg0 i = A (i 0).val (i 1).val) (hB : ∀ i : S2048x2048.Idx, V m c main_arg1 i = B (i 0).val (i 1).val) (hR : ∀ i : S1x2048.Idx, V m c main_arg2 i = R (i 1).val)

include hA in
theorem inA (t : Fin cfg0.N) (i : S1024x2048.Idx) : (iblk m c 0 t : Vec Ideal S1024x2048 .bf16) i = A (t.val / 2 * 1024 + (i 0).val) (i 1).val := by
  refine (hA ((win0_0.rect t).emb i)).trans ?_
  rw [win0_0.rect_emb_val t i 0, index0_0, win0_0.rect_emb_val_of_index_zero t 1 (index0_1 t) i]
  rfl
include hB in
theorem inB (t : Fin cfg0.N) (i : S1024x2048.Idx) : (iblk m c 1 t : Vec Ideal S1024x2048 .bf16) i = B (t.val % 2 * 1024 + (i 0).val) (i 1).val := by
  refine (hB ((win0_1.rect t).emb i)).trans ?_
  rw [win0_1.rect_emb_val t i 0, index1_0, win0_1.rect_emb_val_of_index_zero t 1 (index1_1 t) i]
  rfl
include hR in
theorem inR (t : Fin cfg0.N) (i : S1x1024.Idx) : (iblk m c 2 t : Vec Ideal S1x1024 .f32) i = R (t.val % 2 * 1024 + (i 1).val) := by
  refine (hR ((win0_2.rect t).emb i)).trans ?_
  rw [win0_2.rect_emb_val t i 1, index2_1]
  rfl

include hA hB hR

/-- The block point `t` stores. -/
theorem stored (t : Fin cfg0.N) (i : S1024x1024.Idx) : out0_3 (iblk m c 0 t) (iblk m c 1 t) (iblk m c 2 t) i = stretch 2048 0 (fun k => A (t.val / 2 * 1024 + (i 0).val) k * B (t.val % 2 * 1024 + (i 1).val) k) + R (t.val % 2 * 1024 + (i 1).val) :=
  block (A := fun r k => A (t.val / 2 * 1024 + r) k) (B := fun r k => B (t.val % 2 * 1024 + r) k) (inA hA t) (inB hB t) (R := fun k => R (t.val % 2 * 1024 + k)) (inR hR t) i

/-- The array the kernel leaves. -/
theorem array (i : S8192x2048.Idx) : (dats m 0 c).arrAt 3 cfg0.N i = stretch 2048 0 (fun k => A (i 0).val k * B (i 1).val k) + R (i 1).val := by
  refine (dats m 0 c).arrAt_forall_of_cover 3 (fun (i : S8192x2048.Idx) (v : EReal) => v = stretch 2048 0 (fun k => A (i 0).val k * B (i 1).val k) + R (i 1).val) (fun t ht y => ?_) (fun i => ?_) i
  · have e : (dats m 0 c).flushed 3 t y = out0_3 (iblk m c 0 t) (iblk m c 1 t) (iblk m c 2 t) y := congrFun (Cert.ProjZIdeal.Value.flushed3 m c t) y
    show (dats m 0 c).flushed 3 t y = stretch 2048 0 (fun k => A ((win0_3.rect t).emb y 0).val k * B ((win0_3.rect t).emb y 1).val k) + R ((win0_3.rect t).emb y 1).val
    rw [e, win0_3.rect_emb_val t y 0, index3_0, win0_3.rect_emb_val t y 1, index3_1]
    exact stored hA hB hR t y
  · have hN : cfg0.N = 16 := N_0
    have b0 : (i 0).val < 8192 := (i 0).isLt
    have b1 : (i 1).val < 2048 := (i 1).isLt
    let t : Fin cfg0.N := ⟨(i 0).val / 1024 * 2 + (i 1).val / 1024, by omega⟩
    refine ⟨t, flush0_3 t, ?_⟩
    show i ∈ ((View.whole main_v0).slice (win0_3.rect t)).set
    rw [View.set_slice_whole, win0_3.mem_rect_iff]
    intro a
    match a with
    | ⟨0, _⟩ =>
      show win0_3.index t 0 * 1024 ≤ (i 0).val ∧ (i 0).val < win0_3.index t 0 * 1024 + 1024
      rw [index3_0]
      show ((i 0).val / 1024 * 2 + (i 1).val / 1024) / 2 * 1024 ≤ _ ∧ _ < ((i 0).val / 1024 * 2 + (i 1).val / 1024) / 2 * 1024 + 1024
      omega
    | ⟨1, _⟩ =>
      show win0_3.index t 1 * 1024 ≤ (i 1).val ∧ (i 1).val < win0_3.index t 1 * 1024 + 1024
      rw [index3_1]
      show ((i 0).val / 1024 * 2 + (i 1).val / 1024) % 2 * 1024 ≤ _ ∧ _ < ((i 0).val / 1024 * 2 + (i 1).val / 1024) % 2 * 1024 + 1024
      omega

end kernel

section reference
open Cert.ProjZRefIdeal Cert.ProjZRefIdeal.Read
variable {x0 : S8192x2048.Idx → EReal} {x1 : S2048x2048.Idx → EReal} {A B : ℕ → ℕ → EReal} {x2 : S1x2048.Idx → EReal} {R : ℕ → EReal}

/-- The array the reference leaves. -/
theorem reference (h0 : ∀ i, x0 i = A (i 0).val (i 1).val) (h1 : ∀ i, x1 i = B (i 0).val (i 1).val) (h2 : ∀ i, x2 i = R (i 1).val) (i : S8192x2048.Idx) :
    val_main_v5 (F := Ideal) x0 x1 x2 i = stretch 2048 0 (fun k => A (i 0).val k * B (i 1).val k) + R (i 1).val := by
  simp only [val_main_v5_apply, val_main_v4_apply, val_main_v3_apply, val_main_v2_apply, val_main_v1_apply, val_main_v0_apply, Ideal.truncf_def, Ideal.extf_def, Ideal.addf_def, h0, h1, h2]
  exact congrArg (· + _) (stretch_first 2048 (fun k => A (i 0).val k * B (i 1).val k))
end reference

/-- The reference ends, keeps its arguments and leaves no signal. -/
theorem reference_frame : Cert.quiescent_ProjZRefIdeal := fun m g _ =>
  (θ_run Cert.ProjZRefIdeal.defs _ _).mono (fun r h => ⟨fun c => (h c).2, sem_eq_zero_of_no_sems (by decide) r.2⟩)
    (Cert.ProjZRefIdeal.Value.run m g)

/-- The two arrays agree. -/
theorem algebraic : Cert.algebraic_ProjZIdeal_ProjZRefIdeal := by
  intro m g m' g' _ hagree
  refine ⟨_, Cert.ProjZIdeal.Value.run_blocks m g, ?_⟩
  refine (θ_run Cert.ProjZRefIdeal.defs _ _).mono (fun r h c => ?_) (Cert.ProjZRefIdeal.Value.run m' g')
  obtain ⟨a0, a1, a2⟩ := hagree c
  obtain ⟨h0, hk⟩ := h c
  obtain ⟨A, hA⟩ := table (m ((c.tc : Thread Cert.ProjZIdeal.nD Cert.ProjZIdeal.τ).loc Cert.ProjZIdeal.main_arg0))
  obtain ⟨B, hB⟩ := table (m ((c.tc : Thread Cert.ProjZIdeal.nD Cert.ProjZIdeal.τ).loc Cert.ProjZIdeal.main_arg1))
  obtain ⟨R, hR⟩ := row (m ((c.tc : Thread Cert.ProjZIdeal.nD Cert.ProjZIdeal.τ).loc Cert.ProjZIdeal.main_arg2))
  refine ⟨?_, hk⟩
  rw [h0, Cert.ProjZRefIdeal.Read.val_main_v5_eq, a0, a1, a2]
  exact funext fun i => (reference hA hB hR i).trans (array hA hB hR i).symm

end ProjZ
-- ==== Proof.ProjG.lean ====
module

public import proofs.«01_k».proof.Defs
public import proofs.«01_k».proof.Proof.Gen.ProjG.Frame
public import proofs.«01_k».proof.Proof.Gen.ProjGIdeal.Frame
public import proofs.«01_k».proof.Proof.Gen.ProjGIdeal.Value
public import proofs.«01_k».proof.Proof.Gen.ProjGRefIdeal
public import proofs.«01_k».proof.Proof.Gen.ProjGRefIdeal.Run
public import proofs.«01_k».proof.Proof.Gen.ProjGRefIdeal.Read
public import proofs.«01_k».proof.Proof.Product
public import Idealize.ShloMosaic.Lib.Pipeline.ValueKit
public import Idealize.ShloMosaic.Lib.Pipeline.ReadBack

/-! The gates' part of the input projection: the array the kernel leaves, as the sum of products it is, and that the
reference leaves the same array. -/

@[expose] public section
noncomputable section
namespace ProjG
open Idealize.ShloMosaic Idealize.ShloMosaic.TcCoe Idealize.SL.Sem Product

section kernel
open Cert.ProjGIdeal Cert.ProjGIdeal.Gen
set_option maxHeartbeats 4000000

section block
variable {x0 : Vec Ideal S1024x2048 .bf16} {x1 : Vec Ideal S1024x2048 .bf16} {A B : ℕ → ℕ → EReal}
variable (h0 : ∀ i, x0 i = A (i 0).val (i 1).val) (h1 : ∀ i, x1 i = B (i 0).val (i 1).val)
include h0 h1

/-- The block the point stores: the product of its two blocks and what is added. -/
theorem block {x2 : Vec Ideal S1x1024 .f32} {R : ℕ → EReal} (h2 : ∀ i, x2 i = R (i 1).val) (i : S1024x1024.Idx) : out0_3 x0 x1 x2 i = stretch 2048 0 (fun k => A (i 0).val k * B (i 1).val k) + R (i 1).val := by
  frame_out [↓View.readCov_skip, ↓View.readCov_fill]
  pointwise [k0_pay1]
  simp only [h0, h1, h2]
  exact congrArg (· + _) (stretch_first 2048 fun k => A (i 0).val k * B (i 1).val k)
end block

variable (m : (ℓ : Loc nD τ sig) → Buf (Elt Ideal) ℓ) (c : Dev nD) {A B : ℕ → ℕ → EReal} {R : ℕ → EReal}

theorem index0_0 : ∀ t : Fin cfg0.N, win0_0.index t 0 = t.val / 4 := by decide +kernel
theorem index0_1 : ∀ t : Fin cfg0.N, win0_0.index t 1 = 0 := by decide +kernel
theorem index1_0 : ∀ t : Fin cfg0.N, win0_1.index t 0 = t.val % 4 := by decide +kernel
theorem index1_1 : ∀ t : Fin cfg0.N, win0_1.index t 1 = 0 := by decide +kernel
theorem index2_0 : ∀ t : Fin cfg0.N, win0_2.index t 0 = 0 := by decide +kernel
theorem index2_1 : ∀ t : Fin cfg0.N, win0_2.index t 1 = t.val % 4 := by decide +kernel
theorem index3_0 : ∀ t : Fin cfg0.N, win0_3.index t 0 = t.val / 4 := by decide +kernel
theorem index3_1 : ∀ t : Fin cfg0.N, win0_3.index t 1 = t.val % 4 := by decide +kernel

variable {m c}
variable (hA : ∀ i : S8192x2048.Idx, V m c main_arg0 i = A (i 0).val (i 1).val) (hB : ∀ i : S4096x2048.Idx, V m c main_arg1 i = B (i 0).val (i 1).val) (hR : ∀ i : S1x4096.Idx, V m c main_arg2 i = R (i 1).val)

include hA in
theorem inA (t : Fin cfg0.N) (i : S1024x2048.Idx) : (iblk m c 0 t : Vec Ideal S1024x2048 .bf16) i = A (t.val / 4 * 1024 + (i 0).val) (i 1).val := by
  refine (hA ((win0_0.rect t).emb i)).trans ?_
  rw [win0_0.rect_emb_val t i 0, index0_0, win0_0.rect_emb_val_of_index_zero t 1 (index0_1 t) i]
  rfl
include hB in
theorem inB (t : Fin cfg0.N) (i : S1024x2048.Idx) : (iblk m c 1 t : Vec Ideal S1024x2048 .bf16) i = B (t.val % 4 * 1024 + (i 0).val) (i 1).val := by
  refine (hB ((win0_1.rect t).emb i)).trans ?_
  rw [win0_1.rect_emb_val t i 0, index1_0, win0_1.rect_emb_val_of_index_zero t 1 (index1_1 t) i]
  rfl
include hR in
theorem inR (t : Fin cfg0.N) (i : S1x1024.Idx) : (iblk m c 2 t : Vec Ideal S1x1024 .f32) i = R (t.val % 4 * 1024 + (i 1).val) := by
  refine (hR ((win0_2.rect t).emb i)).trans ?_
  rw [win0_2.rect_emb_val t i 1, index2_1]
  rfl

include hA hB hR

/-- The block point `t` stores. -/
theorem stored (t : Fin cfg0.N) (i : S1024x1024.Idx) : out0_3 (iblk m c 0 t) (iblk m c 1 t) (iblk m c 2 t) i = stretch 2048 0 (fun k => A (t.val / 4 * 1024 + (i 0).val) k * B (t.val % 4 * 1024 + (i 1).val) k) + R (t.val % 4 * 1024 + (i 1).val) :=
  block (A := fun r k => A (t.val / 4 * 1024 + r) k) (B := fun r k => B (t.val % 4 * 1024 + r) k) (inA hA t) (inB hB t) (R := fun k => R (t.val % 4 * 1024 + k)) (inR hR t) i

/-- The array the kernel leaves. -/
theorem array (i : S8192x4096.Idx) : (dats m 0 c).arrAt 3 cfg0.N i = stretch 2048 0 (fun k => A (i 0).val k * B (i 1).val k) + R (i 1).val := by
  refine (dats m 0 c).arrAt_forall_of_cover 3 (fun (i : S8192x4096.Idx) (v : EReal) => v = stretch 2048 0 (fun k => A (i 0).val k * B (i 1).val k) + R (i 1).val) (fun t ht y => ?_) (fun i => ?_) i
  · have e : (dats m 0 c).flushed 3 t y = out0_3 (iblk m c 0 t) (iblk m c 1 t) (iblk m c 2 t) y := congrFun (Cert.ProjGIdeal.Value.flushed3 m c t) y
    show (dats m 0 c).flushed 3 t y = stretch 2048 0 (fun k => A ((win0_3.rect t).emb y 0).val k * B ((win0_3.rect t).emb y 1).val k) + R ((win0_3.rect t).emb y 1).val
    rw [e, win0_3.rect_emb_val t y 0, index3_0, win0_3.rect_emb_val t y 1, index3_1]
    exact stored hA hB hR t y
  · have hN : cfg0.N = 32 := N_0
    have b0 : (i 0).val < 8192 := (i 0).isLt
    have b1 : (i 1).val < 4096 := (i 1).isLt
    let t : Fin cfg0.N := ⟨(i 0).val / 1024 * 4 + (i 1).val / 1024, by omega⟩
    refine ⟨t, flush0_3 t, ?_⟩
    show i ∈ ((View.whole main_v0).slice (win0_3.rect t)).set
    rw [View.set_slice_whole, win0_3.mem_rect_iff]
    intro a
    match a with
    | ⟨0, _⟩ =>
      show win0_3.index t 0 * 1024 ≤ (i 0).val ∧ (i 0).val < win0_3.index t 0 * 1024 + 1024
      rw [index3_0]
      show ((i 0).val / 1024 * 4 + (i 1).val / 1024) / 4 * 1024 ≤ _ ∧ _ < ((i 0).val / 1024 * 4 + (i 1).val / 1024) / 4 * 1024 + 1024
      omega
    | ⟨1, _⟩ =>
      show win0_3.index t 1 * 1024 ≤ (i 1).val ∧ (i 1).val < win0_3.index t 1 * 1024 + 1024
      rw [index3_1]
      show ((i 0).val / 1024 * 4 + (i 1).val / 1024) % 4 * 1024 ≤ _ ∧ _ < ((i 0).val / 1024 * 4 + (i 1).val / 1024) % 4 * 1024 + 1024
      omega

end kernel

section reference
open Cert.ProjGRefIdeal Cert.ProjGRefIdeal.Read
variable {x0 : S8192x2048.Idx → EReal} {x1 : S4096x2048.Idx → EReal} {A B : ℕ → ℕ → EReal} {x2 : S1x4096.Idx → EReal} {R : ℕ → EReal}

/-- The array the reference leaves. -/
theorem reference (h0 : ∀ i, x0 i = A (i 0).val (i 1).val) (h1 : ∀ i, x1 i = B (i 0).val (i 1).val) (h2 : ∀ i, x2 i = R (i 1).val) (i : S8192x4096.Idx) :
    val_main_v5 (F := Ideal) x0 x1 x2 i = stretch 2048 0 (fun k => A (i 0).val k * B (i 1).val k) + R (i 1).val := by
  simp only [val_main_v5_apply, val_main_v4_apply, val_main_v3_apply, val_main_v2_apply, val_main_v1_apply, val_main_v0_apply, Ideal.truncf_def, Ideal.extf_def, Ideal.addf_def, h0, h1, h2]
  exact congrArg (· + _) (stretch_first 2048 (fun k => A (i 0).val k * B (i 1).val k))
end reference

/-- The reference ends, keeps its arguments and leaves no signal. -/
theorem reference_frame : Cert.quiescent_ProjGRefIdeal := fun m g _ =>
  (θ_run Cert.ProjGRefIdeal.defs _ _).mono (fun r h => ⟨fun c => (h c).2, sem_eq_zero_of_no_sems (by decide) r.2⟩)
    (Cert.ProjGRefIdeal.Value.run m g)

/-- The two arrays agree. -/
theorem algebraic : Cert.algebraic_ProjGIdeal_ProjGRefIdeal := by
  intro m g m' g' _ hagree
  refine ⟨_, Cert.ProjGIdeal.Value.run_blocks m g, ?_⟩
  refine (θ_run Cert.ProjGRefIdeal.defs _ _).mono (fun r h c => ?_) (Cert.ProjGRefIdeal.Value.run m' g')
  obtain ⟨a0, a1, a2⟩ := hagree c
  obtain ⟨h0, hk⟩ := h c
  obtain ⟨A, hA⟩ := table (m ((c.tc : Thread Cert.ProjGIdeal.nD Cert.ProjGIdeal.τ).loc Cert.ProjGIdeal.main_arg0))
  obtain ⟨B, hB⟩ := table (m ((c.tc : Thread Cert.ProjGIdeal.nD Cert.ProjGIdeal.τ).loc Cert.ProjGIdeal.main_arg1))
  obtain ⟨R, hR⟩ := row (m ((c.tc : Thread Cert.ProjGIdeal.nD Cert.ProjGIdeal.τ).loc Cert.ProjGIdeal.main_arg2))
  refine ⟨?_, hk⟩
  rw [h0, Cert.ProjGRefIdeal.Read.val_main_v5_eq, a0, a1, a2]
  exact funext fun i => (reference hA hB hR i).trans (array hA hB hR i).symm

end ProjG
-- ==== Proof.DownProj.lean ====
module

public import proofs.«01_k».proof.Defs
public import proofs.«01_k».proof.Proof.Gen.DownProj.Frame
public import proofs.«01_k».proof.Proof.Gen.DownProjIdeal.Frame
public import proofs.«01_k».proof.Proof.Gen.DownProjIdeal.Value
public import proofs.«01_k».proof.Proof.Gen.DownProjRefIdeal
public import proofs.«01_k».proof.Proof.Gen.DownProjRefIdeal.Run
public import proofs.«01_k».proof.Proof.Gen.DownProjRefIdeal.Read
public import proofs.«01_k».proof.Proof.Product
public import Idealize.ShloMosaic.Lib.Pipeline.ValueKit
public import Idealize.ShloMosaic.Lib.Pipeline.ReadBack

/-! The down projection, added to the residual: the array the kernel leaves, as the sum of products it is, and that the
reference leaves the same array. -/

@[expose] public section
noncomputable section
namespace DownProj
open Idealize.ShloMosaic Idealize.ShloMosaic.TcCoe Idealize.SL.Sem Product

section kernel
open Cert.DownProjIdeal Cert.DownProjIdeal.Gen
set_option maxHeartbeats 4000000

section block
variable {x0 : Vec Ideal S1024x2816 .bf16} {x1 : Vec Ideal S2816x1024 .bf16} {A B : ℕ → ℕ → EReal}
variable (h0 : ∀ i, x0 i = A (i 0).val (i 1).val) (h1 : ∀ i, x1 i = B (i 0).val (i 1).val)
include h0 h1

/-- The product of two blocks. -/
theorem part (i : S1024x1024.Idx) : k0_pay1 x0 x1 i = stretch 2816 0 fun k => A (i 0).val k * B k (i 1).val := by
  pointwise [k0_pay1]
  simp only [h0, h1]
  exact stretch_first 2816 fun k => A (i 0).val k * B k (i 1).val

/-- What the first point of a run leaves in the accumulator. -/
theorem first {x2 : Vec Ideal S1024x1024 .f32} {c : Dev nD} {g : grid0.Coords} {a0 : Memref sig .tc .vmem S1024x2816 .bf16} {ha0 : a0.IsWhole} {a1 : Memref sig .tc .vmem S2816x1024 .bf16} {ha1 : a1.IsWhole} {a2 : Memref sig .tc .vmem S1024x1024 .f32} {ha2 : a2.IsWhole} {a3 : Memref sig .tc .vmem S1024x1024 .f32} {ha3 : a3.IsWhole} {a4 : Memref sig .tc .vmem S1024x1024 .f32} {ha4 : a4.IsWhole} {hc} {hc'} {hc''} (i : S1024x1024.Idx) :
    sout0_A_0 (F := Ideal) c g a0 ha0 a1 ha1 a2 ha2 a3 ha3 a4 ha4 hc hc' hc'' x0 x1 x2 i = stretch 2816 0 fun k => A (i 0).val k * B k (i 1).val := by
  frame_out [↓View.readCov_skip, ↓View.readCov_fill]
  pointwise [k0_pay2]
  exact part h0 h1 i

/-- What the last point stores in its block. -/
theorem last {x2 : Vec Ideal S1024x1024 .f32} {R : ℕ → ℕ → EReal} (h2 : ∀ i, x2 i = R (i 0).val (i 1).val) {c : Dev nD} {g : grid0.Coords} {a0 : Memref sig .tc .vmem S1024x2816 .bf16} {ha0 : a0.IsWhole} {a1 : Memref sig .tc .vmem S2816x1024 .bf16} {ha1 : a1.IsWhole} {a2 : Memref sig .tc .vmem S1024x1024 .f32} {ha2 : a2.IsWhole} {a3 : Memref sig .tc .vmem S1024x1024 .f32} {ha3 : a3.IsWhole} {a4 : Memref sig .tc .vmem S1024x1024 .f32} {ha4 : a4.IsWhole} {hc} {hc'} {hc''} (acc : Vec Ideal S1024x1024 .f32) (i : S1024x1024.Idx) :
    out0_B_3 (F := Ideal) c g a0 ha0 a1 ha1 a2 ha2 a3 ha3 a4 ha4 hc hc' hc'' x0 x1 x2 acc i = (acc i + stretch 2816 0 fun k => A (i 0).val k * B k (i 1).val) + R (i 0).val (i 1).val := by
  frame_out [↓View.readCov_skip, ↓View.readCov_fill]
  pointwise [k0_pay4]
  rw [h2]; exact congrArg (fun s => acc i + s + _) (part h0 h1 i)
end block

variable (m : (ℓ : Loc nD τ sig) → Buf (Elt Ideal) ℓ) (c : Dev nD) {A B R : ℕ → ℕ → EReal}

theorem index0_0 : ∀ t : Fin cfg0.N, win0_0.index t 0 = t.val / 4 := by decide +kernel
theorem index0_1 : ∀ t : Fin cfg0.N, win0_0.index t 1 = t.val % 2 := by decide +kernel
theorem index1_0 : ∀ t : Fin cfg0.N, win0_1.index t 0 = t.val % 2 := by decide +kernel
theorem index1_1 : ∀ t : Fin cfg0.N, win0_1.index t 1 = t.val / 2 % 2 := by decide +kernel
theorem index2_0 : ∀ t : Fin cfg0.N, win0_2.index t 0 = t.val / 4 := by decide +kernel
theorem index2_1 : ∀ t : Fin cfg0.N, win0_2.index t 1 = t.val / 2 % 2 := by decide +kernel
theorem index3_0 : ∀ t : Fin cfg0.N, win0_3.index t 0 = t.val / 4 := by decide +kernel
theorem index3_1 : ∀ t : Fin cfg0.N, win0_3.index t 1 = t.val / 2 % 2 := by decide +kernel

variable {m c}
variable (hA : ∀ i : S8192x5632.Idx, V m c main_arg0 i = A (i 0).val (i 1).val) (hB : ∀ i : S5632x2048.Idx, V m c main_arg1 i = B (i 0).val (i 1).val) (hR : ∀ i : S8192x2048.Idx, V m c main_arg2 i = R (i 0).val (i 1).val)

include hA in
theorem inA (t : Fin cfg0.N) (i : S1024x2816.Idx) : (iblk m c 0 t : Vec Ideal S1024x2816 .bf16) i = A (t.val / 4 * 1024 + (i 0).val) (t.val % 2 * 2816 + (i 1).val) := by
  refine (hA ((win0_0.rect t).emb i)).trans ?_
  rw [win0_0.rect_emb_val t i 0, index0_0, win0_0.rect_emb_val t i 1, index0_1]
  rfl
include hB in
theorem inB (t : Fin cfg0.N) (i : S2816x1024.Idx) : (iblk m c 1 t : Vec Ideal S2816x1024 .bf16) i = B (t.val % 2 * 2816 + (i 0).val) (t.val / 2 % 2 * 1024 + (i 1).val) := by
  refine (hB ((win0_1.rect t).emb i)).trans ?_
  rw [win0_1.rect_emb_val t i 0, index1_0, win0_1.rect_emb_val t i 1, index1_1]
  rfl
include hR in
theorem inR (t : Fin cfg0.N) (i : S1024x1024.Idx) : (iblk m c 2 t : Vec Ideal S1024x1024 .f32) i = R (t.val / 4 * 1024 + (i 0).val) (t.val / 2 % 2 * 1024 + (i 1).val) := by
  refine (hR ((win0_2.rect t).emb i)).trans ?_
  rw [win0_2.rect_emb_val t i 0, index2_0, win0_2.rect_emb_val t i 1, index2_1]
  rfl

/-- The terms of the sum at place `i` of point `t`'s block. -/
abbrev terms (A B : ℕ → ℕ → EReal) (t : Fin cfg0.N) (i : S1024x1024.Idx) : ℕ → EReal := fun k => A (t.val / 4 * 1024 + (i 0).val) k * B k (t.val / 2 % 2 * 1024 + (i 1).val)

include hA hB

theorem after_first (t : Fin cfg0.N) (h : t.val % 2 = 0) (i : S1024x1024.Idx) :
    (outsAt0 m c t.val t.isLt).2 i = stretch 2816 0 (terms A B t i) := by
  rw [outsAt0_A m c t h (by omega)]
  dsimp only
  refine (first (A := fun r k => A (t.val / 4 * 1024 + r) (t.val % 2 * 2816 + k)) (B := fun r k => B (t.val % 2 * 2816 + r) (t.val / 2 % 2 * 1024 + k)) (inA hA t) (inB hB t) i).trans ?_
  rw [h]
  exact stretch_shift 2816 0 (terms A B t i)

include hR in
theorem after_last (t : Fin cfg0.N) (h : t.val % 2 = 1) (i : S1024x1024.Idx) :
    (outsAt0 m c t.val t.isLt).1 i = (outsAt0 m c (t.val - 1) (Nat.lt_of_le_of_lt (Nat.sub_le _ _) t.isLt)).2 i + stretch 2816 1 (terms A B t i) + R (t.val / 4 * 1024 + (i 0).val) (t.val / 2 % 2 * 1024 + (i 1).val) := by
  rw [outsAt0_B m c t (by omega) (by omega)]
  dsimp only
  refine (last (A := fun r k => A (t.val / 4 * 1024 + r) (t.val % 2 * 2816 + k)) (B := fun r k => B (t.val % 2 * 2816 + r) (t.val / 2 % 2 * 1024 + k)) (inA hA t) (inB hB t) (R := fun r k => R (t.val / 4 * 1024 + r) (t.val / 2 % 2 * 1024 + k)) (inR hR t) _ i).trans ?_
  rw [h, ← stretch_shift 2816 1 (terms A B t i)]

omit hA hB in
/-- Two points of one run sum the same terms. -/
theorem terms_same {t s : Fin cfg0.N} (h : t.val / 2 = s.val / 2) (i : S1024x1024.Idx) : terms A B t i = terms A B s i := by
  funext k
  simp only [terms, show t.val / 4 = s.val / 4 by omega, show t.val / 2 % 2 = s.val / 2 % 2 by omega]

include hR in
/-- The block the last point of a run stores. -/
theorem stored (t : Fin cfg0.N) (h : t.val % 2 = 1) (i : S1024x1024.Idx) :
    (outsAt0 m c t.val t.isLt).1 i = stretch 5632 0 (terms A B t i) + R (t.val / 4 * 1024 + (i 0).val) (t.val / 2 % 2 * 1024 + (i 1).val) := by
  rw [after_last hA hB hR t h, after_first hA hB ⟨t.val - 1, by omega⟩ (by show (t.val - 1) % 2 = 0; omega),
    terms_same (t := ⟨t.val - 1, by omega⟩) (s := t) (by show (t.val - 1) / 2 = t.val / 2; omega), stretch_two]

include hR in
/-- The array the kernel leaves. -/
theorem array (i : S8192x2048.Idx) : (dats m 0 c).arrAt 3 cfg0.N i = stretch 5632 0 (fun k => A (i 0).val k * B k (i 1).val) + R (i 0).val (i 1).val := by
  refine (dats m 0 c).arrAt_forall_of_cover 3 (fun (i : S8192x2048.Idx) (v : EReal) => v = stretch 5632 0 (fun k => A (i 0).val k * B k (i 1).val) + R (i 0).val (i 1).val) (fun t ht y => ?_) (fun i => ?_) i
  · have e : (dats m 0 c).flushed 3 t y = (outsAt0 m c t.val t.isLt).1 y := congrFun (Cert.DownProjIdeal.Value.flushed3 m c t) y
    show (dats m 0 c).flushed 3 t y = stretch 5632 0 (fun k => A ((win0_3.rect t).emb y 0).val k * B k ((win0_3.rect t).emb y 1).val) + R ((win0_3.rect t).emb y 0).val ((win0_3.rect t).emb y 1).val
    rw [e, win0_3.rect_emb_val t y 0, index3_0, win0_3.rect_emb_val t y 1, index3_1]
    exact stored hA hB hR t ((flush0_3 t).mp ht) y
  · have hN : cfg0.N = 32 := N_0
    have b0 : (i 0).val < 8192 := (i 0).isLt
    have b1 : (i 1).val < 2048 := (i 1).isLt
    let t : Fin cfg0.N := ⟨(i 0).val / 1024 * 4 + (i 1).val / 1024 * 2 + 1, by omega⟩
    refine ⟨t, (flush0_3 t).mpr (by show ((i 0).val / 1024 * 4 + (i 1).val / 1024 * 2 + 1) % 2 = 1; omega), ?_⟩
    show i ∈ ((View.whole main_v0).slice (win0_3.rect t)).set
    rw [View.set_slice_whole, win0_3.mem_rect_iff]
    intro a
    match a with
    | ⟨0, _⟩ =>
      show win0_3.index t 0 * 1024 ≤ (i 0).val ∧ (i 0).val < win0_3.index t 0 * 1024 + 1024
      rw [index3_0]
      show ((i 0).val / 1024 * 4 + (i 1).val / 1024 * 2 + 1) / 4 * 1024 ≤ _ ∧ _ < ((i 0).val / 1024 * 4 + (i 1).val / 1024 * 2 + 1) / 4 * 1024 + 1024
      omega
    | ⟨1, _⟩ =>
      show win0_3.index t 1 * 1024 ≤ (i 1).val ∧ (i 1).val < win0_3.index t 1 * 1024 + 1024
      rw [index3_1]
      show ((i 0).val / 1024 * 4 + (i 1).val / 1024 * 2 + 1) / 2 % 2 * 1024 ≤ _ ∧ _ < ((i 0).val / 1024 * 4 + (i 1).val / 1024 * 2 + 1) / 2 % 2 * 1024 + 1024
      omega

end kernel

section reference
open Cert.DownProjRefIdeal Cert.DownProjRefIdeal.Read
variable {x0 : S8192x5632.Idx → EReal} {x1 : S5632x2048.Idx → EReal} {A B : ℕ → ℕ → EReal} {x2 : S8192x2048.Idx → EReal} {R : ℕ → ℕ → EReal}

/-- The array the reference leaves. -/
theorem reference (h0 : ∀ i, x0 i = A (i 0).val (i 1).val) (h1 : ∀ i, x1 i = B (i 0).val (i 1).val) (h2 : ∀ i, x2 i = R (i 0).val (i 1).val) (i : S8192x2048.Idx) :
    val_main_v3 (F := Ideal) x0 x1 x2 i = stretch 5632 0 (fun k => A (i 0).val k * B k (i 1).val) + R (i 0).val (i 1).val := by
  simp only [val_main_v3_apply, val_main_v2_apply, val_main_v1_apply, val_main_v0_apply, Ideal.truncf_def, Ideal.extf_def, Ideal.addf_def, h0, h1, h2]
  rw [add_comm]
  exact congrArg (· + R (i 0).val (i 1).val) (stretch_first 5632 (fun k => A (i 0).val k * B k (i 1).val))
end reference

/-- The reference ends, keeps its arguments and leaves no signal. -/
theorem reference_frame : Cert.quiescent_DownProjRefIdeal := fun m g _ =>
  (θ_run Cert.DownProjRefIdeal.defs _ _).mono (fun r h => ⟨fun c => (h c).2, sem_eq_zero_of_no_sems (by decide) r.2⟩)
    (Cert.DownProjRefIdeal.Value.run m g)

/-- The two arrays agree. -/
theorem algebraic : Cert.algebraic_DownProjIdeal_DownProjRefIdeal := by
  intro m g m' g' _ hagree
  refine ⟨_, Cert.DownProjIdeal.Value.run_blocks m g, ?_⟩
  refine (θ_run Cert.DownProjRefIdeal.defs _ _).mono (fun r h c => ?_) (Cert.DownProjRefIdeal.Value.run m' g')
  obtain ⟨a0, a1, a2⟩ := hagree c
  obtain ⟨h0, hk⟩ := h c
  obtain ⟨A, hA⟩ := table (m ((c.tc : Thread Cert.DownProjIdeal.nD Cert.DownProjIdeal.τ).loc Cert.DownProjIdeal.main_arg0))
  obtain ⟨B, hB⟩ := table (m ((c.tc : Thread Cert.DownProjIdeal.nD Cert.DownProjIdeal.τ).loc Cert.DownProjIdeal.main_arg1))
  obtain ⟨R, hR⟩ := table (m ((c.tc : Thread Cert.DownProjIdeal.nD Cert.DownProjIdeal.τ).loc Cert.DownProjIdeal.main_arg2))
  refine ⟨?_, hk⟩
  rw [h0, Cert.DownProjRefIdeal.Read.val_main_v3_eq, a0, a1, a2]
  exact funext fun i => (reference hA hB hR i).trans (array hA hB hR i).symm

end DownProj
-- ==== Proof.Gate.lean ====
module

public import Idealize.ShloMosaic.Lib.KernelVsHost
public import Idealize.ShloMosaic.Lib.Pointwise
public import Idealize.ShloMosaic.Lib.Pipeline.ValueKit

/-! The sigmoid as the kernels spell it, the columns of two arrays that come in pairs of blocks, and where a piece of a block
lies in it. -/

@[expose] public section
noncomputable section
namespace Gate
open Idealize.ShloMosaic

theorem one_lit : Ideal.ofBits .f32 0x3F800000#32 = 1 := by
  have h : Ideal.ofBits .f32 0x3F800000#32 = ((1 : ℝ) : EReal) := by
    simp [Ideal.ofBits, Ideal.ieee, -EReal.coe_mul]; norm_num
  exact h.trans EReal.coe_one
theorem zero_lit : Ideal.ofBits .f32 0x00000000#32 = 0 := by
  simp [Ideal.ofBits, Ideal.ieee]

/-- The kernels' spelling of the sigmoid. -/
theorem sigmoid (x : EReal) : Ideal.div 1 (1 + Ideal.exp (0 - x)) = Ideal.logistic x := by
  rw [zero_sub]
  rfl

/-- The host's spelling of the sigmoid. -/
theorem sigmoid_host (x : EReal) : Ideal.div 1 (1 + Ideal.exp (-x)) = Ideal.logistic x := rfl

/-- The gated activation. -/
def swiglu (g u : EReal) : EReal := g * Ideal.logistic g * u

/-- The column, among the paired ones, of column `c` of the first array; the blocks have `w` columns. -/
def fst (w c : ℕ) : ℕ := c / w * (2 * w) + c % w

/-- The same of the second array. -/
def snd (w c : ℕ) : ℕ := c / w * (2 * w) + (w + c % w)

theorem fst_block {w q c : ℕ} (h : c < w) : fst w (q * w + c) = q * (2 * w) + c := by
  unfold fst
  rw [mul_comm q w, Nat.mul_add_div (by omega), Nat.div_eq_of_lt h, Nat.add_zero, Nat.mul_add_mod, Nat.mod_eq_of_lt h]

theorem snd_block {w q c : ℕ} (h : c < w) : snd w (q * w + c) = q * (2 * w) + (w + c) := by
  unfold snd
  rw [mul_comm q w, Nat.mul_add_div (by omega), Nat.div_eq_of_lt h, Nat.add_zero, Nat.mul_add_mod, Nat.mod_eq_of_lt h]

/-- An element of a piece of a block, read in the block. -/
theorem place {α : Type} {m n : ℕ} {G : (⟨2, ![m, n]⟩ : Shape).Idx → α} {g : ℕ → ℕ → α} (hG : ∀ j, G j = g (j 0).val (j 1).val)
    {o p a b : ℕ} (inb : ∀ x, ![o, p] x + ![a, b] x ≤ (⟨2, ![m, n]⟩ : Shape).size x)
    (x : (Rect.unit (s := ⟨2, ![m, n]⟩) ![o, p] ![a, b] inb).shape.Idx) :
    G ((Rect.unit (s := ⟨2, ![m, n]⟩) ![o, p] ![a, b] inb).emb x) = g (o + (x 0).val) (p + (x 1).val) := by
  rw [hG]
  show g (o + 1 * (x 0).val) (p + 1 * (x 1).val) = _
  rw [one_mul, one_mul]

section pads
variable {m n w : ℕ} {x : (⟨4, ![m, n, 1, w]⟩ : Shape).Idx → EReal} {u : Shape} {v : u.Idx → EReal} {F : ℕ → ℕ → ℕ → EReal}

/-- An array set into the first place of a pair of places, zero in the other. -/
theorem pad_first (hx : ∀ k, x k = F (k 0).val (k 1).val (k 3).val) (hv : ∀ k, v k = 0)
    (h : (⟨4, ![m, n, 1, w]⟩ : Shape).Pads ![0, 0, 0, 0] ![0, 0, 1, 0] ![0, 0, 0, 0] ⟨4, ![m, n, 2, w]⟩) (hu : 0 < u.numel)
    (j : (⟨4, ![m, n, 2, w]⟩ : Shape).Idx) :
    pad ⟨4, ![m, n, 2, w]⟩ ![0, 0, 0, 0] ![0, 0, 1, 0] ![0, 0, 0, 0] x v h hu j
      = if (j 2).val = 0 then F (j 0).val (j 1).val (j 3).val else 0 := by
  split
  next e =>
    refine (pad_apply_of_inside _ _ _ x v h hu j
      (fun a => match a with | ⟨0, _⟩ => j 0 | ⟨1, _⟩ => j 1 | ⟨2, _⟩ => (0 : Fin 1) | ⟨3, _⟩ => j 3) (fun a => ?_)).trans (hx _)
    match a with
    | ⟨0, _⟩ => show (j 0).val = 0 + (j 0).val * (0 + 1); omega
    | ⟨1, _⟩ => show (j 1).val = 0 + (j 1).val * (0 + 1); omega
    | ⟨2, _⟩ => show (j 2).val = 0 + 0 * (0 + 1); omega
    | ⟨3, _⟩ => show (j 3).val = 0 + (j 3).val * (0 + 1); omega
  next e =>
    refine (pad_apply_of_not_inside _ _ _ x v h hu j 2 (fun hin => e ?_)).trans (hv _)
    have h2 : ((j 2).val - 0) / (0 + 1) < 1 := hin.2.2
    omega

/-- The same of the second place. -/
theorem pad_second (hx : ∀ k, x k = F (k 0).val (k 1).val (k 3).val) (hv : ∀ k, v k = 0)
    (h : (⟨4, ![m, n, 1, w]⟩ : Shape).Pads ![0, 0, 1, 0] ![0, 0, 0, 0] ![0, 0, 0, 0] ⟨4, ![m, n, 2, w]⟩) (hu : 0 < u.numel)
    (j : (⟨4, ![m, n, 2, w]⟩ : Shape).Idx) :
    pad ⟨4, ![m, n, 2, w]⟩ ![0, 0, 1, 0] ![0, 0, 0, 0] ![0, 0, 0, 0] x v h hu j
      = if (j 2).val = 0 then 0 else F (j 0).val (j 1).val (j 3).val := by
  have b : (j 2).val < 2 := (j 2).isLt
  split
  next e =>
    refine (pad_apply_of_not_inside _ _ _ x v h hu j 2 (fun hin => ?_)).trans (hv _)
    have h2 : 1 ≤ (j 2).val := hin.1
    omega
  next e =>
    refine (pad_apply_of_inside _ _ _ x v h hu j
      (fun a => match a with | ⟨0, _⟩ => j 0 | ⟨1, _⟩ => j 1 | ⟨2, _⟩ => (0 : Fin 1) | ⟨3, _⟩ => j 3) (fun a => ?_)).trans (hx _)
    match a with
    | ⟨0, _⟩ => show (j 0).val = 0 + (j 0).val * (0 + 1); omega
    | ⟨1, _⟩ => show (j 1).val = 0 + (j 1).val * (0 + 1); omega
    | ⟨2, _⟩ => show (j 2).val = 1 + 0 * (0 + 1); omega
    | ⟨3, _⟩ => show (j 3).val = 0 + (j 3).val * (0 + 1); omega
end pads

end Gate
end
-- ==== Proof.GateUp.lean ====
module

public import proofs.«01_k».proof.Defs
public import proofs.«01_k».proof.Proof.Gen.GateUp.Frame
public import proofs.«01_k».proof.Proof.Gen.GateUpIdeal.Frame
public import proofs.«01_k».proof.Proof.Gen.GateUpIdeal.Value
public import proofs.«01_k».proof.Proof.Gen.GateUpRefIdeal
public import proofs.«01_k».proof.Proof.Gen.GateUpRefIdeal.Run
public import proofs.«01_k».proof.Proof.Gen.GateUpRefIdeal.Read
public import proofs.«01_k».proof.Proof.Product
public import proofs.«01_k».proof.Proof.Gate
public import Idealize.ShloMosaic.Lib.Pipeline.ValueKit
public import Idealize.ShloMosaic.Lib.Pipeline.ReadBack

/-! The gate and up product and the gated activation: the two arrays the kernel leaves, and that the reference leaves the same. -/

@[expose] public section
noncomputable section
namespace GateUp
open Idealize.ShloMosaic Idealize.ShloMosaic.TcCoe Idealize.SL.Sem Product

section kernel
open Cert.GateUpIdeal Cert.GateUpIdeal.Gen
set_option maxHeartbeats 4000000

section block
variable {x0 : Vec Ideal S512x2048 .bf16} {x1 : Vec Ideal S2048x2816 .bf16} {A B : ℕ → ℕ → EReal}
variable (h0 : ∀ i, x0 i = A (i 0).val (i 1).val) (h1 : ∀ i, x1 i = B (i 0).val (i 1).val)
include h0 h1

/-- The product of two blocks. -/
theorem part (i : S512x2816.Idx) : k0_pay1 x0 x1 i = stretch 2048 0 fun k => A (i 0).val k * B k (i 1).val := by
  pointwise [k0_pay1]
  simp only [h0, h1]
  exact stretch_first 2048 fun k => A (i 0).val k * B k (i 1).val

theorem block_gu (i : S512x2816.Idx) : out0_2 x0 x1 i = stretch 2048 0 fun k => A (i 0).val k * B k (i 1).val := by
  frame_out [↓View.readCov_skip, ↓View.readCov_fill]
  pointwise [k0_pay2]
  exact part h0 h1 i

theorem block_act (i : S512x1408.Idx) : out0_3 x0 x1 i
    = Gate.swiglu (stretch 2048 0 fun k => A (i 0).val k * B k (i 1).val) (stretch 2048 0 fun k => A (i 0).val k * B k (1408 + (i 1).val)) := by
  frame_out [↓View.readCov_skip, ↓View.readCov_fill]
  pointwise [k0_pay3]
  simp only [part h0 h1, Gate.sigmoid]
  rfl
end block

variable {m : (ℓ : Loc nD τ sig) → Buf (Elt Ideal) ℓ} {c : Dev nD} {A B : ℕ → ℕ → EReal}

theorem index0_0 : ∀ t : Fin cfg0.N, win0_0.index t 0 = t.val / 4 := by decide +kernel
theorem index0_1 : ∀ t : Fin cfg0.N, win0_0.index t 1 = 0 := by decide +kernel
theorem index1_0 : ∀ t : Fin cfg0.N, win0_1.index t 0 = 0 := by decide +kernel
theorem index1_1 : ∀ t : Fin cfg0.N, win0_1.index t 1 = t.val % 4 := by decide +kernel
theorem index2_0 : ∀ t : Fin cfg0.N, win0_2.index t 0 = t.val / 4 := by decide +kernel
theorem index2_1 : ∀ t : Fin cfg0.N, win0_2.index t 1 = t.val % 4 := by decide +kernel
theorem index3_0 : ∀ t : Fin cfg0.N, win0_3.index t 0 = t.val / 4 := by decide +kernel
theorem index3_1 : ∀ t : Fin cfg0.N, win0_3.index t 1 = t.val % 4 := by decide +kernel

variable (hA : ∀ i : S8192x2048.Idx, V m c main_arg0 i = A (i 0).val (i 1).val) (hB : ∀ i : S2048x11264.Idx, V m c main_arg1 i = B (i 0).val (i 1).val)

include hA in
theorem inA (t : Fin cfg0.N) (i : S512x2048.Idx) : (iblk m c 0 t : Vec Ideal S512x2048 .bf16) i = A (t.val / 4 * 512 + (i 0).val) (i 1).val := by
  refine (hA ((win0_0.rect t).emb i)).trans ?_
  rw [win0_0.rect_emb_val t i 0, index0_0, win0_0.rect_emb_val_of_index_zero t 1 (index0_1 t) i]
  rfl
include hB in
theorem inB (t : Fin cfg0.N) (i : S2048x2816.Idx) : (iblk m c 1 t : Vec Ideal S2048x2816 .bf16) i = B (i 0).val (t.val % 4 * 2816 + (i 1).val) := by
  refine (hB ((win0_1.rect t).emb i)).trans ?_
  rw [win0_1.rect_emb_val_of_index_zero t 0 (index1_0 t) i, win0_1.rect_emb_val t i 1, index1_1]
  rfl

/-- The product of row `r` and column `c`. -/
def gu (A B : ℕ → ℕ → EReal) (r c : ℕ) : EReal := stretch 2048 0 fun k => A r k * B k c

/-- The activation at row `r` and column `c`. -/
def act (A B : ℕ → ℕ → EReal) (r c : ℕ) : EReal := Gate.swiglu (gu A B r (Gate.fst 1408 c)) (gu A B r (Gate.snd 1408 c))

include hA hB

theorem stored_gu (t : Fin cfg0.N) (i : S512x2816.Idx) : out0_2 (iblk m c 0 t) (iblk m c 1 t) i = gu A B (t.val / 4 * 512 + (i 0).val) (t.val % 4 * 2816 + (i 1).val) :=
  block_gu (A := fun r k => A (t.val / 4 * 512 + r) k) (B := fun k r => B k (t.val % 4 * 2816 + r)) (inA hA t) (inB hB t) i

theorem stored_act (t : Fin cfg0.N) (i : S512x1408.Idx) : out0_3 (iblk m c 0 t) (iblk m c 1 t) i = act A B (t.val / 4 * 512 + (i 0).val) (t.val % 4 * 1408 + (i 1).val) := by
  rw [block_act (A := fun r k => A (t.val / 4 * 512 + r) k) (B := fun k r => B k (t.val % 4 * 2816 + r)) (inA hA t) (inB hB t) i]
  unfold act
  rw [Gate.fst_block (w := 1408) (i 1).isLt, Gate.snd_block (w := 1408) (i 1).isLt]
  rfl

theorem array_gu (i : S8192x11264.Idx) : (dats m 0 c).arrAt 2 cfg0.N i = gu A B (i 0).val (i 1).val := by
  refine (dats m 0 c).arrAt_forall_of_cover 2 (fun (i : S8192x11264.Idx) (v : EReal) => v = gu A B (i 0).val (i 1).val) (fun t ht y => ?_) (fun i => ?_) i
  · have e : (dats m 0 c).flushed 2 t y = out0_2 (iblk m c 0 t) (iblk m c 1 t) y := congrFun (Value.flushed2 m c t) y
    show (dats m 0 c).flushed 2 t y = gu A B ((win0_2.rect t).emb y 0).val ((win0_2.rect t).emb y 1).val
    rw [e, win0_2.rect_emb_val t y 0, index2_0, win0_2.rect_emb_val t y 1, index2_1]
    exact stored_gu hA hB t y
  · have hN : cfg0.N = 64 := N_0
    have b0 : (i 0).val < 8192 := (i 0).isLt
    have b1 : (i 1).val < 11264 := (i 1).isLt
    let t : Fin cfg0.N := ⟨(i 0).val / 512 * 4 + (i 1).val / 2816, by omega⟩
    refine ⟨t, flush0_2 t, ?_⟩
    show i ∈ ((View.whole main_v0_0).slice (win0_2.rect t)).set
    rw [View.set_slice_whole, win0_2.mem_rect_iff]
    intro a
    match a with
    | ⟨0, _⟩ =>
      show win0_2.index t 0 * 512 ≤ (i 0).val ∧ (i 0).val < win0_2.index t 0 * 512 + 512
      rw [index2_0]
      show ((i 0).val / 512 * 4 + (i 1).val / 2816) / 4 * 512 ≤ _ ∧ _ < ((i 0).val / 512 * 4 + (i 1).val / 2816) / 4 * 512 + 512
      omega
    | ⟨1, _⟩ =>
      show win0_2.index t 1 * 2816 ≤ (i 1).val ∧ (i 1).val < win0_2.index t 1 * 2816 + 2816
      rw [index2_1]
      show ((i 0).val / 512 * 4 + (i 1).val / 2816) % 4 * 2816 ≤ _ ∧ _ < ((i 0).val / 512 * 4 + (i 1).val / 2816) % 4 * 2816 + 2816
      omega

theorem array_act (i : S8192x5632.Idx) : (dats m 0 c).arrAt 3 cfg0.N i = act A B (i 0).val (i 1).val := by
  refine (dats m 0 c).arrAt_forall_of_cover 3 (fun (i : S8192x5632.Idx) (v : EReal) => v = act A B (i 0).val (i 1).val) (fun t ht y => ?_) (fun i => ?_) i
  · have e : (dats m 0 c).flushed 3 t y = out0_3 (iblk m c 0 t) (iblk m c 1 t) y := congrFun (Value.flushed3 m c t) y
    show (dats m 0 c).flushed 3 t y = act A B ((win0_3.rect t).emb y 0).val ((win0_3.rect t).emb y 1).val
    rw [e, win0_3.rect_emb_val t y 0, index3_0, win0_3.rect_emb_val t y 1, index3_1]
    exact stored_act hA hB t y
  · have hN : cfg0.N = 64 := N_0
    have b0 : (i 0).val < 8192 := (i 0).isLt
    have b1 : (i 1).val < 5632 := (i 1).isLt
    let t : Fin cfg0.N := ⟨(i 0).val / 512 * 4 + (i 1).val / 1408, by omega⟩
    refine ⟨t, flush0_3 t, ?_⟩
    show i ∈ ((View.whole main_v0_1).slice (win0_3.rect t)).set
    rw [View.set_slice_whole, win0_3.mem_rect_iff]
    intro a
    match a with
    | ⟨0, _⟩ =>
      show win0_3.index t 0 * 512 ≤ (i 0).val ∧ (i 0).val < win0_3.index t 0 * 512 + 512
      rw [index3_0]
      show ((i 0).val / 512 * 4 + (i 1).val / 1408) / 4 * 512 ≤ _ ∧ _ < ((i 0).val / 512 * 4 + (i 1).val / 1408) / 4 * 512 + 512
      omega
    | ⟨1, _⟩ =>
      show win0_3.index t 1 * 1408 ≤ (i 1).val ∧ (i 1).val < win0_3.index t 1 * 1408 + 1408
      rw [index3_1]
      show ((i 0).val / 512 * 4 + (i 1).val / 1408) % 4 * 1408 ≤ _ ∧ _ < ((i 0).val / 512 * 4 + (i 1).val / 1408) % 4 * 1408 + 1408
      omega

end kernel

section reference
open Cert.GateUpRefIdeal Cert.GateUpRefIdeal.Read
variable {x0 : S8192x2048.Idx → EReal} {x1 : S2048x11264.Idx → EReal} {A B : ℕ → ℕ → EReal}
variable (h0 : ∀ i, x0 i = A (i 0).val (i 1).val) (h1 : ∀ i, x1 i = B (i 0).val (i 1).val)
include h0 h1

theorem ref_product (i : S8192x11264.Idx) : val_main_v2 (F := Ideal) x0 x1 i = gu A B (i 0).val (i 1).val := by
  simp only [val_main_v2_apply, val_main_v1_apply, val_main_v0_apply, Ideal.extf_def, h0, h1]
  exact stretch_first 2048 fun k => A (i 0).val k * B k (i 1).val

/-- The products the reference leaves. -/
theorem ref_gu (i : S8192x11264.Idx) : val_main_v10 (F := Ideal) x0 x1 i = gu A B (i 0).val (i 1).val := by
  rw [val_main_v10_apply, Ideal.truncf_def]
  exact ref_product h0 h1 i

theorem ref_gate (i : S8192x5632.Idx) : val_main_v6 (F := Ideal) x0 x1 i = gu A B (i 0).val (Gate.fst 1408 (i 1).val) := by
  rw [val_main_v6_apply, val_main_v5_apply, val_main_v4_apply, val_main_v3_apply, ref_product h0 h1]
  have b0 : (i 0).val < 8192 := (i 0).isLt
  have b1 : (i 1).val < 5632 := (i 1).isLt
  refine congrArg₂ (gu A B) ?_ ?_
  · show ((((((((((i 0).val * 5632 + (i 1).val) / 5632) * 4 + (((i 0).val * 5632 + (i 1).val) / 1408 % 4)) * 1408 + (((i 0).val * 5632 + (i 1).val) % 1408)) / 5632)) * 4 + (((((((i 0).val * 5632 + (i 1).val) / 5632) * 4 + (((i 0).val * 5632 + (i 1).val) / 1408 % 4)) * 1408 + (((i 0).val * 5632 + (i 1).val) % 1408)) / 1408 % 4))) * 2 + ((0))) * 1408 + (((((((i 0).val * 5632 + (i 1).val) / 5632) * 4 + (((i 0).val * 5632 + (i 1).val) / 1408 % 4)) * 1408 + (((i 0).val * 5632 + (i 1).val) % 1408)) % 1408))) / 11264 = (i 0).val
    omega
  · show ((((((((((i 0).val * 5632 + (i 1).val) / 5632) * 4 + (((i 0).val * 5632 + (i 1).val) / 1408 % 4)) * 1408 + (((i 0).val * 5632 + (i 1).val) % 1408)) / 5632)) * 4 + (((((((i 0).val * 5632 + (i 1).val) / 5632) * 4 + (((i 0).val * 5632 + (i 1).val) / 1408 % 4)) * 1408 + (((i 0).val * 5632 + (i 1).val) % 1408)) / 1408 % 4))) * 2 + ((0))) * 1408 + (((((((i 0).val * 5632 + (i 1).val) / 5632) * 4 + (((i 0).val * 5632 + (i 1).val) / 1408 % 4)) * 1408 + (((i 0).val * 5632 + (i 1).val) % 1408)) % 1408))) % 11264 = (i 1).val / 1408 * 2816 + (i 1).val % 1408
    omega

theorem ref_up (i : S8192x5632.Idx) : val_main_v9 (F := Ideal) x0 x1 i = gu A B (i 0).val (Gate.snd 1408 (i 1).val) := by
  rw [val_main_v9_apply, val_main_v8_apply, val_main_v7_apply, val_main_v3_apply, ref_product h0 h1]
  have b0 : (i 0).val < 8192 := (i 0).isLt
  have b1 : (i 1).val < 5632 := (i 1).isLt
  refine congrArg₂ (gu A B) ?_ ?_
  · show ((((((((((i 0).val * 5632 + (i 1).val) / 5632) * 4 + (((i 0).val * 5632 + (i 1).val) / 1408 % 4)) * 1408 + (((i 0).val * 5632 + (i 1).val) % 1408)) / 5632)) * 4 + (((((((i 0).val * 5632 + (i 1).val) / 5632) * 4 + (((i 0).val * 5632 + (i 1).val) / 1408 % 4)) * 1408 + (((i 0).val * 5632 + (i 1).val) % 1408)) / 1408 % 4))) * 2 + (1 + (0))) * 1408 + (((((((i 0).val * 5632 + (i 1).val) / 5632) * 4 + (((i 0).val * 5632 + (i 1).val) / 1408 % 4)) * 1408 + (((i 0).val * 5632 + (i 1).val) % 1408)) % 1408))) / 11264 = (i 0).val
    omega
  · show ((((((((((i 0).val * 5632 + (i 1).val) / 5632) * 4 + (((i 0).val * 5632 + (i 1).val) / 1408 % 4)) * 1408 + (((i 0).val * 5632 + (i 1).val) % 1408)) / 5632)) * 4 + (((((((i 0).val * 5632 + (i 1).val) / 5632) * 4 + (((i 0).val * 5632 + (i 1).val) / 1408 % 4)) * 1408 + (((i 0).val * 5632 + (i 1).val) % 1408)) / 1408 % 4))) * 2 + (1 + (0))) * 1408 + (((((((i 0).val * 5632 + (i 1).val) / 5632) * 4 + (((i 0).val * 5632 + (i 1).val) / 1408 % 4)) * 1408 + (((i 0).val * 5632 + (i 1).val) % 1408)) % 1408))) % 11264 = (i 1).val / 1408 * 2816 + (1408 + (i 1).val % 1408)
    omega

/-- The activation the reference leaves. -/
theorem ref_act (i : S8192x5632.Idx) : val_main_v13 (F := Ideal) x0 x1 i = act A B (i 0).val (i 1).val := by
  simp only [val_main_v13_apply, val_main_v12_apply, val_main_v11_apply, val_main_call0_v5_apply, val_main_call0_v4_apply, val_main_call0_v3_apply,
    val_main_call0_v2_apply, val_main_call0_v1_apply, val_main_call0_v0_apply, val_main_call0_cst_apply, val_main_call0_cst_0_apply,
    Ideal.truncf_def, Ideal.mulf_def, Ideal.hostDivf_def, Ideal.addf_def, Ideal.hostUnary_exp_def, Ideal.hostNegf_def, Ideal.negf_def, Ideal.ofBits_def,
    Gate.one_lit, Gate.sigmoid_host, ref_gate h0 h1, ref_up h0 h1]
  rfl
end reference

/-- The reference ends, keeps its arguments and leaves no signal. -/
theorem reference_frame : Cert.quiescent_GateUpRefIdeal := fun m g _ =>
  (θ_run Cert.GateUpRefIdeal.defs _ _).mono (fun r h => ⟨fun c => (h c).2.2, sem_eq_zero_of_no_sems (by decide) r.2⟩)
    (Cert.GateUpRefIdeal.Value.run m g)

/-- The two arrays agree. -/
theorem algebraic : Cert.algebraic_GateUpIdeal_GateUpRefIdeal := by
  intro m g m' g' _ hagree
  refine ⟨_, _, Cert.GateUpIdeal.Value.run_blocks m g, ?_⟩
  refine (θ_run Cert.GateUpRefIdeal.defs _ _).mono (fun r h c => ?_) (Cert.GateUpRefIdeal.Value.run m' g')
  obtain ⟨a0, a1⟩ := hagree c
  obtain ⟨e0, e1, hk⟩ := h c
  obtain ⟨A, hA⟩ := table (m ((c.tc : Thread Cert.GateUpIdeal.nD Cert.GateUpIdeal.τ).loc Cert.GateUpIdeal.main_arg0))
  obtain ⟨B, hB⟩ := table (m ((c.tc : Thread Cert.GateUpIdeal.nD Cert.GateUpIdeal.τ).loc Cert.GateUpIdeal.main_arg1))
  refine ⟨?_, ?_, hk⟩
  · rw [e0, Cert.GateUpRefIdeal.Read.val_main_v10_eq, a0, a1]
    exact funext fun i => (ref_gu hA hB i).trans (array_gu hA hB i).symm
  · rw [e1, Cert.GateUpRefIdeal.Read.val_main_v13_eq, a0, a1]
    exact funext fun i => (ref_act hA hB i).trans (array_act hA hB i).symm

end GateUp
-- ==== Proof.DAct.lean ====
module

public import proofs.«01_k».proof.Defs
public import proofs.«01_k».proof.Proof.Gen.DAct.Frame
public import proofs.«01_k».proof.Proof.Gen.DActIdeal.Frame
public import proofs.«01_k».proof.Proof.Gen.DActIdeal.Value
public import proofs.«01_k».proof.Proof.Gen.DActRefIdeal
public import proofs.«01_k».proof.Proof.Gen.DActRefIdeal.Run
public import proofs.«01_k».proof.Proof.Gen.DActRefIdeal.Read
public import proofs.«01_k».proof.Proof.Product
public import proofs.«01_k».proof.Proof.Gate
public import proofs.«01_k».proof.Proof.Finite
public import Idealize.ShloMosaic.Lib.Pipeline.ValueKit
public import Idealize.ShloMosaic.Lib.Pipeline.ReadBack

/-! The gradient of the gated activation's products: the array the kernel leaves, and that the reference leaves the same where the arguments are real. -/

@[expose] public section
noncomputable section
namespace DAct
open Idealize.ShloMosaic Idealize.ShloMosaic.TcCoe Idealize.SL.Sem Product

section kernel
open Cert.DActIdeal Cert.DActIdeal.Gen
set_option maxHeartbeats 800000

/-- The gradient of a gate, as the kernel forms it. -/
def toGate (d g u : EReal) : EReal := d * u * Ideal.logistic g * (1 + g * (1 - Ideal.logistic g))

/-- The gradient of the other factor. -/
def toUp (d g : EReal) : EReal := d * g * Ideal.logistic g

section chunk
variable {v0 : Vec Ideal S256x2048 .bf16} {v1 : Vec Ideal S1408x2048 .bf16} {v3 v5 : Vec Ideal S256x1408 .bf16} {D W G U : ℕ → ℕ → EReal}
variable (h0 : ∀ i, v0 i = D (i 0).val (i 1).val) (h1 : ∀ i, v1 i = W (i 0).val (i 1).val)
variable (h3 : ∀ i, v3 i = G (i 0).val (i 1).val) (h5 : ∀ i, v5 i = U (i 0).val (i 1).val)

include h0 h1 in
theorem da0 (i : S256x1408.Idx) : k0_pay3 v0 v1 i = stretch 2048 0 fun k => D (i 0).val k * W (i 1).val k := by
  pointwise [k0_pay3]
  simp only [h0, h1]
  exact stretch_first 2048 fun k => D (i 0).val k * W (i 1).val k

include h0 h1 in
theorem da1 (i : S256x1408.Idx) : k0_pay8 v0 v1 i = stretch 2048 0 fun k => D (i 0).val k * W (i 1).val k := by
  pointwise [k0_pay8]
  simp only [h0, h1]
  exact stretch_first 2048 fun k => D (i 0).val k * W (i 1).val k

include h0 h1 in
theorem da2 (i : S256x1408.Idx) : k0_pay13 v0 v1 i = stretch 2048 0 fun k => D (i 0).val k * W (i 1).val k := by
  pointwise [k0_pay13]
  simp only [h0, h1]
  exact stretch_first 2048 fun k => D (i 0).val k * W (i 1).val k

include h0 h1 in
theorem da3 (i : S256x1408.Idx) : k0_pay21 v0 v1 i = stretch 2048 0 fun k => D (i 0).val k * W (i 1).val k := by
  pointwise [k0_pay21]
  simp only [h0, h1]
  exact stretch_first 2048 fun k => D (i 0).val k * W (i 1).val k

include h0 h1 h3 h5 in
theorem gate0 (i : S256x1408.Idx) : k0_pay6 v0 v1 v3 v5 i = toGate (stretch 2048 0 fun k => D (i 0).val k * W (i 1).val k) (G (i 0).val (i 1).val) (U (i 0).val (i 1).val) := by
  pointwise [k0_pay6, k0_pay4, k0_pay5]
  simp only [da0 h0 h1, h3, h5, Gate.sigmoid]
  rfl

include h0 h1 h3 in
theorem up0 (i : S256x1408.Idx) : k0_pay7 v0 v1 v3 i = toUp (stretch 2048 0 fun k => D (i 0).val k * W (i 1).val k) (G (i 0).val (i 1).val) := by
  pointwise [k0_pay7, k0_pay4, k0_pay5]
  simp only [da0 h0 h1, h3, Gate.sigmoid]
  rfl

include h0 h1 h3 h5 in
theorem gate1 (i : S256x1408.Idx) : k0_pay11 (k0_pay8 v0 v1) v3 v5 i = toGate (stretch 2048 0 fun k => D (i 0).val k * W (i 1).val k) (G (i 0).val (i 1).val) (U (i 0).val (i 1).val) := by
  pointwise [k0_pay11, k0_pay9, k0_pay10]
  simp only [da1 h0 h1, h3, h5, Gate.sigmoid]
  rfl

include h0 h1 h3 in
theorem up1 (i : S256x1408.Idx) : k0_pay12 (k0_pay8 v0 v1) v3 i = toUp (stretch 2048 0 fun k => D (i 0).val k * W (i 1).val k) (G (i 0).val (i 1).val) := by
  pointwise [k0_pay12, k0_pay9, k0_pay10]
  simp only [da1 h0 h1, h3, Gate.sigmoid]
  rfl

include h0 h1 h3 h5 in
theorem gate2 (i : S256x1408.Idx) : k0_pay19 (k0_pay13 v0 v1) (k0_pay14 v3) (k0_pay15 v5) (k0_pay16 v3) k0_pay17 i = toGate (stretch 2048 0 fun k => D (i 0).val k * W (i 1).val k) (G (i 0).val (i 1).val) (U (i 0).val (i 1).val) := by
  pointwise [k0_pay19, k0_pay14, k0_pay15, k0_pay16, k0_pay17, k0_pay18]
  simp only [da2 h0 h1, h3, h5, Gate.sigmoid]
  rfl

include h0 h1 h3 in
theorem up2 (i : S256x1408.Idx) : k0_pay20 (k0_pay13 v0 v1) (k0_pay14 v3) (k0_pay16 v3) k0_pay17 i = toUp (stretch 2048 0 fun k => D (i 0).val k * W (i 1).val k) (G (i 0).val (i 1).val) := by
  pointwise [k0_pay20, k0_pay14, k0_pay16, k0_pay17, k0_pay18]
  simp only [da2 h0 h1, h3, Gate.sigmoid]
  rfl

include h0 h1 h3 h5 in
theorem gate3 (i : S256x1408.Idx) : k0_pay1 (k0_pay24 v0 v1 v3 v5) (k0_pay25 v3) k0_pay26 i = toGate (stretch 2048 0 fun k => D (i 0).val k * W (i 1).val k) (G (i 0).val (i 1).val) (U (i 0).val (i 1).val) := by
  pointwise [k0_pay1, k0_pay22, k0_pay23, k0_pay24, k0_pay25, k0_pay26]
  simp only [da3 h0 h1, h3, h5, Gate.sigmoid]
  rfl

include h0 h1 h3 in
theorem up3 (i : S256x1408.Idx) : k0_pay2 (k0_pay21 v0 v1) (k0_pay22 v3) (k0_pay23 v3) i = toUp (stretch 2048 0 fun k => D (i 0).val k * W (i 1).val k) (G (i 0).val (i 1).val) := by
  pointwise [k0_pay2, k0_pay22, k0_pay23]
  simp only [da3 h0 h1, h3, Gate.sigmoid]
  rfl

end chunk

section block
variable {x0 : Vec Ideal S1024x2048 .bf16} {x1 : Vec Ideal S1408x2048 .bf16} {x2 : Vec Ideal S1024x2816 .bf16} {D W A : ℕ → ℕ → EReal}

/-- The two gradients side by side in a block. -/
def side (D W A : ℕ → ℕ → EReal) (r c : ℕ) : EReal :=
  if c < 1408 then toGate (stretch 2048 0 fun k => D r k * W c k) (A r c) (A r (1408 + c))
  else toUp (stretch 2048 0 fun k => D r k * W (c - 1408) k) (A r (c - 1408))

variable (h0 : ∀ i, x0 i = D (i 0).val (i 1).val) (h1 : ∀ i, x1 i = W (i 0).val (i 1).val) (h2 : ∀ i, x2 i = A (i 0).val (i 1).val)
theorem side_first {r c : ℕ} (h : c < 1408) : side D W A r c = toGate (stretch 2048 0 fun k => D r k * W c k) (A r c) (A r (1408 + c)) := if_pos h
theorem side_second (r c : ℕ) : side D W A r (1408 + c) = toUp (stretch 2048 0 fun k => D r k * W c k) (A r c) := by
  unfold side
  rw [if_neg (by omega), Nat.add_sub_cancel_left]

include h0 h1 h2 in
theorem block (i : S1024x2816.Idx) : out0_3 x0 x1 x2 i = side D W A (i 0).val (i 1).val := by
  frame_out [↓View.readCov_skip, ↓View.readCov_fill]
  let G : Vec Ideal S1024x2816 .bf16 := fun j => side D W A (j 0).val (j 1).val
  have hG : ∀ j, G j = side D W A (j 0).val (j 1).val := fun _ => rfl
  have hd : ∀ (o : ℕ) (inb : ∀ a, ![o, 0] a + S256x2048.size a ≤ S1024x2048.size a) (y : S256x2048.Idx),
      View.ld (Val := Elt Ideal) (e' := .bf16) x0 (Rect.unit (s := S1024x2048) ![o, 0] S256x2048.size inb) y = D (o + (y 0).val) (y 1).val := fun o inb y => by
    refine (Gate.place (g := D) h0 inb y).trans ?_
    rw [Nat.zero_add]
  have hw : ∀ y : S1408x2048.Idx, View.ld (Val := Elt Ideal) (e' := .bf16) x1 r0_1 y = W (y 0).val (y 1).val := fun y => by
    refine (Gate.place (g := W) h1 inb_S1408x2048_S1408x2048_0_0 y).trans ?_
    rw [Nat.zero_add, Nat.zero_add]
  have hg : ∀ (o : ℕ) (inb : ∀ a, ![o, 0] a + S256x1408.size a ≤ S1024x2816.size a) (y : S256x1408.Idx),
      View.ld (Val := Elt Ideal) (e' := .bf16) x2 (Rect.unit (s := S1024x2816) ![o, 0] S256x1408.size inb) y = A (o + (y 0).val) (y 1).val := fun o inb y => by
    refine (Gate.place (g := A) h2 inb y).trans ?_
    rw [Nat.zero_add]
  have hu : ∀ (o : ℕ) (inb : ∀ a, ![o, 1408] a + S256x1408.size a ≤ S1024x2816.size a) (y : S256x1408.Idx),
      View.ld (Val := Elt Ideal) (e' := .bf16) x2 (Rect.unit (s := S1024x2816) ![o, 1408] S256x1408.size inb) y = A (o + (y 0).val) (1408 + (y 1).val) := fun o inb y =>
    Gate.place (g := A) h2 inb y
  show View.canon (Val := Elt Ideal) (e := .bf16) ([_, _, _, _, _, _, _, _] ++ []) i = G i
  refine View.canon_append_of_piecesOf (Val := Elt Ideal) (e := .bf16) G _ _ ?_ i ?_
  on_goal 2 => exact View.cover_of_tiledBy (s := S1024x2816) _ ![256, 1408] (by sl_kernel_rfl) i
  refine ⟨fun x => ?_, fun x => ?_, fun x => ?_, fun x => ?_, fun x => ?_, fun x => ?_, fun x => ?_, fun x => ?_, trivial⟩
  · refine Eq.trans ?_ (Gate.place (g := side D W A) hG inb_S1024x2816_S256x1408_768_1408 x).symm
    rw [side_second]
    exact up3 (D := fun r k => D (768 + r) k) (W := W) (G := fun r c => A (768 + r) c) (hd 768 _) h1 (hg 768 _) x
  · refine Eq.trans ?_ (Gate.place (g := side D W A) hG inb_S1024x2816_S256x1408_768_0 x).symm
    refine Eq.trans ?_ (congrArg (side D W A (768 + (x 0).val)) (Nat.zero_add (x 1).val)).symm
    rw [side_first (x 1).isLt]
    exact gate3 (D := fun r k => D (768 + r) k) (W := W) (G := fun r c => A (768 + r) c) (U := fun r c => A (768 + r) (1408 + c)) (hd 768 _) h1 (hg 768 _) (hu 768 _) x
  · refine Eq.trans ?_ (Gate.place (g := side D W A) hG inb_S1024x2816_S256x1408_512_1408 x).symm
    rw [side_second]
    unfold k0_pay28 k0_pay29 k0_pay30 k0_pay31
    exact up2 (D := fun r k => D (512 + r) k) (W := W) (G := fun r c => A (512 + r) c) (hd 512 _) hw (hg 512 _) x
  · refine Eq.trans ?_ (Gate.place (g := side D W A) hG inb_S1024x2816_S256x1408_512_0 x).symm
    refine Eq.trans ?_ (congrArg (side D W A (512 + (x 0).val)) (Nat.zero_add (x 1).val)).symm
    rw [side_first (x 1).isLt]
    unfold k0_pay28 k0_pay29 k0_pay30 k0_pay31
    exact gate2 (D := fun r k => D (512 + r) k) (W := W) (G := fun r c => A (512 + r) c) (U := fun r c => A (512 + r) (1408 + c)) (hd 512 _) hw (hg 512 _) (hu 512 _) x
  · refine Eq.trans ?_ (Gate.place (g := side D W A) hG inb_S1024x2816_S256x1408_256_1408 x).symm
    rw [side_second]
    unfold k0_pay27
    exact up1 (D := fun r k => D (256 + r) k) (W := W) (G := fun r c => A (256 + r) c) (hd 256 _) hw (hg 256 _) x
  · refine Eq.trans ?_ (Gate.place (g := side D W A) hG inb_S1024x2816_S256x1408_256_0 x).symm
    refine Eq.trans ?_ (congrArg (side D W A (256 + (x 0).val)) (Nat.zero_add (x 1).val)).symm
    rw [side_first (x 1).isLt]
    unfold k0_pay27
    exact gate1 (D := fun r k => D (256 + r) k) (W := W) (G := fun r c => A (256 + r) c) (U := fun r c => A (256 + r) (1408 + c)) (hd 256 _) hw (hg 256 _) (hu 256 _) x
  · refine Eq.trans ?_ (Gate.place (g := side D W A) hG inb_S1024x2816_S256x1408_0_1408 x).symm
    rw [side_second]
    exact up0 (D := fun r k => D (0 + r) k) (W := W) (G := fun r c => A (0 + r) c) (hd 0 _) h1 (hg 0 _) x
  · refine Eq.trans ?_ (Gate.place (g := side D W A) hG inb_S1024x2816_S256x1408_0_0 x).symm
    refine Eq.trans ?_ (congrArg (side D W A (0 + (x 0).val)) (Nat.zero_add (x 1).val)).symm
    rw [side_first (x 1).isLt]
    exact gate0 (D := fun r k => D (0 + r) k) (W := W) (G := fun r c => A (0 + r) c) (U := fun r c => A (0 + r) (1408 + c)) (hd 0 _) h1 (hg 0 _) (hu 0 _) x
end block

variable {m : (ℓ : Loc nD τ sig) → Buf (Elt Ideal) ℓ} {c : Dev nD} {D W A : ℕ → ℕ → EReal}

theorem index0_0 : ∀ t : Fin cfg0.N, win0_0.index t 0 = t.val / 4 := by decide +kernel
theorem index0_1 : ∀ t : Fin cfg0.N, win0_0.index t 1 = 0 := by decide +kernel
theorem index1_0 : ∀ t : Fin cfg0.N, win0_1.index t 0 = t.val % 4 := by decide +kernel
theorem index1_1 : ∀ t : Fin cfg0.N, win0_1.index t 1 = 0 := by decide +kernel
theorem index2_0 : ∀ t : Fin cfg0.N, win0_2.index t 0 = t.val / 4 := by decide +kernel
theorem index2_1 : ∀ t : Fin cfg0.N, win0_2.index t 1 = t.val % 4 := by decide +kernel
theorem index3_0 : ∀ t : Fin cfg0.N, win0_3.index t 0 = t.val / 4 := by decide +kernel
theorem index3_1 : ∀ t : Fin cfg0.N, win0_3.index t 1 = t.val % 4 := by decide +kernel

variable (hA : ∀ i : S8192x11264.Idx, V m c main_arg0 i = A (i 0).val (i 1).val) (hW : ∀ i : S5632x2048.Idx, V m c main_arg1 i = W (i 0).val (i 1).val)
variable (hD : ∀ i : S8192x2048.Idx, V m c main_arg2 i = D (i 0).val (i 1).val)

include hD in
theorem inD (t : Fin cfg0.N) (i : S1024x2048.Idx) : (iblk m c 0 t : Vec Ideal S1024x2048 .bf16) i = D (t.val / 4 * 1024 + (i 0).val) (i 1).val := by
  refine (hD ((win0_0.rect t).emb i)).trans ?_
  rw [win0_0.rect_emb_val t i 0, index0_0, win0_0.rect_emb_val_of_index_zero t 1 (index0_1 t) i]
  rfl
include hW in
theorem inW (t : Fin cfg0.N) (i : S1408x2048.Idx) : (iblk m c 1 t : Vec Ideal S1408x2048 .bf16) i = W (t.val % 4 * 1408 + (i 0).val) (i 1).val := by
  refine (hW ((win0_1.rect t).emb i)).trans ?_
  rw [win0_1.rect_emb_val t i 0, index1_0, win0_1.rect_emb_val_of_index_zero t 1 (index1_1 t) i]
  rfl
include hA in
theorem inA (t : Fin cfg0.N) (i : S1024x2816.Idx) : (iblk m c 2 t : Vec Ideal S1024x2816 .bf16) i = A (t.val / 4 * 1024 + (i 0).val) (t.val % 4 * 2816 + (i 1).val) := by
  refine (hA ((win0_2.rect t).emb i)).trans ?_
  rw [win0_2.rect_emb_val t i 0, index2_0, win0_2.rect_emb_val t i 1, index2_1]
  rfl

/-- The gradient of the activation at row `r` and column `c`. -/
def da (D W : ℕ → ℕ → EReal) (r c : ℕ) : EReal := stretch 2048 0 fun k => D r k * W c k

/-- The gradients of the paired columns: stretches of 1408 columns, the gates' and then the other factors', in turn. -/
def grad (D W A : ℕ → ℕ → EReal) (r c : ℕ) : EReal :=
  if c % 2816 < 1408 then toGate (da D W r (c / 2816 * 1408 + c % 2816)) (A r c) (A r (1408 + c))
  else toUp (da D W r (c / 2816 * 1408 + (c % 2816 - 1408))) (A r (c - 1408))

include hA hW hD

theorem stored (t : Fin cfg0.N) (i : S1024x2816.Idx) : out0_3 (iblk m c 0 t) (iblk m c 1 t) (iblk m c 2 t) i = grad D W A (t.val / 4 * 1024 + (i 0).val) (t.val % 4 * 2816 + (i 1).val) := by
  rw [block (D := fun r k => D (t.val / 4 * 1024 + r) k) (W := fun r k => W (t.val % 4 * 1408 + r) k) (A := fun r c => A (t.val / 4 * 1024 + r) (t.val % 4 * 2816 + c))
    (inD hD t) (inW hW t) (inA hA t) i]
  have b : (i 1).val < 2816 := (i 1).isLt
  have e1 : (t.val % 4 * 2816 + (i 1).val) % 2816 = (i 1).val := by omega
  have e2 : (t.val % 4 * 2816 + (i 1).val) / 2816 = t.val % 4 := by omega
  unfold side grad
  rw [e1, e2]
  by_cases h : (i 1).val < 1408
  · rw [if_pos h, if_pos h]
    have e3 : 1408 + (t.val % 4 * 2816 + (i 1).val) = t.val % 4 * 2816 + (1408 + (i 1).val) := by omega
    rw [e3]
    rfl
  · rw [if_neg h, if_neg h]
    have e3 : t.val % 4 * 2816 + (i 1).val - 1408 = t.val % 4 * 2816 + ((i 1).val - 1408) := by omega
    rw [e3]
    rfl

theorem array (i : S8192x11264.Idx) : (dats m 0 c).arrAt 3 cfg0.N i = grad D W A (i 0).val (i 1).val := by
  refine (dats m 0 c).arrAt_forall_of_cover 3 (fun (i : S8192x11264.Idx) (v : EReal) => v = grad D W A (i 0).val (i 1).val) (fun t ht y => ?_) (fun i => ?_) i
  · have e : (dats m 0 c).flushed 3 t y = out0_3 (iblk m c 0 t) (iblk m c 1 t) (iblk m c 2 t) y := congrFun (Value.flushed3 m c t) y
    show (dats m 0 c).flushed 3 t y = grad D W A ((win0_3.rect t).emb y 0).val ((win0_3.rect t).emb y 1).val
    rw [e, win0_3.rect_emb_val t y 0, index3_0, win0_3.rect_emb_val t y 1, index3_1]
    exact stored hA hW hD t y
  · have hN : cfg0.N = 32 := N_0
    have b0 : (i 0).val < 8192 := (i 0).isLt
    have b1 : (i 1).val < 11264 := (i 1).isLt
    let t : Fin cfg0.N := ⟨(i 0).val / 1024 * 4 + (i 1).val / 2816, by omega⟩
    refine ⟨t, flush0_3 t, ?_⟩
    show i ∈ ((View.whole main_v0).slice (win0_3.rect t)).set
    rw [View.set_slice_whole, win0_3.mem_rect_iff]
    intro a
    match a with
    | ⟨0, _⟩ =>
      show win0_3.index t 0 * 1024 ≤ (i 0).val ∧ (i 0).val < win0_3.index t 0 * 1024 + 1024
      rw [index3_0]
      show ((i 0).val / 1024 * 4 + (i 1).val / 2816) / 4 * 1024 ≤ _ ∧ _ < ((i 0).val / 1024 * 4 + (i 1).val / 2816) / 4 * 1024 + 1024
      omega
    | ⟨1, _⟩ =>
      show win0_3.index t 1 * 2816 ≤ (i 1).val ∧ (i 1).val < win0_3.index t 1 * 2816 + 2816
      rw [index3_1]
      show ((i 0).val / 1024 * 4 + (i 1).val / 2816) % 4 * 2816 ≤ _ ∧ _ < ((i 0).val / 1024 * 4 + (i 1).val / 2816) % 4 * 2816 + 2816
      omega

end kernel

section reference
open Cert.DActRefIdeal Cert.DActRefIdeal.Read
variable {x0 : S8192x11264.Idx → EReal} {x1 : S5632x2048.Idx → EReal} {x2 : S8192x2048.Idx → EReal} {D W A : ℕ → ℕ → EReal}
variable (h0 : ∀ i, x0 i = A (i 0).val (i 1).val) (h1 : ∀ i, x1 i = W (i 0).val (i 1).val) (h2 : ∀ i, x2 i = D (i 0).val (i 1).val)

include h0 in
theorem ref_gate (i : S8192x5632.Idx) : val_main_v5 (F := Ideal) x0 i = A (i 0).val (Gate.fst 1408 (i 1).val) := by
  rw [val_main_v5_apply, val_main_v4_apply, val_main_v3_apply, val_main_v2_apply, val_main_v1_apply, Ideal.extf_def, h0]
  have b0 : (i 0).val < 8192 := (i 0).isLt
  have b1 : (i 1).val < 5632 := (i 1).isLt
  refine congrArg₂ A ?_ ?_
  · show ((((((((((i 0).val * 5632 + (i 1).val) / 5632) * 4 + (((i 0).val * 5632 + (i 1).val) / 1408 % 4)) * 1408 + (((i 0).val * 5632 + (i 1).val) % 1408)) / 5632)) * 4 + (((((((i 0).val * 5632 + (i 1).val) / 5632) * 4 + (((i 0).val * 5632 + (i 1).val) / 1408 % 4)) * 1408 + (((i 0).val * 5632 + (i 1).val) % 1408)) / 1408 % 4))) * 2 + ((0))) * 1408 + (((((((i 0).val * 5632 + (i 1).val) / 5632) * 4 + (((i 0).val * 5632 + (i 1).val) / 1408 % 4)) * 1408 + (((i 0).val * 5632 + (i 1).val) % 1408)) % 1408))) / 11264 = (i 0).val
    omega
  · show ((((((((((i 0).val * 5632 + (i 1).val) / 5632) * 4 + (((i 0).val * 5632 + (i 1).val) / 1408 % 4)) * 1408 + (((i 0).val * 5632 + (i 1).val) % 1408)) / 5632)) * 4 + (((((((i 0).val * 5632 + (i 1).val) / 5632) * 4 + (((i 0).val * 5632 + (i 1).val) / 1408 % 4)) * 1408 + (((i 0).val * 5632 + (i 1).val) % 1408)) / 1408 % 4))) * 2 + ((0))) * 1408 + (((((((i 0).val * 5632 + (i 1).val) / 5632) * 4 + (((i 0).val * 5632 + (i 1).val) / 1408 % 4)) * 1408 + (((i 0).val * 5632 + (i 1).val) % 1408)) % 1408))) % 11264 = (i 1).val / 1408 * 2816 + (i 1).val % 1408
    omega

include h0 in
theorem ref_up (i : S8192x5632.Idx) : val_main_v8 (F := Ideal) x0 i = A (i 0).val (Gate.snd 1408 (i 1).val) := by
  rw [val_main_v8_apply, val_main_v7_apply, val_main_v6_apply, val_main_v2_apply, val_main_v1_apply, Ideal.extf_def, h0]
  have b0 : (i 0).val < 8192 := (i 0).isLt
  have b1 : (i 1).val < 5632 := (i 1).isLt
  refine congrArg₂ A ?_ ?_
  · show ((((((((((i 0).val * 5632 + (i 1).val) / 5632) * 4 + (((i 0).val * 5632 + (i 1).val) / 1408 % 4)) * 1408 + (((i 0).val * 5632 + (i 1).val) % 1408)) / 5632)) * 4 + (((((((i 0).val * 5632 + (i 1).val) / 5632) * 4 + (((i 0).val * 5632 + (i 1).val) / 1408 % 4)) * 1408 + (((i 0).val * 5632 + (i 1).val) % 1408)) / 1408 % 4))) * 2 + (1 + (0))) * 1408 + (((((((i 0).val * 5632 + (i 1).val) / 5632) * 4 + (((i 0).val * 5632 + (i 1).val) / 1408 % 4)) * 1408 + (((i 0).val * 5632 + (i 1).val) % 1408)) % 1408))) / 11264 = (i 0).val
    omega
  · show ((((((((((i 0).val * 5632 + (i 1).val) / 5632) * 4 + (((i 0).val * 5632 + (i 1).val) / 1408 % 4)) * 1408 + (((i 0).val * 5632 + (i 1).val) % 1408)) / 5632)) * 4 + (((((((i 0).val * 5632 + (i 1).val) / 5632) * 4 + (((i 0).val * 5632 + (i 1).val) / 1408 % 4)) * 1408 + (((i 0).val * 5632 + (i 1).val) % 1408)) / 1408 % 4))) * 2 + (1 + (0))) * 1408 + (((((((i 0).val * 5632 + (i 1).val) / 5632) * 4 + (((i 0).val * 5632 + (i 1).val) / 1408 % 4)) * 1408 + (((i 0).val * 5632 + (i 1).val) % 1408)) % 1408))) % 11264 = (i 1).val / 1408 * 2816 + (1408 + (i 1).val % 1408)
    omega

include h1 h2 in
theorem ref_da (i : S8192x5632.Idx) : val_main_v13 (F := Ideal) x1 x2 i = da D W (i 0).val (i 1).val := by
  simp only [val_main_v13_apply, val_main_v12_apply, val_main_v0_apply, Ideal.extf_def, h1, h2]
  exact stretch_first 2048 fun k => D (i 0).val k * W (i 1).val k

include h0 in
theorem ref_sigmoid (i : S8192x5632.Idx) : val_main_v9_2 (F := Ideal) x0 i = Ideal.logistic (A (i 0).val (Gate.fst 1408 (i 1).val)) := by
  simp only [val_main_v9_2_apply, val_main_call0_v4_apply, val_main_call0_v3_apply, val_main_call0_v2_apply, val_main_call0_v1_apply, val_main_call0_v0_apply,
    val_main_call0_cst_apply, val_main_call0_cst_0_apply, Ideal.hostDivf_def, Ideal.addf_def, Ideal.hostUnary_exp_def, Ideal.hostNegf_def, Ideal.negf_def,
    Ideal.ofBits_def, Gate.one_lit, ref_gate h0]
  rfl

include h0 h1 h2

/-- The gradient of the other factor, as the reference forms it. -/
theorem ref_toUp (i : S8192x5632.Idx) : val_main_v14 (F := Ideal) x0 x1 x2 i = toUp (da D W (i 0).val (i 1).val) (A (i 0).val (Gate.fst 1408 (i 1).val)) := by
  simp only [val_main_v14_apply, val_main_v9_0_apply, Ideal.mulf_def, ref_gate h0, ref_sigmoid h0, ref_da h1 h2]
  unfold toUp
  rw [mul_comm, mul_assoc]

/-- The gradient of the gate, as differentiation of the sigmoid gives it. -/
theorem ref_toGate (hA : ∀ r c, ∃ a : ℝ, A r c = a) (hd : ∀ r c, ∃ a : ℝ, da D W r c = a) (i : S8192x5632.Idx) : val_main_v16 (F := Ideal) x0 x1 x2 i
    = toGate (da D W (i 0).val (i 1).val) (A (i 0).val (Gate.fst 1408 (i 1).val)) (A (i 0).val (Gate.snd 1408 (i 1).val)) := by
  simp only [val_main_v16_apply, val_main_call1_v2_apply, val_main_call1_v1_apply, val_main_call1_v0_apply, val_main_v15_apply, val_main_v9_1_apply, val_main_call0_v7_apply,
    val_main_call0_v6_apply, val_main_call0_cst_1_apply, Ideal.addf_def, Ideal.subf_def, Ideal.mulf_def, Ideal.ofBits_def, Gate.one_lit, ref_gate h0, ref_up h0, ref_sigmoid h0, ref_da h1 h2]
  obtain ⟨d, ed⟩ := hd (i 0).val (i 1).val
  obtain ⟨g, eg⟩ := hA (i 0).val (Gate.fst 1408 (i 1).val)
  obtain ⟨u, eu⟩ := hA (i 0).val (Gate.snd 1408 (i 1).val)
  unfold toGate
  rw [ed, eg, eu, Ideal.logistic_coe, ← EReal.coe_one]
  simp only [← EReal.coe_mul, ← EReal.coe_add, ← EReal.coe_sub]
  exact congrArg _ (by ring)

/-- The array the reference leaves. -/
theorem reference (hA : ∀ r c, ∃ a : ℝ, A r c = a) (hd : ∀ r c, ∃ a : ℝ, da D W r c = a) (i : S8192x11264.Idx) : val_main_v25 (F := Ideal) x0 x1 x2 i = grad D W A (i 0).val (i 1).val := by
  let Up : ℕ → ℕ → ℕ → EReal := fun r q p => toUp (da D W r (q * 1408 + p)) (A r (q * 2816 + p))
  let Ga : ℕ → ℕ → ℕ → EReal := fun r q p => toGate (da D W r (q * 1408 + p)) (A r (q * 2816 + p)) (A r (q * 2816 + (1408 + p)))
  have e14 : ∀ k : S8192x4x1x1408.Idx, val_main_v18 (F := Ideal) x0 x1 x2 k = Up (k 0).val (k 1).val (k 3).val := fun k => by
    have b0 : (k 0).val < 8192 := (k 0).isLt
    have b1 : (k 1).val < 4 := (k 1).isLt
    have b3 : (k 3).val < 1408 := (k 3).isLt
    rw [val_main_v18_apply, val_main_v17_apply, ref_toUp h0 h1 h2]
    have f0 : (idx_main_v17 (idx_main_v18 k) 0).val = (k 0).val := by
      show ((((k 0).val) * 4 + ((k 1).val)) * 1408 + ((k 3).val)) / 5632 = (k 0).val
      omega
    have f1 : (idx_main_v17 (idx_main_v18 k) 1).val = (k 1).val * 1408 + (k 3).val := by
      show ((((k 0).val) * 4 + ((k 1).val)) * 1408 + ((k 3).val)) % 5632 = (k 1).val * 1408 + (k 3).val
      omega
    rw [f0, f1, Gate.fst_block b3]
  have e16 : ∀ k : S8192x4x1x1408.Idx, val_main_v21 (F := Ideal) x0 x1 x2 k = Ga (k 0).val (k 1).val (k 3).val := fun k => by
    have b0 : (k 0).val < 8192 := (k 0).isLt
    have b1 : (k 1).val < 4 := (k 1).isLt
    have b3 : (k 3).val < 1408 := (k 3).isLt
    rw [val_main_v21_apply, val_main_v20_apply, ref_toGate h0 h1 h2 hA hd]
    have f0 : (idx_main_v20 (idx_main_v21 k) 0).val = (k 0).val := by
      show ((((k 0).val) * 4 + ((k 1).val)) * 1408 + ((k 3).val)) / 5632 = (k 0).val
      omega
    have f1 : (idx_main_v20 (idx_main_v21 k) 1).val = (k 1).val * 1408 + (k 3).val := by
      show ((((k 0).val) * 4 + ((k 1).val)) * 1408 + ((k 3).val)) % 5632 = (k 1).val * 1408 + (k 3).val
      omega
    rw [f0, f1, Gate.fst_block b3, Gate.snd_block b3]
  have z : ∀ k, val_main_cst (F := Ideal) k = 0 := fun k => by rw [val_main_cst_apply, Ideal.ofBits_def, Gate.zero_lit]
  have z0 : ∀ k, val_main_cst_0 (F := Ideal) k = 0 := fun k => by rw [val_main_cst_0_apply, Ideal.ofBits_def, Gate.zero_lit]
  rw [val_main_v25_apply, Ideal.truncf_def, val_main_v24_apply, val_main_v23_apply, Ideal.addf_def]
  unfold val_main_v19 val_main_v22
  rw [Gate.pad_second e14 z, Gate.pad_first e16 z0]
  have b0 : (i 0).val < 8192 := (i 0).isLt
  have b1 : (i 1).val < 11264 := (i 1).isLt
  have f0 : (idx_main_v24 i 0).val = (i 0).val := by
    show ((i 0).val * 11264 + (i 1).val) / 11264 = _
    omega
  have f1 : (idx_main_v24 i 1).val = (i 1).val / 2816 := by
    show ((i 0).val * 11264 + (i 1).val) / 2816 % 4 = _
    omega
  have f2 : (idx_main_v24 i 2).val = (i 1).val % 2816 / 1408 := by
    show ((i 0).val * 11264 + (i 1).val) / 1408 % 2 = _
    omega
  have f3 : (idx_main_v24 i 3).val = (i 1).val % 2816 % 1408 := by
    show ((i 0).val * 11264 + (i 1).val) % 1408 = _
    omega
  rw [f0, f1, f2, f3]
  unfold grad
  by_cases h : (i 1).val % 2816 < 1408
  · rw [if_pos (by omega), if_pos (by omega), if_pos h, zero_add]
    show toGate _ (A _ _) (A _ _) = _
    congr 2 <;> omega
  · rw [if_neg (by omega), if_neg (by omega), if_neg h, add_zero]
    exact congrArg₂ toUp (congrArg (da D W _) (by omega)) (congrArg (A _) (by omega))
end reference

/-- The reference ends, keeps its arguments and leaves no signal. -/
theorem reference_frame : Cert.quiescent_DActRefIdeal := fun m g _ =>
  (θ_run Cert.DActRefIdeal.defs _ _).mono (fun r h => ⟨fun c => (h c).2, sem_eq_zero_of_no_sems (by decide) r.2⟩)
    (Cert.DActRefIdeal.Value.run m g)

instance facts : Cert.Pre_all_finite_act.Facts where
  bcast_S_S8192x11264 := by decide
  reducesTo_S8192x11264_S_d0_1 := by decide
  h_S_ := by decide
  bcast_S_S5632x2048 := by decide
  reducesTo_S5632x2048_S_d0_1 := by decide
  bcast_S_S8192x2048 := by decide
  reducesTo_S8192x2048_S_d0_1 := by decide

/-- The precondition read: each array is real at every index. -/
theorem reals (x0 : FVec Ideal Cert.Pre_all_finite_act.S8192x11264 .bf16) (x1 : FVec Ideal Cert.Pre_all_finite_act.S5632x2048 .bf16)
    (x2 : FVec Ideal Cert.Pre_all_finite_act.S8192x2048 .bf16) (j : Cert.Pre_all_finite_act.S_.Idx) (h : Cert.Pre_all_finite_act.fn (F := Ideal) x0 x1 x2 j = 1#1) :
    (∀ i, (x0 i : EReal) = (((x0 i : EReal).toReal : ℝ) : EReal)) ∧ (∀ i, (x1 i : EReal) = (((x1 i : EReal).toReal : ℝ) : EReal))
      ∧ (∀ i, (x2 i : EReal) = (((x2 i : EReal).toReal : ℝ) : EReal)) := by
  obtain ⟨h0, h⟩ := IntOp.andi_eq_one.1 h
  obtain ⟨h1, h2⟩ := IntOp.andi_eq_one.1 h
  exact ⟨Sgu.Finite.real_of_all x0 _ (fun _ => Sgu.Finite.inf_bf16) _ _ _ j h0, Sgu.Finite.real_of_all x1 _ (fun _ => Sgu.Finite.inf_bf16) _ _ _ j h1,
    Sgu.Finite.real_of_all x2 _ (fun _ => Sgu.Finite.inf_bf16) _ _ _ j h2⟩

/-- A stretch of products of reals is real. -/
theorem da_real (D W : ℕ → ℕ → ℝ) (r c : ℕ) : ∃ a : ℝ, da (fun r k => ((D r k : ℝ) : EReal)) (fun r k => ((W r k : ℝ) : EReal)) r c = a := by
  refine ⟨∑ k ∈ Finset.range 2048, D r (0 * 2048 + k) * W c (0 * 2048 + k), ?_⟩
  unfold da stretch
  simp only [← EReal.coe_mul]
  exact (map_sum (⟨⟨((↑) : ℝ → EReal), EReal.coe_zero⟩, EReal.coe_add⟩ : ℝ →+ EReal) _ _).symm

/-- The two arrays agree where the arguments are real. -/
theorem algebraic : Cert.algebraic_DActIdeal_DActRefIdeal_pre_all_finite_act := by
  intro m g m' g' hp hagree
  refine ⟨_, Cert.DActIdeal.Value.run_blocks m g, ?_⟩
  refine (θ_run Cert.DActRefIdeal.defs _ _).mono (fun r h c => ?_) (Cert.DActRefIdeal.Value.run m' g')
  obtain ⟨a0, a1, a2⟩ := hagree c
  obtain ⟨e0, hk⟩ := h c
  obtain ⟨r0, r1, r2⟩ := reals _ _ _ (fun a => a.elim0) (congrFun (hp c) _)
  obtain ⟨A, hA⟩ := Sgu.Finite.matrix _ r0
  obtain ⟨W, hW⟩ := Sgu.Finite.matrix _ r1
  obtain ⟨D, hD⟩ := Sgu.Finite.matrix _ r2
  refine ⟨?_, hk⟩
  rw [e0, Cert.DActRefIdeal.Read.val_main_v25_eq, a0, a1, a2]
  exact funext fun i => (reference (D := fun r k => D r k) (W := fun r k => W r k) (A := fun r k => A r k) hA hW hD (fun r c => ⟨A r c, rfl⟩) (da_real D W) i).trans
    (array (D := fun r k => D r k) (W := fun r k => W r k) (A := fun r k => A r k) hA hW hD i).symm

end DAct
-- ==== Proof.BranchesMerge.lean ====
module

public import proofs.«01_k».proof.Defs
public import proofs.«01_k».proof.Proof.Gen.BranchesMerge.Frame
public import proofs.«01_k».proof.Proof.Gen.BranchesMergeIdeal.Frame
public import proofs.«01_k».proof.Proof.Gen.BranchesMergeIdeal.Value
public import proofs.«01_k».proof.Proof.Gen.BranchesMergeRefIdeal
public import proofs.«01_k».proof.Proof.Gen.BranchesMergeRefIdeal.Run
public import proofs.«01_k».proof.Proof.Gen.BranchesMergeRefIdeal.Read
public import proofs.«01_k».proof.Proof.Product
public import proofs.«01_k».proof.Proof.Gate
public import Idealize.ShloMosaic.Lib.Pipeline.ValueKit
public import Idealize.ShloMosaic.Lib.Pipeline.ReadBack

/-! The two branches' products and their gated sum: the three arrays the kernel leaves, and that the reference leaves the same. -/

@[expose] public section
noncomputable section
namespace BranchesMerge
open Idealize.ShloMosaic Idealize.ShloMosaic.TcCoe Idealize.SL.Sem Product

section kernel
open Cert.BranchesMergeIdeal Cert.BranchesMergeIdeal.Gen
set_option maxHeartbeats 800000

/-- The gated sum of two products. -/
def merged (a b g k : EReal) : EReal := Ideal.logistic g * a + Ideal.logistic k * b

section chunk
variable {v0 v3 : Vec Ideal S256x1024 .bf16} {v1 v4 : Vec Ideal S1024x1024 .bf16} {v6 v15 : Vec Ideal S256x1024 .bf16} {X Y W U G K : ℕ → ℕ → EReal}
variable (h0 : ∀ i, v0 i = X (i 0).val (i 1).val) (h1 : ∀ i, v1 i = W (i 0).val (i 1).val)
variable (h3 : ∀ i, v3 i = Y (i 0).val (i 1).val) (h4 : ∀ i, v4 i = U (i 0).val (i 1).val)
variable (h6 : ∀ i, v6 i = G (i 0).val (i 1).val) (h15 : ∀ i, v15 i = K (i 0).val (i 1).val)

include h0 h1 in
theorem product_a0 (i : S256x1024.Idx) : k0_pay2 v0 v1 i = stretch 1024 0 fun k => X (i 0).val k * W k (i 1).val := by
  pointwise [k0_pay2]
  simp only [h0, h1]
  exact stretch_first 1024 fun k => X (i 0).val k * W k (i 1).val

include h0 h1 in
theorem leaf_a0 (i : S256x1024.Idx) : k0_pay4 v0 v1 i = stretch 1024 0 fun k => X (i 0).val k * W k (i 1).val := by
  pointwise [k0_pay4]
  exact product_a0 h0 h1 i

include h3 h4 in
theorem product_b0 (i : S256x1024.Idx) : k0_pay3 v3 v4 i = stretch 1024 0 fun k => Y (i 0).val k * U k (i 1).val := by
  pointwise [k0_pay3]
  simp only [h3, h4]
  exact stretch_first 1024 fun k => Y (i 0).val k * U k (i 1).val

include h3 h4 in
theorem leaf_b0 (i : S256x1024.Idx) : k0_pay5 v3 v4 i = stretch 1024 0 fun k => Y (i 0).val k * U k (i 1).val := by
  pointwise [k0_pay5]
  exact product_b0 h3 h4 i

include h0 h1 h3 h4 h6 h15 in
theorem merge0 (i : S256x1024.Idx) : k0_pay6 v0 v1 v3 v4 v6 v15 i = merged (stretch 1024 0 fun k => X (i 0).val k * W k (i 1).val) (stretch 1024 0 fun k => Y (i 0).val k * U k (i 1).val) (G (i 0).val (i 1).val) (K (i 0).val (i 1).val) := by
  pointwise [k0_pay6]
  simp only [product_a0 h0 h1, product_b0 h3 h4, h6, h15, Gate.sigmoid]
  rfl

include h0 h1 in
theorem product_a1 (i : S256x1024.Idx) : k0_pay7 v0 v1 i = stretch 1024 0 fun k => X (i 0).val k * W k (i 1).val := by
  pointwise [k0_pay7]
  simp only [h0, h1]
  exact stretch_first 1024 fun k => X (i 0).val k * W k (i 1).val

include h0 h1 in
theorem leaf_a1 (i : S256x1024.Idx) : k0_pay9 v0 v1 i = stretch 1024 0 fun k => X (i 0).val k * W k (i 1).val := by
  pointwise [k0_pay9]
  exact product_a1 h0 h1 i

include h3 h4 in
theorem product_b1 (i : S256x1024.Idx) : k0_pay8 v3 v4 i = stretch 1024 0 fun k => Y (i 0).val k * U k (i 1).val := by
  pointwise [k0_pay8]
  simp only [h3, h4]
  exact stretch_first 1024 fun k => Y (i 0).val k * U k (i 1).val

include h3 h4 in
theorem leaf_b1 (i : S256x1024.Idx) : k0_pay10 v3 v4 i = stretch 1024 0 fun k => Y (i 0).val k * U k (i 1).val := by
  pointwise [k0_pay10]
  exact product_b1 h3 h4 i

include h0 h1 h3 h4 h6 h15 in
theorem merge1 (i : S256x1024.Idx) : k0_pay13 (k0_pay11 v0 v1 v6) (k0_pay12 v3 v4 v15) i = merged (stretch 1024 0 fun k => X (i 0).val k * W k (i 1).val) (stretch 1024 0 fun k => Y (i 0).val k * U k (i 1).val) (G (i 0).val (i 1).val) (K (i 0).val (i 1).val) := by
  pointwise [k0_pay13, k0_pay11, k0_pay12]
  simp only [product_a1 h0 h1, product_b1 h3 h4, h6, h15, Gate.sigmoid]
  rfl

include h0 h1 in
theorem product_a2 (i : S256x1024.Idx) : k0_pay14 v0 v1 i = stretch 1024 0 fun k => X (i 0).val k * W k (i 1).val := by
  pointwise [k0_pay14]
  simp only [h0, h1]
  exact stretch_first 1024 fun k => X (i 0).val k * W k (i 1).val

include h0 h1 in
theorem leaf_a2 (i : S256x1024.Idx) : k0_pay18 v0 v1 i = stretch 1024 0 fun k => X (i 0).val k * W k (i 1).val := by
  pointwise [k0_pay18]
  exact product_a2 h0 h1 i

include h3 h4 in
theorem product_b2 (i : S256x1024.Idx) : k0_pay15 v3 v4 i = stretch 1024 0 fun k => Y (i 0).val k * U k (i 1).val := by
  pointwise [k0_pay15]
  simp only [h3, h4]
  exact stretch_first 1024 fun k => Y (i 0).val k * U k (i 1).val

include h3 h4 in
theorem leaf_b2 (i : S256x1024.Idx) : k0_pay19 v3 v4 i = stretch 1024 0 fun k => Y (i 0).val k * U k (i 1).val := by
  pointwise [k0_pay19]
  exact product_b2 h3 h4 i

include h0 h1 h3 h4 h6 h15 in
theorem merge2 (i : S256x1024.Idx) : k0_pay20 (k0_pay14 v0 v1) (k0_pay15 v3 v4) (k0_pay16 v6) (k0_pay17 v15) i = merged (stretch 1024 0 fun k => X (i 0).val k * W k (i 1).val) (stretch 1024 0 fun k => Y (i 0).val k * U k (i 1).val) (G (i 0).val (i 1).val) (K (i 0).val (i 1).val) := by
  pointwise [k0_pay20, k0_pay16, k0_pay17]
  simp only [product_a2 h0 h1, product_b2 h3 h4, h6, h15, Gate.sigmoid]
  rfl

include h0 h1 in
theorem product_a3 (i : S256x1024.Idx) : k0_pay21 v0 v1 i = stretch 1024 0 fun k => X (i 0).val k * W k (i 1).val := by
  pointwise [k0_pay21]
  simp only [h0, h1]
  exact stretch_first 1024 fun k => X (i 0).val k * W k (i 1).val

include h0 h1 in
theorem leaf_a3 (i : S256x1024.Idx) : k0_pay25 v0 v1 i = stretch 1024 0 fun k => X (i 0).val k * W k (i 1).val := by
  pointwise [k0_pay25]
  exact product_a3 h0 h1 i

include h3 h4 in
theorem product_b3 (i : S256x1024.Idx) : k0_pay22 v3 v4 i = stretch 1024 0 fun k => Y (i 0).val k * U k (i 1).val := by
  pointwise [k0_pay22]
  simp only [h3, h4]
  exact stretch_first 1024 fun k => Y (i 0).val k * U k (i 1).val

include h3 h4 in
theorem leaf_b3 (i : S256x1024.Idx) : k0_pay26 v3 v4 i = stretch 1024 0 fun k => Y (i 0).val k * U k (i 1).val := by
  pointwise [k0_pay26]
  exact product_b3 h3 h4 i

include h0 h1 h3 h4 h6 h15 in
theorem merge3 (i : S256x1024.Idx) : k0_pay1 (k0_pay21 v0 v1) (k0_pay22 v3 v4) (k0_pay23 v6) (k0_pay24 v15) i = merged (stretch 1024 0 fun k => X (i 0).val k * W k (i 1).val) (stretch 1024 0 fun k => Y (i 0).val k * U k (i 1).val) (G (i 0).val (i 1).val) (K (i 0).val (i 1).val) := by
  pointwise [k0_pay1, k0_pay23, k0_pay24]
  simp only [product_a3 h0 h1, product_b3 h3 h4, h6, h15, Gate.sigmoid]
  rfl

end chunk

section block
variable {x0 x1 : Vec Ideal S1024x1024 .bf16} {x2 x3 : Vec Ideal S1024x1024 .bf16} {x4 : Vec Ideal S1024x2048 .bf16} {X Y W U A : ℕ → ℕ → EReal}

/-- An element of a product. -/
def prod (X W : ℕ → ℕ → EReal) (r c : ℕ) : EReal := stretch 1024 0 fun k => X r k * W k c

/-- The gated sum in a block. -/
def gated (X Y W U A : ℕ → ℕ → EReal) (r c : ℕ) : EReal := merged (prod X W r c) (prod Y U r c) (A r c) (A r (1024 + c))

theorem rows {x : Vec Ideal S1024x1024 .bf16} {X : ℕ → ℕ → EReal} (h : ∀ i, x i = X (i 0).val (i 1).val) (o : ℕ) (inb : ∀ a, ![o, 0] a + S256x1024.size a ≤ S1024x1024.size a)
    (y : S256x1024.Idx) : View.ld (Val := Elt Ideal) (e' := .bf16) x (Rect.unit (s := S1024x1024) ![o, 0] S256x1024.size inb) y = X (o + (y 0).val) (y 1).val := by
  refine (Gate.place (g := X) h inb y).trans ?_
  rw [Nat.zero_add]

variable (h0 : ∀ i, x0 i = X (i 0).val (i 1).val) (h1 : ∀ i, x1 i = Y (i 0).val (i 1).val) (h2 : ∀ i, x2 i = W (i 0).val (i 1).val)
variable (h3 : ∀ i, x3 i = U (i 0).val (i 1).val) (h4 : ∀ i, x4 i = A (i 0).val (i 1).val)

include h0 h2 in
theorem block_a (i : S1024x1024.Idx) : out0_5 x0 x1 x2 x3 x4 i = prod X W (i 0).val (i 1).val := by
  frame_out [↓View.readCov_skip, ↓View.readCov_fill]
  let G : Vec Ideal S1024x1024 .bf16 := fun j => prod X W (j 0).val (j 1).val
  have hG : ∀ j, G j = prod X W (j 0).val (j 1).val := fun _ => rfl
  show View.canon (Val := Elt Ideal) (e := .bf16) ([_, _, _, _] ++ []) i = G i
  refine View.canon_append_of_piecesOf (Val := Elt Ideal) (e := .bf16) G _ _ ?_ i ?_
  on_goal 2 => exact View.cover_of_tiledBy (s := S1024x1024) _ ![256, 1024] (by sl_kernel_rfl) i
  refine ⟨fun x => ?_, fun x => ?_, fun x => ?_, fun x => ?_, trivial⟩
  · refine Eq.trans ?_ (Gate.place (g := prod X W) hG inb_S1024x1024_S256x1024_768_0 x).symm
    refine Eq.trans ?_ (congrArg (prod X W (768 + (x 0).val)) (Nat.zero_add (x 1).val)).symm
    exact leaf_a3 (X := fun r k => X (768 + r) k) (W := W) (rows h0 768 _) h2 x
  · refine Eq.trans ?_ (Gate.place (g := prod X W) hG inb_S1024x1024_S256x1024_512_0 x).symm
    refine Eq.trans ?_ (congrArg (prod X W (512 + (x 0).val)) (Nat.zero_add (x 1).val)).symm
    exact leaf_a2 (X := fun r k => X (512 + r) k) (W := W) (rows h0 512 _) h2 x
  · refine Eq.trans ?_ (Gate.place (g := prod X W) hG inb_S1024x1024_S256x1024_256_0 x).symm
    refine Eq.trans ?_ (congrArg (prod X W (256 + (x 0).val)) (Nat.zero_add (x 1).val)).symm
    exact leaf_a1 (X := fun r k => X (256 + r) k) (W := W) (rows h0 256 _) h2 x
  · refine Eq.trans ?_ (Gate.place (g := prod X W) hG inb_S1024x1024_S256x1024_0_0 x).symm
    refine Eq.trans ?_ (congrArg (prod X W (0 + (x 0).val)) (Nat.zero_add (x 1).val)).symm
    exact leaf_a0 (X := fun r k => X (0 + r) k) (W := W) (rows h0 0 _) h2 x

include h1 h3 in
theorem block_b (i : S1024x1024.Idx) : out0_6 x0 x1 x2 x3 x4 i = prod Y U (i 0).val (i 1).val := by
  frame_out [↓View.readCov_skip, ↓View.readCov_fill]
  let G : Vec Ideal S1024x1024 .bf16 := fun j => prod Y U (j 0).val (j 1).val
  have hG : ∀ j, G j = prod Y U (j 0).val (j 1).val := fun _ => rfl
  show View.canon (Val := Elt Ideal) (e := .bf16) ([_, _, _, _] ++ []) i = G i
  refine View.canon_append_of_piecesOf (Val := Elt Ideal) (e := .bf16) G _ _ ?_ i ?_
  on_goal 2 => exact View.cover_of_tiledBy (s := S1024x1024) _ ![256, 1024] (by sl_kernel_rfl) i
  refine ⟨fun x => ?_, fun x => ?_, fun x => ?_, fun x => ?_, trivial⟩
  · refine Eq.trans ?_ (Gate.place (g := prod Y U) hG inb_S1024x1024_S256x1024_768_0 x).symm
    refine Eq.trans ?_ (congrArg (prod Y U (768 + (x 0).val)) (Nat.zero_add (x 1).val)).symm
    exact leaf_b3 (Y := fun r k => Y (768 + r) k) (U := U) (rows h1 768 _) h3 x
  · refine Eq.trans ?_ (Gate.place (g := prod Y U) hG inb_S1024x1024_S256x1024_512_0 x).symm
    refine Eq.trans ?_ (congrArg (prod Y U (512 + (x 0).val)) (Nat.zero_add (x 1).val)).symm
    exact leaf_b2 (Y := fun r k => Y (512 + r) k) (U := U) (rows h1 512 _) h3 x
  · refine Eq.trans ?_ (Gate.place (g := prod Y U) hG inb_S1024x1024_S256x1024_256_0 x).symm
    refine Eq.trans ?_ (congrArg (prod Y U (256 + (x 0).val)) (Nat.zero_add (x 1).val)).symm
    exact leaf_b1 (Y := fun r k => Y (256 + r) k) (U := U) (rows h1 256 _) h3 x
  · refine Eq.trans ?_ (Gate.place (g := prod Y U) hG inb_S1024x1024_S256x1024_0_0 x).symm
    refine Eq.trans ?_ (congrArg (prod Y U (0 + (x 0).val)) (Nat.zero_add (x 1).val)).symm
    exact leaf_b0 (Y := fun r k => Y (0 + r) k) (U := U) (rows h1 0 _) h3 x

include h0 h1 h2 h3 h4 in
theorem block_m (i : S1024x1024.Idx) : out0_7 x0 x1 x2 x3 x4 i = gated X Y W U A (i 0).val (i 1).val := by
  frame_out [↓View.readCov_skip, ↓View.readCov_fill]
  let G : Vec Ideal S1024x1024 .bf16 := fun j => gated X Y W U A (j 0).val (j 1).val
  have hG : ∀ j, G j = gated X Y W U A (j 0).val (j 1).val := fun _ => rfl
  have hg : ∀ (o : ℕ) (inb : ∀ a, ![o, 0] a + S256x1024.size a ≤ S1024x2048.size a) (y : S256x1024.Idx),
      View.ld (Val := Elt Ideal) (e' := .bf16) x4 (Rect.unit (s := S1024x2048) ![o, 0] S256x1024.size inb) y = A (o + (y 0).val) (y 1).val := fun o inb y => by
    refine (Gate.place (g := A) h4 inb y).trans ?_
    rw [Nat.zero_add]
  have hk : ∀ (o : ℕ) (inb : ∀ a, ![o, 1024] a + S256x1024.size a ≤ S1024x2048.size a) (y : S256x1024.Idx),
      View.ld (Val := Elt Ideal) (e' := .bf16) x4 (Rect.unit (s := S1024x2048) ![o, 1024] S256x1024.size inb) y = A (o + (y 0).val) (1024 + (y 1).val) := fun o inb y =>
    Gate.place (g := A) h4 inb y
  show View.canon (Val := Elt Ideal) (e := .bf16) ([_, _, _, _] ++ []) i = G i
  refine View.canon_append_of_piecesOf (Val := Elt Ideal) (e := .bf16) G _ _ ?_ i ?_
  on_goal 2 => exact View.cover_of_tiledBy (s := S1024x1024) _ ![256, 1024] (by sl_kernel_rfl) i
  refine ⟨fun x => ?_, fun x => ?_, fun x => ?_, fun x => ?_, trivial⟩
  · refine Eq.trans ?_ (Gate.place (g := gated X Y W U A) hG inb_S1024x1024_S256x1024_768_0 x).symm
    refine Eq.trans ?_ (congrArg (gated X Y W U A (768 + (x 0).val)) (Nat.zero_add (x 1).val)).symm
    exact merge3 (X := fun r k => X (768 + r) k) (Y := fun r k => Y (768 + r) k) (W := W) (U := U) (G := fun r c => A (768 + r) c) (K := fun r c => A (768 + r) (1024 + c))
      (rows h0 768 _) h2 (rows h1 768 _) h3 (hg 768 _) (hk 768 _) x
  · refine Eq.trans ?_ (Gate.place (g := gated X Y W U A) hG inb_S1024x1024_S256x1024_512_0 x).symm
    refine Eq.trans ?_ (congrArg (gated X Y W U A (512 + (x 0).val)) (Nat.zero_add (x 1).val)).symm
    exact merge2 (X := fun r k => X (512 + r) k) (Y := fun r k => Y (512 + r) k) (W := W) (U := U) (G := fun r c => A (512 + r) c) (K := fun r c => A (512 + r) (1024 + c))
      (rows h0 512 _) h2 (rows h1 512 _) h3 (hg 512 _) (hk 512 _) x
  · refine Eq.trans ?_ (Gate.place (g := gated X Y W U A) hG inb_S1024x1024_S256x1024_256_0 x).symm
    refine Eq.trans ?_ (congrArg (gated X Y W U A (256 + (x 0).val)) (Nat.zero_add (x 1).val)).symm
    exact merge1 (X := fun r k => X (256 + r) k) (Y := fun r k => Y (256 + r) k) (W := W) (U := U) (G := fun r c => A (256 + r) c) (K := fun r c => A (256 + r) (1024 + c))
      (rows h0 256 _) h2 (rows h1 256 _) h3 (hg 256 _) (hk 256 _) x
  · refine Eq.trans ?_ (Gate.place (g := gated X Y W U A) hG inb_S1024x1024_S256x1024_0_0 x).symm
    refine Eq.trans ?_ (congrArg (gated X Y W U A (0 + (x 0).val)) (Nat.zero_add (x 1).val)).symm
    exact merge0 (X := fun r k => X (0 + r) k) (Y := fun r k => Y (0 + r) k) (W := W) (U := U) (G := fun r c => A (0 + r) c) (K := fun r c => A (0 + r) (1024 + c))
      (rows h0 0 _) h2 (rows h1 0 _) h3 (hg 0 _) (hk 0 _) x

end block

variable {m : (ℓ : Loc nD τ sig) → Buf (Elt Ideal) ℓ} {c : Dev nD} {X Y W U A : ℕ → ℕ → EReal}

theorem index0_0 : ∀ t : Fin cfg0.N, win0_0.index t 0 = t.val / 2 := by decide +kernel
theorem index0_1 : ∀ t : Fin cfg0.N, win0_0.index t 1 = 0 := by decide +kernel
theorem index1_0 : ∀ t : Fin cfg0.N, win0_1.index t 0 = t.val / 2 := by decide +kernel
theorem index1_1 : ∀ t : Fin cfg0.N, win0_1.index t 1 = 0 := by decide +kernel
theorem index2_0 : ∀ t : Fin cfg0.N, win0_2.index t 0 = 0 := by decide +kernel
theorem index2_1 : ∀ t : Fin cfg0.N, win0_2.index t 1 = t.val % 2 := by decide +kernel
theorem index3_0 : ∀ t : Fin cfg0.N, win0_3.index t 0 = 0 := by decide +kernel
theorem index3_1 : ∀ t : Fin cfg0.N, win0_3.index t 1 = t.val % 2 := by decide +kernel
theorem index4_0 : ∀ t : Fin cfg0.N, win0_4.index t 0 = t.val / 2 := by decide +kernel
theorem index4_1 : ∀ t : Fin cfg0.N, win0_4.index t 1 = t.val % 2 := by decide +kernel
theorem index5_0 : ∀ t : Fin cfg0.N, win0_5.index t 0 = t.val / 2 := by decide +kernel
theorem index5_1 : ∀ t : Fin cfg0.N, win0_5.index t 1 = t.val % 2 := by decide +kernel
theorem index6_0 : ∀ t : Fin cfg0.N, win0_6.index t 0 = t.val / 2 := by decide +kernel
theorem index6_1 : ∀ t : Fin cfg0.N, win0_6.index t 1 = t.val % 2 := by decide +kernel
theorem index7_0 : ∀ t : Fin cfg0.N, win0_7.index t 0 = t.val / 2 := by decide +kernel
theorem index7_1 : ∀ t : Fin cfg0.N, win0_7.index t 1 = t.val % 2 := by decide +kernel

variable (hX : ∀ i : S8192x1024.Idx, V m c main_arg0 i = X (i 0).val (i 1).val) (hY : ∀ i : S8192x1024.Idx, V m c main_arg1 i = Y (i 0).val (i 1).val)
variable (hW : ∀ i : S1024x2048.Idx, V m c main_arg2 i = W (i 0).val (i 1).val) (hU : ∀ i : S1024x2048.Idx, V m c main_arg3 i = U (i 0).val (i 1).val)
variable (hA : ∀ i : S8192x4096.Idx, V m c main_arg4 i = A (i 0).val (i 1).val)

include hX in
theorem inX (t : Fin cfg0.N) (i : S1024x1024.Idx) : (iblk m c 0 t : Vec Ideal S1024x1024 .bf16) i = X (t.val / 2 * 1024 + (i 0).val) (i 1).val := by
  refine (hX ((win0_0.rect t).emb i)).trans ?_
  rw [win0_0.rect_emb_val t i 0, index0_0, win0_0.rect_emb_val_of_index_zero t 1 (index0_1 t) i]
  rfl
include hY in
theorem inY (t : Fin cfg0.N) (i : S1024x1024.Idx) : (iblk m c 1 t : Vec Ideal S1024x1024 .bf16) i = Y (t.val / 2 * 1024 + (i 0).val) (i 1).val := by
  refine (hY ((win0_1.rect t).emb i)).trans ?_
  rw [win0_1.rect_emb_val t i 0, index1_0, win0_1.rect_emb_val_of_index_zero t 1 (index1_1 t) i]
  rfl
include hW in
theorem inW (t : Fin cfg0.N) (i : S1024x1024.Idx) : (iblk m c 2 t : Vec Ideal S1024x1024 .bf16) i = W (i 0).val (t.val % 2 * 1024 + (i 1).val) := by
  refine (hW ((win0_2.rect t).emb i)).trans ?_
  rw [win0_2.rect_emb_val_of_index_zero t 0 (index2_0 t) i, win0_2.rect_emb_val t i 1, index2_1]
  rfl
include hU in
theorem inU (t : Fin cfg0.N) (i : S1024x1024.Idx) : (iblk m c 3 t : Vec Ideal S1024x1024 .bf16) i = U (i 0).val (t.val % 2 * 1024 + (i 1).val) := by
  refine (hU ((win0_3.rect t).emb i)).trans ?_
  rw [win0_3.rect_emb_val_of_index_zero t 0 (index3_0 t) i, win0_3.rect_emb_val t i 1, index3_1]
  rfl
include hA in
theorem inA (t : Fin cfg0.N) (i : S1024x2048.Idx) : (iblk m c 4 t : Vec Ideal S1024x2048 .bf16) i = A (t.val / 2 * 1024 + (i 0).val) (t.val % 2 * 2048 + (i 1).val) := by
  refine (hA ((win0_4.rect t).emb i)).trans ?_
  rw [win0_4.rect_emb_val t i 0, index4_0, win0_4.rect_emb_val t i 1, index4_1]
  rfl

/-- The gated sum at row `r` and column `c`; the gates lie in pairs of stretches of 1024 columns. -/
def sum (X Y W U A : ℕ → ℕ → EReal) (r c : ℕ) : EReal :=
  merged (prod X W r c) (prod Y U r c) (A r (Gate.fst 1024 c)) (A r (Gate.snd 1024 c))

include hX hW in
theorem stored_a (t : Fin cfg0.N) (i : S1024x1024.Idx) : out0_5 (iblk m c 0 t) (iblk m c 1 t) (iblk m c 2 t) (iblk m c 3 t) (iblk m c 4 t) i = prod X W (t.val / 2 * 1024 + (i 0).val) (t.val % 2 * 1024 + (i 1).val) :=
  block_a (X := fun r k => X (t.val / 2 * 1024 + r) k) (W := fun k r => W k (t.val % 2 * 1024 + r)) (inX hX t) (inW hW t) i

include hY hU in
theorem stored_b (t : Fin cfg0.N) (i : S1024x1024.Idx) : out0_6 (iblk m c 0 t) (iblk m c 1 t) (iblk m c 2 t) (iblk m c 3 t) (iblk m c 4 t) i = prod Y U (t.val / 2 * 1024 + (i 0).val) (t.val % 2 * 1024 + (i 1).val) :=
  block_b (Y := fun r k => Y (t.val / 2 * 1024 + r) k) (U := fun k r => U k (t.val % 2 * 1024 + r)) (inY hY t) (inU hU t) i

include hX hY hW hU hA in
theorem stored_m (t : Fin cfg0.N) (i : S1024x1024.Idx) : out0_7 (iblk m c 0 t) (iblk m c 1 t) (iblk m c 2 t) (iblk m c 3 t) (iblk m c 4 t) i = sum X Y W U A (t.val / 2 * 1024 + (i 0).val) (t.val % 2 * 1024 + (i 1).val) := by
  rw [block_m (X := fun r k => X (t.val / 2 * 1024 + r) k) (Y := fun r k => Y (t.val / 2 * 1024 + r) k) (W := fun k r => W k (t.val % 2 * 1024 + r)) (U := fun k r => U k (t.val % 2 * 1024 + r))
    (A := fun r c => A (t.val / 2 * 1024 + r) (t.val % 2 * 2048 + c)) (inX hX t) (inY hY t) (inW hW t) (inU hU t) (inA hA t) i]
  unfold sum
  rw [Gate.fst_block (w := 1024) (i 1).isLt, Gate.snd_block (w := 1024) (i 1).isLt]
  rfl

include hX hW in
theorem array_a (i : S8192x2048.Idx) : (dats m 0 c).arrAt 5 cfg0.N i = prod X W (i 0).val (i 1).val := by
  refine (dats m 0 c).arrAt_forall_of_cover 5 (fun (i : S8192x2048.Idx) (v : EReal) => v = prod X W (i 0).val (i 1).val) (fun t ht y => ?_) (fun i => ?_) i
  · have e : (dats m 0 c).flushed 5 t y = out0_5 (iblk m c 0 t) (iblk m c 1 t) (iblk m c 2 t) (iblk m c 3 t) (iblk m c 4 t) y := congrFun (Value.flushed5 m c t) y
    show (dats m 0 c).flushed 5 t y = prod X W ((win0_5.rect t).emb y 0).val ((win0_5.rect t).emb y 1).val
    rw [e, win0_5.rect_emb_val t y 0, index5_0, win0_5.rect_emb_val t y 1, index5_1]
    exact stored_a hX hW t y
  · have hN : cfg0.N = 16 := N_0
    have b0 : (i 0).val < 8192 := (i 0).isLt
    have b1 : (i 1).val < 2048 := (i 1).isLt
    let t : Fin cfg0.N := ⟨(i 0).val / 1024 * 2 + (i 1).val / 1024, by omega⟩
    refine ⟨t, flush0_5 t, ?_⟩
    show i ∈ ((View.whole main_v0_0).slice (win0_5.rect t)).set
    rw [View.set_slice_whole, win0_5.mem_rect_iff]
    intro a
    match a with
    | ⟨0, _⟩ =>
      show win0_5.index t 0 * 1024 ≤ (i 0).val ∧ (i 0).val < win0_5.index t 0 * 1024 + 1024
      rw [index5_0]
      show ((i 0).val / 1024 * 2 + (i 1).val / 1024) / 2 * 1024 ≤ _ ∧ _ < ((i 0).val / 1024 * 2 + (i 1).val / 1024) / 2 * 1024 + 1024
      omega
    | ⟨1, _⟩ =>
      show win0_5.index t 1 * 1024 ≤ (i 1).val ∧ (i 1).val < win0_5.index t 1 * 1024 + 1024
      rw [index5_1]
      show ((i 0).val / 1024 * 2 + (i 1).val / 1024) % 2 * 1024 ≤ _ ∧ _ < ((i 0).val / 1024 * 2 + (i 1).val / 1024) % 2 * 1024 + 1024
      omega

include hY hU in
theorem array_b (i : S8192x2048.Idx) : (dats m 0 c).arrAt 6 cfg0.N i = prod Y U (i 0).val (i 1).val := by
  refine (dats m 0 c).arrAt_forall_of_cover 6 (fun (i : S8192x2048.Idx) (v : EReal) => v = prod Y U (i 0).val (i 1).val) (fun t ht y => ?_) (fun i => ?_) i
  · have e : (dats m 0 c).flushed 6 t y = out0_6 (iblk m c 0 t) (iblk m c 1 t) (iblk m c 2 t) (iblk m c 3 t) (iblk m c 4 t) y := congrFun (Value.flushed6 m c t) y
    show (dats m 0 c).flushed 6 t y = prod Y U ((win0_6.rect t).emb y 0).val ((win0_6.rect t).emb y 1).val
    rw [e, win0_6.rect_emb_val t y 0, index6_0, win0_6.rect_emb_val t y 1, index6_1]
    exact stored_b hY hU t y
  · have hN : cfg0.N = 16 := N_0
    have b0 : (i 0).val < 8192 := (i 0).isLt
    have b1 : (i 1).val < 2048 := (i 1).isLt
    let t : Fin cfg0.N := ⟨(i 0).val / 1024 * 2 + (i 1).val / 1024, by omega⟩
    refine ⟨t, flush0_6 t, ?_⟩
    show i ∈ ((View.whole main_v0_1).slice (win0_6.rect t)).set
    rw [View.set_slice_whole, win0_6.mem_rect_iff]
    intro a
    match a with
    | ⟨0, _⟩ =>
      show win0_6.index t 0 * 1024 ≤ (i 0).val ∧ (i 0).val < win0_6.index t 0 * 1024 + 1024
      rw [index6_0]
      show ((i 0).val / 1024 * 2 + (i 1).val / 1024) / 2 * 1024 ≤ _ ∧ _ < ((i 0).val / 1024 * 2 + (i 1).val / 1024) / 2 * 1024 + 1024
      omega
    | ⟨1, _⟩ =>
      show win0_6.index t 1 * 1024 ≤ (i 1).val ∧ (i 1).val < win0_6.index t 1 * 1024 + 1024
      rw [index6_1]
      show ((i 0).val / 1024 * 2 + (i 1).val / 1024) % 2 * 1024 ≤ _ ∧ _ < ((i 0).val / 1024 * 2 + (i 1).val / 1024) % 2 * 1024 + 1024
      omega

include hX hY hW hU hA in
theorem array_m (i : S8192x2048.Idx) : (dats m 0 c).arrAt 7 cfg0.N i = sum X Y W U A (i 0).val (i 1).val := by
  refine (dats m 0 c).arrAt_forall_of_cover 7 (fun (i : S8192x2048.Idx) (v : EReal) => v = sum X Y W U A (i 0).val (i 1).val) (fun t ht y => ?_) (fun i => ?_) i
  · have e : (dats m 0 c).flushed 7 t y = out0_7 (iblk m c 0 t) (iblk m c 1 t) (iblk m c 2 t) (iblk m c 3 t) (iblk m c 4 t) y := congrFun (Value.flushed7 m c t) y
    show (dats m 0 c).flushed 7 t y = sum X Y W U A ((win0_7.rect t).emb y 0).val ((win0_7.rect t).emb y 1).val
    rw [e, win0_7.rect_emb_val t y 0, index7_0, win0_7.rect_emb_val t y 1, index7_1]
    exact stored_m hX hY hW hU hA t y
  · have hN : cfg0.N = 16 := N_0
    have b0 : (i 0).val < 8192 := (i 0).isLt
    have b1 : (i 1).val < 2048 := (i 1).isLt
    let t : Fin cfg0.N := ⟨(i 0).val / 1024 * 2 + (i 1).val / 1024, by omega⟩
    refine ⟨t, flush0_7 t, ?_⟩
    show i ∈ ((View.whole main_v0_2).slice (win0_7.rect t)).set
    rw [View.set_slice_whole, win0_7.mem_rect_iff]
    intro a
    match a with
    | ⟨0, _⟩ =>
      show win0_7.index t 0 * 1024 ≤ (i 0).val ∧ (i 0).val < win0_7.index t 0 * 1024 + 1024
      rw [index7_0]
      show ((i 0).val / 1024 * 2 + (i 1).val / 1024) / 2 * 1024 ≤ _ ∧ _ < ((i 0).val / 1024 * 2 + (i 1).val / 1024) / 2 * 1024 + 1024
      omega
    | ⟨1, _⟩ =>
      show win0_7.index t 1 * 1024 ≤ (i 1).val ∧ (i 1).val < win0_7.index t 1 * 1024 + 1024
      rw [index7_1]
      show ((i 0).val / 1024 * 2 + (i 1).val / 1024) % 2 * 1024 ≤ _ ∧ _ < ((i 0).val / 1024 * 2 + (i 1).val / 1024) % 2 * 1024 + 1024
      omega

end kernel

section reference
open Cert.BranchesMergeRefIdeal Cert.BranchesMergeRefIdeal.Read
variable {x0 x1 : S8192x1024.Idx → EReal} {x2 x3 : S1024x2048.Idx → EReal} {x4 : S8192x4096.Idx → EReal} {X Y W U A : ℕ → ℕ → EReal}
variable (h0 : ∀ i, x0 i = X (i 0).val (i 1).val) (h1 : ∀ i, x1 i = Y (i 0).val (i 1).val) (h2 : ∀ i, x2 i = W (i 0).val (i 1).val)
variable (h3 : ∀ i, x3 i = U (i 0).val (i 1).val) (h4 : ∀ i, x4 i = A (i 0).val (i 1).val)

include h0 h2 in
theorem ref_a (i : S8192x2048.Idx) : val_main_v16 (F := Ideal) x0 x2 i = prod X W (i 0).val (i 1).val := by
  simp only [val_main_v16_apply, val_main_v15_apply, val_main_v14_apply, Ideal.extf_def, h0, h2]
  exact stretch_first 1024 fun k => X (i 0).val k * W k (i 1).val

include h1 h3 in
theorem ref_b (i : S8192x2048.Idx) : val_main_v19 (F := Ideal) x1 x3 i = prod Y U (i 0).val (i 1).val := by
  simp only [val_main_v19_apply, val_main_v18_apply, val_main_v17_apply, Ideal.extf_def, h1, h3]
  exact stretch_first 1024 fun k => Y (i 0).val k * U k (i 1).val

include h4 in
theorem ref_sigmoid (i : S8192x4096.Idx) : val_main_v6 (F := Ideal) x4 i = Ideal.logistic (A (i 0).val (i 1).val) := by
  simp only [val_main_v6_apply, val_main_v5_apply, val_main_v4_apply, val_main_v3_apply, val_main_v2_apply, val_main_v1_apply, val_main_v0_apply,
    val_main_cst_apply, val_main_cst_0_apply, Ideal.hostDivf_def, Ideal.addf_def, Ideal.hostUnary_exp_def, Ideal.hostNegf_def, Ideal.negf_def, Ideal.extf_def,
    Ideal.ofBits_def, Gate.one_lit, h4]
  rfl

include h4 in
theorem ref_first (i : S8192x2048.Idx) : val_main_v10 (F := Ideal) x4 i = Ideal.logistic (A (i 0).val (Gate.fst 1024 (i 1).val)) := by
  rw [val_main_v10_apply, val_main_v9_apply, val_main_v8_apply, val_main_v7_apply, ref_sigmoid h4]
  have b0 : (i 0).val < 8192 := (i 0).isLt
  have b1 : (i 1).val < 2048 := (i 1).isLt
  refine congrArg Ideal.logistic (congrArg₂ A ?_ ?_)
  · show ((((((((((i 0).val * 2048 + (i 1).val) / 2048) * 2 + (((i 0).val * 2048 + (i 1).val) / 1024 % 2)) * 1024 + (((i 0).val * 2048 + (i 1).val) % 1024)) / 2048)) * 2 + (((((((i 0).val * 2048 + (i 1).val) / 2048) * 2 + (((i 0).val * 2048 + (i 1).val) / 1024 % 2)) * 1024 + (((i 0).val * 2048 + (i 1).val) % 1024)) / 1024 % 2))) * 2 + ((0))) * 1024 + (((((((i 0).val * 2048 + (i 1).val) / 2048) * 2 + (((i 0).val * 2048 + (i 1).val) / 1024 % 2)) * 1024 + (((i 0).val * 2048 + (i 1).val) % 1024)) % 1024))) / 4096 = (i 0).val
    omega
  · show ((((((((((i 0).val * 2048 + (i 1).val) / 2048) * 2 + (((i 0).val * 2048 + (i 1).val) / 1024 % 2)) * 1024 + (((i 0).val * 2048 + (i 1).val) % 1024)) / 2048)) * 2 + (((((((i 0).val * 2048 + (i 1).val) / 2048) * 2 + (((i 0).val * 2048 + (i 1).val) / 1024 % 2)) * 1024 + (((i 0).val * 2048 + (i 1).val) % 1024)) / 1024 % 2))) * 2 + ((0))) * 1024 + (((((((i 0).val * 2048 + (i 1).val) / 2048) * 2 + (((i 0).val * 2048 + (i 1).val) / 1024 % 2)) * 1024 + (((i 0).val * 2048 + (i 1).val) % 1024)) % 1024))) % 4096 = (i 1).val / 1024 * 2048 + (i 1).val % 1024
    omega

include h4 in
theorem ref_second (i : S8192x2048.Idx) : val_main_v13 (F := Ideal) x4 i = Ideal.logistic (A (i 0).val (Gate.snd 1024 (i 1).val)) := by
  rw [val_main_v13_apply, val_main_v12_apply, val_main_v11_apply, val_main_v7_apply, ref_sigmoid h4]
  have b0 : (i 0).val < 8192 := (i 0).isLt
  have b1 : (i 1).val < 2048 := (i 1).isLt
  refine congrArg Ideal.logistic (congrArg₂ A ?_ ?_)
  · show ((((((((((i 0).val * 2048 + (i 1).val) / 2048) * 2 + (((i 0).val * 2048 + (i 1).val) / 1024 % 2)) * 1024 + (((i 0).val * 2048 + (i 1).val) % 1024)) / 2048)) * 2 + (((((((i 0).val * 2048 + (i 1).val) / 2048) * 2 + (((i 0).val * 2048 + (i 1).val) / 1024 % 2)) * 1024 + (((i 0).val * 2048 + (i 1).val) % 1024)) / 1024 % 2))) * 2 + (1 + (0))) * 1024 + (((((((i 0).val * 2048 + (i 1).val) / 2048) * 2 + (((i 0).val * 2048 + (i 1).val) / 1024 % 2)) * 1024 + (((i 0).val * 2048 + (i 1).val) % 1024)) % 1024))) / 4096 = (i 0).val
    omega
  · show ((((((((((i 0).val * 2048 + (i 1).val) / 2048) * 2 + (((i 0).val * 2048 + (i 1).val) / 1024 % 2)) * 1024 + (((i 0).val * 2048 + (i 1).val) % 1024)) / 2048)) * 2 + (((((((i 0).val * 2048 + (i 1).val) / 2048) * 2 + (((i 0).val * 2048 + (i 1).val) / 1024 % 2)) * 1024 + (((i 0).val * 2048 + (i 1).val) % 1024)) / 1024 % 2))) * 2 + (1 + (0))) * 1024 + (((((((i 0).val * 2048 + (i 1).val) / 2048) * 2 + (((i 0).val * 2048 + (i 1).val) / 1024 % 2)) * 1024 + (((i 0).val * 2048 + (i 1).val) % 1024)) % 1024))) % 4096 = (i 1).val / 1024 * 2048 + (1024 + (i 1).val % 1024)
    omega

include h0 h1 h2 h3 h4 in
/-- The gated sum the reference leaves. -/
theorem ref_m (i : S8192x2048.Idx) : val_main_v25 (F := Ideal) x0 x1 x2 x3 x4 i = sum X Y W U A (i 0).val (i 1).val := by
  simp only [val_main_v25_apply, val_main_v24_apply, val_main_v23_apply, val_main_v22_apply, Ideal.truncf_def, Ideal.addf_def, Ideal.mulf_def,
    ref_a h0 h2, ref_b h1 h3, ref_first h4, ref_second h4]
  rfl
end reference

/-- The reference ends, keeps its arguments and leaves no signal. -/
theorem reference_frame : Cert.quiescent_BranchesMergeRefIdeal := fun m g _ =>
  (θ_run Cert.BranchesMergeRefIdeal.defs _ _).mono (fun r h => ⟨fun c => (h c).2.2.2, sem_eq_zero_of_no_sems (by decide) r.2⟩)
    (Cert.BranchesMergeRefIdeal.Value.run m g)

/-- The three arrays agree. -/
theorem algebraic : Cert.algebraic_BranchesMergeIdeal_BranchesMergeRefIdeal := by
  intro m g m' g' _ hagree
  refine ⟨_, _, _, Cert.BranchesMergeIdeal.Value.run_blocks m g, ?_⟩
  refine (θ_run Cert.BranchesMergeRefIdeal.defs _ _).mono (fun r h c => ?_) (Cert.BranchesMergeRefIdeal.Value.run m' g')
  obtain ⟨a0, a1, a2, a3, a4⟩ := hagree c
  obtain ⟨e0, e1, e2, hk⟩ := h c
  obtain ⟨X, hX⟩ := table (m ((c.tc : Thread Cert.BranchesMergeIdeal.nD Cert.BranchesMergeIdeal.τ).loc Cert.BranchesMergeIdeal.main_arg0))
  obtain ⟨Y, hY⟩ := table (m ((c.tc : Thread Cert.BranchesMergeIdeal.nD Cert.BranchesMergeIdeal.τ).loc Cert.BranchesMergeIdeal.main_arg1))
  obtain ⟨W, hW⟩ := table (m ((c.tc : Thread Cert.BranchesMergeIdeal.nD Cert.BranchesMergeIdeal.τ).loc Cert.BranchesMergeIdeal.main_arg2))
  obtain ⟨U, hU⟩ := table (m ((c.tc : Thread Cert.BranchesMergeIdeal.nD Cert.BranchesMergeIdeal.τ).loc Cert.BranchesMergeIdeal.main_arg3))
  obtain ⟨A, hA⟩ := table (m ((c.tc : Thread Cert.BranchesMergeIdeal.nD Cert.BranchesMergeIdeal.τ).loc Cert.BranchesMergeIdeal.main_arg4))
  refine ⟨?_, ?_, ?_, hk⟩
  · rw [e0, Cert.BranchesMergeRefIdeal.Read.val_main_v20_eq, a0, a2]
    exact funext fun i => (ref_a hX hW i).trans (array_a hX hW i).symm
  · rw [e1, Cert.BranchesMergeRefIdeal.Read.val_main_v21_eq, a1, a3]
    exact funext fun i => (ref_b hY hU i).trans (array_b hY hU i).symm
  · rw [e2, Cert.BranchesMergeRefIdeal.Read.val_main_v25_eq, a0, a1, a2, a3, a4]
    exact funext fun i => (ref_m hX hY hW hU hA i).trans (array_m hX hY hW hU hA i).symm

end BranchesMerge
-- ==== Proof.DMergedBlock.lean ====
module

public import proofs.«01_k».proof.Proof.Gen.DMergedIdeal.Value
public import proofs.«01_k».proof.Proof.Product
public import proofs.«01_k».proof.Proof.Gate
public import Idealize.ShloMosaic.Lib.Pipeline.ValueKit
public import Idealize.ShloMosaic.Lib.Pipeline.ReadBack

/-! The gradient through the output projection and the gated sum: what one grid point leaves in its four output blocks, the
first point of a run over the rows (which sets the column sums to zero) and a later one (which adds to them). -/

@[expose] public section
noncomputable section
namespace DMerged
open Idealize.ShloMosaic Idealize.ShloMosaic.TcCoe Idealize.SL.Sem Product
open Cert.DMergedIdeal Cert.DMergedIdeal.Gen
set_option maxHeartbeats 800000

/-- An element of the gradient of the gated sum: rows of the cotangent with rows of the weights. -/
def dm (D W : ℕ → ℕ → EReal) (r c : ℕ) : EReal := stretch 2048 0 fun k => D r k * W c k

/-- The gradient of a branch, of which `G` is the gate. -/
def db (D W G : ℕ → ℕ → EReal) (r c : ℕ) : EReal := dm D W r c * Ideal.logistic (G r c)

/-- The gradient of a gate, of which `A` is the branch. -/
def dg (D W G A : ℕ → ℕ → EReal) (r c : ℕ) : EReal :=
  dm D W r c * A r c * Ideal.logistic (G r c) * (1 - Ideal.logistic (G r c))

/-- Four stretches of 256 rows added one after the other. -/
theorem chain {f : ℕ → EReal} {a b c d e : EReal} (h3 : e = d + stretch 256 0 fun r => f (768 + r)) (h2 : d = c + stretch 256 0 fun r => f (512 + r))
    (h1 : c = b + stretch 256 0 fun r => f (256 + r)) (h0 : b = a + stretch 256 0 fun r => f (0 + r)) : e = a + stretch 1024 0 f := by
  have e0 : (stretch 256 0 fun r => f (0 + r)) = stretch 256 0 f := by simp only [zero_add]
  have e1 : (stretch 256 0 fun r => f (256 + r)) = stretch 256 1 f := stretch_shift 256 1 f
  have e2 : (stretch 256 0 fun r => f (512 + r)) = stretch 256 2 f := stretch_shift 256 2 f
  have e3 : (stretch 256 0 fun r => f (768 + r)) = stretch 256 3 f := stretch_shift 256 3 f
  have s4 : stretch 1024 0 f = stretch 256 0 f + stretch 256 1 f + stretch 256 2 f + stretch 256 3 f := (stretch_four 256 f).symm
  rw [h3, h2, h1, h0, e0, e1, e2, e3, s4]
  simp only [add_assoc]

section chunk
variable {v3 : Vec Ideal S256x2048 .bf16} {v4 : Vec Ideal S1024x2048 .bf16} {g a : Vec Ideal S256x1024 .bf16} {D W G A : ℕ → ℕ → EReal}
variable (h3 : ∀ i, v3 i = D (i 0).val (i 1).val) (h4 : ∀ i, v4 i = W (i 0).val (i 1).val)
variable (hg : ∀ i, g i = G (i 0).val (i 1).val) (ha : ∀ i, a i = A (i 0).val (i 1).val)

/-- A column sum added to what is there. -/
theorem colsum {d : FVec Ideal S256x1024 .f32} {F : ℕ → ℕ → EReal} (hd : ∀ i, d i = F (i 0).val (i 1).val) (prev : Vec Ideal S1x1024 .f32) (j : S1x1024.Idx) :
    addf (shapeCast S1x1024 prev shapeCasts_S1x1024_S1x1024)
      (shapeCast S1x1024 (multiReduction .add [0] S1024 d 0x00000000#32 reduces_S256x1024_S1024 (.inl rfl) rfl) shapeCasts_S1024_S1x1024) j
      = prev j + stretch 256 0 fun r => F r (j 1).val := by
  pointwise
  simp only [hd]
  exact congrArg (prev j + ·) (stretch_first 256 fun r => F r (j 1).val)

include h3 h4 in
theorem product0 (i : S256x1024.Idx) : k0_pay2 v3 v4 i = dm D W (i 0).val (i 1).val := by
  pointwise [k0_pay2]
  simp only [h3, h4]
  exact stretch_first 2048 fun k => D (i 0).val k * W (i 1).val k

include h3 h4 hg in
theorem branch_a0 (i : S256x1024.Idx) : k0_pay5 v3 v4 g i = db D W G (i 0).val (i 1).val := by
  pointwise [k0_pay5, k0_pay3, k0_pay4, k0_pay7]
  simp only [product0 h3 h4, hg, Gate.sigmoid]
  rfl

include h3 h4 hg in
theorem branch_b0 (i : S256x1024.Idx) : k0_pay6 v3 v4 g i = db D W G (i 0).val (i 1).val := by
  pointwise [k0_pay6, k0_pay3, k0_pay4, k0_pay7]
  simp only [product0 h3 h4, hg, Gate.sigmoid]
  rfl

include h3 h4 hg ha in
theorem gate_a0 (i : S256x1024.Idx) : k0_pay8 (k0_pay2 v3 v4) (k0_pay3 g) (k0_pay7 a) i = dg D W G A (i 0).val (i 1).val := by
  pointwise [k0_pay8, k0_pay3, k0_pay4, k0_pay7]
  simp only [product0 h3 h4, hg, ha, Gate.sigmoid]
  rfl

include h3 h4 hg ha in
theorem leaf_a0 (i : S256x1024.Idx) : k0_pay10 (k0_pay2 v3 v4) (k0_pay3 g) (k0_pay7 a) i = dg D W G A (i 0).val (i 1).val := by
  pointwise [k0_pay10]
  exact gate_a0 h3 h4 hg ha i

include h3 h4 hg ha in
theorem sum_a0 (prev : Vec Ideal S1x1024 .f32) (i : S1x1024.Idx) : k0_pay12 (k0_pay2 v3 v4) (k0_pay3 g) (k0_pay7 a) prev i = prev i + stretch 256 0 fun r => dg D W G A r (i 1).val :=
  colsum (gate_a0 h3 h4 hg ha) prev i

include h3 h4 hg ha in
theorem gate_b0 (i : S256x1024.Idx) : k0_pay9 (k0_pay2 v3 v4) (k0_pay4 g) a i = dg D W G A (i 0).val (i 1).val := by
  pointwise [k0_pay9, k0_pay3, k0_pay4, k0_pay7]
  simp only [product0 h3 h4, hg, ha, Gate.sigmoid]
  rfl

include h3 h4 hg ha in
theorem leaf_b0 (i : S256x1024.Idx) : k0_pay11 (k0_pay2 v3 v4) (k0_pay4 g) a i = dg D W G A (i 0).val (i 1).val := by
  pointwise [k0_pay11]
  exact gate_b0 h3 h4 hg ha i

include h3 h4 hg ha in
theorem sum_b0 (prev : Vec Ideal S1x1024 .f32) (i : S1x1024.Idx) : k0_pay13 (k0_pay2 v3 v4) (k0_pay4 g) a prev i = prev i + stretch 256 0 fun r => dg D W G A r (i 1).val :=
  colsum (gate_b0 h3 h4 hg ha) prev i

include h3 h4 in
theorem product1 (i : S256x1024.Idx) : k0_pay14 v3 v4 i = dm D W (i 0).val (i 1).val := by
  pointwise [k0_pay14]
  simp only [h3, h4]
  exact stretch_first 2048 fun k => D (i 0).val k * W (i 1).val k

include h3 h4 hg in
theorem branch_a1 (i : S256x1024.Idx) : k0_pay17 (k0_pay14 v3 v4) g i = db D W G (i 0).val (i 1).val := by
  pointwise [k0_pay17, k0_pay15, k0_pay16]
  simp only [product1 h3 h4, hg, Gate.sigmoid]
  rfl

include h3 h4 hg in
theorem branch_b1 (i : S256x1024.Idx) : k0_pay18 (k0_pay14 v3 v4) g i = db D W G (i 0).val (i 1).val := by
  pointwise [k0_pay18, k0_pay15, k0_pay16]
  simp only [product1 h3 h4, hg, Gate.sigmoid]
  rfl

include h3 h4 hg ha in
theorem gate_a1 (i : S256x1024.Idx) : k0_pay19 (k0_pay14 v3 v4) g a i = dg D W G A (i 0).val (i 1).val := by
  pointwise [k0_pay19, k0_pay15, k0_pay16]
  simp only [product1 h3 h4, hg, ha, Gate.sigmoid]
  rfl

include h3 h4 hg ha in
theorem leaf_a1 (i : S256x1024.Idx) : k0_pay21 (k0_pay14 v3 v4) g a i = dg D W G A (i 0).val (i 1).val := by
  pointwise [k0_pay21]
  exact gate_a1 h3 h4 hg ha i

include h3 h4 hg ha in
theorem sum_a1 (prev : Vec Ideal S1x1024 .f32) (i : S1x1024.Idx) : k0_pay23 (k0_pay19 (k0_pay14 v3 v4) g a) prev i = prev i + stretch 256 0 fun r => dg D W G A r (i 1).val :=
  colsum (gate_a1 h3 h4 hg ha) prev i

include h3 h4 hg ha in
theorem gate_b1 (i : S256x1024.Idx) : k0_pay20 (k0_pay14 v3 v4) g a i = dg D W G A (i 0).val (i 1).val := by
  pointwise [k0_pay20, k0_pay15, k0_pay16]
  simp only [product1 h3 h4, hg, ha, Gate.sigmoid]
  rfl

include h3 h4 hg ha in
theorem leaf_b1 (i : S256x1024.Idx) : k0_pay22 (k0_pay20 (k0_pay14 v3 v4) g a) i = dg D W G A (i 0).val (i 1).val := by
  pointwise [k0_pay22]
  exact gate_b1 h3 h4 hg ha i

include h3 h4 hg ha in
theorem sum_b1 (prev : Vec Ideal S1x1024 .f32) (i : S1x1024.Idx) : k0_pay24 (k0_pay20 (k0_pay14 v3 v4) g a) prev i = prev i + stretch 256 0 fun r => dg D W G A r (i 1).val :=
  colsum (gate_b1 h3 h4 hg ha) prev i

include h3 h4 in
theorem product2 (i : S256x1024.Idx) : k0_pay25 v3 v4 i = dm D W (i 0).val (i 1).val := by
  pointwise [k0_pay25]
  simp only [h3, h4]
  exact stretch_first 2048 fun k => D (i 0).val k * W (i 1).val k

include h3 h4 hg in
theorem branch_a2 (i : S256x1024.Idx) : k0_pay30 (k0_pay25 v3 v4) (k0_pay26 g) i = db D W G (i 0).val (i 1).val := by
  pointwise [k0_pay30, k0_pay26, k0_pay27, k0_pay28, k0_pay29]
  simp only [product2 h3 h4, hg, Gate.sigmoid]
  rfl

include h3 h4 hg in
theorem branch_b2 (i : S256x1024.Idx) : k0_pay31 (k0_pay25 v3 v4) (k0_pay27 g) k0_pay28 i = db D W G (i 0).val (i 1).val := by
  pointwise [k0_pay31, k0_pay26, k0_pay27, k0_pay28, k0_pay29]
  simp only [product2 h3 h4, hg, Gate.sigmoid]
  rfl

include h3 h4 hg ha in
theorem gate_a2 (i : S256x1024.Idx) : k0_pay32 (k0_pay25 v3 v4) (k0_pay26 g) a i = dg D W G A (i 0).val (i 1).val := by
  pointwise [k0_pay32, k0_pay26, k0_pay27, k0_pay28, k0_pay29]
  simp only [product2 h3 h4, hg, ha, Gate.sigmoid]
  rfl

include h3 h4 hg ha in
theorem leaf_a2 (i : S256x1024.Idx) : k0_pay34 (k0_pay25 v3 v4) (k0_pay26 g) a i = dg D W G A (i 0).val (i 1).val := by
  pointwise [k0_pay34]
  exact gate_a2 h3 h4 hg ha i

include h3 h4 hg ha in
theorem sum_a2 (prev : Vec Ideal S1x1024 .f32) (i : S1x1024.Idx) : k0_pay36 (k0_pay25 v3 v4) (k0_pay26 g) a prev i = prev i + stretch 256 0 fun r => dg D W G A r (i 1).val :=
  colsum (gate_a2 h3 h4 hg ha) prev i

include h3 h4 hg ha in
theorem gate_b2 (i : S256x1024.Idx) : k0_pay33 (k0_pay25 v3 v4) (k0_pay27 g) k0_pay28 a i = dg D W G A (i 0).val (i 1).val := by
  pointwise [k0_pay33, k0_pay26, k0_pay27, k0_pay28, k0_pay29]
  simp only [product2 h3 h4, hg, ha, Gate.sigmoid]
  rfl

include h3 h4 hg ha in
theorem leaf_b2 (i : S256x1024.Idx) : k0_pay35 (k0_pay25 v3 v4) (k0_pay27 g) k0_pay28 a i = dg D W G A (i 0).val (i 1).val := by
  pointwise [k0_pay35]
  exact gate_b2 h3 h4 hg ha i

include h3 h4 hg ha in
theorem sum_b2 (prev : Vec Ideal S1x1024 .f32) (i : S1x1024.Idx) : k0_pay37 (k0_pay33 (k0_pay25 v3 v4) (k0_pay27 g) k0_pay28 a) prev i = prev i + stretch 256 0 fun r => dg D W G A r (i 1).val :=
  colsum (gate_b2 h3 h4 hg ha) prev i

include h3 h4 in
theorem product3 (i : S256x1024.Idx) : k0_pay38 v3 v4 i = dm D W (i 0).val (i 1).val := by
  pointwise [k0_pay38]
  simp only [h3, h4]
  exact stretch_first 2048 fun k => D (i 0).val k * W (i 1).val k

include h3 h4 hg in
theorem branch_a3 (i : S256x1024.Idx) : k0_pay41 v3 v4 g i = db D W G (i 0).val (i 1).val := by
  pointwise [k0_pay41, k0_pay39, k0_pay40]
  simp only [product3 h3 h4, hg, Gate.sigmoid]
  rfl

include h3 h4 hg in
theorem branch_b3 (i : S256x1024.Idx) : k0_pay42 v3 v4 g i = db D W G (i 0).val (i 1).val := by
  pointwise [k0_pay42, k0_pay39, k0_pay40]
  simp only [product3 h3 h4, hg, Gate.sigmoid]
  rfl

include h3 h4 hg ha in
theorem gate_a3 (i : S256x1024.Idx) : k0_pay43 (k0_pay38 v3 v4) (k0_pay39 g) a i = dg D W G A (i 0).val (i 1).val := by
  pointwise [k0_pay43, k0_pay39, k0_pay40]
  simp only [product3 h3 h4, hg, ha, Gate.sigmoid]
  rfl

include h3 h4 hg ha in
theorem leaf_a3 (i : S256x1024.Idx) : k0_pay45 (k0_pay38 v3 v4) (k0_pay39 g) a i = dg D W G A (i 0).val (i 1).val := by
  pointwise [k0_pay45]
  exact gate_a3 h3 h4 hg ha i

include h3 h4 hg ha in
theorem sum_a3 (prev : Vec Ideal S1x1024 .f32) (i : S1x1024.Idx) : k0_pay47 (k0_pay38 v3 v4) (k0_pay39 g) a prev i = prev i + stretch 256 0 fun r => dg D W G A r (i 1).val :=
  colsum (gate_a3 h3 h4 hg ha) prev i

include h3 h4 hg ha in
theorem gate_b3 (i : S256x1024.Idx) : k0_pay44 (k0_pay38 v3 v4) (k0_pay40 g) a i = dg D W G A (i 0).val (i 1).val := by
  pointwise [k0_pay44, k0_pay39, k0_pay40]
  simp only [product3 h3 h4, hg, ha, Gate.sigmoid]
  rfl

include h3 h4 hg ha in
theorem leaf_b3 (i : S256x1024.Idx) : k0_pay46 (k0_pay38 v3 v4) (k0_pay40 g) a i = dg D W G A (i 0).val (i 1).val := by
  pointwise [k0_pay46]
  exact gate_b3 h3 h4 hg ha i

include h3 h4 hg ha in
theorem sum_b3 (prev : Vec Ideal S1x1024 .f32) (i : S1x1024.Idx) : k0_pay48 (k0_pay38 v3 v4) (k0_pay40 g) a prev i = prev i + stretch 256 0 fun r => dg D W G A r (i 1).val :=
  colsum (gate_b3 h3 h4 hg ha) prev i

end chunk

section block
variable {D W P A B : ℕ → ℕ → EReal}

/-- The second half of the columns of the gates. -/
def hi (P : ℕ → ℕ → EReal) (r c : ℕ) : EReal := P r (1024 + c)

/-- The gradients of the two gates side by side. -/
def both (D W P A B : ℕ → ℕ → EReal) (r c : ℕ) : EReal := if c < 1024 then dg D W P A r c else dg D W (hi P) B r (c - 1024)

theorem both_lo {r c : ℕ} (h : c < 1024) : both D W P A B r c = dg D W P A r c := if_pos h
theorem both_hi (r c : ℕ) : both D W P A B r (1024 + c) = dg D W (hi P) B r c := by
  unfold both
  rw [if_neg (by omega), Nat.add_sub_cancel_left]

variable {x0 x1 x2 : Vec Ideal S1024x2048 .bf16} {x3 x4 : Vec Ideal S1024x1024 .bf16}

/-- The first columns of some rows of a block. -/
theorem rows {n : ℕ} {x : (⟨2, ![1024, n]⟩ : Shape).Idx → EReal} {X : ℕ → ℕ → EReal} (h : ∀ i, x i = X (i 0).val (i 1).val) {k : ℕ} (o : ℕ)
    (inb : ∀ a, ![o, 0] a + ![256, k] a ≤ (⟨2, ![1024, n]⟩ : Shape).size a) (y) :
    View.ld (Val := Elt Ideal) (e' := .bf16) x (Rect.unit (s := ⟨2, ![1024, n]⟩) ![o, 0] ![256, k] inb) y = X (o + (y 0).val) (y 1).val := by
  refine (Gate.place (g := X) h inb y).trans ?_
  rw [Nat.zero_add]

/-- The later columns of some rows of a block of gates. -/
theorem rows_hi {x : (⟨2, ![1024, 2048]⟩ : Shape).Idx → EReal} {X : ℕ → ℕ → EReal} (h : ∀ i, x i = X (i 0).val (i 1).val) (o : ℕ)
    (inb : ∀ a, ![o, 1024] a + ![256, 1024] a ≤ (⟨2, ![1024, 2048]⟩ : Shape).size a) (y) :
    View.ld (Val := Elt Ideal) (e' := .bf16) x (Rect.unit (s := ⟨2, ![1024, 2048]⟩) ![o, 1024] ![256, 1024] inb) y = hi X (o + (y 0).val) (y 1).val :=
  Gate.place (g := X) h inb y

/-- Where a half of the column sums lies. -/
theorem half {G : S1x2048.Idx → EReal} (prev : S1x2048.Idx → EReal) {f : ℕ → EReal} (hG : ∀ j, G j = prev j + f (j 1).val) {o : ℕ}
    (inb : ∀ a, ![0, o] a + ![1, 1024] a ≤ S1x2048.size a) (x : (Rect.unit (s := S1x2048) ![0, o] ![1, 1024] inb).shape.Idx) :
    G ((Rect.unit (s := S1x2048) ![0, o] ![1, 1024] inb).emb x)
      = View.ld (Val := Elt Ideal) (e' := .f32) prev (Rect.unit (s := S1x2048) ![0, o] ![1, 1024] inb) x + f (o + (x 1).val) := by
  rw [hG]
  show prev _ + f (o + 1 * (x 1).val) = _
  rw [one_mul]
  rfl

variable (h0 : ∀ i, x0 i = D (i 0).val (i 1).val) (h1 : ∀ i, x1 i = W (i 0).val (i 1).val) (h2 : ∀ i, x2 i = P (i 0).val (i 1).val)
variable (h3 : ∀ i, x3 i = A (i 0).val (i 1).val) (h4 : ∀ i, x4 i = B (i 0).val (i 1).val)

include h0 h1 h2 in
theorem blockA5 {c : Dev nD} {g : grid0.Coords} {a0 : Memref sig .tc .vmem S1024x2048 .bf16} {e0 : a0.IsWhole} {a1 : Memref sig .tc .vmem S1024x2048 .bf16} {e1 : a1.IsWhole} {a2 : Memref sig .tc .vmem S1024x2048 .bf16} {e2 : a2.IsWhole} {a3 : Memref sig .tc .vmem S1024x1024 .bf16} {e3 : a3.IsWhole} {a4 : Memref sig .tc .vmem S1024x1024 .bf16} {e4 : a4.IsWhole} {a5 : Memref sig .tc .vmem S1024x1024 .bf16} {e5 : a5.IsWhole} {a6 : Memref sig .tc .vmem S1024x1024 .bf16} {e6 : a6.IsWhole} {a7 : Memref sig .tc .vmem S1024x2048 .bf16} {e7 : a7.IsWhole} {a8 : Memref sig .tc .vmem S1x2048 .f32} {e8 : a8.IsWhole} {hc} (i : S1024x1024.Idx) :
    out0_A_5 (F := Ideal) c g a0 e0 a1 e1 a2 e2 a3 e3 a4 e4 a5 e5 a6 e6 a7 e7 a8 e8 hc x0 x1 x2 x3 x4 i = db D W P (i 0).val (i 1).val := by
  frame_out [↓View.readCov_skip, ↓View.readCov_cons_toLoadRect, ↓View.readCov_fill]
  let G : Vec Ideal S1024x1024 .bf16 := fun j => db D W P (j 0).val (j 1).val
  have hG : ∀ j, G j = db D W P (j 0).val (j 1).val := fun _ => rfl
  show View.canon (Val := Elt Ideal) (e := .bf16) ([_, _, _, _] ++ []) i = G i
  refine View.canon_append_of_piecesOf (Val := Elt Ideal) (e := .bf16) G _ _ ?_ i ?_
  on_goal 2 => exact View.cover_of_tiledBy (s := S1024x1024) _ ![256, 1024] (by sl_kernel_rfl) i
  refine ⟨fun x => ?_, fun x => ?_, fun x => ?_, fun x => ?_, trivial⟩
  · refine Eq.trans ?_ (Gate.place (g := db D W P) hG inb_S1024x1024_S256x1024_768_0 x).symm
    refine Eq.trans ?_ (congrArg (db D W P (768 + (x 0).val)) (Nat.zero_add (x 1).val)).symm
    exact branch_a3 (D := fun r k => D (768 + r) k) (W := W) (G := fun r c => P (768 + r) c) (rows h0 768 _) h1 (rows h2 768 _) x
  · refine Eq.trans ?_ (Gate.place (g := db D W P) hG inb_S1024x1024_S256x1024_512_0 x).symm
    refine Eq.trans ?_ (congrArg (db D W P (512 + (x 0).val)) (Nat.zero_add (x 1).val)).symm
    exact branch_a2 (D := fun r k => D (512 + r) k) (W := W) (G := fun r c => P (512 + r) c) (rows h0 512 _) h1 (rows h2 512 _) x
  · refine Eq.trans ?_ (Gate.place (g := db D W P) hG inb_S1024x1024_S256x1024_256_0 x).symm
    refine Eq.trans ?_ (congrArg (db D W P (256 + (x 0).val)) (Nat.zero_add (x 1).val)).symm
    exact branch_a1 (D := fun r k => D (256 + r) k) (W := W) (G := fun r c => P (256 + r) c) (rows h0 256 _) h1 (rows h2 256 _) x
  · refine Eq.trans ?_ (Gate.place (g := db D W P) hG inb_S1024x1024_S256x1024_0_0 x).symm
    refine Eq.trans ?_ (congrArg (db D W P (0 + (x 0).val)) (Nat.zero_add (x 1).val)).symm
    exact branch_a0 (D := fun r k => D (0 + r) k) (W := W) (G := fun r c => P (0 + r) c) (rows h0 0 _) h1 (rows h2 0 _) x

include h0 h1 h2 in
theorem blockA6 {c : Dev nD} {g : grid0.Coords} {a0 : Memref sig .tc .vmem S1024x2048 .bf16} {e0 : a0.IsWhole} {a1 : Memref sig .tc .vmem S1024x2048 .bf16} {e1 : a1.IsWhole} {a2 : Memref sig .tc .vmem S1024x2048 .bf16} {e2 : a2.IsWhole} {a3 : Memref sig .tc .vmem S1024x1024 .bf16} {e3 : a3.IsWhole} {a4 : Memref sig .tc .vmem S1024x1024 .bf16} {e4 : a4.IsWhole} {a5 : Memref sig .tc .vmem S1024x1024 .bf16} {e5 : a5.IsWhole} {a6 : Memref sig .tc .vmem S1024x1024 .bf16} {e6 : a6.IsWhole} {a7 : Memref sig .tc .vmem S1024x2048 .bf16} {e7 : a7.IsWhole} {a8 : Memref sig .tc .vmem S1x2048 .f32} {e8 : a8.IsWhole} {hc} (i : S1024x1024.Idx) :
    out0_A_6 (F := Ideal) c g a0 e0 a1 e1 a2 e2 a3 e3 a4 e4 a5 e5 a6 e6 a7 e7 a8 e8 hc x0 x1 x2 x3 x4 i = db D W (hi P) (i 0).val (i 1).val := by
  frame_out [↓View.readCov_skip, ↓View.readCov_cons_toLoadRect, ↓View.readCov_fill]
  let G : Vec Ideal S1024x1024 .bf16 := fun j => db D W (hi P) (j 0).val (j 1).val
  have hG : ∀ j, G j = db D W (hi P) (j 0).val (j 1).val := fun _ => rfl
  show View.canon (Val := Elt Ideal) (e := .bf16) ([_, _, _, _] ++ []) i = G i
  refine View.canon_append_of_piecesOf (Val := Elt Ideal) (e := .bf16) G _ _ ?_ i ?_
  on_goal 2 => exact View.cover_of_tiledBy (s := S1024x1024) _ ![256, 1024] (by sl_kernel_rfl) i
  refine ⟨fun x => ?_, fun x => ?_, fun x => ?_, fun x => ?_, trivial⟩
  · refine Eq.trans ?_ (Gate.place (g := db D W (hi P)) hG inb_S1024x1024_S256x1024_768_0 x).symm
    refine Eq.trans ?_ (congrArg (db D W (hi P) (768 + (x 0).val)) (Nat.zero_add (x 1).val)).symm
    exact branch_b3 (D := fun r k => D (768 + r) k) (W := W) (G := fun r c => hi P (768 + r) c) (rows h0 768 _) h1 (rows_hi h2 768 _) x
  · refine Eq.trans ?_ (Gate.place (g := db D W (hi P)) hG inb_S1024x1024_S256x1024_512_0 x).symm
    refine Eq.trans ?_ (congrArg (db D W (hi P) (512 + (x 0).val)) (Nat.zero_add (x 1).val)).symm
    exact branch_b2 (D := fun r k => D (512 + r) k) (W := W) (G := fun r c => hi P (512 + r) c) (rows h0 512 _) h1 (rows_hi h2 512 _) x
  · refine Eq.trans ?_ (Gate.place (g := db D W (hi P)) hG inb_S1024x1024_S256x1024_256_0 x).symm
    refine Eq.trans ?_ (congrArg (db D W (hi P) (256 + (x 0).val)) (Nat.zero_add (x 1).val)).symm
    exact branch_b1 (D := fun r k => D (256 + r) k) (W := W) (G := fun r c => hi P (256 + r) c) (rows h0 256 _) h1 (rows_hi h2 256 _) x
  · refine Eq.trans ?_ (Gate.place (g := db D W (hi P)) hG inb_S1024x1024_S256x1024_0_0 x).symm
    refine Eq.trans ?_ (congrArg (db D W (hi P) (0 + (x 0).val)) (Nat.zero_add (x 1).val)).symm
    exact branch_b0 (D := fun r k => D (0 + r) k) (W := W) (G := fun r c => hi P (0 + r) c) (rows h0 0 _) h1 (rows_hi h2 0 _) x

include h0 h1 h2 h3 h4 in
theorem blockA7 {c : Dev nD} {g : grid0.Coords} {a0 : Memref sig .tc .vmem S1024x2048 .bf16} {e0 : a0.IsWhole} {a1 : Memref sig .tc .vmem S1024x2048 .bf16} {e1 : a1.IsWhole} {a2 : Memref sig .tc .vmem S1024x2048 .bf16} {e2 : a2.IsWhole} {a3 : Memref sig .tc .vmem S1024x1024 .bf16} {e3 : a3.IsWhole} {a4 : Memref sig .tc .vmem S1024x1024 .bf16} {e4 : a4.IsWhole} {a5 : Memref sig .tc .vmem S1024x1024 .bf16} {e5 : a5.IsWhole} {a6 : Memref sig .tc .vmem S1024x1024 .bf16} {e6 : a6.IsWhole} {a7 : Memref sig .tc .vmem S1024x2048 .bf16} {e7 : a7.IsWhole} {a8 : Memref sig .tc .vmem S1x2048 .f32} {e8 : a8.IsWhole} {hc} (i : S1024x2048.Idx) :
    out0_A_7 (F := Ideal) c g a0 e0 a1 e1 a2 e2 a3 e3 a4 e4 a5 e5 a6 e6 a7 e7 a8 e8 hc x0 x1 x2 x3 x4 i = both D W P A B (i 0).val (i 1).val := by
  frame_out [↓View.readCov_skip, ↓View.readCov_cons_toLoadRect, ↓View.readCov_fill]
  let G : Vec Ideal S1024x2048 .bf16 := fun j => both D W P A B (j 0).val (j 1).val
  have hG : ∀ j, G j = both D W P A B (j 0).val (j 1).val := fun _ => rfl
  show View.canon (Val := Elt Ideal) (e := .bf16) ([_, _, _, _, _, _, _, _] ++ []) i = G i
  refine View.canon_append_of_piecesOf (Val := Elt Ideal) (e := .bf16) G _ _ ?_ i ?_
  on_goal 2 => exact View.cover_of_tiledBy (s := S1024x2048) _ ![256, 1024] (by sl_kernel_rfl) i
  refine ⟨fun x => ?_, fun x => ?_, fun x => ?_, fun x => ?_, fun x => ?_, fun x => ?_, fun x => ?_, fun x => ?_, trivial⟩
  · refine Eq.trans ?_ (Gate.place (g := both D W P A B) hG inb_S1024x2048_S256x1024_768_1024 x).symm
    refine Eq.trans ?_ (both_hi _ _).symm
    exact leaf_b3 (D := fun r k => D (768 + r) k) (W := W) (G := fun r c => hi P (768 + r) c) (A := fun r c => B (768 + r) c) (rows h0 768 _) h1 (rows_hi h2 768 _) (rows h4 768 _) x
  · refine Eq.trans ?_ (Gate.place (g := both D W P A B) hG inb_S1024x2048_S256x1024_768_0 x).symm
    refine Eq.trans ?_ (congrArg (both D W P A B (768 + (x 0).val)) (Nat.zero_add (x 1).val)).symm
    refine Eq.trans ?_ (both_lo (x 1).isLt).symm
    exact leaf_a3 (D := fun r k => D (768 + r) k) (W := W) (G := fun r c => P (768 + r) c) (A := fun r c => A (768 + r) c) (rows h0 768 _) h1 (rows h2 768 _) (rows h3 768 _) x
  · refine Eq.trans ?_ (Gate.place (g := both D W P A B) hG inb_S1024x2048_S256x1024_512_1024 x).symm
    refine Eq.trans ?_ (both_hi _ _).symm
    exact leaf_b2 (D := fun r k => D (512 + r) k) (W := W) (G := fun r c => hi P (512 + r) c) (A := fun r c => B (512 + r) c) (rows h0 512 _) h1 (rows_hi h2 512 _) (rows h4 512 _) x
  · refine Eq.trans ?_ (Gate.place (g := both D W P A B) hG inb_S1024x2048_S256x1024_512_0 x).symm
    refine Eq.trans ?_ (congrArg (both D W P A B (512 + (x 0).val)) (Nat.zero_add (x 1).val)).symm
    refine Eq.trans ?_ (both_lo (x 1).isLt).symm
    exact leaf_a2 (D := fun r k => D (512 + r) k) (W := W) (G := fun r c => P (512 + r) c) (A := fun r c => A (512 + r) c) (rows h0 512 _) h1 (rows h2 512 _) (rows h3 512 _) x
  · refine Eq.trans ?_ (Gate.place (g := both D W P A B) hG inb_S1024x2048_S256x1024_256_1024 x).symm
    refine Eq.trans ?_ (both_hi _ _).symm
    exact leaf_b1 (D := fun r k => D (256 + r) k) (W := W) (G := fun r c => hi P (256 + r) c) (A := fun r c => B (256 + r) c) (rows h0 256 _) h1 (rows_hi h2 256 _) (rows h4 256 _) x
  · refine Eq.trans ?_ (Gate.place (g := both D W P A B) hG inb_S1024x2048_S256x1024_256_0 x).symm
    refine Eq.trans ?_ (congrArg (both D W P A B (256 + (x 0).val)) (Nat.zero_add (x 1).val)).symm
    refine Eq.trans ?_ (both_lo (x 1).isLt).symm
    exact leaf_a1 (D := fun r k => D (256 + r) k) (W := W) (G := fun r c => P (256 + r) c) (A := fun r c => A (256 + r) c) (rows h0 256 _) h1 (rows h2 256 _) (rows h3 256 _) x
  · refine Eq.trans ?_ (Gate.place (g := both D W P A B) hG inb_S1024x2048_S256x1024_0_1024 x).symm
    refine Eq.trans ?_ (both_hi _ _).symm
    exact leaf_b0 (D := fun r k => D (0 + r) k) (W := W) (G := fun r c => hi P (0 + r) c) (A := fun r c => B (0 + r) c) (rows h0 0 _) h1 (rows_hi h2 0 _) (rows h4 0 _) x
  · refine Eq.trans ?_ (Gate.place (g := both D W P A B) hG inb_S1024x2048_S256x1024_0_0 x).symm
    refine Eq.trans ?_ (congrArg (both D W P A B (0 + (x 0).val)) (Nat.zero_add (x 1).val)).symm
    refine Eq.trans ?_ (both_lo (x 1).isLt).symm
    exact leaf_a0 (D := fun r k => D (0 + r) k) (W := W) (G := fun r c => P (0 + r) c) (A := fun r c => A (0 + r) c) (rows h0 0 _) h1 (rows h2 0 _) (rows h3 0 _) x

include h0 h1 h2 h3 h4 in
theorem blockA8 {c : Dev nD} {g : grid0.Coords} {a0 : Memref sig .tc .vmem S1024x2048 .bf16} {e0 : a0.IsWhole} {a1 : Memref sig .tc .vmem S1024x2048 .bf16} {e1 : a1.IsWhole} {a2 : Memref sig .tc .vmem S1024x2048 .bf16} {e2 : a2.IsWhole} {a3 : Memref sig .tc .vmem S1024x1024 .bf16} {e3 : a3.IsWhole} {a4 : Memref sig .tc .vmem S1024x1024 .bf16} {e4 : a4.IsWhole} {a5 : Memref sig .tc .vmem S1024x1024 .bf16} {e5 : a5.IsWhole} {a6 : Memref sig .tc .vmem S1024x1024 .bf16} {e6 : a6.IsWhole} {a7 : Memref sig .tc .vmem S1024x2048 .bf16} {e7 : a7.IsWhole} {a8 : Memref sig .tc .vmem S1x2048 .f32} {e8 : a8.IsWhole} {hc} (i : S1x2048.Idx) :
    out0_A_8 (F := Ideal) c g a0 e0 a1 e1 a2 e2 a3 e3 a4 e4 a5 e5 a6 e6 a7 e7 a8 e8 hc x0 x1 x2 x3 x4 i = (k0_pay1 : FVec Ideal S1x2048 .f32) i + stretch 1024 0 fun r => both D W P A B r (i 1).val := by
  frame_out [↓View.readCov_skip, ↓View.readCov_cons_toLoadRect, ↓View.readCov_fill]
  let G : Vec Ideal S1x2048 .f32 := fun j => (k0_pay1 : FVec Ideal S1x2048 .f32) j + stretch 1024 0 fun r => both D W P A B r (j 1).val
  have hG : ∀ j, G j = (k0_pay1 : FVec Ideal S1x2048 .f32) j + (fun C => stretch 1024 0 fun r => both D W P A B r C) (j 1).val := fun _ => rfl
  show View.canon (Val := Elt Ideal) (e := .f32) ([_, _] ++ [_, _, _, _, _, _, _]) i = G i
  refine View.canon_append_of_piecesOf (Val := Elt Ideal) (e := .f32) G _ _ ?_ i ?_
  on_goal 2 => exact View.cover_of_tiledBy (s := S1x2048) _ ![1, 1024] (by sl_kernel_rfl) i
  refine ⟨fun x => ?_, fun x => ?_, trivial⟩
  · refine Eq.trans ?_ (half (k0_pay1 : FVec Ideal S1x2048 .f32) (f := fun C => stretch 1024 0 fun r => both D W P A B r C) hG inb_S1x2048_S1x1024_0_1024 x).symm
    have e : (stretch 1024 0 fun r => both D W P A B r (1024 + (x 1).val)) = stretch 1024 0 fun r => dg D W (hi P) B r (x 1).val :=
      congrArg (stretch 1024 0) (funext fun r => both_hi r (x 1).val)
    refine Eq.trans ?_ (congrArg (View.ld (Val := Elt Ideal) (e' := .f32) (k0_pay1 : FVec Ideal S1x2048 .f32) (Rect.unit (s := S1x2048) ![0, 1024] ![1, 1024] inb_S1x2048_S1x1024_0_1024) x + ·) e).symm
    exact chain (f := fun r => dg D W (hi P) B r (x 1).val)
      (sum_b3 (D := fun r k => D (768 + r) k) (W := W) (G := fun r c => hi P (768 + r) c) (A := fun r c => B (768 + r) c) (rows h0 768 _) h1 (rows_hi h2 768 _) (rows h4 768 _) _ x)
      (sum_b2 (D := fun r k => D (512 + r) k) (W := W) (G := fun r c => hi P (512 + r) c) (A := fun r c => B (512 + r) c) (rows h0 512 _) h1 (rows_hi h2 512 _) (rows h4 512 _) _ x)
      (sum_b1 (D := fun r k => D (256 + r) k) (W := W) (G := fun r c => hi P (256 + r) c) (A := fun r c => B (256 + r) c) (rows h0 256 _) h1 (rows_hi h2 256 _) (rows h4 256 _) _ x)
      (sum_b0 (D := fun r k => D (0 + r) k) (W := W) (G := fun r c => hi P (0 + r) c) (A := fun r c => B (0 + r) c) (rows h0 0 _) h1 (rows_hi h2 0 _) (rows h4 0 _) _ x)
  · refine Eq.trans ?_ (half (k0_pay1 : FVec Ideal S1x2048 .f32) (f := fun C => stretch 1024 0 fun r => both D W P A B r C) hG inb_S1x2048_S1x1024_0_0 x).symm
    have e : (stretch 1024 0 fun r => both D W P A B r (0 + (x 1).val)) = stretch 1024 0 fun r => dg D W P A r (x 1).val :=
      congrArg (stretch 1024 0) (funext fun r => (congrArg (both D W P A B r) (Nat.zero_add (x 1).val)).trans (both_lo (x 1).isLt))
    refine Eq.trans ?_ (congrArg (View.ld (Val := Elt Ideal) (e' := .f32) (k0_pay1 : FVec Ideal S1x2048 .f32) (Rect.unit (s := S1x2048) ![0, 0] ![1, 1024] inb_S1x2048_S1x1024_0_0) x + ·) e).symm
    exact chain (f := fun r => dg D W P A r (x 1).val)
      (sum_a3 (D := fun r k => D (768 + r) k) (W := W) (G := fun r c => P (768 + r) c) (A := fun r c => A (768 + r) c) (rows h0 768 _) h1 (rows h2 768 _) (rows h3 768 _) _ x)
      (sum_a2 (D := fun r k => D (512 + r) k) (W := W) (G := fun r c => P (512 + r) c) (A := fun r c => A (512 + r) c) (rows h0 512 _) h1 (rows h2 512 _) (rows h3 512 _) _ x)
      (sum_a1 (D := fun r k => D (256 + r) k) (W := W) (G := fun r c => P (256 + r) c) (A := fun r c => A (256 + r) c) (rows h0 256 _) h1 (rows h2 256 _) (rows h3 256 _) _ x)
      (sum_a0 (D := fun r k => D (0 + r) k) (W := W) (G := fun r c => P (0 + r) c) (A := fun r c => A (0 + r) c) (rows h0 0 _) h1 (rows h2 0 _) (rows h3 0 _) _ x)

include h0 h1 h2 in
theorem blockB5 {c : Dev nD} {g : grid0.Coords} {a0 : Memref sig .tc .vmem S1024x2048 .bf16} {e0 : a0.IsWhole} {a1 : Memref sig .tc .vmem S1024x2048 .bf16} {e1 : a1.IsWhole} {a2 : Memref sig .tc .vmem S1024x2048 .bf16} {e2 : a2.IsWhole} {a3 : Memref sig .tc .vmem S1024x1024 .bf16} {e3 : a3.IsWhole} {a4 : Memref sig .tc .vmem S1024x1024 .bf16} {e4 : a4.IsWhole} {a5 : Memref sig .tc .vmem S1024x1024 .bf16} {e5 : a5.IsWhole} {a6 : Memref sig .tc .vmem S1024x1024 .bf16} {e6 : a6.IsWhole} {a7 : Memref sig .tc .vmem S1024x2048 .bf16} {e7 : a7.IsWhole} {a8 : Memref sig .tc .vmem S1x2048 .f32} {e8 : a8.IsWhole} {hc} (prev : Vec Ideal S1x2048 .f32) (i : S1024x1024.Idx) :
    out0_B_5 (F := Ideal) c g a0 e0 a1 e1 a2 e2 a3 e3 a4 e4 a5 e5 a6 e6 a7 e7 a8 e8 hc x0 x1 x2 x3 x4 prev i = db D W P (i 0).val (i 1).val := by
  frame_out [↓View.readCov_skip, ↓View.readCov_cons_toLoadRect, ↓View.readCov_fill]
  let G : Vec Ideal S1024x1024 .bf16 := fun j => db D W P (j 0).val (j 1).val
  have hG : ∀ j, G j = db D W P (j 0).val (j 1).val := fun _ => rfl
  show View.canon (Val := Elt Ideal) (e := .bf16) ([_, _, _, _] ++ []) i = G i
  refine View.canon_append_of_piecesOf (Val := Elt Ideal) (e := .bf16) G _ _ ?_ i ?_
  on_goal 2 => exact View.cover_of_tiledBy (s := S1024x1024) _ ![256, 1024] (by sl_kernel_rfl) i
  refine ⟨fun x => ?_, fun x => ?_, fun x => ?_, fun x => ?_, trivial⟩
  · refine Eq.trans ?_ (Gate.place (g := db D W P) hG inb_S1024x1024_S256x1024_768_0 x).symm
    refine Eq.trans ?_ (congrArg (db D W P (768 + (x 0).val)) (Nat.zero_add (x 1).val)).symm
    exact branch_a3 (D := fun r k => D (768 + r) k) (W := W) (G := fun r c => P (768 + r) c) (rows h0 768 _) h1 (rows h2 768 _) x
  · refine Eq.trans ?_ (Gate.place (g := db D W P) hG inb_S1024x1024_S256x1024_512_0 x).symm
    refine Eq.trans ?_ (congrArg (db D W P (512 + (x 0).val)) (Nat.zero_add (x 1).val)).symm
    exact branch_a2 (D := fun r k => D (512 + r) k) (W := W) (G := fun r c => P (512 + r) c) (rows h0 512 _) h1 (rows h2 512 _) x
  · refine Eq.trans ?_ (Gate.place (g := db D W P) hG inb_S1024x1024_S256x1024_256_0 x).symm
    refine Eq.trans ?_ (congrArg (db D W P (256 + (x 0).val)) (Nat.zero_add (x 1).val)).symm
    exact branch_a1 (D := fun r k => D (256 + r) k) (W := W) (G := fun r c => P (256 + r) c) (rows h0 256 _) h1 (rows h2 256 _) x
  · refine Eq.trans ?_ (Gate.place (g := db D W P) hG inb_S1024x1024_S256x1024_0_0 x).symm
    refine Eq.trans ?_ (congrArg (db D W P (0 + (x 0).val)) (Nat.zero_add (x 1).val)).symm
    exact branch_a0 (D := fun r k => D (0 + r) k) (W := W) (G := fun r c => P (0 + r) c) (rows h0 0 _) h1 (rows h2 0 _) x

include h0 h1 h2 in
theorem blockB6 {c : Dev nD} {g : grid0.Coords} {a0 : Memref sig .tc .vmem S1024x2048 .bf16} {e0 : a0.IsWhole} {a1 : Memref sig .tc .vmem S1024x2048 .bf16} {e1 : a1.IsWhole} {a2 : Memref sig .tc .vmem S1024x2048 .bf16} {e2 : a2.IsWhole} {a3 : Memref sig .tc .vmem S1024x1024 .bf16} {e3 : a3.IsWhole} {a4 : Memref sig .tc .vmem S1024x1024 .bf16} {e4 : a4.IsWhole} {a5 : Memref sig .tc .vmem S1024x1024 .bf16} {e5 : a5.IsWhole} {a6 : Memref sig .tc .vmem S1024x1024 .bf16} {e6 : a6.IsWhole} {a7 : Memref sig .tc .vmem S1024x2048 .bf16} {e7 : a7.IsWhole} {a8 : Memref sig .tc .vmem S1x2048 .f32} {e8 : a8.IsWhole} {hc} (prev : Vec Ideal S1x2048 .f32) (i : S1024x1024.Idx) :
    out0_B_6 (F := Ideal) c g a0 e0 a1 e1 a2 e2 a3 e3 a4 e4 a5 e5 a6 e6 a7 e7 a8 e8 hc x0 x1 x2 x3 x4 prev i = db D W (hi P) (i 0).val (i 1).val := by
  frame_out [↓View.readCov_skip, ↓View.readCov_cons_toLoadRect, ↓View.readCov_fill]
  let G : Vec Ideal S1024x1024 .bf16 := fun j => db D W (hi P) (j 0).val (j 1).val
  have hG : ∀ j, G j = db D W (hi P) (j 0).val (j 1).val := fun _ => rfl
  show View.canon (Val := Elt Ideal) (e := .bf16) ([_, _, _, _] ++ []) i = G i
  refine View.canon_append_of_piecesOf (Val := Elt Ideal) (e := .bf16) G _ _ ?_ i ?_
  on_goal 2 => exact View.cover_of_tiledBy (s := S1024x1024) _ ![256, 1024] (by sl_kernel_rfl) i
  refine ⟨fun x => ?_, fun x => ?_, fun x => ?_, fun x => ?_, trivial⟩
  · refine Eq.trans ?_ (Gate.place (g := db D W (hi P)) hG inb_S1024x1024_S256x1024_768_0 x).symm
    refine Eq.trans ?_ (congrArg (db D W (hi P) (768 + (x 0).val)) (Nat.zero_add (x 1).val)).symm
    exact branch_b3 (D := fun r k => D (768 + r) k) (W := W) (G := fun r c => hi P (768 + r) c) (rows h0 768 _) h1 (rows_hi h2 768 _) x
  · refine Eq.trans ?_ (Gate.place (g := db D W (hi P)) hG inb_S1024x1024_S256x1024_512_0 x).symm
    refine Eq.trans ?_ (congrArg (db D W (hi P) (512 + (x 0).val)) (Nat.zero_add (x 1).val)).symm
    exact branch_b2 (D := fun r k => D (512 + r) k) (W := W) (G := fun r c => hi P (512 + r) c) (rows h0 512 _) h1 (rows_hi h2 512 _) x
  · refine Eq.trans ?_ (Gate.place (g := db D W (hi P)) hG inb_S1024x1024_S256x1024_256_0 x).symm
    refine Eq.trans ?_ (congrArg (db D W (hi P) (256 + (x 0).val)) (Nat.zero_add (x 1).val)).symm
    exact branch_b1 (D := fun r k => D (256 + r) k) (W := W) (G := fun r c => hi P (256 + r) c) (rows h0 256 _) h1 (rows_hi h2 256 _) x
  · refine Eq.trans ?_ (Gate.place (g := db D W (hi P)) hG inb_S1024x1024_S256x1024_0_0 x).symm
    refine Eq.trans ?_ (congrArg (db D W (hi P) (0 + (x 0).val)) (Nat.zero_add (x 1).val)).symm
    exact branch_b0 (D := fun r k => D (0 + r) k) (W := W) (G := fun r c => hi P (0 + r) c) (rows h0 0 _) h1 (rows_hi h2 0 _) x

include h0 h1 h2 h3 h4 in
theorem blockB7 {c : Dev nD} {g : grid0.Coords} {a0 : Memref sig .tc .vmem S1024x2048 .bf16} {e0 : a0.IsWhole} {a1 : Memref sig .tc .vmem S1024x2048 .bf16} {e1 : a1.IsWhole} {a2 : Memref sig .tc .vmem S1024x2048 .bf16} {e2 : a2.IsWhole} {a3 : Memref sig .tc .vmem S1024x1024 .bf16} {e3 : a3.IsWhole} {a4 : Memref sig .tc .vmem S1024x1024 .bf16} {e4 : a4.IsWhole} {a5 : Memref sig .tc .vmem S1024x1024 .bf16} {e5 : a5.IsWhole} {a6 : Memref sig .tc .vmem S1024x1024 .bf16} {e6 : a6.IsWhole} {a7 : Memref sig .tc .vmem S1024x2048 .bf16} {e7 : a7.IsWhole} {a8 : Memref sig .tc .vmem S1x2048 .f32} {e8 : a8.IsWhole} {hc} (prev : Vec Ideal S1x2048 .f32) (i : S1024x2048.Idx) :
    out0_B_7 (F := Ideal) c g a0 e0 a1 e1 a2 e2 a3 e3 a4 e4 a5 e5 a6 e6 a7 e7 a8 e8 hc x0 x1 x2 x3 x4 prev i = both D W P A B (i 0).val (i 1).val := by
  frame_out [↓View.readCov_skip, ↓View.readCov_cons_toLoadRect, ↓View.readCov_fill]
  let G : Vec Ideal S1024x2048 .bf16 := fun j => both D W P A B (j 0).val (j 1).val
  have hG : ∀ j, G j = both D W P A B (j 0).val (j 1).val := fun _ => rfl
  show View.canon (Val := Elt Ideal) (e := .bf16) ([_, _, _, _, _, _, _, _] ++ []) i = G i
  refine View.canon_append_of_piecesOf (Val := Elt Ideal) (e := .bf16) G _ _ ?_ i ?_
  on_goal 2 => exact View.cover_of_tiledBy (s := S1024x2048) _ ![256, 1024] (by sl_kernel_rfl) i
  refine ⟨fun x => ?_, fun x => ?_, fun x => ?_, fun x => ?_, fun x => ?_, fun x => ?_, fun x => ?_, fun x => ?_, trivial⟩
  · refine Eq.trans ?_ (Gate.place (g := both D W P A B) hG inb_S1024x2048_S256x1024_768_1024 x).symm
    refine Eq.trans ?_ (both_hi _ _).symm
    exact leaf_b3 (D := fun r k => D (768 + r) k) (W := W) (G := fun r c => hi P (768 + r) c) (A := fun r c => B (768 + r) c) (rows h0 768 _) h1 (rows_hi h2 768 _) (rows h4 768 _) x
  · refine Eq.trans ?_ (Gate.place (g := both D W P A B) hG inb_S1024x2048_S256x1024_768_0 x).symm
    refine Eq.trans ?_ (congrArg (both D W P A B (768 + (x 0).val)) (Nat.zero_add (x 1).val)).symm
    refine Eq.trans ?_ (both_lo (x 1).isLt).symm
    exact leaf_a3 (D := fun r k => D (768 + r) k) (W := W) (G := fun r c => P (768 + r) c) (A := fun r c => A (768 + r) c) (rows h0 768 _) h1 (rows h2 768 _) (rows h3 768 _) x
  · refine Eq.trans ?_ (Gate.place (g := both D W P A B) hG inb_S1024x2048_S256x1024_512_1024 x).symm
    refine Eq.trans ?_ (both_hi _ _).symm
    exact leaf_b2 (D := fun r k => D (512 + r) k) (W := W) (G := fun r c => hi P (512 + r) c) (A := fun r c => B (512 + r) c) (rows h0 512 _) h1 (rows_hi h2 512 _) (rows h4 512 _) x
  · refine Eq.trans ?_ (Gate.place (g := both D W P A B) hG inb_S1024x2048_S256x1024_512_0 x).symm
    refine Eq.trans ?_ (congrArg (both D W P A B (512 + (x 0).val)) (Nat.zero_add (x 1).val)).symm
    refine Eq.trans ?_ (both_lo (x 1).isLt).symm
    exact leaf_a2 (D := fun r k => D (512 + r) k) (W := W) (G := fun r c => P (512 + r) c) (A := fun r c => A (512 + r) c) (rows h0 512 _) h1 (rows h2 512 _) (rows h3 512 _) x
  · refine Eq.trans ?_ (Gate.place (g := both D W P A B) hG inb_S1024x2048_S256x1024_256_1024 x).symm
    refine Eq.trans ?_ (both_hi _ _).symm
    exact leaf_b1 (D := fun r k => D (256 + r) k) (W := W) (G := fun r c => hi P (256 + r) c) (A := fun r c => B (256 + r) c) (rows h0 256 _) h1 (rows_hi h2 256 _) (rows h4 256 _) x
  · refine Eq.trans ?_ (Gate.place (g := both D W P A B) hG inb_S1024x2048_S256x1024_256_0 x).symm
    refine Eq.trans ?_ (congrArg (both D W P A B (256 + (x 0).val)) (Nat.zero_add (x 1).val)).symm
    refine Eq.trans ?_ (both_lo (x 1).isLt).symm
    exact leaf_a1 (D := fun r k => D (256 + r) k) (W := W) (G := fun r c => P (256 + r) c) (A := fun r c => A (256 + r) c) (rows h0 256 _) h1 (rows h2 256 _) (rows h3 256 _) x
  · refine Eq.trans ?_ (Gate.place (g := both D W P A B) hG inb_S1024x2048_S256x1024_0_1024 x).symm
    refine Eq.trans ?_ (both_hi _ _).symm
    exact leaf_b0 (D := fun r k => D (0 + r) k) (W := W) (G := fun r c => hi P (0 + r) c) (A := fun r c => B (0 + r) c) (rows h0 0 _) h1 (rows_hi h2 0 _) (rows h4 0 _) x
  · refine Eq.trans ?_ (Gate.place (g := both D W P A B) hG inb_S1024x2048_S256x1024_0_0 x).symm
    refine Eq.trans ?_ (congrArg (both D W P A B (0 + (x 0).val)) (Nat.zero_add (x 1).val)).symm
    refine Eq.trans ?_ (both_lo (x 1).isLt).symm
    exact leaf_a0 (D := fun r k => D (0 + r) k) (W := W) (G := fun r c => P (0 + r) c) (A := fun r c => A (0 + r) c) (rows h0 0 _) h1 (rows h2 0 _) (rows h3 0 _) x

include h0 h1 h2 h3 h4 in
theorem blockB8 {c : Dev nD} {g : grid0.Coords} {a0 : Memref sig .tc .vmem S1024x2048 .bf16} {e0 : a0.IsWhole} {a1 : Memref sig .tc .vmem S1024x2048 .bf16} {e1 : a1.IsWhole} {a2 : Memref sig .tc .vmem S1024x2048 .bf16} {e2 : a2.IsWhole} {a3 : Memref sig .tc .vmem S1024x1024 .bf16} {e3 : a3.IsWhole} {a4 : Memref sig .tc .vmem S1024x1024 .bf16} {e4 : a4.IsWhole} {a5 : Memref sig .tc .vmem S1024x1024 .bf16} {e5 : a5.IsWhole} {a6 : Memref sig .tc .vmem S1024x1024 .bf16} {e6 : a6.IsWhole} {a7 : Memref sig .tc .vmem S1024x2048 .bf16} {e7 : a7.IsWhole} {a8 : Memref sig .tc .vmem S1x2048 .f32} {e8 : a8.IsWhole} {hc} (prev : Vec Ideal S1x2048 .f32) (i : S1x2048.Idx) :
    out0_B_8 (F := Ideal) c g a0 e0 a1 e1 a2 e2 a3 e3 a4 e4 a5 e5 a6 e6 a7 e7 a8 e8 hc x0 x1 x2 x3 x4 prev i = prev i + stretch 1024 0 fun r => both D W P A B r (i 1).val := by
  frame_out [↓View.readCov_skip, ↓View.readCov_cons_toLoadRect, ↓View.readCov_fill]
  let G : Vec Ideal S1x2048 .f32 := fun j => prev j + stretch 1024 0 fun r => both D W P A B r (j 1).val
  have hG : ∀ j, G j = prev j + (fun C => stretch 1024 0 fun r => both D W P A B r C) (j 1).val := fun _ => rfl
  show View.canon (Val := Elt Ideal) (e := .f32) ([_, _] ++ [_, _, _, _, _, _]) i = G i
  refine View.canon_append_of_piecesOf (Val := Elt Ideal) (e := .f32) G _ _ ?_ i ?_
  on_goal 2 => exact View.cover_of_tiledBy (s := S1x2048) _ ![1, 1024] (by sl_kernel_rfl) i
  refine ⟨fun x => ?_, fun x => ?_, trivial⟩
  · refine Eq.trans ?_ (half prev (f := fun C => stretch 1024 0 fun r => both D W P A B r C) hG inb_S1x2048_S1x1024_0_1024 x).symm
    have e : (stretch 1024 0 fun r => both D W P A B r (1024 + (x 1).val)) = stretch 1024 0 fun r => dg D W (hi P) B r (x 1).val :=
      congrArg (stretch 1024 0) (funext fun r => both_hi r (x 1).val)
    refine Eq.trans ?_ (congrArg (View.ld (Val := Elt Ideal) (e' := .f32) prev (Rect.unit (s := S1x2048) ![0, 1024] ![1, 1024] inb_S1x2048_S1x1024_0_1024) x + ·) e).symm
    exact chain (f := fun r => dg D W (hi P) B r (x 1).val)
      (sum_b3 (D := fun r k => D (768 + r) k) (W := W) (G := fun r c => hi P (768 + r) c) (A := fun r c => B (768 + r) c) (rows h0 768 _) h1 (rows_hi h2 768 _) (rows h4 768 _) _ x)
      (sum_b2 (D := fun r k => D (512 + r) k) (W := W) (G := fun r c => hi P (512 + r) c) (A := fun r c => B (512 + r) c) (rows h0 512 _) h1 (rows_hi h2 512 _) (rows h4 512 _) _ x)
      (sum_b1 (D := fun r k => D (256 + r) k) (W := W) (G := fun r c => hi P (256 + r) c) (A := fun r c => B (256 + r) c) (rows h0 256 _) h1 (rows_hi h2 256 _) (rows h4 256 _) _ x)
      (sum_b0 (D := fun r k => D (0 + r) k) (W := W) (G := fun r c => hi P (0 + r) c) (A := fun r c => B (0 + r) c) (rows h0 0 _) h1 (rows_hi h2 0 _) (rows h4 0 _) _ x)
  · refine Eq.trans ?_ (half prev (f := fun C => stretch 1024 0 fun r => both D W P A B r C) hG inb_S1x2048_S1x1024_0_0 x).symm
    have e : (stretch 1024 0 fun r => both D W P A B r (0 + (x 1).val)) = stretch 1024 0 fun r => dg D W P A r (x 1).val :=
      congrArg (stretch 1024 0) (funext fun r => (congrArg (both D W P A B r) (Nat.zero_add (x 1).val)).trans (both_lo (x 1).isLt))
    refine Eq.trans ?_ (congrArg (View.ld (Val := Elt Ideal) (e' := .f32) prev (Rect.unit (s := S1x2048) ![0, 0] ![1, 1024] inb_S1x2048_S1x1024_0_0) x + ·) e).symm
    exact chain (f := fun r => dg D W P A r (x 1).val)
      (sum_a3 (D := fun r k => D (768 + r) k) (W := W) (G := fun r c => P (768 + r) c) (A := fun r c => A (768 + r) c) (rows h0 768 _) h1 (rows h2 768 _) (rows h3 768 _) _ x)
      (sum_a2 (D := fun r k => D (512 + r) k) (W := W) (G := fun r c => P (512 + r) c) (A := fun r c => A (512 + r) c) (rows h0 512 _) h1 (rows h2 512 _) (rows h3 512 _) _ x)
      (sum_a1 (D := fun r k => D (256 + r) k) (W := W) (G := fun r c => P (256 + r) c) (A := fun r c => A (256 + r) c) (rows h0 256 _) h1 (rows h2 256 _) (rows h3 256 _) _ x)
      (sum_a0 (D := fun r k => D (0 + r) k) (W := W) (G := fun r c => P (0 + r) c) (A := fun r c => A (0 + r) c) (rows h0 0 _) h1 (rows h2 0 _) (rows h3 0 _) _ x)

end block

end DMerged
-- ==== Proof.DMerged.lean ====
module

public import proofs.«01_k».proof.Defs
public import proofs.«01_k».proof.Proof.Gen.DMerged.Frame
public import proofs.«01_k».proof.Proof.Gen.DMergedIdeal.Frame
public import proofs.«01_k».proof.Proof.Gen.DMergedIdeal.Value
public import proofs.«01_k».proof.Proof.Gen.DMergedRefIdeal
public import proofs.«01_k».proof.Proof.Gen.DMergedRefIdeal.Run
public import proofs.«01_k».proof.Proof.Gen.DMergedRefIdeal.Read
public import proofs.«01_k».proof.Proof.Product
public import proofs.«01_k».proof.Proof.Gate
public import proofs.«01_k».proof.Proof.DMergedBlock
public import Idealize.ShloMosaic.Lib.Pipeline.ValueKit
public import Idealize.ShloMosaic.Lib.Pipeline.ReadBack

/-! The gradient through the output projection and the gated sum: the four arrays the kernel leaves, and that the reference leaves the same. -/

@[expose] public section
noncomputable section
namespace DMerged
open Idealize.ShloMosaic Idealize.ShloMosaic.TcCoe Idealize.SL.Sem Product

section kernel
open Cert.DMergedIdeal Cert.DMergedIdeal.Gen
set_option maxHeartbeats 800000

variable {m : (ℓ : Loc nD τ sig) → Buf (Elt Ideal) ℓ} {c : Dev nD} {D W P A B : ℕ → ℕ → EReal}

theorem index0_0 : ∀ t : Fin cfg0.N, win0_0.index t 0 = t.val % 8 := by decide +kernel
theorem index0_1 : ∀ t : Fin cfg0.N, win0_0.index t 1 = 0 := by decide +kernel
theorem index1_0 : ∀ t : Fin cfg0.N, win0_1.index t 0 = t.val / 8 := by decide +kernel
theorem index1_1 : ∀ t : Fin cfg0.N, win0_1.index t 1 = 0 := by decide +kernel
theorem index2_0 : ∀ t : Fin cfg0.N, win0_2.index t 0 = t.val % 8 := by decide +kernel
theorem index2_1 : ∀ t : Fin cfg0.N, win0_2.index t 1 = t.val / 8 := by decide +kernel
theorem index3_0 : ∀ t : Fin cfg0.N, win0_3.index t 0 = t.val % 8 := by decide +kernel
theorem index3_1 : ∀ t : Fin cfg0.N, win0_3.index t 1 = t.val / 8 := by decide +kernel
theorem index4_0 : ∀ t : Fin cfg0.N, win0_4.index t 0 = t.val % 8 := by decide +kernel
theorem index4_1 : ∀ t : Fin cfg0.N, win0_4.index t 1 = t.val / 8 := by decide +kernel
theorem index5_0 : ∀ t : Fin cfg0.N, win0_5.index t 0 = t.val % 8 := by decide +kernel
theorem index5_1 : ∀ t : Fin cfg0.N, win0_5.index t 1 = t.val / 8 := by decide +kernel
theorem index6_0 : ∀ t : Fin cfg0.N, win0_6.index t 0 = t.val % 8 := by decide +kernel
theorem index6_1 : ∀ t : Fin cfg0.N, win0_6.index t 1 = t.val / 8 := by decide +kernel
theorem index7_0 : ∀ t : Fin cfg0.N, win0_7.index t 0 = t.val % 8 := by decide +kernel
theorem index7_1 : ∀ t : Fin cfg0.N, win0_7.index t 1 = t.val / 8 := by decide +kernel
theorem index8_0 : ∀ t : Fin cfg0.N, win0_8.index t 0 = 0 := by decide +kernel
theorem index8_1 : ∀ t : Fin cfg0.N, win0_8.index t 1 = t.val / 8 := by decide +kernel

variable (hA : ∀ i : S8192x2048.Idx, V m c main_arg0 i = A (i 0).val (i 1).val) (hB : ∀ i : S8192x2048.Idx, V m c main_arg1 i = B (i 0).val (i 1).val)
variable (hP : ∀ i : S8192x4096.Idx, V m c main_arg2 i = P (i 0).val (i 1).val) (hW : ∀ i : S2048x2048.Idx, V m c main_arg3 i = W (i 0).val (i 1).val)
variable (hD : ∀ i : S8192x2048.Idx, V m c main_arg4 i = D (i 0).val (i 1).val)

include hD in
theorem inD (t : Fin cfg0.N) (i : S1024x2048.Idx) : (iblk m c 0 t : Vec Ideal S1024x2048 .bf16) i = D (t.val % 8 * 1024 + (i 0).val) (i 1).val := by
  refine (hD ((win0_0.rect t).emb i)).trans ?_
  rw [win0_0.rect_emb_val t i 0, index0_0, win0_0.rect_emb_val_of_index_zero t 1 (index0_1 t) i]
  rfl
include hW in
theorem inW (t : Fin cfg0.N) (i : S1024x2048.Idx) : (iblk m c 1 t : Vec Ideal S1024x2048 .bf16) i = W (t.val / 8 * 1024 + (i 0).val) (i 1).val := by
  refine (hW ((win0_1.rect t).emb i)).trans ?_
  rw [win0_1.rect_emb_val t i 0, index1_0, win0_1.rect_emb_val_of_index_zero t 1 (index1_1 t) i]
  rfl
include hP in
theorem inP (t : Fin cfg0.N) (i : S1024x2048.Idx) : (iblk m c 2 t : Vec Ideal S1024x2048 .bf16) i = P (t.val % 8 * 1024 + (i 0).val) (t.val / 8 * 2048 + (i 1).val) := by
  refine (hP ((win0_2.rect t).emb i)).trans ?_
  rw [win0_2.rect_emb_val t i 0, index2_0, win0_2.rect_emb_val t i 1, index2_1]
  rfl
include hA in
theorem inA (t : Fin cfg0.N) (i : S1024x1024.Idx) : (iblk m c 3 t : Vec Ideal S1024x1024 .bf16) i = A (t.val % 8 * 1024 + (i 0).val) (t.val / 8 * 1024 + (i 1).val) := by
  refine (hA ((win0_3.rect t).emb i)).trans ?_
  rw [win0_3.rect_emb_val t i 0, index3_0, win0_3.rect_emb_val t i 1, index3_1]
  rfl
include hB in
theorem inB (t : Fin cfg0.N) (i : S1024x1024.Idx) : (iblk m c 4 t : Vec Ideal S1024x1024 .bf16) i = B (t.val % 8 * 1024 + (i 0).val) (t.val / 8 * 1024 + (i 1).val) := by
  refine (hB ((win0_4.rect t).emb i)).trans ?_
  rw [win0_4.rect_emb_val t i 0, index4_0, win0_4.rect_emb_val t i 1, index4_1]
  rfl

/-- The gradient of the first branch at row `r` and column `c`; the gates lie in pairs of stretches of 1024 columns. -/
def gradA (D W P : ℕ → ℕ → EReal) (r c : ℕ) : EReal := dm D W r c * Ideal.logistic (P r (Gate.fst 1024 c))

/-- The same of the second branch. -/
def gradB (D W P : ℕ → ℕ → EReal) (r c : ℕ) : EReal := dm D W r c * Ideal.logistic (P r (Gate.snd 1024 c))

/-- The gradient of the gates at row `r`, in the pair of stretches `q`. -/
def pair (D W P A B : ℕ → ℕ → EReal) (q r c : ℕ) : EReal :=
  both D (fun c k => W (q * 1024 + c) k) (fun r c => P r (q * 2048 + c)) (fun r c => A r (q * 1024 + c)) (fun r c => B r (q * 1024 + c)) r c

/-- The gradient of the gates. -/
def gradP (D W P A B : ℕ → ℕ → EReal) (r c : ℕ) : EReal := pair D W P A B (c / 2048) r (c % 2048)

theorem gradP_block {q c : ℕ} (h : c < 2048) (r : ℕ) : gradP D W P A B r (q * 2048 + c) = pair D W P A B q r c := by
  unfold gradP
  rw [show (q * 2048 + c) / 2048 = q by omega, show (q * 2048 + c) % 2048 = c by omega]

/-- The column sums of the gradient of the gates. -/
def sums (D W P A B : ℕ → ℕ → EReal) (c : ℕ) : EReal := stretch 8192 0 fun r => gradP D W P A B r c

include hP hW hD in
theorem stored_a (t : Fin cfg0.N) (i : S1024x1024.Idx) : (outsAt0 m c t.val t.isLt).1 i = gradA D W P (t.val % 8 * 1024 + (i 0).val) (t.val / 8 * 1024 + (i 1).val) := by
  unfold gradA
  rw [Gate.fst_block (w := 1024) (i 1).isLt]
  by_cases h0 : t.val % 8 = 0
  · rw [outsAt0_A m c t h0]
    dsimp only
    exact blockA5 (D := fun r k => D (t.val % 8 * 1024 + r) k) (W := fun c k => W (t.val / 8 * 1024 + c) k) (P := fun r c => P (t.val % 8 * 1024 + r) (t.val / 8 * 2048 + c))
      (inD hD t) (inW hW t) (inP hP t) i
  · rw [outsAt0_B m c t h0]
    dsimp only
    exact blockB5 (D := fun r k => D (t.val % 8 * 1024 + r) k) (W := fun c k => W (t.val / 8 * 1024 + c) k) (P := fun r c => P (t.val % 8 * 1024 + r) (t.val / 8 * 2048 + c))
      (inD hD t) (inW hW t) (inP hP t) _ i

include hP hW hD in
theorem stored_b (t : Fin cfg0.N) (i : S1024x1024.Idx) : (outsAt0 m c t.val t.isLt).2.1 i = gradB D W P (t.val % 8 * 1024 + (i 0).val) (t.val / 8 * 1024 + (i 1).val) := by
  unfold gradB
  rw [Gate.snd_block (w := 1024) (i 1).isLt]
  by_cases h0 : t.val % 8 = 0
  · rw [outsAt0_A m c t h0]
    dsimp only
    exact blockA6 (D := fun r k => D (t.val % 8 * 1024 + r) k) (W := fun c k => W (t.val / 8 * 1024 + c) k) (P := fun r c => P (t.val % 8 * 1024 + r) (t.val / 8 * 2048 + c))
      (inD hD t) (inW hW t) (inP hP t) i
  · rw [outsAt0_B m c t h0]
    dsimp only
    exact blockB6 (D := fun r k => D (t.val % 8 * 1024 + r) k) (W := fun c k => W (t.val / 8 * 1024 + c) k) (P := fun r c => P (t.val % 8 * 1024 + r) (t.val / 8 * 2048 + c))
      (inD hD t) (inW hW t) (inP hP t) _ i

include hA hB hP hW hD in
theorem stored_p (t : Fin cfg0.N) (i : S1024x2048.Idx) : (outsAt0 m c t.val t.isLt).2.2.1 i = gradP D W P A B (t.val % 8 * 1024 + (i 0).val) (t.val / 8 * 2048 + (i 1).val) := by
  rw [gradP_block (i 1).isLt]
  by_cases h0 : t.val % 8 = 0
  · rw [outsAt0_A m c t h0]
    dsimp only
    exact blockA7 (D := fun r k => D (t.val % 8 * 1024 + r) k) (W := fun c k => W (t.val / 8 * 1024 + c) k) (P := fun r c => P (t.val % 8 * 1024 + r) (t.val / 8 * 2048 + c)) (A := fun r c => A (t.val % 8 * 1024 + r) (t.val / 8 * 1024 + c)) (B := fun r c => B (t.val % 8 * 1024 + r) (t.val / 8 * 1024 + c))
      (inD hD t) (inW hW t) (inP hP t) (inA hA t) (inB hB t) i
  · rw [outsAt0_B m c t h0]
    dsimp only
    exact blockB7 (D := fun r k => D (t.val % 8 * 1024 + r) k) (W := fun c k => W (t.val / 8 * 1024 + c) k) (P := fun r c => P (t.val % 8 * 1024 + r) (t.val / 8 * 2048 + c)) (A := fun r c => A (t.val % 8 * 1024 + r) (t.val / 8 * 1024 + c)) (B := fun r c => B (t.val % 8 * 1024 + r) (t.val / 8 * 1024 + c))
      (inD hD t) (inW hW t) (inP hP t) (inA hA t) (inB hB t) _ i

/-- A sum over eight stretches of 1024. -/
theorem stretch_eight (f : ℕ → EReal) : ∑ s : Fin 8, stretch 1024 s.val f = stretch 8192 0 f := by
  have e : stretch 8192 0 f = stretch 4096 0 f + stretch 4096 1 f := (stretch_two 4096 f).symm
  have e0 : stretch 4096 0 f = stretch 1024 0 f + stretch 1024 1 f + stretch 1024 2 f + stretch 1024 3 f := (stretch_four 1024 f).symm
  have e1 : stretch 4096 1 f = stretch 1024 4 f + stretch 1024 5 f + stretch 1024 6 f + stretch 1024 7 f := by
    have s4 := stretch_four 1024 fun k => f (4096 + k)
    have h : ∀ q : ℕ, (stretch 1024 q fun k => f (4096 + k)) = stretch 1024 (4 + q) f := fun q => by
      unfold stretch
      refine Finset.sum_congr rfl fun k _ => congrArg f ?_
      omega
    rw [h, h, h, h] at s4
    refine Eq.trans ?_ s4.symm
    exact (stretch_shift 4096 1 f).symm
  rw [e, e0, e1]
  simp only [Fin.sum_univ_eight, add_assoc]
  rfl

theorem zero8 (i : S1x2048.Idx) : (k0_pay1 : FVec Ideal S1x2048 .f32) i = 0 := by
  pointwise [k0_pay1]

include hA hB hP hW hD in
/-- What the last point of a run over the rows leaves of the column sums. -/
theorem stored_s (t : Fin cfg0.N) (ht : t.val % 8 = 7) (i : S1x2048.Idx) :
    (outsAt0 m c t.val t.isLt).2.2.2 i = sums D W P A B (t.val / 8 * 2048 + (i 1).val) := by
  have := Idealize.ShloMosaic.Pipeline.eq_sum_fin_of_reset_step_apply_of_flush (fun n h => (outsAt0 m c n h).2.2.2) 8 (k0_pay1 : FVec Ideal S1x2048 .f32)
    (fun p i => stretch 1024 0 fun r => pair D W P A B (p.val / 8) (p.val % 8 * 1024 + r) (i 1).val)
    (fun t h0 i => by
      show (outsAt0 m c t.val t.isLt).2.2.2 i = _
      rw [outsAt0_A m c t h0]
      dsimp only
      exact blockA8 (D := fun r k => D (t.val % 8 * 1024 + r) k) (W := fun c k => W (t.val / 8 * 1024 + c) k) (P := fun r c => P (t.val % 8 * 1024 + r) (t.val / 8 * 2048 + c)) (A := fun r c => A (t.val % 8 * 1024 + r) (t.val / 8 * 1024 + c)) (B := fun r c => B (t.val % 8 * 1024 + r) (t.val / 8 * 1024 + c))
        (inD hD t) (inW hW t) (inP hP t) (inA hA t) (inB hB t) i)
    (fun t h0 i => by
      show (outsAt0 m c t.val t.isLt).2.2.2 i = _
      rw [outsAt0_B m c t h0]
      dsimp only
      exact blockB8 (D := fun r k => D (t.val % 8 * 1024 + r) k) (W := fun c k => W (t.val / 8 * 1024 + c) k) (P := fun r c => P (t.val % 8 * 1024 + r) (t.val / 8 * 2048 + c)) (A := fun r c => A (t.val % 8 * 1024 + r) (t.val / 8 * 1024 + c)) (B := fun r c => B (t.val % 8 * 1024 + r) (t.val / 8 * 1024 + c))
        (inD hD t) (inW hW t) (inP hP t) (inA hA t) (inB hB t) _ i) t ht i
  refine this.trans ?_
  rw [zero8, zero_add]
  have hN : cfg0.N = 16 := N_0
  have b : ∀ s : Fin 8, (stretch 1024 0 fun r => pair D W P A B ((8 * (t.val / 8) + s.val) / 8) ((8 * (t.val / 8) + s.val) % 8 * 1024 + r) (i 1).val)
      = stretch 1024 s.val fun r => gradP D W P A B r (t.val / 8 * 2048 + (i 1).val) := fun s => by
    have hs := s.isLt
    rw [show (8 * (t.val / 8) + s.val) / 8 = t.val / 8 by omega, show (8 * (t.val / 8) + s.val) % 8 = s.val by omega]
    refine Eq.trans (congrArg (stretch 1024 0) (funext fun r => ?_)) (stretch_shift 1024 s.val fun r => gradP D W P A B r (t.val / 8 * 2048 + (i 1).val))
    exact (gradP_block (i 1).isLt _).symm
  refine (Finset.sum_congr rfl fun s _ => b s).trans ?_
  exact stretch_eight fun r => gradP D W P A B r (t.val / 8 * 2048 + (i 1).val)

include hP hW hD in
theorem array_a (i : S8192x2048.Idx) : (dats m 0 c).arrAt 5 cfg0.N i = gradA D W P (i 0).val (i 1).val := by
  refine (dats m 0 c).arrAt_forall_of_cover 5 (fun (i : S8192x2048.Idx) (v : EReal) => v = gradA D W P (i 0).val (i 1).val) (fun t ht y => ?_) (fun i => ?_) i
  · have e : (dats m 0 c).flushed 5 t y = (outsAt0 m c t.val t.isLt).1 y := congrFun (Value.flushed5 m c t) y
    show (dats m 0 c).flushed 5 t y = gradA D W P ((win0_5.rect t).emb y 0).val ((win0_5.rect t).emb y 1).val
    rw [e, win0_5.rect_emb_val t y 0, index5_0, win0_5.rect_emb_val t y 1, index5_1]
    exact stored_a hP hW hD t y
  · have hN : cfg0.N = 16 := N_0
    have b0 : (i 0).val < 8192 := (i 0).isLt
    have b1 : (i 1).val < 2048 := (i 1).isLt
    let t : Fin cfg0.N := ⟨(i 1).val / 1024 * 8 + (i 0).val / 1024, by omega⟩
    refine ⟨t, flush0_5 t, ?_⟩
    show i ∈ ((View.whole main_v0_0).slice (win0_5.rect t)).set
    rw [View.set_slice_whole, win0_5.mem_rect_iff]
    intro a
    match a with
    | ⟨0, _⟩ =>
      show win0_5.index t 0 * 1024 ≤ (i 0).val ∧ (i 0).val < win0_5.index t 0 * 1024 + 1024
      rw [index5_0]
      show ((i 1).val / 1024 * 8 + (i 0).val / 1024) % 8 * 1024 ≤ _ ∧ _ < ((i 1).val / 1024 * 8 + (i 0).val / 1024) % 8 * 1024 + 1024
      omega
    | ⟨1, _⟩ =>
      show win0_5.index t 1 * 1024 ≤ (i 1).val ∧ (i 1).val < win0_5.index t 1 * 1024 + 1024
      rw [index5_1]
      show ((i 1).val / 1024 * 8 + (i 0).val / 1024) / 8 * 1024 ≤ _ ∧ _ < ((i 1).val / 1024 * 8 + (i 0).val / 1024) / 8 * 1024 + 1024
      omega

include hP hW hD in
theorem array_b (i : S8192x2048.Idx) : (dats m 0 c).arrAt 6 cfg0.N i = gradB D W P (i 0).val (i 1).val := by
  refine (dats m 0 c).arrAt_forall_of_cover 6 (fun (i : S8192x2048.Idx) (v : EReal) => v = gradB D W P (i 0).val (i 1).val) (fun t ht y => ?_) (fun i => ?_) i
  · have e : (dats m 0 c).flushed 6 t y = (outsAt0 m c t.val t.isLt).2.1 y := congrFun (Value.flushed6 m c t) y
    show (dats m 0 c).flushed 6 t y = gradB D W P ((win0_6.rect t).emb y 0).val ((win0_6.rect t).emb y 1).val
    rw [e, win0_6.rect_emb_val t y 0, index6_0, win0_6.rect_emb_val t y 1, index6_1]
    exact stored_b hP hW hD t y
  · have hN : cfg0.N = 16 := N_0
    have b0 : (i 0).val < 8192 := (i 0).isLt
    have b1 : (i 1).val < 2048 := (i 1).isLt
    let t : Fin cfg0.N := ⟨(i 1).val / 1024 * 8 + (i 0).val / 1024, by omega⟩
    refine ⟨t, flush0_6 t, ?_⟩
    show i ∈ ((View.whole main_v0_1).slice (win0_6.rect t)).set
    rw [View.set_slice_whole, win0_6.mem_rect_iff]
    intro a
    match a with
    | ⟨0, _⟩ =>
      show win0_6.index t 0 * 1024 ≤ (i 0).val ∧ (i 0).val < win0_6.index t 0 * 1024 + 1024
      rw [index6_0]
      show ((i 1).val / 1024 * 8 + (i 0).val / 1024) % 8 * 1024 ≤ _ ∧ _ < ((i 1).val / 1024 * 8 + (i 0).val / 1024) % 8 * 1024 + 1024
      omega
    | ⟨1, _⟩ =>
      show win0_6.index t 1 * 1024 ≤ (i 1).val ∧ (i 1).val < win0_6.index t 1 * 1024 + 1024
      rw [index6_1]
      show ((i 1).val / 1024 * 8 + (i 0).val / 1024) / 8 * 1024 ≤ _ ∧ _ < ((i 1).val / 1024 * 8 + (i 0).val / 1024) / 8 * 1024 + 1024
      omega

include hA hB hP hW hD in
theorem array_p (i : S8192x4096.Idx) : (dats m 0 c).arrAt 7 cfg0.N i = gradP D W P A B (i 0).val (i 1).val := by
  refine (dats m 0 c).arrAt_forall_of_cover 7 (fun (i : S8192x4096.Idx) (v : EReal) => v = gradP D W P A B (i 0).val (i 1).val) (fun t ht y => ?_) (fun i => ?_) i
  · have e : (dats m 0 c).flushed 7 t y = (outsAt0 m c t.val t.isLt).2.2.1 y := congrFun (Value.flushed7 m c t) y
    show (dats m 0 c).flushed 7 t y = gradP D W P A B ((win0_7.rect t).emb y 0).val ((win0_7.rect t).emb y 1).val
    rw [e, win0_7.rect_emb_val t y 0, index7_0, win0_7.rect_emb_val t y 1, index7_1]
    exact stored_p hA hB hP hW hD t y
  · have hN : cfg0.N = 16 := N_0
    have b0 : (i 0).val < 8192 := (i 0).isLt
    have b1 : (i 1).val < 4096 := (i 1).isLt
    let t : Fin cfg0.N := ⟨(i 1).val / 2048 * 8 + (i 0).val / 1024, by omega⟩
    refine ⟨t, flush0_7 t, ?_⟩
    show i ∈ ((View.whole main_v0_2).slice (win0_7.rect t)).set
    rw [View.set_slice_whole, win0_7.mem_rect_iff]
    intro a
    match a with
    | ⟨0, _⟩ =>
      show win0_7.index t 0 * 1024 ≤ (i 0).val ∧ (i 0).val < win0_7.index t 0 * 1024 + 1024
      rw [index7_0]
      show ((i 1).val / 2048 * 8 + (i 0).val / 1024) % 8 * 1024 ≤ _ ∧ _ < ((i 1).val / 2048 * 8 + (i 0).val / 1024) % 8 * 1024 + 1024
      omega
    | ⟨1, _⟩ =>
      show win0_7.index t 1 * 2048 ≤ (i 1).val ∧ (i 1).val < win0_7.index t 1 * 2048 + 2048
      rw [index7_1]
      show ((i 1).val / 2048 * 8 + (i 0).val / 1024) / 8 * 2048 ≤ _ ∧ _ < ((i 1).val / 2048 * 8 + (i 0).val / 1024) / 8 * 2048 + 2048
      omega

include hA hB hP hW hD in
theorem array_s (i : S1x4096.Idx) : (dats m 0 c).arrAt 8 cfg0.N i = sums D W P A B (i 1).val := by
  refine (dats m 0 c).arrAt_forall_of_cover 8 (fun (i : S1x4096.Idx) (v : EReal) => v = sums D W P A B (i 1).val) (fun t ht y => ?_) (fun i => ?_) i
  · have e : (dats m 0 c).flushed 8 t y = (outsAt0 m c t.val t.isLt).2.2.2 y := congrFun (Value.flushed8 m c t) y
    show (dats m 0 c).flushed 8 t y = sums D W P A B ((win0_8.rect t).emb y 1).val
    rw [e, win0_8.rect_emb_val t y 1, index8_1]
    exact stored_s hA hB hP hW hD t ((flush0_8 t).mp ht) y
  · have hN : cfg0.N = 16 := N_0
    have b0 : (i 0).val < 1 := (i 0).isLt
    have b1 : (i 1).val < 4096 := (i 1).isLt
    let t : Fin cfg0.N := ⟨(i 1).val / 2048 * 8 + 7, by omega⟩
    refine ⟨t, (flush0_8 t).mpr (by show ((i 1).val / 2048 * 8 + 7) % 8 = 7; omega), ?_⟩
    show i ∈ ((View.whole main_v0_3).slice (win0_8.rect t)).set
    rw [View.set_slice_whole, win0_8.mem_rect_iff]
    intro a
    match a with
    | ⟨0, _⟩ =>
      show win0_8.index t 0 * 1 ≤ (i 0).val ∧ (i 0).val < win0_8.index t 0 * 1 + 1
      rw [index8_0]
      omega
    | ⟨1, _⟩ =>
      show win0_8.index t 1 * 2048 ≤ (i 1).val ∧ (i 1).val < win0_8.index t 1 * 2048 + 2048
      rw [index8_1]
      show ((i 1).val / 2048 * 8 + 7) / 8 * 2048 ≤ _ ∧ _ < ((i 1).val / 2048 * 8 + 7) / 8 * 2048 + 2048
      omega
end kernel

section reference
open Cert.DMergedRefIdeal Cert.DMergedRefIdeal.Read
variable {x0 x1 x4 : S8192x2048.Idx → EReal} {x2 : S8192x4096.Idx → EReal} {x3 : S2048x2048.Idx → EReal} {D W P A B : ℕ → ℕ → EReal}
variable (h0 : ∀ i, x0 i = A (i 0).val (i 1).val) (h1 : ∀ i, x1 i = B (i 0).val (i 1).val) (h2 : ∀ i, x2 i = P (i 0).val (i 1).val)
variable (h3 : ∀ i, x3 i = W (i 0).val (i 1).val) (h4 : ∀ i, x4 i = D (i 0).val (i 1).val)

include h3 h4 in
theorem ref_dm (i : S8192x2048.Idx) : val_main_v25 (F := Ideal) x3 x4 i = dm D W (i 0).val (i 1).val := by
  simp only [val_main_v25_apply, val_main_v24_apply, val_main_v0_apply, Ideal.extf_def, h3, h4]
  exact stretch_first 2048 fun k => D (i 0).val k * W (i 1).val k

include h2 in
theorem ref_sigmoid (i : S8192x4096.Idx) : val_main_v9 (F := Ideal) x2 i = Ideal.logistic (P (i 0).val (i 1).val) := by
  simp only [val_main_v9_apply, val_main_v8_apply, val_main_v7_apply, val_main_v6_apply, val_main_v5_apply, val_main_v4_apply, val_main_v3_apply,
    val_main_cst_apply, val_main_cst_0_apply, Ideal.hostDivf_def, Ideal.addf_def, Ideal.hostUnary_exp_def, Ideal.hostNegf_def, Ideal.negf_def, Ideal.extf_def,
    Ideal.ofBits_def, Gate.one_lit, h2]
  rfl

include h2 in
theorem ref_first (i : S8192x2048.Idx) : val_main_v16 (F := Ideal) x2 i = Ideal.logistic (P (i 0).val (Gate.fst 1024 (i 1).val)) := by
  rw [val_main_v16_apply, val_main_v15_apply, val_main_v14_apply, val_main_v13_apply, ref_sigmoid h2]
  have b0 : (i 0).val < 8192 := (i 0).isLt
  have b1 : (i 1).val < 2048 := (i 1).isLt
  refine congrArg Ideal.logistic (congrArg₂ P ?_ ?_)
  · show ((((((((((i 0).val * 2048 + (i 1).val) / 2048) * 2 + (((i 0).val * 2048 + (i 1).val) / 1024 % 2)) * 1024 + (((i 0).val * 2048 + (i 1).val) % 1024)) / 2048)) * 2 + (((((((i 0).val * 2048 + (i 1).val) / 2048) * 2 + (((i 0).val * 2048 + (i 1).val) / 1024 % 2)) * 1024 + (((i 0).val * 2048 + (i 1).val) % 1024)) / 1024 % 2))) * 2 + ((0))) * 1024 + (((((((i 0).val * 2048 + (i 1).val) / 2048) * 2 + (((i 0).val * 2048 + (i 1).val) / 1024 % 2)) * 1024 + (((i 0).val * 2048 + (i 1).val) % 1024)) % 1024))) / 4096 = (i 0).val
    omega
  · show ((((((((((i 0).val * 2048 + (i 1).val) / 2048) * 2 + (((i 0).val * 2048 + (i 1).val) / 1024 % 2)) * 1024 + (((i 0).val * 2048 + (i 1).val) % 1024)) / 2048)) * 2 + (((((((i 0).val * 2048 + (i 1).val) / 2048) * 2 + (((i 0).val * 2048 + (i 1).val) / 1024 % 2)) * 1024 + (((i 0).val * 2048 + (i 1).val) % 1024)) / 1024 % 2))) * 2 + ((0))) * 1024 + (((((((i 0).val * 2048 + (i 1).val) / 2048) * 2 + (((i 0).val * 2048 + (i 1).val) / 1024 % 2)) * 1024 + (((i 0).val * 2048 + (i 1).val) % 1024)) % 1024))) % 4096 = (i 1).val / 1024 * 2048 + (i 1).val % 1024
    omega

include h2 in
theorem ref_second (i : S8192x2048.Idx) : val_main_v19 (F := Ideal) x2 i = Ideal.logistic (P (i 0).val (Gate.snd 1024 (i 1).val)) := by
  rw [val_main_v19_apply, val_main_v18_apply, val_main_v17_apply, val_main_v13_apply, ref_sigmoid h2]
  have b0 : (i 0).val < 8192 := (i 0).isLt
  have b1 : (i 1).val < 2048 := (i 1).isLt
  refine congrArg Ideal.logistic (congrArg₂ P ?_ ?_)
  · show ((((((((((i 0).val * 2048 + (i 1).val) / 2048) * 2 + (((i 0).val * 2048 + (i 1).val) / 1024 % 2)) * 1024 + (((i 0).val * 2048 + (i 1).val) % 1024)) / 2048)) * 2 + (((((((i 0).val * 2048 + (i 1).val) / 2048) * 2 + (((i 0).val * 2048 + (i 1).val) / 1024 % 2)) * 1024 + (((i 0).val * 2048 + (i 1).val) % 1024)) / 1024 % 2))) * 2 + (1 + (0))) * 1024 + (((((((i 0).val * 2048 + (i 1).val) / 2048) * 2 + (((i 0).val * 2048 + (i 1).val) / 1024 % 2)) * 1024 + (((i 0).val * 2048 + (i 1).val) % 1024)) % 1024))) / 4096 = (i 0).val
    omega
  · show ((((((((((i 0).val * 2048 + (i 1).val) / 2048) * 2 + (((i 0).val * 2048 + (i 1).val) / 1024 % 2)) * 1024 + (((i 0).val * 2048 + (i 1).val) % 1024)) / 2048)) * 2 + (((((((i 0).val * 2048 + (i 1).val) / 2048) * 2 + (((i 0).val * 2048 + (i 1).val) / 1024 % 2)) * 1024 + (((i 0).val * 2048 + (i 1).val) % 1024)) / 1024 % 2))) * 2 + (1 + (0))) * 1024 + (((((((i 0).val * 2048 + (i 1).val) / 2048) * 2 + (((i 0).val * 2048 + (i 1).val) / 1024 % 2)) * 1024 + (((i 0).val * 2048 + (i 1).val) % 1024)) % 1024))) % 4096 = (i 1).val / 1024 * 2048 + (1024 + (i 1).val % 1024)
    omega

include h2 h3 h4 in
theorem ref_a (i : S8192x2048.Idx) : val_main_v39 (F := Ideal) x2 x3 x4 i = gradA D W P (i 0).val (i 1).val := by
  simp only [val_main_v39_apply, val_main_v28_apply, Ideal.truncf_def, Ideal.mulf_def, ref_first h2, ref_dm h3 h4]
  exact mul_comm _ _

include h2 h3 h4 in
theorem ref_b (i : S8192x2048.Idx) : val_main_v40 (F := Ideal) x2 x3 x4 i = gradB D W P (i 0).val (i 1).val := by
  simp only [val_main_v40_apply, val_main_v26_apply, Ideal.truncf_def, Ideal.mulf_def, ref_second h2, ref_dm h3 h4]
  exact mul_comm _ _

include h0 h1 h3 h4 in
/-- What multiplies the derivative of the gate: the gradient of the gated sum times the branch. -/
theorem ref_factor (i : S8192x4096.Idx) : val_main_v37 (F := Ideal) x0 x1 x3 x4 i
    = if (i 1).val % 2048 < 1024 then dm D W (i 0).val ((i 1).val / 2048 * 1024 + (i 1).val % 2048) * A (i 0).val ((i 1).val / 2048 * 1024 + (i 1).val % 2048)
      else dm D W (i 0).val ((i 1).val / 2048 * 1024 + ((i 1).val % 2048 - 1024)) * B (i 0).val ((i 1).val / 2048 * 1024 + ((i 1).val % 2048 - 1024)) := by
  let Fa : ℕ → ℕ → ℕ → EReal := fun r q p => dm D W r (q * 1024 + p) * A r (q * 1024 + p)
  let Fb : ℕ → ℕ → ℕ → EReal := fun r q p => dm D W r (q * 1024 + p) * B r (q * 1024 + p)
  have eb : ∀ k : S8192x2x1x1024.Idx, val_main_v31 (F := Ideal) x1 x3 x4 k = Fb (k 0).val (k 1).val (k 3).val := fun k => by
    have b0 : (k 0).val < 8192 := (k 0).isLt
    have b1 : (k 1).val < 2 := (k 1).isLt
    have b3 : (k 3).val < 1024 := (k 3).isLt
    rw [val_main_v31_apply, val_main_v30_apply, val_main_v27_apply, ref_dm h3 h4, val_main_v2_apply, Ideal.extf_def, h1, Ideal.mulf_def]
    have f0 : (idx_main_v30 (idx_main_v31 k) 0).val = (k 0).val := by
      show (((k 0).val * 2 + (k 1).val) * 1024 + (k 3).val) / 2048 = (k 0).val
      omega
    have f1 : (idx_main_v30 (idx_main_v31 k) 1).val = (k 1).val * 1024 + (k 3).val := by
      show (((k 0).val * 2 + (k 1).val) * 1024 + (k 3).val) % 2048 = (k 1).val * 1024 + (k 3).val
      omega
    rw [f0, f1]
  have ea : ∀ k : S8192x2x1x1024.Idx, val_main_v34 (F := Ideal) x0 x3 x4 k = Fa (k 0).val (k 1).val (k 3).val := fun k => by
    have b0 : (k 0).val < 8192 := (k 0).isLt
    have b1 : (k 1).val < 2 := (k 1).isLt
    have b3 : (k 3).val < 1024 := (k 3).isLt
    rw [val_main_v34_apply, val_main_v33_apply, val_main_v29_apply, ref_dm h3 h4, val_main_v1_apply, Ideal.extf_def, h0, Ideal.mulf_def]
    have f0 : (idx_main_v33 (idx_main_v34 k) 0).val = (k 0).val := by
      show (((k 0).val * 2 + (k 1).val) * 1024 + (k 3).val) / 2048 = (k 0).val
      omega
    have f1 : (idx_main_v33 (idx_main_v34 k) 1).val = (k 1).val * 1024 + (k 3).val := by
      show (((k 0).val * 2 + (k 1).val) * 1024 + (k 3).val) % 2048 = (k 1).val * 1024 + (k 3).val
      omega
    rw [f0, f1]
  have z2 : ∀ k, val_main_cst_2 (F := Ideal) k = 0 := fun k => by rw [val_main_cst_2_apply, Ideal.ofBits_def, Gate.zero_lit]
  have z3 : ∀ k, val_main_cst_3 (F := Ideal) k = 0 := fun k => by rw [val_main_cst_3_apply, Ideal.ofBits_def, Gate.zero_lit]
  rw [val_main_v37_apply, val_main_v36_apply, Ideal.addf_def]
  unfold val_main_v32 val_main_v35
  rw [Gate.pad_second eb z2, Gate.pad_first ea z3]
  have b0 : (i 0).val < 8192 := (i 0).isLt
  have b1 : (i 1).val < 4096 := (i 1).isLt
  have f0 : (idx_main_v37 i 0).val = (i 0).val := by
    show ((i 0).val * 4096 + (i 1).val) / 4096 = _
    omega
  have f1 : (idx_main_v37 i 1).val = (i 1).val / 2048 := by
    show ((i 0).val * 4096 + (i 1).val) / 2048 % 2 = _
    omega
  have f2 : (idx_main_v37 i 2).val = (i 1).val % 2048 / 1024 := by
    show ((i 0).val * 4096 + (i 1).val) / 1024 % 2 = _
    omega
  have f3 : (idx_main_v37 i 3).val = (i 1).val % 2048 % 1024 := by
    show ((i 0).val * 4096 + (i 1).val) % 1024 = _
    omega
  rw [f0, f1, f2, f3]
  by_cases h : (i 1).val % 2048 < 1024
  · rw [if_pos (by omega), if_pos (by omega), if_pos h, zero_add, Nat.mod_eq_of_lt h]
  · rw [if_neg (by omega), if_neg (by omega), if_neg h, add_zero, show (i 1).val % 2048 % 1024 = (i 1).val % 2048 - 1024 by omega]

include h0 h1 h2 h3 h4 in
theorem ref_gates (i : S8192x4096.Idx) : val_main_v38 (F := Ideal) x0 x1 x2 x3 x4 i = gradP D W P A B (i 0).val (i 1).val := by
  rw [val_main_v38_apply, val_main_v12_apply, val_main_v11_apply, val_main_v10_apply, val_main_cst_1_apply]
  rw [ref_factor h0 h1 h3 h4, ref_sigmoid h2, Ideal.mulf_def, Ideal.mulf_def, Ideal.subf_def, Ideal.ofBits_def, Gate.one_lit]
  unfold gradP pair both
  have e : (i 1).val / 2048 * 2048 + (i 1).val % 2048 = (i 1).val := by omega
  by_cases h : (i 1).val % 2048 < 1024
  · rw [if_pos h, if_pos h]
    unfold dg
    dsimp only
    rw [e, mul_assoc _ (Ideal.logistic _) _]
    rfl
  · rw [if_neg h, if_neg h]
    unfold dg hi
    dsimp only
    rw [show (i 1).val / 2048 * 2048 + (1024 + ((i 1).val % 2048 - 1024)) = (i 1).val by omega, mul_assoc _ (Ideal.logistic _) _]
    rfl

include h0 h1 h2 h3 h4 in
theorem ref_p (i : S8192x4096.Idx) : val_main_v41 (F := Ideal) x0 x1 x2 x3 x4 i = gradP D W P A B (i 0).val (i 1).val := by
  rw [val_main_v41_apply, Ideal.truncf_def]
  exact ref_gates h0 h1 h2 h3 h4 i

include h0 h1 h2 h3 h4 in
theorem ref_s (i : S1x4096.Idx) : val_main_v43 (F := Ideal) x0 x1 x2 x3 x4 i = sums D W P A B (i 1).val := by
  rw [val_main_v43_apply, val_main_v42_apply, val_main_cst_4_apply, Ideal.ofBits_def, Gate.zero_lit, zero_add]
  have b0 : (i 0).val < 1 := (i 0).isLt
  refine (Finset.sum_congr rfl fun k _ => (ref_gates h0 h1 h2 h3 h4 (idx_main_v42 (idx_main_v43 i) k)).trans
    (congrArg (gradP D W P A B k.val) (?_ : _ = (i 1).val))).trans (stretch_first 8192 fun r => gradP D W P A B r (i 1).val)
  show (i 0).val * 4096 + (i 1).val = (i 1).val
  omega
end reference

/-- The reference ends, keeps its arguments and leaves no signal. -/
theorem reference_frame : Cert.quiescent_DMergedRefIdeal := fun m g _ =>
  (θ_run Cert.DMergedRefIdeal.defs _ _).mono (fun r h => ⟨fun c => (h c).2.2.2.2, sem_eq_zero_of_no_sems (by decide) r.2⟩)
    (Cert.DMergedRefIdeal.Value.run m g)

/-- The four arrays agree. -/
theorem algebraic : Cert.algebraic_DMergedIdeal_DMergedRefIdeal := by
  intro m g m' g' _ hagree
  refine ⟨_, _, _, _, Cert.DMergedIdeal.Value.run_blocks m g, ?_⟩
  refine (θ_run Cert.DMergedRefIdeal.defs _ _).mono (fun r h c => ?_) (Cert.DMergedRefIdeal.Value.run m' g')
  obtain ⟨a0, a1, a2, a3, a4⟩ := hagree c
  obtain ⟨e0, e1, e2, e3, hk⟩ := h c
  obtain ⟨A, hA⟩ := table (m ((c.tc : Thread Cert.DMergedIdeal.nD Cert.DMergedIdeal.τ).loc Cert.DMergedIdeal.main_arg0))
  obtain ⟨B, hB⟩ := table (m ((c.tc : Thread Cert.DMergedIdeal.nD Cert.DMergedIdeal.τ).loc Cert.DMergedIdeal.main_arg1))
  obtain ⟨P, hP⟩ := table (m ((c.tc : Thread Cert.DMergedIdeal.nD Cert.DMergedIdeal.τ).loc Cert.DMergedIdeal.main_arg2))
  obtain ⟨W, hW⟩ := table (m ((c.tc : Thread Cert.DMergedIdeal.nD Cert.DMergedIdeal.τ).loc Cert.DMergedIdeal.main_arg3))
  obtain ⟨D, hD⟩ := table (m ((c.tc : Thread Cert.DMergedIdeal.nD Cert.DMergedIdeal.τ).loc Cert.DMergedIdeal.main_arg4))
  refine ⟨?_, ?_, ?_, ?_, hk⟩
  · rw [e0, Cert.DMergedRefIdeal.Read.val_main_v39_eq, a2, a3, a4]
    exact funext fun i => (ref_a hP hW hD i).trans (array_a hP hW hD i).symm
  · rw [e1, Cert.DMergedRefIdeal.Read.val_main_v40_eq, a2, a3, a4]
    exact funext fun i => (ref_b hP hW hD i).trans (array_b hP hW hD i).symm
  · rw [e2, Cert.DMergedRefIdeal.Read.val_main_v41_eq, a0, a1, a2, a3, a4]
    exact funext fun i => (ref_p hA hB hP hW hD i).trans (array_p hA hB hP hW hD i).symm
  · rw [e3, Cert.DMergedRefIdeal.Read.val_main_v43_eq, a0, a1, a2, a3, a4]
    exact funext fun i => (ref_s hA hB hP hW hD i).trans (array_s hA hB hP hW hD i).symm

end DMerged
-- ==== Proof.OutProj.lean ====
module

public import proofs.«01_k».proof.Defs
public import proofs.«01_k».proof.Proof.Gen.OutProj.Frame
public import proofs.«01_k».proof.Proof.Gen.OutProjIdeal.Frame
public import proofs.«01_k».proof.Proof.Gen.OutProjIdeal.Value
public import proofs.«01_k».proof.Proof.Gen.OutProjRefIdeal
public import proofs.«01_k».proof.Proof.Gen.OutProjRefIdeal.Run
public import proofs.«01_k».proof.Proof.Gen.OutProjRefIdeal.Read
public import proofs.«01_k».proof.Proof.Product
public import proofs.«01_k».proof.Proof.Gate
public import Idealize.ShloMosaic.Lib.Pipeline.ValueKit
public import Idealize.ShloMosaic.Lib.Pipeline.ReadBack

/-! The output product with its residual and the norm of its rows: the two arrays the kernel leaves, and that the reference leaves the same. -/

@[expose] public section
noncomputable section
namespace OutProj
open Idealize.ShloMosaic Idealize.ShloMosaic.TcCoe Idealize.SL.Sem Product

section kernel
open Cert.OutProjIdeal Cert.OutProjIdeal.Gen
set_option maxHeartbeats 800000

/-- An element of the product with the residual added. -/
def added (A W H : ℕ → ℕ → EReal) (r c : ℕ) : EReal := H r c + stretch 2048 0 fun k => A r k * W k c

/-- A row `R`, divided by its root mean square and scaled. -/
def normed (R G : ℕ → EReal) (c : ℕ) : EReal :=
  R c * Ideal.rsqrt (Ideal.div (stretch 2048 0 fun k => R k * R k) (Ideal.ofBits .f32 0x45000000#32) + Ideal.ofBits .f32 0x3727C5AC#32) * G c

section chunk
variable {v0 : Vec Ideal S256x2048 .f32} {v1 : Vec Ideal S256x2048 .bf16} {v2 : Vec Ideal S2048x2048 .bf16} {v3 : Vec Ideal S1x2048 .f32} {A W H : ℕ → ℕ → EReal} {G : ℕ → EReal}
variable (h0 : ∀ i, v0 i = H (i 0).val (i 1).val) (h1 : ∀ i, v1 i = A (i 0).val (i 1).val) (h2 : ∀ i, v2 i = W (i 0).val (i 1).val) (h3 : ∀ i, v3 i = G (i 1).val)

include h0 h1 h2 in
theorem sum0 (i : S256x2048.Idx) : k0_pay2 v0 v1 v2 i = added A W H (i 0).val (i 1).val := by
  pointwise [k0_pay2]
  simp only [h0, h1, h2]
  exact congrArg (H (i 0).val (i 1).val + ·) (stretch_first 2048 fun k => A (i 0).val k * W k (i 1).val)

include h0 h1 h2 h3 in
theorem norm0 (i : S256x2048.Idx) : k0_pay3 v0 v1 v2 v3 i = normed (added A W H (i 0).val) G (i 1).val := by
  pointwise [k0_pay3]
  simp only [sum0 h0 h1 h2, h3]
  exact congrArg (fun z => added A W H (i 0).val (i 1).val * Ideal.rsqrt (Ideal.div z (Ideal.ofBits .f32 0x45000000#32) + Ideal.ofBits .f32 0x3727C5AC#32) * G (i 1).val)
    (stretch_first 2048 fun k => added A W H (i 0).val k * added A W H (i 0).val k)

include h0 h1 h2 in
theorem sum1 (i : S256x2048.Idx) : k0_pay4 v0 v1 v2 i = added A W H (i 0).val (i 1).val := by
  pointwise [k0_pay4]
  simp only [h0, h1, h2]
  exact congrArg (H (i 0).val (i 1).val + ·) (stretch_first 2048 fun k => A (i 0).val k * W k (i 1).val)

include h0 h1 h2 h3 in
theorem norm1 (i : S256x2048.Idx) : k0_pay1 (k0_pay4 v0 v1 v2) (k0_pay5 v0 v1 v2) v3 i = normed (added A W H (i 0).val) G (i 1).val := by
  pointwise [k0_pay1, k0_pay5]
  simp only [sum1 h0 h1 h2, h3]
  exact congrArg (fun z => added A W H (i 0).val (i 1).val * Ideal.rsqrt (Ideal.div z (Ideal.ofBits .f32 0x45000000#32) + Ideal.ofBits .f32 0x3727C5AC#32) * G (i 1).val)
    (stretch_first 2048 fun k => added A W H (i 0).val k * added A W H (i 0).val k)

end chunk

section block
variable {x0 : Vec Ideal S512x2048 .bf16} {x1 : Vec Ideal S2048x2048 .bf16} {x2 : Vec Ideal S512x2048 .f32} {x3 : Vec Ideal S1x2048 .f32} {A W H : ℕ → ℕ → EReal} {G : ℕ → EReal}

theorem rows {x : Vec Ideal S512x2048 .f32} {X : ℕ → ℕ → EReal} (h : ∀ i, x i = X (i 0).val (i 1).val) (o : ℕ) (inb : ∀ a, ![o, 0] a + S256x2048.size a ≤ S512x2048.size a)
    (y : S256x2048.Idx) : View.ld (Val := Elt Ideal) (e' := .f32) x (Rect.unit (s := S512x2048) ![o, 0] S256x2048.size inb) y = X (o + (y 0).val) (y 1).val := by
  refine (Gate.place (g := X) h inb y).trans ?_
  rw [Nat.zero_add]

theorem rows' {x : Vec Ideal S512x2048 .bf16} {X : ℕ → ℕ → EReal} (h : ∀ i, x i = X (i 0).val (i 1).val) (o : ℕ) (inb : ∀ a, ![o, 0] a + S256x2048.size a ≤ S512x2048.size a)
    (y : S256x2048.Idx) : View.ld (Val := Elt Ideal) (e' := .bf16) x (Rect.unit (s := S512x2048) ![o, 0] S256x2048.size inb) y = X (o + (y 0).val) (y 1).val := by
  refine (Gate.place (g := X) h inb y).trans ?_
  rw [Nat.zero_add]

variable (h0 : ∀ i, x0 i = A (i 0).val (i 1).val) (h1 : ∀ i, x1 i = W (i 0).val (i 1).val) (h2 : ∀ i, x2 i = H (i 0).val (i 1).val) (h3 : ∀ i, x3 i = G (i 1).val)

include h0 h1 h2 in
theorem block_h (i : S512x2048.Idx) : out0_4 x0 x1 x2 x3 i = added A W H (i 0).val (i 1).val := by
  frame_out [↓View.readCov_skip, ↓View.readCov_fill]
  let F : Vec Ideal S512x2048 .f32 := fun j => added A W H (j 0).val (j 1).val
  have hF : ∀ j, F j = added A W H (j 0).val (j 1).val := fun _ => rfl
  show View.canon (Val := Elt Ideal) (e := .f32) ([_, _] ++ []) i = F i
  refine View.canon_append_of_piecesOf (Val := Elt Ideal) (e := .f32) F _ _ ?_ i ?_
  on_goal 2 => exact View.cover_of_tiledBy (s := S512x2048) _ ![256, 2048] (by sl_kernel_rfl) i
  refine ⟨fun x => ?_, fun x => ?_, trivial⟩
  · refine Eq.trans ?_ (Gate.place (g := added A W H) hF inb_S512x2048_S256x2048_256_0 x).symm
    refine Eq.trans ?_ (congrArg (added A W H (256 + (x 0).val)) (Nat.zero_add (x 1).val)).symm
    exact sum1 (A := fun r k => A (256 + r) k) (W := W) (H := fun r k => H (256 + r) k) (rows h2 256 _) (rows' h0 256 _) h1 x
  · refine Eq.trans ?_ (Gate.place (g := added A W H) hF inb_S512x2048_S256x2048_0_0 x).symm
    refine Eq.trans ?_ (congrArg (added A W H (0 + (x 0).val)) (Nat.zero_add (x 1).val)).symm
    exact sum0 (A := fun r k => A (0 + r) k) (W := W) (H := fun r k => H (0 + r) k) (rows h2 0 _) (rows' h0 0 _) h1 x

include h0 h1 h2 h3 in
theorem block_n (i : S512x2048.Idx) : out0_5 x0 x1 x2 x3 i = (fun r c => normed (added A W H r) G c) (i 0).val (i 1).val := by
  frame_out [↓View.readCov_skip, ↓View.readCov_fill]
  let F : Vec Ideal S512x2048 .bf16 := fun j => (fun r c => normed (added A W H r) G c) (j 0).val (j 1).val
  have hF : ∀ j, F j = (fun r c => normed (added A W H r) G c) (j 0).val (j 1).val := fun _ => rfl
  show View.canon (Val := Elt Ideal) (e := .bf16) ([_, _] ++ []) i = F i
  refine View.canon_append_of_piecesOf (Val := Elt Ideal) (e := .bf16) F _ _ ?_ i ?_
  on_goal 2 => exact View.cover_of_tiledBy (s := S512x2048) _ ![256, 2048] (by sl_kernel_rfl) i
  refine ⟨fun x => ?_, fun x => ?_, trivial⟩
  · refine Eq.trans ?_ (Gate.place (g := (fun r c => normed (added A W H r) G c)) hF inb_S512x2048_S256x2048_256_0 x).symm
    refine Eq.trans ?_ (congrArg ((fun r c => normed (added A W H r) G c) (256 + (x 0).val)) (Nat.zero_add (x 1).val)).symm
    exact norm1 (A := fun r k => A (256 + r) k) (W := W) (H := fun r k => H (256 + r) k) (rows h2 256 _) (rows' h0 256 _) h1 h3 x
  · refine Eq.trans ?_ (Gate.place (g := (fun r c => normed (added A W H r) G c)) hF inb_S512x2048_S256x2048_0_0 x).symm
    refine Eq.trans ?_ (congrArg ((fun r c => normed (added A W H r) G c) (0 + (x 0).val)) (Nat.zero_add (x 1).val)).symm
    exact norm0 (A := fun r k => A (0 + r) k) (W := W) (H := fun r k => H (0 + r) k) (rows h2 0 _) (rows' h0 0 _) h1 h3 x

end block

variable {m : (ℓ : Loc nD τ sig) → Buf (Elt Ideal) ℓ} {c : Dev nD} {A W H : ℕ → ℕ → EReal} {G : ℕ → EReal}

theorem index0_0 : ∀ t : Fin cfg0.N, win0_0.index t 0 = t.val := by decide +kernel
theorem index0_1 : ∀ t : Fin cfg0.N, win0_0.index t 1 = 0 := by decide +kernel
theorem index1_0 : ∀ t : Fin cfg0.N, win0_1.index t 0 = 0 := by decide +kernel
theorem index1_1 : ∀ t : Fin cfg0.N, win0_1.index t 1 = 0 := by decide +kernel
theorem index2_0 : ∀ t : Fin cfg0.N, win0_2.index t 0 = t.val := by decide +kernel
theorem index2_1 : ∀ t : Fin cfg0.N, win0_2.index t 1 = 0 := by decide +kernel
theorem index3_0 : ∀ t : Fin cfg0.N, win0_3.index t 0 = 0 := by decide +kernel
theorem index3_1 : ∀ t : Fin cfg0.N, win0_3.index t 1 = 0 := by decide +kernel
theorem index4_0 : ∀ t : Fin cfg0.N, win0_4.index t 0 = t.val := by decide +kernel
theorem index4_1 : ∀ t : Fin cfg0.N, win0_4.index t 1 = 0 := by decide +kernel
theorem index5_0 : ∀ t : Fin cfg0.N, win0_5.index t 0 = t.val := by decide +kernel
theorem index5_1 : ∀ t : Fin cfg0.N, win0_5.index t 1 = 0 := by decide +kernel

variable (hA : ∀ i : S8192x2048.Idx, V m c main_arg0 i = A (i 0).val (i 1).val) (hW : ∀ i : S2048x2048.Idx, V m c main_arg1 i = W (i 0).val (i 1).val)
variable (hH : ∀ i : S8192x2048.Idx, V m c main_arg2 i = H (i 0).val (i 1).val) (hG : ∀ i : S1x2048.Idx, V m c main_arg3 i = G (i 1).val)

include hA in
theorem inA (t : Fin cfg0.N) (i : S512x2048.Idx) : (iblk m c 0 t : Vec Ideal S512x2048 .bf16) i = A (t.val * 512 + (i 0).val) (i 1).val := by
  refine (hA ((win0_0.rect t).emb i)).trans ?_
  rw [win0_0.rect_emb_val t i 0, index0_0, win0_0.rect_emb_val_of_index_zero t 1 (index0_1 t) i]
  rfl
include hW in
theorem inW (t : Fin cfg0.N) (i : S2048x2048.Idx) : (iblk m c 1 t : Vec Ideal S2048x2048 .bf16) i = W (i 0).val (i 1).val := by
  refine (hW ((win0_1.rect t).emb i)).trans ?_
  rw [win0_1.rect_emb_val_of_index_zero t 0 (index1_0 t) i, win0_1.rect_emb_val_of_index_zero t 1 (index1_1 t) i]
include hH in
theorem inH (t : Fin cfg0.N) (i : S512x2048.Idx) : (iblk m c 2 t : Vec Ideal S512x2048 .f32) i = H (t.val * 512 + (i 0).val) (i 1).val := by
  refine (hH ((win0_2.rect t).emb i)).trans ?_
  rw [win0_2.rect_emb_val t i 0, index2_0, win0_2.rect_emb_val_of_index_zero t 1 (index2_1 t) i]
  rfl
include hG in
theorem inG (t : Fin cfg0.N) (i : S1x2048.Idx) : (iblk m c 3 t : Vec Ideal S1x2048 .f32) i = G (i 1).val := by
  refine (hG ((win0_3.rect t).emb i)).trans ?_
  rw [win0_3.rect_emb_val_of_index_zero t 1 (index3_1 t) i]

/-- The norm of row `r`, at column `c`. -/
def norm (A W H : ℕ → ℕ → EReal) (G : ℕ → EReal) (r c : ℕ) : EReal := normed (added A W H r) G c

include hA hW hH in
theorem stored_h (t : Fin cfg0.N) (i : S512x2048.Idx) : out0_4 (iblk m c 0 t) (iblk m c 1 t) (iblk m c 2 t) (iblk m c 3 t) i = added A W H (t.val * 512 + (i 0).val) (i 1).val :=
  block_h (A := fun r k => A (t.val * 512 + r) k) (W := W) (H := fun r k => H (t.val * 512 + r) k) (inA hA t) (inW hW t) (inH hH t) i

include hA hW hH hG in
theorem stored_n (t : Fin cfg0.N) (i : S512x2048.Idx) : out0_5 (iblk m c 0 t) (iblk m c 1 t) (iblk m c 2 t) (iblk m c 3 t) i = norm A W H G (t.val * 512 + (i 0).val) (i 1).val :=
  block_n (A := fun r k => A (t.val * 512 + r) k) (W := W) (H := fun r k => H (t.val * 512 + r) k) (inA hA t) (inW hW t) (inH hH t) (inG hG t) i

include hA hW hH in
theorem array_h (i : S8192x2048.Idx) : (dats m 0 c).arrAt 4 cfg0.N i = added A W H (i 0).val (i 1).val := by
  refine (dats m 0 c).arrAt_forall_of_cover 4 (fun (i : S8192x2048.Idx) (v : EReal) => v = added A W H (i 0).val (i 1).val) (fun t ht y => ?_) (fun i => ?_) i
  · have e : (dats m 0 c).flushed 4 t y = out0_4 (iblk m c 0 t) (iblk m c 1 t) (iblk m c 2 t) (iblk m c 3 t) y := congrFun (Value.flushed4 m c t) y
    show (dats m 0 c).flushed 4 t y = added A W H ((win0_4.rect t).emb y 0).val ((win0_4.rect t).emb y 1).val
    rw [e, win0_4.rect_emb_val t y 0, index4_0, win0_4.rect_emb_val_of_index_zero t 1 (index4_1 t) y]
    exact stored_h hA hW hH t y
  · have hN : cfg0.N = 16 := N_0
    have b0 : (i 0).val < 8192 := (i 0).isLt
    have b1 : (i 1).val < 2048 := (i 1).isLt
    let t : Fin cfg0.N := ⟨(i 0).val / 512, by omega⟩
    refine ⟨t, flush0_4 t, ?_⟩
    show i ∈ ((View.whole main_v0_0).slice (win0_4.rect t)).set
    rw [View.set_slice_whole, win0_4.mem_rect_iff]
    intro a
    match a with
    | ⟨0, _⟩ =>
      show win0_4.index t 0 * 512 ≤ (i 0).val ∧ (i 0).val < win0_4.index t 0 * 512 + 512
      rw [index4_0]
      show ((i 0).val / 512) * 512 ≤ _ ∧ _ < ((i 0).val / 512) * 512 + 512
      omega
    | ⟨1, _⟩ =>
      show win0_4.index t 1 * 2048 ≤ (i 1).val ∧ (i 1).val < win0_4.index t 1 * 2048 + 2048
      rw [index4_1]
      omega

include hA hW hH hG in
theorem array_n (i : S8192x2048.Idx) : (dats m 0 c).arrAt 5 cfg0.N i = norm A W H G (i 0).val (i 1).val := by
  refine (dats m 0 c).arrAt_forall_of_cover 5 (fun (i : S8192x2048.Idx) (v : EReal) => v = norm A W H G (i 0).val (i 1).val) (fun t ht y => ?_) (fun i => ?_) i
  · have e : (dats m 0 c).flushed 5 t y = out0_5 (iblk m c 0 t) (iblk m c 1 t) (iblk m c 2 t) (iblk m c 3 t) y := congrFun (Value.flushed5 m c t) y
    show (dats m 0 c).flushed 5 t y = norm A W H G ((win0_5.rect t).emb y 0).val ((win0_5.rect t).emb y 1).val
    rw [e, win0_5.rect_emb_val t y 0, index5_0, win0_5.rect_emb_val_of_index_zero t 1 (index5_1 t) y]
    exact stored_n hA hW hH hG t y
  · have hN : cfg0.N = 16 := N_0
    have b0 : (i 0).val < 8192 := (i 0).isLt
    have b1 : (i 1).val < 2048 := (i 1).isLt
    let t : Fin cfg0.N := ⟨(i 0).val / 512, by omega⟩
    refine ⟨t, flush0_5 t, ?_⟩
    show i ∈ ((View.whole main_v0_1).slice (win0_5.rect t)).set
    rw [View.set_slice_whole, win0_5.mem_rect_iff]
    intro a
    match a with
    | ⟨0, _⟩ =>
      show win0_5.index t 0 * 512 ≤ (i 0).val ∧ (i 0).val < win0_5.index t 0 * 512 + 512
      rw [index5_0]
      show ((i 0).val / 512) * 512 ≤ _ ∧ _ < ((i 0).val / 512) * 512 + 512
      omega
    | ⟨1, _⟩ =>
      show win0_5.index t 1 * 2048 ≤ (i 1).val ∧ (i 1).val < win0_5.index t 1 * 2048 + 2048
      rw [index5_1]
      omega

end kernel

section reference
open Cert.OutProjRefIdeal Cert.OutProjRefIdeal.Read
variable {x0 x2 : S8192x2048.Idx → EReal} {x1 : S2048x2048.Idx → EReal} {x3 : S1x2048.Idx → EReal} {A W H : ℕ → ℕ → EReal} {G : ℕ → EReal}
variable (h0 : ∀ i, x0 i = A (i 0).val (i 1).val) (h1 : ∀ i, x1 i = W (i 0).val (i 1).val) (h2 : ∀ i, x2 i = H (i 0).val (i 1).val) (h3 : ∀ i, x3 i = G (i 1).val)

include h0 h1 h2 in
theorem ref_h (i : S8192x2048.Idx) : val_main_v3 (F := Ideal) x0 x1 x2 i = added A W H (i 0).val (i 1).val := by
  simp only [val_main_v3_apply, val_main_v2_apply, val_main_v1_apply, val_main_v0_apply, Ideal.addf_def, Ideal.extf_def, h0, h1, h2]
  exact congrArg (H (i 0).val (i 1).val + ·) (stretch_first 2048 fun k => A (i 0).val k * W k (i 1).val)

include h0 h1 h2 in
theorem ref_square (i : S8192.Idx) : val_main_v5 (F := Ideal) x0 x1 x2 i = stretch 2048 0 fun k => added A W H (i 0).val k * added A W H (i 0).val k := by
  simp only [val_main_v5_apply, val_main_cst_apply, val_main_v4_apply, Ideal.mulf_def, Ideal.ofBits_def, Gate.zero_lit, zero_add, ref_h h0 h1 h2]
  exact stretch_first 2048 fun k => added A W H (i 0).val k * added A W H (i 0).val k

include h0 h1 h2 h3 in
/-- The norm the reference leaves. -/
theorem ref_n (i : S8192x2048.Idx) : val_main_v16 (F := Ideal) x0 x1 x2 x3 i = norm A W H G (i 0).val (i 1).val := by
  simp only [val_main_v16_apply, val_main_v15_apply, val_main_v14_apply, val_main_v13_apply, val_main_v12_apply, val_main_v11_apply, val_main_v10_apply,
    val_main_v9_apply, val_main_v8_apply, val_main_v7_apply, val_main_v6_apply, val_main_cst_0_apply, val_main_cst_1_apply, Ideal.truncf_def, Ideal.addf_def, Ideal.mulf_def,
    Ideal.hostDivf_def, Ideal.hostUnary_rsqrt_def, Ideal.ofBits_def, ref_h h0 h1 h2, ref_square h0 h1 h2, h3]
  rfl
end reference

/-- The reference ends, keeps its arguments and leaves no signal. -/
theorem reference_frame : Cert.quiescent_OutProjRefIdeal := fun m g _ =>
  (θ_run Cert.OutProjRefIdeal.defs _ _).mono (fun r h => ⟨fun c => (h c).2.2, sem_eq_zero_of_no_sems (by decide) r.2⟩)
    (Cert.OutProjRefIdeal.Value.run m g)

/-- The two arrays agree. -/
theorem algebraic : Cert.algebraic_OutProjIdeal_OutProjRefIdeal := by
  intro m g m' g' _ hagree
  refine ⟨_, _, Cert.OutProjIdeal.Value.run_blocks m g, ?_⟩
  refine (θ_run Cert.OutProjRefIdeal.defs _ _).mono (fun r h c => ?_) (Cert.OutProjRefIdeal.Value.run m' g')
  obtain ⟨a0, a1, a2, a3⟩ := hagree c
  obtain ⟨e0, e1, hk⟩ := h c
  obtain ⟨A, hA⟩ := table (m ((c.tc : Thread Cert.OutProjIdeal.nD Cert.OutProjIdeal.τ).loc Cert.OutProjIdeal.main_arg0))
  obtain ⟨W, hW⟩ := table (m ((c.tc : Thread Cert.OutProjIdeal.nD Cert.OutProjIdeal.τ).loc Cert.OutProjIdeal.main_arg1))
  obtain ⟨H, hH⟩ := table (m ((c.tc : Thread Cert.OutProjIdeal.nD Cert.OutProjIdeal.τ).loc Cert.OutProjIdeal.main_arg2))
  obtain ⟨G, hG⟩ := row (m ((c.tc : Thread Cert.OutProjIdeal.nD Cert.OutProjIdeal.τ).loc Cert.OutProjIdeal.main_arg3))
  refine ⟨?_, ?_, hk⟩
  · rw [e0, Cert.OutProjRefIdeal.Read.val_main_v3_eq, a0, a1, a2]
    exact funext fun i => (ref_h hA hW hH i).trans (array_h hA hW hH i).symm
  · rw [e1, Cert.OutProjRefIdeal.Read.val_main_v16_eq, a0, a1, a2, a3]
    exact funext fun i => (ref_n hA hW hH hG i).trans (array_n hA hW hH hG i).symm

end OutProj
-- ==== Proof.RmsFwd.lean ====
module

public import proofs.«01_k».proof.Defs
public import proofs.«01_k».proof.Proof.Gen.RmsFwd.Frame
public import proofs.«01_k».proof.Proof.Gen.RmsFwdIdeal.Frame
public import proofs.«01_k».proof.Proof.Gen.RmsFwdIdeal.Value
public import proofs.«01_k».proof.Proof.Gen.RmsFwdRefIdeal
public import proofs.«01_k».proof.Proof.Gen.RmsFwdRefIdeal.Run
public import proofs.«01_k».proof.Proof.Gen.RmsFwdRefIdeal.Read
public import proofs.«01_k».proof.Proof.Product
public import proofs.«01_k».proof.Proof.Gate
public import Idealize.ShloMosaic.Lib.Pipeline.ValueKit
public import Idealize.ShloMosaic.Lib.Pipeline.ReadBack

/-! The RMS norm of the rows: the array the kernel leaves, and that the reference leaves the same. -/

@[expose] public section
noncomputable section
namespace RmsFwd
open Idealize.ShloMosaic Idealize.ShloMosaic.TcCoe Idealize.SL.Sem Product

section kernel
open Cert.RmsFwdIdeal Cert.RmsFwdIdeal.Gen
set_option maxHeartbeats 800000

/-- A row `R`, divided by its root mean square and scaled. -/
def normed (R G : ℕ → EReal) (c : ℕ) : EReal :=
  R c * Ideal.rsqrt (Ideal.div (stretch 2048 0 fun k => R k * R k) (Ideal.ofBits .f32 0x45000000#32) + Ideal.ofBits .f32 0x3727C5AC#32) * G c

theorem block {x0 : Vec Ideal S512x2048 .f32} {x1 : Vec Ideal S1x2048 .f32} {H : ℕ → ℕ → EReal} {G : ℕ → EReal}
    (h0 : ∀ i, x0 i = H (i 0).val (i 1).val) (h1 : ∀ i, x1 i = G (i 1).val) (i : S512x2048.Idx) : out0_2 x0 x1 i = normed (H (i 0).val) G (i 1).val := by
  frame_out [↓View.readCov_skip, ↓View.readCov_fill]
  pointwise [k0_pay1]
  simp only [h0, h1]
  exact congrArg (fun z => H (i 0).val (i 1).val * Ideal.rsqrt (Ideal.div z (Ideal.ofBits .f32 0x45000000#32) + Ideal.ofBits .f32 0x3727C5AC#32) * G (i 1).val)
    (stretch_first 2048 fun k => H (i 0).val k * H (i 0).val k)

variable {m : (ℓ : Loc nD τ sig) → Buf (Elt Ideal) ℓ} {c : Dev nD} {H : ℕ → ℕ → EReal} {G : ℕ → EReal}

theorem index0_0 : ∀ t : Fin cfg0.N, win0_0.index t 0 = t.val := by decide +kernel
theorem index0_1 : ∀ t : Fin cfg0.N, win0_0.index t 1 = 0 := by decide +kernel
theorem index1_1 : ∀ t : Fin cfg0.N, win0_1.index t 1 = 0 := by decide +kernel
theorem index2_0 : ∀ t : Fin cfg0.N, win0_2.index t 0 = t.val := by decide +kernel
theorem index2_1 : ∀ t : Fin cfg0.N, win0_2.index t 1 = 0 := by decide +kernel

variable (hH : ∀ i : S8192x2048.Idx, V m c main_arg0 i = H (i 0).val (i 1).val) (hG : ∀ i : S1x2048.Idx, V m c main_arg1 i = G (i 1).val)

include hH in
theorem inH (t : Fin cfg0.N) (i : S512x2048.Idx) : (iblk m c 0 t : Vec Ideal S512x2048 .f32) i = H (t.val * 512 + (i 0).val) (i 1).val := by
  refine (hH ((win0_0.rect t).emb i)).trans ?_
  rw [win0_0.rect_emb_val t i 0, index0_0, win0_0.rect_emb_val_of_index_zero t 1 (index0_1 t) i]
  rfl
include hG in
theorem inG (t : Fin cfg0.N) (i : S1x2048.Idx) : (iblk m c 1 t : Vec Ideal S1x2048 .f32) i = G (i 1).val := by
  refine (hG ((win0_1.rect t).emb i)).trans ?_
  rw [win0_1.rect_emb_val_of_index_zero t 1 (index1_1 t) i]

/-- The norm of row `r`, at column `c`. -/
def norm (H : ℕ → ℕ → EReal) (G : ℕ → EReal) (r c : ℕ) : EReal := normed (H r) G c

include hH hG in
theorem array (i : S8192x2048.Idx) : (dats m 0 c).arrAt 2 cfg0.N i = norm H G (i 0).val (i 1).val := by
  refine (dats m 0 c).arrAt_forall_of_cover 2 (fun (i : S8192x2048.Idx) (v : EReal) => v = norm H G (i 0).val (i 1).val) (fun t ht y => ?_) (fun i => ?_) i
  · have e : (dats m 0 c).flushed 2 t y = out0_2 (iblk m c 0 t) (iblk m c 1 t) y := congrFun (Value.flushed2 m c t) y
    show (dats m 0 c).flushed 2 t y = norm H G ((win0_2.rect t).emb y 0).val ((win0_2.rect t).emb y 1).val
    rw [e, win0_2.rect_emb_val t y 0, index2_0, win0_2.rect_emb_val_of_index_zero t 1 (index2_1 t) y]
    exact block (H := fun r k => H (t.val * 512 + r) k) (inH hH t) (inG hG t) y
  · have hN : cfg0.N = 16 := N_0
    have b0 : (i 0).val < 8192 := (i 0).isLt
    have b1 : (i 1).val < 2048 := (i 1).isLt
    let t : Fin cfg0.N := ⟨(i 0).val / 512, by omega⟩
    refine ⟨t, flush0_2 t, ?_⟩
    show i ∈ ((View.whole main_v0).slice (win0_2.rect t)).set
    rw [View.set_slice_whole, win0_2.mem_rect_iff]
    intro a
    match a with
    | ⟨0, _⟩ =>
      show win0_2.index t 0 * 512 ≤ (i 0).val ∧ (i 0).val < win0_2.index t 0 * 512 + 512
      rw [index2_0]
      show ((i 0).val / 512) * 512 ≤ _ ∧ _ < ((i 0).val / 512) * 512 + 512
      omega
    | ⟨1, _⟩ =>
      show win0_2.index t 1 * 2048 ≤ (i 1).val ∧ (i 1).val < win0_2.index t 1 * 2048 + 2048
      rw [index2_1]
      omega
end kernel

section reference
open Cert.RmsFwdRefIdeal Cert.RmsFwdRefIdeal.Read
variable {x0 : S8192x2048.Idx → EReal} {x1 : S1x2048.Idx → EReal} {H : ℕ → ℕ → EReal} {G : ℕ → EReal}
variable (h0 : ∀ i, x0 i = H (i 0).val (i 1).val) (h1 : ∀ i, x1 i = G (i 1).val)

include h0 in
theorem ref_square (i : S8192.Idx) : val_main_v1 (F := Ideal) x0 i = stretch 2048 0 fun k => H (i 0).val k * H (i 0).val k := by
  simp only [val_main_v1_apply, val_main_cst_apply, val_main_v0_apply, Ideal.mulf_def, Ideal.ofBits_def, Gate.zero_lit, zero_add, h0]
  exact stretch_first 2048 fun k => H (i 0).val k * H (i 0).val k

include h0 h1 in
/-- The norm the reference leaves. -/
theorem ref (i : S8192x2048.Idx) : val_main_v12 (F := Ideal) x0 x1 i = norm H G (i 0).val (i 1).val := by
  simp only [val_main_v12_apply, val_main_v11_apply, val_main_v10_apply, val_main_v9_apply, val_main_v8_apply, val_main_v7_apply, val_main_v6_apply, val_main_v5_apply,
    val_main_v4_apply, val_main_v3_apply, val_main_v2_apply, val_main_cst_0_apply, val_main_cst_1_apply, Ideal.truncf_def, Ideal.addf_def, Ideal.mulf_def,
    Ideal.hostDivf_def, Ideal.hostUnary_rsqrt_def, Ideal.ofBits_def, ref_square h0, h0, h1]
  rfl
end reference

/-- The reference ends, keeps its arguments and leaves no signal. -/
theorem reference_frame : Cert.quiescent_RmsFwdRefIdeal := fun m g _ =>
  (θ_run Cert.RmsFwdRefIdeal.defs _ _).mono (fun r h => ⟨fun c => (h c).2, sem_eq_zero_of_no_sems (by decide) r.2⟩)
    (Cert.RmsFwdRefIdeal.Value.run m g)

/-- The two arrays agree. -/
theorem algebraic : Cert.algebraic_RmsFwdIdeal_RmsFwdRefIdeal := by
  intro m g m' g' _ hagree
  refine ⟨_, Cert.RmsFwdIdeal.Value.run_blocks m g, ?_⟩
  refine (θ_run Cert.RmsFwdRefIdeal.defs _ _).mono (fun r h c => ?_) (Cert.RmsFwdRefIdeal.Value.run m' g')
  obtain ⟨a0, a1⟩ := hagree c
  obtain ⟨e0, hk⟩ := h c
  obtain ⟨H, hH⟩ := table (m ((c.tc : Thread Cert.RmsFwdIdeal.nD Cert.RmsFwdIdeal.τ).loc Cert.RmsFwdIdeal.main_arg0))
  obtain ⟨G, hG⟩ := row (m ((c.tc : Thread Cert.RmsFwdIdeal.nD Cert.RmsFwdIdeal.τ).loc Cert.RmsFwdIdeal.main_arg1))
  refine ⟨?_, hk⟩
  rw [e0, Cert.RmsFwdRefIdeal.Read.val_main_v12_eq, a0, a1]
  exact funext fun i => (ref hH hG i).trans (array hH hG i).symm

end RmsFwd
-- ==== Proof.RmsGrad.lean ====
module

public import proofs.«01_k».proof.Proof.Product
public import proofs.«01_k».proof.Proof.Consts
public import Idealize.ShloMosaic.Lib.Pointwise

/-! The gradient of the RMS norm of a row, in the two spellings, and that they agree for every row of extended reals. Either the
mean square of the row is a positive real, and multiplication by reals distributes, or it is `⊤`, and both gradients are zero. -/

@[expose] public section
noncomputable section
namespace RmsGrad
open Idealize.ShloMosaic Product

/-- The mean square of a row, and the epsilon. -/
def square (R : ℕ → EReal) : EReal :=
  Ideal.div (stretch 2048 0 fun k => R k * R k) (Ideal.ofBits .f32 0x45000000#32) + Ideal.ofBits .f32 0x3727C5AC#32

/-- One over the root of the mean square. -/
def inv (R : ℕ → EReal) : EReal := Ideal.rsqrt (square R)

/-- The gradient at column `c` of row `R`, of which the norm's cotangent times the scale is `Q`: without the mean along the row. -/
def grad (R Q : ℕ → EReal) (c : ℕ) : EReal :=
  inv R * (Q c - R c * inv R * Ideal.div (stretch 2048 0 fun k => Q k * (R k * inv R)) (Ideal.ofBits .f32 0x45000000#32))

/-- The derivative through the mean square, per element of the row and halved. -/
def through (R Q : ℕ → EReal) : EReal :=
  Ideal.div ((stretch 2048 0 fun k => R k * Q k) * (Ideal.ofBits .f32 0xBF000000#32 * Ideal.div (inv R) (square R))) (Ideal.ofBits .f32 0x45000000#32)

theorem lit_2048 : Ideal.ofBits .f32 0x45000000#32 = ((2048 : ℝ) : EReal) := by
  simp [Ideal.ofBits, Ideal.ieee, -EReal.coe_mul]; norm_num

theorem div_2048 (x : EReal) : Ideal.div x ((2048 : ℝ) : EReal) = x * ((1 / 2048 : ℝ) : EReal) := Ideal.div_coe (by norm_num) x

theorem square_nonneg (x : EReal) : 0 ≤ x * x := by
  induction x using EReal.rec with
  | bot => simp
  | coe a => exact_mod_cast mul_self_nonneg a
  | top => simp

/-- The mean square with its epsilon is positive. -/
theorem square_pos (R : ℕ → EReal) : 0 < square R := by
  unfold square stretch
  rw [lit_2048, div_2048, Sgu.lit_eps]
  have h1 : (0 : EReal) ≤ ∑ k ∈ Finset.range 2048, R (0 * 2048 + k) * R (0 * 2048 + k) := Finset.sum_nonneg fun k _ => square_nonneg _
  have h2 : (0 : EReal) ≤ ((1 / 2048 : ℝ) : EReal) := by exact_mod_cast (by norm_num : (0 : ℝ) ≤ 1 / 2048)
  have h3 : (0 : EReal) < ((Sgu.eps : ℝ) : EReal) := by exact_mod_cast Sgu.eps_pos
  exact lt_of_lt_of_le h3 (le_add_of_nonneg_left (mul_nonneg h1 h2))

/-- A sum over a stretch, scaled by a real that is not negative. -/
theorem stretch_scale (n q : ℕ) (f : ℕ → EReal) {a : ℝ} (h : 0 ≤ a) : stretch n q (fun k => f k * (a : EReal)) = stretch n q f * (a : EReal) :=
  (map_sum (⟨⟨fun z => z * (a : EReal), zero_mul _⟩, fun y z => EReal.right_distrib_of_nonneg_of_ne_top (by exact_mod_cast h) (EReal.coe_ne_top a) y z⟩ : EReal →+ EReal)
    (fun k => f (q * n + k)) (Finset.range n)).symm

/-- Twice an extended real. -/
theorem twice (t : EReal) : t + t = ((2 : ℝ) : EReal) * t := by
  have h : (((1 : ℝ) : EReal) + ((1 : ℝ) : EReal)) * t = ((1 : ℝ) : EReal) * t + ((1 : ℝ) : EReal) * t :=
    EReal.right_distrib_of_nonneg (by exact_mod_cast zero_le_one) (by exact_mod_cast zero_le_one)
  rw [← EReal.coe_add, EReal.coe_one, one_mul] at h
  rw [← h]
  norm_num

theorem inv_real {R : ℕ → EReal} {v : ℝ} (h : square R = (v : EReal)) (hv : 0 < v) : inv R = (((Real.sqrt v)⁻¹ : ℝ) : EReal) := by
  rw [inv, h, Sgu.rsqrt_real v hv]

/-- The two gradients agree. -/
theorem grad_eq (R Q : ℕ → EReal) (c : ℕ) : Q c * inv R + R c * through R Q + through R Q * R c = grad R Q c := by
  have hp := square_pos R
  unfold grad through
  rw [lit_2048, div_2048, div_2048, Sgu.lit_neg_half]
  generalize hv : square R = s at hp
  induction s using EReal.rec with
  | bot => exact absurd hp not_lt_bot
  | top =>
    have hi : inv R = 0 := by rw [inv, hv]; rfl
    have hd : Ideal.div 0 (⊤ : EReal) = 0 := by rw [Ideal.div, if_neg EReal.top_ne_zero, zero_mul]
    rw [hi, hd]
    simp only [mul_zero, zero_mul, add_zero]
  | coe v =>
    have h0 : 0 < v := by exact_mod_cast hp
    have hi := inv_real hv h0
    generalize hq : (Real.sqrt v)⁻¹ = q at hi
    have q0 : 0 ≤ q := by rw [← hq]; exact inv_nonneg.2 (Real.sqrt_nonneg v)
    have hqv : q / v = q * (q * q) := by
      have : q * q = v⁻¹ := by rw [← hq, ← mul_inv, Real.mul_self_sqrt h0.le]
      rw [this, div_eq_mul_inv]
    have hs : (stretch 2048 0 fun k => Q k * (R k * (q : EReal))) = (stretch 2048 0 fun k => R k * Q k) * (q : EReal) := by
      rw [← stretch_scale 2048 0 (fun k => R k * Q k) q0]
      exact congrArg (stretch 2048 0) (funext fun k => by rw [← mul_assoc, mul_comm (Q k)])
    rw [hi, hs, Sgu.div_real q v h0.ne', hqv]
    generalize (stretch 2048 0 fun k => R k * Q k) = S
    generalize R c = x
    generalize Q c = y
    have e1 : x * (S * (((-(1 / 2) : ℝ) : EReal) * ((q * (q * q) : ℝ) : EReal)) * ((1 / 2048 : ℝ) : EReal))
        = x * S * ((-(1 / 2) * (q * (q * q)) * (1 / 2048) : ℝ) : EReal) := by
      simp only [EReal.coe_mul]; ac_rfl
    have e2 : x * (q : EReal) * (S * (q : EReal) * ((1 / 2048 : ℝ) : EReal)) = x * S * ((q * q * (1 / 2048) : ℝ) : EReal) := by
      simp only [EReal.coe_mul]; ac_rfl
    have e3 : (q : EReal) * -(x * S * ((q * q * (1 / 2048) : ℝ) : EReal)) = ((2 : ℝ) : EReal) * (x * S * ((-(1 / 2) * (q * (q * q)) * (1 / 2048) : ℝ) : EReal)) := by
      have f1 : -(x * S * ((q * q * (1 / 2048) : ℝ) : EReal)) = x * S * ((-(q * q * (1 / 2048)) : ℝ) : EReal) := by
        rw [EReal.coe_neg, mul_neg]
      rw [f1, mul_left_comm, ← EReal.coe_mul, mul_left_comm ((2 : ℝ) : EReal), ← EReal.coe_mul]
      congr 2
      ring
    rw [mul_comm (S * _ * _) x, e1, e2, sub_eq_add_neg, EReal.left_distrib_of_nonneg_of_ne_top (by exact_mod_cast q0) (EReal.coe_ne_top q), e3, ← twice,
      add_assoc, mul_comm y]

end RmsGrad
-- ==== Proof.RmsBwd.lean ====
module

public import proofs.«01_k».proof.Defs
public import proofs.«01_k».proof.Proof.Gen.RmsBwd.Frame
public import proofs.«01_k».proof.Proof.Gen.RmsBwdIdeal.Frame
public import proofs.«01_k».proof.Proof.Gen.RmsBwdIdeal.Value
public import proofs.«01_k».proof.Proof.Gen.RmsBwdRefIdeal
public import proofs.«01_k».proof.Proof.Gen.RmsBwdRefIdeal.Run
public import proofs.«01_k».proof.Proof.Gen.RmsBwdRefIdeal.Read
public import proofs.«01_k».proof.Proof.RmsGrad
public import proofs.«01_k».proof.Proof.Gate
public import Idealize.ShloMosaic.Lib.Pipeline.ValueKit
public import Idealize.ShloMosaic.Lib.Pipeline.ReadBack

/-! The gradient of the RMS norm of the rows, and that of its scale: the three arrays the kernel leaves, and that the reference leaves the same. -/

@[expose] public section
noncomputable section
namespace RmsBwd
open Idealize.ShloMosaic Idealize.ShloMosaic.TcCoe Idealize.SL.Sem Product RmsGrad

/-- The gradient of row `r` at column `c`, added to what comes from above. -/
def dx (H Y U : ℕ → ℕ → EReal) (G : ℕ → EReal) (r c : ℕ) : EReal := U r c + grad (H r) (fun k => Y r k * G k) c
/-- One row's part of the gradient of the scale. -/
def dg (H Y : ℕ → ℕ → EReal) (c r : ℕ) : EReal := Y r c * (H r c * inv (H r))
/-- The gradient of the scale: the sum over the rows. -/
def dgs (H Y : ℕ → ℕ → EReal) (c : ℕ) : EReal := stretch 8192 0 (dg H Y c)

section kernel
open Cert.RmsBwdIdeal Cert.RmsBwdIdeal.Gen
set_option maxHeartbeats 800000

section block
variable {x0 : Vec Ideal S512x2048 .f32} {x1 : Vec Ideal S512x2048 .bf16} {x2 : Vec Ideal S512x2048 .f32} {x3 : Vec Ideal S1x2048 .f32}
variable {H Y U : ℕ → ℕ → EReal} {G : ℕ → EReal}
variable (h0 : ∀ i, x0 i = H (i 0).val (i 1).val) (h1 : ∀ i, x1 i = Y (i 0).val (i 1).val) (h2 : ∀ i, x2 i = U (i 0).val (i 1).val) (h3 : ∀ i, x3 i = G (i 1).val)

include h0 in
theorem root (i : S512x1.Idx) : k0_pay3 x0 i = inv (H (i 0).val) := by
  pointwise [k0_pay3]
  simp only [h0]
  exact congrArg (fun z => Ideal.rsqrt (Ideal.div z (Ideal.ofBits .f32 0x45000000#32) + Ideal.ofBits .f32 0x3727C5AC#32)) (stretch_first 2048 fun k => H (i 0).val k * H (i 0).val k)

include h0 in
theorem scaled (i : S512x2048.Idx) : k0_pay4 x0 i = H (i 0).val (i 1).val * inv (H (i 0).val) := by
  pointwise [k0_pay4]
  rw [root h0, h0]
  rfl

include h0 h1 h3 in
theorem slope (i : S512x2048.Idx) : k0_pay5 x0 x1 x3 i = grad (H (i 0).val) (fun k => Y (i 0).val k * G k) (i 1).val := by
  pointwise [k0_pay5, k0_pay2]
  simp only [root h0, scaled h0, h1, h3]
  exact congrArg (fun z => inv (H (i 0).val) * (Y (i 0).val (i 1).val * G (i 1).val - H (i 0).val (i 1).val * inv (H (i 0).val) * Ideal.div z (Ideal.ofBits .f32 0x45000000#32)))
    (stretch_first 2048 fun k => Y (i 0).val k * G k * (H (i 0).val k * inv (H (i 0).val)))

include h0 h1 in
theorem part (acc : Vec Ideal S1x2048 .f32) (i : S1x2048.Idx) : k0_pay1 (k0_pay2 x1) (k0_pay4 x0) acc i = acc i + stretch 512 0 (dg H Y (i 1).val) := by
  pointwise [k0_pay1, k0_pay2]
  simp only [scaled h0, h1]
  exact congrArg (acc i + ·) (stretch_first 512 (dg H Y (i 1).val))

theorem zeros (i : S1x2048.Idx) : (k0_pay8 : FVec Ideal S1x2048 .f32) i = 0 := by
  pointwise [k0_pay8]

include h0 h1 h2 h3 in
theorem blockA4 {c : Dev nD} {g : grid0.Coords} {a0 : Memref sig .tc .vmem S512x2048 .f32} {e0 : a0.IsWhole} {a1 : Memref sig .tc .vmem S512x2048 .bf16} {e1 : a1.IsWhole} {a2 : Memref sig .tc .vmem S512x2048 .f32} {e2 : a2.IsWhole} {a3 : Memref sig .tc .vmem S1x2048 .f32} {e3 : a3.IsWhole} {a4 : Memref sig .tc .vmem S512x2048 .f32} {e4 : a4.IsWhole} {a5 : Memref sig .tc .vmem S512x2048 .bf16} {e5 : a5.IsWhole} {a6 : Memref sig .tc .vmem S1x2048 .f32} {e6 : a6.IsWhole} {hc} (i : S512x2048.Idx) :
    out0_A_4 (F := Ideal) c g a0 e0 a1 e1 a2 e2 a3 e3 a4 e4 a5 e5 a6 e6 hc x0 x1 x2 x3 i = dx H Y U G (i 0).val (i 1).val := by
  frame_out [↓View.readCov_skip, ↓View.readCov_fill]
  pointwise [k0_pay6]
  rw [slope h0 h1 h3, h2]
  rfl

include h0 h1 h2 h3 in
theorem blockA5 {c : Dev nD} {g : grid0.Coords} {a0 : Memref sig .tc .vmem S512x2048 .f32} {e0 : a0.IsWhole} {a1 : Memref sig .tc .vmem S512x2048 .bf16} {e1 : a1.IsWhole} {a2 : Memref sig .tc .vmem S512x2048 .f32} {e2 : a2.IsWhole} {a3 : Memref sig .tc .vmem S1x2048 .f32} {e3 : a3.IsWhole} {a4 : Memref sig .tc .vmem S512x2048 .f32} {e4 : a4.IsWhole} {a5 : Memref sig .tc .vmem S512x2048 .bf16} {e5 : a5.IsWhole} {a6 : Memref sig .tc .vmem S1x2048 .f32} {e6 : a6.IsWhole} {hc} (i : S512x2048.Idx) :
    out0_A_5 (F := Ideal) c g a0 e0 a1 e1 a2 e2 a3 e3 a4 e4 a5 e5 a6 e6 hc x0 x1 x2 x3 i = dx H Y U G (i 0).val (i 1).val := by
  frame_out [↓View.readCov_skip, ↓View.readCov_fill]
  pointwise [k0_pay7]
  rw [slope h0 h1 h3, h2]
  rfl

include h0 h1 h2 h3 in
theorem blockB4 {c : Dev nD} {g : grid0.Coords} {a0 : Memref sig .tc .vmem S512x2048 .f32} {e0 : a0.IsWhole} {a1 : Memref sig .tc .vmem S512x2048 .bf16} {e1 : a1.IsWhole} {a2 : Memref sig .tc .vmem S512x2048 .f32} {e2 : a2.IsWhole} {a3 : Memref sig .tc .vmem S1x2048 .f32} {e3 : a3.IsWhole} {a4 : Memref sig .tc .vmem S512x2048 .f32} {e4 : a4.IsWhole} {a5 : Memref sig .tc .vmem S512x2048 .bf16} {e5 : a5.IsWhole} {a6 : Memref sig .tc .vmem S1x2048 .f32} {e6 : a6.IsWhole} {hc} (prev : Vec Ideal S1x2048 .f32) (i : S512x2048.Idx) :
    out0_B_4 (F := Ideal) c g a0 e0 a1 e1 a2 e2 a3 e3 a4 e4 a5 e5 a6 e6 hc x0 x1 x2 x3 prev i = dx H Y U G (i 0).val (i 1).val := by
  frame_out [↓View.readCov_skip, ↓View.readCov_fill]
  pointwise [k0_pay6]
  rw [slope h0 h1 h3, h2]
  rfl

include h0 h1 h2 h3 in
theorem blockB5 {c : Dev nD} {g : grid0.Coords} {a0 : Memref sig .tc .vmem S512x2048 .f32} {e0 : a0.IsWhole} {a1 : Memref sig .tc .vmem S512x2048 .bf16} {e1 : a1.IsWhole} {a2 : Memref sig .tc .vmem S512x2048 .f32} {e2 : a2.IsWhole} {a3 : Memref sig .tc .vmem S1x2048 .f32} {e3 : a3.IsWhole} {a4 : Memref sig .tc .vmem S512x2048 .f32} {e4 : a4.IsWhole} {a5 : Memref sig .tc .vmem S512x2048 .bf16} {e5 : a5.IsWhole} {a6 : Memref sig .tc .vmem S1x2048 .f32} {e6 : a6.IsWhole} {hc} (prev : Vec Ideal S1x2048 .f32) (i : S512x2048.Idx) :
    out0_B_5 (F := Ideal) c g a0 e0 a1 e1 a2 e2 a3 e3 a4 e4 a5 e5 a6 e6 hc x0 x1 x2 x3 prev i = dx H Y U G (i 0).val (i 1).val := by
  frame_out [↓View.readCov_skip, ↓View.readCov_fill]
  pointwise [k0_pay7]
  rw [slope h0 h1 h3, h2]
  rfl

include h0 h1 in
theorem blockA6 {c : Dev nD} {g : grid0.Coords} {a0 : Memref sig .tc .vmem S512x2048 .f32} {e0 : a0.IsWhole} {a1 : Memref sig .tc .vmem S512x2048 .bf16} {e1 : a1.IsWhole} {a2 : Memref sig .tc .vmem S512x2048 .f32} {e2 : a2.IsWhole} {a3 : Memref sig .tc .vmem S1x2048 .f32} {e3 : a3.IsWhole} {a4 : Memref sig .tc .vmem S512x2048 .f32} {e4 : a4.IsWhole} {a5 : Memref sig .tc .vmem S512x2048 .bf16} {e5 : a5.IsWhole} {a6 : Memref sig .tc .vmem S1x2048 .f32} {e6 : a6.IsWhole} {hc} (i : S1x2048.Idx) :
    out0_A_6 (F := Ideal) c g a0 e0 a1 e1 a2 e2 a3 e3 a4 e4 a5 e5 a6 e6 hc x0 x1 x2 x3 i = (k0_pay8 : FVec Ideal S1x2048 .f32) i + stretch 512 0 (dg H Y (i 1).val) := by
  frame_out [↓View.readCov_skip, ↓View.readCov_fill]
  exact part h0 h1 _ i

include h0 h1 in
theorem blockB6 {c : Dev nD} {g : grid0.Coords} {a0 : Memref sig .tc .vmem S512x2048 .f32} {e0 : a0.IsWhole} {a1 : Memref sig .tc .vmem S512x2048 .bf16} {e1 : a1.IsWhole} {a2 : Memref sig .tc .vmem S512x2048 .f32} {e2 : a2.IsWhole} {a3 : Memref sig .tc .vmem S1x2048 .f32} {e3 : a3.IsWhole} {a4 : Memref sig .tc .vmem S512x2048 .f32} {e4 : a4.IsWhole} {a5 : Memref sig .tc .vmem S512x2048 .bf16} {e5 : a5.IsWhole} {a6 : Memref sig .tc .vmem S1x2048 .f32} {e6 : a6.IsWhole} {hc} (prev : Vec Ideal S1x2048 .f32) (i : S1x2048.Idx) :
    out0_B_6 (F := Ideal) c g a0 e0 a1 e1 a2 e2 a3 e3 a4 e4 a5 e5 a6 e6 hc x0 x1 x2 x3 prev i = prev i + stretch 512 0 (dg H Y (i 1).val) := by
  frame_out [↓View.readCov_skip, ↓View.readCov_fill]
  exact part h0 h1 _ i
end block

variable {m : (ℓ : Loc nD τ sig) → Buf (Elt Ideal) ℓ} {c : Dev nD} {H Y U : ℕ → ℕ → EReal} {G : ℕ → EReal}

theorem index0_0 : ∀ t : Fin cfg0.N, win0_0.index t 0 = t.val := by decide +kernel
theorem index0_1 : ∀ t : Fin cfg0.N, win0_0.index t 1 = 0 := by decide +kernel
theorem index1_0 : ∀ t : Fin cfg0.N, win0_1.index t 0 = t.val := by decide +kernel
theorem index1_1 : ∀ t : Fin cfg0.N, win0_1.index t 1 = 0 := by decide +kernel
theorem index2_0 : ∀ t : Fin cfg0.N, win0_2.index t 0 = t.val := by decide +kernel
theorem index2_1 : ∀ t : Fin cfg0.N, win0_2.index t 1 = 0 := by decide +kernel
theorem index4_0 : ∀ t : Fin cfg0.N, win0_4.index t 0 = t.val := by decide +kernel
theorem index4_1 : ∀ t : Fin cfg0.N, win0_4.index t 1 = 0 := by decide +kernel
theorem index5_0 : ∀ t : Fin cfg0.N, win0_5.index t 0 = t.val := by decide +kernel
theorem index5_1 : ∀ t : Fin cfg0.N, win0_5.index t 1 = 0 := by decide +kernel
theorem index3_1 : ∀ t : Fin cfg0.N, win0_3.index t 1 = 0 := by decide +kernel
theorem index6_0 : ∀ t : Fin cfg0.N, win0_6.index t 0 = 0 := by decide +kernel
theorem index6_1 : ∀ t : Fin cfg0.N, win0_6.index t 1 = 0 := by decide +kernel

variable (hH : ∀ i : S8192x2048.Idx, V m c main_arg0 i = H (i 0).val (i 1).val) (hY : ∀ i : S8192x2048.Idx, V m c main_arg2 i = Y (i 0).val (i 1).val)
variable (hU : ∀ i : S8192x2048.Idx, V m c main_arg3 i = U (i 0).val (i 1).val) (hG : ∀ i : S1x2048.Idx, V m c main_arg1 i = G (i 1).val)

include hH in
theorem inH (t : Fin cfg0.N) (i : S512x2048.Idx) : (iblk m c 0 t : Vec Ideal S512x2048 .f32) i = H (t.val * 512 + (i 0).val) (i 1).val := by
  refine (hH ((win0_0.rect t).emb i)).trans ?_
  rw [win0_0.rect_emb_val t i 0, index0_0, win0_0.rect_emb_val_of_index_zero t 1 (index0_1 t) i]
  rfl

include hY in
theorem inY (t : Fin cfg0.N) (i : S512x2048.Idx) : (iblk m c 1 t : Vec Ideal S512x2048 .bf16) i = Y (t.val * 512 + (i 0).val) (i 1).val := by
  refine (hY ((win0_1.rect t).emb i)).trans ?_
  rw [win0_1.rect_emb_val t i 0, index1_0, win0_1.rect_emb_val_of_index_zero t 1 (index1_1 t) i]
  rfl

include hU in
theorem inU (t : Fin cfg0.N) (i : S512x2048.Idx) : (iblk m c 2 t : Vec Ideal S512x2048 .f32) i = U (t.val * 512 + (i 0).val) (i 1).val := by
  refine (hU ((win0_2.rect t).emb i)).trans ?_
  rw [win0_2.rect_emb_val t i 0, index2_0, win0_2.rect_emb_val_of_index_zero t 1 (index2_1 t) i]
  rfl

include hG in
theorem inG (t : Fin cfg0.N) (i : S1x2048.Idx) : (iblk m c 3 t : Vec Ideal S1x2048 .f32) i = G (i 1).val := by
  refine (hG ((win0_3.rect t).emb i)).trans ?_
  rw [win0_3.rect_emb_val_of_index_zero t 1 (index3_1 t) i]

include hH hY hU hG in
theorem stored4 (t : Fin cfg0.N) (i : S512x2048.Idx) : (outsAt0 m c t.val t.isLt).1 i = dx H Y U G (t.val * 512 + (i 0).val) (i 1).val := by
  by_cases h0 : t.val % 16 = 0
  · rw [outsAt0_A m c t h0]
    dsimp only
    exact blockA4 (H := fun r k => H (t.val * 512 + r) k) (Y := fun r k => Y (t.val * 512 + r) k) (U := fun r k => U (t.val * 512 + r) k) (inH hH t) (inY hY t) (inU hU t) (inG hG t) i
  · rw [outsAt0_B m c t h0]
    dsimp only
    exact blockB4 (H := fun r k => H (t.val * 512 + r) k) (Y := fun r k => Y (t.val * 512 + r) k) (U := fun r k => U (t.val * 512 + r) k) (inH hH t) (inY hY t) (inU hU t) (inG hG t) _ i

include hH hY hU hG in
theorem stored5 (t : Fin cfg0.N) (i : S512x2048.Idx) : (outsAt0 m c t.val t.isLt).2.1 i = dx H Y U G (t.val * 512 + (i 0).val) (i 1).val := by
  by_cases h0 : t.val % 16 = 0
  · rw [outsAt0_A m c t h0]
    dsimp only
    exact blockA5 (H := fun r k => H (t.val * 512 + r) k) (Y := fun r k => Y (t.val * 512 + r) k) (U := fun r k => U (t.val * 512 + r) k) (inH hH t) (inY hY t) (inU hU t) (inG hG t) i
  · rw [outsAt0_B m c t h0]
    dsimp only
    exact blockB5 (H := fun r k => H (t.val * 512 + r) k) (Y := fun r k => Y (t.val * 512 + r) k) (U := fun r k => U (t.val * 512 + r) k) (inH hH t) (inY hY t) (inU hU t) (inG hG t) _ i

/-- A sum over sixteen stretches of 512. -/
theorem stretch_sixteen (f : ℕ → EReal) : ∑ s : Fin 16, stretch 512 s.val f = stretch 8192 0 f := by
  have e : ∀ n : ℕ, ∑ s ∈ Finset.range n, stretch 512 s f = ∑ k ∈ Finset.range (n * 512), f k := fun n => by
    induction n with
    | zero => simp
    | succ n ih => rw [Finset.sum_range_succ, ih, Nat.succ_mul, Finset.sum_range_add]; rfl
  rw [Fin.sum_univ_eq_sum_range (fun s => stretch 512 s f), e]
  simp only [stretch, zero_mul, zero_add]

include hH hY in
/-- What the last point leaves of the gradient of the scale. -/
theorem stored6 (t : Fin cfg0.N) (ht : t.val % 16 = 15) (i : S1x2048.Idx) : (outsAt0 m c t.val t.isLt).2.2 i = dgs H Y (i 1).val := by
  have := Idealize.ShloMosaic.Pipeline.eq_sum_fin_of_reset_step_apply_of_flush (fun n h => (outsAt0 m c n h).2.2) 16 (k0_pay8 : FVec Ideal S1x2048 .f32)
    (fun p i => stretch 512 0 fun r => dg H Y (i 1).val (p.val * 512 + r))
    (fun t h0 i => by
      show (outsAt0 m c t.val t.isLt).2.2 i = _
      rw [outsAt0_A m c t h0]
      dsimp only
      exact blockA6 (H := fun r k => H (t.val * 512 + r) k) (Y := fun r k => Y (t.val * 512 + r) k) (inH hH t) (inY hY t) i)
    (fun t h0 i => by
      show (outsAt0 m c t.val t.isLt).2.2 i = _
      rw [outsAt0_B m c t h0]
      dsimp only
      exact blockB6 (H := fun r k => H (t.val * 512 + r) k) (Y := fun r k => Y (t.val * 512 + r) k) (inH hH t) (inY hY t) _ i) t ht i
  refine this.trans ?_
  rw [zeros, zero_add]
  have hN : cfg0.N = 16 := N_0
  have hb := t.isLt
  refine (Finset.sum_congr rfl fun s _ => ?_).trans (stretch_sixteen (dg H Y (i 1).val))
  have hs : 16 * (t.val / 16) + s.val = s.val := by omega
  show (stretch 512 0 fun r => dg H Y (i 1).val ((16 * (t.val / 16) + s.val) * 512 + r)) = _
  rw [hs]
  exact stretch_shift 512 s.val (dg H Y (i 1).val)

include hH hY hU hG in
theorem array4 (i : S8192x2048.Idx) : (dats m 0 c).arrAt 4 cfg0.N i = dx H Y U G (i 0).val (i 1).val := by
  refine (dats m 0 c).arrAt_forall_of_cover 4 (fun (i : S8192x2048.Idx) (v : EReal) => v = dx H Y U G (i 0).val (i 1).val) (fun t ht y => ?_) (fun i => ?_) i
  · have e : (dats m 0 c).flushed 4 t y = (outsAt0 m c t.val t.isLt).1 y := congrFun (Value.flushed4 m c t) y
    show (dats m 0 c).flushed 4 t y = dx H Y U G ((win0_4.rect t).emb y 0).val ((win0_4.rect t).emb y 1).val
    rw [e, win0_4.rect_emb_val t y 0, index4_0, win0_4.rect_emb_val_of_index_zero t 1 (index4_1 t) y]
    exact stored4 hH hY hU hG t y
  · have hN : cfg0.N = 16 := N_0
    have b0 : (i 0).val < 8192 := (i 0).isLt
    have b1 : (i 1).val < 2048 := (i 1).isLt
    let t : Fin cfg0.N := ⟨(i 0).val / 512, by omega⟩
    refine ⟨t, flush0_4 t, ?_⟩
    show i ∈ ((View.whole main_v0_0).slice (win0_4.rect t)).set
    rw [View.set_slice_whole, win0_4.mem_rect_iff]
    intro a
    match a with
    | ⟨0, _⟩ =>
      show win0_4.index t 0 * 512 ≤ (i 0).val ∧ (i 0).val < win0_4.index t 0 * 512 + 512
      rw [index4_0]
      show ((i 0).val / 512) * 512 ≤ _ ∧ _ < ((i 0).val / 512) * 512 + 512
      omega
    | ⟨1, _⟩ =>
      show win0_4.index t 1 * 2048 ≤ (i 1).val ∧ (i 1).val < win0_4.index t 1 * 2048 + 2048
      rw [index4_1]
      omega

include hH hY hU hG in
theorem array5 (i : S8192x2048.Idx) : (dats m 0 c).arrAt 5 cfg0.N i = dx H Y U G (i 0).val (i 1).val := by
  refine (dats m 0 c).arrAt_forall_of_cover 5 (fun (i : S8192x2048.Idx) (v : EReal) => v = dx H Y U G (i 0).val (i 1).val) (fun t ht y => ?_) (fun i => ?_) i
  · have e : (dats m 0 c).flushed 5 t y = (outsAt0 m c t.val t.isLt).2.1 y := congrFun (Value.flushed5 m c t) y
    show (dats m 0 c).flushed 5 t y = dx H Y U G ((win0_5.rect t).emb y 0).val ((win0_5.rect t).emb y 1).val
    rw [e, win0_5.rect_emb_val t y 0, index5_0, win0_5.rect_emb_val_of_index_zero t 1 (index5_1 t) y]
    exact stored5 hH hY hU hG t y
  · have hN : cfg0.N = 16 := N_0
    have b0 : (i 0).val < 8192 := (i 0).isLt
    have b1 : (i 1).val < 2048 := (i 1).isLt
    let t : Fin cfg0.N := ⟨(i 0).val / 512, by omega⟩
    refine ⟨t, flush0_5 t, ?_⟩
    show i ∈ ((View.whole main_v0_1).slice (win0_5.rect t)).set
    rw [View.set_slice_whole, win0_5.mem_rect_iff]
    intro a
    match a with
    | ⟨0, _⟩ =>
      show win0_5.index t 0 * 512 ≤ (i 0).val ∧ (i 0).val < win0_5.index t 0 * 512 + 512
      rw [index5_0]
      show ((i 0).val / 512) * 512 ≤ _ ∧ _ < ((i 0).val / 512) * 512 + 512
      omega
    | ⟨1, _⟩ =>
      show win0_5.index t 1 * 2048 ≤ (i 1).val ∧ (i 1).val < win0_5.index t 1 * 2048 + 2048
      rw [index5_1]
      omega

include hH hY in
theorem array6 (i : S1x2048.Idx) : (dats m 0 c).arrAt 6 cfg0.N i = dgs H Y (i 1).val := by
  refine (dats m 0 c).arrAt_forall_of_cover 6 (fun (i : S1x2048.Idx) (v : EReal) => v = dgs H Y (i 1).val) (fun t ht y => ?_) (fun i => ?_) i
  · have e : (dats m 0 c).flushed 6 t y = (outsAt0 m c t.val t.isLt).2.2 y := congrFun (Value.flushed6 m c t) y
    show (dats m 0 c).flushed 6 t y = dgs H Y ((win0_6.rect t).emb y 1).val
    rw [e, win0_6.rect_emb_val_of_index_zero t 1 (index6_1 t) y]
    exact stored6 hH hY t ((flush0_6 t).mp ht) y
  · have hN : cfg0.N = 16 := N_0
    have b0 : (i 0).val < 1 := (i 0).isLt
    have b1 : (i 1).val < 2048 := (i 1).isLt
    let t : Fin cfg0.N := ⟨15, by omega⟩
    refine ⟨t, (flush0_6 t).mpr rfl, ?_⟩
    show i ∈ ((View.whole main_v0_2).slice (win0_6.rect t)).set
    rw [View.set_slice_whole, win0_6.mem_rect_iff]
    intro a
    match a with
    | ⟨0, _⟩ =>
      show win0_6.index t 0 * 1 ≤ (i 0).val ∧ (i 0).val < win0_6.index t 0 * 1 + 1
      rw [index6_0]
      omega
    | ⟨1, _⟩ =>
      show win0_6.index t 1 * 2048 ≤ (i 1).val ∧ (i 1).val < win0_6.index t 1 * 2048 + 2048
      rw [index6_1]
      omega
end kernel

section reference
open Cert.RmsBwdRefIdeal Cert.RmsBwdRefIdeal.Read
variable {x0 x2 x3 : S8192x2048.Idx → EReal} {x1 : S1x2048.Idx → EReal} {H Y U : ℕ → ℕ → EReal} {G : ℕ → EReal}
variable (h0 : ∀ i, x0 i = H (i 0).val (i 1).val) (h1 : ∀ i, x1 i = G (i 1).val) (h2 : ∀ i, x2 i = Y (i 0).val (i 1).val) (h3 : ∀ i, x3 i = U (i 0).val (i 1).val)

include h0 in
theorem ref_square (i : S8192x1.Idx) : val_main_v6 (F := Ideal) x0 i = square (H (i 0).val) := by
  simp only [val_main_v6_apply, val_main_v5_apply, val_main_v4_apply, val_main_v3_apply, val_main_v2_apply, val_main_v1_apply, val_main_v0_apply, val_main_cst_apply,
    val_main_cst_0_apply, val_main_cst_1_apply, Ideal.addf_def, Ideal.mulf_def, Ideal.hostDivf_def, Ideal.ofBits_def, Gate.zero_lit, zero_add, h0]
  exact congrArg (fun z => Ideal.div z (Ideal.ofBits .f32 0x45000000#32) + Ideal.ofBits .f32 0x3727C5AC#32) (stretch_first 2048 fun k => H (i 0).val k * H (i 0).val k)

include h0 in
theorem ref_inv (i : S8192x1.Idx) : val_main_v7 (F := Ideal) x0 i = inv (H (i 0).val) := by
  rw [val_main_v7_apply, Ideal.hostUnary_rsqrt_def, ref_square h0]
  rfl

include h0 h1 h2 in
theorem ref_dot (i : S8192.Idx) : val_main_v22 (F := Ideal) x0 x1 x2 i = stretch 2048 0 fun k => H (i 0).val k * (Y (i 0).val k * G k) := by
  simp only [val_main_v22_apply, val_main_v21_apply, val_main_v20_apply, val_main_v19_apply, val_main_v15_apply, val_main_cst_4_apply, Ideal.extf_def, Ideal.mulf_def,
    Ideal.ofBits_def, Gate.zero_lit, zero_add, h0, h1, h2]
  exact stretch_first 2048 fun k => H (i 0).val k * (Y (i 0).val k * G k)

include h0 h1 h2 in
theorem ref_through (i : S8192x1.Idx) : val_main_v28 (F := Ideal) x0 x1 x2 i = through (H (i 0).val) fun k => Y (i 0).val k * G k := by
  have e : (i 0).val * 1 + (i 1).val = (i 0).val := by
    have b1 : (i 1).val < 1 := (i 1).isLt
    omega
  simp only [val_main_v28_apply, val_main_v27_apply, val_main_v26_apply, val_main_v23_apply, val_main_v10_apply, val_main_v9_apply, val_main_v8_apply, val_main_cst_2_apply,
    val_main_cst_5_apply, Ideal.hostDivf_def, Ideal.mulf_def, Ideal.ofBits_def, ref_dot h0 h1 h2, ref_inv h0, ref_square h0, e]
  rfl

include h0 h1 h2 in
theorem ref_grad (i : S8192x2048.Idx) : val_main_v34 (F := Ideal) x0 x1 x2 i = grad (H (i 0).val) (fun k => Y (i 0).val k * G k) (i 1).val := by
  refine Eq.trans ?_ (grad_eq (H (i 0).val) (fun k => Y (i 0).val k * G k) (i 1).val)
  simp only [val_main_v34_apply, val_main_v33_apply, val_main_v32_apply, val_main_v31_apply, val_main_v30_apply, val_main_v29_apply, val_main_v25_apply, val_main_v24_apply,
    val_main_v20_apply, val_main_v19_apply, val_main_v15_apply, val_main_cst_6_apply, Fin.sum_univ_one, Ideal.extf_def, Ideal.addf_def, Ideal.mulf_def,
    Ideal.ofBits_def, Gate.zero_lit, zero_add, ref_through h0 h1 h2, ref_inv h0, h0, h1, h2]

include h0 h1 h2 h3 in
theorem ref_dx (i : S8192x2048.Idx) : val_main_v35 (F := Ideal) x0 x1 x2 x3 i = dx H Y U G (i 0).val (i 1).val := by
  rw [val_main_v35_apply, Ideal.addf_def, ref_grad h0 h1 h2, h3]
  rfl

include h0 h1 h2 h3 in
theorem ref_dxb (i : S8192x2048.Idx) : val_main_v37 (F := Ideal) x0 x1 x2 x3 i = dx H Y U G (i 0).val (i 1).val := by
  rw [val_main_v37_apply, val_main_v36_apply, Ideal.truncf_def, Ideal.addf_def, ref_grad h0 h1 h2, h3]
  rfl

include h0 h2 in
theorem ref_dg (i : S1x2048.Idx) : val_main_v18 (F := Ideal) x0 x2 i = dgs H Y (i 1).val := by
  have e : (idx_main_v18 i 0).val = (i 1).val := by
    have b0 : (i 0).val < 1 := (i 0).isLt
    show (i 0).val * 2048 + (i 1).val = (i 1).val
    omega
  rw [val_main_v18_apply, val_main_v17_apply, val_main_cst_3_apply, Ideal.ofBits_def, Gate.zero_lit, zero_add]
  refine (Finset.sum_congr rfl fun k _ => ?_).trans (stretch_first 8192 (dg H Y (i 1).val))
  rw [val_main_v16_apply, val_main_v15_apply, val_main_v12_apply, val_main_v11_apply, Ideal.extf_def, Ideal.mulf_def, Ideal.mulf_def, ref_inv h0, h0, h2, mul_comm]
  show Y k.val (idx_main_v18 i 0).val * (H k.val (idx_main_v18 i 0).val * inv (H k.val)) = _
  rw [e]
  rfl
end reference

/-- The reference ends, keeps its arguments and leaves no signal. -/
theorem reference_frame : Cert.quiescent_RmsBwdRefIdeal := fun m g _ =>
  (θ_run Cert.RmsBwdRefIdeal.defs _ _).mono (fun r h => ⟨fun c => (h c).2.2.2, sem_eq_zero_of_no_sems (by decide) r.2⟩)
    (Cert.RmsBwdRefIdeal.Value.run m g)

/-- The three arrays agree. -/
theorem algebraic : Cert.algebraic_RmsBwdIdeal_RmsBwdRefIdeal := by
  intro m g m' g' _ hagree
  refine ⟨_, _, _, Cert.RmsBwdIdeal.Value.run_blocks m g, ?_⟩
  refine (θ_run Cert.RmsBwdRefIdeal.defs _ _).mono (fun r h c => ?_) (Cert.RmsBwdRefIdeal.Value.run m' g')
  obtain ⟨a0, a1, a2, a3⟩ := hagree c
  obtain ⟨e0, e1, e2, hk⟩ := h c
  obtain ⟨H, hH⟩ := table (m ((c.tc : Thread Cert.RmsBwdIdeal.nD Cert.RmsBwdIdeal.τ).loc Cert.RmsBwdIdeal.main_arg0))
  obtain ⟨G, hG⟩ := row (m ((c.tc : Thread Cert.RmsBwdIdeal.nD Cert.RmsBwdIdeal.τ).loc Cert.RmsBwdIdeal.main_arg1))
  obtain ⟨Y, hY⟩ := table (m ((c.tc : Thread Cert.RmsBwdIdeal.nD Cert.RmsBwdIdeal.τ).loc Cert.RmsBwdIdeal.main_arg2))
  obtain ⟨U, hU⟩ := table (m ((c.tc : Thread Cert.RmsBwdIdeal.nD Cert.RmsBwdIdeal.τ).loc Cert.RmsBwdIdeal.main_arg3))
  refine ⟨?_, ?_, ?_, hk⟩
  · rw [e0, Cert.RmsBwdRefIdeal.Read.val_main_v35_eq, a0, a1, a2, a3]
    exact funext fun i => (ref_dx hH hG hY hU i).trans (array4 hH hY hU hG i).symm
  · rw [e1, Cert.RmsBwdRefIdeal.Read.val_main_v37_eq, a0, a1, a2, a3]
    exact funext fun i => (ref_dxb hH hG hY hU i).trans (array5 hH hY hU hG i).symm
  · rw [e2, Cert.RmsBwdRefIdeal.Read.val_main_v18_eq, a0, a2]
    exact funext fun i => (ref_dg hH hY i).trans (array6 hH hY i).symm

end RmsBwd
-- ==== Proof.DbQkv.lean ====
module

public import proofs.«01_k».proof.Defs
public import proofs.«01_k».proof.Proof.Gen.DbQkv.Frame
public import proofs.«01_k».proof.Proof.Gen.DbQkvIdeal.Frame
public import proofs.«01_k».proof.Proof.Gen.DbQkvIdeal.Value
public import proofs.«01_k».proof.Proof.Gen.DbQkvRefIdeal
public import proofs.«01_k».proof.Proof.Gen.DbQkvRefIdeal.Run
public import proofs.«01_k».proof.Proof.Gen.DbQkvRefIdeal.Read
public import proofs.«01_k».proof.Proof.RmsBwd

/-! The gradient of the bias of the query, key and value columns: the sum of the rows, which the kernel takes 512 rows at a time. -/

@[expose] public section
noncomputable section
namespace DbQkv
open Idealize.ShloMosaic Idealize.ShloMosaic.TcCoe Idealize.SL.Sem Product

/-- Column `c` of the table summed over the rows. -/
def column (D : ℕ → ℕ → EReal) (c : ℕ) : EReal := stretch 8192 0 fun r => D r c

section kernel
open Cert.DbQkvIdeal Cert.DbQkvIdeal.Gen
set_option maxHeartbeats 800000

theorem part {x : Vec Ideal S512x1536 .bf16} {D : ℕ → ℕ → EReal} (h : ∀ i, x i = D (i 0).val (i 1).val) (acc : Vec Ideal S1x1536 .f32) (i : S1x1536.Idx) :
    k0_pay2 acc x i = acc i + stretch 512 0 fun r => D r (i 1).val := by
  pointwise [k0_pay2]
  simp only [h]
  exact congrArg (acc i + ·) (stretch_first 512 fun r => D r (i 1).val)

theorem zeros (i : S1x1536.Idx) : (k0_pay1 : FVec Ideal S1x1536 .f32) i = 0 := by
  pointwise [k0_pay1]

variable {m : (ℓ : Loc nD τ sig) → Buf (Elt Ideal) ℓ} {c : Dev nD} {D : ℕ → ℕ → EReal}

theorem index0_0 : ∀ t : Fin cfg0.N, win0_0.index t 0 = t.val := by decide +kernel
theorem index0_1 : ∀ t : Fin cfg0.N, win0_0.index t 1 = 0 := by decide +kernel
theorem index1_0 : ∀ t : Fin cfg0.N, win0_1.index t 0 = 0 := by decide +kernel
theorem index1_1 : ∀ t : Fin cfg0.N, win0_1.index t 1 = 0 := by decide +kernel

variable (hD : ∀ i : S8192x1536.Idx, V m c main_arg0 i = D (i 0).val (i 1).val)

include hD in
theorem inD (t : Fin cfg0.N) (i : S512x1536.Idx) : (iblk m c 0 t : Vec Ideal S512x1536 .bf16) i = D (t.val * 512 + (i 0).val) (i 1).val := by
  refine (hD ((win0_0.rect t).emb i)).trans ?_
  rw [win0_0.rect_emb_val t i 0, index0_0, win0_0.rect_emb_val_of_index_zero t 1 (index0_1 t) i]
  rfl

include hD in
/-- What the last point leaves. -/
theorem stored (t : Fin cfg0.N) (ht : t.val % 16 = 15) (i : S1x1536.Idx) : outsAt0 m c t.val t.isLt i = column D (i 1).val := by
  have := Idealize.ShloMosaic.Pipeline.eq_sum_fin_of_reset_step_apply_of_flush (fun n h => outsAt0 m c n h) 16 (k0_pay1 : FVec Ideal S1x1536 .f32)
    (fun p i => stretch 512 0 fun r => D (p.val * 512 + r) (i 1).val)
    (fun t h0 i => by
      show outsAt0 m c t.val t.isLt i = _
      rw [outsAt0_A m c t h0, Value.out_A_1_eq]
      exact part (D := fun r k => D (t.val * 512 + r) k) (inD hD t) _ i)
    (fun t h0 i => by
      show outsAt0 m c t.val t.isLt i = _
      rw [outsAt0_B m c t h0, Value.out_B_1_eq]
      exact part (D := fun r k => D (t.val * 512 + r) k) (inD hD t) _ i) t ht i
  refine this.trans ?_
  rw [zeros, zero_add]
  have hN : cfg0.N = 16 := N_0
  have hb := t.isLt
  refine (Finset.sum_congr rfl fun s _ => ?_).trans (RmsBwd.stretch_sixteen fun r => D r (i 1).val)
  have hs : 16 * (t.val / 16) + s.val = s.val := by omega
  show (stretch 512 0 fun r => D ((16 * (t.val / 16) + s.val) * 512 + r) (i 1).val) = _
  rw [hs]
  exact stretch_shift 512 s.val fun r => D r (i 1).val

include hD in
theorem array (i : S1x1536.Idx) : (dats m 0 c).arrAt 1 cfg0.N i = column D (i 1).val := by
  refine (dats m 0 c).arrAt_forall_of_cover 1 (fun (i : S1x1536.Idx) (v : EReal) => v = column D (i 1).val) (fun t ht y => ?_)
    (fun i => (Value.covered_iff1 i).2 ⟨Nat.zero_le _, (i 0).isLt, Nat.zero_le _, (i 1).isLt⟩) i
  have e : (dats m 0 c).flushed 1 t y = outsAt0 m c t.val t.isLt y := congrFun (Value.flushed1 m c t) y
  show (dats m 0 c).flushed 1 t y = column D ((win0_1.rect t).emb y 1).val
  rw [e, win0_1.rect_emb_val_of_index_zero t 1 (index1_1 t) y]
  exact stored hD t ((flush0_1 t).mp ht) y
end kernel

section reference
open Cert.DbQkvRefIdeal Cert.DbQkvRefIdeal.Read

theorem ref_column {x : S8192x1536.Idx → EReal} {D : ℕ → ℕ → EReal} (h : ∀ i, x i = D (i 0).val (i 1).val) (i : S1x1536.Idx) :
    val_main_v6 (F := Ideal) x i = column D (i 1).val := by
  have e : (idx_main_v6 i 0).val = (i 1).val := by
    have b0 : (i 0).val < 1 := (i 0).isLt
    show (i 0).val * 1536 + (i 1).val = (i 1).val
    omega
  rw [val_main_v6_apply, val_main_v5_apply, val_main_cst_1_apply, Ideal.ofBits_def, Gate.zero_lit, zero_add]
  refine (Finset.sum_congr rfl fun k _ => ?_).trans (stretch_first 8192 fun r => D r (i 1).val)
  rw [val_main_v4_apply, Ideal.extf_def, h]
  show D k.val (idx_main_v6 i 0).val = _
  rw [e]
end reference

/-- The reference ends, keeps its argument and leaves no signal. -/
theorem reference_frame : Cert.quiescent_DbQkvRefIdeal := fun m g _ =>
  (θ_run Cert.DbQkvRefIdeal.defs _ _).mono (fun r h => ⟨fun c => (h c).2, sem_eq_zero_of_no_sems (by decide) r.2⟩)
    (Cert.DbQkvRefIdeal.Value.run m g)

/-- The two rows of sums agree. -/
theorem algebraic : Cert.algebraic_DbQkvIdeal_DbQkvRefIdeal := by
  intro m g m' g' _ hagree
  refine ⟨_, Cert.DbQkvIdeal.Value.run_blocks m g, ?_⟩
  refine (θ_run Cert.DbQkvRefIdeal.defs _ _).mono (fun r h c => ?_) (Cert.DbQkvRefIdeal.Value.run m' g')
  obtain ⟨e0, hk⟩ := h c
  obtain ⟨D, hD⟩ := table (m ((c.tc : Thread Cert.DbQkvIdeal.nD Cert.DbQkvIdeal.τ).loc Cert.DbQkvIdeal.main_arg0))
  refine ⟨?_, hk⟩
  rw [e0, Cert.DbQkvRefIdeal.Read.val_main_v6_eq, hagree c]
  exact funext fun i => (ref_column hD i).trans (array hD i).symm

end DbQkv
-- ==== Proof.AttnHead.lean ====
module

public import proofs.«01_k».proof.Defs
public import proofs.«01_k».proof.Proof.Gen.AttnFwdIdeal.Skeleton
public import proofs.«01_k».proof.Proof.Product
public import proofs.«01_k».proof.Proof.Gate
public import Idealize.ShloMosaic.Lib.Pipeline.ValueKit

/-! One head of the windowed attention over a block of 128 rows and the 256 keys that they may see. -/

@[expose] public section
noncomputable section
namespace Attn
open Cert.AttnFwdIdeal Cert.AttnFwdIdeal.Gen Idealize.ShloMosaic Idealize.ShloMosaic.TcCoe Idealize.SL.Sem Product
set_option maxHeartbeats 800000

/-- The largest of the 256 scores and the sink. -/
def top (f : ℕ → EReal) (s : EReal) : EReal := max ((Finset.range 256).sup f) s

/-- One element of a head: the weights of the keys, each over their sum with the sink's, by the values. -/
def mix (f : ℕ → EReal) (s : EReal) (v : ℕ → EReal) : EReal :=
  stretch 256 0 fun k => Ideal.exp (f k - top f s) * Ideal.div 1 (stretch 256 0 (fun j => Ideal.exp (f j - top f s)) + Ideal.exp (s - top f s)) * v k

/-- A key's score, where it may be seen. -/
def seen (ok : ℕ → Prop) [DecidablePred ok] (q : ℕ → EReal) (key : ℕ → ℕ → EReal) (k : ℕ) : EReal :=
  if ok k then stretch 64 0 fun d => q d * key k d else ⊥

theorem sup_first (f : ℕ → EReal) : (Finset.univ : Finset (Fin 256)).fold max ⊥ (fun k => f k.val) = (Finset.range 256).sup f := by
  show (Finset.univ : Finset (Fin 256)).sup (fun k => f k.val) = _
  apply le_antisymm
  · exact Finset.sup_le fun k _ => Finset.le_sup (f := f) (Finset.mem_range.mpr k.isLt)
  · exact Finset.sup_le fun k hk => Finset.le_sup (f := fun k : Fin 256 => f k.val) (Finset.mem_univ ⟨k, Finset.mem_range.mp hk⟩)

theorem masked : Named.named (F := Ideal) κ "masked" (φ := .f32) 0xF149F2CA#32 = (⊥ : EReal) :=
  IdealRules.named_const.ideal_named_scalar _ _ _ _ rfl

theorem least : Ideal.ofBits .f32 0xFF800000#32 = ⊥ := by
  simp [Ideal.ofBits, Ideal.ieee]

/-- The masked scores of a head. -/
def scores (q : FVec Ideal S128x64 .bf16) (k : FVec Ideal S256x64 .bf16) (ok : IVec S128x256 1) : FVec Ideal S128x256 .f32 :=
  select ok (matmul dot_S128x64_S256x64_S128x256_1_1_0_0_n_n none q k (constant S128x256 .f32 0x00000000#32)) (broadcast S128x256 (Named.named κ "masked" 0xF149F2CA#32))

/-- The largest of a row's. -/
def largest (z : FVec Ideal S128x256 .f32) (s : EReal) : FVec Ideal S128x1 .f32 :=
  maximumf (shapeCast S128x1 (multiReduction .maximumf [1] S128 z 0xFF800000#32 reduces_S128x256_S128 (.inl rfl) rfl) shapeCasts_S128_S128x1) (broadcast S128x1 s)

/-- The weights, before they are divided. -/
def raised (z : FVec Ideal S128x256 .f32) (t : FVec Ideal S128x1 .f32) : FVec Ideal S128x256 .f32 :=
  exp (subf z (broadcastTo S128x256 t broadcasts_S128x1_S128x256))

/-- Their sum with the sink's. -/
def total (e : FVec Ideal S128x256 .f32) (t : FVec Ideal S128x1 .f32) (s : EReal) : FVec Ideal S128x1 .f32 :=
  addf (shapeCast S128x1 (multiReduction .add [1] S128 e 0x00000000#32 reduces_S128x256_S128 (.inl rfl) rfl) shapeCasts_S128_S128x1) (exp (subf (broadcast S128x1 s) t))

/-- The head's block. -/
def head (q : FVec Ideal S128x64 .bf16) (k v : FVec Ideal S256x64 .bf16) (ok : IVec S128x256 1) (s : EReal) : FVec Ideal S128x64 .bf16 :=
  truncf .bf16 (matmul dot_S128x256_S256x64_S128x64_1_0_0_1_n_n none
    (truncf .bf16 (mulf (raised (scores q k ok) (largest (scores q k ok) s)) (broadcastTo S128x256 (divf (broadcast S128x1 (Scalar.ofBits .f32 0x3F800000#32))
      (total (raised (scores q k ok) (largest (scores q k ok) s)) (largest (scores q k ok) s) s)) broadcasts_S128x1_S128x256)) bitsLt_bf16_f32)
    v (constant S128x64 .f32 0x00000000#32)) bitsLt_bf16_f32

section read
variable {q : FVec Ideal S128x64 .bf16} {k v : FVec Ideal S256x64 .bf16} {ok : IVec S128x256 1} {s : EReal}
variable {Q K U : ℕ → ℕ → EReal} {P : ℕ → ℕ → Prop} [∀ r, DecidablePred (P r)]
variable (hq : ∀ i, q i = Q (i 0).val (i 1).val) (hk : ∀ i, k i = K (i 0).val (i 1).val) (hv : ∀ i, v i = U (i 0).val (i 1).val)
variable (hP : ∀ i, ok i = if P (i 0).val (i 1).val then 1#1 else 0#1)

include hq hk hP in
theorem scores_at (i : S128x256.Idx) : scores q k ok i = seen (P (i 0).val) (Q (i 0).val) K (i 1).val := by
  pointwise [scores]
  simp only [hP, hq, hk, masked]
  unfold seen
  by_cases h : P (i 0).val (i 1).val
  · rw [if_pos h, if_pos h]
    exact stretch_first 64 fun d => Q (i 0).val d * K (i 1).val d
  · rw [if_neg h, if_neg h]
    rfl

theorem largest_at {z : FVec Ideal S128x256 .f32} {Z : ℕ → ℕ → EReal} (hz : ∀ i, z i = Z (i 0).val (i 1).val) (i : S128x1.Idx) : largest z s i = top (Z (i 0).val) s := by
  pointwise [largest]
  simp only [hz]
  exact congrArg (fun z => max z s) ((congrArg (fun b => Finset.fold max b (fun x : Fin 256 => Z (i 0).val x.val) Finset.univ) least).trans (sup_first (Z (i 0).val)))

theorem raised_at {z : FVec Ideal S128x256 .f32} {Z : ℕ → ℕ → EReal} {t : FVec Ideal S128x1 .f32} {T : ℕ → EReal} (hz : ∀ i, z i = Z (i 0).val (i 1).val) (ht : ∀ i, t i = T (i 0).val) (i : S128x256.Idx) :
    raised z t i = Ideal.exp (Z (i 0).val (i 1).val - T (i 0).val) := by
  pointwise [raised]
  simp only [hz, ht]
  rfl

theorem total_at {z : FVec Ideal S128x256 .f32} {Z : ℕ → ℕ → EReal} {t : FVec Ideal S128x1 .f32} {T : ℕ → EReal} (hz : ∀ i, z i = Z (i 0).val (i 1).val) (ht : ∀ i, t i = T (i 0).val) (i : S128x1.Idx) :
    total z t s i = stretch 256 0 (Z (i 0).val) + Ideal.exp (s - T (i 0).val) := by
  pointwise [total]
  simp only [hz, ht]
  exact congrArg (fun z => z + Ideal.exp (s - T (i 0).val)) (stretch_first 256 (Z (i 0).val))

include hq hk hv hP in
theorem head_at (i : S128x64.Idx) : head q k v ok s i = mix (seen (P (i 0).val) (Q (i 0).val) K) s (fun k => U k (i 1).val) := by
  have hz := scores_at hq hk hP
  have ht := largest_at (s := s) (Z := fun r => seen (P r) (Q r) K) hz
  have hr := raised_at (Z := fun r => seen (P r) (Q r) K) (T := fun r => top (seen (P r) (Q r) K) s) hz ht
  have hd := total_at (s := s) (Z := fun r c => Ideal.exp (seen (P r) (Q r) K c - top (seen (P r) (Q r) K) s)) (T := fun r => top (seen (P r) (Q r) K) s) hr ht
  pointwise [head]
  simp only [hr, hd, hv]
  exact stretch_first 256 fun k => Ideal.exp (seen (P (i 0).val) (Q (i 0).val) K k - top (seen (P (i 0).val) (Q (i 0).val) K) s)
    * Ideal.div 1 (stretch 256 0 (fun j => Ideal.exp (seen (P (i 0).val) (Q (i 0).val) K j - top (seen (P (i 0).val) (Q (i 0).val) K) s))
      + Ideal.exp (s - top (seen (P (i 0).val) (Q (i 0).val) K) s)) * U k (i 1).val
end read
end Attn
-- ==== Proof.AttnRope.lean ====
module

public import proofs.«01_k».proof.Proof.AttnHead

/-! The rotated queries and keys of a block, the values and the mask. -/

@[expose] public section
noncomputable section
namespace Attn
open Cert.AttnFwdIdeal Cert.AttnFwdIdeal.Gen Idealize.ShloMosaic Idealize.ShloMosaic.TcCoe Idealize.SL.Sem Product
set_option maxHeartbeats 800000

/-- The rotation of the first sixteen columns of every head, by the angles of the row. -/
def rot (X C S : ℕ → ℕ → EReal) (r c : ℕ) : EReal :=
  if c % 64 < 8 then X r c * C r (c % 64) - X r (c + 8) * S r (c % 64)
  else if c % 64 < 16 then X r c * C r (c % 64 - 8) + X r (c - 8) * S r (c % 64 - 8)
  else X r c

/-- The table of cosines and signed sines, two heads wide. -/
def tab (C S : ℕ → ℕ → EReal) (r c : ℕ) : EReal :=
  if c < 128 then (if c % 64 < 8 then C r (c % 64) else if c % 64 < 16 then C r (c % 64 - 8) else 1)
  else if c < 256 then (if c % 64 < 8 then -S r (c % 64) else 0)
  else (if c % 64 < 8 then 0 else if c % 64 < 16 then S r (c % 64 - 8) else 0)

/-- The row of key `k` of block `t`: the 128 rows before the block, then the block's. -/
def keyRow (t k : ℕ) : ℕ := if k < 128 then (t - 1) * 128 + k else t * 128 + (k - 128)

/-- The keys that query `q` of block `t` may see. -/
def ok (t q k : ℕ) : Prop := k ≤ q + 128 ∧ q < k ∧ (128 ≤ k ∨ 0 < t)
instance (t q : ℕ) : DecidablePred (ok t q) := fun _ => inferInstanceAs (Decidable (_ ∧ _ ∧ _))

/-- The sum that the kernel takes is the rotation. -/
theorem rot_eq {X C S : ℕ → ℕ → EReal} {r c n x y : ℕ} (hx : c % 64 < 8 → x = c + 8) (hy : 8 ≤ c % 64 → y = c - 8) (hn : n = c % 128) :
    X r c * tab C S r n + X r x * tab C S r (128 + n) + X r y * tab C S r (256 + n) = rot X C S r c := by
  subst hn
  have e : c % 128 % 64 = c % 64 := by omega
  have e1 : (128 + c % 128) % 64 = c % 64 := by omega
  have e2 : (256 + c % 128) % 64 = c % 64 := by omega
  unfold tab rot
  rw [if_pos (by omega : c % 128 < 128), if_neg (by omega : ¬ 128 + c % 128 < 128), if_pos (by omega : 128 + c % 128 < 256),
    if_neg (by omega : ¬ 256 + c % 128 < 128), if_neg (by omega : ¬ 256 + c % 128 < 256), e, e1, e2]
  by_cases h : c % 64 < 8
  · rw [if_pos h, if_pos h, if_pos h, if_pos h, hx h, mul_zero, add_zero, mul_neg]
    rfl
  · rw [if_neg h, if_neg h, if_neg h, if_neg h, mul_zero, add_zero]
    by_cases h' : c % 64 < 16
    · rw [if_pos h', if_pos h', if_pos h', hy (by omega)]
    · rw [if_neg h', if_neg h', if_neg h', mul_zero, add_zero, mul_one]

/-- Eight copies side by side, read at a column. -/
theorem copies8 (f : ℕ → EReal) (c : ℕ) (hc : c < 1024) :
    (if _h : c < 128 then f (c) else if _h : c - 128 < 128 then f (c - 128) else if _h : c - 128 - 128 < 128 then f (c - 128 - 128) else if _h : c - 128 - 128 - 128 < 128 then f (c - 128 - 128 - 128) else if _h : c - 128 - 128 - 128 - 128 < 128 then f (c - 128 - 128 - 128 - 128) else if _h : c - 128 - 128 - 128 - 128 - 128 < 128 then f (c - 128 - 128 - 128 - 128 - 128) else if _h : c - 128 - 128 - 128 - 128 - 128 - 128 < 128 then f (c - 128 - 128 - 128 - 128 - 128 - 128) else f (c - 128 - 128 - 128 - 128 - 128 - 128 - 128)) = f (c % 128) := by
  split_ifs <;> exact congrArg f (by omega)

/-- Two copies side by side, read at a column. -/
theorem copies2 (f : ℕ → EReal) (c : ℕ) (hc : c < 256) :
    (if _h : c < 128 then f (c) else f (c - 128)) = f (c % 128) := by
  split_ifs <;> exact congrArg f (by omega)

theorem band (q k : ℕ) (hq : q < 128) (hk : k < 256) :
    IntOp.andi (IntOp.cmpi CmpIPredicate.sge (IntOp.subi (IntOp.addi (BitVec.ofNat 32 q) 128#32) (BitVec.ofNat 32 k)) 0#32)
      (IntOp.cmpi CmpIPredicate.slt (IntOp.subi (IntOp.addi (BitVec.ofNat 32 q) 128#32) (BitVec.ofNat 32 k)) 128#32)
      = if k ≤ q + 128 ∧ q < k then 1#1 else 0#1 := by
  have h : ∀ q : Fin 128, ∀ k : Fin 256, IntOp.andi (IntOp.cmpi CmpIPredicate.sge (IntOp.subi (IntOp.addi (BitVec.ofNat 32 q.val) 128#32) (BitVec.ofNat 32 k.val)) 0#32)
      (IntOp.cmpi CmpIPredicate.slt (IntOp.subi (IntOp.addi (BitVec.ofNat 32 q.val) 128#32) (BitVec.ofNat 32 k.val)) 128#32)
      = if k.val ≤ q.val + 128 ∧ q.val < k.val then 1#1 else 0#1 := by decide +kernel
  exact h ⟨q, hq⟩ ⟨k, hk⟩

theorem late (k : ℕ) (hk : k < 256) : IntOp.cmpi CmpIPredicate.sge (BitVec.ofNat 32 k) 128#32 = if 128 ≤ k then 1#1 else 0#1 := by
  have h : ∀ k : Fin 256, IntOp.cmpi CmpIPredicate.sge (BitVec.ofNat 32 k.val) 128#32 = if 128 ≤ k.val then 1#1 else 0#1 := by decide +kernel
  exact h ⟨k, hk⟩

theorem later (t : ℕ) (ht : t < 64) : IntOp.cmpi CmpIPredicate.sgt (BitVec.ofNat 32 t) 0#32 = if 0 < t then 1#1 else 0#1 := by
  have h : ∀ t : Fin 64, IntOp.cmpi CmpIPredicate.sgt (BitVec.ofNat 32 t.val) 0#32 = if 0 < t.val then 1#1 else 0#1 := by decide +kernel
  exact h ⟨t, ht⟩

theorem bits (A B D : Prop) [Decidable A] [Decidable B] [Decidable D] :
    IntOp.andi (if A then 1#1 else 0#1) (IntOp.ori (if B then 1#1 else 0#1) (if D then 1#1 else 0#1)) = if A ∧ (B ∨ D) then 1#1 else 0#1 := by
  by_cases a : A <;> by_cases b : B <;> by_cases d : D <;> simp only [a, b, d, if_true, if_false, true_and, false_and, true_or, or_true, or_false] <;> rfl

/-- The bit that both programs compute says whether the key may be seen. -/
theorem ok_bit (t q k : ℕ) : IntOp.andi (if k ≤ q + 128 ∧ q < k then 1#1 else 0#1) (IntOp.ori (if 128 ≤ k then 1#1 else 0#1) (if 0 < t then 1#1 else 0#1))
    = if ok t q k then 1#1 else 0#1 :=
  (bits _ _ _).trans (if_congr and_assoc rfl rfl)

section read
variable {X C S : ℕ → ℕ → EReal} {t : ℕ}

theorem queries {v0 : Vec Ideal S128x384 .f32} {v4 : Vec Ideal S128x1024 .bf16} (h0 : ∀ i, v0 i = tab C S (t * 128 + (i 0).val) (i 1).val)
    (h4 : ∀ i, v4 i = X (t * 128 + (i 0).val) (i 1).val) (i : S128x1024.Idx) :
    k0_pay3 v0 v4 i = rot X C S (t * 128 + (i 0).val) (i 1).val * Ideal.ofBits .f32 0x3E000000#32 := by
  have hc : (i 1).val < 1024 := (i 1).isLt
  pointwise [k0_pay3, k0_pay2]
  simp only [h0, h4]
  refine congrArg (fun z => z * Ideal.ofBits .f32 0x3E000000#32) ?_
  exact (congrArg₂ (fun a b : EReal => a + b)
      (congrArg₂ (fun a b : EReal => a + b) (congrArg (fun z => X (t * 128 + (i 0).val) ((i 1).val) * z) (copies8 (fun c => tab C S (t * 128 + (i 0).val) c) (i 1).val hc))
        (congrArg (fun z => X (t * 128 + (i 0).val) (((i 1).val + 1024 - 1016) % 1024) * z) (copies8 (fun c => tab C S (t * 128 + (i 0).val) (128 + c)) (i 1).val hc)))
      (congrArg (fun z => X (t * 128 + (i 0).val) (((i 1).val + 1024 - 8) % 1024) * z) (copies8 (fun c => tab C S (t * 128 + (i 0).val) (256 + c)) (i 1).val hc))).trans
          (rot_eq (by omega) (by omega) (by omega))

theorem before {v2 : Vec Ideal S128x384 .f32} {v22 : Vec Ideal S128x256 .bf16} (h2 : ∀ i, v2 i = tab C S (t * 128 + (i 0).val) (i 1).val)
    (h22 : ∀ i, v22 i = X (t * 128 + (i 0).val) (1024 + (i 1).val)) (i : S128x256.Idx) :
    k0_pay4 v2 v22 i = rot X C S (t * 128 + (i 0).val) (1024 + (i 1).val) := by
  have hc : (i 1).val < 256 := (i 1).isLt
  pointwise [k0_pay4]
  simp only [h2, h22]
  exact (congrArg₂ (fun a b : EReal => a + b)
      (congrArg₂ (fun a b : EReal => a + b) (congrArg (fun z => X (t * 128 + (i 0).val) (1024 + (i 1).val) * z) (copies2 (fun c => tab C S (t * 128 + (i 0).val) c) (i 1).val hc))
        (congrArg (fun z => X (t * 128 + (i 0).val) (1024 + (((i 1).val + 256 - 248) % 256)) * z) (copies2 (fun c => tab C S (t * 128 + (i 0).val) (128 + c)) (i 1).val hc)))
      (congrArg (fun z => X (t * 128 + (i 0).val) (1024 + (((i 1).val + 256 - 8) % 256)) * z) (copies2 (fun c => tab C S (t * 128 + (i 0).val) (256 + c)) (i 1).val hc))).trans
          (rot_eq (by omega) (by omega) (by omega))

/-- The keys: the rows before the block, then the block's own. -/
theorem keys {v0 v2 : Vec Ideal S128x384 .f32} {v22 v37 : Vec Ideal S128x256 .bf16} (h0 : ∀ i, v0 i = tab C S (t * 128 + (i 0).val) (i 1).val)
    (h2 : ∀ i, v2 i = tab C S ((t - 1) * 128 + (i 0).val) (i 1).val)
    (h22 : ∀ i, v22 i = X ((t - 1) * 128 + (i 0).val) (1024 + (i 1).val)) (h37 : ∀ i, v37 i = X (t * 128 + (i 0).val) (1024 + (i 1).val)) (i : S256x256.Idx) :
    k0_pay9 (k0_pay4 v2 v22) (k0_pay5 v37) (k0_pay6 v0) (k0_pay7 v0) (k0_pay8 v0) i = rot X C S (keyRow t (i 0).val) (1024 + (i 1).val) := by
  have hc : (i 1).val < 256 := (i 1).isLt
  have hb := before h2 h22
  pointwise [k0_pay9, k0_pay5, k0_pay6, k0_pay7, k0_pay8, k0_pay2]
  simp only [hb, h0, h37]
  unfold keyRow
  by_cases h : (i 0).val < 128
  · rw [dif_pos h, if_pos h]
    rfl
  · rw [dif_neg h, if_neg h]
    exact (congrArg₂ (fun a b : EReal => a + b)
      (congrArg₂ (fun a b : EReal => a + b) (congrArg (fun z => X (t * 128 + ((i 0).val - 128)) (1024 + (i 1).val) * z) (copies2 (fun c => tab C S (t * 128 + ((i 0).val - 128)) c) (i 1).val hc))
        (congrArg (fun z => X (t * 128 + ((i 0).val - 128)) (1024 + (((i 1).val + 256 - 248) % 256)) * z) (copies2 (fun c => tab C S (t * 128 + ((i 0).val - 128)) (128 + c)) (i 1).val hc)))
      (congrArg (fun z => X (t * 128 + ((i 0).val - 128)) (1024 + (((i 1).val + 256 - 8) % 256)) * z) (copies2 (fun c => tab C S (t * 128 + ((i 0).val - 128)) (256 + c)) (i 1).val hc))).trans
          (rot_eq (by omega) (by omega) (by omega))

/-- The values, likewise. -/
theorem values {v54 v55 : Vec Ideal S128x256 .bf16} (h54 : ∀ i, v54 i = X ((t - 1) * 128 + (i 0).val) (1280 + (i 1).val))
    (h55 : ∀ i, v55 i = X (t * 128 + (i 0).val) (1280 + (i 1).val)) (i : S256x256.Idx) :
    k0_pay10 v54 v55 i = X (keyRow t (i 0).val) (1280 + (i 1).val) := by
  pointwise [k0_pay10]
  simp only [h54, h55]
  unfold keyRow
  by_cases h : (i 0).val < 128
  · rw [dif_pos h, if_pos h]
    rfl
  · rw [dif_neg h, if_neg h]
    rfl

theorem mask (i : S128x256.Idx) (ht : t < 64) : k0_pay11 (BitVec.ofNat 32 t) i = if ok t (i 0).val (i 1).val then 1#1 else 0#1 := by
  pointwise [k0_pay11]
  rw [band _ _ (i 0).isLt (i 1).isLt, late _ (i 1).isLt]
  refine (congrArg (fun b => IntOp.andi (if (i 1).val ≤ (i 0).val + 128 ∧ (i 0).val < (i 1).val then 1#1 else 0#1) (IntOp.ori (if 128 ≤ (i 1).val then 1#1 else 0#1) b))
    (later t ht)).trans (ok_bit t (i 0).val (i 1).val)
end read
end Attn
-- ==== Proof.AttnBlock.lean ====
module

public import proofs.«01_k».proof.Proof.AttnRope
public import proofs.«01_k».proof.Proof.Gen.AttnFwdIdeal.Frame
public import Idealize.ShloMosaic.Lib.Pipeline.ReadBack

/-! What one grid point leaves in its output block: sixteen heads side by side. -/

@[expose] public section
noncomputable section
namespace Attn
open Cert.AttnFwdIdeal Cert.AttnFwdIdeal.Gen Idealize.ShloMosaic Idealize.ShloMosaic.TcCoe Idealize.SL.Sem Product
set_option maxHeartbeats 4000000

/-- The attention of query `q` of block `t`, at column `c` of the sixteen heads. -/
def att (X C S : ℕ → ℕ → EReal) (s : ℕ → EReal) (t q c : ℕ) : EReal :=
  mix (seen (ok t q) (fun d => rot X C S (t * 128 + q) (c / 64 * 64 + d) * Ideal.ofBits .f32 0x3E000000#32)
    (fun k d => rot X C S (keyRow t k) (1024 + (c / 256 * 64 + d)))) (s (c / 64)) (fun k => X (keyRow t k) (1280 + (c / 256 * 64 + c % 64)))

section leaf
variable {X C S : ℕ → ℕ → EReal} {s : ℕ → EReal} {t : ℕ}
variable {q : FVec Ideal S128x1024 .bf16} {k v : FVec Ideal S256x256 .bf16} {b : IVec S128x256 1}
variable (hq : ∀ i, q i = rot X C S (t * 128 + (i 0).val) (i 1).val * Ideal.ofBits .f32 0x3E000000#32)
variable (hk : ∀ i, k i = rot X C S (keyRow t (i 0).val) (1024 + (i 1).val)) (hv : ∀ i, v i = X (keyRow t (i 0).val) (1280 + (i 1).val))
variable (hb : ∀ i, b i = if ok t (i 0).val (i 1).val then 1#1 else 0#1)

include hq hk hv hb in
/-- The head whose columns begin at `o`, its keys and values at `p`. -/
theorem leaf {h o p : ℕ} (ho : o = h * 64) (hp : p = h / 4 * 64) (e1 : S128x1024.Slices ![0, o] S128x64) (e2 : S256x256.Slices ![0, p] S256x64) {z : EReal} (hz : z = s h) (x : S128x64.Idx) :
    head (extractStridedSlice S128x64 ![0, o] q e1) (extractStridedSlice S256x64 ![0, p] k e2) (extractStridedSlice S256x64 ![0, p] v e2) b z x
      = att X C S s t (0 + (x 0).val) (o + (x 1).val) := by
  have hx : (x 1).val < 64 := (x 1).isLt
  have f1 : ∀ i, extractStridedSlice S128x64 ![0, o] q e1 i = rot X C S (t * 128 + (0 + (i 0).val)) (o + (i 1).val) * Ideal.ofBits .f32 0x3E000000#32 := fun i => hq _
  have f2 : ∀ i, extractStridedSlice S256x64 ![0, p] k e2 i = rot X C S (keyRow t (0 + (i 0).val)) (1024 + (p + (i 1).val)) := fun i => hk _
  have f3 : ∀ i, extractStridedSlice S256x64 ![0, p] v e2 i = X (keyRow t (0 + (i 0).val)) (1280 + (p + (i 1).val)) := fun i => hv _
  refine (head_at (Q := fun r d => rot X C S (t * 128 + (0 + r)) (o + d) * Ideal.ofBits .f32 0x3E000000#32) (K := fun k d => rot X C S (keyRow t (0 + k)) (1024 + (p + d)))
    (U := fun k d => X (keyRow t (0 + k)) (1280 + (p + d))) (P := ok t) f1 f2 f3 hb x).trans ?_
  have c1 : (o + (x 1).val) / 64 = h := by omega
  have c2 : (o + (x 1).val) / 256 = h / 4 := by omega
  have c3 : (o + (x 1).val) % 64 = (x 1).val := by omega
  unfold att
  rw [c1, c2, c3, ← ho, ← hp, hz, Nat.zero_add (x 0).val]
  simp only [zero_add]
end leaf

section block
variable {X C S : ℕ → ℕ → EReal} {s : ℕ → EReal}
/-- The block that a grid point writes. -/
theorem block (c : Dev nD) (gi : grid0.Coords) (arg1 : Memref sig .tc .smem S16 .f32) (harg1 : arg1.IsWhole) (arg2 : Memref sig .tc .vmem S128x1024 .bf16) (harg2 : arg2.IsWhole) (arg3 : Memref sig .tc .vmem S128x256 .bf16) (harg3 : arg3.IsWhole) (arg4 : Memref sig .tc .vmem S128x256 .bf16) (harg4 : arg4.IsWhole) (arg5 : Memref sig .tc .vmem S128x256 .bf16) (harg5 : arg5.IsWhole) (arg6 : Memref sig .tc .vmem S128x256 .bf16) (harg6 : arg6.IsWhole) (arg7 : Memref sig .tc .vmem S128x384 .f32) (harg7 : arg7.IsWhole) (arg8 : Memref sig .tc .vmem S128x384 .f32) (harg8 : arg8.IsWhole) (arg9 : Memref sig .tc .vmem S128x1024 .bf16) (harg9 : arg9.IsWhole)
    (x0 : Vec Ideal S16 .f32) (x1 : Vec Ideal S128x1024 .bf16) (x2 : Vec Ideal S128x256 .bf16) (x3 : Vec Ideal S128x256 .bf16) (x4 : Vec Ideal S128x256 .bf16) (x5 : Vec Ideal S128x256 .bf16) (x6 : Vec Ideal S128x384 .f32) (x7 : Vec Ideal S128x384 .f32)
    (h0 : ∀ i, x0 i = s (i 0).val) (h1 : ∀ i, x1 i = X ((gi 0).val * 128 + (i 0).val) (i 1).val)
    (h2 : ∀ i, x2 i = X ((gi 0).val * 128 + (i 0).val) (1024 + (i 1).val)) (h3 : ∀ i, x3 i = X (((gi 0).val - 1) * 128 + (i 0).val) (1024 + (i 1).val))
    (h4 : ∀ i, x4 i = X ((gi 0).val * 128 + (i 0).val) (1280 + (i 1).val)) (h5 : ∀ i, x5 i = X (((gi 0).val - 1) * 128 + (i 0).val) (1280 + (i 1).val))
    (h6 : ∀ i, x6 i = tab C S ((gi 0).val * 128 + (i 0).val) (i 1).val) (h7 : ∀ i, x7 i = tab C S (((gi 0).val - 1) * 128 + (i 0).val) (i 1).val) (i : S128x1024.Idx) :
    out0_A_8 c gi arg1 harg1 arg2 harg2 arg3 harg3 arg4 harg4 arg5 harg5 arg6 harg6 arg7 harg7 arg8 harg8 arg9 harg9 x0 x1 x2 x3 x4 x5 x6 x7 i
      = att X C S s (gi 0).val (i 0).val (i 1).val := by
  have ht : (gi 0).val < 64 := (gi 0).isLt
  have hq := queries (X := X) h6 h1
  have hk := keys (X := X) h6 h7 h3 h2
  have hv := values (X := X) h5 h4
  have hb := fun i => mask (t := (gi 0).val) i ht
  frame_out [↓View.readCov_skip, ↓View.readCov_fill]
  let G : Vec Ideal S128x1024 .bf16 := fun j => att X C S s (gi 0).val (j 0).val (j 1).val
  have hG : ∀ j, G j = att X C S s (gi 0).val (j 0).val (j 1).val := fun _ => rfl
  have hs : ∀ (n : ℕ) (inb : ∀ a, ![n] a + ![1] a ≤ S16.size a) (e : 0 < (Rect.unit (s := S16) ![n] ![1] inb).shape.numel),
      View.ld (Val := Elt Ideal) (e' := .f32) x0 (Rect.unit (s := S16) ![n] ![1] inb) (Shape.Idx.first e) = s n := fun n inb e =>
    (h0 _).trans (congrArg s rfl)
  show View.canon (Val := Elt Ideal) (e := .bf16) ([_, _, _, _, _, _, _, _, _, _, _, _, _, _, _, _] ++ []) i = G i
  refine View.canon_append_of_piecesOf (Val := Elt Ideal) (e := .bf16) G _ _ ?_ i ?_
  on_goal 2 => exact View.cover_of_tiledBy (s := S128x1024) _ ![128, 64] (by sl_kernel_rfl) i
  refine ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, trivial⟩
  · refine Eq.trans ?_ (Gate.place (g := att X C S s (gi 0).val) hG inb_S128x1024_S128x64_0_960 x).symm
    exact leaf hq hk hv hb (h := 15) rfl rfl slices_S128x1024_o0_960_S128x64 slices_S256x256_o0_192_S256x64 (hs 15 inb_S16_S1_15 _) x
  · refine Eq.trans ?_ (Gate.place (g := att X C S s (gi 0).val) hG inb_S128x1024_S128x64_0_896 x).symm
    exact leaf hq hk hv hb (h := 14) rfl rfl slices_S128x1024_o0_896_S128x64 slices_S256x256_o0_192_S256x64 (hs 14 inb_S16_S1_14 _) x
  · refine Eq.trans ?_ (Gate.place (g := att X C S s (gi 0).val) hG inb_S128x1024_S128x64_0_832 x).symm
    exact leaf hq hk hv hb (h := 13) rfl rfl slices_S128x1024_o0_832_S128x64 slices_S256x256_o0_192_S256x64 (hs 13 inb_S16_S1_13 _) x
  · refine Eq.trans ?_ (Gate.place (g := att X C S s (gi 0).val) hG inb_S128x1024_S128x64_0_768 x).symm
    exact leaf hq hk hv hb (h := 12) rfl rfl slices_S128x1024_o0_768_S128x64 slices_S256x256_o0_192_S256x64 (hs 12 inb_S16_S1_12 _) x
  · refine Eq.trans ?_ (Gate.place (g := att X C S s (gi 0).val) hG inb_S128x1024_S128x64_0_704 x).symm
    exact leaf hq hk hv hb (h := 11) rfl rfl slices_S128x1024_o0_704_S128x64 slices_S256x256_o0_128_S256x64 (hs 11 inb_S16_S1_11 _) x
  · refine Eq.trans ?_ (Gate.place (g := att X C S s (gi 0).val) hG inb_S128x1024_S128x64_0_640 x).symm
    exact leaf hq hk hv hb (h := 10) rfl rfl slices_S128x1024_o0_640_S128x64 slices_S256x256_o0_128_S256x64 (hs 10 inb_S16_S1_10 _) x
  · refine Eq.trans ?_ (Gate.place (g := att X C S s (gi 0).val) hG inb_S128x1024_S128x64_0_576 x).symm
    exact leaf hq hk hv hb (h := 9) rfl rfl slices_S128x1024_o0_576_S128x64 slices_S256x256_o0_128_S256x64 (hs 9 inb_S16_S1_9 _) x
  · refine Eq.trans ?_ (Gate.place (g := att X C S s (gi 0).val) hG inb_S128x1024_S128x64_0_512 x).symm
    exact leaf hq hk hv hb (h := 8) rfl rfl slices_S128x1024_o0_512_S128x64 slices_S256x256_o0_128_S256x64 (hs 8 inb_S16_S1_8 _) x
  · refine Eq.trans ?_ (Gate.place (g := att X C S s (gi 0).val) hG inb_S128x1024_S128x64_0_448 x).symm
    exact leaf hq hk hv hb (h := 7) rfl rfl slices_S128x1024_o0_448_S128x64 slices_S256x256_o0_64_S256x64 (hs 7 inb_S16_S1_7 _) x
  · refine Eq.trans ?_ (Gate.place (g := att X C S s (gi 0).val) hG inb_S128x1024_S128x64_0_384 x).symm
    exact leaf hq hk hv hb (h := 6) rfl rfl slices_S128x1024_o0_384_S128x64 slices_S256x256_o0_64_S256x64 (hs 6 inb_S16_S1_6 _) x
  · refine Eq.trans ?_ (Gate.place (g := att X C S s (gi 0).val) hG inb_S128x1024_S128x64_0_320 x).symm
    exact leaf hq hk hv hb (h := 5) rfl rfl slices_S128x1024_o0_320_S128x64 slices_S256x256_o0_64_S256x64 (hs 5 inb_S16_S1_5 _) x
  · refine Eq.trans ?_ (Gate.place (g := att X C S s (gi 0).val) hG inb_S128x1024_S128x64_0_256 x).symm
    exact leaf hq hk hv hb (h := 4) rfl rfl slices_S128x1024_o0_256_S128x64 slices_S256x256_o0_64_S256x64 (hs 4 inb_S16_S1_4 _) x
  · refine Eq.trans ?_ (Gate.place (g := att X C S s (gi 0).val) hG inb_S128x1024_S128x64_0_192 x).symm
    exact leaf hq hk hv hb (h := 3) rfl rfl slices_S128x1024_o0_192_S128x64 slices_S256x256_o0_0_S256x64 (hs 3 inb_S16_S1_3 _) x
  · refine Eq.trans ?_ (Gate.place (g := att X C S s (gi 0).val) hG inb_S128x1024_S128x64_0_128 x).symm
    exact leaf hq hk hv hb (h := 2) rfl rfl slices_S128x1024_o0_128_S128x64 slices_S256x256_o0_0_S256x64 (hs 2 inb_S16_S1_2 _) x
  · refine Eq.trans ?_ (Gate.place (g := att X C S s (gi 0).val) hG inb_S128x1024_S128x64_0_64 x).symm
    exact leaf hq hk hv hb (h := 1) rfl rfl slices_S128x1024_o0_64_S128x64 slices_S256x256_o0_0_S256x64 (hs 1 inb_S16_S1_1 _) x
  · refine Eq.trans ?_ (Gate.place (g := att X C S s (gi 0).val) hG inb_S128x1024_S128x64_0_0 x).symm
    exact leaf hq hk hv hb (h := 0) rfl rfl slices_S128x1024_o0_0_S128x64 slices_S256x256_o0_0_S256x64 (hs 0 inb_S16_S1_0 _) x
end block
end Attn
-- ==== Proof.AttnTable.lean ====
module

public import proofs.«01_k».proof.Proof.AttnRope
public import Idealize.ShloMosaic.Lib.Pipeline.Value

/-! The table of angles as the host lays it out. -/

@[expose] public section
noncomputable section
namespace Attn
open Cert.AttnFwdIdeal Cert.AttnFwdIdeal.Gen Idealize.ShloMosaic Idealize.ShloMosaic.TcCoe Idealize.SL.Sem Product
set_option maxHeartbeats 4000000

/-- Pieces side by side, read inside one of them. -/
theorem piece {m n w : ℕ} (xs : List ((s : Shape) × (s.Idx → EReal))) (h : Shape.Concatenates (xs.map (·.1)) (⟨2, ![m, n]⟩ : Shape) 1) (j : (⟨2, ![m, n]⟩ : Shape).Idx)
    (k : ℕ) (hk : k < xs.length) (x : (⟨2, ![m, w]⟩ : Shape).Idx → EReal) (hx : xs[k] = ⟨⟨2, ![m, w]⟩, x⟩) (pre : ℕ)
    (hpre : (((xs.take k).map (·.1)).map fun s => if h : s.rank = 2 then s.size ((1 : Fin 2).cast h.symm) else 0).sum = pre)
    (lo : pre ≤ (j 1).val) (hi : (j 1).val < pre + w) {v : EReal} (hv : ∀ i, (i 0).val = (j 0).val → (i 1).val = (j 1).val - pre → x i = v) :
    concatenate (⟨2, ![m, n]⟩ : Shape) 1 xs h j = v := by
  let y : (⟨2, ![m, w]⟩ : Shape).Idx := fun a => match a with
    | ⟨0, _⟩ => ⟨(j 0).val, (j 0).isLt⟩
    | ⟨1, _⟩ => ⟨(j 1).val - pre, Nat.sub_lt_left_of_lt_add lo hi⟩
  refine (concatenate_apply_piece 1 xs h j k hk _ x hx rfl pre hpre y (fun b hb => ?_) ?_).trans (hv y rfl rfl)
  · match b with
    | ⟨0, _⟩ => rfl
    | ⟨1, _⟩ => exact absurd rfl hb
  · show pre + ((j 1).val - pre) = (j 1).val
    omega

/-- The first 328 columns of the table as they are laid out: cosines, then signed sines. -/
def laid (c1 c2 c3 c4 n1 z1 n2 z2 z3 p1 z4 : FVec Ideal S8192x8 .f32) (o1 o2 w1 w2 w3 : FVec Ideal S8192x48 .f32) : FVec Ideal S8192x328 .f32 :=
  concatenate S8192x328 1 [⟨S8192x8, c1⟩, ⟨S8192x8, c2⟩, ⟨S8192x48, o1⟩, ⟨S8192x8, c3⟩, ⟨S8192x8, c4⟩, ⟨S8192x48, o2⟩, ⟨S8192x8, n1⟩, ⟨S8192x8, z1⟩, ⟨S8192x48, w1⟩, ⟨S8192x8, n2⟩, ⟨S8192x8, z2⟩, ⟨S8192x48, w2⟩, ⟨S8192x8, z3⟩, ⟨S8192x8, p1⟩, ⟨S8192x48, w3⟩, ⟨S8192x8, z4⟩]
    concatenates_S8192x8_S8192x8_S8192x48_S8192x8_S8192x8_S8192x48_S8192x8_S8192x8_S8192x48_S8192x8_S8192x8_S8192x48_S8192x8_S8192x8_S8192x48_S8192x8_S8192x328_d1

theorem laid_at {C S : ℕ → ℕ → EReal} {c1 c2 c3 c4 n1 z1 n2 z2 z3 p1 z4 : FVec Ideal S8192x8 .f32} {o1 o2 w1 w2 w3 : FVec Ideal S8192x48 .f32}
    (hc1 : ∀ i, c1 i = C (i 0).val (i 1).val) (hc2 : ∀ i, c2 i = C (i 0).val (i 1).val) (ho1 : ∀ i, o1 i = 1) (hc3 : ∀ i, c3 i = C (i 0).val (i 1).val)
    (hc4 : ∀ i, c4 i = C (i 0).val (i 1).val) (ho2 : ∀ i, o2 i = 1) (hn1 : ∀ i, n1 i = -S (i 0).val (i 1).val) (hz1 : ∀ i, z1 i = 0)
    (hw1 : ∀ i, w1 i = 0) (hn2 : ∀ i, n2 i = -S (i 0).val (i 1).val) (hz2 : ∀ i, z2 i = 0) (hw2 : ∀ i, w2 i = 0)
    (hz3 : ∀ i, z3 i = 0) (hp1 : ∀ i, p1 i = S (i 0).val (i 1).val) (hw3 : ∀ i, w3 i = 0) (hz4 : ∀ i, z4 i = 0) (i : S8192x328.Idx) :
    laid c1 c2 c3 c4 n1 z1 n2 z2 z3 p1 z4 o1 o2 w1 w2 w3 i = tab C S (i 0).val (i 1).val := by
  have hi : (i 1).val < 328 := (i 1).isLt
  unfold laid
  rcases (by omega : 0 ≤ (i 1).val ∧ (i 1).val < 8 ∨ 8 ≤ (i 1).val ∧ (i 1).val < 16 ∨ 16 ≤ (i 1).val ∧ (i 1).val < 64 ∨ 64 ≤ (i 1).val ∧ (i 1).val < 72 ∨ 72 ≤ (i 1).val ∧ (i 1).val < 80 ∨ 80 ≤ (i 1).val ∧ (i 1).val < 128 ∨ 128 ≤ (i 1).val ∧ (i 1).val < 136 ∨ 136 ≤ (i 1).val ∧ (i 1).val < 144 ∨ 144 ≤ (i 1).val ∧ (i 1).val < 192 ∨ 192 ≤ (i 1).val ∧ (i 1).val < 200 ∨ 200 ≤ (i 1).val ∧ (i 1).val < 208 ∨ 208 ≤ (i 1).val ∧ (i 1).val < 256 ∨ 256 ≤ (i 1).val ∧ (i 1).val < 264 ∨ 264 ≤ (i 1).val ∧ (i 1).val < 272 ∨ 272 ≤ (i 1).val ∧ (i 1).val < 320 ∨ 320 ≤ (i 1).val ∧ (i 1).val < 328) with
    ⟨lo, hi⟩ | ⟨lo, hi⟩ | ⟨lo, hi⟩ | ⟨lo, hi⟩ | ⟨lo, hi⟩ | ⟨lo, hi⟩ | ⟨lo, hi⟩ | ⟨lo, hi⟩ | ⟨lo, hi⟩ | ⟨lo, hi⟩ | ⟨lo, hi⟩ | ⟨lo, hi⟩ | ⟨lo, hi⟩ | ⟨lo, hi⟩ | ⟨lo, hi⟩ | ⟨lo, hi⟩
  · refine piece _ _ i 0 (by simp) c1 rfl 0 rfl lo hi fun x e0 e1 => ?_
    rw [hc1, e0, e1]
    unfold tab
    split_ifs <;> first | (exfalso; omega) | rfl | exact congrArg (C _) (by omega) | exact congrArg (fun n => -S (i 0).val n) (by omega)
  · refine piece _ _ i 1 (by simp) c2 rfl 8 rfl lo hi fun x e0 e1 => ?_
    rw [hc2, e0, e1]
    unfold tab
    split_ifs <;> first | (exfalso; omega) | rfl | exact congrArg (C _) (by omega) | exact congrArg (fun n => -S (i 0).val n) (by omega)
  · refine piece _ _ i 2 (by simp) o1 rfl 16 rfl lo hi fun x e0 e1 => ?_
    rw [ho1]
    unfold tab
    split_ifs <;> first | (exfalso; omega) | rfl | exact congrArg (S _) (by omega) | exact congrArg (fun n => -S (i 0).val n) (by omega)
  · refine piece _ _ i 3 (by simp) c3 rfl 64 rfl lo hi fun x e0 e1 => ?_
    rw [hc3, e0, e1]
    unfold tab
    split_ifs <;> first | (exfalso; omega) | rfl | exact congrArg (C _) (by omega) | exact congrArg (fun n => -S (i 0).val n) (by omega)
  · refine piece _ _ i 4 (by simp) c4 rfl 72 rfl lo hi fun x e0 e1 => ?_
    rw [hc4, e0, e1]
    unfold tab
    split_ifs <;> first | (exfalso; omega) | rfl | exact congrArg (C _) (by omega) | exact congrArg (fun n => -S (i 0).val n) (by omega)
  · refine piece _ _ i 5 (by simp) o2 rfl 80 rfl lo hi fun x e0 e1 => ?_
    rw [ho2]
    unfold tab
    split_ifs <;> first | (exfalso; omega) | rfl | exact congrArg (S _) (by omega) | exact congrArg (fun n => -S (i 0).val n) (by omega)
  · refine piece _ _ i 6 (by simp) n1 rfl 128 rfl lo hi fun x e0 e1 => ?_
    rw [hn1, e0, e1]
    unfold tab
    split_ifs <;> first | (exfalso; omega) | rfl | exact congrArg (S _) (by omega) | exact congrArg (fun n => -S (i 0).val n) (by omega)
  · refine piece _ _ i 7 (by simp) z1 rfl 136 rfl lo hi fun x e0 e1 => ?_
    rw [hz1]
    unfold tab
    split_ifs <;> first | (exfalso; omega) | rfl | exact congrArg (S _) (by omega) | exact congrArg (fun n => -S (i 0).val n) (by omega)
  · refine piece _ _ i 8 (by simp) w1 rfl 144 rfl lo hi fun x e0 e1 => ?_
    rw [hw1]
    unfold tab
    split_ifs <;> first | (exfalso; omega) | rfl | exact congrArg (S _) (by omega) | exact congrArg (fun n => -S (i 0).val n) (by omega)
  · refine piece _ _ i 9 (by simp) n2 rfl 192 rfl lo hi fun x e0 e1 => ?_
    rw [hn2, e0, e1]
    unfold tab
    split_ifs <;> first | (exfalso; omega) | rfl | exact congrArg (S _) (by omega) | exact congrArg (fun n => -S (i 0).val n) (by omega)
  · refine piece _ _ i 10 (by simp) z2 rfl 200 rfl lo hi fun x e0 e1 => ?_
    rw [hz2]
    unfold tab
    split_ifs <;> first | (exfalso; omega) | rfl | exact congrArg (S _) (by omega) | exact congrArg (fun n => -S (i 0).val n) (by omega)
  · refine piece _ _ i 11 (by simp) w2 rfl 208 rfl lo hi fun x e0 e1 => ?_
    rw [hw2]
    unfold tab
    split_ifs <;> first | (exfalso; omega) | rfl | exact congrArg (S _) (by omega) | exact congrArg (fun n => -S (i 0).val n) (by omega)
  · refine piece _ _ i 12 (by simp) z3 rfl 256 rfl lo hi fun x e0 e1 => ?_
    rw [hz3]
    unfold tab
    split_ifs <;> first | (exfalso; omega) | rfl | exact congrArg (S _) (by omega) | exact congrArg (fun n => -S (i 0).val n) (by omega)
  · refine piece _ _ i 13 (by simp) p1 rfl 264 rfl lo hi fun x e0 e1 => ?_
    rw [hp1, e0, e1]
    unfold tab
    split_ifs <;> first | (exfalso; omega) | rfl | exact congrArg (S _) (by omega) | exact congrArg (fun n => -S (i 0).val n) (by omega)
  · refine piece _ _ i 14 (by simp) w3 rfl 272 rfl lo hi fun x e0 e1 => ?_
    rw [hw3]
    unfold tab
    split_ifs <;> first | (exfalso; omega) | rfl | exact congrArg (S _) (by omega) | exact congrArg (fun n => -S (i 0).val n) (by omega)
  · refine piece _ _ i 15 (by simp) z4 rfl 320 rfl lo hi fun x e0 e1 => ?_
    rw [hz4]
    unfold tab
    split_ifs <;> first | (exfalso; omega) | rfl | exact congrArg (S _) (by omega) | exact congrArg (fun n => -S (i 0).val n) (by omega)

/-- The last 56 columns. -/
def rest (p2 : FVec Ideal S8192x8 .f32) (w4 : FVec Ideal S8192x48 .f32) : FVec Ideal S8192x56 .f32 :=
  concatenate S8192x56 1 [⟨S8192x8, p2⟩, ⟨S8192x48, w4⟩] concatenates_S8192x8_S8192x48_S8192x56_d1

theorem rest_at {C S : ℕ → ℕ → EReal} {p2 : FVec Ideal S8192x8 .f32} {w4 : FVec Ideal S8192x48 .f32} (hp : ∀ i, p2 i = S (i 0).val (i 1).val) (hw : ∀ i, w4 i = 0) (i : S8192x56.Idx) :
    rest p2 w4 i = tab C S (i 0).val (328 + (i 1).val) := by
  have hi : (i 1).val < 56 := (i 1).isLt
  unfold rest
  rcases (by omega : 0 ≤ (i 1).val ∧ (i 1).val < 8 ∨ 8 ≤ (i 1).val ∧ (i 1).val < 56) with ⟨lo, hi⟩ | ⟨lo, hi⟩
  · refine piece _ _ i 0 (by simp) p2 rfl 0 rfl lo hi fun x e0 e1 => ?_
    rw [hp, e0, e1]
    unfold tab
    split_ifs <;> first | (exfalso; omega) | exact congrArg (S _) (by omega)
  · refine piece _ _ i 1 (by simp) w4 rfl 8 rfl lo hi fun x e0 e1 => ?_
    rw [hw]
    unfold tab
    split_ifs <;> first | (exfalso; omega) | rfl

theorem whole_at {C S : ℕ → ℕ → EReal} {a : FVec Ideal S8192x328 .f32} {b : FVec Ideal S8192x56 .f32} (ha : ∀ i, a i = tab C S (i 0).val (i 1).val)
    (hb : ∀ i, b i = tab C S (i 0).val (328 + (i 1).val)) (i : S8192x384.Idx) :
    concatenate S8192x384 1 [⟨S8192x328, a⟩, ⟨S8192x56, b⟩] concatenates_S8192x328_S8192x56_S8192x384_d1 i = tab C S (i 0).val (i 1).val := by
  have hi : (i 1).val < 384 := (i 1).isLt
  rcases (by omega : 0 ≤ (i 1).val ∧ (i 1).val < 328 ∨ 328 ≤ (i 1).val ∧ (i 1).val < 384) with ⟨lo, hi⟩ | ⟨lo, hi⟩
  · refine piece _ _ i 0 (by simp) a rfl 0 rfl lo hi fun x e0 e1 => ?_
    rw [ha, e0, e1]
    rfl
  · refine piece _ _ i 1 (by simp) b rfl 328 rfl lo hi fun x e0 e1 => ?_
    rw [hb, e0, e1]
    exact congrArg (tab C S _) (by omega)
end Attn
-- ==== Proof.AttnArray.lean ====
module

public import proofs.«01_k».proof.Proof.AttnBlock
public import proofs.«01_k».proof.Proof.AttnTable
public import proofs.«01_k».proof.Proof.Gen.AttnFwdIdeal.Value
public import Idealize.ShloMosaic.Lib.StableHlo.RunRead

/-! The attention's output array: the table made before the call, the blocks each point reads, and what it writes. -/

@[expose] public section
noncomputable section
namespace Attn
open Cert.AttnFwdIdeal Cert.AttnFwdIdeal.Gen Idealize.ShloMosaic Idealize.ShloMosaic.TcCoe Idealize.SL.Sem Product
set_option maxHeartbeats 4000000

variable {m : (ℓ : Loc nD τ sig) → Buf (Elt Ideal) ℓ} {c : Dev nD} {X C S : ℕ → ℕ → EReal} {s : ℕ → EReal}
variable (hX : ∀ i : S8192x1536.Idx, V m c main_arg0 i = X (i 0).val (i 1).val)
variable (hC : ∀ i : S8192x8.Idx, V m c main_arg1 i = C (i 0).val (i 1).val) (hS : ∀ i : S8192x8.Idx, V m c main_arg2 i = S (i 0).val (i 1).val)
variable (hs : ∀ i : S16.Idx, V m c main_arg3 i = s (i 0).val)

include hC hS in
theorem table (i : S8192x384.Idx) : V m c main_v7 i = tab C S (i 0).val (i 1).val := by
  unfold V
  after_reads_simp
  have ec : StableHlo.upto hostOps0 (fun b => m (c, b)) 8 (Proc.tc.devRef main_arg1) = V m c main_arg1 := by
    unfold V
    after_reads_simp
  have es : StableHlo.upto hostOps0 (fun b => m (c, b)) 8 (Proc.tc.devRef main_arg2) = V m c main_arg2 := by
    unfold V
    after_reads_simp
  have es' : StableHlo.upto hostOps0 (fun b => m (c, b)) 9 (Proc.tc.devRef main_arg2) = V m c main_arg2 := by
    unfold V
    after_reads_simp
  have hc : ∀ i : S8192x8.Idx, StableHlo.upto hostOps0 (fun b => m (c, b)) 8 (Proc.tc.devRef main_arg1) i = C (i 0).val (i 1).val := fun i => (congrFun ec i).trans (hC i)
  have hp : ∀ i : S8192x8.Idx, StableHlo.upto hostOps0 (fun b => m (c, b)) 8 (Proc.tc.devRef main_arg2) i = S (i 0).val (i 1).val := fun i => (congrFun es i).trans (hS i)
  have hp' : ∀ i : S8192x8.Idx, StableHlo.upto hostOps0 (fun b => m (c, b)) 9 (Proc.tc.devRef main_arg2) i = S (i 0).val (i 1).val := fun i => (congrFun es' i).trans (hS i)
  have ho : ∀ i : S8192x48.Idx, StableHlo.upto hostOps0 (fun b => m (c, b)) 8 (Proc.tc.devRef main_v0) i = (1 : EReal) := fun i => by
    after_reads_simp
    exact Gate.one_lit
  have hw : ∀ i : S8192x48.Idx, StableHlo.upto hostOps0 (fun b => m (c, b)) 8 (Proc.tc.devRef main_v1) i = (0 : EReal) := fun i => by
    after_reads_simp
    exact Gate.zero_lit
  have hw' : ∀ i : S8192x48.Idx, StableHlo.upto hostOps0 (fun b => m (c, b)) 9 (Proc.tc.devRef main_v1) i = (0 : EReal) := fun i => by
    after_reads_simp
    exact Gate.zero_lit
  have hz : ∀ i : S8192x8.Idx, StableHlo.upto hostOps0 (fun b => m (c, b)) 8 (Proc.tc.devRef main_v2) i = (0 : EReal) := fun i => by
    after_reads_simp
    exact Gate.zero_lit
  have hn : ∀ i : S8192x8.Idx, StableHlo.upto hostOps0 (fun b => m (c, b)) 8 (Proc.tc.devRef main_v3) i = -S (i 0).val (i 1).val := fun i => by
    after_reads_simp
    exact congrArg (fun x : EReal => -x) (hp i)
  have hn' : ∀ i : S8192x8.Idx, StableHlo.upto hostOps0 (fun b => m (c, b)) 8 (Proc.tc.devRef main_v4) i = -S (i 0).val (i 1).val := fun i => by
    after_reads_simp
    exact congrArg (fun x : EReal => -x) (hp i)
  exact whole_at (laid_at hc hc ho hc hc ho hn hz hw hn' hz hw hz hp hw hz) (rest_at (C := C) hp' hw') i

theorem index0_0 : ∀ t : Fin cfg0.N, win0_0.index t 0 = 0 := by decide +kernel
theorem index1_0 : ∀ t : Fin cfg0.N, win0_1.index t 0 = t.val := by decide +kernel
theorem index1_1 : ∀ t : Fin cfg0.N, win0_1.index t 1 = 0 := by decide +kernel
theorem index2_0 : ∀ t : Fin cfg0.N, win0_2.index t 0 = t.val := by decide +kernel
theorem index2_1 : ∀ t : Fin cfg0.N, win0_2.index t 1 = 4 := by decide +kernel
theorem index3_0 : ∀ t : Fin cfg0.N, win0_3.index t 0 = t.val - 1 := by decide +kernel
theorem index3_1 : ∀ t : Fin cfg0.N, win0_3.index t 1 = 4 := by decide +kernel
theorem index4_0 : ∀ t : Fin cfg0.N, win0_4.index t 0 = t.val := by decide +kernel
theorem index4_1 : ∀ t : Fin cfg0.N, win0_4.index t 1 = 5 := by decide +kernel
theorem index5_0 : ∀ t : Fin cfg0.N, win0_5.index t 0 = t.val - 1 := by decide +kernel
theorem index5_1 : ∀ t : Fin cfg0.N, win0_5.index t 1 = 5 := by decide +kernel
theorem index6_0 : ∀ t : Fin cfg0.N, win0_6.index t 0 = t.val := by decide +kernel
theorem index6_1 : ∀ t : Fin cfg0.N, win0_6.index t 1 = 0 := by decide +kernel
theorem index7_0 : ∀ t : Fin cfg0.N, win0_7.index t 0 = t.val - 1 := by decide +kernel
theorem index7_1 : ∀ t : Fin cfg0.N, win0_7.index t 1 = 0 := by decide +kernel
theorem index8_0 : ∀ t : Fin cfg0.N, win0_8.index t 0 = t.val := by decide +kernel
theorem index8_1 : ∀ t : Fin cfg0.N, win0_8.index t 1 = 0 := by decide +kernel
theorem point : ∀ t : Fin cfg0.N, (grid0.coords t 0).val = t.val := by decide +kernel

include hs in
theorem in0 (t : Fin cfg0.N) (i : S16.Idx) : (iblk m c 0 t : Vec Ideal S16 .f32) i = s (i 0).val := by
  refine (hs ((win0_0.rect t).emb i)).trans ?_
  rw [win0_0.rect_emb_val_of_index_zero t 0 (index0_0 t) i]
include hX in
theorem in1 (t : Fin cfg0.N) (i : S128x1024.Idx) : (X0_1 m c t : Vec Ideal S128x1024 .bf16) i = X (t.val * 128 + (i 0).val) (i 1).val := by
  unfold X0_1 Pipeline.Window.fill
  rw [dif_pos (moved0_1 t i)]
  refine (hX ((win0_1.rect t).emb _)).trans ?_
  rw [win0_1.rect_emb_val t _ 0, index1_0, win0_1.rect_emb_val_of_index_zero t 1 (index1_1 t)]
  rfl
include hX in
theorem in2 (t : Fin cfg0.N) (i : S128x256.Idx) : (iblk m c 2 t : Vec Ideal S128x256 .bf16) i = X (t.val * 128 + (i 0).val) (1024 + (i 1).val) := by
  refine (hX ((win0_2.rect t).emb i)).trans ?_
  rw [win0_2.rect_emb_val t i 0, index2_0, win0_2.rect_emb_val t i 1, index2_1]
  rfl
include hX in
theorem in3 (t : Fin cfg0.N) (i : S128x256.Idx) : (iblk m c 3 t : Vec Ideal S128x256 .bf16) i = X ((t.val - 1) * 128 + (i 0).val) (1024 + (i 1).val) := by
  refine (hX ((win0_3.rect t).emb i)).trans ?_
  rw [win0_3.rect_emb_val t i 0, index3_0, win0_3.rect_emb_val t i 1, index3_1]
  rfl
include hX in
theorem in4 (t : Fin cfg0.N) (i : S128x256.Idx) : (iblk m c 4 t : Vec Ideal S128x256 .bf16) i = X (t.val * 128 + (i 0).val) (1280 + (i 1).val) := by
  refine (hX ((win0_4.rect t).emb i)).trans ?_
  rw [win0_4.rect_emb_val t i 0, index4_0, win0_4.rect_emb_val t i 1, index4_1]
  rfl
include hX in
theorem in5 (t : Fin cfg0.N) (i : S128x256.Idx) : (iblk m c 5 t : Vec Ideal S128x256 .bf16) i = X ((t.val - 1) * 128 + (i 0).val) (1280 + (i 1).val) := by
  refine (hX ((win0_5.rect t).emb i)).trans ?_
  rw [win0_5.rect_emb_val t i 0, index5_0, win0_5.rect_emb_val t i 1, index5_1]
  rfl
include hC hS in
theorem in6 (t : Fin cfg0.N) (i : S128x384.Idx) : (iblk m c 6 t : Vec Ideal S128x384 .f32) i = tab C S (t.val * 128 + (i 0).val) ((i 1).val) := by
  refine (table hC hS ((win0_6.rect t).emb i)).trans ?_
  rw [win0_6.rect_emb_val t i 0, index6_0, win0_6.rect_emb_val_of_index_zero t 1 (index6_1 t) i]
  rfl
include hC hS in
theorem in7 (t : Fin cfg0.N) (i : S128x384.Idx) : (iblk m c 7 t : Vec Ideal S128x384 .f32) i = tab C S ((t.val - 1) * 128 + (i 0).val) ((i 1).val) := by
  refine (table hC hS ((win0_7.rect t).emb i)).trans ?_
  rw [win0_7.rect_emb_val t i 0, index7_0, win0_7.rect_emb_val_of_index_zero t 1 (index7_1 t) i]
  rfl

include hX hC hS hs in
theorem stored (t : Fin cfg0.N) (i : S128x1024.Idx) : (dats m 0 c).flushed 8 t i = att X C S s t.val (i 0).val (i 1).val := by
  refine (congrFun (Value.flushed8_A m c t) i).trans ?_
  have e := point t
  refine (block (X := X) (C := C) (S := S) (s := s) _ _ _ _ _ _ _ _ _ _ _ _ _ _ _ _ _ _ _ _ _ _ _ _ _ _ _ _ (in0 hs t) (fun i => ?_) (fun i => ?_) (fun i => ?_) (fun i => ?_) (fun i => ?_) (fun i => ?_) (fun i => ?_) i).trans ?_
  · rw [e]; exact in1 hX t i
  · rw [e]; exact in2 hX t i
  · rw [e]; exact in3 hX t i
  · rw [e]; exact in4 hX t i
  · rw [e]; exact in5 hX t i
  · rw [e]; exact in6 hC hS t i
  · rw [e]; exact in7 hC hS t i
  · rw [e]

include hX hC hS hs in
/-- The array after the run: row `r` is query `r % 128` of block `r / 128`. -/
theorem array (i : S8192x1024.Idx) : (dats m 0 c).arrAt 8 cfg0.N i = att X C S s ((i 0).val / 128) ((i 0).val % 128) (i 1).val := by
  refine (dats m 0 c).arrAt_forall_of_cover 8 (fun (i : S8192x1024.Idx) (v : EReal) => v = att X C S s ((i 0).val / 128) ((i 0).val % 128) (i 1).val) (fun t ht y => ?_) (fun i => ?_) i
  · show (dats m 0 c).flushed 8 t y = att X C S s (((win0_8.rect t).emb y 0).val / 128) (((win0_8.rect t).emb y 0).val % 128) ((win0_8.rect t).emb y 1).val
    have hy : (y 0).val < 128 := (y 0).isLt
    have e0 : ((win0_8.rect t).emb y 0).val = t.val * 128 + (y 0).val := by
      rw [win0_8.rect_emb_val t y 0, index8_0]
      rfl
    rw [e0, win0_8.rect_emb_val_of_index_zero t 1 (index8_1 t) y, (by omega : (t.val * 128 + (y 0).val) / 128 = t.val), (by omega : (t.val * 128 + (y 0).val) % 128 = (y 0).val)]
    exact stored hX hC hS hs t y
  · have hN : cfg0.N = 64 := N_0
    have b0 : (i 0).val < 8192 := (i 0).isLt
    have b1 : (i 1).val < 1024 := (i 1).isLt
    let t : Fin cfg0.N := ⟨(i 0).val / 128, by omega⟩
    refine ⟨t, flush0_8 t, ?_⟩
    show i ∈ ((View.whole main_v8).slice (win0_8.rect t)).set
    rw [View.set_slice_whole, win0_8.mem_rect_iff]
    intro a
    match a with
    | ⟨0, _⟩ =>
      show win0_8.index t 0 * 128 ≤ (i 0).val ∧ (i 0).val < win0_8.index t 0 * 128 + 128
      rw [index8_0]
      show (i 0).val / 128 * 128 ≤ _ ∧ _ < (i 0).val / 128 * 128 + 128
      omega
    | ⟨1, _⟩ =>
      show win0_8.index t 1 * 1024 ≤ (i 1).val ∧ (i 1).val < win0_8.index t 1 * 1024 + 1024
      rw [index8_1]
      omega
end Attn
-- ==== Proof.AttnRead.lean ====
module

public import proofs.«01_k».proof.Proof.AttnRope
public import proofs.«01_k».proof.Proof.Gen.AttnFwdRefIdeal.Read

/-! The reference's rotated queries, and its bands of keys and values. -/

@[expose] public section
noncomputable section
namespace Attn.Reference
open Cert.AttnFwdRefIdeal Cert.AttnFwdRefIdeal.Gen Cert.AttnFwdRefIdeal.Read Idealize.ShloMosaic Idealize.ShloMosaic.TcCoe Idealize.SL.Sem Product
set_option maxHeartbeats 4000000

section join
variable {R : ℕ → ℕ → ℕ → EReal}

/-- Three pieces of the heads side by side. -/
theorem join16 {a b : FVec Ideal S8192x16x8 .f32} {d : FVec Ideal S8192x16x48 .f32} (ha : ∀ i, a i = R (i 0).val (i 1).val (i 2).val)
    (hb : ∀ i, b i = R (i 0).val (i 1).val (8 + (i 2).val)) (hd : ∀ i, d i = R (i 0).val (i 1).val (16 + (i 2).val)) (i : S8192x16x64.Idx) :
    concatenate S8192x16x64 2 [⟨S8192x16x8, a⟩, ⟨S8192x16x8, b⟩, ⟨S8192x16x48, d⟩] concatenates_S8192x16x8_S8192x16x8_S8192x16x48_S8192x16x64_d2 i
      = R (i 0).val (i 1).val (i 2).val := by
  have hi : (i 2).val < 64 := (i 2).isLt
  pointwise
  simp only [ha, hb, hd]
  split
  · rfl
  · split
    · exact congrArg (R (i 0).val (i 1).val) (show 8 + ((i 2).val - 8) = (i 2).val by omega)
    · exact congrArg (R (i 0).val (i 1).val) (show 16 + ((i 2).val - 8 - 8) = (i 2).val by omega)

theorem join4 {a b : FVec Ideal S8192x4x8 .f32} {d : FVec Ideal S8192x4x48 .f32} (ha : ∀ i, a i = R (i 0).val (i 1).val (i 2).val)
    (hb : ∀ i, b i = R (i 0).val (i 1).val (8 + (i 2).val)) (hd : ∀ i, d i = R (i 0).val (i 1).val (16 + (i 2).val)) (i : S8192x4x64.Idx) :
    concatenate S8192x4x64 2 [⟨S8192x4x8, a⟩, ⟨S8192x4x8, b⟩, ⟨S8192x4x48, d⟩] concatenates_S8192x4x8_S8192x4x8_S8192x4x48_S8192x4x64_d2 i
      = R (i 0).val (i 1).val (i 2).val := by
  have hi : (i 2).val < 64 := (i 2).isLt
  pointwise
  simp only [ha, hb, hd]
  split
  · rfl
  · split
    · exact congrArg (R (i 0).val (i 1).val) (show 8 + ((i 2).val - 8) = (i 2).val by omega)
    · exact congrArg (R (i 0).val (i 1).val) (show 16 + ((i 2).val - 8 - 8) = (i 2).val by omega)
end join

/-- A block of rows with the block before it, which for the first block is zero. -/
def band (B : ℕ → ℕ → EReal) (t k c : ℕ) : EReal := if k < 128 ∧ t = 0 then 0 else B (keyRow t k) c

/-- The band made by padding, cutting and joining. -/
theorem banded {x : FVec Ideal S64x128x4x64 .f32} {z : FVec Ideal S_ .f32} {B : ℕ → ℕ → EReal} (hx : ∀ i, x i = B ((i 0).val * 128 + (i 1).val) ((i 2).val * 64 + (i 3).val))
    (hz : ∀ i, z i = 0) (i : S64x256x4x64.Idx) :
    concatenate S64x256x4x64 1 [⟨S64x128x4x64, extractStridedSlice S64x128x4x64 ![0, 0, 0, 0]
        (pad S65x128x4x64 ![1, 0, 0, 0] ![0, 0, 0, 0] ![0, 0, 0, 0] x z pads_S64x128x4x64_S65x128x4x64_100_000_000_000 h_S_) slices_S65x128x4x64_S64x128x4x64_0_0_0_0⟩, ⟨S64x128x4x64, x⟩]
      concatenates_S64x128x4x64_S64x128x4x64_S64x256x4x64_d1 i = band B (i 0).val (i 1).val ((i 2).val * 64 + (i 3).val) := by
  have hi : (i 1).val < 256 := (i 1).isLt
  pointwise
  simp only [hx, hz]
  have h0 : (i 0).val < 64 := (i 0).isLt
  unfold band keyRow
  split
  next h =>
    by_cases ht : (i 0).val = 0
    · rw [dif_neg (by omega), if_pos ⟨h, ht⟩]
    · rw [dif_pos (by omega), if_neg (fun e => ht e.2)]
      rfl
  next h =>
    exact (if_neg (fun e : (i 1).val < 128 ∧ (i 0).val = 0 => h e.1)).symm

/-- The integer zero as a float. -/
theorem zero_int : (FloatOps.sitofp (F := Ideal) .f32 (0#32) : EReal) = 0 := by
  show (((0#32 : BitVec 32).toInt : ℝ) : EReal) = 0
  simp

variable {x0 : FVec Ideal S8192x1536 .bf16} {x1 x2 : FVec Ideal S8192x8 .f32} {X C S : ℕ → ℕ → EReal}
variable (hX : ∀ i, x0 i = X (i 0).val (i 1).val) (hC : ∀ i, x1 i = C (i 0).val (i 1).val) (hS : ∀ i, x2 i = S (i 0).val (i 1).val)

include hX in
theorem split16 (i : S8192x16x64.Idx) : val_main_v2 (F := Ideal) x0 i = X (i 0).val ((i 1).val * 64 + (i 2).val) := by
  have h1 : (i 1).val < 16 := (i 1).isLt
  have h2 : (i 2).val < 64 := (i 2).isLt
  rw [val_main_v2_apply, val_main_v1_apply, val_main_v0_apply]
  refine (hX _).trans (congrArg₂ X ?_ ?_)
  · show (((i 0).val * 16 + (i 1).val) * 64 + (i 2).val) / 1024 = _
    omega
  · show (((i 0).val * 16 + (i 1).val) * 64 + (i 2).val) % 1024 = _
    omega

include hX hC hS in
/-- The rotated queries. -/
theorem turned16 (i : S8192x16x64.Idx) : val_main_v18 (F := Ideal) x0 x1 x2 i = rot X C S (i 0).val ((i 1).val * 64 + (i 2).val) := by
  unfold val_main_v18
  refine join16 (R := fun r h d => rot X C S r (h * 64 + d)) (fun i => ?_) (fun i => ?_) (fun i => ?_) i
  · have h2 : (i 2).val < 8 := (i 2).isLt
    rw [val_main_v11_apply, val_main_v8_apply, val_main_v10_apply, val_main_v5_apply, val_main_v6_apply, val_main_v7_apply, val_main_v9_apply, val_main_v3_apply, val_main_v4_apply,
      split16 hX, split16 hX, hC, hS]
    unfold rot
    rw [(by omega : ((i 1).val * 64 + (i 2).val) % 64 = (i 2).val), if_pos h2, (by omega : (i 1).val * 64 + (i 2).val + 8 = (i 1).val * 64 + (8 + (i 2).val))]
    rfl
  · have h2 : (i 2).val < 8 := (i 2).isLt
    rw [val_main_v16_apply, val_main_v13_apply, val_main_v15_apply, val_main_v5_apply, val_main_v6_apply, val_main_v12_apply, val_main_v14_apply, val_main_v3_apply, val_main_v4_apply,
      split16 hX, split16 hX, hC, hS]
    unfold rot
    rw [(by omega : ((i 1).val * 64 + (8 + (i 2).val)) % 64 = 8 + (i 2).val), if_neg (by omega), if_pos (by omega), (by omega : (i 1).val * 64 + (8 + (i 2).val) - 8 = (i 1).val * 64 + (i 2).val),
      (by omega : 8 + (i 2).val - 8 = (i 2).val)]
    rfl
  · have h2 : (i 2).val < 48 := (i 2).isLt
    rw [val_main_v17_apply, split16 hX]
    unfold rot
    rw [(by omega : ((i 1).val * 64 + (16 + (i 2).val)) % 64 = 16 + (i 2).val), if_neg (by omega), if_neg (by omega)]
include hX in
theorem split4 (i : S8192x4x64.Idx) : val_main_v20 (F := Ideal) x0 i = X (i 0).val (1024 + ((i 1).val * 64 + (i 2).val)) := by
  have h1 : (i 1).val < 4 := (i 1).isLt
  have h2 : (i 2).val < 64 := (i 2).isLt
  rw [val_main_v20_apply, val_main_v19_apply, val_main_v0_apply]
  refine (hX _).trans (congrArg₂ X ?_ ?_)
  · show (((i 0).val * 4 + (i 1).val) * 64 + (i 2).val) / 256 = _
    omega
  · show 1024 + (((i 0).val * 4 + (i 1).val) * 64 + (i 2).val) % 256 = _
    omega

include hX hC hS in
/-- The rotated keys. -/
theorem turned4 (i : S8192x4x64.Idx) : val_main_v36 (F := Ideal) x0 x1 x2 i = rot X C S (i 0).val (1024 + ((i 1).val * 64 + (i 2).val)) := by
  unfold val_main_v36
  refine join4 (R := fun r h d => rot X C S r (1024 + (h * 64 + d))) (fun i => ?_) (fun i => ?_) (fun i => ?_) i
  · have h2 : (i 2).val < 8 := (i 2).isLt
    rw [val_main_v29_apply, val_main_v26_apply, val_main_v28_apply, val_main_v23_apply, val_main_v24_apply, val_main_v25_apply, val_main_v27_apply, val_main_v21_apply, val_main_v22_apply,
      split4 hX, split4 hX, hC, hS]
    unfold rot
    rw [(by omega : (1024 + ((i 1).val * 64 + (i 2).val)) % 64 = (i 2).val), if_pos h2, (by omega : 1024 + ((i 1).val * 64 + (i 2).val) + 8 = 1024 + ((i 1).val * 64 + (8 + (i 2).val)))]
    rfl
  · have h2 : (i 2).val < 8 := (i 2).isLt
    rw [val_main_v34_apply, val_main_v31_apply, val_main_v33_apply, val_main_v23_apply, val_main_v24_apply, val_main_v30_apply, val_main_v32_apply, val_main_v21_apply, val_main_v22_apply,
      split4 hX, split4 hX, hC, hS]
    unfold rot
    rw [(by omega : (1024 + ((i 1).val * 64 + (8 + (i 2).val))) % 64 = 8 + (i 2).val), if_neg (by omega), if_pos (by omega), (by omega : 1024 + ((i 1).val * 64 + (8 + (i 2).val)) - 8 = 1024 + ((i 1).val * 64 + (i 2).val)),
      (by omega : 8 + (i 2).val - 8 = (i 2).val)]
    rfl
  · have h2 : (i 2).val < 48 := (i 2).isLt
    rw [val_main_v35_apply, split4 hX]
    unfold rot
    rw [(by omega : (1024 + ((i 1).val * 64 + (16 + (i 2).val))) % 64 = 16 + (i 2).val), if_neg (by omega), if_neg (by omega)]

include hX in
theorem held (i : S8192x4x64.Idx) : val_main_v38 (F := Ideal) x0 i = X (i 0).val (1280 + ((i 1).val * 64 + (i 2).val)) := by
  have h1 : (i 1).val < 4 := (i 1).isLt
  have h2 : (i 2).val < 64 := (i 2).isLt
  rw [val_main_v38_apply, val_main_v37_apply, val_main_v0_apply]
  refine (hX _).trans (congrArg₂ X ?_ ?_)
  · show (((i 0).val * 4 + (i 1).val) * 64 + (i 2).val) / 256 = _
    omega
  · show 1280 + (((i 0).val * 4 + (i 1).val) * 64 + (i 2).val) % 256 = _
    omega

include hX hC hS in
theorem queries (i : S64x128x4x4x64.Idx) : val_main_v39 (F := Ideal) x0 x1 x2 i = rot X C S ((i 0).val * 128 + (i 1).val) (((i 2).val * 4 + (i 3).val) * 64 + (i 4).val) := by
  have h1 : (i 1).val < 128 := (i 1).isLt
  have h2 : (i 2).val < 4 := (i 2).isLt
  have h3 : (i 3).val < 4 := (i 3).isLt
  have h4 : (i 4).val < 64 := (i 4).isLt
  rw [val_main_v39_apply]
  refine (turned16 hX hC hS _).trans (congrArg₂ (rot X C S) ?_ ?_)
  · show (((((i 0).val * 128 + (i 1).val) * 4 + (i 2).val) * 4 + (i 3).val) * 64 + (i 4).val) / 1024 = _
    omega
  · show (((((i 0).val * 128 + (i 1).val) * 4 + (i 2).val) * 4 + (i 3).val) * 64 + (i 4).val) / 64 % 16 * 64 + (((((i 0).val * 128 + (i 1).val) * 4 + (i 2).val) * 4 + (i 3).val) * 64 + (i 4).val) % 64 = _
    omega

include hX hC hS in
theorem keys (i : S64x256x4x64.Idx) : val_main_v43 (F := Ideal) x0 x1 x2 i = band (fun r c => rot X C S r (1024 + c)) (i 0).val (i 1).val ((i 2).val * 64 + (i 3).val) := by
  unfold val_main_v43 val_main_v42 val_main_v41
  refine banded (B := fun r c => rot X C S r (1024 + c)) (fun i => ?_) (fun i => ?_) i
  · have h1 : (i 1).val < 128 := (i 1).isLt
    have h2 : (i 2).val < 4 := (i 2).isLt
    have h3 : (i 3).val < 64 := (i 3).isLt
    rw [val_main_v40_apply]
    refine (turned4 hX hC hS _).trans (congrArg₂ (rot X C S) ?_ ?_)
    · show ((((i 0).val * 128 + (i 1).val) * 4 + (i 2).val) * 64 + (i 3).val) / 256 = _
      omega
    · show 1024 + (((((i 0).val * 128 + (i 1).val) * 4 + (i 2).val) * 64 + (i 3).val) / 64 % 4 * 64 + ((((i 0).val * 128 + (i 1).val) * 4 + (i 2).val) * 64 + (i 3).val) % 64) = _
      omega
  · rw [val_main_call0_v0_apply]
    exact zero_int

include hX in
theorem values (i : S64x256x4x64.Idx) : val_main_v47 (F := Ideal) x0 i = band (fun r c => X r (1280 + c)) (i 0).val (i 1).val ((i 2).val * 64 + (i 3).val) := by
  unfold val_main_v47 val_main_v46 val_main_v45
  refine banded (B := fun r c => X r (1280 + c)) (fun i => ?_) (fun i => ?_) i
  · have h1 : (i 1).val < 128 := (i 1).isLt
    have h2 : (i 2).val < 4 := (i 2).isLt
    have h3 : (i 3).val < 64 := (i 3).isLt
    rw [val_main_v44_apply]
    refine (held hX _).trans (congrArg₂ X ?_ ?_)
    · show ((((i 0).val * 128 + (i 1).val) * 4 + (i 2).val) * 64 + (i 3).val) / 256 = _
      omega
    · show 1280 + (((((i 0).val * 128 + (i 1).val) * 4 + (i 2).val) * 64 + (i 3).val) / 64 % 4 * 64 + ((((i 0).val * 128 + (i 1).val) * 4 + (i 2).val) * 64 + (i 3).val) % 64) = _
      omega
  · rw [val_main_call1_v0_apply]
    exact zero_int
end Attn.Reference
-- ==== Proof.AttnSoft.lean ====
module

public import proofs.«01_k».proof.Proof.AttnRope

/-! The weights divided before they meet the values, and that this is the same where the scores are real or `⊥` and the sink is real. -/

@[expose] public section
noncomputable section
namespace Attn
open Idealize.ShloMosaic Product

/-- One element of a head: the values by the keys' weights, each over their sum with the sink's. -/
def soft (f : ℕ → EReal) (s : EReal) (u : ℕ → EReal) : EReal :=
  stretch 256 0 fun k => u k * Ideal.div (Ideal.exp (f k - top f s)) (stretch 256 0 (fun j => Ideal.exp (f j - top f s)) + Ideal.exp (s - top f s))

theorem exp_nonneg (a : EReal) : 0 ≤ Ideal.exp a := by
  induction a with
  | bot => exact le_refl _
  | top => exact le_top
  | coe r => exact EReal.coe_nonneg.mpr (Real.exp_pos r).le

/-- The total weight is not zero: the sink's is positive. -/
theorem total_ne {f : ℕ → EReal} {s : ℝ} (hf : ∀ k, f k ≠ ⊤) :
    stretch 256 0 (fun j => Ideal.exp (f j - top f s)) + Ideal.exp ((s : EReal) - top f s) ≠ 0 := by
  have h1 : top f s ≠ ⊤ := by
    refine ne_of_lt (max_lt ?_ (EReal.coe_lt_top s))
    exact (Finset.sup_lt_iff (show (⊥ : EReal) < ⊤ from bot_lt_top)).mpr fun k _ => lt_top_iff_ne_top.mpr (hf k)
  have h2 : top f s ≠ ⊥ := ne_of_gt (lt_of_lt_of_le (EReal.bot_lt_coe s) (le_max_right _ _))
  have h3 : 0 < Ideal.exp ((s : EReal) - top f s) := by
    rw [← EReal.coe_toReal h1 h2, ← EReal.coe_sub]
    exact EReal.coe_pos.mpr (Real.exp_pos _)
  exact ne_of_gt (lt_of_lt_of_le h3 (le_add_of_nonneg_left (Finset.sum_nonneg fun k _ => exp_nonneg _)))

/-- The two ways of dividing agree, and a value whose score is `⊥` does not count. -/
theorem soft_eq {f : ℕ → EReal} {s : ℝ} {u v : ℕ → EReal} (hf : ∀ k, f k ≠ ⊤) (hu : ∀ k, f k ≠ ⊥ → u k = v k) : soft f s u = mix f s v := by
  unfold soft mix
  refine Finset.sum_congr rfl fun k _ => ?_
  simp only [Ideal.div, if_neg (total_ne hf), one_mul]
  by_cases h : f (0 * 256 + k) = ⊥
  · rw [h, EReal.bot_sub, Ideal.exp_bot, zero_mul, zero_mul, mul_zero, zero_mul]
  · rw [hu _ h, mul_comm]

/-- The sum of 257 terms of which the last is the sink's. -/
theorem sum_last (g : ℕ → EReal) : ∑ k : Fin 257, g k.val = stretch 256 0 g + g 256 := by
  rw [Fin.sum_univ_castSucc]
  exact congrArg (fun z => z + g 256) (stretch_first 256 g)

/-- The largest of 257 terms of which the last is the sink's. -/
theorem top_last (f : ℕ → EReal) (s : EReal) : (Finset.univ : Finset (Fin 257)).fold max ⊥ (fun k => if k.val < 256 then f k.val else s) = top f s := by
  have e : ∀ k : Fin 257, (if k.val < 256 then f k.val else s) ≤ (Finset.univ : Finset (Fin 257)).sup fun k => if k.val < 256 then f k.val else s :=
    fun k => Finset.le_sup (f := fun k : Fin 257 => if k.val < 256 then f k.val else s) (Finset.mem_univ k)
  show (Finset.univ : Finset (Fin 257)).sup (fun k => if k.val < 256 then f k.val else s) = _
  apply le_antisymm
  · refine Finset.sup_le fun k _ => ?_
    by_cases h : k.val < 256
    · rw [if_pos h]
      exact le_max_of_le_left (Finset.le_sup (f := f) (Finset.mem_range.mpr h))
    · rw [if_neg h]
      exact le_max_right _ _
  · refine max_le (Finset.sup_le fun k hk => ?_) ?_
    · have h := Finset.mem_range.mp hk
      exact le_of_eq_of_le (if_pos h).symm (e ⟨k, by omega⟩)
    · exact le_of_eq_of_le (if_neg (Nat.lt_irrefl 256)).symm (e ⟨256, by decide⟩)

/-- A sum scaled by a finite number that is not negative. -/
theorem sum_scale {n : ℕ} (f : Fin n → EReal) {a : EReal} (h0 : 0 ≤ a) (ht : a ≠ ⊤) : (∑ k, f k) * a = ∑ k, f k * a :=
  map_sum (⟨⟨fun z => z * a, zero_mul a⟩, fun y z => EReal.right_distrib_of_nonneg_of_ne_top h0 ht y z⟩ : EReal →+ EReal) f _

theorem eighth : Ideal.ofBits .f32 0x3E000000#32 = ((1 / 8 : ℝ) : EReal) := by
  simp [Ideal.ofBits, Ideal.ieee]
  rw [← EReal.coe_mul]
  norm_num

/-- The score of key `k` for query `q` of block `t` in head `h`. -/
def score (X C S : ℕ → ℕ → EReal) (t q h : ℕ) : ℕ → EReal :=
  seen (ok t q) (fun d => rot X C S (t * 128 + q) (h * 64 + d) * Ideal.ofBits .f32 0x3E000000#32) (fun k d => rot X C S (keyRow t k) (1024 + (h / 4 * 64 + d)))

section real
variable (X C S : ℕ → ℕ → ℝ)

theorem rot_real (r c : ℕ) : ∃ a : ℝ, rot (fun r c => (X r c : EReal)) (fun r c => (C r c : EReal)) (fun r c => (S r c : EReal)) r c = a := by
  unfold rot
  split
  · exact ⟨X r c * C r (c % 64) - X r (c + 8) * S r (c % 64), by push_cast; rfl⟩
  · split
    · exact ⟨X r c * C r (c % 64 - 8) + X r (c - 8) * S r (c % 64 - 8), by push_cast; rfl⟩
    · exact ⟨X r c, rfl⟩

/-- A real score is not infinite. -/
theorem score_ne (t q h k : ℕ) : score (fun r c => (X r c : EReal)) (fun r c => (C r c : EReal)) (fun r c => (S r c : EReal)) t q h k ≠ ⊤ := by
  choose R hR using rot_real X C S
  unfold score seen
  split
  · simp only [hR, eighth, stretch, ← EReal.coe_mul]
    exact ne_of_eq_of_ne (map_sum (⟨⟨((↑) : ℝ → EReal), EReal.coe_zero⟩, EReal.coe_add⟩ : ℝ →+ EReal) _ _).symm (EReal.coe_ne_top _)
  · exact (show (⊥ : EReal) ≠ ⊤ from bot_ne_top)
end real
end Attn
-- ==== Proof.AttnRef.lean ====
module

public import proofs.«01_k».proof.Proof.AttnRead
public import proofs.«01_k».proof.Proof.AttnSoft

/-! The reference's attention read at an index: the mask, the scores, their largest, the total weight and the output. -/

@[expose] public section
noncomputable section
namespace Attn.Reference
open Cert.AttnFwdRefIdeal Cert.AttnFwdRefIdeal.Gen Cert.AttnFwdRefIdeal.Read Idealize.ShloMosaic Idealize.ShloMosaic.TcCoe Idealize.SL.Sem Product
set_option maxHeartbeats 800000

variable {x0 : FVec Ideal S8192x1536 .bf16} {x1 x2 : FVec Ideal S8192x8 .f32} {x3 : FVec Ideal S16 .f32} {X C S : ℕ → ℕ → EReal} {s : ℕ → EReal}
variable (hX : ∀ i, x0 i = X (i 0).val (i 1).val) (hC : ∀ i, x1 i = C (i 0).val (i 1).val) (hS : ∀ i, x2 i = S (i 0).val (i 1).val) (hs : ∀ i, x3 i = s (i 0).val)

theorem mask (i : S64x4x4x128x256.Idx) : val_main_call2_v1 (F := Ideal) i = if ok (i 0).val (i 3).val (i 4).val then 1#1 else 0#1 := by
  simp only [val_main_call2_v1_apply, val_main_v80_apply, val_main_v79_apply, val_main_v78_apply, val_main_v77_apply, val_main_v76_apply, val_main_v75_apply,
    val_main_v74_apply, val_main_v73_apply, val_main_v72_apply, val_main_v71_apply, val_main_v70_apply, val_main_v69_apply, val_main_v68_apply, val_main_v67_apply,
    val_main_v66_apply, val_main_v65_apply, val_main_v64_apply, val_main_v63_apply, val_main_v62_apply, val_main_v61_apply, val_main_v60_apply, val_main_v59_apply,
    val_main_v58_apply, val_main_v57_apply, val_main_v56_apply, val_main_v55_apply, val_main_v54_apply, val_main_v53_apply, val_main_v52_apply,
    val_main_c_1_apply, val_main_c_2_apply, val_main_c_3_apply, val_main_c_4_apply, val_main_c_5_apply]
  exact (congrArg₂ IntOp.andi (Attn.band (i 3).val (i 4).val (i 3).isLt (i 4).isLt) (congrArg₂ IntOp.ori (later (i 0).val (i 0).isLt) (late (i 4).val (i 4).isLt))).trans
    ((bits _ _ _).trans (if_congr ⟨fun h => ⟨h.1.1, h.1.2, h.2.symm⟩, fun h => ⟨⟨h.1, h.2.1⟩, h.2.2.symm⟩⟩ rfl rfl))

include hX hC hS in
theorem scored (i : S64x4x4x128x256.Idx) : val_main_v81 (F := Ideal) x0 x1 x2 i = score X C S (i 0).val (i 3).val ((i 1).val * 4 + (i 2).val) (i 4).val := by
  have h2 : (i 2).val < 4 := (i 2).isLt
  rw [val_main_v81_apply, mask, val_main_v51_apply, val_main_v49_apply, val_main_v48_apply, val_main_v50_apply, val_main_cst_apply, val_main_call2_v2_apply,
    val_main_call2_v0_apply, val_main_cst_6_apply]
  unfold score seen
  by_cases h : ok (i 0).val (i 3).val (i 4).val
  · rw [if_pos h, if_pos h]
    refine (sum_scale _ ?_ ?_).trans ?_
    · show 0 ≤ Ideal.ofBits .f32 0x3E000000#32
      rw [eighth]
      exact EReal.coe_nonneg.mpr (by norm_num)
    · show Ideal.ofBits .f32 0x3E000000#32 ≠ ⊤
      rw [eighth]
      exact EReal.coe_ne_top _
    · refine (Finset.sum_congr rfl fun k _ => ?_).trans (stretch_first 64 fun d => rot X C S ((i 0).val * 128 + (i 3).val) (((i 1).val * 4 + (i 2).val) * 64 + d)
        * Ideal.ofBits .f32 0x3E000000#32 * rot X C S (keyRow (i 0).val (i 4).val) (1024 + (((i 1).val * 4 + (i 2).val) / 4 * 64 + d)))
      rw [keys hX hC hS, queries hX hC hS, (by omega : ((i 1).val * 4 + (i 2).val) / 4 = (i 1).val)]
      refine (congrArg (fun z : EReal => z * rot X C S ((i 0).val * 128 + (i 3).val) (((i 1).val * 4 + (i 2).val) * 64 + k.val) * Ideal.ofBits .f32 0x3E000000#32)
        (if_neg fun e : (i 4).val < 128 ∧ (i 0).val = 0 => h.2.2.elim (fun a => absurd e.1 (by omega)) (fun a => absurd e.2 (by omega)))).trans ?_
      exact (congrArg (fun z : EReal => z * Ideal.ofBits .f32 0x3E000000#32) (mul_comm _ _)).trans (mul_right_comm _ _ _)
  · rw [if_neg h, if_neg h]
    exact least

include hs in
theorem sink (i : S64x4x4x128x1.Idx) : val_main_v84 (F := Ideal) x3 i = s ((i 1).val * 4 + (i 2).val) := by
  rw [val_main_v84_apply, val_main_v83_apply, val_main_v82_apply]
  exact hs _

include hX hC hS hs in
/-- The scores with the sink after them. -/
theorem joined (i : S64x4x4x128x257.Idx) : val_main_v85 (F := Ideal) x0 x1 x2 x3 i
    = if (i 4).val < 256 then score X C S (i 0).val (i 3).val ((i 1).val * 4 + (i 2).val) (i 4).val else s ((i 1).val * 4 + (i 2).val) := by
  have ha := scored hX hC hS
  have hb := sink hs
  unfold val_main_v85
  generalize val_main_v81 (F := Ideal) x0 x1 x2 = a at ha ⊢
  generalize val_main_v84 (F := Ideal) x3 = b at hb ⊢
  pointwise
  simp only [ha, hb]
  rfl

include hX hC hS hs in
theorem largest (i : S64x4x4x128.Idx) : val_main_v88 (F := Ideal) x0 x1 x2 x3 i = top (score X C S (i 0).val (i 3).val ((i 1).val * 4 + (i 2).val)) (s ((i 1).val * 4 + (i 2).val)) := by
  have h := joined hX hC hS hs
  rw [val_main_v88_apply, val_main_v87_apply, val_main_cst_8_apply]
  refine (congrArg₂ max least ?_).trans (max_eq_right bot_le)
  unfold val_main_v86
  generalize val_main_v85 (F := Ideal) x0 x1 x2 x3 = a at h ⊢
  pointwise
  simp only [h]
  exact (congrArg (fun b => Finset.fold max b _ Finset.univ) least).trans (top_last (score X C S (i 0).val (i 3).val ((i 1).val * 4 + (i 2).val)) (s ((i 1).val * 4 + (i 2).val)))

include hX hC hS hs in
/-- The weights before they are divided. -/
theorem raised (i : S64x4x4x128x257.Idx) : val_main_v92 (F := Ideal) x0 x1 x2 x3 i
    = Ideal.exp ((if (i 4).val < 256 then score X C S (i 0).val (i 3).val ((i 1).val * 4 + (i 2).val) (i 4).val else s ((i 1).val * 4 + (i 2).val))
      - top (score X C S (i 0).val (i 3).val ((i 1).val * 4 + (i 2).val)) (s ((i 1).val * 4 + (i 2).val))) := by
  rw [val_main_v92_apply, val_main_v91_apply, val_main_v90_apply, val_main_v89_apply, joined hX hC hS hs, largest hX hC hS hs]
  rfl

include hX hC hS hs in
/-- The total weight. -/
theorem total (i : S64x4x4x128.Idx) : val_main_v93 (F := Ideal) x0 x1 x2 x3 i
    = stretch 256 0 (fun k => Ideal.exp (score X C S (i 0).val (i 3).val ((i 1).val * 4 + (i 2).val) k
        - top (score X C S (i 0).val (i 3).val ((i 1).val * 4 + (i 2).val)) (s ((i 1).val * 4 + (i 2).val))))
      + Ideal.exp (s ((i 1).val * 4 + (i 2).val) - top (score X C S (i 0).val (i 3).val ((i 1).val * 4 + (i 2).val)) (s ((i 1).val * 4 + (i 2).val))) := by
  rw [val_main_v93_apply, val_main_cst_9_apply]
  refine (congrArg₂ (fun a b : EReal => a + b) (show Ideal.ofBits .f32 0x00000000#32 = 0 by simp [Ideal.ofBits, Ideal.ieee])
    ((Finset.sum_congr rfl fun k _ => raised hX hC hS hs (idx_main_v93 i k)).trans (sum_last fun k =>
      Ideal.exp ((if k < 256 then score X C S (i 0).val (i 3).val ((i 1).val * 4 + (i 2).val) k else s ((i 1).val * 4 + (i 2).val))
        - top (score X C S (i 0).val (i 3).val ((i 1).val * 4 + (i 2).val)) (s ((i 1).val * 4 + (i 2).val)))))).trans ?_
  rw [zero_add, if_neg (Nat.lt_irrefl 256)]
  refine congrArg (fun z : EReal => z + _) (Finset.sum_congr rfl fun k hk => ?_)
  exact congrArg (fun z : EReal => Ideal.exp (z - top (score X C S (i 0).val (i 3).val ((i 1).val * 4 + (i 2).val)) (s ((i 1).val * 4 + (i 2).val))))
    (if_pos (by have := Finset.mem_range.mp hk; omega))

include hX hC hS hs in
/-- One element of a head. -/
theorem mixed (i : S64x4x64x4x128.Idx) : val_main_v98 (F := Ideal) x0 x1 x2 x3 i
    = soft (score X C S (i 0).val (i 4).val ((i 1).val * 4 + (i 3).val)) (s ((i 1).val * 4 + (i 3).val))
      (fun k => band (fun r c => X r (1280 + c)) (i 0).val k ((i 1).val * 64 + (i 2).val)) := by
  rw [val_main_v98_apply]
  refine (Finset.sum_congr rfl fun k _ => ?_).trans (stretch_first 256 fun k => band (fun r c => X r (1280 + c)) (i 0).val k ((i 1).val * 64 + (i 2).val)
    * Ideal.div (Ideal.exp (score X C S (i 0).val (i 4).val ((i 1).val * 4 + (i 3).val) k
      - top (score X C S (i 0).val (i 4).val ((i 1).val * 4 + (i 3).val)) (s ((i 1).val * 4 + (i 3).val))))
      (stretch 256 0 (fun j => Ideal.exp (score X C S (i 0).val (i 4).val ((i 1).val * 4 + (i 3).val) j
        - top (score X C S (i 0).val (i 4).val ((i 1).val * 4 + (i 3).val)) (s ((i 1).val * 4 + (i 3).val))))
      + Ideal.exp (s ((i 1).val * 4 + (i 3).val) - top (score X C S (i 0).val (i 4).val ((i 1).val * 4 + (i 3).val)) (s ((i 1).val * 4 + (i 3).val)))))
  rw [values hX, val_main_v97_apply, val_main_v96_apply, val_main_v95_apply, val_main_v94_apply, raised hX hC hS hs, total hX hC hS hs]
  exact congrArg (fun z : EReal => band (fun r c => X r (1280 + c)) (i 0).val k.val ((i 1).val * 64 + (i 2).val)
    * Ideal.div (Ideal.exp (z - top (score X C S (i 0).val (i 4).val ((i 1).val * 4 + (i 3).val)) (s ((i 1).val * 4 + (i 3).val))))
      (stretch 256 0 (fun j => Ideal.exp (score X C S (i 0).val (i 4).val ((i 1).val * 4 + (i 3).val) j
        - top (score X C S (i 0).val (i 4).val ((i 1).val * 4 + (i 3).val)) (s ((i 1).val * 4 + (i 3).val))))
      + Ideal.exp (s ((i 1).val * 4 + (i 3).val) - top (score X C S (i 0).val (i 4).val ((i 1).val * 4 + (i 3).val)) (s ((i 1).val * 4 + (i 3).val))))) (if_pos k.isLt)

include hX hC hS hs in
/-- The output. -/
theorem result (i : S8192x1024.Idx) : val_main_v101 (F := Ideal) x0 x1 x2 x3 i
    = soft (score X C S ((i 0).val / 128) ((i 0).val % 128) ((i 1).val / 64)) (s ((i 1).val / 64))
      (fun k => band (fun r c => X r (1280 + c)) ((i 0).val / 128) k ((i 1).val / 256 * 64 + (i 1).val % 64)) := by
  have h0 : (i 0).val < 8192 := (i 0).isLt
  have h1 : (i 1).val < 1024 := (i 1).isLt
  rw [val_main_v101_apply, val_main_v100_apply, val_main_v99_apply]
  refine (mixed hX hC hS hs _).trans ?_
  show soft (score X C S (((i 0).val * 1024 + (i 1).val) / 131072) (((i 0).val * 1024 + (i 1).val) / 1024 % 128)
      (((i 0).val * 1024 + (i 1).val) / 256 % 4 * 4 + ((i 0).val * 1024 + (i 1).val) / 64 % 4)) (s (((i 0).val * 1024 + (i 1).val) / 256 % 4 * 4 + ((i 0).val * 1024 + (i 1).val) / 64 % 4))
      (fun k => band (fun r c => X r (1280 + c)) (((i 0).val * 1024 + (i 1).val) / 131072) k (((i 0).val * 1024 + (i 1).val) / 256 % 4 * 64 + ((i 0).val * 1024 + (i 1).val) % 64)) = _
  rw [(by omega : ((i 0).val * 1024 + (i 1).val) / 131072 = (i 0).val / 128), (by omega : ((i 0).val * 1024 + (i 1).val) / 1024 % 128 = (i 0).val % 128),
    (by omega : ((i 0).val * 1024 + (i 1).val) / 256 % 4 * 4 + ((i 0).val * 1024 + (i 1).val) / 64 % 4 = (i 1).val / 64),
    (by omega : ((i 0).val * 1024 + (i 1).val) / 256 % 4 = (i 1).val / 256), (by omega : ((i 0).val * 1024 + (i 1).val) % 64 = (i 1).val % 64)]
end Attn.Reference
-- ==== Proof.AttnFwd.lean ====
module

public import proofs.«01_k».proof.Defs
public import proofs.«01_k».proof.Proof.Gen.AttnFwd.Frame
public import proofs.«01_k».proof.Proof.Gen.AttnFwdIdeal.Frame
public import proofs.«01_k».proof.Proof.Gen.AttnFwdIdeal.Value
public import proofs.«01_k».proof.Proof.Gen.AttnFwdRefIdeal
public import proofs.«01_k».proof.Proof.Gen.AttnFwdRefIdeal.Run
public import proofs.«01_k».proof.Proof.AttnArray
public import proofs.«01_k».proof.Proof.AttnRef
public import proofs.«01_k».proof.Proof.Finite

/-! The windowed attention: the array the kernel leaves is the reference's where the arguments are real. -/

@[expose] public section
noncomputable section
namespace AttnFwd
open Idealize.ShloMosaic Idealize.ShloMosaic.TcCoe Idealize.SL.Sem Product

/-- The reference ends, keeps its arguments and leaves no signal. -/
theorem reference_frame : Cert.quiescent_AttnFwdRefIdeal := fun m g _ =>
  (θ_run Cert.AttnFwdRefIdeal.defs _ _).mono (fun r h => ⟨fun c => (h c).2, sem_eq_zero_of_no_sems (by decide) r.2⟩)
    (Cert.AttnFwdRefIdeal.Value.run m g)

instance facts : Cert.Pre_all_finite_attn.Facts where
  bcast_S_S8192x1536 := by decide
  reducesTo_S8192x1536_S_d0_1 := by decide
  h_S_ := by decide
  bcast_S_S8192x8 := by decide
  reducesTo_S8192x8_S_d0_1 := by decide
  bcast_S_S16 := by decide
  reducesTo_S16_S_d0 := by decide

/-- The precondition read: each array is real at every index. -/
theorem reals (x0 : FVec Ideal Cert.Pre_all_finite_attn.S8192x1536 .bf16) (x1 x2 : FVec Ideal Cert.Pre_all_finite_attn.S8192x8 .f32)
    (x3 : FVec Ideal Cert.Pre_all_finite_attn.S16 .f32) (j : Cert.Pre_all_finite_attn.S_.Idx) (h : Cert.Pre_all_finite_attn.fn (F := Ideal) x0 x1 x2 x3 j = 1#1) :
    (∀ i, (x0 i : EReal) = (((x0 i : EReal).toReal : ℝ) : EReal)) ∧ (∀ i, (x1 i : EReal) = (((x1 i : EReal).toReal : ℝ) : EReal))
      ∧ (∀ i, (x2 i : EReal) = (((x2 i : EReal).toReal : ℝ) : EReal)) ∧ (∀ i, (x3 i : EReal) = (((x3 i : EReal).toReal : ℝ) : EReal)) := by
  obtain ⟨h, h'⟩ := IntOp.andi_eq_one.1 h
  obtain ⟨h0, h1⟩ := IntOp.andi_eq_one.1 h
  obtain ⟨h2, h3⟩ := IntOp.andi_eq_one.1 h'
  exact ⟨Sgu.Finite.real_of_all x0 _ (fun _ => Sgu.Finite.inf_bf16) _ _ _ j h0, Sgu.Finite.real_of_all x1 _ (fun _ => Sgu.Finite.inf_f32) _ _ _ j h1,
    Sgu.Finite.real_of_all x2 _ (fun _ => Sgu.Finite.inf_f32) _ _ _ j h2, Sgu.Finite.real_of_all x3 _ (fun _ => Sgu.Finite.inf_f32) _ _ _ j h3⟩

/-- The reference's element is the kernel's: the scores are real or `⊥`, and a row before the first has the score `⊥`. -/
theorem same (X C S : ℕ → ℕ → ℝ) (s : ℕ → ℝ) (t q c : ℕ) :
    Attn.soft (Attn.score (fun r c => (X r c : EReal)) (fun r c => (C r c : EReal)) (fun r c => (S r c : EReal)) t q (c / 64)) (s (c / 64) : ℝ)
      (fun k => Attn.Reference.band (fun r c => (X r (1280 + c) : EReal)) t k (c / 256 * 64 + c % 64))
    = Attn.att (fun r c => (X r c : EReal)) (fun r c => (C r c : EReal)) (fun r c => (S r c : EReal)) (fun h => (s h : EReal)) t q c := by
  refine (Attn.soft_eq (v := fun k => (X (Attn.keyRow t k) (1280 + (c / 256 * 64 + c % 64)) : EReal)) (Attn.score_ne X C S t q (c / 64)) fun k hk => ?_).trans ?_
  · have h : Attn.ok t q k := by
      by_contra h
      exact hk (if_neg h)
    exact if_neg fun e => h.2.2.elim (fun a => absurd e.1 (by omega)) (fun a => absurd e.2 (by omega))
  · unfold Attn.att Attn.score
    rw [(by omega : c / 64 / 4 = c / 256)]

/-- The mask's constant stands for `⊥`. -/
theorem preserves : Cert.preserves_AttnFwd_AttnFwdIdeal :=
  IdealRules.named_const.statement Cert.AttnFwdIdeal.κ "masked" .f32 0xF149F2CA#32 ⊥ rfl

/-- The two arrays agree where the arguments are real. -/
theorem algebraic : Cert.algebraic_AttnFwdIdeal_AttnFwdRefIdeal_pre_all_finite_attn := by
  intro m g m' g' hp hagree
  refine ⟨_, Cert.AttnFwdIdeal.Value.run_blocks m g, ?_⟩
  refine (θ_run Cert.AttnFwdRefIdeal.defs _ _).mono (fun r h c => ?_) (Cert.AttnFwdRefIdeal.Value.run m' g')
  obtain ⟨a0, a1, a2, a3⟩ := hagree c
  obtain ⟨e0, hk⟩ := h c
  obtain ⟨r0, r1, r2, r3⟩ := reals _ _ _ _ (fun a => a.elim0) (congrFun (hp c) _)
  obtain ⟨X, hX⟩ := Sgu.Finite.matrix _ r0
  obtain ⟨C, hC⟩ := Sgu.Finite.matrix _ r1
  obtain ⟨S, hS⟩ := Sgu.Finite.matrix _ r2
  obtain ⟨s, hs⟩ := Sgu.Finite.vector _ r3
  refine ⟨?_, hk⟩
  rw [e0, Cert.AttnFwdRefIdeal.Read.val_main_v101_eq, a0, a1, a2, a3]
  exact funext fun i => ((Attn.Reference.result (X := fun r c => X r c) (C := fun r c => C r c) (S := fun r c => S r c) (s := fun h => s h) hX hC hS hs i).trans
    (same X C S s _ _ _)).trans
    (Attn.array (X := fun r c => X r c) (C := fun r c => C r c) (S := fun r c => S r c) (s := fun h => s h) hX hC hS hs i).symm

end AttnFwd
-- ==== Proof.lean ====
module

public import proofs.«01_k».proof.Defs
public import proofs.«01_k».proof.Proof.Gen.Kernel.Frame
public import proofs.«01_k».proof.Proof.Equation
public import proofs.«01_k».proof.Proof.DHn
public import proofs.«01_k».proof.Proof.DwGateUp
public import proofs.«01_k».proof.Proof.DwDown
public import proofs.«01_k».proof.Proof.DwSquare
public import proofs.«01_k».proof.Proof.DwG
public import proofs.«01_k».proof.Proof.DwQkv
public import proofs.«01_k».proof.Proof.DwBranch
public import proofs.«01_k».proof.Proof.DBranch
public import proofs.«01_k».proof.Proof.DXnQkv
public import proofs.«01_k».proof.Proof.DXnZ
public import proofs.«01_k».proof.Proof.DXnG
public import proofs.«01_k».proof.Proof.ProjQkv
public import proofs.«01_k».proof.Proof.ProjZ
public import proofs.«01_k».proof.Proof.ProjG
public import proofs.«01_k».proof.Proof.DownProj
public import proofs.«01_k».proof.Proof.GateUp
public import proofs.«01_k».proof.Proof.DAct
public import proofs.«01_k».proof.Proof.BranchesMerge
public import proofs.«01_k».proof.Proof.DMerged
public import proofs.«01_k».proof.Proof.OutProj
public import proofs.«01_k».proof.Proof.RmsFwd
public import proofs.«01_k».proof.Proof.RmsBwd
public import proofs.«01_k».proof.Proof.DbQkv
public import proofs.«01_k».proof.Proof.AttnFwd

/-! The certificate. The frames are the generated ones; the idealized kernel differs from the kernel by the names of two
constants; the value claim is `Sgu.Equation`. Of the further programs every claim is in the module of the program's name:
there the idealized kernel is the kernel's own text, but for the named mask of the attention. -/

@[expose] public section
noncomputable section
namespace Cert.Proof
open Idealize.ShloMosaic Idealize.SL.Sem
set_option maxHeartbeats 1000000

/-- The two named constants round to the literals of the kernel. -/
theorem preserves : preserves_Kernel_KernelIdeal :=
  ⟨IdealRules.named_const.statement Cert.KernelIdeal.κ "inv_sqrt2" .f32 0x3F3504F3#32 (((Real.sqrt 2)⁻¹ : ℝ) : EReal) rfl,
    IdealRules.named_const.statement Cert.KernelIdeal.κ "inv_sqrt2pi" .f32 0x3ECC422A#32 (((Real.sqrt (2 * Real.pi))⁻¹ : ℝ) : EReal) rfl⟩

/-- The reference ends, keeps its arguments and leaves no signal. -/
theorem reference_frame : quiescent_ReferenceIdeal := fun m g _ =>
  (θ_run Cert.ReferenceIdeal.defs _ _).mono (fun r h => ⟨fun c => (h c).2.2.2.2.2.2, sem_eq_zero_of_no_sems (by decide) r.2⟩)
    (Cert.ReferenceIdeal.Value.run m g)

/-- The six gradients agree. -/
theorem algebraic : algebraic_KernelIdeal_ReferenceIdeal_pre_all_finite := by
  intro m g m' g' hpre hagree
  refine ⟨_, _, _, _, _, _, Cert.KernelIdeal.Value.run_blocks m g, ?_⟩
  refine (θ_run Cert.ReferenceIdeal.defs _ _).mono (fun r h c => ?_) (Cert.ReferenceIdeal.Value.run m' g')
  obtain ⟨a0, a1, a2, a3, a4, a5⟩ := hagree c
  obtain ⟨P, Y, lg, lb, w, b, H⟩ := Sgu.Equation.inputs hpre c
  obtain ⟨h0, h1, h2, h3, h4, h5, hk⟩ := h c
  refine ⟨?_, ?_, ?_, ?_, ?_, ?_, hk⟩
  · rw [h0, Sgu.Equation.eq0 H, Cert.ReferenceIdeal.Read.val_main_v128_eq, a0, a1, a2, a3, a4, a5]
  · rw [h1, Sgu.Equation.eq1 H, Cert.ReferenceIdeal.Read.val_main_v129_eq, a0, a1, a4]
  · rw [h2, Sgu.Equation.eq2 H, Cert.ReferenceIdeal.Read.val_main_v130_eq, a0, a1, a4]
  · rw [h3, Sgu.Equation.eq3 H, Cert.ReferenceIdeal.Read.val_main_v78_eq, a0, a1, a2, a3]
  · rw [h4, Sgu.Equation.eq4 H, Cert.ReferenceIdeal.Read.val_main_v131_eq, a0, a1]
  · rw [h5, Sgu.Equation.eq5 H, Cert.ReferenceIdeal.Read.val_main_v133_eq, a0, a1, a2, a3, a4, a5]

theorem claim : Cert.Claim :=
  ⟨Cert.Kernel.Gen.facts,
    Cert.KernelIdeal.Gen.facts,
    Cert.ReferenceIdeal.Gen.facts,
    Cert.DHn.Gen.facts, Cert.DHnIdeal.Gen.facts, Cert.DHnRefIdeal.Gen.facts,
    Cert.DwGateUp.Gen.facts, Cert.DwGateUpIdeal.Gen.facts, Cert.DwGateUpRefIdeal.Gen.facts,
    Cert.DwDown.Gen.facts, Cert.DwDownIdeal.Gen.facts, Cert.DwDownRefIdeal.Gen.facts,
    Cert.DwSquare.Gen.facts, Cert.DwSquareIdeal.Gen.facts, Cert.DwSquareRefIdeal.Gen.facts,
    Cert.DwG.Gen.facts, Cert.DwGIdeal.Gen.facts, Cert.DwGRefIdeal.Gen.facts,
    Cert.DwQkv.Gen.facts, Cert.DwQkvIdeal.Gen.facts, Cert.DwQkvRefIdeal.Gen.facts,
    Cert.DwBranch.Gen.facts, Cert.DwBranchIdeal.Gen.facts, Cert.DwBranchRefIdeal.Gen.facts,
    Cert.DBranch.Gen.facts, Cert.DBranchIdeal.Gen.facts, Cert.DBranchRefIdeal.Gen.facts,
    Cert.DXnQkv.Gen.facts, Cert.DXnQkvIdeal.Gen.facts, Cert.DXnQkvRefIdeal.Gen.facts,
    Cert.DXnZ.Gen.facts, Cert.DXnZIdeal.Gen.facts, Cert.DXnZRefIdeal.Gen.facts,
    Cert.DXnG.Gen.facts, Cert.DXnGIdeal.Gen.facts, Cert.DXnGRefIdeal.Gen.facts,
    Cert.ProjQkv.Gen.facts, Cert.ProjQkvIdeal.Gen.facts, Cert.ProjQkvRefIdeal.Gen.facts,
    Cert.ProjZ.Gen.facts, Cert.ProjZIdeal.Gen.facts, Cert.ProjZRefIdeal.Gen.facts,
    Cert.ProjG.Gen.facts, Cert.ProjGIdeal.Gen.facts, Cert.ProjGRefIdeal.Gen.facts,
    Cert.DownProj.Gen.facts, Cert.DownProjIdeal.Gen.facts, Cert.DownProjRefIdeal.Gen.facts,
    Cert.GateUp.Gen.facts, Cert.GateUpIdeal.Gen.facts, Cert.GateUpRefIdeal.Gen.facts,
    Cert.DAct.Gen.facts, Cert.DActIdeal.Gen.facts, Cert.DActRefIdeal.Gen.facts,
    Cert.BranchesMerge.Gen.facts, Cert.BranchesMergeIdeal.Gen.facts, Cert.BranchesMergeRefIdeal.Gen.facts,
    Cert.DMerged.Gen.facts, Cert.DMergedIdeal.Gen.facts, Cert.DMergedRefIdeal.Gen.facts,
    Cert.OutProj.Gen.facts, Cert.OutProjIdeal.Gen.facts, Cert.OutProjRefIdeal.Gen.facts,
    Cert.RmsFwd.Gen.facts, Cert.RmsFwdIdeal.Gen.facts, Cert.RmsFwdRefIdeal.Gen.facts,
    Cert.RmsBwd.Gen.facts, Cert.RmsBwdIdeal.Gen.facts, Cert.RmsBwdRefIdeal.Gen.facts,
    Cert.DbQkv.Gen.facts, Cert.DbQkvIdeal.Gen.facts, Cert.DbQkvRefIdeal.Gen.facts,
    Cert.AttnFwd.Gen.facts, Cert.AttnFwdIdeal.Gen.facts, Cert.AttnFwdRefIdeal.Gen.facts,
    Sgu.Finite.facts,
    DAct.facts,
    AttnFwd.facts,
    fun m ρ _ => Cert.Kernel.Gen.frame m ρ, fun m ρ _ => Cert.KernelIdeal.Gen.frame m ρ, fun m ρ _ => Cert.KernelIdeal.Gen.frame m ρ,
    reference_frame, fun m ρ _ => reference_frame m ρ trivial,
    fun m ρ _ => Cert.DHn.Gen.frame m ρ, fun m ρ _ => Cert.DHnIdeal.Gen.frame m ρ, DHn.reference_frame,
    fun m ρ _ => Cert.DwGateUp.Gen.frame m ρ, fun m ρ _ => Cert.DwGateUpIdeal.Gen.frame m ρ, DwGateUp.reference_frame,
    fun m ρ _ => Cert.DwDown.Gen.frame m ρ, fun m ρ _ => Cert.DwDownIdeal.Gen.frame m ρ, DwDown.reference_frame,
    fun m ρ _ => Cert.DwSquare.Gen.frame m ρ, fun m ρ _ => Cert.DwSquareIdeal.Gen.frame m ρ, DwSquare.reference_frame,
    fun m ρ _ => Cert.DwG.Gen.frame m ρ, fun m ρ _ => Cert.DwGIdeal.Gen.frame m ρ, DwG.reference_frame,
    fun m ρ _ => Cert.DwQkv.Gen.frame m ρ, fun m ρ _ => Cert.DwQkvIdeal.Gen.frame m ρ, DwQkv.reference_frame,
    fun m ρ _ => Cert.DwBranch.Gen.frame m ρ, fun m ρ _ => Cert.DwBranchIdeal.Gen.frame m ρ, DwBranch.reference_frame,
    fun m ρ _ => Cert.DBranch.Gen.frame m ρ, fun m ρ _ => Cert.DBranchIdeal.Gen.frame m ρ, DBranch.reference_frame,
    fun m ρ _ => Cert.DXnQkv.Gen.frame m ρ, fun m ρ _ => Cert.DXnQkvIdeal.Gen.frame m ρ, DXnQkv.reference_frame,
    fun m ρ _ => Cert.DXnZ.Gen.frame m ρ, fun m ρ _ => Cert.DXnZIdeal.Gen.frame m ρ, DXnZ.reference_frame,
    fun m ρ _ => Cert.DXnG.Gen.frame m ρ, fun m ρ _ => Cert.DXnGIdeal.Gen.frame m ρ, DXnG.reference_frame,
    fun m ρ _ => Cert.ProjQkv.Gen.frame m ρ, fun m ρ _ => Cert.ProjQkvIdeal.Gen.frame m ρ, ProjQkv.reference_frame,
    fun m ρ _ => Cert.ProjZ.Gen.frame m ρ, fun m ρ _ => Cert.ProjZIdeal.Gen.frame m ρ, ProjZ.reference_frame,
    fun m ρ _ => Cert.ProjG.Gen.frame m ρ, fun m ρ _ => Cert.ProjGIdeal.Gen.frame m ρ, ProjG.reference_frame,
    fun m ρ _ => Cert.DownProj.Gen.frame m ρ, fun m ρ _ => Cert.DownProjIdeal.Gen.frame m ρ, DownProj.reference_frame,
    fun m ρ _ => Cert.GateUp.Gen.frame m ρ, fun m ρ _ => Cert.GateUpIdeal.Gen.frame m ρ, GateUp.reference_frame,
    fun m ρ _ => Cert.DAct.Gen.frame m ρ, fun m ρ _ => Cert.DActIdeal.Gen.frame m ρ, fun m ρ _ => Cert.DActIdeal.Gen.frame m ρ,
    DAct.reference_frame, fun m ρ _ => DAct.reference_frame m ρ trivial,
    fun m ρ _ => Cert.BranchesMerge.Gen.frame m ρ, fun m ρ _ => Cert.BranchesMergeIdeal.Gen.frame m ρ, BranchesMerge.reference_frame,
    fun m ρ _ => Cert.DMerged.Gen.frame m ρ, fun m ρ _ => Cert.DMergedIdeal.Gen.frame m ρ, DMerged.reference_frame,
    fun m ρ _ => Cert.OutProj.Gen.frame m ρ, fun m ρ _ => Cert.OutProjIdeal.Gen.frame m ρ, OutProj.reference_frame,
    fun m ρ _ => Cert.RmsFwd.Gen.frame m ρ, fun m ρ _ => Cert.RmsFwdIdeal.Gen.frame m ρ, RmsFwd.reference_frame,
    fun m ρ _ => Cert.RmsBwd.Gen.frame m ρ, fun m ρ _ => Cert.RmsBwdIdeal.Gen.frame m ρ, RmsBwd.reference_frame,
    fun m ρ _ => Cert.DbQkv.Gen.frame m ρ, fun m ρ _ => Cert.DbQkvIdeal.Gen.frame m ρ, DbQkv.reference_frame,
    fun m ρ _ => Cert.AttnFwd.Gen.frame m ρ, fun m ρ _ => Cert.AttnFwdIdeal.Gen.frame m ρ, fun m ρ _ => Cert.AttnFwdIdeal.Gen.frame m ρ,
    AttnFwd.reference_frame, fun m ρ _ => AttnFwd.reference_frame m ρ trivial,
    preserves, algebraic,
    trivial, DHn.algebraic,
    trivial, DwGateUp.algebraic,
    trivial, DwDown.algebraic,
    trivial, DwSquare.algebraic,
    trivial, DwG.algebraic,
    trivial, DwQkv.algebraic,
    trivial, DwBranch.algebraic,
    trivial, DBranch.algebraic,
    trivial, DXnQkv.algebraic,
    trivial, DXnZ.algebraic,
    trivial, DXnG.algebraic,
    trivial, ProjQkv.algebraic,
    trivial, ProjZ.algebraic,
    trivial, ProjG.algebraic,
    trivial, DownProj.algebraic,
    trivial, GateUp.algebraic,
    trivial, DAct.algebraic,
    trivial, BranchesMerge.algebraic,
    trivial, DMerged.algebraic,
    trivial, OutProj.algebraic,
    trivial, RmsFwd.algebraic,
    trivial, RmsBwd.algebraic,
    trivial, DbQkv.algebraic,
    AttnFwd.preserves, AttnFwd.algebraic⟩

end Cert.Proof
end
